-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def Pre_Kernel3 (m : (ℓ : Loc Cert.Kernel3.nD Cert.Kernel3.τ Cert.Kernel3.sig) → Buf (Elt Bits) ℓ) : Prop :=
  True

def Pre_Kernel3Ideal (m : (ℓ : Loc Cert.Kernel3Ideal.nD Cert.Kernel3Ideal.τ Cert.Kernel3Ideal.sig) → Buf (Elt Ideal) ℓ) : Prop :=
  True

def Pre_Reference3Ideal (m : (ℓ : Loc Cert.Reference3Ideal.nD Cert.Reference3Ideal.τ Cert.Reference3Ideal.sig) → Buf (Elt Ideal) ℓ) : Prop :=
  True

def Pre_Kernel4 (m : (ℓ : Loc Cert.Kernel4.nD Cert.Kernel4.τ Cert.Kernel4.sig) → Buf (Elt Bits) ℓ) : Prop :=
  True

def Pre_Kernel4Ideal (m : (ℓ : Loc Cert.Kernel4Ideal.nD Cert.Kernel4Ideal.τ Cert.Kernel4Ideal.sig) → Buf (Elt Ideal) ℓ) : Prop :=
  True

def Pre_Reference4Ideal (m : (ℓ : Loc Cert.Reference4Ideal.nD Cert.Reference4Ideal.τ Cert.Reference4Ideal.sig) → Buf (Elt Ideal) ℓ) : Prop :=
  True

def Pre_Kernel5 (m : (ℓ : Loc Cert.Kernel5.nD Cert.Kernel5.τ Cert.Kernel5.sig) → Buf (Elt Bits) ℓ) : Prop :=
  True

def Pre_Kernel5Ideal (m : (ℓ : Loc Cert.Kernel5Ideal.nD Cert.Kernel5Ideal.τ Cert.Kernel5Ideal.sig) → Buf (Elt Ideal) ℓ) : Prop :=
  True

def Pre_Reference5Ideal (m : (ℓ : Loc Cert.Reference5Ideal.nD Cert.Reference5Ideal.τ Cert.Reference5Ideal.sig) → Buf (Elt Ideal) ℓ) : Prop :=
  True

def Pre_Kernel6 (m : (ℓ : Loc Cert.Kernel6.nD Cert.Kernel6.τ Cert.Kernel6.sig) → Buf (Elt Bits) ℓ) : Prop :=
  True

def Pre_Kernel6Ideal (m : (ℓ : Loc Cert.Kernel6Ideal.nD Cert.Kernel6Ideal.τ Cert.Kernel6Ideal.sig) → Buf (Elt Ideal) ℓ) : Prop :=
  True

def Pre_Reference6Ideal (m : (ℓ : Loc Cert.Reference6Ideal.nD Cert.Reference6Ideal.τ Cert.Reference6Ideal.sig) → Buf (Elt Ideal) ℓ) : Prop :=
  True

def Pre_Kernel7 (m : (ℓ : Loc Cert.Kernel7.nD Cert.Kernel7.τ Cert.Kernel7.sig) → Buf (Elt Bits) ℓ) : Prop :=
  True

def Pre_Kernel7Ideal (m : (ℓ : Loc Cert.Kernel7Ideal.nD Cert.Kernel7Ideal.τ Cert.Kernel7Ideal.sig) → Buf (Elt Ideal) ℓ) : Prop :=
  True

def Pre_Reference7Ideal (m : (ℓ : Loc Cert.Reference7Ideal.nD Cert.Reference7Ideal.τ Cert.Reference7Ideal.sig) → Buf (Elt Ideal) ℓ) : Prop :=
  True

def Pre_Kernel8 [hPre_experts_named : Cert.Pre_experts_named.Facts] (m : (ℓ : Loc Cert.Kernel8.nD Cert.Kernel8.τ Cert.Kernel8.sig) → Buf (Elt Bits) ℓ) : Prop :=
  ∀ c : Dev Cert.Kernel8.nD,
    (Cert.Pre_experts_named.fn (F := Bits) (m ((c.tc : Thread Cert.Kernel8.nD Cert.Kernel8.τ).loc Cert.Kernel8.main_arg0)) (m ((c.tc : Thread Cert.Kernel8.nD Cert.Kernel8.τ).loc Cert.Kernel8.main_arg1)) (m ((c.tc : Thread Cert.Kernel8.nD Cert.Kernel8.τ).loc Cert.Kernel8.main_arg2)) (m ((c.tc : Thread Cert.Kernel8.nD Cert.Kernel8.τ).loc Cert.Kernel8.main_arg3)) (m ((c.tc : Thread Cert.Kernel8.nD Cert.Kernel8.τ).loc Cert.Kernel8.main_arg4))) = (fun _ => 1#1)

def Pre_Kernel8Ideal [hPre_experts_named : Cert.Pre_experts_named.Facts] (m : (ℓ : Loc Cert.Kernel8Ideal.nD Cert.Kernel8Ideal.τ Cert.Kernel8Ideal.sig) → Buf (Elt Ideal) ℓ) : Prop :=
  ∀ c : Dev Cert.Kernel8Ideal.nD,
    (Cert.Pre_experts_named.fn (F := Ideal) (m ((c.tc : Thread Cert.Kernel8Ideal.nD Cert.Kernel8Ideal.τ).loc Cert.Kernel8Ideal.main_arg0)) (m ((c.tc : Thread Cert.Kernel8Ideal.nD Cert.Kernel8Ideal.τ).loc Cert.Kernel8Ideal.main_arg1)) (m ((c.tc : Thread Cert.Kernel8Ideal.nD Cert.Kernel8Ideal.τ).loc Cert.Kernel8Ideal.main_arg2)) (m ((c.tc : Thread Cert.Kernel8Ideal.nD Cert.Kernel8Ideal.τ).loc Cert.Kernel8Ideal.main_arg3)) (m ((c.tc : Thread Cert.Kernel8Ideal.nD Cert.Kernel8Ideal.τ).loc Cert.Kernel8Ideal.main_arg4))) = (fun _ => 1#1)

def Pre_Reference8Ideal (m : (ℓ : Loc Cert.Reference8Ideal.nD Cert.Reference8Ideal.τ Cert.Reference8Ideal.sig) → Buf (Elt Ideal) ℓ) : Prop :=
  True

def Pre_Reference8Ideal_experts_named [hPre_experts_named : Cert.Pre_experts_named.Facts] (m : (ℓ : Loc Cert.Reference8Ideal.nD Cert.Reference8Ideal.τ Cert.Reference8Ideal.sig) → Buf (Elt Ideal) ℓ) : Prop :=
  ∀ c : Dev Cert.Reference8Ideal.nD,
    (Cert.Pre_experts_named.fn (F := Ideal) (m ((c.tc : Thread Cert.Reference8Ideal.nD Cert.Reference8Ideal.τ).loc Cert.Reference8Ideal.main_arg0)) (m ((c.tc : Thread Cert.Reference8Ideal.nD Cert.Reference8Ideal.τ).loc Cert.Reference8Ideal.main_arg1)) (m ((c.tc : Thread Cert.Reference8Ideal.nD Cert.Reference8Ideal.τ).loc Cert.Reference8Ideal.main_arg2)) (m ((c.tc : Thread Cert.Reference8Ideal.nD Cert.Reference8Ideal.τ).loc Cert.Reference8Ideal.main_arg3)) (m ((c.tc : Thread Cert.Reference8Ideal.nD Cert.Reference8Ideal.τ).loc Cert.Reference8Ideal.main_arg4))) = (fun _ => 1#1)

def Pre_Kernel9 (m : (ℓ : Loc Cert.Kernel9.nD Cert.Kernel9.τ Cert.Kernel9.sig) → Buf (Elt Bits) ℓ) : Prop :=
  True

def Pre_Kernel9Ideal (m : (ℓ : Loc Cert.Kernel9Ideal.nD Cert.Kernel9Ideal.τ Cert.Kernel9Ideal.sig) → Buf (Elt Ideal) ℓ) : Prop :=
  True

def Pre_Reference9Ideal (m : (ℓ : Loc Cert.Reference9Ideal.nD Cert.Reference9Ideal.τ Cert.Reference9Ideal.sig) → Buf (Elt Ideal) ℓ) : Prop :=
  True

def Pre_Kernel10 (m : (ℓ : Loc Cert.Kernel10.nD Cert.Kernel10.τ Cert.Kernel10.sig) → Buf (Elt Bits) ℓ) : Prop :=
  True

def Pre_Kernel10Ideal (m : (ℓ : Loc Cert.Kernel10Ideal.nD Cert.Kernel10Ideal.τ Cert.Kernel10Ideal.sig) → Buf (Elt Ideal) ℓ) : Prop :=
  True

def Pre_Reference10Ideal (m : (ℓ : Loc Cert.Reference10Ideal.nD Cert.Reference10Ideal.τ Cert.Reference10Ideal.sig) → Buf (Elt Ideal) ℓ) : Prop :=
  True

def Pre_Kernel11 (m : (ℓ : Loc Cert.Kernel11.nD Cert.Kernel11.τ Cert.Kernel11.sig) → Buf (Elt Bits) ℓ) : Prop :=
  True

def Pre_Kernel11Ideal (m : (ℓ : Loc Cert.Kernel11Ideal.nD Cert.Kernel11Ideal.τ Cert.Kernel11Ideal.sig) → Buf (Elt Ideal) ℓ) : Prop :=
  True

def Pre_Reference11Ideal (m : (ℓ : Loc Cert.Reference11Ideal.nD Cert.Reference11Ideal.τ Cert.Reference11Ideal.sig) → Buf (Elt Ideal) ℓ) : Prop :=
  True

def Pre_Kernel12 (m : (ℓ : Loc Cert.Kernel12.nD Cert.Kernel12.τ Cert.Kernel12.sig) → Buf (Elt Bits) ℓ) : Prop :=
  True

def Pre_Kernel12Ideal (m : (ℓ : Loc Cert.Kernel12Ideal.nD Cert.Kernel12Ideal.τ Cert.Kernel12Ideal.sig) → Buf (Elt Ideal) ℓ) : Prop :=
  True

def Pre_Reference12Ideal (m : (ℓ : Loc Cert.Reference12Ideal.nD Cert.Reference12Ideal.τ Cert.Reference12Ideal.sig) → Buf (Elt Ideal) ℓ) : Prop :=
  True

def Pre_Kernel13 (m : (ℓ : Loc Cert.Kernel13.nD Cert.Kernel13.τ Cert.Kernel13.sig) → Buf (Elt Bits) ℓ) : Prop :=
  True

def Pre_Kernel13Ideal (m : (ℓ : Loc Cert.Kernel13Ideal.nD Cert.Kernel13Ideal.τ Cert.Kernel13Ideal.sig) → Buf (Elt Ideal) ℓ) : Prop :=
  True

def Pre_Reference13Ideal (m : (ℓ : Loc Cert.Reference13Ideal.nD Cert.Reference13Ideal.τ Cert.Reference13Ideal.sig) → Buf (Elt Ideal) ℓ) : Prop :=
  True

def Pre_Kernel14 [hPre_down_experts_named : Cert.Pre_down_experts_named.Facts] (m : (ℓ : Loc Cert.Kernel14.nD Cert.Kernel14.τ Cert.Kernel14.sig) → Buf (Elt Bits) ℓ) : Prop :=
  ∀ c : Dev Cert.Kernel14.nD,
    (Cert.Pre_down_experts_named.fn (F := Bits) (m ((c.tc : Thread Cert.Kernel14.nD Cert.Kernel14.τ).loc Cert.Kernel14.main_arg0)) (m ((c.tc : Thread Cert.Kernel14.nD Cert.Kernel14.τ).loc Cert.Kernel14.main_arg1)) (m ((c.tc : Thread Cert.Kernel14.nD Cert.Kernel14.τ).loc Cert.Kernel14.main_arg2)) (m ((c.tc : Thread Cert.Kernel14.nD Cert.Kernel14.τ).loc Cert.Kernel14.main_arg3))) = (fun _ => 1#1)

def Pre_Kernel14Ideal [hPre_down_experts_named : Cert.Pre_down_experts_named.Facts] (m : (ℓ : Loc Cert.Kernel14Ideal.nD Cert.Kernel14Ideal.τ Cert.Kernel14Ideal.sig) → Buf (Elt Ideal) ℓ) : Prop :=
  ∀ c : Dev Cert.Kernel14Ideal.nD,
    (Cert.Pre_down_experts_named.fn (F := Ideal) (m ((c.tc : Thread Cert.Kernel14Ideal.nD Cert.Kernel14Ideal.τ).loc Cert.Kernel14Ideal.main_arg0)) (m ((c.tc : Thread Cert.Kernel14Ideal.nD Cert.Kernel14Ideal.τ).loc Cert.Kernel14Ideal.main_arg1)) (m ((c.tc : Thread Cert.Kernel14Ideal.nD Cert.Kernel14Ideal.τ).loc Cert.Kernel14Ideal.main_arg2)) (m ((c.tc : Thread Cert.Kernel14Ideal.nD Cert.Kernel14Ideal.τ).loc Cert.Kernel14Ideal.main_arg3))) = (fun _ => 1#1)

def Pre_Reference14Ideal (m : (ℓ : Loc Cert.Reference14Ideal.nD Cert.Reference14Ideal.τ Cert.Reference14Ideal.sig) → Buf (Elt Ideal) ℓ) : Prop :=
  True

def Pre_Reference14Ideal_down_experts_named [hPre_down_experts_named : Cert.Pre_down_experts_named.Facts] (m : (ℓ : Loc Cert.Reference14Ideal.nD Cert.Reference14Ideal.τ Cert.Reference14Ideal.sig) → Buf (Elt Ideal) ℓ) : Prop :=
  ∀ c : Dev Cert.Reference14Ideal.nD,
    (Cert.Pre_down_experts_named.fn (F := Ideal) (m ((c.tc : Thread Cert.Reference14Ideal.nD Cert.Reference14Ideal.τ).loc Cert.Reference14Ideal.main_arg0)) (m ((c.tc : Thread Cert.Reference14Ideal.nD Cert.Reference14Ideal.τ).loc Cert.Reference14Ideal.main_arg1)) (m ((c.tc : Thread Cert.Reference14Ideal.nD Cert.Reference14Ideal.τ).loc Cert.Reference14Ideal.main_arg2)) (m ((c.tc : Thread Cert.Reference14Ideal.nD Cert.Reference14Ideal.τ).loc Cert.Reference14Ideal.main_arg3))) = (fun _ => 1#1)

def Pre_Kernel15 (m : (ℓ : Loc Cert.Kernel15.nD Cert.Kernel15.τ Cert.Kernel15.sig) → Buf (Elt Bits) ℓ) : Prop :=
  True

def Pre_Kernel15Ideal (m : (ℓ : Loc Cert.Kernel15Ideal.nD Cert.Kernel15Ideal.τ Cert.Kernel15Ideal.sig) → Buf (Elt Ideal) ℓ) : Prop :=
  True

def Pre_Reference15Ideal (m : (ℓ : Loc Cert.Reference15Ideal.nD Cert.Reference15Ideal.τ Cert.Reference15Ideal.sig) → Buf (Elt Ideal) ℓ) : Prop :=
  True

def Pre_Kernel16 (m : (ℓ : Loc Cert.Kernel16.nD Cert.Kernel16.τ Cert.Kernel16.sig) → Buf (Elt Bits) ℓ) : Prop :=
  True

def Pre_Kernel16Ideal (m : (ℓ : Loc Cert.Kernel16Ideal.nD Cert.Kernel16Ideal.τ Cert.Kernel16Ideal.sig) → Buf (Elt Ideal) ℓ) : Prop :=
  True

def Pre_Reference16Ideal (m : (ℓ : Loc Cert.Reference16Ideal.nD Cert.Reference16Ideal.τ Cert.Reference16Ideal.sig) → Buf (Elt Ideal) ℓ) : Prop :=
  True

def Pre_Kernel17 (m : (ℓ : Loc Cert.Kernel17.nD Cert.Kernel17.τ Cert.Kernel17.sig) → Buf (Elt Bits) ℓ) : Prop :=
  True

def Pre_Kernel17Ideal (m : (ℓ : Loc Cert.Kernel17Ideal.nD Cert.Kernel17Ideal.τ Cert.Kernel17Ideal.sig) → Buf (Elt Ideal) ℓ) : Prop :=
  True

def Pre_Reference17Ideal (m : (ℓ : Loc Cert.Reference17Ideal.nD Cert.Reference17Ideal.τ Cert.Reference17Ideal.sig) → Buf (Elt Ideal) ℓ) : Prop :=
  True

def Pre_Kernel18 (m : (ℓ : Loc Cert.Kernel18.nD Cert.Kernel18.τ Cert.Kernel18.sig) → Buf (Elt Bits) ℓ) : Prop :=
  True

def Pre_Kernel18Ideal (m : (ℓ : Loc Cert.Kernel18Ideal.nD Cert.Kernel18Ideal.τ Cert.Kernel18Ideal.sig) → Buf (Elt Ideal) ℓ) : Prop :=
  True

def Pre_Reference18Ideal (m : (ℓ : Loc Cert.Reference18Ideal.nD Cert.Reference18Ideal.τ Cert.Reference18Ideal.sig) → Buf (Elt Ideal) ℓ) : Prop :=
  True

def Pre_Kernel19 (m : (ℓ : Loc Cert.Kernel19.nD Cert.Kernel19.τ Cert.Kernel19.sig) → Buf (Elt Bits) ℓ) : Prop :=
  True

def Pre_Kernel19Ideal (m : (ℓ : Loc Cert.Kernel19Ideal.nD Cert.Kernel19Ideal.τ Cert.Kernel19Ideal.sig) → Buf (Elt Ideal) ℓ) : Prop :=
  True

def Pre_Reference19Ideal (m : (ℓ : Loc Cert.Reference19Ideal.nD Cert.Reference19Ideal.τ Cert.Reference19Ideal.sig) → Buf (Elt Ideal) ℓ) : Prop :=
  True

def Pre_Kernel20 (m : (ℓ : Loc Cert.Kernel20.nD Cert.Kernel20.τ Cert.Kernel20.sig) → Buf (Elt Bits) ℓ) : Prop :=
  True

def Pre_Kernel20Ideal (m : (ℓ : Loc Cert.Kernel20Ideal.nD Cert.Kernel20Ideal.τ Cert.Kernel20Ideal.sig) → Buf (Elt Ideal) ℓ) : Prop :=
  True

def Pre_Reference20Ideal (m : (ℓ : Loc Cert.Reference20Ideal.nD Cert.Reference20Ideal.τ Cert.Reference20Ideal.sig) → Buf (Elt Ideal) ℓ) : Prop :=
  True

def Pre_Kernel21 (m : (ℓ : Loc Cert.Kernel21.nD Cert.Kernel21.τ Cert.Kernel21.sig) → Buf (Elt Bits) ℓ) : Prop :=
  True

def Pre_Kernel21Ideal (m : (ℓ : Loc Cert.Kernel21Ideal.nD Cert.Kernel21Ideal.τ Cert.Kernel21Ideal.sig) → Buf (Elt Ideal) ℓ) : Prop :=
  True

def Pre_Reference21Ideal (m : (ℓ : Loc Cert.Reference21Ideal.nD Cert.Reference21Ideal.τ Cert.Reference21Ideal.sig) → Buf (Elt Ideal) ℓ) : Prop :=
  True

def Pre_Kernel22 (m : (ℓ : Loc Cert.Kernel22.nD Cert.Kernel22.τ Cert.Kernel22.sig) → Buf (Elt Bits) ℓ) : Prop :=
  True

def Pre_Kernel22Ideal (m : (ℓ : Loc Cert.Kernel22Ideal.nD Cert.Kernel22Ideal.τ Cert.Kernel22Ideal.sig) → Buf (Elt Ideal) ℓ) : Prop :=
  True

def Pre_Reference22Ideal (m : (ℓ : Loc Cert.Reference22Ideal.nD Cert.Reference22Ideal.τ Cert.Reference22Ideal.sig) → Buf (Elt Ideal) ℓ) : Prop :=
  True

def Pre_Kernel23 (m : (ℓ : Loc Cert.Kernel23.nD Cert.Kernel23.τ Cert.Kernel23.sig) → Buf (Elt Bits) ℓ) : Prop :=
  True

def Pre_Kernel23Ideal (m : (ℓ : Loc Cert.Kernel23Ideal.nD Cert.Kernel23Ideal.τ Cert.Kernel23Ideal.sig) → Buf (Elt Ideal) ℓ) : Prop :=
  True

def Pre_Reference23Ideal (m : (ℓ : Loc Cert.Reference23Ideal.nD Cert.Reference23Ideal.τ Cert.Reference23Ideal.sig) → Buf (Elt Ideal) ℓ) : Prop :=
  True

def Pre_Kernel24 (m : (ℓ : Loc Cert.Kernel24.nD Cert.Kernel24.τ Cert.Kernel24.sig) → Buf (Elt Bits) ℓ) : Prop :=
  True

def Pre_Kernel24Ideal (m : (ℓ : Loc Cert.Kernel24Ideal.nD Cert.Kernel24Ideal.τ Cert.Kernel24Ideal.sig) → Buf (Elt Ideal) ℓ) : Prop :=
  True

def Pre_Reference24Ideal (m : (ℓ : Loc Cert.Reference24Ideal.nD Cert.Reference24Ideal.τ Cert.Reference24Ideal.sig) → Buf (Elt Ideal) ℓ) : Prop :=
  True

def Pre_Kernel25 (m : (ℓ : Loc Cert.Kernel25.nD Cert.Kernel25.τ Cert.Kernel25.sig) → Buf (Elt Bits) ℓ) : Prop :=
  True

def Pre_Kernel25Ideal (m : (ℓ : Loc Cert.Kernel25Ideal.nD Cert.Kernel25Ideal.τ Cert.Kernel25Ideal.sig) → Buf (Elt Ideal) ℓ) : Prop :=
  True

def Pre_Reference25Ideal (m : (ℓ : Loc Cert.Reference25Ideal.nD Cert.Reference25Ideal.τ Cert.Reference25Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2))
      ∧ r.2.sem = fun _ => 0)

def quiescent_Kernel3 [hKernel3 : Cert.Kernel3.Facts] : Prop :=
  ∀ (m : (ℓ : Loc Cert.Kernel3.nD Cert.Kernel3.τ Cert.Kernel3.sig) → Buf (Elt Bits) ℓ) (g : Dev Cert.Kernel3.nD → PrngReg), Pre_Kernel3 m →
    θ_run (Cert.Kernel3.defs (F := Bits)) (onTc (τ := Cert.Kernel3.τ) (Cert.Kernel3.main (F := Bits))) ⟨m, fun _ => 0, g⟩ (fun r => (∀ c : Dev Cert.Kernel3.nD,
      r.2.mem ((c.tc : Thread Cert.Kernel3.nD Cert.Kernel3.τ).loc Cert.Kernel3.main_arg0) = m ((c.tc : Thread Cert.Kernel3.nD Cert.Kernel3.τ).loc Cert.Kernel3.main_arg0)
      ∧ r.2.mem ((c.tc : Thread Cert.Kernel3.nD Cert.Kernel3.τ).loc Cert.Kernel3.main_arg1) = m ((c.tc : Thread Cert.Kernel3.nD Cert.Kernel3.τ).loc Cert.Kernel3.main_arg1)
      ∧ r.2.mem ((c.tc : Thread Cert.Kernel3.nD Cert.Kernel3.τ).loc Cert.Kernel3.main_arg2) = m ((c.tc : Thread Cert.Kernel3.nD Cert.Kernel3.τ).loc Cert.Kernel3.main_arg2)
      ∧ r.2.mem ((c.tc : Thread Cert.Kernel3.nD Cert.Kernel3.τ).loc Cert.Kernel3.main_arg3) = m ((c.tc : Thread Cert.Kernel3.nD Cert.Kernel3.τ).loc Cert.Kernel3.main_arg3))
      ∧ r.2.sem = fun _ => 0)

def quiescent_Kernel3Ideal [hKernel3Ideal : Cert.Kernel3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg), Pre_Kernel3Ideal m →
    θ_run (Cert.Kernel3Ideal.defs (F := Ideal)) (onTc (τ := Cert.Kernel3Ideal.τ) (Cert.Kernel3Ideal.main (F := Ideal))) ⟨m, fun _ => 0, g⟩ (fun r => (∀ c : Dev Cert.Kernel3Ideal.nD,
      r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
      ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
      ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
      ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ r.2.sem = fun _ => 0)

def quiescent_Reference3Ideal [hReference3Ideal : Cert.Reference3Ideal.Facts] : Prop :=
  ∀ (m : (ℓ : Loc Cert.Reference3Ideal.nD Cert.Reference3Ideal.τ Cert.Reference3Ideal.sig) → Buf (Elt Ideal) ℓ) (g : Dev Cert.Reference3Ideal.nD → PrngReg), Pre_Reference3Ideal m →
    θ_run (Cert.Reference3Ideal.defs (F := Ideal)) (onTc (τ := Cert.Reference3Ideal.τ) (Cert.Reference3Ideal.main (F := Ideal))) ⟨m, fun _ => 0, g⟩ (fun r => (∀ c : Dev Cert.Reference3Ideal.nD,
      r.2.mem ((c.tc : Thread Cert.Reference3Ideal.nD Cert.Reference3Ideal.τ).loc Cert.Reference3Ideal.main_arg0) = m ((c.tc : Thread Cert.Reference3Ideal.nD Cert.Reference3Ideal.τ).loc Cert.Reference3Ideal.main_arg0)
      ∧ r.2.mem ((c.tc : Thread Cert.Reference3Ideal.nD Cert.Reference3Ideal.τ).loc Cert.Reference3Ideal.main_arg1) = m ((c.tc : Thread Cert.Reference3Ideal.nD Cert.Reference3Ideal.τ).loc Cert.Reference3Ideal.main_arg1)
      ∧ r.2.mem ((c.tc : Thread Cert.Reference3Ideal.nD Cert.Reference3Ideal.τ).loc Cert.Reference3Ideal.main_arg2) = m ((c.tc : Thread Cert.Reference3Ideal.nD Cert.Reference3Ideal.τ).loc Cert.Reference3Ideal.main_arg2)
      ∧ r.2.mem ((c.tc : Thread Cert.Reference3Ideal.nD Cert.Reference3Ideal.τ).loc Cert.Reference3Ideal.main_arg3) = m ((c.tc : Thread Cert.Reference3Ideal.nD Cert.Reference3Ideal.τ).loc Cert.Reference3Ideal.main_arg3))
      ∧ r.2.sem = fun _ => 0)

def quiescent_Kernel4 [hKernel4 : Cert.Kernel4.Facts] : Prop :=
  ∀ (m : (ℓ : Loc Cert.Kernel4.nD Cert.Kernel4.τ Cert.Kernel4.sig) → Buf (Elt Bits) ℓ) (g : Dev Cert.Kernel4.nD → PrngReg), Pre_Kernel4 m →
    θ_run (Cert.Kernel4.defs (F := Bits)) (onTc (τ := Cert.Kernel4.τ) (Cert.Kernel4.main (F := Bits))) ⟨m, fun _ => 0, g⟩ (fun r => (∀ c : Dev Cert.Kernel4.nD,
      r.2.mem ((c.tc : Thread Cert.Kernel4.nD Cert.Kernel4.τ).loc Cert.Kernel4.main_arg0) = m ((c.tc : Thread Cert.Kernel4.nD Cert.Kernel4.τ).loc Cert.Kernel4.main_arg0)
      ∧ r.2.mem ((c.tc : Thread Cert.Kernel4.nD Cert.Kernel4.τ).loc Cert.Kernel4.main_arg1) = m ((c.tc : Thread Cert.Kernel4.nD Cert.Kernel4.τ).loc Cert.Kernel4.main_arg1))
      ∧ r.2.sem = fun _ => 0)

def quiescent_Kernel4Ideal [hKernel4Ideal : Cert.Kernel4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg), Pre_Kernel4Ideal m →
    θ_run (Cert.Kernel4Ideal.defs (F := Ideal)) (onTc (τ := Cert.Kernel4Ideal.τ) (Cert.Kernel4Ideal.main (F := Ideal))) ⟨m, fun _ => 0, g⟩ (fun r => (∀ c : Dev Cert.Kernel4Ideal.nD,
      r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
      ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ r.2.sem = fun _ => 0)

def quiescent_Reference4Ideal [hReference4Ideal : Cert.Reference4Ideal.Facts] : Prop :=
  ∀ (m : (ℓ : Loc Cert.Reference4Ideal.nD Cert.Reference4Ideal.τ Cert.Reference4Ideal.sig) → Buf (Elt Ideal) ℓ) (g : Dev Cert.Reference4Ideal.nD → PrngReg), Pre_Reference4Ideal m →
    θ_run (Cert.Reference4Ideal.defs (F := Ideal)) (onTc (τ := Cert.Reference4Ideal.τ) (Cert.Reference4Ideal.main (F := Ideal))) ⟨m, fun _ => 0, g⟩ (fun r => (∀ c : Dev Cert.Reference4Ideal.nD,
      r.2.mem ((c.tc : Thread Cert.Reference4Ideal.nD Cert.Reference4Ideal.τ).loc Cert.Reference4Ideal.main_arg0) = m ((c.tc : Thread Cert.Reference4Ideal.nD Cert.Reference4Ideal.τ).loc Cert.Reference4Ideal.main_arg0)
      ∧ r.2.mem ((c.tc : Thread Cert.Reference4Ideal.nD Cert.Reference4Ideal.τ).loc Cert.Reference4Ideal.main_arg1) = m ((c.tc : Thread Cert.Reference4Ideal.nD Cert.Reference4Ideal.τ).loc Cert.Reference4Ideal.main_arg1))
      ∧ r.2.sem = fun _ => 0)

def quiescent_Kernel5 [hKernel5 : Cert.Kernel5.Facts] : Prop :=
  ∀ (m : (ℓ : Loc Cert.Kernel5.nD Cert.Kernel5.τ Cert.Kernel5.sig) → Buf (Elt Bits) ℓ) (g : Dev Cert.Kernel5.nD → PrngReg), Pre_Kernel5 m →
    θ_run (Cert.Kernel5.defs (F := Bits)) (onTc (τ := Cert.Kernel5.τ) (Cert.Kernel5.main (F := Bits))) ⟨m, fun _ => 0, g⟩ (fun r => (∀ c : Dev Cert.Kernel5.nD,
      r.2.mem ((c.tc : Thread Cert.Kernel5.nD Cert.Kernel5.τ).loc Cert.Kernel5.main_arg0) = m ((c.tc : Thread Cert.Kernel5.nD Cert.Kernel5.τ).loc Cert.Kernel5.main_arg0)
      ∧ r.2.mem ((c.tc : Thread Cert.Kernel5.nD Cert.Kernel5.τ).loc Cert.Kernel5.main_arg1) = m ((c.tc : Thread Cert.Kernel5.nD Cert.Kernel5.τ).loc Cert.Kernel5.main_arg1))
      ∧ r.2.sem = fun _ => 0)

def quiescent_Kernel5Ideal [hKernel5Ideal : Cert.Kernel5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg), Pre_Kernel5Ideal m →
    θ_run (Cert.Kernel5Ideal.defs (F := Ideal)) (onTc (τ := Cert.Kernel5Ideal.τ) (Cert.Kernel5Ideal.main (F := Ideal))) ⟨m, fun _ => 0, g⟩ (fun r => (∀ c : Dev Cert.Kernel5Ideal.nD,
      r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
      ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ r.2.sem = fun _ => 0)

def quiescent_Reference5Ideal [hReference5Ideal : Cert.Reference5Ideal.Facts] : Prop :=
  ∀ (m : (ℓ : Loc Cert.Reference5Ideal.nD Cert.Reference5Ideal.τ Cert.Reference5Ideal.sig) → Buf (Elt Ideal) ℓ) (g : Dev Cert.Reference5Ideal.nD → PrngReg), Pre_Reference5Ideal m →
    θ_run (Cert.Reference5Ideal.defs (F := Ideal)) (onTc (τ := Cert.Reference5Ideal.τ) (Cert.Reference5Ideal.main (F := Ideal))) ⟨m, fun _ => 0, g⟩ (fun r => (∀ c : Dev Cert.Reference5Ideal.nD,
      r.2.mem ((c.tc : Thread Cert.Reference5Ideal.nD Cert.Reference5Ideal.τ).loc Cert.Reference5Ideal.main_arg0) = m ((c.tc : Thread Cert.Reference5Ideal.nD Cert.Reference5Ideal.τ).loc Cert.Reference5Ideal.main_arg0)
      ∧ r.2.mem ((c.tc : Thread Cert.Reference5Ideal.nD Cert.Reference5Ideal.τ).loc Cert.Reference5Ideal.main_arg1) = m ((c.tc : Thread Cert.Reference5Ideal.nD Cert.Reference5Ideal.τ).loc Cert.Reference5Ideal.main_arg1))
      ∧ r.2.sem = fun _ => 0)

def quiescent_Kernel6 [hKernel6 : Cert.Kernel6.Facts] : Prop :=
  ∀ (m : (ℓ : Loc Cert.Kernel6.nD Cert.Kernel6.τ Cert.Kernel6.sig) → Buf (Elt Bits) ℓ) (g : Dev Cert.Kernel6.nD → PrngReg), Pre_Kernel6 m →
    θ_run (Cert.Kernel6.defs (F := Bits)) (onTc (τ := Cert.Kernel6.τ) (Cert.Kernel6.main (F := Bits))) ⟨m, fun _ => 0, g⟩ (fun r => (∀ c : Dev Cert.Kernel6.nD,
      r.2.mem ((c.tc : Thread Cert.Kernel6.nD Cert.Kernel6.τ).loc Cert.Kernel6.main_arg0) = m ((c.tc : Thread Cert.Kernel6.nD Cert.Kernel6.τ).loc Cert.Kernel6.main_arg0)
      ∧ r.2.mem ((c.tc : Thread Cert.Kernel6.nD Cert.Kernel6.τ).loc Cert.Kernel6.main_arg1) = m ((c.tc : Thread Cert.Kernel6.nD Cert.Kernel6.τ).loc Cert.Kernel6.main_arg1)
      ∧ r.2.mem ((c.tc : Thread Cert.Kernel6.nD Cert.Kernel6.τ).loc Cert.Kernel6.main_arg2) = m ((c.tc : Thread Cert.Kernel6.nD Cert.Kernel6.τ).loc Cert.Kernel6.main_arg2)
      ∧ r.2.mem ((c.tc : Thread Cert.Kernel6.nD Cert.Kernel6.τ).loc Cert.Kernel6.main_arg3) = m ((c.tc : Thread Cert.Kernel6.nD Cert.Kernel6.τ).loc Cert.Kernel6.main_arg3)
      ∧ r.2.mem ((c.tc : Thread Cert.Kernel6.nD Cert.Kernel6.τ).loc Cert.Kernel6.main_arg4) = m ((c.tc : Thread Cert.Kernel6.nD Cert.Kernel6.τ).loc Cert.Kernel6.main_arg4))
      ∧ r.2.sem = fun _ => 0)

def quiescent_Kernel6Ideal [hKernel6Ideal : Cert.Kernel6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg), Pre_Kernel6Ideal m →
    θ_run (Cert.Kernel6Ideal.defs (F := Ideal)) (onTc (τ := Cert.Kernel6Ideal.τ) (Cert.Kernel6Ideal.main (F := Ideal))) ⟨m, fun _ => 0, g⟩ (fun r => (∀ c : Dev Cert.Kernel6Ideal.nD,
      r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
      ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
      ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
      ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
      ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ r.2.sem = fun _ => 0)

def quiescent_Reference6Ideal [hReference6Ideal : Cert.Reference6Ideal.Facts] : Prop :=
  ∀ (m : (ℓ : Loc Cert.Reference6Ideal.nD Cert.Reference6Ideal.τ Cert.Reference6Ideal.sig) → Buf (Elt Ideal) ℓ) (g : Dev Cert.Reference6Ideal.nD → PrngReg), Pre_Reference6Ideal m →
    θ_run (Cert.Reference6Ideal.defs (F := Ideal)) (onTc (τ := Cert.Reference6Ideal.τ) (Cert.Reference6Ideal.main (F := Ideal))) ⟨m, fun _ => 0, g⟩ (fun r => (∀ c : Dev Cert.Reference6Ideal.nD,
      r.2.mem ((c.tc : Thread Cert.Reference6Ideal.nD Cert.Reference6Ideal.τ).loc Cert.Reference6Ideal.main_arg0) = m ((c.tc : Thread Cert.Reference6Ideal.nD Cert.Reference6Ideal.τ).loc Cert.Reference6Ideal.main_arg0)
      ∧ r.2.mem ((c.tc : Thread Cert.Reference6Ideal.nD Cert.Reference6Ideal.τ).loc Cert.Reference6Ideal.main_arg1) = m ((c.tc : Thread Cert.Reference6Ideal.nD Cert.Reference6Ideal.τ).loc Cert.Reference6Ideal.main_arg1)
      ∧ r.2.mem ((c.tc : Thread Cert.Reference6Ideal.nD Cert.Reference6Ideal.τ).loc Cert.Reference6Ideal.main_arg2) = m ((c.tc : Thread Cert.Reference6Ideal.nD Cert.Reference6Ideal.τ).loc Cert.Reference6Ideal.main_arg2)
      ∧ r.2.mem ((c.tc : Thread Cert.Reference6Ideal.nD Cert.Reference6Ideal.τ).loc Cert.Reference6Ideal.main_arg3) = m ((c.tc : Thread Cert.Reference6Ideal.nD Cert.Reference6Ideal.τ).loc Cert.Reference6Ideal.main_arg3)
      ∧ r.2.mem ((c.tc : Thread Cert.Reference6Ideal.nD Cert.Reference6Ideal.τ).loc Cert.Reference6Ideal.main_arg4) = m ((c.tc : Thread Cert.Reference6Ideal.nD Cert.Reference6Ideal.τ).loc Cert.Reference6Ideal.main_arg4))
      ∧ r.2.sem = fun _ => 0)

def quiescent_Kernel7 [hKernel7 : Cert.Kernel7.Facts] : Prop :=
  ∀ (m : (ℓ : Loc Cert.Kernel7.nD Cert.Kernel7.τ Cert.Kernel7.sig) → Buf (Elt Bits) ℓ) (g : Dev Cert.Kernel7.nD → PrngReg), Pre_Kernel7 m →
    θ_run (Cert.Kernel7.defs (F := Bits)) (onTc (τ := Cert.Kernel7.τ) (Cert.Kernel7.main (F := Bits))) ⟨m, fun _ => 0, g⟩ (fun r => (∀ c : Dev Cert.Kernel7.nD,
      r.2.mem ((c.tc : Thread Cert.Kernel7.nD Cert.Kernel7.τ).loc Cert.Kernel7.main_arg0) = m ((c.tc : Thread Cert.Kernel7.nD Cert.Kernel7.τ).loc Cert.Kernel7.main_arg0)
      ∧ r.2.mem ((c.tc : Thread Cert.Kernel7.nD Cert.Kernel7.τ).loc Cert.Kernel7.main_arg1) = m ((c.tc : Thread Cert.Kernel7.nD Cert.Kernel7.τ).loc Cert.Kernel7.main_arg1)
      ∧ r.2.mem ((c.tc : Thread Cert.Kernel7.nD Cert.Kernel7.τ).loc Cert.Kernel7.main_arg2) = m ((c.tc : Thread Cert.Kernel7.nD Cert.Kernel7.τ).loc Cert.Kernel7.main_arg2)
      ∧ r.2.mem ((c.tc : Thread Cert.Kernel7.nD Cert.Kernel7.τ).loc Cert.Kernel7.main_arg3) = m ((c.tc : Thread Cert.Kernel7.nD Cert.Kernel7.τ).loc Cert.Kernel7.main_arg3)
      ∧ r.2.mem ((c.tc : Thread Cert.Kernel7.nD Cert.Kernel7.τ).loc Cert.Kernel7.main_arg4) = m ((c.tc : Thread Cert.Kernel7.nD Cert.Kernel7.τ).loc Cert.Kernel7.main_arg4))
      ∧ r.2.sem = fun _ => 0)

def quiescent_Kernel7Ideal [hKernel7Ideal : Cert.Kernel7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg), Pre_Kernel7Ideal m →
    θ_run (Cert.Kernel7Ideal.defs (F := Ideal)) (onTc (τ := Cert.Kernel7Ideal.τ) (Cert.Kernel7Ideal.main (F := Ideal))) ⟨m, fun _ => 0, g⟩ (fun r => (∀ c : Dev Cert.Kernel7Ideal.nD,
      r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
      ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
      ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
      ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
      ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ r.2.sem = fun _ => 0)

def quiescent_Reference7Ideal [hReference7Ideal : Cert.Reference7Ideal.Facts] : Prop :=
  ∀ (m : (ℓ : Loc Cert.Reference7Ideal.nD Cert.Reference7Ideal.τ Cert.Reference7Ideal.sig) → Buf (Elt Ideal) ℓ) (g : Dev Cert.Reference7Ideal.nD → PrngReg), Pre_Reference7Ideal m →
    θ_run (Cert.Reference7Ideal.defs (F := Ideal)) (onTc (τ := Cert.Reference7Ideal.τ) (Cert.Reference7Ideal.main (F := Ideal))) ⟨m, fun _ => 0, g⟩ (fun r => (∀ c : Dev Cert.Reference7Ideal.nD,
      r.2.mem ((c.tc : Thread Cert.Reference7Ideal.nD Cert.Reference7Ideal.τ).loc Cert.Reference7Ideal.main_arg0) = m ((c.tc : Thread Cert.Reference7Ideal.nD Cert.Reference7Ideal.τ).loc Cert.Reference7Ideal.main_arg0)
      ∧ r.2.mem ((c.tc : Thread Cert.Reference7Ideal.nD Cert.Reference7Ideal.τ).loc Cert.Reference7Ideal.main_arg1) = m ((c.tc : Thread Cert.Reference7Ideal.nD Cert.Reference7Ideal.τ).loc Cert.Reference7Ideal.main_arg1)
      ∧ r.2.mem ((c.tc : Thread Cert.Reference7Ideal.nD Cert.Reference7Ideal.τ).loc Cert.Reference7Ideal.main_arg2) = m ((c.tc : Thread Cert.Reference7Ideal.nD Cert.Reference7Ideal.τ).loc Cert.Reference7Ideal.main_arg2)
      ∧ r.2.mem ((c.tc : Thread Cert.Reference7Ideal.nD Cert.Reference7Ideal.τ).loc Cert.Reference7Ideal.main_arg3) = m ((c.tc : Thread Cert.Reference7Ideal.nD Cert.Reference7Ideal.τ).loc Cert.Reference7Ideal.main_arg3)
      ∧ r.2.mem ((c.tc : Thread Cert.Reference7Ideal.nD Cert.Reference7Ideal.τ).loc Cert.Reference7Ideal.main_arg4) = m ((c.tc : Thread Cert.Reference7Ideal.nD Cert.Reference7Ideal.τ).loc Cert.Reference7Ideal.main_arg4))
      ∧ r.2.sem = fun _ => 0)

def quiescent_Kernel8 [hKernel8 : Cert.Kernel8.Facts] [hPre_experts_named : Cert.Pre_experts_named.Facts] : Prop :=
  ∀ (m : (ℓ : Loc Cert.Kernel8.nD Cert.Kernel8.τ Cert.Kernel8.sig) → Buf (Elt Bits) ℓ) (g : Dev Cert.Kernel8.nD → PrngReg), Pre_Kernel8 m →
    θ_run (Cert.Kernel8.defs (F := Bits)) (onTc (τ := Cert.Kernel8.τ) (Cert.Kernel8.main (F := Bits))) ⟨m, fun _ => 0, g⟩ (fun r => (∀ c : Dev Cert.Kernel8.nD,
      r.2.mem ((c.tc : Thread Cert.Kernel8.nD Cert.Kernel8.τ).loc Cert.Kernel8.main_arg0) = m ((c.tc : Thread Cert.Kernel8.nD Cert.Kernel8.τ).loc Cert.Kernel8.main_arg0)
      ∧ r.2.mem ((c.tc : Thread Cert.Kernel8.nD Cert.Kernel8.τ).loc Cert.Kernel8.main_arg1) = m ((c.tc : Thread Cert.Kernel8.nD Cert.Kernel8.τ).loc Cert.Kernel8.main_arg1)
      ∧ r.2.mem ((c.tc : Thread Cert.Kernel8.nD Cert.Kernel8.τ).loc Cert.Kernel8.main_arg2) = m ((c.tc : Thread Cert.Kernel8.nD Cert.Kernel8.τ).loc Cert.Kernel8.main_arg2)
      ∧ r.2.mem ((c.tc : Thread Cert.Kernel8.nD Cert.Kernel8.τ).loc Cert.Kernel8.main_arg3) = m ((c.tc : Thread Cert.Kernel8.nD Cert.Kernel8.τ).loc Cert.Kernel8.main_arg3)
      ∧ r.2.mem ((c.tc : Thread Cert.Kernel8.nD Cert.Kernel8.τ).loc Cert.Kernel8.main_arg4) = m ((c.tc : Thread Cert.Kernel8.nD Cert.Kernel8.τ).loc Cert.Kernel8.main_arg4))
      ∧ r.2.sem = fun _ => 0)

def quiescent_Kernel8Ideal [hKernel8Ideal : Cert.Kernel8Ideal.Facts] [hPre_experts_named : Cert.Pre_experts_named.Facts] : Prop :=
  ∀ (m : (ℓ : Loc Cert.Kernel8Ideal.nD Cert.Kernel8Ideal.τ Cert.Kernel8Ideal.sig) → Buf (Elt Ideal) ℓ) (g : Dev Cert.Kernel8Ideal.nD → PrngReg), Pre_Kernel8Ideal m →
    θ_run (Cert.Kernel8Ideal.defs (F := Ideal)) (onTc (τ := Cert.Kernel8Ideal.τ) (Cert.Kernel8Ideal.main (F := Ideal))) ⟨m, fun _ => 0, g⟩ (fun r => (∀ c : Dev Cert.Kernel8Ideal.nD,
      r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
      ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
      ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
      ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
      ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ r.2.sem = fun _ => 0)

def quiescent_Reference8Ideal [hReference8Ideal : Cert.Reference8Ideal.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def quiescent_Reference8Ideal_pre_experts_named [hReference8Ideal : Cert.Reference8Ideal.Facts] [hPre_experts_named : Cert.Pre_experts_named.Facts] : Prop :=
  ∀ (m : (ℓ : Loc Cert.Reference8Ideal.nD Cert.Reference8Ideal.τ Cert.Reference8Ideal.sig) → Buf (Elt Ideal) ℓ) (g : Dev Cert.Reference8Ideal.nD → PrngReg), Pre_Reference8Ideal_experts_named m →
    θ_run (Cert.Reference8Ideal.defs (F := Ideal)) (onTc (τ := Cert.Reference8Ideal.τ) (Cert.Reference8Ideal.main (F := Ideal))) ⟨m, fun _ => 0, g⟩ (fun r => (∀ c : Dev Cert.Reference8Ideal.nD,
      r.2.mem ((c.tc : Thread Cert.Reference8Ideal.nD Cert.Reference8Ideal.τ).loc Cert.Reference8Ideal.main_arg0) = m ((c.tc : Thread Cert.Reference8Ideal.nD Cert.Reference8Ideal.τ).loc Cert.Reference8Ideal.main_arg0)
      ∧ r.2.mem ((c.tc : Thread Cert.Reference8Ideal.nD Cert.Reference8Ideal.τ).loc Cert.Reference8Ideal.main_arg1) = m ((c.tc : Thread Cert.Reference8Ideal.nD Cert.Reference8Ideal.τ).loc Cert.Reference8Ideal.main_arg1)
      ∧ r.2.mem ((c.tc : Thread Cert.Reference8Ideal.nD Cert.Reference8Ideal.τ).loc Cert.Reference8Ideal.main_arg2) = m ((c.tc : Thread Cert.Reference8Ideal.nD Cert.Reference8Ideal.τ).loc Cert.Reference8Ideal.main_arg2)
      ∧ r.2.mem ((c.tc : Thread Cert.Reference8Ideal.nD Cert.Reference8Ideal.τ).loc Cert.Reference8Ideal.main_arg3) = m ((c.tc : Thread Cert.Reference8Ideal.nD Cert.Reference8Ideal.τ).loc Cert.Reference8Ideal.main_arg3)
      ∧ r.2.mem ((c.tc : Thread Cert.Reference8Ideal.nD Cert.Reference8Ideal.τ).loc Cert.Reference8Ideal.main_arg4) = m ((c.tc : Thread Cert.Reference8Ideal.nD Cert.Reference8Ideal.τ).loc Cert.Reference8Ideal.main_arg4))
      ∧ r.2.sem = fun _ => 0)

def quiescent_Kernel9 [hKernel9 : Cert.Kernel9.Facts] : Prop :=
  ∀ (m : (ℓ : Loc Cert.Kernel9.nD Cert.Kernel9.τ Cert.Kernel9.sig) → Buf (Elt Bits) ℓ) (g : Dev Cert.Kernel9.nD → PrngReg), Pre_Kernel9 m →
    θ_run (Cert.Kernel9.defs (F := Bits)) (onTc (τ := Cert.Kernel9.τ) (Cert.Kernel9.main (F := Bits))) ⟨m, fun _ => 0, g⟩ (fun r => (∀ c : Dev Cert.Kernel9.nD,
      r.2.mem ((c.tc : Thread Cert.Kernel9.nD Cert.Kernel9.τ).loc Cert.Kernel9.main_arg0) = m ((c.tc : Thread Cert.Kernel9.nD Cert.Kernel9.τ).loc Cert.Kernel9.main_arg0)
      ∧ r.2.mem ((c.tc : Thread Cert.Kernel9.nD Cert.Kernel9.τ).loc Cert.Kernel9.main_arg1) = m ((c.tc : Thread Cert.Kernel9.nD Cert.Kernel9.τ).loc Cert.Kernel9.main_arg1)
      ∧ r.2.mem ((c.tc : Thread Cert.Kernel9.nD Cert.Kernel9.τ).loc Cert.Kernel9.main_arg2) = m ((c.tc : Thread Cert.Kernel9.nD Cert.Kernel9.τ).loc Cert.Kernel9.main_arg2))
      ∧ r.2.sem = fun _ => 0)

def quiescent_Kernel9Ideal [hKernel9Ideal : Cert.Kernel9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg), Pre_Kernel9Ideal m →
    θ_run (Cert.Kernel9Ideal.defs (F := Ideal)) (onTc (τ := Cert.Kernel9Ideal.τ) (Cert.Kernel9Ideal.main (F := Ideal))) ⟨m, fun _ => 0, g⟩ (fun r => (∀ c : Dev Cert.Kernel9Ideal.nD,
      r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
      ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
      ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ r.2.sem = fun _ => 0)

def quiescent_Reference9Ideal [hReference9Ideal : Cert.Reference9Ideal.Facts] : Prop :=
  ∀ (m : (ℓ : Loc Cert.Reference9Ideal.nD Cert.Reference9Ideal.τ Cert.Reference9Ideal.sig) → Buf (Elt Ideal) ℓ) (g : Dev Cert.Reference9Ideal.nD → PrngReg), Pre_Reference9Ideal m →
    θ_run (Cert.Reference9Ideal.defs (F := Ideal)) (onTc (τ := Cert.Reference9Ideal.τ) (Cert.Reference9Ideal.main (F := Ideal))) ⟨m, fun _ => 0, g⟩ (fun r => (∀ c : Dev Cert.Reference9Ideal.nD,
      r.2.mem ((c.tc : Thread Cert.Reference9Ideal.nD Cert.Reference9Ideal.τ).loc Cert.Reference9Ideal.main_arg0) = m ((c.tc : Thread Cert.Reference9Ideal.nD Cert.Reference9Ideal.τ).loc Cert.Reference9Ideal.main_arg0)
      ∧ r.2.mem ((c.tc : Thread Cert.Reference9Ideal.nD Cert.Reference9Ideal.τ).loc Cert.Reference9Ideal.main_arg1) = m ((c.tc : Thread Cert.Reference9Ideal.nD Cert.Reference9Ideal.τ).loc Cert.Reference9Ideal.main_arg1)
      ∧ r.2.mem ((c.tc : Thread Cert.Reference9Ideal.nD Cert.Reference9Ideal.τ).loc Cert.Reference9Ideal.main_arg2) = m ((c.tc : Thread Cert.Reference9Ideal.nD Cert.Reference9Ideal.τ).loc Cert.Reference9Ideal.main_arg2))
      ∧ r.2.sem = fun _ => 0)

def quiescent_Kernel10 [hKernel10 : Cert.Kernel10.Facts] : Prop :=
  ∀ (m : (ℓ : Loc Cert.Kernel10.nD Cert.Kernel10.τ Cert.Kernel10.sig) → Buf (Elt Bits) ℓ) (g : Dev Cert.Kernel10.nD → PrngReg), Pre_Kernel10 m →
    θ_run (Cert.Kernel10.defs (F := Bits)) (onTc (τ := Cert.Kernel10.τ) (Cert.Kernel10.main (F := Bits))) ⟨m, fun _ => 0, g⟩ (fun r => (∀ c : Dev Cert.Kernel10.nD,
      r.2.mem ((c.tc : Thread Cert.Kernel10.nD Cert.Kernel10.τ).loc Cert.Kernel10.main_arg0) = m ((c.tc : Thread Cert.Kernel10.nD Cert.Kernel10.τ).loc Cert.Kernel10.main_arg0)
      ∧ r.2.mem ((c.tc : Thread Cert.Kernel10.nD Cert.Kernel10.τ).loc Cert.Kernel10.main_arg1) = m ((c.tc : Thread Cert.Kernel10.nD Cert.Kernel10.τ).loc Cert.Kernel10.main_arg1)
      ∧ r.2.mem ((c.tc : Thread Cert.Kernel10.nD Cert.Kernel10.τ).loc Cert.Kernel10.main_arg2) = m ((c.tc : Thread Cert.Kernel10.nD Cert.Kernel10.τ).loc Cert.Kernel10.main_arg2)
      ∧ r.2.mem ((c.tc : Thread Cert.Kernel10.nD Cert.Kernel10.τ).loc Cert.Kernel10.main_arg3) = m ((c.tc : Thread Cert.Kernel10.nD Cert.Kernel10.τ).loc Cert.Kernel10.main_arg3))
      ∧ r.2.sem = fun _ => 0)

def quiescent_Kernel10Ideal [hKernel10Ideal : Cert.Kernel10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg), Pre_Kernel10Ideal m →
    θ_run (Cert.Kernel10Ideal.defs (F := Ideal)) (onTc (τ := Cert.Kernel10Ideal.τ) (Cert.Kernel10Ideal.main (F := Ideal))) ⟨m, fun _ => 0, g⟩ (fun r => (∀ c : Dev Cert.Kernel10Ideal.nD,
      r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
      ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
      ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
      ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ r.2.sem = fun _ => 0)

def quiescent_Reference10Ideal [hReference10Ideal : Cert.Reference10Ideal.Facts] : Prop :=
  ∀ (m : (ℓ : Loc Cert.Reference10Ideal.nD Cert.Reference10Ideal.τ Cert.Reference10Ideal.sig) → Buf (Elt Ideal) ℓ) (g : Dev Cert.Reference10Ideal.nD → PrngReg), Pre_Reference10Ideal m →
    θ_run (Cert.Reference10Ideal.defs (F := Ideal)) (onTc (τ := Cert.Reference10Ideal.τ) (Cert.Reference10Ideal.main (F := Ideal))) ⟨m, fun _ => 0, g⟩ (fun r => (∀ c : Dev Cert.Reference10Ideal.nD,
      r.2.mem ((c.tc : Thread Cert.Reference10Ideal.nD Cert.Reference10Ideal.τ).loc Cert.Reference10Ideal.main_arg0) = m ((c.tc : Thread Cert.Reference10Ideal.nD Cert.Reference10Ideal.τ).loc Cert.Reference10Ideal.main_arg0)
      ∧ r.2.mem ((c.tc : Thread Cert.Reference10Ideal.nD Cert.Reference10Ideal.τ).loc Cert.Reference10Ideal.main_arg1) = m ((c.tc : Thread Cert.Reference10Ideal.nD Cert.Reference10Ideal.τ).loc Cert.Reference10Ideal.main_arg1)
      ∧ r.2.mem ((c.tc : Thread Cert.Reference10Ideal.nD Cert.Reference10Ideal.τ).loc Cert.Reference10Ideal.main_arg2) = m ((c.tc : Thread Cert.Reference10Ideal.nD Cert.Reference10Ideal.τ).loc Cert.Reference10Ideal.main_arg2)
      ∧ r.2.mem ((c.tc : Thread Cert.Reference10Ideal.nD Cert.Reference10Ideal.τ).loc Cert.Reference10Ideal.main_arg3) = m ((c.tc : Thread Cert.Reference10Ideal.nD Cert.Reference10Ideal.τ).loc Cert.Reference10Ideal.main_arg3))
      ∧ r.2.sem = fun _ => 0)

def quiescent_Kernel11 [hKernel11 : Cert.Kernel11.Facts] : Prop :=
  ∀ (m : (ℓ : Loc Cert.Kernel11.nD Cert.Kernel11.τ Cert.Kernel11.sig) → Buf (Elt Bits) ℓ) (g : Dev Cert.Kernel11.nD → PrngReg), Pre_Kernel11 m →
    θ_run (Cert.Kernel11.defs (F := Bits)) (onTc (τ := Cert.Kernel11.τ) (Cert.Kernel11.main (F := Bits))) ⟨m, fun _ => 0, g⟩ (fun r => (∀ c : Dev Cert.Kernel11.nD,
      r.2.mem ((c.tc : Thread Cert.Kernel11.nD Cert.Kernel11.τ).loc Cert.Kernel11.main_arg0) = m ((c.tc : Thread Cert.Kernel11.nD Cert.Kernel11.τ).loc Cert.Kernel11.main_arg0)
      ∧ r.2.mem ((c.tc : Thread Cert.Kernel11.nD Cert.Kernel11.τ).loc Cert.Kernel11.main_arg1) = m ((c.tc : Thread Cert.Kernel11.nD Cert.Kernel11.τ).loc Cert.Kernel11.main_arg1))
      ∧ r.2.sem = fun _ => 0)

def quiescent_Kernel11Ideal [hKernel11Ideal : Cert.Kernel11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg), Pre_Kernel11Ideal m →
    θ_run (Cert.Kernel11Ideal.defs (F := Ideal)) (onTc (τ := Cert.Kernel11Ideal.τ) (Cert.Kernel11Ideal.main (F := Ideal))) ⟨m, fun _ => 0, g⟩ (fun r => (∀ c : Dev Cert.Kernel11Ideal.nD,
      r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
      ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ r.2.sem = fun _ => 0)

def quiescent_Reference11Ideal [hReference11Ideal : Cert.Reference11Ideal.Facts] : Prop :=
  ∀ (m : (ℓ : Loc Cert.Reference11Ideal.nD Cert.Reference11Ideal.τ Cert.Reference11Ideal.sig) → Buf (Elt Ideal) ℓ) (g : Dev Cert.Reference11Ideal.nD → PrngReg), Pre_Reference11Ideal m →
    θ_run (Cert.Reference11Ideal.defs (F := Ideal)) (onTc (τ := Cert.Reference11Ideal.τ) (Cert.Reference11Ideal.main (F := Ideal))) ⟨m, fun _ => 0, g⟩ (fun r => (∀ c : Dev Cert.Reference11Ideal.nD,
      r.2.mem ((c.tc : Thread Cert.Reference11Ideal.nD Cert.Reference11Ideal.τ).loc Cert.Reference11Ideal.main_arg0) = m ((c.tc : Thread Cert.Reference11Ideal.nD Cert.Reference11Ideal.τ).loc Cert.Reference11Ideal.main_arg0)
      ∧ r.2.mem ((c.tc : Thread Cert.Reference11Ideal.nD Cert.Reference11Ideal.τ).loc Cert.Reference11Ideal.main_arg1) = m ((c.tc : Thread Cert.Reference11Ideal.nD Cert.Reference11Ideal.τ).loc Cert.Reference11Ideal.main_arg1))
      ∧ r.2.sem = fun _ => 0)

def quiescent_Kernel12 [hKernel12 : Cert.Kernel12.Facts] : Prop :=
  ∀ (m : (ℓ : Loc Cert.Kernel12.nD Cert.Kernel12.τ Cert.Kernel12.sig) → Buf (Elt Bits) ℓ) (g : Dev Cert.Kernel12.nD → PrngReg), Pre_Kernel12 m →
    θ_run (Cert.Kernel12.defs (F := Bits)) (onTc (τ := Cert.Kernel12.τ) (Cert.Kernel12.main (F := Bits))) ⟨m, fun _ => 0, g⟩ (fun r => (∀ c : Dev Cert.Kernel12.nD,
      r.2.mem ((c.tc : Thread Cert.Kernel12.nD Cert.Kernel12.τ).loc Cert.Kernel12.main_arg0) = m ((c.tc : Thread Cert.Kernel12.nD Cert.Kernel12.τ).loc Cert.Kernel12.main_arg0)
      ∧ r.2.mem ((c.tc : Thread Cert.Kernel12.nD Cert.Kernel12.τ).loc Cert.Kernel12.main_arg1) = m ((c.tc : Thread Cert.Kernel12.nD Cert.Kernel12.τ).loc Cert.Kernel12.main_arg1))
      ∧ r.2.sem = fun _ => 0)

def quiescent_Kernel12Ideal [hKernel12Ideal : Cert.Kernel12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg), Pre_Kernel12Ideal m →
    θ_run (Cert.Kernel12Ideal.defs (F := Ideal)) (onTc (τ := Cert.Kernel12Ideal.τ) (Cert.Kernel12Ideal.main (F := Ideal))) ⟨m, fun _ => 0, g⟩ (fun r => (∀ c : Dev Cert.Kernel12Ideal.nD,
      r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
      ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ r.2.sem = fun _ => 0)

def quiescent_Reference12Ideal [hReference12Ideal : Cert.Reference12Ideal.Facts] : Prop :=
  ∀ (m : (ℓ : Loc Cert.Reference12Ideal.nD Cert.Reference12Ideal.τ Cert.Reference12Ideal.sig) → Buf (Elt Ideal) ℓ) (g : Dev Cert.Reference12Ideal.nD → PrngReg), Pre_Reference12Ideal m →
    θ_run (Cert.Reference12Ideal.defs (F := Ideal)) (onTc (τ := Cert.Reference12Ideal.τ) (Cert.Reference12Ideal.main (F := Ideal))) ⟨m, fun _ => 0, g⟩ (fun r => (∀ c : Dev Cert.Reference12Ideal.nD,
      r.2.mem ((c.tc : Thread Cert.Reference12Ideal.nD Cert.Reference12Ideal.τ).loc Cert.Reference12Ideal.main_arg0) = m ((c.tc : Thread Cert.Reference12Ideal.nD Cert.Reference12Ideal.τ).loc Cert.Reference12Ideal.main_arg0)
      ∧ r.2.mem ((c.tc : Thread Cert.Reference12Ideal.nD Cert.Reference12Ideal.τ).loc Cert.Reference12Ideal.main_arg1) = m ((c.tc : Thread Cert.Reference12Ideal.nD Cert.Reference12Ideal.τ).loc Cert.Reference12Ideal.main_arg1))
      ∧ r.2.sem = fun _ => 0)

def quiescent_Kernel13 [hKernel13 : Cert.Kernel13.Facts] : Prop :=
  ∀ (m : (ℓ : Loc Cert.Kernel13.nD Cert.Kernel13.τ Cert.Kernel13.sig) → Buf (Elt Bits) ℓ) (g : Dev Cert.Kernel13.nD → PrngReg), Pre_Kernel13 m →
    θ_run (Cert.Kernel13.defs (F := Bits)) (onTc (τ := Cert.Kernel13.τ) (Cert.Kernel13.main (F := Bits))) ⟨m, fun _ => 0, g⟩ (fun r => (∀ c : Dev Cert.Kernel13.nD,
      r.2.mem ((c.tc : Thread Cert.Kernel13.nD Cert.Kernel13.τ).loc Cert.Kernel13.main_arg0) = m ((c.tc : Thread Cert.Kernel13.nD Cert.Kernel13.τ).loc Cert.Kernel13.main_arg0)
      ∧ r.2.mem ((c.tc : Thread Cert.Kernel13.nD Cert.Kernel13.τ).loc Cert.Kernel13.main_arg1) = m ((c.tc : Thread Cert.Kernel13.nD Cert.Kernel13.τ).loc Cert.Kernel13.main_arg1))
      ∧ r.2.sem = fun _ => 0)

def quiescent_Kernel13Ideal [hKernel13Ideal : Cert.Kernel13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg), Pre_Kernel13Ideal m →
    θ_run (Cert.Kernel13Ideal.defs (F := Ideal)) (onTc (τ := Cert.Kernel13Ideal.τ) (Cert.Kernel13Ideal.main (F := Ideal))) ⟨m, fun _ => 0, g⟩ (fun r => (∀ c : Dev Cert.Kernel13Ideal.nD,
      r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
      ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ r.2.sem = fun _ => 0)

def quiescent_Reference13Ideal [hReference13Ideal : Cert.Reference13Ideal.Facts] : Prop :=
  ∀ (m : (ℓ : Loc Cert.Reference13Ideal.nD Cert.Reference13Ideal.τ Cert.Reference13Ideal.sig) → Buf (Elt Ideal) ℓ) (g : Dev Cert.Reference13Ideal.nD → PrngReg), Pre_Reference13Ideal m →
    θ_run (Cert.Reference13Ideal.defs (F := Ideal)) (onTc (τ := Cert.Reference13Ideal.τ) (Cert.Reference13Ideal.main (F := Ideal))) ⟨m, fun _ => 0, g⟩ (fun r => (∀ c : Dev Cert.Reference13Ideal.nD,
      r.2.mem ((c.tc : Thread Cert.Reference13Ideal.nD Cert.Reference13Ideal.τ).loc Cert.Reference13Ideal.main_arg0) = m ((c.tc : Thread Cert.Reference13Ideal.nD Cert.Reference13Ideal.τ).loc Cert.Reference13Ideal.main_arg0)
      ∧ r.2.mem ((c.tc : Thread Cert.Reference13Ideal.nD Cert.Reference13Ideal.τ).loc Cert.Reference13Ideal.main_arg1) = m ((c.tc : Thread Cert.Reference13Ideal.nD Cert.Reference13Ideal.τ).loc Cert.Reference13Ideal.main_arg1))
      ∧ r.2.sem = fun _ => 0)

def quiescent_Kernel14 [hKernel14 : Cert.Kernel14.Facts] [hPre_down_experts_named : Cert.Pre_down_experts_named.Facts] : Prop :=
  ∀ (m : (ℓ : Loc Cert.Kernel14.nD Cert.Kernel14.τ Cert.Kernel14.sig) → Buf (Elt Bits) ℓ) (g : Dev Cert.Kernel14.nD → PrngReg), Pre_Kernel14 m →
    θ_run (Cert.Kernel14.defs (F := Bits)) (onTc (τ := Cert.Kernel14.τ) (Cert.Kernel14.main (F := Bits))) ⟨m, fun _ => 0, g⟩ (fun r => (∀ c : Dev Cert.Kernel14.nD,
      r.2.mem ((c.tc : Thread Cert.Kernel14.nD Cert.Kernel14.τ).loc Cert.Kernel14.main_arg0) = m ((c.tc : Thread Cert.Kernel14.nD Cert.Kernel14.τ).loc Cert.Kernel14.main_arg0)
      ∧ r.2.mem ((c.tc : Thread Cert.Kernel14.nD Cert.Kernel14.τ).loc Cert.Kernel14.main_arg1) = m ((c.tc : Thread Cert.Kernel14.nD Cert.Kernel14.τ).loc Cert.Kernel14.main_arg1)
      ∧ r.2.mem ((c.tc : Thread Cert.Kernel14.nD Cert.Kernel14.τ).loc Cert.Kernel14.main_arg2) = m ((c.tc : Thread Cert.Kernel14.nD Cert.Kernel14.τ).loc Cert.Kernel14.main_arg2)
      ∧ r.2.mem ((c.tc : Thread Cert.Kernel14.nD Cert.Kernel14.τ).loc Cert.Kernel14.main_arg3) = m ((c.tc : Thread Cert.Kernel14.nD Cert.Kernel14.τ).loc Cert.Kernel14.main_arg3))
      ∧ r.2.sem = fun _ => 0)

def quiescent_Kernel14Ideal [hKernel14Ideal : Cert.Kernel14Ideal.Facts] [hPre_down_experts_named : Cert.Pre_down_experts_named.Facts] : Prop :=
  ∀ (m : (ℓ : Loc Cert.Kernel14Ideal.nD Cert.Kernel14Ideal.τ Cert.Kernel14Ideal.sig) → Buf (Elt Ideal) ℓ) (g : Dev Cert.Kernel14Ideal.nD → PrngReg), Pre_Kernel14Ideal m →
    θ_run (Cert.Kernel14Ideal.defs (F := Ideal)) (onTc (τ := Cert.Kernel14Ideal.τ) (Cert.Kernel14Ideal.main (F := Ideal))) ⟨m, fun _ => 0, g⟩ (fun r => (∀ c : Dev Cert.Kernel14Ideal.nD,
      r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
      ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
      ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
      ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ r.2.sem = fun _ => 0)

def quiescent_Reference14Ideal [hReference14Ideal : Cert.Reference14Ideal.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3))
      ∧ r.2.sem = fun _ => 0)

def quiescent_Reference14Ideal_pre_down_experts_named [hReference14Ideal : Cert.Reference14Ideal.Facts] [hPre_down_experts_named : Cert.Pre_down_experts_named.Facts] : Prop :=
  ∀ (m : (ℓ : Loc Cert.Reference14Ideal.nD Cert.Reference14Ideal.τ Cert.Reference14Ideal.sig) → Buf (Elt Ideal) ℓ) (g : Dev Cert.Reference14Ideal.nD → PrngReg), Pre_Reference14Ideal_down_experts_named m →
    θ_run (Cert.Reference14Ideal.defs (F := Ideal)) (onTc (τ := Cert.Reference14Ideal.τ) (Cert.Reference14Ideal.main (F := Ideal))) ⟨m, fun _ => 0, g⟩ (fun r => (∀ c : Dev Cert.Reference14Ideal.nD,
      r.2.mem ((c.tc : Thread Cert.Reference14Ideal.nD Cert.Reference14Ideal.τ).loc Cert.Reference14Ideal.main_arg0) = m ((c.tc : Thread Cert.Reference14Ideal.nD Cert.Reference14Ideal.τ).loc Cert.Reference14Ideal.main_arg0)
      ∧ r.2.mem ((c.tc : Thread Cert.Reference14Ideal.nD Cert.Reference14Ideal.τ).loc Cert.Reference14Ideal.main_arg1) = m ((c.tc : Thread Cert.Reference14Ideal.nD Cert.Reference14Ideal.τ).loc Cert.Reference14Ideal.main_arg1)
      ∧ r.2.mem ((c.tc : Thread Cert.Reference14Ideal.nD Cert.Reference14Ideal.τ).loc Cert.Reference14Ideal.main_arg2) = m ((c.tc : Thread Cert.Reference14Ideal.nD Cert.Reference14Ideal.τ).loc Cert.Reference14Ideal.main_arg2)
      ∧ r.2.mem ((c.tc : Thread Cert.Reference14Ideal.nD Cert.Reference14Ideal.τ).loc Cert.Reference14Ideal.main_arg3) = m ((c.tc : Thread Cert.Reference14Ideal.nD Cert.Reference14Ideal.τ).loc Cert.Reference14Ideal.main_arg3))
      ∧ r.2.sem = fun _ => 0)

def quiescent_Kernel15 [hKernel15 : Cert.Kernel15.Facts] : Prop :=
  ∀ (m : (ℓ : Loc Cert.Kernel15.nD Cert.Kernel15.τ Cert.Kernel15.sig) → Buf (Elt Bits) ℓ) (g : Dev Cert.Kernel15.nD → PrngReg), Pre_Kernel15 m →
    θ_run (Cert.Kernel15.defs (F := Bits)) (onTc (τ := Cert.Kernel15.τ) (Cert.Kernel15.main (F := Bits))) ⟨m, fun _ => 0, g⟩ (fun r => (∀ c : Dev Cert.Kernel15.nD,
      r.2.mem ((c.tc : Thread Cert.Kernel15.nD Cert.Kernel15.τ).loc Cert.Kernel15.main_arg0) = m ((c.tc : Thread Cert.Kernel15.nD Cert.Kernel15.τ).loc Cert.Kernel15.main_arg0)
      ∧ r.2.mem ((c.tc : Thread Cert.Kernel15.nD Cert.Kernel15.τ).loc Cert.Kernel15.main_arg1) = m ((c.tc : Thread Cert.Kernel15.nD Cert.Kernel15.τ).loc Cert.Kernel15.main_arg1)
      ∧ r.2.mem ((c.tc : Thread Cert.Kernel15.nD Cert.Kernel15.τ).loc Cert.Kernel15.main_arg2) = m ((c.tc : Thread Cert.Kernel15.nD Cert.Kernel15.τ).loc Cert.Kernel15.main_arg2)
      ∧ r.2.mem ((c.tc : Thread Cert.Kernel15.nD Cert.Kernel15.τ).loc Cert.Kernel15.main_arg3) = m ((c.tc : Thread Cert.Kernel15.nD Cert.Kernel15.τ).loc Cert.Kernel15.main_arg3)
      ∧ r.2.mem ((c.tc : Thread Cert.Kernel15.nD Cert.Kernel15.τ).loc Cert.Kernel15.main_arg4) = m ((c.tc : Thread Cert.Kernel15.nD Cert.Kernel15.τ).loc Cert.Kernel15.main_arg4))
      ∧ r.2.sem = fun _ => 0)

def quiescent_Kernel15Ideal [hKernel15Ideal : Cert.Kernel15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg), Pre_Kernel15Ideal m →
    θ_run (Cert.Kernel15Ideal.defs (F := Ideal)) (onTc (τ := Cert.Kernel15Ideal.τ) (Cert.Kernel15Ideal.main (F := Ideal))) ⟨m, fun _ => 0, g⟩ (fun r => (∀ c : Dev Cert.Kernel15Ideal.nD,
      r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
      ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
      ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
      ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
      ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4))
      ∧ r.2.sem = fun _ => 0)

def quiescent_Reference15Ideal [hReference15Ideal : Cert.Reference15Ideal.Facts] : Prop :=
  ∀ (m : (ℓ : Loc Cert.Reference15Ideal.nD Cert.Reference15Ideal.τ Cert.Reference15Ideal.sig) → Buf (Elt Ideal) ℓ) (g : Dev Cert.Reference15Ideal.nD → PrngReg), Pre_Reference15Ideal m →
    θ_run (Cert.Reference15Ideal.defs (F := Ideal)) (onTc (τ := Cert.Reference15Ideal.τ) (Cert.Reference15Ideal.main (F := Ideal))) ⟨m, fun _ => 0, g⟩ (fun r => (∀ c : Dev Cert.Reference15Ideal.nD,
      r.2.mem ((c.tc : Thread Cert.Reference15Ideal.nD Cert.Reference15Ideal.τ).loc Cert.Reference15Ideal.main_arg0) = m ((c.tc : Thread Cert.Reference15Ideal.nD Cert.Reference15Ideal.τ).loc Cert.Reference15Ideal.main_arg0)
      ∧ r.2.mem ((c.tc : Thread Cert.Reference15Ideal.nD Cert.Reference15Ideal.τ).loc Cert.Reference15Ideal.main_arg1) = m ((c.tc : Thread Cert.Reference15Ideal.nD Cert.Reference15Ideal.τ).loc Cert.Reference15Ideal.main_arg1)
      ∧ r.2.mem ((c.tc : Thread Cert.Reference15Ideal.nD Cert.Reference15Ideal.τ).loc Cert.Reference15Ideal.main_arg2) = m ((c.tc : Thread Cert.Reference15Ideal.nD Cert.Reference15Ideal.τ).loc Cert.Reference15Ideal.main_arg2)
      ∧ r.2.mem ((c.tc : Thread Cert.Reference15Ideal.nD Cert.Reference15Ideal.τ).loc Cert.Reference15Ideal.main_arg3) = m ((c.tc : Thread Cert.Reference15Ideal.nD Cert.Reference15Ideal.τ).loc Cert.Reference15Ideal.main_arg3)
      ∧ r.2.mem ((c.tc : Thread Cert.Reference15Ideal.nD Cert.Reference15Ideal.τ).loc Cert.Reference15Ideal.main_arg4) = m ((c.tc : Thread Cert.Reference15Ideal.nD Cert.Reference15Ideal.τ).loc Cert.Reference15Ideal.main_arg4))
      ∧ r.2.sem = fun _ => 0)

def quiescent_Kernel16 [hKernel16 : Cert.Kernel16.Facts] : Prop :=
  ∀ (m : (ℓ : Loc Cert.Kernel16.nD Cert.Kernel16.τ Cert.Kernel16.sig) → Buf (Elt Bits) ℓ) (g : Dev Cert.Kernel16.nD → PrngReg), Pre_Kernel16 m →
    θ_run (Cert.Kernel16.defs (F := Bits)) (onTc (τ := Cert.Kernel16.τ) (Cert.Kernel16.main (F := Bits))) ⟨m, fun _ => 0, g⟩ (fun r => (∀ c : Dev Cert.Kernel16.nD,
      r.2.mem ((c.tc : Thread Cert.Kernel16.nD Cert.Kernel16.τ).loc Cert.Kernel16.main_arg0) = m ((c.tc : Thread Cert.Kernel16.nD Cert.Kernel16.τ).loc Cert.Kernel16.main_arg0)
      ∧ r.2.mem ((c.tc : Thread Cert.Kernel16.nD Cert.Kernel16.τ).loc Cert.Kernel16.main_arg1) = m ((c.tc : Thread Cert.Kernel16.nD Cert.Kernel16.τ).loc Cert.Kernel16.main_arg1)
      ∧ r.2.mem ((c.tc : Thread Cert.Kernel16.nD Cert.Kernel16.τ).loc Cert.Kernel16.main_arg2) = m ((c.tc : Thread Cert.Kernel16.nD Cert.Kernel16.τ).loc Cert.Kernel16.main_arg2)
      ∧ r.2.mem ((c.tc : Thread Cert.Kernel16.nD Cert.Kernel16.τ).loc Cert.Kernel16.main_arg3) = m ((c.tc : Thread Cert.Kernel16.nD Cert.Kernel16.τ).loc Cert.Kernel16.main_arg3))
      ∧ r.2.sem = fun _ => 0)

def quiescent_Kernel16Ideal [hKernel16Ideal : Cert.Kernel16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg), Pre_Kernel16Ideal m →
    θ_run (Cert.Kernel16Ideal.defs (F := Ideal)) (onTc (τ := Cert.Kernel16Ideal.τ) (Cert.Kernel16Ideal.main (F := Ideal))) ⟨m, fun _ => 0, g⟩ (fun r => (∀ c : Dev Cert.Kernel16Ideal.nD,
      r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
      ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
      ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
      ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ r.2.sem = fun _ => 0)

def quiescent_Reference16Ideal [hReference16Ideal : Cert.Reference16Ideal.Facts] : Prop :=
  ∀ (m : (ℓ : Loc Cert.Reference16Ideal.nD Cert.Reference16Ideal.τ Cert.Reference16Ideal.sig) → Buf (Elt Ideal) ℓ) (g : Dev Cert.Reference16Ideal.nD → PrngReg), Pre_Reference16Ideal m →
    θ_run (Cert.Reference16Ideal.defs (F := Ideal)) (onTc (τ := Cert.Reference16Ideal.τ) (Cert.Reference16Ideal.main (F := Ideal))) ⟨m, fun _ => 0, g⟩ (fun r => (∀ c : Dev Cert.Reference16Ideal.nD,
      r.2.mem ((c.tc : Thread Cert.Reference16Ideal.nD Cert.Reference16Ideal.τ).loc Cert.Reference16Ideal.main_arg0) = m ((c.tc : Thread Cert.Reference16Ideal.nD Cert.Reference16Ideal.τ).loc Cert.Reference16Ideal.main_arg0)
      ∧ r.2.mem ((c.tc : Thread Cert.Reference16Ideal.nD Cert.Reference16Ideal.τ).loc Cert.Reference16Ideal.main_arg1) = m ((c.tc : Thread Cert.Reference16Ideal.nD Cert.Reference16Ideal.τ).loc Cert.Reference16Ideal.main_arg1)
      ∧ r.2.mem ((c.tc : Thread Cert.Reference16Ideal.nD Cert.Reference16Ideal.τ).loc Cert.Reference16Ideal.main_arg2) = m ((c.tc : Thread Cert.Reference16Ideal.nD Cert.Reference16Ideal.τ).loc Cert.Reference16Ideal.main_arg2)
      ∧ r.2.mem ((c.tc : Thread Cert.Reference16Ideal.nD Cert.Reference16Ideal.τ).loc Cert.Reference16Ideal.main_arg3) = m ((c.tc : Thread Cert.Reference16Ideal.nD Cert.Reference16Ideal.τ).loc Cert.Reference16Ideal.main_arg3))
      ∧ r.2.sem = fun _ => 0)

def quiescent_Kernel17 [hKernel17 : Cert.Kernel17.Facts] : Prop :=
  ∀ (m : (ℓ : Loc Cert.Kernel17.nD Cert.Kernel17.τ Cert.Kernel17.sig) → Buf (Elt Bits) ℓ) (g : Dev Cert.Kernel17.nD → PrngReg), Pre_Kernel17 m →
    θ_run (Cert.Kernel17.defs (F := Bits)) (onTc (τ := Cert.Kernel17.τ) (Cert.Kernel17.main (F := Bits))) ⟨m, fun _ => 0, g⟩ (fun r => (∀ c : Dev Cert.Kernel17.nD,
      r.2.mem ((c.tc : Thread Cert.Kernel17.nD Cert.Kernel17.τ).loc Cert.Kernel17.main_arg0) = m ((c.tc : Thread Cert.Kernel17.nD Cert.Kernel17.τ).loc Cert.Kernel17.main_arg0)
      ∧ r.2.mem ((c.tc : Thread Cert.Kernel17.nD Cert.Kernel17.τ).loc Cert.Kernel17.main_arg1) = m ((c.tc : Thread Cert.Kernel17.nD Cert.Kernel17.τ).loc Cert.Kernel17.main_arg1))
      ∧ r.2.sem = fun _ => 0)

def quiescent_Kernel17Ideal [hKernel17Ideal : Cert.Kernel17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg), Pre_Kernel17Ideal m →
    θ_run (Cert.Kernel17Ideal.defs (F := Ideal)) (onTc (τ := Cert.Kernel17Ideal.τ) (Cert.Kernel17Ideal.main (F := Ideal))) ⟨m, fun _ => 0, g⟩ (fun r => (∀ c : Dev Cert.Kernel17Ideal.nD,
      r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
      ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ r.2.sem = fun _ => 0)

def quiescent_Reference17Ideal [hReference17Ideal : Cert.Reference17Ideal.Facts] : Prop :=
  ∀ (m : (ℓ : Loc Cert.Reference17Ideal.nD Cert.Reference17Ideal.τ Cert.Reference17Ideal.sig) → Buf (Elt Ideal) ℓ) (g : Dev Cert.Reference17Ideal.nD → PrngReg), Pre_Reference17Ideal m →
    θ_run (Cert.Reference17Ideal.defs (F := Ideal)) (onTc (τ := Cert.Reference17Ideal.τ) (Cert.Reference17Ideal.main (F := Ideal))) ⟨m, fun _ => 0, g⟩ (fun r => (∀ c : Dev Cert.Reference17Ideal.nD,
      r.2.mem ((c.tc : Thread Cert.Reference17Ideal.nD Cert.Reference17Ideal.τ).loc Cert.Reference17Ideal.main_arg0) = m ((c.tc : Thread Cert.Reference17Ideal.nD Cert.Reference17Ideal.τ).loc Cert.Reference17Ideal.main_arg0)
      ∧ r.2.mem ((c.tc : Thread Cert.Reference17Ideal.nD Cert.Reference17Ideal.τ).loc Cert.Reference17Ideal.main_arg1) = m ((c.tc : Thread Cert.Reference17Ideal.nD Cert.Reference17Ideal.τ).loc Cert.Reference17Ideal.main_arg1))
      ∧ r.2.sem = fun _ => 0)

def quiescent_Kernel18 [hKernel18 : Cert.Kernel18.Facts] : Prop :=
  ∀ (m : (ℓ : Loc Cert.Kernel18.nD Cert.Kernel18.τ Cert.Kernel18.sig) → Buf (Elt Bits) ℓ) (g : Dev Cert.Kernel18.nD → PrngReg), Pre_Kernel18 m →
    θ_run (Cert.Kernel18.defs (F := Bits)) (onTc (τ := Cert.Kernel18.τ) (Cert.Kernel18.main (F := Bits))) ⟨m, fun _ => 0, g⟩ (fun r => (∀ c : Dev Cert.Kernel18.nD,
      r.2.mem ((c.tc : Thread Cert.Kernel18.nD Cert.Kernel18.τ).loc Cert.Kernel18.main_arg0) = m ((c.tc : Thread Cert.Kernel18.nD Cert.Kernel18.τ).loc Cert.Kernel18.main_arg0)
      ∧ r.2.mem ((c.tc : Thread Cert.Kernel18.nD Cert.Kernel18.τ).loc Cert.Kernel18.main_arg1) = m ((c.tc : Thread Cert.Kernel18.nD Cert.Kernel18.τ).loc Cert.Kernel18.main_arg1)
      ∧ r.2.mem ((c.tc : Thread Cert.Kernel18.nD Cert.Kernel18.τ).loc Cert.Kernel18.main_arg2) = m ((c.tc : Thread Cert.Kernel18.nD Cert.Kernel18.τ).loc Cert.Kernel18.main_arg2)
      ∧ r.2.mem ((c.tc : Thread Cert.Kernel18.nD Cert.Kernel18.τ).loc Cert.Kernel18.main_arg3) = m ((c.tc : Thread Cert.Kernel18.nD Cert.Kernel18.τ).loc Cert.Kernel18.main_arg3))
      ∧ r.2.sem = fun _ => 0)

def quiescent_Kernel18Ideal [hKernel18Ideal : Cert.Kernel18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg), Pre_Kernel18Ideal m →
    θ_run (Cert.Kernel18Ideal.defs (F := Ideal)) (onTc (τ := Cert.Kernel18Ideal.τ) (Cert.Kernel18Ideal.main (F := Ideal))) ⟨m, fun _ => 0, g⟩ (fun r => (∀ c : Dev Cert.Kernel18Ideal.nD,
      r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
      ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
      ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
      ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ r.2.sem = fun _ => 0)

def quiescent_Reference18Ideal [hReference18Ideal : Cert.Reference18Ideal.Facts] : Prop :=
  ∀ (m : (ℓ : Loc Cert.Reference18Ideal.nD Cert.Reference18Ideal.τ Cert.Reference18Ideal.sig) → Buf (Elt Ideal) ℓ) (g : Dev Cert.Reference18Ideal.nD → PrngReg), Pre_Reference18Ideal m →
    θ_run (Cert.Reference18Ideal.defs (F := Ideal)) (onTc (τ := Cert.Reference18Ideal.τ) (Cert.Reference18Ideal.main (F := Ideal))) ⟨m, fun _ => 0, g⟩ (fun r => (∀ c : Dev Cert.Reference18Ideal.nD,
      r.2.mem ((c.tc : Thread Cert.Reference18Ideal.nD Cert.Reference18Ideal.τ).loc Cert.Reference18Ideal.main_arg0) = m ((c.tc : Thread Cert.Reference18Ideal.nD Cert.Reference18Ideal.τ).loc Cert.Reference18Ideal.main_arg0)
      ∧ r.2.mem ((c.tc : Thread Cert.Reference18Ideal.nD Cert.Reference18Ideal.τ).loc Cert.Reference18Ideal.main_arg1) = m ((c.tc : Thread Cert.Reference18Ideal.nD Cert.Reference18Ideal.τ).loc Cert.Reference18Ideal.main_arg1)
      ∧ r.2.mem ((c.tc : Thread Cert.Reference18Ideal.nD Cert.Reference18Ideal.τ).loc Cert.Reference18Ideal.main_arg2) = m ((c.tc : Thread Cert.Reference18Ideal.nD Cert.Reference18Ideal.τ).loc Cert.Reference18Ideal.main_arg2)
      ∧ r.2.mem ((c.tc : Thread Cert.Reference18Ideal.nD Cert.Reference18Ideal.τ).loc Cert.Reference18Ideal.main_arg3) = m ((c.tc : Thread Cert.Reference18Ideal.nD Cert.Reference18Ideal.τ).loc Cert.Reference18Ideal.main_arg3))
      ∧ r.2.sem = fun _ => 0)

def quiescent_Kernel19 [hKernel19 : Cert.Kernel19.Facts] : Prop :=
  ∀ (m : (ℓ : Loc Cert.Kernel19.nD Cert.Kernel19.τ Cert.Kernel19.sig) → Buf (Elt Bits) ℓ) (g : Dev Cert.Kernel19.nD → PrngReg), Pre_Kernel19 m →
    θ_run (Cert.Kernel19.defs (F := Bits)) (onTc (τ := Cert.Kernel19.τ) (Cert.Kernel19.main (F := Bits))) ⟨m, fun _ => 0, g⟩ (fun r => (∀ c : Dev Cert.Kernel19.nD,
      r.2.mem ((c.tc : Thread Cert.Kernel19.nD Cert.Kernel19.τ).loc Cert.Kernel19.main_arg0) = m ((c.tc : Thread Cert.Kernel19.nD Cert.Kernel19.τ).loc Cert.Kernel19.main_arg0)
      ∧ r.2.mem ((c.tc : Thread Cert.Kernel19.nD Cert.Kernel19.τ).loc Cert.Kernel19.main_arg1) = m ((c.tc : Thread Cert.Kernel19.nD Cert.Kernel19.τ).loc Cert.Kernel19.main_arg1)
      ∧ r.2.mem ((c.tc : Thread Cert.Kernel19.nD Cert.Kernel19.τ).loc Cert.Kernel19.main_arg2) = m ((c.tc : Thread Cert.Kernel19.nD Cert.Kernel19.τ).loc Cert.Kernel19.main_arg2)
      ∧ r.2.mem ((c.tc : Thread Cert.Kernel19.nD Cert.Kernel19.τ).loc Cert.Kernel19.main_arg3) = m ((c.tc : Thread Cert.Kernel19.nD Cert.Kernel19.τ).loc Cert.Kernel19.main_arg3))
      ∧ r.2.sem = fun _ => 0)

def quiescent_Kernel19Ideal [hKernel19Ideal : Cert.Kernel19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg), Pre_Kernel19Ideal m →
    θ_run (Cert.Kernel19Ideal.defs (F := Ideal)) (onTc (τ := Cert.Kernel19Ideal.τ) (Cert.Kernel19Ideal.main (F := Ideal))) ⟨m, fun _ => 0, g⟩ (fun r => (∀ c : Dev Cert.Kernel19Ideal.nD,
      r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
      ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
      ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
      ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ r.2.sem = fun _ => 0)

def quiescent_Reference19Ideal [hReference19Ideal : Cert.Reference19Ideal.Facts] : Prop :=
  ∀ (m : (ℓ : Loc Cert.Reference19Ideal.nD Cert.Reference19Ideal.τ Cert.Reference19Ideal.sig) → Buf (Elt Ideal) ℓ) (g : Dev Cert.Reference19Ideal.nD → PrngReg), Pre_Reference19Ideal m →
    θ_run (Cert.Reference19Ideal.defs (F := Ideal)) (onTc (τ := Cert.Reference19Ideal.τ) (Cert.Reference19Ideal.main (F := Ideal))) ⟨m, fun _ => 0, g⟩ (fun r => (∀ c : Dev Cert.Reference19Ideal.nD,
      r.2.mem ((c.tc : Thread Cert.Reference19Ideal.nD Cert.Reference19Ideal.τ).loc Cert.Reference19Ideal.main_arg0) = m ((c.tc : Thread Cert.Reference19Ideal.nD Cert.Reference19Ideal.τ).loc Cert.Reference19Ideal.main_arg0)
      ∧ r.2.mem ((c.tc : Thread Cert.Reference19Ideal.nD Cert.Reference19Ideal.τ).loc Cert.Reference19Ideal.main_arg1) = m ((c.tc : Thread Cert.Reference19Ideal.nD Cert.Reference19Ideal.τ).loc Cert.Reference19Ideal.main_arg1)
      ∧ r.2.mem ((c.tc : Thread Cert.Reference19Ideal.nD Cert.Reference19Ideal.τ).loc Cert.Reference19Ideal.main_arg2) = m ((c.tc : Thread Cert.Reference19Ideal.nD Cert.Reference19Ideal.τ).loc Cert.Reference19Ideal.main_arg2)
      ∧ r.2.mem ((c.tc : Thread Cert.Reference19Ideal.nD Cert.Reference19Ideal.τ).loc Cert.Reference19Ideal.main_arg3) = m ((c.tc : Thread Cert.Reference19Ideal.nD Cert.Reference19Ideal.τ).loc Cert.Reference19Ideal.main_arg3))
      ∧ r.2.sem = fun _ => 0)

def quiescent_Kernel20 [hKernel20 : Cert.Kernel20.Facts] : Prop :=
  ∀ (m : (ℓ : Loc Cert.Kernel20.nD Cert.Kernel20.τ Cert.Kernel20.sig) → Buf (Elt Bits) ℓ) (g : Dev Cert.Kernel20.nD → PrngReg), Pre_Kernel20 m →
    θ_run (Cert.Kernel20.defs (F := Bits)) (onTc (τ := Cert.Kernel20.τ) (Cert.Kernel20.main (F := Bits))) ⟨m, fun _ => 0, g⟩ (fun r => (∀ c : Dev Cert.Kernel20.nD,
      r.2.mem ((c.tc : Thread Cert.Kernel20.nD Cert.Kernel20.τ).loc Cert.Kernel20.main_arg0) = m ((c.tc : Thread Cert.Kernel20.nD Cert.Kernel20.τ).loc Cert.Kernel20.main_arg0)
      ∧ r.2.mem ((c.tc : Thread Cert.Kernel20.nD Cert.Kernel20.τ).loc Cert.Kernel20.main_arg1) = m ((c.tc : Thread Cert.Kernel20.nD Cert.Kernel20.τ).loc Cert.Kernel20.main_arg1)
      ∧ r.2.mem ((c.tc : Thread Cert.Kernel20.nD Cert.Kernel20.τ).loc Cert.Kernel20.main_arg2) = m ((c.tc : Thread Cert.Kernel20.nD Cert.Kernel20.τ).loc Cert.Kernel20.main_arg2)
      ∧ r.2.mem ((c.tc : Thread Cert.Kernel20.nD Cert.Kernel20.τ).loc Cert.Kernel20.main_arg3) = m ((c.tc : Thread Cert.Kernel20.nD Cert.Kernel20.τ).loc Cert.Kernel20.main_arg3))
      ∧ r.2.sem = fun _ => 0)

def quiescent_Kernel20Ideal [hKernel20Ideal : Cert.Kernel20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg), Pre_Kernel20Ideal m →
    θ_run (Cert.Kernel20Ideal.defs (F := Ideal)) (onTc (τ := Cert.Kernel20Ideal.τ) (Cert.Kernel20Ideal.main (F := Ideal))) ⟨m, fun _ => 0, g⟩ (fun r => (∀ c : Dev Cert.Kernel20Ideal.nD,
      r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
      ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
      ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
      ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ r.2.sem = fun _ => 0)

def quiescent_Reference20Ideal [hReference20Ideal : Cert.Reference20Ideal.Facts] : Prop :=
  ∀ (m : (ℓ : Loc Cert.Reference20Ideal.nD Cert.Reference20Ideal.τ Cert.Reference20Ideal.sig) → Buf (Elt Ideal) ℓ) (g : Dev Cert.Reference20Ideal.nD → PrngReg), Pre_Reference20Ideal m →
    θ_run (Cert.Reference20Ideal.defs (F := Ideal)) (onTc (τ := Cert.Reference20Ideal.τ) (Cert.Reference20Ideal.main (F := Ideal))) ⟨m, fun _ => 0, g⟩ (fun r => (∀ c : Dev Cert.Reference20Ideal.nD,
      r.2.mem ((c.tc : Thread Cert.Reference20Ideal.nD Cert.Reference20Ideal.τ).loc Cert.Reference20Ideal.main_arg0) = m ((c.tc : Thread Cert.Reference20Ideal.nD Cert.Reference20Ideal.τ).loc Cert.Reference20Ideal.main_arg0)
      ∧ r.2.mem ((c.tc : Thread Cert.Reference20Ideal.nD Cert.Reference20Ideal.τ).loc Cert.Reference20Ideal.main_arg1) = m ((c.tc : Thread Cert.Reference20Ideal.nD Cert.Reference20Ideal.τ).loc Cert.Reference20Ideal.main_arg1)
      ∧ r.2.mem ((c.tc : Thread Cert.Reference20Ideal.nD Cert.Reference20Ideal.τ).loc Cert.Reference20Ideal.main_arg2) = m ((c.tc : Thread Cert.Reference20Ideal.nD Cert.Reference20Ideal.τ).loc Cert.Reference20Ideal.main_arg2)
      ∧ r.2.mem ((c.tc : Thread Cert.Reference20Ideal.nD Cert.Reference20Ideal.τ).loc Cert.Reference20Ideal.main_arg3) = m ((c.tc : Thread Cert.Reference20Ideal.nD Cert.Reference20Ideal.τ).loc Cert.Reference20Ideal.main_arg3))
      ∧ r.2.sem = fun _ => 0)

def quiescent_Kernel21 [hKernel21 : Cert.Kernel21.Facts] : Prop :=
  ∀ (m : (ℓ : Loc Cert.Kernel21.nD Cert.Kernel21.τ Cert.Kernel21.sig) → Buf (Elt Bits) ℓ) (g : Dev Cert.Kernel21.nD → PrngReg), Pre_Kernel21 m →
    θ_run (Cert.Kernel21.defs (F := Bits)) (onTc (τ := Cert.Kernel21.τ) (Cert.Kernel21.main (F := Bits))) ⟨m, fun _ => 0, g⟩ (fun r => (∀ c : Dev Cert.Kernel21.nD,
      r.2.mem ((c.tc : Thread Cert.Kernel21.nD Cert.Kernel21.τ).loc Cert.Kernel21.main_arg0) = m ((c.tc : Thread Cert.Kernel21.nD Cert.Kernel21.τ).loc Cert.Kernel21.main_arg0)
      ∧ r.2.mem ((c.tc : Thread Cert.Kernel21.nD Cert.Kernel21.τ).loc Cert.Kernel21.main_arg1) = m ((c.tc : Thread Cert.Kernel21.nD Cert.Kernel21.τ).loc Cert.Kernel21.main_arg1))
      ∧ r.2.sem = fun _ => 0)

def quiescent_Kernel21Ideal [hKernel21Ideal : Cert.Kernel21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg), Pre_Kernel21Ideal m →
    θ_run (Cert.Kernel21Ideal.defs (F := Ideal)) (onTc (τ := Cert.Kernel21Ideal.τ) (Cert.Kernel21Ideal.main (F := Ideal))) ⟨m, fun _ => 0, g⟩ (fun r => (∀ c : Dev Cert.Kernel21Ideal.nD,
      r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
      ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ r.2.sem = fun _ => 0)

def quiescent_Reference21Ideal [hReference21Ideal : Cert.Reference21Ideal.Facts] : Prop :=
  ∀ (m : (ℓ : Loc Cert.Reference21Ideal.nD Cert.Reference21Ideal.τ Cert.Reference21Ideal.sig) → Buf (Elt Ideal) ℓ) (g : Dev Cert.Reference21Ideal.nD → PrngReg), Pre_Reference21Ideal m →
    θ_run (Cert.Reference21Ideal.defs (F := Ideal)) (onTc (τ := Cert.Reference21Ideal.τ) (Cert.Reference21Ideal.main (F := Ideal))) ⟨m, fun _ => 0, g⟩ (fun r => (∀ c : Dev Cert.Reference21Ideal.nD,
      r.2.mem ((c.tc : Thread Cert.Reference21Ideal.nD Cert.Reference21Ideal.τ).loc Cert.Reference21Ideal.main_arg0) = m ((c.tc : Thread Cert.Reference21Ideal.nD Cert.Reference21Ideal.τ).loc Cert.Reference21Ideal.main_arg0)
      ∧ r.2.mem ((c.tc : Thread Cert.Reference21Ideal.nD Cert.Reference21Ideal.τ).loc Cert.Reference21Ideal.main_arg1) = m ((c.tc : Thread Cert.Reference21Ideal.nD Cert.Reference21Ideal.τ).loc Cert.Reference21Ideal.main_arg1))
      ∧ r.2.sem = fun _ => 0)

def quiescent_Kernel22 [hKernel22 : Cert.Kernel22.Facts] : Prop :=
  ∀ (m : (ℓ : Loc Cert.Kernel22.nD Cert.Kernel22.τ Cert.Kernel22.sig) → Buf (Elt Bits) ℓ) (g : Dev Cert.Kernel22.nD → PrngReg), Pre_Kernel22 m →
    θ_run (Cert.Kernel22.defs (F := Bits)) (onTc (τ := Cert.Kernel22.τ) (Cert.Kernel22.main (F := Bits))) ⟨m, fun _ => 0, g⟩ (fun r => (∀ c : Dev Cert.Kernel22.nD,
      r.2.mem ((c.tc : Thread Cert.Kernel22.nD Cert.Kernel22.τ).loc Cert.Kernel22.main_arg0) = m ((c.tc : Thread Cert.Kernel22.nD Cert.Kernel22.τ).loc Cert.Kernel22.main_arg0)
      ∧ r.2.mem ((c.tc : Thread Cert.Kernel22.nD Cert.Kernel22.τ).loc Cert.Kernel22.main_arg1) = m ((c.tc : Thread Cert.Kernel22.nD Cert.Kernel22.τ).loc Cert.Kernel22.main_arg1))
      ∧ r.2.sem = fun _ => 0)

def quiescent_Kernel22Ideal [hKernel22Ideal : Cert.Kernel22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg), Pre_Kernel22Ideal m →
    θ_run (Cert.Kernel22Ideal.defs (F := Ideal)) (onTc (τ := Cert.Kernel22Ideal.τ) (Cert.Kernel22Ideal.main (F := Ideal))) ⟨m, fun _ => 0, g⟩ (fun r => (∀ c : Dev Cert.Kernel22Ideal.nD,
      r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
      ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ r.2.sem = fun _ => 0)

def quiescent_Reference22Ideal [hReference22Ideal : Cert.Reference22Ideal.Facts] : Prop :=
  ∀ (m : (ℓ : Loc Cert.Reference22Ideal.nD Cert.Reference22Ideal.τ Cert.Reference22Ideal.sig) → Buf (Elt Ideal) ℓ) (g : Dev Cert.Reference22Ideal.nD → PrngReg), Pre_Reference22Ideal m →
    θ_run (Cert.Reference22Ideal.defs (F := Ideal)) (onTc (τ := Cert.Reference22Ideal.τ) (Cert.Reference22Ideal.main (F := Ideal))) ⟨m, fun _ => 0, g⟩ (fun r => (∀ c : Dev Cert.Reference22Ideal.nD,
      r.2.mem ((c.tc : Thread Cert.Reference22Ideal.nD Cert.Reference22Ideal.τ).loc Cert.Reference22Ideal.main_arg0) = m ((c.tc : Thread Cert.Reference22Ideal.nD Cert.Reference22Ideal.τ).loc Cert.Reference22Ideal.main_arg0)
      ∧ r.2.mem ((c.tc : Thread Cert.Reference22Ideal.nD Cert.Reference22Ideal.τ).loc Cert.Reference22Ideal.main_arg1) = m ((c.tc : Thread Cert.Reference22Ideal.nD Cert.Reference22Ideal.τ).loc Cert.Reference22Ideal.main_arg1))
      ∧ r.2.sem = fun _ => 0)

def quiescent_Kernel23 [hKernel23 : Cert.Kernel23.Facts] : Prop :=
  ∀ (m : (ℓ : Loc Cert.Kernel23.nD Cert.Kernel23.τ Cert.Kernel23.sig) → Buf (Elt Bits) ℓ) (g : Dev Cert.Kernel23.nD → PrngReg), Pre_Kernel23 m →
    θ_run (Cert.Kernel23.defs (F := Bits)) (onTc (τ := Cert.Kernel23.τ) (Cert.Kernel23.main (F := Bits))) ⟨m, fun _ => 0, g⟩ (fun r => (∀ c : Dev Cert.Kernel23.nD,
      r.2.mem ((c.tc : Thread Cert.Kernel23.nD Cert.Kernel23.τ).loc Cert.Kernel23.main_arg0) = m ((c.tc : Thread Cert.Kernel23.nD Cert.Kernel23.τ).loc Cert.Kernel23.main_arg0)
      ∧ r.2.mem ((c.tc : Thread Cert.Kernel23.nD Cert.Kernel23.τ).loc Cert.Kernel23.main_arg1) = m ((c.tc : Thread Cert.Kernel23.nD Cert.Kernel23.τ).loc Cert.Kernel23.main_arg1))
      ∧ r.2.sem = fun _ => 0)

def quiescent_Kernel23Ideal [hKernel23Ideal : Cert.Kernel23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg), Pre_Kernel23Ideal m →
    θ_run (Cert.Kernel23Ideal.defs (F := Ideal)) (onTc (τ := Cert.Kernel23Ideal.τ) (Cert.Kernel23Ideal.main (F := Ideal))) ⟨m, fun _ => 0, g⟩ (fun r => (∀ c : Dev Cert.Kernel23Ideal.nD,
      r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
      ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ r.2.sem = fun _ => 0)

def quiescent_Reference23Ideal [hReference23Ideal : Cert.Reference23Ideal.Facts] : Prop :=
  ∀ (m : (ℓ : Loc Cert.Reference23Ideal.nD Cert.Reference23Ideal.τ Cert.Reference23Ideal.sig) → Buf (Elt Ideal) ℓ) (g : Dev Cert.Reference23Ideal.nD → PrngReg), Pre_Reference23Ideal m →
    θ_run (Cert.Reference23Ideal.defs (F := Ideal)) (onTc (τ := Cert.Reference23Ideal.τ) (Cert.Reference23Ideal.main (F := Ideal))) ⟨m, fun _ => 0, g⟩ (fun r => (∀ c : Dev Cert.Reference23Ideal.nD,
      r.2.mem ((c.tc : Thread Cert.Reference23Ideal.nD Cert.Reference23Ideal.τ).loc Cert.Reference23Ideal.main_arg0) = m ((c.tc : Thread Cert.Reference23Ideal.nD Cert.Reference23Ideal.τ).loc Cert.Reference23Ideal.main_arg0)
      ∧ r.2.mem ((c.tc : Thread Cert.Reference23Ideal.nD Cert.Reference23Ideal.τ).loc Cert.Reference23Ideal.main_arg1) = m ((c.tc : Thread Cert.Reference23Ideal.nD Cert.Reference23Ideal.τ).loc Cert.Reference23Ideal.main_arg1))
      ∧ r.2.sem = fun _ => 0)

def quiescent_Kernel24 [hKernel24 : Cert.Kernel24.Facts] : Prop :=
  ∀ (m : (ℓ : Loc Cert.Kernel24.nD Cert.Kernel24.τ Cert.Kernel24.sig) → Buf (Elt Bits) ℓ) (g : Dev Cert.Kernel24.nD → PrngReg), Pre_Kernel24 m →
    θ_run (Cert.Kernel24.defs (F := Bits)) (onTc (τ := Cert.Kernel24.τ) (Cert.Kernel24.main (F := Bits))) ⟨m, fun _ => 0, g⟩ (fun r => (∀ c : Dev Cert.Kernel24.nD,
      r.2.mem ((c.tc : Thread Cert.Kernel24.nD Cert.Kernel24.τ).loc Cert.Kernel24.main_arg0) = m ((c.tc : Thread Cert.Kernel24.nD Cert.Kernel24.τ).loc Cert.Kernel24.main_arg0)
      ∧ r.2.mem ((c.tc : Thread Cert.Kernel24.nD Cert.Kernel24.τ).loc Cert.Kernel24.main_arg1) = m ((c.tc : Thread Cert.Kernel24.nD Cert.Kernel24.τ).loc Cert.Kernel24.main_arg1)
      ∧ r.2.mem ((c.tc : Thread Cert.Kernel24.nD Cert.Kernel24.τ).loc Cert.Kernel24.main_arg2) = m ((c.tc : Thread Cert.Kernel24.nD Cert.Kernel24.τ).loc Cert.Kernel24.main_arg2))
      ∧ r.2.sem = fun _ => 0)

def quiescent_Kernel24Ideal [hKernel24Ideal : Cert.Kernel24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg), Pre_Kernel24Ideal m →
    θ_run (Cert.Kernel24Ideal.defs (F := Ideal)) (onTc (τ := Cert.Kernel24Ideal.τ) (Cert.Kernel24Ideal.main (F := Ideal))) ⟨m, fun _ => 0, g⟩ (fun r => (∀ c : Dev Cert.Kernel24Ideal.nD,
      r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
      ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
      ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2))
      ∧ r.2.sem = fun _ => 0)

def quiescent_Reference24Ideal [hReference24Ideal : Cert.Reference24Ideal.Facts] : Prop :=
  ∀ (m : (ℓ : Loc Cert.Reference24Ideal.nD Cert.Reference24Ideal.τ Cert.Reference24Ideal.sig) → Buf (Elt Ideal) ℓ) (g : Dev Cert.Reference24Ideal.nD → PrngReg), Pre_Reference24Ideal m →
    θ_run (Cert.Reference24Ideal.defs (F := Ideal)) (onTc (τ := Cert.Reference24Ideal.τ) (Cert.Reference24Ideal.main (F := Ideal))) ⟨m, fun _ => 0, g⟩ (fun r => (∀ c : Dev Cert.Reference24Ideal.nD,
      r.2.mem ((c.tc : Thread Cert.Reference24Ideal.nD Cert.Reference24Ideal.τ).loc Cert.Reference24Ideal.main_arg0) = m ((c.tc : Thread Cert.Reference24Ideal.nD Cert.Reference24Ideal.τ).loc Cert.Reference24Ideal.main_arg0)
      ∧ r.2.mem ((c.tc : Thread Cert.Reference24Ideal.nD Cert.Reference24Ideal.τ).loc Cert.Reference24Ideal.main_arg1) = m ((c.tc : Thread Cert.Reference24Ideal.nD Cert.Reference24Ideal.τ).loc Cert.Reference24Ideal.main_arg1)
      ∧ r.2.mem ((c.tc : Thread Cert.Reference24Ideal.nD Cert.Reference24Ideal.τ).loc Cert.Reference24Ideal.main_arg2) = m ((c.tc : Thread Cert.Reference24Ideal.nD Cert.Reference24Ideal.τ).loc Cert.Reference24Ideal.main_arg2))
      ∧ r.2.sem = fun _ => 0)

def quiescent_Kernel25 [hKernel25 : Cert.Kernel25.Facts] : Prop :=
  ∀ (m : (ℓ : Loc Cert.Kernel25.nD Cert.Kernel25.τ Cert.Kernel25.sig) → Buf (Elt Bits) ℓ) (g : Dev Cert.Kernel25.nD → PrngReg), Pre_Kernel25 m →
    θ_run (Cert.Kernel25.defs (F := Bits)) (onTc (τ := Cert.Kernel25.τ) (Cert.Kernel25.main (F := Bits))) ⟨m, fun _ => 0, g⟩ (fun r => (∀ c : Dev Cert.Kernel25.nD,
      r.2.mem ((c.tc : Thread Cert.Kernel25.nD Cert.Kernel25.τ).loc Cert.Kernel25.main_arg0) = m ((c.tc : Thread Cert.Kernel25.nD Cert.Kernel25.τ).loc Cert.Kernel25.main_arg0)
      ∧ r.2.mem ((c.tc : Thread Cert.Kernel25.nD Cert.Kernel25.τ).loc Cert.Kernel25.main_arg1) = m ((c.tc : Thread Cert.Kernel25.nD Cert.Kernel25.τ).loc Cert.Kernel25.main_arg1)
      ∧ r.2.mem ((c.tc : Thread Cert.Kernel25.nD Cert.Kernel25.τ).loc Cert.Kernel25.main_arg2) = m ((c.tc : Thread Cert.Kernel25.nD Cert.Kernel25.τ).loc Cert.Kernel25.main_arg2))
      ∧ r.2.sem = fun _ => 0)

def quiescent_Kernel25Ideal [hKernel25Ideal : Cert.Kernel25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg), Pre_Kernel25Ideal m →
    θ_run (Cert.Kernel25Ideal.defs (F := Ideal)) (onTc (τ := Cert.Kernel25Ideal.τ) (Cert.Kernel25Ideal.main (F := Ideal))) ⟨m, fun _ => 0, g⟩ (fun r => (∀ c : Dev Cert.Kernel25Ideal.nD,
      r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
      ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
      ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2))
      ∧ r.2.sem = fun _ => 0)

def quiescent_Reference25Ideal [hReference25Ideal : Cert.Reference25Ideal.Facts] : Prop :=
  ∀ (m : (ℓ : Loc Cert.Reference25Ideal.nD Cert.Reference25Ideal.τ Cert.Reference25Ideal.sig) → Buf (Elt Ideal) ℓ) (g : Dev Cert.Reference25Ideal.nD → PrngReg), Pre_Reference25Ideal m →
    θ_run (Cert.Reference25Ideal.defs (F := Ideal)) (onTc (τ := Cert.Reference25Ideal.τ) (Cert.Reference25Ideal.main (F := Ideal))) ⟨m, fun _ => 0, g⟩ (fun r => (∀ c : Dev Cert.Reference25Ideal.nD,
      r.2.mem ((c.tc : Thread Cert.Reference25Ideal.nD Cert.Reference25Ideal.τ).loc Cert.Reference25Ideal.main_arg0) = m ((c.tc : Thread Cert.Reference25Ideal.nD Cert.Reference25Ideal.τ).loc Cert.Reference25Ideal.main_arg0)
      ∧ r.2.mem ((c.tc : Thread Cert.Reference25Ideal.nD Cert.Reference25Ideal.τ).loc Cert.Reference25Ideal.main_arg1) = m ((c.tc : Thread Cert.Reference25Ideal.nD Cert.Reference25Ideal.τ).loc Cert.Reference25Ideal.main_arg1)
      ∧ r.2.mem ((c.tc : Thread Cert.Reference25Ideal.nD Cert.Reference25Ideal.τ).loc Cert.Reference25Ideal.main_arg2) = m ((c.tc : Thread Cert.Reference25Ideal.nD Cert.Reference25Ideal.τ).loc Cert.Reference25Ideal.main_arg2))
      ∧ r.2.sem = fun _ => 0)

def preserves_Kernel_KernelIdeal : Prop :=
  IdealRules.named_const.Statement Cert.KernelIdeal.κ "qscale" .f32 0x3DD53B95#32 (((Real.log 2)⁻¹ * (Real.sqrt 192)⁻¹ : ℝ) : EReal)

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v50)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v50) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v146) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)) →
    ∃ (v0 : (c : Dev Cert.Kernel2Ideal.nD) → Buf (Elt Ideal) ((c.tc : Thread Cert.Kernel2Ideal.nD Cert.Kernel2Ideal.τ).loc Cert.Kernel2Ideal.main_v0)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v0) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v5) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2))

def preserves_Kernel3_Kernel3Ideal : Prop :=
  True

def algebraic_Kernel3Ideal_Reference3Ideal [hKernel3Ideal : Cert.Kernel3Ideal.Facts] [hReference3Ideal : Cert.Reference3Ideal.Facts] : Prop :=
  ∀ (m : (ℓ : Loc Cert.Kernel3Ideal.nD Cert.Kernel3Ideal.τ Cert.Kernel3Ideal.sig) → Buf (Elt Ideal) ℓ) (g : Dev Cert.Kernel3Ideal.nD → PrngReg)
    (m' : (ℓ : Loc Cert.Reference3Ideal.nD Cert.Reference3Ideal.τ Cert.Reference3Ideal.sig) → Buf (Elt Ideal) ℓ) (g' : Dev Cert.Reference3Ideal.nD → PrngReg), Pre_Kernel3Ideal m →
    (∀ c : Dev Cert.Kernel3Ideal.nD,
      m' ((c.tc : Thread Cert.Reference3Ideal.nD Cert.Reference3Ideal.τ).loc Cert.Reference3Ideal.main_arg0) = m ((c.tc : Thread Cert.Kernel3Ideal.nD Cert.Kernel3Ideal.τ).loc Cert.Kernel3Ideal.main_arg0)
      ∧ m' ((c.tc : Thread Cert.Reference3Ideal.nD Cert.Reference3Ideal.τ).loc Cert.Reference3Ideal.main_arg1) = m ((c.tc : Thread Cert.Kernel3Ideal.nD Cert.Kernel3Ideal.τ).loc Cert.Kernel3Ideal.main_arg1)
      ∧ m' ((c.tc : Thread Cert.Reference3Ideal.nD Cert.Reference3Ideal.τ).loc Cert.Reference3Ideal.main_arg2) = m ((c.tc : Thread Cert.Kernel3Ideal.nD Cert.Kernel3Ideal.τ).loc Cert.Kernel3Ideal.main_arg2)
      ∧ m' ((c.tc : Thread Cert.Reference3Ideal.nD Cert.Reference3Ideal.τ).loc Cert.Reference3Ideal.main_arg3) = m ((c.tc : Thread Cert.Kernel3Ideal.nD Cert.Kernel3Ideal.τ).loc Cert.Kernel3Ideal.main_arg3)) →
    ∃ (v0 : (c : Dev Cert.Kernel3Ideal.nD) → Buf (Elt Ideal) ((c.tc : Thread Cert.Kernel3Ideal.nD Cert.Kernel3Ideal.τ).loc Cert.Kernel3Ideal.main_v1)),
      θ_run (Cert.Kernel3Ideal.defs (F := Ideal)) (onTc (τ := Cert.Kernel3Ideal.τ) (Cert.Kernel3Ideal.main (F := Ideal))) ⟨m, fun _ => 0, g⟩ (fun r => ∀ c : Dev Cert.Kernel3Ideal.nD,
          r.2.mem ((c.tc : Thread Cert.Kernel3Ideal.nD Cert.Kernel3Ideal.τ).loc Cert.Kernel3Ideal.main_v1) = v0 c
          ∧ r.2.mem ((c.tc : Thread Cert.Kernel3Ideal.nD Cert.Kernel3Ideal.τ).loc Cert.Kernel3Ideal.main_arg0) = m ((c.tc : Thread Cert.Kernel3Ideal.nD Cert.Kernel3Ideal.τ).loc Cert.Kernel3Ideal.main_arg0)
          ∧ r.2.mem ((c.tc : Thread Cert.Kernel3Ideal.nD Cert.Kernel3Ideal.τ).loc Cert.Kernel3Ideal.main_arg1) = m ((c.tc : Thread Cert.Kernel3Ideal.nD Cert.Kernel3Ideal.τ).loc Cert.Kernel3Ideal.main_arg1)
          ∧ r.2.mem ((c.tc : Thread Cert.Kernel3Ideal.nD Cert.Kernel3Ideal.τ).loc Cert.Kernel3Ideal.main_arg2) = m ((c.tc : Thread Cert.Kernel3Ideal.nD Cert.Kernel3Ideal.τ).loc Cert.Kernel3Ideal.main_arg2)
          ∧ r.2.mem ((c.tc : Thread Cert.Kernel3Ideal.nD Cert.Kernel3Ideal.τ).loc Cert.Kernel3Ideal.main_arg3) = m ((c.tc : Thread Cert.Kernel3Ideal.nD Cert.Kernel3Ideal.τ).loc Cert.Kernel3Ideal.main_arg3))
      ∧ θ_run (Cert.Reference3Ideal.defs (F := Ideal)) (onTc (τ := Cert.Reference3Ideal.τ) (Cert.Reference3Ideal.main (F := Ideal))) ⟨m', fun _ => 0, g'⟩ (fun r => ∀ c : Dev Cert.Reference3Ideal.nD,
          r.2.mem ((c.tc : Thread Cert.Reference3Ideal.nD Cert.Reference3Ideal.τ).loc Cert.Reference3Ideal.main_v10) = v0 c
          ∧ r.2.mem ((c.tc : Thread Cert.Reference3Ideal.nD Cert.Reference3Ideal.τ).loc Cert.Reference3Ideal.main_arg0) = m' ((c.tc : Thread Cert.Reference3Ideal.nD Cert.Reference3Ideal.τ).loc Cert.Reference3Ideal.main_arg0)
          ∧ r.2.mem ((c.tc : Thread Cert.Reference3Ideal.nD Cert.Reference3Ideal.τ).loc Cert.Reference3Ideal.main_arg1) = m' ((c.tc : Thread Cert.Reference3Ideal.nD Cert.Reference3Ideal.τ).loc Cert.Reference3Ideal.main_arg1)
          ∧ r.2.mem ((c.tc : Thread Cert.Reference3Ideal.nD Cert.Reference3Ideal.τ).loc Cert.Reference3Ideal.main_arg2) = m' ((c.tc : Thread Cert.Reference3Ideal.nD Cert.Reference3Ideal.τ).loc Cert.Reference3Ideal.main_arg2)
          ∧ r.2.mem ((c.tc : Thread Cert.Reference3Ideal.nD Cert.Reference3Ideal.τ).loc Cert.Reference3Ideal.main_arg3) = m' ((c.tc : Thread Cert.Reference3Ideal.nD Cert.Reference3Ideal.τ).loc Cert.Reference3Ideal.main_arg3))

def preserves_Kernel4_Kernel4Ideal : Prop :=
  True

def algebraic_Kernel4Ideal_Reference4Ideal [hKernel4Ideal : Cert.Kernel4Ideal.Facts] [hReference4Ideal : Cert.Reference4Ideal.Facts] : Prop :=
  ∀ (m : (ℓ : Loc Cert.Kernel4Ideal.nD Cert.Kernel4Ideal.τ Cert.Kernel4Ideal.sig) → Buf (Elt Ideal) ℓ) (g : Dev Cert.Kernel4Ideal.nD → PrngReg)
    (m' : (ℓ : Loc Cert.Reference4Ideal.nD Cert.Reference4Ideal.τ Cert.Reference4Ideal.sig) → Buf (Elt Ideal) ℓ) (g' : Dev Cert.Reference4Ideal.nD → PrngReg), Pre_Kernel4Ideal m →
    (∀ c : Dev Cert.Kernel4Ideal.nD,
      m' ((c.tc : Thread Cert.Reference4Ideal.nD Cert.Reference4Ideal.τ).loc Cert.Reference4Ideal.main_arg0) = m ((c.tc : Thread Cert.Kernel4Ideal.nD Cert.Kernel4Ideal.τ).loc Cert.Kernel4Ideal.main_arg0)
      ∧ m' ((c.tc : Thread Cert.Reference4Ideal.nD Cert.Reference4Ideal.τ).loc Cert.Reference4Ideal.main_arg1) = m ((c.tc : Thread Cert.Kernel4Ideal.nD Cert.Kernel4Ideal.τ).loc Cert.Kernel4Ideal.main_arg1)) →
    ∃ (v0 : (c : Dev Cert.Kernel4Ideal.nD) → Buf (Elt Ideal) ((c.tc : Thread Cert.Kernel4Ideal.nD Cert.Kernel4Ideal.τ).loc Cert.Kernel4Ideal.main_v0)),
      θ_run (Cert.Kernel4Ideal.defs (F := Ideal)) (onTc (τ := Cert.Kernel4Ideal.τ) (Cert.Kernel4Ideal.main (F := Ideal))) ⟨m, fun _ => 0, g⟩ (fun r => ∀ c : Dev Cert.Kernel4Ideal.nD,
          r.2.mem ((c.tc : Thread Cert.Kernel4Ideal.nD Cert.Kernel4Ideal.τ).loc Cert.Kernel4Ideal.main_v0) = v0 c
          ∧ r.2.mem ((c.tc : Thread Cert.Kernel4Ideal.nD Cert.Kernel4Ideal.τ).loc Cert.Kernel4Ideal.main_arg0) = m ((c.tc : Thread Cert.Kernel4Ideal.nD Cert.Kernel4Ideal.τ).loc Cert.Kernel4Ideal.main_arg0)
          ∧ r.2.mem ((c.tc : Thread Cert.Kernel4Ideal.nD Cert.Kernel4Ideal.τ).loc Cert.Kernel4Ideal.main_arg1) = m ((c.tc : Thread Cert.Kernel4Ideal.nD Cert.Kernel4Ideal.τ).loc Cert.Kernel4Ideal.main_arg1))
      ∧ θ_run (Cert.Reference4Ideal.defs (F := Ideal)) (onTc (τ := Cert.Reference4Ideal.τ) (Cert.Reference4Ideal.main (F := Ideal))) ⟨m', fun _ => 0, g'⟩ (fun r => ∀ c : Dev Cert.Reference4Ideal.nD,
          r.2.mem ((c.tc : Thread Cert.Reference4Ideal.nD Cert.Reference4Ideal.τ).loc Cert.Reference4Ideal.main_v2) = v0 c
          ∧ r.2.mem ((c.tc : Thread Cert.Reference4Ideal.nD Cert.Reference4Ideal.τ).loc Cert.Reference4Ideal.main_arg0) = m' ((c.tc : Thread Cert.Reference4Ideal.nD Cert.Reference4Ideal.τ).loc Cert.Reference4Ideal.main_arg0)
          ∧ r.2.mem ((c.tc : Thread Cert.Reference4Ideal.nD Cert.Reference4Ideal.τ).loc Cert.Reference4Ideal.main_arg1) = m' ((c.tc : Thread Cert.Reference4Ideal.nD Cert.Reference4Ideal.τ).loc Cert.Reference4Ideal.main_arg1))

def preserves_Kernel5_Kernel5Ideal : Prop :=
  True

def algebraic_Kernel5Ideal_Reference5Ideal [hKernel5Ideal : Cert.Kernel5Ideal.Facts] [hReference5Ideal : Cert.Reference5Ideal.Facts] : Prop :=
  ∀ (m : (ℓ : Loc Cert.Kernel5Ideal.nD Cert.Kernel5Ideal.τ Cert.Kernel5Ideal.sig) → Buf (Elt Ideal) ℓ) (g : Dev Cert.Kernel5Ideal.nD → PrngReg)
    (m' : (ℓ : Loc Cert.Reference5Ideal.nD Cert.Reference5Ideal.τ Cert.Reference5Ideal.sig) → Buf (Elt Ideal) ℓ) (g' : Dev Cert.Reference5Ideal.nD → PrngReg), Pre_Kernel5Ideal m →
    (∀ c : Dev Cert.Kernel5Ideal.nD,
      m' ((c.tc : Thread Cert.Reference5Ideal.nD Cert.Reference5Ideal.τ).loc Cert.Reference5Ideal.main_arg0) = m ((c.tc : Thread Cert.Kernel5Ideal.nD Cert.Kernel5Ideal.τ).loc Cert.Kernel5Ideal.main_arg0)
      ∧ m' ((c.tc : Thread Cert.Reference5Ideal.nD Cert.Reference5Ideal.τ).loc Cert.Reference5Ideal.main_arg1) = m ((c.tc : Thread Cert.Kernel5Ideal.nD Cert.Kernel5Ideal.τ).loc Cert.Kernel5Ideal.main_arg1)) →
    ∃ (v0 : (c : Dev Cert.Kernel5Ideal.nD) → Buf (Elt Ideal) ((c.tc : Thread Cert.Kernel5Ideal.nD Cert.Kernel5Ideal.τ).loc Cert.Kernel5Ideal.main_v0)),
      θ_run (Cert.Kernel5Ideal.defs (F := Ideal)) (onTc (τ := Cert.Kernel5Ideal.τ) (Cert.Kernel5Ideal.main (F := Ideal))) ⟨m, fun _ => 0, g⟩ (fun r => ∀ c : Dev Cert.Kernel5Ideal.nD,
          r.2.mem ((c.tc : Thread Cert.Kernel5Ideal.nD Cert.Kernel5Ideal.τ).loc Cert.Kernel5Ideal.main_v0) = v0 c
          ∧ r.2.mem ((c.tc : Thread Cert.Kernel5Ideal.nD Cert.Kernel5Ideal.τ).loc Cert.Kernel5Ideal.main_arg0) = m ((c.tc : Thread Cert.Kernel5Ideal.nD Cert.Kernel5Ideal.τ).loc Cert.Kernel5Ideal.main_arg0)
          ∧ r.2.mem ((c.tc : Thread Cert.Kernel5Ideal.nD Cert.Kernel5Ideal.τ).loc Cert.Kernel5Ideal.main_arg1) = m ((c.tc : Thread Cert.Kernel5Ideal.nD Cert.Kernel5Ideal.τ).loc Cert.Kernel5Ideal.main_arg1))
      ∧ θ_run (Cert.Reference5Ideal.defs (F := Ideal)) (onTc (τ := Cert.Reference5Ideal.τ) (Cert.Reference5Ideal.main (F := Ideal))) ⟨m', fun _ => 0, g'⟩ (fun r => ∀ c : Dev Cert.Reference5Ideal.nD,
          r.2.mem ((c.tc : Thread Cert.Reference5Ideal.nD Cert.Reference5Ideal.τ).loc Cert.Reference5Ideal.main_v2) = v0 c
          ∧ r.2.mem ((c.tc : Thread Cert.Reference5Ideal.nD Cert.Reference5Ideal.τ).loc Cert.Reference5Ideal.main_arg0) = m' ((c.tc : Thread Cert.Reference5Ideal.nD Cert.Reference5Ideal.τ).loc Cert.Reference5Ideal.main_arg0)
          ∧ r.2.mem ((c.tc : Thread Cert.Reference5Ideal.nD Cert.Reference5Ideal.τ).loc Cert.Reference5Ideal.main_arg1) = m' ((c.tc : Thread Cert.Reference5Ideal.nD Cert.Reference5Ideal.τ).loc Cert.Reference5Ideal.main_arg1))

def preserves_Kernel6_Kernel6Ideal : Prop :=
  True

def algebraic_Kernel6Ideal_Reference6Ideal [hKernel6Ideal : Cert.Kernel6Ideal.Facts] [hReference6Ideal : Cert.Reference6Ideal.Facts] : Prop :=
  ∀ (m : (ℓ : Loc Cert.Kernel6Ideal.nD Cert.Kernel6Ideal.τ Cert.Kernel6Ideal.sig) → Buf (Elt Ideal) ℓ) (g : Dev Cert.Kernel6Ideal.nD → PrngReg)
    (m' : (ℓ : Loc Cert.Reference6Ideal.nD Cert.Reference6Ideal.τ Cert.Reference6Ideal.sig) → Buf (Elt Ideal) ℓ) (g' : Dev Cert.Reference6Ideal.nD → PrngReg), Pre_Kernel6Ideal m →
    (∀ c : Dev Cert.Kernel6Ideal.nD,
      m' ((c.tc : Thread Cert.Reference6Ideal.nD Cert.Reference6Ideal.τ).loc Cert.Reference6Ideal.main_arg0) = m ((c.tc : Thread Cert.Kernel6Ideal.nD Cert.Kernel6Ideal.τ).loc Cert.Kernel6Ideal.main_arg0)
      ∧ m' ((c.tc : Thread Cert.Reference6Ideal.nD Cert.Reference6Ideal.τ).loc Cert.Reference6Ideal.main_arg1) = m ((c.tc : Thread Cert.Kernel6Ideal.nD Cert.Kernel6Ideal.τ).loc Cert.Kernel6Ideal.main_arg1)
      ∧ m' ((c.tc : Thread Cert.Reference6Ideal.nD Cert.Reference6Ideal.τ).loc Cert.Reference6Ideal.main_arg2) = m ((c.tc : Thread Cert.Kernel6Ideal.nD Cert.Kernel6Ideal.τ).loc Cert.Kernel6Ideal.main_arg2)
      ∧ m' ((c.tc : Thread Cert.Reference6Ideal.nD Cert.Reference6Ideal.τ).loc Cert.Reference6Ideal.main_arg3) = m ((c.tc : Thread Cert.Kernel6Ideal.nD Cert.Kernel6Ideal.τ).loc Cert.Kernel6Ideal.main_arg3)
      ∧ m' ((c.tc : Thread Cert.Reference6Ideal.nD Cert.Reference6Ideal.τ).loc Cert.Reference6Ideal.main_arg4) = m ((c.tc : Thread Cert.Kernel6Ideal.nD Cert.Kernel6Ideal.τ).loc Cert.Kernel6Ideal.main_arg4)) →
    ∃ (v0 : (c : Dev Cert.Kernel6Ideal.nD) → Buf (Elt Ideal) ((c.tc : Thread Cert.Kernel6Ideal.nD Cert.Kernel6Ideal.τ).loc Cert.Kernel6Ideal.main_v0)),
      θ_run (Cert.Kernel6Ideal.defs (F := Ideal)) (onTc (τ := Cert.Kernel6Ideal.τ) (Cert.Kernel6Ideal.main (F := Ideal))) ⟨m, fun _ => 0, g⟩ (fun r => ∀ c : Dev Cert.Kernel6Ideal.nD,
          r.2.mem ((c.tc : Thread Cert.Kernel6Ideal.nD Cert.Kernel6Ideal.τ).loc Cert.Kernel6Ideal.main_v0) = v0 c
          ∧ r.2.mem ((c.tc : Thread Cert.Kernel6Ideal.nD Cert.Kernel6Ideal.τ).loc Cert.Kernel6Ideal.main_arg0) = m ((c.tc : Thread Cert.Kernel6Ideal.nD Cert.Kernel6Ideal.τ).loc Cert.Kernel6Ideal.main_arg0)
          ∧ r.2.mem ((c.tc : Thread Cert.Kernel6Ideal.nD Cert.Kernel6Ideal.τ).loc Cert.Kernel6Ideal.main_arg1) = m ((c.tc : Thread Cert.Kernel6Ideal.nD Cert.Kernel6Ideal.τ).loc Cert.Kernel6Ideal.main_arg1)
          ∧ r.2.mem ((c.tc : Thread Cert.Kernel6Ideal.nD Cert.Kernel6Ideal.τ).loc Cert.Kernel6Ideal.main_arg2) = m ((c.tc : Thread Cert.Kernel6Ideal.nD Cert.Kernel6Ideal.τ).loc Cert.Kernel6Ideal.main_arg2)
          ∧ r.2.mem ((c.tc : Thread Cert.Kernel6Ideal.nD Cert.Kernel6Ideal.τ).loc Cert.Kernel6Ideal.main_arg3) = m ((c.tc : Thread Cert.Kernel6Ideal.nD Cert.Kernel6Ideal.τ).loc Cert.Kernel6Ideal.main_arg3)
          ∧ r.2.mem ((c.tc : Thread Cert.Kernel6Ideal.nD Cert.Kernel6Ideal.τ).loc Cert.Kernel6Ideal.main_arg4) = m ((c.tc : Thread Cert.Kernel6Ideal.nD Cert.Kernel6Ideal.τ).loc Cert.Kernel6Ideal.main_arg4))
      ∧ θ_run (Cert.Reference6Ideal.defs (F := Ideal)) (onTc (τ := Cert.Reference6Ideal.τ) (Cert.Reference6Ideal.main (F := Ideal))) ⟨m', fun _ => 0, g'⟩ (fun r => ∀ c : Dev Cert.Reference6Ideal.nD,
          r.2.mem ((c.tc : Thread Cert.Reference6Ideal.nD Cert.Reference6Ideal.τ).loc Cert.Reference6Ideal.main_v11) = v0 c
          ∧ r.2.mem ((c.tc : Thread Cert.Reference6Ideal.nD Cert.Reference6Ideal.τ).loc Cert.Reference6Ideal.main_arg0) = m' ((c.tc : Thread Cert.Reference6Ideal.nD Cert.Reference6Ideal.τ).loc Cert.Reference6Ideal.main_arg0)
          ∧ r.2.mem ((c.tc : Thread Cert.Reference6Ideal.nD Cert.Reference6Ideal.τ).loc Cert.Reference6Ideal.main_arg1) = m' ((c.tc : Thread Cert.Reference6Ideal.nD Cert.Reference6Ideal.τ).loc Cert.Reference6Ideal.main_arg1)
          ∧ r.2.mem ((c.tc : Thread Cert.Reference6Ideal.nD Cert.Reference6Ideal.τ).loc Cert.Reference6Ideal.main_arg2) = m' ((c.tc : Thread Cert.Reference6Ideal.nD Cert.Reference6Ideal.τ).loc Cert.Reference6Ideal.main_arg2)
          ∧ r.2.mem ((c.tc : Thread Cert.Reference6Ideal.nD Cert.Reference6Ideal.τ).loc Cert.Reference6Ideal.main_arg3) = m' ((c.tc : Thread Cert.Reference6Ideal.nD Cert.Reference6Ideal.τ).loc Cert.Reference6Ideal.main_arg3)
          ∧ r.2.mem ((c.tc : Thread Cert.Reference6Ideal.nD Cert.Reference6Ideal.τ).loc Cert.Reference6Ideal.main_arg4) = m' ((c.tc : Thread Cert.Reference6Ideal.nD Cert.Reference6Ideal.τ).loc Cert.Reference6Ideal.main_arg4))

def preserves_Kernel7_Kernel7Ideal : Prop :=
  True

def algebraic_Kernel7Ideal_Reference7Ideal [hKernel7Ideal : Cert.Kernel7Ideal.Facts] [hReference7Ideal : Cert.Reference7Ideal.Facts] : Prop :=
  ∀ (m : (ℓ : Loc Cert.Kernel7Ideal.nD Cert.Kernel7Ideal.τ Cert.Kernel7Ideal.sig) → Buf (Elt Ideal) ℓ) (g : Dev Cert.Kernel7Ideal.nD → PrngReg)
    (m' : (ℓ : Loc Cert.Reference7Ideal.nD Cert.Reference7Ideal.τ Cert.Reference7Ideal.sig) → Buf (Elt Ideal) ℓ) (g' : Dev Cert.Reference7Ideal.nD → PrngReg), Pre_Kernel7Ideal m →
    (∀ c : Dev Cert.Kernel7Ideal.nD,
      m' ((c.tc : Thread Cert.Reference7Ideal.nD Cert.Reference7Ideal.τ).loc Cert.Reference7Ideal.main_arg0) = m ((c.tc : Thread Cert.Kernel7Ideal.nD Cert.Kernel7Ideal.τ).loc Cert.Kernel7Ideal.main_arg0)
      ∧ m' ((c.tc : Thread Cert.Reference7Ideal.nD Cert.Reference7Ideal.τ).loc Cert.Reference7Ideal.main_arg1) = m ((c.tc : Thread Cert.Kernel7Ideal.nD Cert.Kernel7Ideal.τ).loc Cert.Kernel7Ideal.main_arg1)
      ∧ m' ((c.tc : Thread Cert.Reference7Ideal.nD Cert.Reference7Ideal.τ).loc Cert.Reference7Ideal.main_arg2) = m ((c.tc : Thread Cert.Kernel7Ideal.nD Cert.Kernel7Ideal.τ).loc Cert.Kernel7Ideal.main_arg2)
      ∧ m' ((c.tc : Thread Cert.Reference7Ideal.nD Cert.Reference7Ideal.τ).loc Cert.Reference7Ideal.main_arg3) = m ((c.tc : Thread Cert.Kernel7Ideal.nD Cert.Kernel7Ideal.τ).loc Cert.Kernel7Ideal.main_arg3)
      ∧ m' ((c.tc : Thread Cert.Reference7Ideal.nD Cert.Reference7Ideal.τ).loc Cert.Reference7Ideal.main_arg4) = m ((c.tc : Thread Cert.Kernel7Ideal.nD Cert.Kernel7Ideal.τ).loc Cert.Kernel7Ideal.main_arg4)) →
    ∃ (v0 : (c : Dev Cert.Kernel7Ideal.nD) → Buf (Elt Ideal) ((c.tc : Thread Cert.Kernel7Ideal.nD Cert.Kernel7Ideal.τ).loc Cert.Kernel7Ideal.main_v0)),
      θ_run (Cert.Kernel7Ideal.defs (F := Ideal)) (onTc (τ := Cert.Kernel7Ideal.τ) (Cert.Kernel7Ideal.main (F := Ideal))) ⟨m, fun _ => 0, g⟩ (fun r => ∀ c : Dev Cert.Kernel7Ideal.nD,
          r.2.mem ((c.tc : Thread Cert.Kernel7Ideal.nD Cert.Kernel7Ideal.τ).loc Cert.Kernel7Ideal.main_v0) = v0 c
          ∧ r.2.mem ((c.tc : Thread Cert.Kernel7Ideal.nD Cert.Kernel7Ideal.τ).loc Cert.Kernel7Ideal.main_arg0) = m ((c.tc : Thread Cert.Kernel7Ideal.nD Cert.Kernel7Ideal.τ).loc Cert.Kernel7Ideal.main_arg0)
          ∧ r.2.mem ((c.tc : Thread Cert.Kernel7Ideal.nD Cert.Kernel7Ideal.τ).loc Cert.Kernel7Ideal.main_arg1) = m ((c.tc : Thread Cert.Kernel7Ideal.nD Cert.Kernel7Ideal.τ).loc Cert.Kernel7Ideal.main_arg1)
          ∧ r.2.mem ((c.tc : Thread Cert.Kernel7Ideal.nD Cert.Kernel7Ideal.τ).loc Cert.Kernel7Ideal.main_arg2) = m ((c.tc : Thread Cert.Kernel7Ideal.nD Cert.Kernel7Ideal.τ).loc Cert.Kernel7Ideal.main_arg2)
          ∧ r.2.mem ((c.tc : Thread Cert.Kernel7Ideal.nD Cert.Kernel7Ideal.τ).loc Cert.Kernel7Ideal.main_arg3) = m ((c.tc : Thread Cert.Kernel7Ideal.nD Cert.Kernel7Ideal.τ).loc Cert.Kernel7Ideal.main_arg3)
          ∧ r.2.mem ((c.tc : Thread Cert.Kernel7Ideal.nD Cert.Kernel7Ideal.τ).loc Cert.Kernel7Ideal.main_arg4) = m ((c.tc : Thread Cert.Kernel7Ideal.nD Cert.Kernel7Ideal.τ).loc Cert.Kernel7Ideal.main_arg4))
      ∧ θ_run (Cert.Reference7Ideal.defs (F := Ideal)) (onTc (τ := Cert.Reference7Ideal.τ) (Cert.Reference7Ideal.main (F := Ideal))) ⟨m', fun _ => 0, g'⟩ (fun r => ∀ c : Dev Cert.Reference7Ideal.nD,
          r.2.mem ((c.tc : Thread Cert.Reference7Ideal.nD Cert.Reference7Ideal.τ).loc Cert.Reference7Ideal.main_v12) = v0 c
          ∧ r.2.mem ((c.tc : Thread Cert.Reference7Ideal.nD Cert.Reference7Ideal.τ).loc Cert.Reference7Ideal.main_arg0) = m' ((c.tc : Thread Cert.Reference7Ideal.nD Cert.Reference7Ideal.τ).loc Cert.Reference7Ideal.main_arg0)
          ∧ r.2.mem ((c.tc : Thread Cert.Reference7Ideal.nD Cert.Reference7Ideal.τ).loc Cert.Reference7Ideal.main_arg1) = m' ((c.tc : Thread Cert.Reference7Ideal.nD Cert.Reference7Ideal.τ).loc Cert.Reference7Ideal.main_arg1)
          ∧ r.2.mem ((c.tc : Thread Cert.Reference7Ideal.nD Cert.Reference7Ideal.τ).loc Cert.Reference7Ideal.main_arg2) = m' ((c.tc : Thread Cert.Reference7Ideal.nD Cert.Reference7Ideal.τ).loc Cert.Reference7Ideal.main_arg2)
          ∧ r.2.mem ((c.tc : Thread Cert.Reference7Ideal.nD Cert.Reference7Ideal.τ).loc Cert.Reference7Ideal.main_arg3) = m' ((c.tc : Thread Cert.Reference7Ideal.nD Cert.Reference7Ideal.τ).loc Cert.Reference7Ideal.main_arg3)
          ∧ r.2.mem ((c.tc : Thread Cert.Reference7Ideal.nD Cert.Reference7Ideal.τ).loc Cert.Reference7Ideal.main_arg4) = m' ((c.tc : Thread Cert.Reference7Ideal.nD Cert.Reference7Ideal.τ).loc Cert.Reference7Ideal.main_arg4))

def preserves_Kernel8_Kernel8Ideal : Prop :=
  True

def algebraic_Kernel8Ideal_Reference8Ideal [hKernel8Ideal : Cert.Kernel8Ideal.Facts] [hReference8Ideal : Cert.Reference8Ideal.Facts] [hPre_experts_named : Cert.Pre_experts_named.Facts] : Prop :=
  ∀ (m : (ℓ : Loc Cert.Kernel8Ideal.nD Cert.Kernel8Ideal.τ Cert.Kernel8Ideal.sig) → Buf (Elt Ideal) ℓ) (g : Dev Cert.Kernel8Ideal.nD → PrngReg)
    (m' : (ℓ : Loc Cert.Reference8Ideal.nD Cert.Reference8Ideal.τ Cert.Reference8Ideal.sig) → Buf (Elt Ideal) ℓ) (g' : Dev Cert.Reference8Ideal.nD → PrngReg), Pre_Kernel8Ideal m →
    (∀ c : Dev Cert.Kernel8Ideal.nD,
      m' ((c.tc : Thread Cert.Reference8Ideal.nD Cert.Reference8Ideal.τ).loc Cert.Reference8Ideal.main_arg0) = m ((c.tc : Thread Cert.Kernel8Ideal.nD Cert.Kernel8Ideal.τ).loc Cert.Kernel8Ideal.main_arg0)
      ∧ m' ((c.tc : Thread Cert.Reference8Ideal.nD Cert.Reference8Ideal.τ).loc Cert.Reference8Ideal.main_arg1) = m ((c.tc : Thread Cert.Kernel8Ideal.nD Cert.Kernel8Ideal.τ).loc Cert.Kernel8Ideal.main_arg1)
      ∧ m' ((c.tc : Thread Cert.Reference8Ideal.nD Cert.Reference8Ideal.τ).loc Cert.Reference8Ideal.main_arg2) = m ((c.tc : Thread Cert.Kernel8Ideal.nD Cert.Kernel8Ideal.τ).loc Cert.Kernel8Ideal.main_arg2)
      ∧ m' ((c.tc : Thread Cert.Reference8Ideal.nD Cert.Reference8Ideal.τ).loc Cert.Reference8Ideal.main_arg3) = m ((c.tc : Thread Cert.Kernel8Ideal.nD Cert.Kernel8Ideal.τ).loc Cert.Kernel8Ideal.main_arg3)
      ∧ m' ((c.tc : Thread Cert.Reference8Ideal.nD Cert.Reference8Ideal.τ).loc Cert.Reference8Ideal.main_arg4) = m ((c.tc : Thread Cert.Kernel8Ideal.nD Cert.Kernel8Ideal.τ).loc Cert.Kernel8Ideal.main_arg4)) →
    ∃ (v0 : (c : Dev Cert.Kernel8Ideal.nD) → Buf (Elt Ideal) ((c.tc : Thread Cert.Kernel8Ideal.nD Cert.Kernel8Ideal.τ).loc Cert.Kernel8Ideal.main_v0)),
      θ_run (Cert.Kernel8Ideal.defs (F := Ideal)) (onTc (τ := Cert.Kernel8Ideal.τ) (Cert.Kernel8Ideal.main (F := Ideal))) ⟨m, fun _ => 0, g⟩ (fun r => ∀ c : Dev Cert.Kernel8Ideal.nD,
          r.2.mem ((c.tc : Thread Cert.Kernel8Ideal.nD Cert.Kernel8Ideal.τ).loc Cert.Kernel8Ideal.main_v0) = v0 c
          ∧ r.2.mem ((c.tc : Thread Cert.Kernel8Ideal.nD Cert.Kernel8Ideal.τ).loc Cert.Kernel8Ideal.main_arg0) = m ((c.tc : Thread Cert.Kernel8Ideal.nD Cert.Kernel8Ideal.τ).loc Cert.Kernel8Ideal.main_arg0)
          ∧ r.2.mem ((c.tc : Thread Cert.Kernel8Ideal.nD Cert.Kernel8Ideal.τ).loc Cert.Kernel8Ideal.main_arg1) = m ((c.tc : Thread Cert.Kernel8Ideal.nD Cert.Kernel8Ideal.τ).loc Cert.Kernel8Ideal.main_arg1)
          ∧ r.2.mem ((c.tc : Thread Cert.Kernel8Ideal.nD Cert.Kernel8Ideal.τ).loc Cert.Kernel8Ideal.main_arg2) = m ((c.tc : Thread Cert.Kernel8Ideal.nD Cert.Kernel8Ideal.τ).loc Cert.Kernel8Ideal.main_arg2)
          ∧ r.2.mem ((c.tc : Thread Cert.Kernel8Ideal.nD Cert.Kernel8Ideal.τ).loc Cert.Kernel8Ideal.main_arg3) = m ((c.tc : Thread Cert.Kernel8Ideal.nD Cert.Kernel8Ideal.τ).loc Cert.Kernel8Ideal.main_arg3)
          ∧ r.2.mem ((c.tc : Thread Cert.Kernel8Ideal.nD Cert.Kernel8Ideal.τ).loc Cert.Kernel8Ideal.main_arg4) = m ((c.tc : Thread Cert.Kernel8Ideal.nD Cert.Kernel8Ideal.τ).loc Cert.Kernel8Ideal.main_arg4))
      ∧ θ_run (Cert.Reference8Ideal.defs (F := Ideal)) (onTc (τ := Cert.Reference8Ideal.τ) (Cert.Reference8Ideal.main (F := Ideal))) ⟨m', fun _ => 0, g'⟩ (fun r => ∀ c : Dev Cert.Reference8Ideal.nD,
          r.2.mem ((c.tc : Thread Cert.Reference8Ideal.nD Cert.Reference8Ideal.τ).loc Cert.Reference8Ideal.main_v111) = v0 c
          ∧ r.2.mem ((c.tc : Thread Cert.Reference8Ideal.nD Cert.Reference8Ideal.τ).loc Cert.Reference8Ideal.main_arg0) = m' ((c.tc : Thread Cert.Reference8Ideal.nD Cert.Reference8Ideal.τ).loc Cert.Reference8Ideal.main_arg0)
          ∧ r.2.mem ((c.tc : Thread Cert.Reference8Ideal.nD Cert.Reference8Ideal.τ).loc Cert.Reference8Ideal.main_arg1) = m' ((c.tc : Thread Cert.Reference8Ideal.nD Cert.Reference8Ideal.τ).loc Cert.Reference8Ideal.main_arg1)
          ∧ r.2.mem ((c.tc : Thread Cert.Reference8Ideal.nD Cert.Reference8Ideal.τ).loc Cert.Reference8Ideal.main_arg2) = m' ((c.tc : Thread Cert.Reference8Ideal.nD Cert.Reference8Ideal.τ).loc Cert.Reference8Ideal.main_arg2)
          ∧ r.2.mem ((c.tc : Thread Cert.Reference8Ideal.nD Cert.Reference8Ideal.τ).loc Cert.Reference8Ideal.main_arg3) = m' ((c.tc : Thread Cert.Reference8Ideal.nD Cert.Reference8Ideal.τ).loc Cert.Reference8Ideal.main_arg3)
          ∧ r.2.mem ((c.tc : Thread Cert.Reference8Ideal.nD Cert.Reference8Ideal.τ).loc Cert.Reference8Ideal.main_arg4) = m' ((c.tc : Thread Cert.Reference8Ideal.nD Cert.Reference8Ideal.τ).loc Cert.Reference8Ideal.main_arg4))

def preserves_Kernel9_Kernel9Ideal : Prop :=
  True

def algebraic_Kernel9Ideal_Reference9Ideal [hKernel9Ideal : Cert.Kernel9Ideal.Facts] [hReference9Ideal : Cert.Reference9Ideal.Facts] : Prop :=
  ∀ (m : (ℓ : Loc Cert.Kernel9Ideal.nD Cert.Kernel9Ideal.τ Cert.Kernel9Ideal.sig) → Buf (Elt Ideal) ℓ) (g : Dev Cert.Kernel9Ideal.nD → PrngReg)
    (m' : (ℓ : Loc Cert.Reference9Ideal.nD Cert.Reference9Ideal.τ Cert.Reference9Ideal.sig) → Buf (Elt Ideal) ℓ) (g' : Dev Cert.Reference9Ideal.nD → PrngReg), Pre_Kernel9Ideal m →
    (∀ c : Dev Cert.Kernel9Ideal.nD,
      m' ((c.tc : Thread Cert.Reference9Ideal.nD Cert.Reference9Ideal.τ).loc Cert.Reference9Ideal.main_arg0) = m ((c.tc : Thread Cert.Kernel9Ideal.nD Cert.Kernel9Ideal.τ).loc Cert.Kernel9Ideal.main_arg0)
      ∧ m' ((c.tc : Thread Cert.Reference9Ideal.nD Cert.Reference9Ideal.τ).loc Cert.Reference9Ideal.main_arg1) = m ((c.tc : Thread Cert.Kernel9Ideal.nD Cert.Kernel9Ideal.τ).loc Cert.Kernel9Ideal.main_arg1)
      ∧ m' ((c.tc : Thread Cert.Reference9Ideal.nD Cert.Reference9Ideal.τ).loc Cert.Reference9Ideal.main_arg2) = m ((c.tc : Thread Cert.Kernel9Ideal.nD Cert.Kernel9Ideal.τ).loc Cert.Kernel9Ideal.main_arg2)) →
    ∃ (v0 : (c : Dev Cert.Kernel9Ideal.nD) → Buf (Elt Ideal) ((c.tc : Thread Cert.Kernel9Ideal.nD Cert.Kernel9Ideal.τ).loc Cert.Kernel9Ideal.main_v0)),
      θ_run (Cert.Kernel9Ideal.defs (F := Ideal)) (onTc (τ := Cert.Kernel9Ideal.τ) (Cert.Kernel9Ideal.main (F := Ideal))) ⟨m, fun _ => 0, g⟩ (fun r => ∀ c : Dev Cert.Kernel9Ideal.nD,
          r.2.mem ((c.tc : Thread Cert.Kernel9Ideal.nD Cert.Kernel9Ideal.τ).loc Cert.Kernel9Ideal.main_v0) = v0 c
          ∧ r.2.mem ((c.tc : Thread Cert.Kernel9Ideal.nD Cert.Kernel9Ideal.τ).loc Cert.Kernel9Ideal.main_arg0) = m ((c.tc : Thread Cert.Kernel9Ideal.nD Cert.Kernel9Ideal.τ).loc Cert.Kernel9Ideal.main_arg0)
          ∧ r.2.mem ((c.tc : Thread Cert.Kernel9Ideal.nD Cert.Kernel9Ideal.τ).loc Cert.Kernel9Ideal.main_arg1) = m ((c.tc : Thread Cert.Kernel9Ideal.nD Cert.Kernel9Ideal.τ).loc Cert.Kernel9Ideal.main_arg1)
          ∧ r.2.mem ((c.tc : Thread Cert.Kernel9Ideal.nD Cert.Kernel9Ideal.τ).loc Cert.Kernel9Ideal.main_arg2) = m ((c.tc : Thread Cert.Kernel9Ideal.nD Cert.Kernel9Ideal.τ).loc Cert.Kernel9Ideal.main_arg2))
      ∧ θ_run (Cert.Reference9Ideal.defs (F := Ideal)) (onTc (τ := Cert.Reference9Ideal.τ) (Cert.Reference9Ideal.main (F := Ideal))) ⟨m', fun _ => 0, g'⟩ (fun r => ∀ c : Dev Cert.Reference9Ideal.nD,
          r.2.mem ((c.tc : Thread Cert.Reference9Ideal.nD Cert.Reference9Ideal.τ).loc Cert.Reference9Ideal.main_v5) = v0 c
          ∧ r.2.mem ((c.tc : Thread Cert.Reference9Ideal.nD Cert.Reference9Ideal.τ).loc Cert.Reference9Ideal.main_arg0) = m' ((c.tc : Thread Cert.Reference9Ideal.nD Cert.Reference9Ideal.τ).loc Cert.Reference9Ideal.main_arg0)
          ∧ r.2.mem ((c.tc : Thread Cert.Reference9Ideal.nD Cert.Reference9Ideal.τ).loc Cert.Reference9Ideal.main_arg1) = m' ((c.tc : Thread Cert.Reference9Ideal.nD Cert.Reference9Ideal.τ).loc Cert.Reference9Ideal.main_arg1)
          ∧ r.2.mem ((c.tc : Thread Cert.Reference9Ideal.nD Cert.Reference9Ideal.τ).loc Cert.Reference9Ideal.main_arg2) = m' ((c.tc : Thread Cert.Reference9Ideal.nD Cert.Reference9Ideal.τ).loc Cert.Reference9Ideal.main_arg2))

def preserves_Kernel10_Kernel10Ideal : Prop :=
  True

def algebraic_Kernel10Ideal_Reference10Ideal [hKernel10Ideal : Cert.Kernel10Ideal.Facts] [hReference10Ideal : Cert.Reference10Ideal.Facts] : Prop :=
  ∀ (m : (ℓ : Loc Cert.Kernel10Ideal.nD Cert.Kernel10Ideal.τ Cert.Kernel10Ideal.sig) → Buf (Elt Ideal) ℓ) (g : Dev Cert.Kernel10Ideal.nD → PrngReg)
    (m' : (ℓ : Loc Cert.Reference10Ideal.nD Cert.Reference10Ideal.τ Cert.Reference10Ideal.sig) → Buf (Elt Ideal) ℓ) (g' : Dev Cert.Reference10Ideal.nD → PrngReg), Pre_Kernel10Ideal m →
    (∀ c : Dev Cert.Kernel10Ideal.nD,
      m' ((c.tc : Thread Cert.Reference10Ideal.nD Cert.Reference10Ideal.τ).loc Cert.Reference10Ideal.main_arg0) = m ((c.tc : Thread Cert.Kernel10Ideal.nD Cert.Kernel10Ideal.τ).loc Cert.Kernel10Ideal.main_arg0)
      ∧ m' ((c.tc : Thread Cert.Reference10Ideal.nD Cert.Reference10Ideal.τ).loc Cert.Reference10Ideal.main_arg1) = m ((c.tc : Thread Cert.Kernel10Ideal.nD Cert.Kernel10Ideal.τ).loc Cert.Kernel10Ideal.main_arg1)
      ∧ m' ((c.tc : Thread Cert.Reference10Ideal.nD Cert.Reference10Ideal.τ).loc Cert.Reference10Ideal.main_arg2) = m ((c.tc : Thread Cert.Kernel10Ideal.nD Cert.Kernel10Ideal.τ).loc Cert.Kernel10Ideal.main_arg2)
      ∧ m' ((c.tc : Thread Cert.Reference10Ideal.nD Cert.Reference10Ideal.τ).loc Cert.Reference10Ideal.main_arg3) = m ((c.tc : Thread Cert.Kernel10Ideal.nD Cert.Kernel10Ideal.τ).loc Cert.Kernel10Ideal.main_arg3)) →
    ∃ (v0 : (c : Dev Cert.Kernel10Ideal.nD) → Buf (Elt Ideal) ((c.tc : Thread Cert.Kernel10Ideal.nD Cert.Kernel10Ideal.τ).loc Cert.Kernel10Ideal.main_v1)),
      θ_run (Cert.Kernel10Ideal.defs (F := Ideal)) (onTc (τ := Cert.Kernel10Ideal.τ) (Cert.Kernel10Ideal.main (F := Ideal))) ⟨m, fun _ => 0, g⟩ (fun r => ∀ c : Dev Cert.Kernel10Ideal.nD,
          r.2.mem ((c.tc : Thread Cert.Kernel10Ideal.nD Cert.Kernel10Ideal.τ).loc Cert.Kernel10Ideal.main_v1) = v0 c
          ∧ r.2.mem ((c.tc : Thread Cert.Kernel10Ideal.nD Cert.Kernel10Ideal.τ).loc Cert.Kernel10Ideal.main_arg0) = m ((c.tc : Thread Cert.Kernel10Ideal.nD Cert.Kernel10Ideal.τ).loc Cert.Kernel10Ideal.main_arg0)
          ∧ r.2.mem ((c.tc : Thread Cert.Kernel10Ideal.nD Cert.Kernel10Ideal.τ).loc Cert.Kernel10Ideal.main_arg1) = m ((c.tc : Thread Cert.Kernel10Ideal.nD Cert.Kernel10Ideal.τ).loc Cert.Kernel10Ideal.main_arg1)
          ∧ r.2.mem ((c.tc : Thread Cert.Kernel10Ideal.nD Cert.Kernel10Ideal.τ).loc Cert.Kernel10Ideal.main_arg2) = m ((c.tc : Thread Cert.Kernel10Ideal.nD Cert.Kernel10Ideal.τ).loc Cert.Kernel10Ideal.main_arg2)
          ∧ r.2.mem ((c.tc : Thread Cert.Kernel10Ideal.nD Cert.Kernel10Ideal.τ).loc Cert.Kernel10Ideal.main_arg3) = m ((c.tc : Thread Cert.Kernel10Ideal.nD Cert.Kernel10Ideal.τ).loc Cert.Kernel10Ideal.main_arg3))
      ∧ θ_run (Cert.Reference10Ideal.defs (F := Ideal)) (onTc (τ := Cert.Reference10Ideal.τ) (Cert.Reference10Ideal.main (F := Ideal))) ⟨m', fun _ => 0, g'⟩ (fun r => ∀ c : Dev Cert.Reference10Ideal.nD,
          r.2.mem ((c.tc : Thread Cert.Reference10Ideal.nD Cert.Reference10Ideal.τ).loc Cert.Reference10Ideal.main_v10) = v0 c
          ∧ r.2.mem ((c.tc : Thread Cert.Reference10Ideal.nD Cert.Reference10Ideal.τ).loc Cert.Reference10Ideal.main_arg0) = m' ((c.tc : Thread Cert.Reference10Ideal.nD Cert.Reference10Ideal.τ).loc Cert.Reference10Ideal.main_arg0)
          ∧ r.2.mem ((c.tc : Thread Cert.Reference10Ideal.nD Cert.Reference10Ideal.τ).loc Cert.Reference10Ideal.main_arg1) = m' ((c.tc : Thread Cert.Reference10Ideal.nD Cert.Reference10Ideal.τ).loc Cert.Reference10Ideal.main_arg1)
          ∧ r.2.mem ((c.tc : Thread Cert.Reference10Ideal.nD Cert.Reference10Ideal.τ).loc Cert.Reference10Ideal.main_arg2) = m' ((c.tc : Thread Cert.Reference10Ideal.nD Cert.Reference10Ideal.τ).loc Cert.Reference10Ideal.main_arg2)
          ∧ r.2.mem ((c.tc : Thread Cert.Reference10Ideal.nD Cert.Reference10Ideal.τ).loc Cert.Reference10Ideal.main_arg3) = m' ((c.tc : Thread Cert.Reference10Ideal.nD Cert.Reference10Ideal.τ).loc Cert.Reference10Ideal.main_arg3))

def preserves_Kernel11_Kernel11Ideal : Prop :=
  True

def algebraic_Kernel11Ideal_Reference11Ideal [hKernel11Ideal : Cert.Kernel11Ideal.Facts] [hReference11Ideal : Cert.Reference11Ideal.Facts] : Prop :=
  ∀ (m : (ℓ : Loc Cert.Kernel11Ideal.nD Cert.Kernel11Ideal.τ Cert.Kernel11Ideal.sig) → Buf (Elt Ideal) ℓ) (g : Dev Cert.Kernel11Ideal.nD → PrngReg)
    (m' : (ℓ : Loc Cert.Reference11Ideal.nD Cert.Reference11Ideal.τ Cert.Reference11Ideal.sig) → Buf (Elt Ideal) ℓ) (g' : Dev Cert.Reference11Ideal.nD → PrngReg), Pre_Kernel11Ideal m →
    (∀ c : Dev Cert.Kernel11Ideal.nD,
      m' ((c.tc : Thread Cert.Reference11Ideal.nD Cert.Reference11Ideal.τ).loc Cert.Reference11Ideal.main_arg0) = m ((c.tc : Thread Cert.Kernel11Ideal.nD Cert.Kernel11Ideal.τ).loc Cert.Kernel11Ideal.main_arg0)
      ∧ m' ((c.tc : Thread Cert.Reference11Ideal.nD Cert.Reference11Ideal.τ).loc Cert.Reference11Ideal.main_arg1) = m ((c.tc : Thread Cert.Kernel11Ideal.nD Cert.Kernel11Ideal.τ).loc Cert.Kernel11Ideal.main_arg1)) →
    ∃ (v0 : (c : Dev Cert.Kernel11Ideal.nD) → Buf (Elt Ideal) ((c.tc : Thread Cert.Kernel11Ideal.nD Cert.Kernel11Ideal.τ).loc Cert.Kernel11Ideal.main_v0)),
      θ_run (Cert.Kernel11Ideal.defs (F := Ideal)) (onTc (τ := Cert.Kernel11Ideal.τ) (Cert.Kernel11Ideal.main (F := Ideal))) ⟨m, fun _ => 0, g⟩ (fun r => ∀ c : Dev Cert.Kernel11Ideal.nD,
          r.2.mem ((c.tc : Thread Cert.Kernel11Ideal.nD Cert.Kernel11Ideal.τ).loc Cert.Kernel11Ideal.main_v0) = v0 c
          ∧ r.2.mem ((c.tc : Thread Cert.Kernel11Ideal.nD Cert.Kernel11Ideal.τ).loc Cert.Kernel11Ideal.main_arg0) = m ((c.tc : Thread Cert.Kernel11Ideal.nD Cert.Kernel11Ideal.τ).loc Cert.Kernel11Ideal.main_arg0)
          ∧ r.2.mem ((c.tc : Thread Cert.Kernel11Ideal.nD Cert.Kernel11Ideal.τ).loc Cert.Kernel11Ideal.main_arg1) = m ((c.tc : Thread Cert.Kernel11Ideal.nD Cert.Kernel11Ideal.τ).loc Cert.Kernel11Ideal.main_arg1))
      ∧ θ_run (Cert.Reference11Ideal.defs (F := Ideal)) (onTc (τ := Cert.Reference11Ideal.τ) (Cert.Reference11Ideal.main (F := Ideal))) ⟨m', fun _ => 0, g'⟩ (fun r => ∀ c : Dev Cert.Reference11Ideal.nD,
          r.2.mem ((c.tc : Thread Cert.Reference11Ideal.nD Cert.Reference11Ideal.τ).loc Cert.Reference11Ideal.main_v2) = v0 c
          ∧ r.2.mem ((c.tc : Thread Cert.Reference11Ideal.nD Cert.Reference11Ideal.τ).loc Cert.Reference11Ideal.main_arg0) = m' ((c.tc : Thread Cert.Reference11Ideal.nD Cert.Reference11Ideal.τ).loc Cert.Reference11Ideal.main_arg0)
          ∧ r.2.mem ((c.tc : Thread Cert.Reference11Ideal.nD Cert.Reference11Ideal.τ).loc Cert.Reference11Ideal.main_arg1) = m' ((c.tc : Thread Cert.Reference11Ideal.nD Cert.Reference11Ideal.τ).loc Cert.Reference11Ideal.main_arg1))

def preserves_Kernel12_Kernel12Ideal : Prop :=
  True

def algebraic_Kernel12Ideal_Reference12Ideal [hKernel12Ideal : Cert.Kernel12Ideal.Facts] [hReference12Ideal : Cert.Reference12Ideal.Facts] : Prop :=
  ∀ (m : (ℓ : Loc Cert.Kernel12Ideal.nD Cert.Kernel12Ideal.τ Cert.Kernel12Ideal.sig) → Buf (Elt Ideal) ℓ) (g : Dev Cert.Kernel12Ideal.nD → PrngReg)
    (m' : (ℓ : Loc Cert.Reference12Ideal.nD Cert.Reference12Ideal.τ Cert.Reference12Ideal.sig) → Buf (Elt Ideal) ℓ) (g' : Dev Cert.Reference12Ideal.nD → PrngReg), Pre_Kernel12Ideal m →
    (∀ c : Dev Cert.Kernel12Ideal.nD,
      m' ((c.tc : Thread Cert.Reference12Ideal.nD Cert.Reference12Ideal.τ).loc Cert.Reference12Ideal.main_arg0) = m ((c.tc : Thread Cert.Kernel12Ideal.nD Cert.Kernel12Ideal.τ).loc Cert.Kernel12Ideal.main_arg0)
      ∧ m' ((c.tc : Thread Cert.Reference12Ideal.nD Cert.Reference12Ideal.τ).loc Cert.Reference12Ideal.main_arg1) = m ((c.tc : Thread Cert.Kernel12Ideal.nD Cert.Kernel12Ideal.τ).loc Cert.Kernel12Ideal.main_arg1)) →
    ∃ (v0 : (c : Dev Cert.Kernel12Ideal.nD) → Buf (Elt Ideal) ((c.tc : Thread Cert.Kernel12Ideal.nD Cert.Kernel12Ideal.τ).loc Cert.Kernel12Ideal.main_v0)),
      θ_run (Cert.Kernel12Ideal.defs (F := Ideal)) (onTc (τ := Cert.Kernel12Ideal.τ) (Cert.Kernel12Ideal.main (F := Ideal))) ⟨m, fun _ => 0, g⟩ (fun r => ∀ c : Dev Cert.Kernel12Ideal.nD,
          r.2.mem ((c.tc : Thread Cert.Kernel12Ideal.nD Cert.Kernel12Ideal.τ).loc Cert.Kernel12Ideal.main_v0) = v0 c
          ∧ r.2.mem ((c.tc : Thread Cert.Kernel12Ideal.nD Cert.Kernel12Ideal.τ).loc Cert.Kernel12Ideal.main_arg0) = m ((c.tc : Thread Cert.Kernel12Ideal.nD Cert.Kernel12Ideal.τ).loc Cert.Kernel12Ideal.main_arg0)
          ∧ r.2.mem ((c.tc : Thread Cert.Kernel12Ideal.nD Cert.Kernel12Ideal.τ).loc Cert.Kernel12Ideal.main_arg1) = m ((c.tc : Thread Cert.Kernel12Ideal.nD Cert.Kernel12Ideal.τ).loc Cert.Kernel12Ideal.main_arg1))
      ∧ θ_run (Cert.Reference12Ideal.defs (F := Ideal)) (onTc (τ := Cert.Reference12Ideal.τ) (Cert.Reference12Ideal.main (F := Ideal))) ⟨m', fun _ => 0, g'⟩ (fun r => ∀ c : Dev Cert.Reference12Ideal.nD,
          r.2.mem ((c.tc : Thread Cert.Reference12Ideal.nD Cert.Reference12Ideal.τ).loc Cert.Reference12Ideal.main_v2) = v0 c
          ∧ r.2.mem ((c.tc : Thread Cert.Reference12Ideal.nD Cert.Reference12Ideal.τ).loc Cert.Reference12Ideal.main_arg0) = m' ((c.tc : Thread Cert.Reference12Ideal.nD Cert.Reference12Ideal.τ).loc Cert.Reference12Ideal.main_arg0)
          ∧ r.2.mem ((c.tc : Thread Cert.Reference12Ideal.nD Cert.Reference12Ideal.τ).loc Cert.Reference12Ideal.main_arg1) = m' ((c.tc : Thread Cert.Reference12Ideal.nD Cert.Reference12Ideal.τ).loc Cert.Reference12Ideal.main_arg1))

def preserves_Kernel13_Kernel13Ideal : Prop :=
  True

def algebraic_Kernel13Ideal_Reference13Ideal [hKernel13Ideal : Cert.Kernel13Ideal.Facts] [hReference13Ideal : Cert.Reference13Ideal.Facts] : Prop :=
  ∀ (m : (ℓ : Loc Cert.Kernel13Ideal.nD Cert.Kernel13Ideal.τ Cert.Kernel13Ideal.sig) → Buf (Elt Ideal) ℓ) (g : Dev Cert.Kernel13Ideal.nD → PrngReg)
    (m' : (ℓ : Loc Cert.Reference13Ideal.nD Cert.Reference13Ideal.τ Cert.Reference13Ideal.sig) → Buf (Elt Ideal) ℓ) (g' : Dev Cert.Reference13Ideal.nD → PrngReg), Pre_Kernel13Ideal m →
    (∀ c : Dev Cert.Kernel13Ideal.nD,
      m' ((c.tc : Thread Cert.Reference13Ideal.nD Cert.Reference13Ideal.τ).loc Cert.Reference13Ideal.main_arg0) = m ((c.tc : Thread Cert.Kernel13Ideal.nD Cert.Kernel13Ideal.τ).loc Cert.Kernel13Ideal.main_arg0)
      ∧ m' ((c.tc : Thread Cert.Reference13Ideal.nD Cert.Reference13Ideal.τ).loc Cert.Reference13Ideal.main_arg1) = m ((c.tc : Thread Cert.Kernel13Ideal.nD Cert.Kernel13Ideal.τ).loc Cert.Kernel13Ideal.main_arg1)) →
    ∃ (v0 : (c : Dev Cert.Kernel13Ideal.nD) → Buf (Elt Ideal) ((c.tc : Thread Cert.Kernel13Ideal.nD Cert.Kernel13Ideal.τ).loc Cert.Kernel13Ideal.main_v0)),
      θ_run (Cert.Kernel13Ideal.defs (F := Ideal)) (onTc (τ := Cert.Kernel13Ideal.τ) (Cert.Kernel13Ideal.main (F := Ideal))) ⟨m, fun _ => 0, g⟩ (fun r => ∀ c : Dev Cert.Kernel13Ideal.nD,
          r.2.mem ((c.tc : Thread Cert.Kernel13Ideal.nD Cert.Kernel13Ideal.τ).loc Cert.Kernel13Ideal.main_v0) = v0 c
          ∧ r.2.mem ((c.tc : Thread Cert.Kernel13Ideal.nD Cert.Kernel13Ideal.τ).loc Cert.Kernel13Ideal.main_arg0) = m ((c.tc : Thread Cert.Kernel13Ideal.nD Cert.Kernel13Ideal.τ).loc Cert.Kernel13Ideal.main_arg0)
          ∧ r.2.mem ((c.tc : Thread Cert.Kernel13Ideal.nD Cert.Kernel13Ideal.τ).loc Cert.Kernel13Ideal.main_arg1) = m ((c.tc : Thread Cert.Kernel13Ideal.nD Cert.Kernel13Ideal.τ).loc Cert.Kernel13Ideal.main_arg1))
      ∧ θ_run (Cert.Reference13Ideal.defs (F := Ideal)) (onTc (τ := Cert.Reference13Ideal.τ) (Cert.Reference13Ideal.main (F := Ideal))) ⟨m', fun _ => 0, g'⟩ (fun r => ∀ c : Dev Cert.Reference13Ideal.nD,
          r.2.mem ((c.tc : Thread Cert.Reference13Ideal.nD Cert.Reference13Ideal.τ).loc Cert.Reference13Ideal.main_v2) = v0 c
          ∧ r.2.mem ((c.tc : Thread Cert.Reference13Ideal.nD Cert.Reference13Ideal.τ).loc Cert.Reference13Ideal.main_arg0) = m' ((c.tc : Thread Cert.Reference13Ideal.nD Cert.Reference13Ideal.τ).loc Cert.Reference13Ideal.main_arg0)
          ∧ r.2.mem ((c.tc : Thread Cert.Reference13Ideal.nD Cert.Reference13Ideal.τ).loc Cert.Reference13Ideal.main_arg1) = m' ((c.tc : Thread Cert.Reference13Ideal.nD Cert.Reference13Ideal.τ).loc Cert.Reference13Ideal.main_arg1))

def preserves_Kernel14_Kernel14Ideal : Prop :=
  True

def algebraic_Kernel14Ideal_Reference14Ideal [hKernel14Ideal : Cert.Kernel14Ideal.Facts] [hReference14Ideal : Cert.Reference14Ideal.Facts] [hPre_down_experts_named : Cert.Pre_down_experts_named.Facts] : Prop :=
  ∀ (m : (ℓ : Loc Cert.Kernel14Ideal.nD Cert.Kernel14Ideal.τ Cert.Kernel14Ideal.sig) → Buf (Elt Ideal) ℓ) (g : Dev Cert.Kernel14Ideal.nD → PrngReg)
    (m' : (ℓ : Loc Cert.Reference14Ideal.nD Cert.Reference14Ideal.τ Cert.Reference14Ideal.sig) → Buf (Elt Ideal) ℓ) (g' : Dev Cert.Reference14Ideal.nD → PrngReg), Pre_Kernel14Ideal m →
    (∀ c : Dev Cert.Kernel14Ideal.nD,
      m' ((c.tc : Thread Cert.Reference14Ideal.nD Cert.Reference14Ideal.τ).loc Cert.Reference14Ideal.main_arg0) = m ((c.tc : Thread Cert.Kernel14Ideal.nD Cert.Kernel14Ideal.τ).loc Cert.Kernel14Ideal.main_arg0)
      ∧ m' ((c.tc : Thread Cert.Reference14Ideal.nD Cert.Reference14Ideal.τ).loc Cert.Reference14Ideal.main_arg1) = m ((c.tc : Thread Cert.Kernel14Ideal.nD Cert.Kernel14Ideal.τ).loc Cert.Kernel14Ideal.main_arg1)
      ∧ m' ((c.tc : Thread Cert.Reference14Ideal.nD Cert.Reference14Ideal.τ).loc Cert.Reference14Ideal.main_arg2) = m ((c.tc : Thread Cert.Kernel14Ideal.nD Cert.Kernel14Ideal.τ).loc Cert.Kernel14Ideal.main_arg2)
      ∧ m' ((c.tc : Thread Cert.Reference14Ideal.nD Cert.Reference14Ideal.τ).loc Cert.Reference14Ideal.main_arg3) = m ((c.tc : Thread Cert.Kernel14Ideal.nD Cert.Kernel14Ideal.τ).loc Cert.Kernel14Ideal.main_arg3)) →
    ∃ (v0 : (c : Dev Cert.Kernel14Ideal.nD) → Buf (Elt Ideal) ((c.tc : Thread Cert.Kernel14Ideal.nD Cert.Kernel14Ideal.τ).loc Cert.Kernel14Ideal.main_v0)),
      θ_run (Cert.Kernel14Ideal.defs (F := Ideal)) (onTc (τ := Cert.Kernel14Ideal.τ) (Cert.Kernel14Ideal.main (F := Ideal))) ⟨m, fun _ => 0, g⟩ (fun r => ∀ c : Dev Cert.Kernel14Ideal.nD,
          r.2.mem ((c.tc : Thread Cert.Kernel14Ideal.nD Cert.Kernel14Ideal.τ).loc Cert.Kernel14Ideal.main_v0) = v0 c
          ∧ r.2.mem ((c.tc : Thread Cert.Kernel14Ideal.nD Cert.Kernel14Ideal.τ).loc Cert.Kernel14Ideal.main_arg0) = m ((c.tc : Thread Cert.Kernel14Ideal.nD Cert.Kernel14Ideal.τ).loc Cert.Kernel14Ideal.main_arg0)
          ∧ r.2.mem ((c.tc : Thread Cert.Kernel14Ideal.nD Cert.Kernel14Ideal.τ).loc Cert.Kernel14Ideal.main_arg1) = m ((c.tc : Thread Cert.Kernel14Ideal.nD Cert.Kernel14Ideal.τ).loc Cert.Kernel14Ideal.main_arg1)
          ∧ r.2.mem ((c.tc : Thread Cert.Kernel14Ideal.nD Cert.Kernel14Ideal.τ).loc Cert.Kernel14Ideal.main_arg2) = m ((c.tc : Thread Cert.Kernel14Ideal.nD Cert.Kernel14Ideal.τ).loc Cert.Kernel14Ideal.main_arg2)
          ∧ r.2.mem ((c.tc : Thread Cert.Kernel14Ideal.nD Cert.Kernel14Ideal.τ).loc Cert.Kernel14Ideal.main_arg3) = m ((c.tc : Thread Cert.Kernel14Ideal.nD Cert.Kernel14Ideal.τ).loc Cert.Kernel14Ideal.main_arg3))
      ∧ θ_run (Cert.Reference14Ideal.defs (F := Ideal)) (onTc (τ := Cert.Reference14Ideal.τ) (Cert.Reference14Ideal.main (F := Ideal))) ⟨m', fun _ => 0, g'⟩ (fun r => ∀ c : Dev Cert.Reference14Ideal.nD,
          r.2.mem ((c.tc : Thread Cert.Reference14Ideal.nD Cert.Reference14Ideal.τ).loc Cert.Reference14Ideal.main_v71) = v0 c
          ∧ r.2.mem ((c.tc : Thread Cert.Reference14Ideal.nD Cert.Reference14Ideal.τ).loc Cert.Reference14Ideal.main_arg0) = m' ((c.tc : Thread Cert.Reference14Ideal.nD Cert.Reference14Ideal.τ).loc Cert.Reference14Ideal.main_arg0)
          ∧ r.2.mem ((c.tc : Thread Cert.Reference14Ideal.nD Cert.Reference14Ideal.τ).loc Cert.Reference14Ideal.main_arg1) = m' ((c.tc : Thread Cert.Reference14Ideal.nD Cert.Reference14Ideal.τ).loc Cert.Reference14Ideal.main_arg1)
          ∧ r.2.mem ((c.tc : Thread Cert.Reference14Ideal.nD Cert.Reference14Ideal.τ).loc Cert.Reference14Ideal.main_arg2) = m' ((c.tc : Thread Cert.Reference14Ideal.nD Cert.Reference14Ideal.τ).loc Cert.Reference14Ideal.main_arg2)
          ∧ r.2.mem ((c.tc : Thread Cert.Reference14Ideal.nD Cert.Reference14Ideal.τ).loc Cert.Reference14Ideal.main_arg3) = m' ((c.tc : Thread Cert.Reference14Ideal.nD Cert.Reference14Ideal.τ).loc Cert.Reference14Ideal.main_arg3))

def preserves_Kernel15_Kernel15Ideal : Prop :=
  True

def algebraic_Kernel15Ideal_Reference15Ideal [hKernel15Ideal : Cert.Kernel15Ideal.Facts] [hReference15Ideal : Cert.Reference15Ideal.Facts] : Prop :=
  ∀ (m : (ℓ : Loc Cert.Kernel15Ideal.nD Cert.Kernel15Ideal.τ Cert.Kernel15Ideal.sig) → Buf (Elt Ideal) ℓ) (g : Dev Cert.Kernel15Ideal.nD → PrngReg)
    (m' : (ℓ : Loc Cert.Reference15Ideal.nD Cert.Reference15Ideal.τ Cert.Reference15Ideal.sig) → Buf (Elt Ideal) ℓ) (g' : Dev Cert.Reference15Ideal.nD → PrngReg), Pre_Kernel15Ideal m →
    (∀ c : Dev Cert.Kernel15Ideal.nD,
      m' ((c.tc : Thread Cert.Reference15Ideal.nD Cert.Reference15Ideal.τ).loc Cert.Reference15Ideal.main_arg0) = m ((c.tc : Thread Cert.Kernel15Ideal.nD Cert.Kernel15Ideal.τ).loc Cert.Kernel15Ideal.main_arg0)
      ∧ m' ((c.tc : Thread Cert.Reference15Ideal.nD Cert.Reference15Ideal.τ).loc Cert.Reference15Ideal.main_arg1) = m ((c.tc : Thread Cert.Kernel15Ideal.nD Cert.Kernel15Ideal.τ).loc Cert.Kernel15Ideal.main_arg1)
      ∧ m' ((c.tc : Thread Cert.Reference15Ideal.nD Cert.Reference15Ideal.τ).loc Cert.Reference15Ideal.main_arg2) = m ((c.tc : Thread Cert.Kernel15Ideal.nD Cert.Kernel15Ideal.τ).loc Cert.Kernel15Ideal.main_arg2)
      ∧ m' ((c.tc : Thread Cert.Reference15Ideal.nD Cert.Reference15Ideal.τ).loc Cert.Reference15Ideal.main_arg3) = m ((c.tc : Thread Cert.Kernel15Ideal.nD Cert.Kernel15Ideal.τ).loc Cert.Kernel15Ideal.main_arg3)
      ∧ m' ((c.tc : Thread Cert.Reference15Ideal.nD Cert.Reference15Ideal.τ).loc Cert.Reference15Ideal.main_arg4) = m ((c.tc : Thread Cert.Kernel15Ideal.nD Cert.Kernel15Ideal.τ).loc Cert.Kernel15Ideal.main_arg4)) →
    ∃ (v0 : (c : Dev Cert.Kernel15Ideal.nD) → Buf (Elt Ideal) ((c.tc : Thread Cert.Kernel15Ideal.nD Cert.Kernel15Ideal.τ).loc Cert.Kernel15Ideal.main_v0)),
      θ_run (Cert.Kernel15Ideal.defs (F := Ideal)) (onTc (τ := Cert.Kernel15Ideal.τ) (Cert.Kernel15Ideal.main (F := Ideal))) ⟨m, fun _ => 0, g⟩ (fun r => ∀ c : Dev Cert.Kernel15Ideal.nD,
          r.2.mem ((c.tc : Thread Cert.Kernel15Ideal.nD Cert.Kernel15Ideal.τ).loc Cert.Kernel15Ideal.main_v0) = v0 c
          ∧ r.2.mem ((c.tc : Thread Cert.Kernel15Ideal.nD Cert.Kernel15Ideal.τ).loc Cert.Kernel15Ideal.main_arg0) = m ((c.tc : Thread Cert.Kernel15Ideal.nD Cert.Kernel15Ideal.τ).loc Cert.Kernel15Ideal.main_arg0)
          ∧ r.2.mem ((c.tc : Thread Cert.Kernel15Ideal.nD Cert.Kernel15Ideal.τ).loc Cert.Kernel15Ideal.main_arg1) = m ((c.tc : Thread Cert.Kernel15Ideal.nD Cert.Kernel15Ideal.τ).loc Cert.Kernel15Ideal.main_arg1)
          ∧ r.2.mem ((c.tc : Thread Cert.Kernel15Ideal.nD Cert.Kernel15Ideal.τ).loc Cert.Kernel15Ideal.main_arg2) = m ((c.tc : Thread Cert.Kernel15Ideal.nD Cert.Kernel15Ideal.τ).loc Cert.Kernel15Ideal.main_arg2)
          ∧ r.2.mem ((c.tc : Thread Cert.Kernel15Ideal.nD Cert.Kernel15Ideal.τ).loc Cert.Kernel15Ideal.main_arg3) = m ((c.tc : Thread Cert.Kernel15Ideal.nD Cert.Kernel15Ideal.τ).loc Cert.Kernel15Ideal.main_arg3)
          ∧ r.2.mem ((c.tc : Thread Cert.Kernel15Ideal.nD Cert.Kernel15Ideal.τ).loc Cert.Kernel15Ideal.main_arg4) = m ((c.tc : Thread Cert.Kernel15Ideal.nD Cert.Kernel15Ideal.τ).loc Cert.Kernel15Ideal.main_arg4))
      ∧ θ_run (Cert.Reference15Ideal.defs (F := Ideal)) (onTc (τ := Cert.Reference15Ideal.τ) (Cert.Reference15Ideal.main (F := Ideal))) ⟨m', fun _ => 0, g'⟩ (fun r => ∀ c : Dev Cert.Reference15Ideal.nD,
          r.2.mem ((c.tc : Thread Cert.Reference15Ideal.nD Cert.Reference15Ideal.τ).loc Cert.Reference15Ideal.main_v12) = v0 c
          ∧ r.2.mem ((c.tc : Thread Cert.Reference15Ideal.nD Cert.Reference15Ideal.τ).loc Cert.Reference15Ideal.main_arg0) = m' ((c.tc : Thread Cert.Reference15Ideal.nD Cert.Reference15Ideal.τ).loc Cert.Reference15Ideal.main_arg0)
          ∧ r.2.mem ((c.tc : Thread Cert.Reference15Ideal.nD Cert.Reference15Ideal.τ).loc Cert.Reference15Ideal.main_arg1) = m' ((c.tc : Thread Cert.Reference15Ideal.nD Cert.Reference15Ideal.τ).loc Cert.Reference15Ideal.main_arg1)
          ∧ r.2.mem ((c.tc : Thread Cert.Reference15Ideal.nD Cert.Reference15Ideal.τ).loc Cert.Reference15Ideal.main_arg2) = m' ((c.tc : Thread Cert.Reference15Ideal.nD Cert.Reference15Ideal.τ).loc Cert.Reference15Ideal.main_arg2)
          ∧ r.2.mem ((c.tc : Thread Cert.Reference15Ideal.nD Cert.Reference15Ideal.τ).loc Cert.Reference15Ideal.main_arg3) = m' ((c.tc : Thread Cert.Reference15Ideal.nD Cert.Reference15Ideal.τ).loc Cert.Reference15Ideal.main_arg3)
          ∧ r.2.mem ((c.tc : Thread Cert.Reference15Ideal.nD Cert.Reference15Ideal.τ).loc Cert.Reference15Ideal.main_arg4) = m' ((c.tc : Thread Cert.Reference15Ideal.nD Cert.Reference15Ideal.τ).loc Cert.Reference15Ideal.main_arg4))

def preserves_Kernel16_Kernel16Ideal : Prop :=
  True

def algebraic_Kernel16Ideal_Reference16Ideal [hKernel16Ideal : Cert.Kernel16Ideal.Facts] [hReference16Ideal : Cert.Reference16Ideal.Facts] : Prop :=
  ∀ (m : (ℓ : Loc Cert.Kernel16Ideal.nD Cert.Kernel16Ideal.τ Cert.Kernel16Ideal.sig) → Buf (Elt Ideal) ℓ) (g : Dev Cert.Kernel16Ideal.nD → PrngReg)
    (m' : (ℓ : Loc Cert.Reference16Ideal.nD Cert.Reference16Ideal.τ Cert.Reference16Ideal.sig) → Buf (Elt Ideal) ℓ) (g' : Dev Cert.Reference16Ideal.nD → PrngReg), Pre_Kernel16Ideal m →
    (∀ c : Dev Cert.Kernel16Ideal.nD,
      m' ((c.tc : Thread Cert.Reference16Ideal.nD Cert.Reference16Ideal.τ).loc Cert.Reference16Ideal.main_arg0) = m ((c.tc : Thread Cert.Kernel16Ideal.nD Cert.Kernel16Ideal.τ).loc Cert.Kernel16Ideal.main_arg0)
      ∧ m' ((c.tc : Thread Cert.Reference16Ideal.nD Cert.Reference16Ideal.τ).loc Cert.Reference16Ideal.main_arg1) = m ((c.tc : Thread Cert.Kernel16Ideal.nD Cert.Kernel16Ideal.τ).loc Cert.Kernel16Ideal.main_arg1)
      ∧ m' ((c.tc : Thread Cert.Reference16Ideal.nD Cert.Reference16Ideal.τ).loc Cert.Reference16Ideal.main_arg2) = m ((c.tc : Thread Cert.Kernel16Ideal.nD Cert.Kernel16Ideal.τ).loc Cert.Kernel16Ideal.main_arg2)
      ∧ m' ((c.tc : Thread Cert.Reference16Ideal.nD Cert.Reference16Ideal.τ).loc Cert.Reference16Ideal.main_arg3) = m ((c.tc : Thread Cert.Kernel16Ideal.nD Cert.Kernel16Ideal.τ).loc Cert.Kernel16Ideal.main_arg3)) →
    ∃ (v0 : (c : Dev Cert.Kernel16Ideal.nD) → Buf (Elt Ideal) ((c.tc : Thread Cert.Kernel16Ideal.nD Cert.Kernel16Ideal.τ).loc Cert.Kernel16Ideal.main_v4)),
      θ_run (Cert.Kernel16Ideal.defs (F := Ideal)) (onTc (τ := Cert.Kernel16Ideal.τ) (Cert.Kernel16Ideal.main (F := Ideal))) ⟨m, fun _ => 0, g⟩ (fun r => ∀ c : Dev Cert.Kernel16Ideal.nD,
          r.2.mem ((c.tc : Thread Cert.Kernel16Ideal.nD Cert.Kernel16Ideal.τ).loc Cert.Kernel16Ideal.main_v4) = v0 c
          ∧ r.2.mem ((c.tc : Thread Cert.Kernel16Ideal.nD Cert.Kernel16Ideal.τ).loc Cert.Kernel16Ideal.main_arg0) = m ((c.tc : Thread Cert.Kernel16Ideal.nD Cert.Kernel16Ideal.τ).loc Cert.Kernel16Ideal.main_arg0)
          ∧ r.2.mem ((c.tc : Thread Cert.Kernel16Ideal.nD Cert.Kernel16Ideal.τ).loc Cert.Kernel16Ideal.main_arg1) = m ((c.tc : Thread Cert.Kernel16Ideal.nD Cert.Kernel16Ideal.τ).loc Cert.Kernel16Ideal.main_arg1)
          ∧ r.2.mem ((c.tc : Thread Cert.Kernel16Ideal.nD Cert.Kernel16Ideal.τ).loc Cert.Kernel16Ideal.main_arg2) = m ((c.tc : Thread Cert.Kernel16Ideal.nD Cert.Kernel16Ideal.τ).loc Cert.Kernel16Ideal.main_arg2)
          ∧ r.2.mem ((c.tc : Thread Cert.Kernel16Ideal.nD Cert.Kernel16Ideal.τ).loc Cert.Kernel16Ideal.main_arg3) = m ((c.tc : Thread Cert.Kernel16Ideal.nD Cert.Kernel16Ideal.τ).loc Cert.Kernel16Ideal.main_arg3))
      ∧ θ_run (Cert.Reference16Ideal.defs (F := Ideal)) (onTc (τ := Cert.Reference16Ideal.τ) (Cert.Reference16Ideal.main (F := Ideal))) ⟨m', fun _ => 0, g'⟩ (fun r => ∀ c : Dev Cert.Reference16Ideal.nD,
          r.2.mem ((c.tc : Thread Cert.Reference16Ideal.nD Cert.Reference16Ideal.τ).loc Cert.Reference16Ideal.main_v46) = v0 c
          ∧ r.2.mem ((c.tc : Thread Cert.Reference16Ideal.nD Cert.Reference16Ideal.τ).loc Cert.Reference16Ideal.main_arg0) = m' ((c.tc : Thread Cert.Reference16Ideal.nD Cert.Reference16Ideal.τ).loc Cert.Reference16Ideal.main_arg0)
          ∧ r.2.mem ((c.tc : Thread Cert.Reference16Ideal.nD Cert.Reference16Ideal.τ).loc Cert.Reference16Ideal.main_arg1) = m' ((c.tc : Thread Cert.Reference16Ideal.nD Cert.Reference16Ideal.τ).loc Cert.Reference16Ideal.main_arg1)
          ∧ r.2.mem ((c.tc : Thread Cert.Reference16Ideal.nD Cert.Reference16Ideal.τ).loc Cert.Reference16Ideal.main_arg2) = m' ((c.tc : Thread Cert.Reference16Ideal.nD Cert.Reference16Ideal.τ).loc Cert.Reference16Ideal.main_arg2)
          ∧ r.2.mem ((c.tc : Thread Cert.Reference16Ideal.nD Cert.Reference16Ideal.τ).loc Cert.Reference16Ideal.main_arg3) = m' ((c.tc : Thread Cert.Reference16Ideal.nD Cert.Reference16Ideal.τ).loc Cert.Reference16Ideal.main_arg3))

def preserves_Kernel17_Kernel17Ideal : Prop :=
  True

def algebraic_Kernel17Ideal_Reference17Ideal [hKernel17Ideal : Cert.Kernel17Ideal.Facts] [hReference17Ideal : Cert.Reference17Ideal.Facts] : Prop :=
  ∀ (m : (ℓ : Loc Cert.Kernel17Ideal.nD Cert.Kernel17Ideal.τ Cert.Kernel17Ideal.sig) → Buf (Elt Ideal) ℓ) (g : Dev Cert.Kernel17Ideal.nD → PrngReg)
    (m' : (ℓ : Loc Cert.Reference17Ideal.nD Cert.Reference17Ideal.τ Cert.Reference17Ideal.sig) → Buf (Elt Ideal) ℓ) (g' : Dev Cert.Reference17Ideal.nD → PrngReg), Pre_Kernel17Ideal m →
    (∀ c : Dev Cert.Kernel17Ideal.nD,
      m' ((c.tc : Thread Cert.Reference17Ideal.nD Cert.Reference17Ideal.τ).loc Cert.Reference17Ideal.main_arg0) = m ((c.tc : Thread Cert.Kernel17Ideal.nD Cert.Kernel17Ideal.τ).loc Cert.Kernel17Ideal.main_arg0)
      ∧ m' ((c.tc : Thread Cert.Reference17Ideal.nD Cert.Reference17Ideal.τ).loc Cert.Reference17Ideal.main_arg1) = m ((c.tc : Thread Cert.Kernel17Ideal.nD Cert.Kernel17Ideal.τ).loc Cert.Kernel17Ideal.main_arg1)) →
    ∃ (v0 : (c : Dev Cert.Kernel17Ideal.nD) → Buf (Elt Ideal) ((c.tc : Thread Cert.Kernel17Ideal.nD Cert.Kernel17Ideal.τ).loc Cert.Kernel17Ideal.main_v0)),
      θ_run (Cert.Kernel17Ideal.defs (F := Ideal)) (onTc (τ := Cert.Kernel17Ideal.τ) (Cert.Kernel17Ideal.main (F := Ideal))) ⟨m, fun _ => 0, g⟩ (fun r => ∀ c : Dev Cert.Kernel17Ideal.nD,
          r.2.mem ((c.tc : Thread Cert.Kernel17Ideal.nD Cert.Kernel17Ideal.τ).loc Cert.Kernel17Ideal.main_v0) = v0 c
          ∧ r.2.mem ((c.tc : Thread Cert.Kernel17Ideal.nD Cert.Kernel17Ideal.τ).loc Cert.Kernel17Ideal.main_arg0) = m ((c.tc : Thread Cert.Kernel17Ideal.nD Cert.Kernel17Ideal.τ).loc Cert.Kernel17Ideal.main_arg0)
          ∧ r.2.mem ((c.tc : Thread Cert.Kernel17Ideal.nD Cert.Kernel17Ideal.τ).loc Cert.Kernel17Ideal.main_arg1) = m ((c.tc : Thread Cert.Kernel17Ideal.nD Cert.Kernel17Ideal.τ).loc Cert.Kernel17Ideal.main_arg1))
      ∧ θ_run (Cert.Reference17Ideal.defs (F := Ideal)) (onTc (τ := Cert.Reference17Ideal.τ) (Cert.Reference17Ideal.main (F := Ideal))) ⟨m', fun _ => 0, g'⟩ (fun r => ∀ c : Dev Cert.Reference17Ideal.nD,
          r.2.mem ((c.tc : Thread Cert.Reference17Ideal.nD Cert.Reference17Ideal.τ).loc Cert.Reference17Ideal.main_v2) = v0 c
          ∧ r.2.mem ((c.tc : Thread Cert.Reference17Ideal.nD Cert.Reference17Ideal.τ).loc Cert.Reference17Ideal.main_arg0) = m' ((c.tc : Thread Cert.Reference17Ideal.nD Cert.Reference17Ideal.τ).loc Cert.Reference17Ideal.main_arg0)
          ∧ r.2.mem ((c.tc : Thread Cert.Reference17Ideal.nD Cert.Reference17Ideal.τ).loc Cert.Reference17Ideal.main_arg1) = m' ((c.tc : Thread Cert.Reference17Ideal.nD Cert.Reference17Ideal.τ).loc Cert.Reference17Ideal.main_arg1))

def preserves_Kernel18_Kernel18Ideal : Prop :=
  True

def algebraic_Kernel18Ideal_Reference18Ideal [hKernel18Ideal : Cert.Kernel18Ideal.Facts] [hReference18Ideal : Cert.Reference18Ideal.Facts] : Prop :=
  ∀ (m : (ℓ : Loc Cert.Kernel18Ideal.nD Cert.Kernel18Ideal.τ Cert.Kernel18Ideal.sig) → Buf (Elt Ideal) ℓ) (g : Dev Cert.Kernel18Ideal.nD → PrngReg)
    (m' : (ℓ : Loc Cert.Reference18Ideal.nD Cert.Reference18Ideal.τ Cert.Reference18Ideal.sig) → Buf (Elt Ideal) ℓ) (g' : Dev Cert.Reference18Ideal.nD → PrngReg), Pre_Kernel18Ideal m →
    (∀ c : Dev Cert.Kernel18Ideal.nD,
      m' ((c.tc : Thread Cert.Reference18Ideal.nD Cert.Reference18Ideal.τ).loc Cert.Reference18Ideal.main_arg0) = m ((c.tc : Thread Cert.Kernel18Ideal.nD Cert.Kernel18Ideal.τ).loc Cert.Kernel18Ideal.main_arg0)
      ∧ m' ((c.tc : Thread Cert.Reference18Ideal.nD Cert.Reference18Ideal.τ).loc Cert.Reference18Ideal.main_arg1) = m ((c.tc : Thread Cert.Kernel18Ideal.nD Cert.Kernel18Ideal.τ).loc Cert.Kernel18Ideal.main_arg1)
      ∧ m' ((c.tc : Thread Cert.Reference18Ideal.nD Cert.Reference18Ideal.τ).loc Cert.Reference18Ideal.main_arg2) = m ((c.tc : Thread Cert.Kernel18Ideal.nD Cert.Kernel18Ideal.τ).loc Cert.Kernel18Ideal.main_arg2)
      ∧ m' ((c.tc : Thread Cert.Reference18Ideal.nD Cert.Reference18Ideal.τ).loc Cert.Reference18Ideal.main_arg3) = m ((c.tc : Thread Cert.Kernel18Ideal.nD Cert.Kernel18Ideal.τ).loc Cert.Kernel18Ideal.main_arg3)) →
    ∃ (v0 : (c : Dev Cert.Kernel18Ideal.nD) → Buf (Elt Ideal) ((c.tc : Thread Cert.Kernel18Ideal.nD Cert.Kernel18Ideal.τ).loc Cert.Kernel18Ideal.main_v1)),
      θ_run (Cert.Kernel18Ideal.defs (F := Ideal)) (onTc (τ := Cert.Kernel18Ideal.τ) (Cert.Kernel18Ideal.main (F := Ideal))) ⟨m, fun _ => 0, g⟩ (fun r => ∀ c : Dev Cert.Kernel18Ideal.nD,
          r.2.mem ((c.tc : Thread Cert.Kernel18Ideal.nD Cert.Kernel18Ideal.τ).loc Cert.Kernel18Ideal.main_v1) = v0 c
          ∧ r.2.mem ((c.tc : Thread Cert.Kernel18Ideal.nD Cert.Kernel18Ideal.τ).loc Cert.Kernel18Ideal.main_arg0) = m ((c.tc : Thread Cert.Kernel18Ideal.nD Cert.Kernel18Ideal.τ).loc Cert.Kernel18Ideal.main_arg0)
          ∧ r.2.mem ((c.tc : Thread Cert.Kernel18Ideal.nD Cert.Kernel18Ideal.τ).loc Cert.Kernel18Ideal.main_arg1) = m ((c.tc : Thread Cert.Kernel18Ideal.nD Cert.Kernel18Ideal.τ).loc Cert.Kernel18Ideal.main_arg1)
          ∧ r.2.mem ((c.tc : Thread Cert.Kernel18Ideal.nD Cert.Kernel18Ideal.τ).loc Cert.Kernel18Ideal.main_arg2) = m ((c.tc : Thread Cert.Kernel18Ideal.nD Cert.Kernel18Ideal.τ).loc Cert.Kernel18Ideal.main_arg2)
          ∧ r.2.mem ((c.tc : Thread Cert.Kernel18Ideal.nD Cert.Kernel18Ideal.τ).loc Cert.Kernel18Ideal.main_arg3) = m ((c.tc : Thread Cert.Kernel18Ideal.nD Cert.Kernel18Ideal.τ).loc Cert.Kernel18Ideal.main_arg3))
      ∧ θ_run (Cert.Reference18Ideal.defs (F := Ideal)) (onTc (τ := Cert.Reference18Ideal.τ) (Cert.Reference18Ideal.main (F := Ideal))) ⟨m', fun _ => 0, g'⟩ (fun r => ∀ c : Dev Cert.Reference18Ideal.nD,
          r.2.mem ((c.tc : Thread Cert.Reference18Ideal.nD Cert.Reference18Ideal.τ).loc Cert.Reference18Ideal.main_v26) = v0 c
          ∧ r.2.mem ((c.tc : Thread Cert.Reference18Ideal.nD Cert.Reference18Ideal.τ).loc Cert.Reference18Ideal.main_arg0) = m' ((c.tc : Thread Cert.Reference18Ideal.nD Cert.Reference18Ideal.τ).loc Cert.Reference18Ideal.main_arg0)
          ∧ r.2.mem ((c.tc : Thread Cert.Reference18Ideal.nD Cert.Reference18Ideal.τ).loc Cert.Reference18Ideal.main_arg1) = m' ((c.tc : Thread Cert.Reference18Ideal.nD Cert.Reference18Ideal.τ).loc Cert.Reference18Ideal.main_arg1)
          ∧ r.2.mem ((c.tc : Thread Cert.Reference18Ideal.nD Cert.Reference18Ideal.τ).loc Cert.Reference18Ideal.main_arg2) = m' ((c.tc : Thread Cert.Reference18Ideal.nD Cert.Reference18Ideal.τ).loc Cert.Reference18Ideal.main_arg2)
          ∧ r.2.mem ((c.tc : Thread Cert.Reference18Ideal.nD Cert.Reference18Ideal.τ).loc Cert.Reference18Ideal.main_arg3) = m' ((c.tc : Thread Cert.Reference18Ideal.nD Cert.Reference18Ideal.τ).loc Cert.Reference18Ideal.main_arg3))

def preserves_Kernel19_Kernel19Ideal : Prop :=
  True

def algebraic_Kernel19Ideal_Reference19Ideal [hKernel19Ideal : Cert.Kernel19Ideal.Facts] [hReference19Ideal : Cert.Reference19Ideal.Facts] : Prop :=
  ∀ (m : (ℓ : Loc Cert.Kernel19Ideal.nD Cert.Kernel19Ideal.τ Cert.Kernel19Ideal.sig) → Buf (Elt Ideal) ℓ) (g : Dev Cert.Kernel19Ideal.nD → PrngReg)
    (m' : (ℓ : Loc Cert.Reference19Ideal.nD Cert.Reference19Ideal.τ Cert.Reference19Ideal.sig) → Buf (Elt Ideal) ℓ) (g' : Dev Cert.Reference19Ideal.nD → PrngReg), Pre_Kernel19Ideal m →
    (∀ c : Dev Cert.Kernel19Ideal.nD,
      m' ((c.tc : Thread Cert.Reference19Ideal.nD Cert.Reference19Ideal.τ).loc Cert.Reference19Ideal.main_arg0) = m ((c.tc : Thread Cert.Kernel19Ideal.nD Cert.Kernel19Ideal.τ).loc Cert.Kernel19Ideal.main_arg0)
      ∧ m' ((c.tc : Thread Cert.Reference19Ideal.nD Cert.Reference19Ideal.τ).loc Cert.Reference19Ideal.main_arg1) = m ((c.tc : Thread Cert.Kernel19Ideal.nD Cert.Kernel19Ideal.τ).loc Cert.Kernel19Ideal.main_arg1)
      ∧ m' ((c.tc : Thread Cert.Reference19Ideal.nD Cert.Reference19Ideal.τ).loc Cert.Reference19Ideal.main_arg2) = m ((c.tc : Thread Cert.Kernel19Ideal.nD Cert.Kernel19Ideal.τ).loc Cert.Kernel19Ideal.main_arg2)
      ∧ m' ((c.tc : Thread Cert.Reference19Ideal.nD Cert.Reference19Ideal.τ).loc Cert.Reference19Ideal.main_arg3) = m ((c.tc : Thread Cert.Kernel19Ideal.nD Cert.Kernel19Ideal.τ).loc Cert.Kernel19Ideal.main_arg3)) →
    ∃ (v0 : (c : Dev Cert.Kernel19Ideal.nD) → Buf (Elt Ideal) ((c.tc : Thread Cert.Kernel19Ideal.nD Cert.Kernel19Ideal.τ).loc Cert.Kernel19Ideal.main_v1)),
      θ_run (Cert.Kernel19Ideal.defs (F := Ideal)) (onTc (τ := Cert.Kernel19Ideal.τ) (Cert.Kernel19Ideal.main (F := Ideal))) ⟨m, fun _ => 0, g⟩ (fun r => ∀ c : Dev Cert.Kernel19Ideal.nD,
          r.2.mem ((c.tc : Thread Cert.Kernel19Ideal.nD Cert.Kernel19Ideal.τ).loc Cert.Kernel19Ideal.main_v1) = v0 c
          ∧ r.2.mem ((c.tc : Thread Cert.Kernel19Ideal.nD Cert.Kernel19Ideal.τ).loc Cert.Kernel19Ideal.main_arg0) = m ((c.tc : Thread Cert.Kernel19Ideal.nD Cert.Kernel19Ideal.τ).loc Cert.Kernel19Ideal.main_arg0)
          ∧ r.2.mem ((c.tc : Thread Cert.Kernel19Ideal.nD Cert.Kernel19Ideal.τ).loc Cert.Kernel19Ideal.main_arg1) = m ((c.tc : Thread Cert.Kernel19Ideal.nD Cert.Kernel19Ideal.τ).loc Cert.Kernel19Ideal.main_arg1)
          ∧ r.2.mem ((c.tc : Thread Cert.Kernel19Ideal.nD Cert.Kernel19Ideal.τ).loc Cert.Kernel19Ideal.main_arg2) = m ((c.tc : Thread Cert.Kernel19Ideal.nD Cert.Kernel19Ideal.τ).loc Cert.Kernel19Ideal.main_arg2)
          ∧ r.2.mem ((c.tc : Thread Cert.Kernel19Ideal.nD Cert.Kernel19Ideal.τ).loc Cert.Kernel19Ideal.main_arg3) = m ((c.tc : Thread Cert.Kernel19Ideal.nD Cert.Kernel19Ideal.τ).loc Cert.Kernel19Ideal.main_arg3))
      ∧ θ_run (Cert.Reference19Ideal.defs (F := Ideal)) (onTc (τ := Cert.Reference19Ideal.τ) (Cert.Reference19Ideal.main (F := Ideal))) ⟨m', fun _ => 0, g'⟩ (fun r => ∀ c : Dev Cert.Reference19Ideal.nD,
          r.2.mem ((c.tc : Thread Cert.Reference19Ideal.nD Cert.Reference19Ideal.τ).loc Cert.Reference19Ideal.main_v27) = v0 c
          ∧ r.2.mem ((c.tc : Thread Cert.Reference19Ideal.nD Cert.Reference19Ideal.τ).loc Cert.Reference19Ideal.main_arg0) = m' ((c.tc : Thread Cert.Reference19Ideal.nD Cert.Reference19Ideal.τ).loc Cert.Reference19Ideal.main_arg0)
          ∧ r.2.mem ((c.tc : Thread Cert.Reference19Ideal.nD Cert.Reference19Ideal.τ).loc Cert.Reference19Ideal.main_arg1) = m' ((c.tc : Thread Cert.Reference19Ideal.nD Cert.Reference19Ideal.τ).loc Cert.Reference19Ideal.main_arg1)
          ∧ r.2.mem ((c.tc : Thread Cert.Reference19Ideal.nD Cert.Reference19Ideal.τ).loc Cert.Reference19Ideal.main_arg2) = m' ((c.tc : Thread Cert.Reference19Ideal.nD Cert.Reference19Ideal.τ).loc Cert.Reference19Ideal.main_arg2)
          ∧ r.2.mem ((c.tc : Thread Cert.Reference19Ideal.nD Cert.Reference19Ideal.τ).loc Cert.Reference19Ideal.main_arg3) = m' ((c.tc : Thread Cert.Reference19Ideal.nD Cert.Reference19Ideal.τ).loc Cert.Reference19Ideal.main_arg3))

def preserves_Kernel20_Kernel20Ideal : Prop :=
  True

def algebraic_Kernel20Ideal_Reference20Ideal [hKernel20Ideal : Cert.Kernel20Ideal.Facts] [hReference20Ideal : Cert.Reference20Ideal.Facts] : Prop :=
  ∀ (m : (ℓ : Loc Cert.Kernel20Ideal.nD Cert.Kernel20Ideal.τ Cert.Kernel20Ideal.sig) → Buf (Elt Ideal) ℓ) (g : Dev Cert.Kernel20Ideal.nD → PrngReg)
    (m' : (ℓ : Loc Cert.Reference20Ideal.nD Cert.Reference20Ideal.τ Cert.Reference20Ideal.sig) → Buf (Elt Ideal) ℓ) (g' : Dev Cert.Reference20Ideal.nD → PrngReg), Pre_Kernel20Ideal m →
    (∀ c : Dev Cert.Kernel20Ideal.nD,
      m' ((c.tc : Thread Cert.Reference20Ideal.nD Cert.Reference20Ideal.τ).loc Cert.Reference20Ideal.main_arg0) = m ((c.tc : Thread Cert.Kernel20Ideal.nD Cert.Kernel20Ideal.τ).loc Cert.Kernel20Ideal.main_arg0)
      ∧ m' ((c.tc : Thread Cert.Reference20Ideal.nD Cert.Reference20Ideal.τ).loc Cert.Reference20Ideal.main_arg1) = m ((c.tc : Thread Cert.Kernel20Ideal.nD Cert.Kernel20Ideal.τ).loc Cert.Kernel20Ideal.main_arg1)
      ∧ m' ((c.tc : Thread Cert.Reference20Ideal.nD Cert.Reference20Ideal.τ).loc Cert.Reference20Ideal.main_arg2) = m ((c.tc : Thread Cert.Kernel20Ideal.nD Cert.Kernel20Ideal.τ).loc Cert.Kernel20Ideal.main_arg2)
      ∧ m' ((c.tc : Thread Cert.Reference20Ideal.nD Cert.Reference20Ideal.τ).loc Cert.Reference20Ideal.main_arg3) = m ((c.tc : Thread Cert.Kernel20Ideal.nD Cert.Kernel20Ideal.τ).loc Cert.Kernel20Ideal.main_arg3)) →
    ∃ (v0 : (c : Dev Cert.Kernel20Ideal.nD) → Buf (Elt Ideal) ((c.tc : Thread Cert.Kernel20Ideal.nD Cert.Kernel20Ideal.τ).loc Cert.Kernel20Ideal.main_v1)),
      θ_run (Cert.Kernel20Ideal.defs (F := Ideal)) (onTc (τ := Cert.Kernel20Ideal.τ) (Cert.Kernel20Ideal.main (F := Ideal))) ⟨m, fun _ => 0, g⟩ (fun r => ∀ c : Dev Cert.Kernel20Ideal.nD,
          r.2.mem ((c.tc : Thread Cert.Kernel20Ideal.nD Cert.Kernel20Ideal.τ).loc Cert.Kernel20Ideal.main_v1) = v0 c
          ∧ r.2.mem ((c.tc : Thread Cert.Kernel20Ideal.nD Cert.Kernel20Ideal.τ).loc Cert.Kernel20Ideal.main_arg0) = m ((c.tc : Thread Cert.Kernel20Ideal.nD Cert.Kernel20Ideal.τ).loc Cert.Kernel20Ideal.main_arg0)
          ∧ r.2.mem ((c.tc : Thread Cert.Kernel20Ideal.nD Cert.Kernel20Ideal.τ).loc Cert.Kernel20Ideal.main_arg1) = m ((c.tc : Thread Cert.Kernel20Ideal.nD Cert.Kernel20Ideal.τ).loc Cert.Kernel20Ideal.main_arg1)
          ∧ r.2.mem ((c.tc : Thread Cert.Kernel20Ideal.nD Cert.Kernel20Ideal.τ).loc Cert.Kernel20Ideal.main_arg2) = m ((c.tc : Thread Cert.Kernel20Ideal.nD Cert.Kernel20Ideal.τ).loc Cert.Kernel20Ideal.main_arg2)
          ∧ r.2.mem ((c.tc : Thread Cert.Kernel20Ideal.nD Cert.Kernel20Ideal.τ).loc Cert.Kernel20Ideal.main_arg3) = m ((c.tc : Thread Cert.Kernel20Ideal.nD Cert.Kernel20Ideal.τ).loc Cert.Kernel20Ideal.main_arg3))
      ∧ θ_run (Cert.Reference20Ideal.defs (F := Ideal)) (onTc (τ := Cert.Reference20Ideal.τ) (Cert.Reference20Ideal.main (F := Ideal))) ⟨m', fun _ => 0, g'⟩ (fun r => ∀ c : Dev Cert.Reference20Ideal.nD,
          r.2.mem ((c.tc : Thread Cert.Reference20Ideal.nD Cert.Reference20Ideal.τ).loc Cert.Reference20Ideal.main_v27) = v0 c
          ∧ r.2.mem ((c.tc : Thread Cert.Reference20Ideal.nD Cert.Reference20Ideal.τ).loc Cert.Reference20Ideal.main_arg0) = m' ((c.tc : Thread Cert.Reference20Ideal.nD Cert.Reference20Ideal.τ).loc Cert.Reference20Ideal.main_arg0)
          ∧ r.2.mem ((c.tc : Thread Cert.Reference20Ideal.nD Cert.Reference20Ideal.τ).loc Cert.Reference20Ideal.main_arg1) = m' ((c.tc : Thread Cert.Reference20Ideal.nD Cert.Reference20Ideal.τ).loc Cert.Reference20Ideal.main_arg1)
          ∧ r.2.mem ((c.tc : Thread Cert.Reference20Ideal.nD Cert.Reference20Ideal.τ).loc Cert.Reference20Ideal.main_arg2) = m' ((c.tc : Thread Cert.Reference20Ideal.nD Cert.Reference20Ideal.τ).loc Cert.Reference20Ideal.main_arg2)
          ∧ r.2.mem ((c.tc : Thread Cert.Reference20Ideal.nD Cert.Reference20Ideal.τ).loc Cert.Reference20Ideal.main_arg3) = m' ((c.tc : Thread Cert.Reference20Ideal.nD Cert.Reference20Ideal.τ).loc Cert.Reference20Ideal.main_arg3))

def preserves_Kernel21_Kernel21Ideal : Prop :=
  True

def algebraic_Kernel21Ideal_Reference21Ideal [hKernel21Ideal : Cert.Kernel21Ideal.Facts] [hReference21Ideal : Cert.Reference21Ideal.Facts] : Prop :=
  ∀ (m : (ℓ : Loc Cert.Kernel21Ideal.nD Cert.Kernel21Ideal.τ Cert.Kernel21Ideal.sig) → Buf (Elt Ideal) ℓ) (g : Dev Cert.Kernel21Ideal.nD → PrngReg)
    (m' : (ℓ : Loc Cert.Reference21Ideal.nD Cert.Reference21Ideal.τ Cert.Reference21Ideal.sig) → Buf (Elt Ideal) ℓ) (g' : Dev Cert.Reference21Ideal.nD → PrngReg), Pre_Kernel21Ideal m →
    (∀ c : Dev Cert.Kernel21Ideal.nD,
      m' ((c.tc : Thread Cert.Reference21Ideal.nD Cert.Reference21Ideal.τ).loc Cert.Reference21Ideal.main_arg0) = m ((c.tc : Thread Cert.Kernel21Ideal.nD Cert.Kernel21Ideal.τ).loc Cert.Kernel21Ideal.main_arg0)
      ∧ m' ((c.tc : Thread Cert.Reference21Ideal.nD Cert.Reference21Ideal.τ).loc Cert.Reference21Ideal.main_arg1) = m ((c.tc : Thread Cert.Kernel21Ideal.nD Cert.Kernel21Ideal.τ).loc Cert.Kernel21Ideal.main_arg1)) →
    ∃ (v0 : (c : Dev Cert.Kernel21Ideal.nD) → Buf (Elt Ideal) ((c.tc : Thread Cert.Kernel21Ideal.nD Cert.Kernel21Ideal.τ).loc Cert.Kernel21Ideal.main_v1)),
      θ_run (Cert.Kernel21Ideal.defs (F := Ideal)) (onTc (τ := Cert.Kernel21Ideal.τ) (Cert.Kernel21Ideal.main (F := Ideal))) ⟨m, fun _ => 0, g⟩ (fun r => ∀ c : Dev Cert.Kernel21Ideal.nD,
          r.2.mem ((c.tc : Thread Cert.Kernel21Ideal.nD Cert.Kernel21Ideal.τ).loc Cert.Kernel21Ideal.main_v1) = v0 c
          ∧ r.2.mem ((c.tc : Thread Cert.Kernel21Ideal.nD Cert.Kernel21Ideal.τ).loc Cert.Kernel21Ideal.main_arg0) = m ((c.tc : Thread Cert.Kernel21Ideal.nD Cert.Kernel21Ideal.τ).loc Cert.Kernel21Ideal.main_arg0)
          ∧ r.2.mem ((c.tc : Thread Cert.Kernel21Ideal.nD Cert.Kernel21Ideal.τ).loc Cert.Kernel21Ideal.main_arg1) = m ((c.tc : Thread Cert.Kernel21Ideal.nD Cert.Kernel21Ideal.τ).loc Cert.Kernel21Ideal.main_arg1))
      ∧ θ_run (Cert.Reference21Ideal.defs (F := Ideal)) (onTc (τ := Cert.Reference21Ideal.τ) (Cert.Reference21Ideal.main (F := Ideal))) ⟨m', fun _ => 0, g'⟩ (fun r => ∀ c : Dev Cert.Reference21Ideal.nD,
          r.2.mem ((c.tc : Thread Cert.Reference21Ideal.nD Cert.Reference21Ideal.τ).loc Cert.Reference21Ideal.main_v14) = v0 c
          ∧ r.2.mem ((c.tc : Thread Cert.Reference21Ideal.nD Cert.Reference21Ideal.τ).loc Cert.Reference21Ideal.main_arg0) = m' ((c.tc : Thread Cert.Reference21Ideal.nD Cert.Reference21Ideal.τ).loc Cert.Reference21Ideal.main_arg0)
          ∧ r.2.mem ((c.tc : Thread Cert.Reference21Ideal.nD Cert.Reference21Ideal.τ).loc Cert.Reference21Ideal.main_arg1) = m' ((c.tc : Thread Cert.Reference21Ideal.nD Cert.Reference21Ideal.τ).loc Cert.Reference21Ideal.main_arg1))

def preserves_Kernel22_Kernel22Ideal : Prop :=
  True

def algebraic_Kernel22Ideal_Reference22Ideal [hKernel22Ideal : Cert.Kernel22Ideal.Facts] [hReference22Ideal : Cert.Reference22Ideal.Facts] : Prop :=
  ∀ (m : (ℓ : Loc Cert.Kernel22Ideal.nD Cert.Kernel22Ideal.τ Cert.Kernel22Ideal.sig) → Buf (Elt Ideal) ℓ) (g : Dev Cert.Kernel22Ideal.nD → PrngReg)
    (m' : (ℓ : Loc Cert.Reference22Ideal.nD Cert.Reference22Ideal.τ Cert.Reference22Ideal.sig) → Buf (Elt Ideal) ℓ) (g' : Dev Cert.Reference22Ideal.nD → PrngReg), Pre_Kernel22Ideal m →
    (∀ c : Dev Cert.Kernel22Ideal.nD,
      m' ((c.tc : Thread Cert.Reference22Ideal.nD Cert.Reference22Ideal.τ).loc Cert.Reference22Ideal.main_arg0) = m ((c.tc : Thread Cert.Kernel22Ideal.nD Cert.Kernel22Ideal.τ).loc Cert.Kernel22Ideal.main_arg0)
      ∧ m' ((c.tc : Thread Cert.Reference22Ideal.nD Cert.Reference22Ideal.τ).loc Cert.Reference22Ideal.main_arg1) = m ((c.tc : Thread Cert.Kernel22Ideal.nD Cert.Kernel22Ideal.τ).loc Cert.Kernel22Ideal.main_arg1)) →
    ∃ (v0 : (c : Dev Cert.Kernel22Ideal.nD) → Buf (Elt Ideal) ((c.tc : Thread Cert.Kernel22Ideal.nD Cert.Kernel22Ideal.τ).loc Cert.Kernel22Ideal.main_v1)),
      θ_run (Cert.Kernel22Ideal.defs (F := Ideal)) (onTc (τ := Cert.Kernel22Ideal.τ) (Cert.Kernel22Ideal.main (F := Ideal))) ⟨m, fun _ => 0, g⟩ (fun r => ∀ c : Dev Cert.Kernel22Ideal.nD,
          r.2.mem ((c.tc : Thread Cert.Kernel22Ideal.nD Cert.Kernel22Ideal.τ).loc Cert.Kernel22Ideal.main_v1) = v0 c
          ∧ r.2.mem ((c.tc : Thread Cert.Kernel22Ideal.nD Cert.Kernel22Ideal.τ).loc Cert.Kernel22Ideal.main_arg0) = m ((c.tc : Thread Cert.Kernel22Ideal.nD Cert.Kernel22Ideal.τ).loc Cert.Kernel22Ideal.main_arg0)
          ∧ r.2.mem ((c.tc : Thread Cert.Kernel22Ideal.nD Cert.Kernel22Ideal.τ).loc Cert.Kernel22Ideal.main_arg1) = m ((c.tc : Thread Cert.Kernel22Ideal.nD Cert.Kernel22Ideal.τ).loc Cert.Kernel22Ideal.main_arg1))
      ∧ θ_run (Cert.Reference22Ideal.defs (F := Ideal)) (onTc (τ := Cert.Reference22Ideal.τ) (Cert.Reference22Ideal.main (F := Ideal))) ⟨m', fun _ => 0, g'⟩ (fun r => ∀ c : Dev Cert.Reference22Ideal.nD,
          r.2.mem ((c.tc : Thread Cert.Reference22Ideal.nD Cert.Reference22Ideal.τ).loc Cert.Reference22Ideal.main_v14) = v0 c
          ∧ r.2.mem ((c.tc : Thread Cert.Reference22Ideal.nD Cert.Reference22Ideal.τ).loc Cert.Reference22Ideal.main_arg0) = m' ((c.tc : Thread Cert.Reference22Ideal.nD Cert.Reference22Ideal.τ).loc Cert.Reference22Ideal.main_arg0)
          ∧ r.2.mem ((c.tc : Thread Cert.Reference22Ideal.nD Cert.Reference22Ideal.τ).loc Cert.Reference22Ideal.main_arg1) = m' ((c.tc : Thread Cert.Reference22Ideal.nD Cert.Reference22Ideal.τ).loc Cert.Reference22Ideal.main_arg1))

def preserves_Kernel23_Kernel23Ideal : Prop :=
  True

def algebraic_Kernel23Ideal_Reference23Ideal [hKernel23Ideal : Cert.Kernel23Ideal.Facts] [hReference23Ideal : Cert.Reference23Ideal.Facts] : Prop :=
  ∀ (m : (ℓ : Loc Cert.Kernel23Ideal.nD Cert.Kernel23Ideal.τ Cert.Kernel23Ideal.sig) → Buf (Elt Ideal) ℓ) (g : Dev Cert.Kernel23Ideal.nD → PrngReg)
    (m' : (ℓ : Loc Cert.Reference23Ideal.nD Cert.Reference23Ideal.τ Cert.Reference23Ideal.sig) → Buf (Elt Ideal) ℓ) (g' : Dev Cert.Reference23Ideal.nD → PrngReg), Pre_Kernel23Ideal m →
    (∀ c : Dev Cert.Kernel23Ideal.nD,
      m' ((c.tc : Thread Cert.Reference23Ideal.nD Cert.Reference23Ideal.τ).loc Cert.Reference23Ideal.main_arg0) = m ((c.tc : Thread Cert.Kernel23Ideal.nD Cert.Kernel23Ideal.τ).loc Cert.Kernel23Ideal.main_arg0)
      ∧ m' ((c.tc : Thread Cert.Reference23Ideal.nD Cert.Reference23Ideal.τ).loc Cert.Reference23Ideal.main_arg1) = m ((c.tc : Thread Cert.Kernel23Ideal.nD Cert.Kernel23Ideal.τ).loc Cert.Kernel23Ideal.main_arg1)) →
    ∃ (v0 : (c : Dev Cert.Kernel23Ideal.nD) → Buf (Elt Ideal) ((c.tc : Thread Cert.Kernel23Ideal.nD Cert.Kernel23Ideal.τ).loc Cert.Kernel23Ideal.main_v1)),
      θ_run (Cert.Kernel23Ideal.defs (F := Ideal)) (onTc (τ := Cert.Kernel23Ideal.τ) (Cert.Kernel23Ideal.main (F := Ideal))) ⟨m, fun _ => 0, g⟩ (fun r => ∀ c : Dev Cert.Kernel23Ideal.nD,
          r.2.mem ((c.tc : Thread Cert.Kernel23Ideal.nD Cert.Kernel23Ideal.τ).loc Cert.Kernel23Ideal.main_v1) = v0 c
          ∧ r.2.mem ((c.tc : Thread Cert.Kernel23Ideal.nD Cert.Kernel23Ideal.τ).loc Cert.Kernel23Ideal.main_arg0) = m ((c.tc : Thread Cert.Kernel23Ideal.nD Cert.Kernel23Ideal.τ).loc Cert.Kernel23Ideal.main_arg0)
          ∧ r.2.mem ((c.tc : Thread Cert.Kernel23Ideal.nD Cert.Kernel23Ideal.τ).loc Cert.Kernel23Ideal.main_arg1) = m ((c.tc : Thread Cert.Kernel23Ideal.nD Cert.Kernel23Ideal.τ).loc Cert.Kernel23Ideal.main_arg1))
      ∧ θ_run (Cert.Reference23Ideal.defs (F := Ideal)) (onTc (τ := Cert.Reference23Ideal.τ) (Cert.Reference23Ideal.main (F := Ideal))) ⟨m', fun _ => 0, g'⟩ (fun r => ∀ c : Dev Cert.Reference23Ideal.nD,
          r.2.mem ((c.tc : Thread Cert.Reference23Ideal.nD Cert.Reference23Ideal.τ).loc Cert.Reference23Ideal.main_v14) = v0 c
          ∧ r.2.mem ((c.tc : Thread Cert.Reference23Ideal.nD Cert.Reference23Ideal.τ).loc Cert.Reference23Ideal.main_arg0) = m' ((c.tc : Thread Cert.Reference23Ideal.nD Cert.Reference23Ideal.τ).loc Cert.Reference23Ideal.main_arg0)
          ∧ r.2.mem ((c.tc : Thread Cert.Reference23Ideal.nD Cert.Reference23Ideal.τ).loc Cert.Reference23Ideal.main_arg1) = m' ((c.tc : Thread Cert.Reference23Ideal.nD Cert.Reference23Ideal.τ).loc Cert.Reference23Ideal.main_arg1))

def preserves_Kernel24_Kernel24Ideal : Prop :=
  True

def algebraic_Kernel24Ideal_Reference24Ideal [hKernel24Ideal : Cert.Kernel24Ideal.Facts] [hReference24Ideal : Cert.Reference24Ideal.Facts] : Prop :=
  ∀ (m : (ℓ : Loc Cert.Kernel24Ideal.nD Cert.Kernel24Ideal.τ Cert.Kernel24Ideal.sig) → Buf (Elt Ideal) ℓ) (g : Dev Cert.Kernel24Ideal.nD → PrngReg)
    (m' : (ℓ : Loc Cert.Reference24Ideal.nD Cert.Reference24Ideal.τ Cert.Reference24Ideal.sig) → Buf (Elt Ideal) ℓ) (g' : Dev Cert.Reference24Ideal.nD → PrngReg), Pre_Kernel24Ideal m →
    (∀ c : Dev Cert.Kernel24Ideal.nD,
      m' ((c.tc : Thread Cert.Reference24Ideal.nD Cert.Reference24Ideal.τ).loc Cert.Reference24Ideal.main_arg0) = m ((c.tc : Thread Cert.Kernel24Ideal.nD Cert.Kernel24Ideal.τ).loc Cert.Kernel24Ideal.main_arg0)
      ∧ m' ((c.tc : Thread Cert.Reference24Ideal.nD Cert.Reference24Ideal.τ).loc Cert.Reference24Ideal.main_arg1) = m ((c.tc : Thread Cert.Kernel24Ideal.nD Cert.Kernel24Ideal.τ).loc Cert.Kernel24Ideal.main_arg1)
      ∧ m' ((c.tc : Thread Cert.Reference24Ideal.nD Cert.Reference24Ideal.τ).loc Cert.Reference24Ideal.main_arg2) = m ((c.tc : Thread Cert.Kernel24Ideal.nD Cert.Kernel24Ideal.τ).loc Cert.Kernel24Ideal.main_arg2)) →
    ∃ (v0 : (c : Dev Cert.Kernel24Ideal.nD) → Buf (Elt Ideal) ((c.tc : Thread Cert.Kernel24Ideal.nD Cert.Kernel24Ideal.τ).loc Cert.Kernel24Ideal.main_v1)),
      θ_run (Cert.Kernel24Ideal.defs (F := Ideal)) (onTc (τ := Cert.Kernel24Ideal.τ) (Cert.Kernel24Ideal.main (F := Ideal))) ⟨m, fun _ => 0, g⟩ (fun r => ∀ c : Dev Cert.Kernel24Ideal.nD,
          r.2.mem ((c.tc : Thread Cert.Kernel24Ideal.nD Cert.Kernel24Ideal.τ).loc Cert.Kernel24Ideal.main_v1) = v0 c
          ∧ r.2.mem ((c.tc : Thread Cert.Kernel24Ideal.nD Cert.Kernel24Ideal.τ).loc Cert.Kernel24Ideal.main_arg0) = m ((c.tc : Thread Cert.Kernel24Ideal.nD Cert.Kernel24Ideal.τ).loc Cert.Kernel24Ideal.main_arg0)
          ∧ r.2.mem ((c.tc : Thread Cert.Kernel24Ideal.nD Cert.Kernel24Ideal.τ).loc Cert.Kernel24Ideal.main_arg1) = m ((c.tc : Thread Cert.Kernel24Ideal.nD Cert.Kernel24Ideal.τ).loc Cert.Kernel24Ideal.main_arg1)
          ∧ r.2.mem ((c.tc : Thread Cert.Kernel24Ideal.nD Cert.Kernel24Ideal.τ).loc Cert.Kernel24Ideal.main_arg2) = m ((c.tc : Thread Cert.Kernel24Ideal.nD Cert.Kernel24Ideal.τ).loc Cert.Kernel24Ideal.main_arg2))
      ∧ θ_run (Cert.Reference24Ideal.defs (F := Ideal)) (onTc (τ := Cert.Reference24Ideal.τ) (Cert.Reference24Ideal.main (F := Ideal))) ⟨m', fun _ => 0, g'⟩ (fun r => ∀ c : Dev Cert.Reference24Ideal.nD,
          r.2.mem ((c.tc : Thread Cert.Reference24Ideal.nD Cert.Reference24Ideal.τ).loc Cert.Reference24Ideal.main_v29) = v0 c
          ∧ r.2.mem ((c.tc : Thread Cert.Reference24Ideal.nD Cert.Reference24Ideal.τ).loc Cert.Reference24Ideal.main_arg0) = m' ((c.tc : Thread Cert.Reference24Ideal.nD Cert.Reference24Ideal.τ).loc Cert.Reference24Ideal.main_arg0)
          ∧ r.2.mem ((c.tc : Thread Cert.Reference24Ideal.nD Cert.Reference24Ideal.τ).loc Cert.Reference24Ideal.main_arg1) = m' ((c.tc : Thread Cert.Reference24Ideal.nD Cert.Reference24Ideal.τ).loc Cert.Reference24Ideal.main_arg1)
          ∧ r.2.mem ((c.tc : Thread Cert.Reference24Ideal.nD Cert.Reference24Ideal.τ).loc Cert.Reference24Ideal.main_arg2) = m' ((c.tc : Thread Cert.Reference24Ideal.nD Cert.Reference24Ideal.τ).loc Cert.Reference24Ideal.main_arg2))

def preserves_Kernel25_Kernel25Ideal : Prop :=
  True

def algebraic_Kernel25Ideal_Reference25Ideal [hKernel25Ideal : Cert.Kernel25Ideal.Facts] [hReference25Ideal : Cert.Reference25Ideal.Facts] : Prop :=
  ∀ (m : (ℓ : Loc Cert.Kernel25Ideal.nD Cert.Kernel25Ideal.τ Cert.Kernel25Ideal.sig) → Buf (Elt Ideal) ℓ) (g : Dev Cert.Kernel25Ideal.nD → PrngReg)
    (m' : (ℓ : Loc Cert.Reference25Ideal.nD Cert.Reference25Ideal.τ Cert.Reference25Ideal.sig) → Buf (Elt Ideal) ℓ) (g' : Dev Cert.Reference25Ideal.nD → PrngReg), Pre_Kernel25Ideal m →
    (∀ c : Dev Cert.Kernel25Ideal.nD,
      m' ((c.tc : Thread Cert.Reference25Ideal.nD Cert.Reference25Ideal.τ).loc Cert.Reference25Ideal.main_arg0) = m ((c.tc : Thread Cert.Kernel25Ideal.nD Cert.Kernel25Ideal.τ).loc Cert.Kernel25Ideal.main_arg0)
      ∧ m' ((c.tc : Thread Cert.Reference25Ideal.nD Cert.Reference25Ideal.τ).loc Cert.Reference25Ideal.main_arg1) = m ((c.tc : Thread Cert.Kernel25Ideal.nD Cert.Kernel25Ideal.τ).loc Cert.Kernel25Ideal.main_arg1)
      ∧ m' ((c.tc : Thread Cert.Reference25Ideal.nD Cert.Reference25Ideal.τ).loc Cert.Reference25Ideal.main_arg2) = m ((c.tc : Thread Cert.Kernel25Ideal.nD Cert.Kernel25Ideal.τ).loc Cert.Kernel25Ideal.main_arg2)) →
    ∃ (v0 : (c : Dev Cert.Kernel25Ideal.nD) → Buf (Elt Ideal) ((c.tc : Thread Cert.Kernel25Ideal.nD Cert.Kernel25Ideal.τ).loc Cert.Kernel25Ideal.main_v1)),
      θ_run (Cert.Kernel25Ideal.defs (F := Ideal)) (onTc (τ := Cert.Kernel25Ideal.τ) (Cert.Kernel25Ideal.main (F := Ideal))) ⟨m, fun _ => 0, g⟩ (fun r => ∀ c : Dev Cert.Kernel25Ideal.nD,
          r.2.mem ((c.tc : Thread Cert.Kernel25Ideal.nD Cert.Kernel25Ideal.τ).loc Cert.Kernel25Ideal.main_v1) = v0 c
          ∧ r.2.mem ((c.tc : Thread Cert.Kernel25Ideal.nD Cert.Kernel25Ideal.τ).loc Cert.Kernel25Ideal.main_arg0) = m ((c.tc : Thread Cert.Kernel25Ideal.nD Cert.Kernel25Ideal.τ).loc Cert.Kernel25Ideal.main_arg0)
          ∧ r.2.mem ((c.tc : Thread Cert.Kernel25Ideal.nD Cert.Kernel25Ideal.τ).loc Cert.Kernel25Ideal.main_arg1) = m ((c.tc : Thread Cert.Kernel25Ideal.nD Cert.Kernel25Ideal.τ).loc Cert.Kernel25Ideal.main_arg1)
          ∧ r.2.mem ((c.tc : Thread Cert.Kernel25Ideal.nD Cert.Kernel25Ideal.τ).loc Cert.Kernel25Ideal.main_arg2) = m ((c.tc : Thread Cert.Kernel25Ideal.nD Cert.Kernel25Ideal.τ).loc Cert.Kernel25Ideal.main_arg2))
      ∧ θ_run (Cert.Reference25Ideal.defs (F := Ideal)) (onTc (τ := Cert.Reference25Ideal.τ) (Cert.Reference25Ideal.main (F := Ideal))) ⟨m', fun _ => 0, g'⟩ (fun r => ∀ c : Dev Cert.Reference25Ideal.nD,
          r.2.mem ((c.tc : Thread Cert.Reference25Ideal.nD Cert.Reference25Ideal.τ).loc Cert.Reference25Ideal.main_v29) = v0 c
          ∧ r.2.mem ((c.tc : Thread Cert.Reference25Ideal.nD Cert.Reference25Ideal.τ).loc Cert.Reference25Ideal.main_arg0) = m' ((c.tc : Thread Cert.Reference25Ideal.nD Cert.Reference25Ideal.τ).loc Cert.Reference25Ideal.main_arg0)
          ∧ r.2.mem ((c.tc : Thread Cert.Reference25Ideal.nD Cert.Reference25Ideal.τ).loc Cert.Reference25Ideal.main_arg1) = m' ((c.tc : Thread Cert.Reference25Ideal.nD Cert.Reference25Ideal.τ).loc Cert.Reference25Ideal.main_arg1)
          ∧ r.2.mem ((c.tc : Thread Cert.Reference25Ideal.nD Cert.Reference25Ideal.τ).loc Cert.Reference25Ideal.main_arg2) = m' ((c.tc : Thread Cert.Reference25Ideal.nD Cert.Reference25Ideal.τ).loc Cert.Reference25Ideal.main_arg2))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts) (hKernel3 : Cert.Kernel3.Facts) (hKernel3Ideal : Cert.Kernel3Ideal.Facts) (hReference3Ideal : Cert.Reference3Ideal.Facts) (hKernel4 : Cert.Kernel4.Facts) (hKernel4Ideal : Cert.Kernel4Ideal.Facts) (hReference4Ideal : Cert.Reference4Ideal.Facts) (hKernel5 : Cert.Kernel5.Facts) (hKernel5Ideal : Cert.Kernel5Ideal.Facts) (hReference5Ideal : Cert.Reference5Ideal.Facts) (hKernel6 : Cert.Kernel6.Facts) (hKernel6Ideal : Cert.Kernel6Ideal.Facts) (hReference6Ideal : Cert.Reference6Ideal.Facts) (hKernel7 : Cert.Kernel7.Facts) (hKernel7Ideal : Cert.Kernel7Ideal.Facts) (hReference7Ideal : Cert.Reference7Ideal.Facts) (hKernel8 : Cert.Kernel8.Facts) (hKernel8Ideal : Cert.Kernel8Ideal.Facts) (hReference8Ideal : Cert.Reference8Ideal.Facts) (hKernel9 : Cert.Kernel9.Facts) (hKernel9Ideal : Cert.Kernel9Ideal.Facts) (hReference9Ideal : Cert.Reference9Ideal.Facts) (hKernel10 : Cert.Kernel10.Facts) (hKernel10Ideal : Cert.Kernel10Ideal.Facts) (hReference10Ideal : Cert.Reference10Ideal.Facts) (hKernel11 : Cert.Kernel11.Facts) (hKernel11Ideal : Cert.Kernel11Ideal.Facts) (hReference11Ideal : Cert.Reference11Ideal.Facts) (hKernel12 : Cert.Kernel12.Facts) (hKernel12Ideal : Cert.Kernel12Ideal.Facts) (hReference12Ideal : Cert.Reference12Ideal.Facts) (hKernel13 : Cert.Kernel13.Facts) (hKernel13Ideal : Cert.Kernel13Ideal.Facts) (hReference13Ideal : Cert.Reference13Ideal.Facts) (hKernel14 : Cert.Kernel14.Facts) (hKernel14Ideal : Cert.Kernel14Ideal.Facts) (hReference14Ideal : Cert.Reference14Ideal.Facts) (hKernel15 : Cert.Kernel15.Facts) (hKernel15Ideal : Cert.Kernel15Ideal.Facts) (hReference15Ideal : Cert.Reference15Ideal.Facts) (hKernel16 : Cert.Kernel16.Facts) (hKernel16Ideal : Cert.Kernel16Ideal.Facts) (hReference16Ideal : Cert.Reference16Ideal.Facts) (hKernel17 : Cert.Kernel17.Facts) (hKernel17Ideal : Cert.Kernel17Ideal.Facts) (hReference17Ideal : Cert.Reference17Ideal.Facts) (hKernel18 : Cert.Kernel18.Facts) (hKernel18Ideal : Cert.Kernel18Ideal.Facts) (hReference18Ideal : Cert.Reference18Ideal.Facts) (hKernel19 : Cert.Kernel19.Facts) (hKernel19Ideal : Cert.Kernel19Ideal.Facts) (hReference19Ideal : Cert.Reference19Ideal.Facts) (hKernel20 : Cert.Kernel20.Facts) (hKernel20Ideal : Cert.Kernel20Ideal.Facts) (hReference20Ideal : Cert.Reference20Ideal.Facts) (hKernel21 : Cert.Kernel21.Facts) (hKernel21Ideal : Cert.Kernel21Ideal.Facts) (hReference21Ideal : Cert.Reference21Ideal.Facts) (hKernel22 : Cert.Kernel22.Facts) (hKernel22Ideal : Cert.Kernel22Ideal.Facts) (hReference22Ideal : Cert.Reference22Ideal.Facts) (hKernel23 : Cert.Kernel23.Facts) (hKernel23Ideal : Cert.Kernel23Ideal.Facts) (hReference23Ideal : Cert.Reference23Ideal.Facts) (hKernel24 : Cert.Kernel24.Facts) (hKernel24Ideal : Cert.Kernel24Ideal.Facts) (hReference24Ideal : Cert.Reference24Ideal.Facts) (hKernel25 : Cert.Kernel25.Facts) (hKernel25Ideal : Cert.Kernel25Ideal.Facts) (hReference25Ideal : Cert.Reference25Ideal.Facts) (hPre_finite : Cert.Pre_finite.Facts) (hPre_experts_named : Cert.Pre_experts_named.Facts) (hPre_down_experts_named : Cert.Pre_down_experts_named.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ quiescent_Kernel2 (hKernel2 := hKernel2)
    ∧ quiescent_Kernel2Ideal (hKernel2Ideal := hKernel2Ideal)
    ∧ quiescent_Reference2Ideal (hReference2Ideal := hReference2Ideal)
    ∧ quiescent_Kernel3 (hKernel3 := hKernel3)
    ∧ quiescent_Kernel3Ideal (hKernel3Ideal := hKernel3Ideal)
    ∧ quiescent_Reference3Ideal (hReference3Ideal := hReference3Ideal)
    ∧ quiescent_Kernel4 (hKernel4 := hKernel4)
    ∧ quiescent_Kernel4Ideal (hKernel4Ideal := hKernel4Ideal)
    ∧ quiescent_Reference4Ideal (hReference4Ideal := hReference4Ideal)
    ∧ quiescent_Kernel5 (hKernel5 := hKernel5)
    ∧ quiescent_Kernel5Ideal (hKernel5Ideal := hKernel5Ideal)
    ∧ quiescent_Reference5Ideal (hReference5Ideal := hReference5Ideal)
    ∧ quiescent_Kernel6 (hKernel6 := hKernel6)
    ∧ quiescent_Kernel6Ideal (hKernel6Ideal := hKernel6Ideal)
    ∧ quiescent_Reference6Ideal (hReference6Ideal := hReference6Ideal)
    ∧ quiescent_Kernel7 (hKernel7 := hKernel7)
    ∧ quiescent_Kernel7Ideal (hKernel7Ideal := hKernel7Ideal)
    ∧ quiescent_Reference7Ideal (hReference7Ideal := hReference7Ideal)
    ∧ quiescent_Kernel8 (hKernel8 := hKernel8) (hPre_experts_named := hPre_experts_named)
    ∧ quiescent_Kernel8Ideal (hKernel8Ideal := hKernel8Ideal) (hPre_experts_named := hPre_experts_named)
    ∧ quiescent_Reference8Ideal (hReference8Ideal := hReference8Ideal)
    ∧ quiescent_Reference8Ideal_pre_experts_named (hReference8Ideal := hReference8Ideal) (hPre_experts_named := hPre_experts_named)
    ∧ quiescent_Kernel9 (hKernel9 := hKernel9)
    ∧ quiescent_Kernel9Ideal (hKernel9Ideal := hKernel9Ideal)
    ∧ quiescent_Reference9Ideal (hReference9Ideal := hReference9Ideal)
    ∧ quiescent_Kernel10 (hKernel10 := hKernel10)
    ∧ quiescent_Kernel10Ideal (hKernel10Ideal := hKernel10Ideal)
    ∧ quiescent_Reference10Ideal (hReference10Ideal := hReference10Ideal)
    ∧ quiescent_Kernel11 (hKernel11 := hKernel11)
    ∧ quiescent_Kernel11Ideal (hKernel11Ideal := hKernel11Ideal)
    ∧ quiescent_Reference11Ideal (hReference11Ideal := hReference11Ideal)
    ∧ quiescent_Kernel12 (hKernel12 := hKernel12)
    ∧ quiescent_Kernel12Ideal (hKernel12Ideal := hKernel12Ideal)
    ∧ quiescent_Reference12Ideal (hReference12Ideal := hReference12Ideal)
    ∧ quiescent_Kernel13 (hKernel13 := hKernel13)
    ∧ quiescent_Kernel13Ideal (hKernel13Ideal := hKernel13Ideal)
    ∧ quiescent_Reference13Ideal (hReference13Ideal := hReference13Ideal)
    ∧ quiescent_Kernel14 (hKernel14 := hKernel14) (hPre_down_experts_named := hPre_down_experts_named)
    ∧ quiescent_Kernel14Ideal (hKernel14Ideal := hKernel14Ideal) (hPre_down_experts_named := hPre_down_experts_named)
    ∧ quiescent_Reference14Ideal (hReference14Ideal := hReference14Ideal)
    ∧ quiescent_Reference14Ideal_pre_down_experts_named (hReference14Ideal := hReference14Ideal) (hPre_down_experts_named := hPre_down_experts_named)
    ∧ quiescent_Kernel15 (hKernel15 := hKernel15)
    ∧ quiescent_Kernel15Ideal (hKernel15Ideal := hKernel15Ideal)
    ∧ quiescent_Reference15Ideal (hReference15Ideal := hReference15Ideal)
    ∧ quiescent_Kernel16 (hKernel16 := hKernel16)
    ∧ quiescent_Kernel16Ideal (hKernel16Ideal := hKernel16Ideal)
    ∧ quiescent_Reference16Ideal (hReference16Ideal := hReference16Ideal)
    ∧ quiescent_Kernel17 (hKernel17 := hKernel17)
    ∧ quiescent_Kernel17Ideal (hKernel17Ideal := hKernel17Ideal)
    ∧ quiescent_Reference17Ideal (hReference17Ideal := hReference17Ideal)
    ∧ quiescent_Kernel18 (hKernel18 := hKernel18)
    ∧ quiescent_Kernel18Ideal (hKernel18Ideal := hKernel18Ideal)
    ∧ quiescent_Reference18Ideal (hReference18Ideal := hReference18Ideal)
    ∧ quiescent_Kernel19 (hKernel19 := hKernel19)
    ∧ quiescent_Kernel19Ideal (hKernel19Ideal := hKernel19Ideal)
    ∧ quiescent_Reference19Ideal (hReference19Ideal := hReference19Ideal)
    ∧ quiescent_Kernel20 (hKernel20 := hKernel20)
    ∧ quiescent_Kernel20Ideal (hKernel20Ideal := hKernel20Ideal)
    ∧ quiescent_Reference20Ideal (hReference20Ideal := hReference20Ideal)
    ∧ quiescent_Kernel21 (hKernel21 := hKernel21)
    ∧ quiescent_Kernel21Ideal (hKernel21Ideal := hKernel21Ideal)
    ∧ quiescent_Reference21Ideal (hReference21Ideal := hReference21Ideal)
    ∧ quiescent_Kernel22 (hKernel22 := hKernel22)
    ∧ quiescent_Kernel22Ideal (hKernel22Ideal := hKernel22Ideal)
    ∧ quiescent_Reference22Ideal (hReference22Ideal := hReference22Ideal)
    ∧ quiescent_Kernel23 (hKernel23 := hKernel23)
    ∧ quiescent_Kernel23Ideal (hKernel23Ideal := hKernel23Ideal)
    ∧ quiescent_Reference23Ideal (hReference23Ideal := hReference23Ideal)
    ∧ quiescent_Kernel24 (hKernel24 := hKernel24)
    ∧ quiescent_Kernel24Ideal (hKernel24Ideal := hKernel24Ideal)
    ∧ quiescent_Reference24Ideal (hReference24Ideal := hReference24Ideal)
    ∧ quiescent_Kernel25 (hKernel25 := hKernel25)
    ∧ quiescent_Kernel25Ideal (hKernel25Ideal := hKernel25Ideal)
    ∧ quiescent_Reference25Ideal (hReference25Ideal := hReference25Ideal)
    ∧ preserves_Kernel_KernelIdeal
    ∧ algebraic_KernelIdeal_ReferenceIdeal_pre_finite (hKernelIdeal := hKernelIdeal) (hReferenceIdeal := hReferenceIdeal) (hPre_finite := hPre_finite)
    ∧ preserves_Kernel2_Kernel2Ideal
    ∧ algebraic_Kernel2Ideal_Reference2Ideal (hKernel2Ideal := hKernel2Ideal) (hReference2Ideal := hReference2Ideal)
    ∧ preserves_Kernel3_Kernel3Ideal
    ∧ algebraic_Kernel3Ideal_Reference3Ideal (hKernel3Ideal := hKernel3Ideal) (hReference3Ideal := hReference3Ideal)
    ∧ preserves_Kernel4_Kernel4Ideal
    ∧ algebraic_Kernel4Ideal_Reference4Ideal (hKernel4Ideal := hKernel4Ideal) (hReference4Ideal := hReference4Ideal)
    ∧ preserves_Kernel5_Kernel5Ideal
    ∧ algebraic_Kernel5Ideal_Reference5Ideal (hKernel5Ideal := hKernel5Ideal) (hReference5Ideal := hReference5Ideal)
    ∧ preserves_Kernel6_Kernel6Ideal
    ∧ algebraic_Kernel6Ideal_Reference6Ideal (hKernel6Ideal := hKernel6Ideal) (hReference6Ideal := hReference6Ideal)
    ∧ preserves_Kernel7_Kernel7Ideal
    ∧ algebraic_Kernel7Ideal_Reference7Ideal (hKernel7Ideal := hKernel7Ideal) (hReference7Ideal := hReference7Ideal)
    ∧ preserves_Kernel8_Kernel8Ideal
    ∧ algebraic_Kernel8Ideal_Reference8Ideal (hKernel8Ideal := hKernel8Ideal) (hReference8Ideal := hReference8Ideal) (hPre_experts_named := hPre_experts_named)
    ∧ preserves_Kernel9_Kernel9Ideal
    ∧ algebraic_Kernel9Ideal_Reference9Ideal (hKernel9Ideal := hKernel9Ideal) (hReference9Ideal := hReference9Ideal)
    ∧ preserves_Kernel10_Kernel10Ideal
    ∧ algebraic_Kernel10Ideal_Reference10Ideal (hKernel10Ideal := hKernel10Ideal) (hReference10Ideal := hReference10Ideal)
    ∧ preserves_Kernel11_Kernel11Ideal
    ∧ algebraic_Kernel11Ideal_Reference11Ideal (hKernel11Ideal := hKernel11Ideal) (hReference11Ideal := hReference11Ideal)
    ∧ preserves_Kernel12_Kernel12Ideal
    ∧ algebraic_Kernel12Ideal_Reference12Ideal (hKernel12Ideal := hKernel12Ideal) (hReference12Ideal := hReference12Ideal)
    ∧ preserves_Kernel13_Kernel13Ideal
    ∧ algebraic_Kernel13Ideal_Reference13Ideal (hKernel13Ideal := hKernel13Ideal) (hReference13Ideal := hReference13Ideal)
    ∧ preserves_Kernel14_Kernel14Ideal
    ∧ algebraic_Kernel14Ideal_Reference14Ideal (hKernel14Ideal := hKernel14Ideal) (hReference14Ideal := hReference14Ideal) (hPre_down_experts_named := hPre_down_experts_named)
    ∧ preserves_Kernel15_Kernel15Ideal
    ∧ algebraic_Kernel15Ideal_Reference15Ideal (hKernel15Ideal := hKernel15Ideal) (hReference15Ideal := hReference15Ideal)
    ∧ preserves_Kernel16_Kernel16Ideal
    ∧ algebraic_Kernel16Ideal_Reference16Ideal (hKernel16Ideal := hKernel16Ideal) (hReference16Ideal := hReference16Ideal)
    ∧ preserves_Kernel17_Kernel17Ideal
    ∧ algebraic_Kernel17Ideal_Reference17Ideal (hKernel17Ideal := hKernel17Ideal) (hReference17Ideal := hReference17Ideal)
    ∧ preserves_Kernel18_Kernel18Ideal
    ∧ algebraic_Kernel18Ideal_Reference18Ideal (hKernel18Ideal := hKernel18Ideal) (hReference18Ideal := hReference18Ideal)
    ∧ preserves_Kernel19_Kernel19Ideal
    ∧ algebraic_Kernel19Ideal_Reference19Ideal (hKernel19Ideal := hKernel19Ideal) (hReference19Ideal := hReference19Ideal)
    ∧ preserves_Kernel20_Kernel20Ideal
    ∧ algebraic_Kernel20Ideal_Reference20Ideal (hKernel20Ideal := hKernel20Ideal) (hReference20Ideal := hReference20Ideal)
    ∧ preserves_Kernel21_Kernel21Ideal
    ∧ algebraic_Kernel21Ideal_Reference21Ideal (hKernel21Ideal := hKernel21Ideal) (hReference21Ideal := hReference21Ideal)
    ∧ preserves_Kernel22_Kernel22Ideal
    ∧ algebraic_Kernel22Ideal_Reference22Ideal (hKernel22Ideal := hKernel22Ideal) (hReference22Ideal := hReference22Ideal)
    ∧ preserves_Kernel23_Kernel23Ideal
    ∧ algebraic_Kernel23Ideal_Reference23Ideal (hKernel23Ideal := hKernel23Ideal) (hReference23Ideal := hReference23Ideal)
    ∧ preserves_Kernel24_Kernel24Ideal
    ∧ algebraic_Kernel24Ideal_Reference24Ideal (hKernel24Ideal := hKernel24Ideal) (hReference24Ideal := hReference24Ideal)
    ∧ preserves_Kernel25_Kernel25Ideal
    ∧ algebraic_Kernel25Ideal_Reference25Ideal (hKernel25Ideal := hKernel25Ideal) (hReference25Ideal := hReference25Ideal)
-- ==== Pre_down_experts_named.lean ====
abbrev S20480x2048 : Shape := ⟨2, ![20480, 2048]⟩
abbrev S40 : Shape := ⟨1, ![40]⟩
abbrev S1 : Shape := ⟨1, ![1]⟩
abbrev S8x2048x4096 : Shape := ⟨3, ![8, 2048, 4096]⟩
abbrev S_ : Shape := ⟨0, ![]⟩

class Facts : Prop where
  bcast_S_S40 : S_.BroadcastsInDim S40 (![] : Fin 0 → Fin S40.rank)
  reducesTo_S40_S_d0 : S40.ReducesTo [0] S_
  h_S_ : 0 < S_.numel

variable [Facts]

def fn {F : FTy → Type} [FloatOps F] (main_arg0 : FVec F S20480x2048 .bf16) (main_arg1 : IVec S40 32) (main_arg2 : IVec S1 32) (main_arg3 : FVec F S8x2048x4096 .f32) : IVec S_ 1 :=
  let main_c : IVec S_ 32 := constantI S_ 32 0#32
  let main_v0 : IVec S40 32 := broadcastInDim S40 ![] bcast_S_S40 main_c
  let main_v1 : IVec S40 1 := cmpi .sge main_arg1 main_v0
  let main_c_0 : IVec S_ 32 := constantI S_ 32 8#32
  let main_v2 : IVec S40 32 := broadcastInDim S40 ![] bcast_S_S40 main_c_0
  let main_v3 : IVec S40 1 := cmpi .slt main_arg1 main_v2
  let main_v4 : IVec S40 1 := andi main_v1 main_v3
  let main_c_1 : IVec S_ 1 := constantI S_ 1 1#1
  let main_v5 : IVec S_ 1 := (fun x v => Host.reduce IntOp.andi x v reducesTo_S40_S_d0 h_S_) main_v4 main_c_1
  main_v5
-- ==== Pre_experts_named.lean ====
abbrev S20480x4096 : Shape := ⟨2, ![20480, 4096]⟩
abbrev S40 : Shape := ⟨1, ![40]⟩
abbrev S1 : Shape := ⟨1, ![1]⟩
abbrev S8x4096x2048 : Shape := ⟨3, ![8, 4096, 2048]⟩
abbrev S_ : Shape := ⟨0, ![]⟩

class Facts : Prop where
  bcast_S_S40 : S_.BroadcastsInDim S40 (![] : Fin 0 → Fin S40.rank)
  reducesTo_S40_S_d0 : S40.ReducesTo [0] S_
  h_S_ : 0 < S_.numel

variable [Facts]

def fn {F : FTy → Type} [FloatOps F] (main_arg0 : FVec F S20480x4096 .bf16) (main_arg1 : IVec S40 32) (main_arg2 : IVec S1 32) (main_arg3 : FVec F S8x4096x2048 .f32) (main_arg4 : FVec F S8x4096x2048 .f32) : IVec S_ 1 :=
  let main_c : IVec S_ 32 := constantI S_ 32 0#32
  let main_v0 : IVec S40 32 := broadcastInDim S40 ![] bcast_S_S40 main_c
  let main_v1 : IVec S40 1 := cmpi .sge main_arg1 main_v0
  let main_c_0 : IVec S_ 32 := constantI S_ 32 8#32
  let main_v2 : IVec S40 32 := broadcastInDim S40 ![] bcast_S_S40 main_c_0
  let main_v3 : IVec S40 1 := cmpi .slt main_arg1 main_v2
  let main_v4 : IVec S40 1 := andi main_v1 main_v3
  let main_c_1 : IVec S_ 1 := constantI S_ 1 1#1
  let main_v5 : IVec S_ 1 := (fun x v => Host.reduce IntOp.andi x v reducesTo_S40_S_d0 h_S_) main_v4 main_c_1
  main_v5
-- ==== Pre_finite.lean ====
abbrev S8192x3072 : Shape := ⟨2, ![8192, 3072]⟩
abbrev S8192x4096 : Shape := ⟨2, ![8192, 4096]⟩
abbrev S1024x4096 : Shape := ⟨2, ![1024, 4096]⟩
abbrev S8192x64 : Shape := ⟨2, ![8192, 64]⟩
abbrev S1024x64 : Shape := ⟨2, ![1024, 64]⟩
abbrev S_ : Shape := ⟨0, ![]⟩

class Facts : Prop where
  bcast_S_S8192x3072 : S_.BroadcastsInDim S8192x3072 (![] : Fin 0 → Fin S8192x3072.rank)
  reducesTo_S8192x3072_S_d0_1 : S8192x3072.ReducesTo [0, 1] S_
  h_S_ : 0 < S_.numel
  bitsLt_bf16_f32 : FTy.bits .bf16 < FTy.bits .f32
  bcast_S_S8192x4096 : S_.BroadcastsInDim S8192x4096 (![] : Fin 0 → Fin S8192x4096.rank)
  reducesTo_S8192x4096_S_d0_1 : S8192x4096.ReducesTo [0, 1] S_
  bcast_S_S1024x4096 : S_.BroadcastsInDim S1024x4096 (![] : Fin 0 → Fin S1024x4096.rank)
  reducesTo_S1024x4096_S_d0_1 : S1024x4096.ReducesTo [0, 1] S_
  bcast_S_S8192x64 : S_.BroadcastsInDim S8192x64 (![] : Fin 0 → Fin S8192x64.rank)
  reducesTo_S8192x64_S_d0_1 : S8192x64.ReducesTo [0, 1] S_
  bcast_S_S1024x64 : S_.BroadcastsInDim S1024x64 (![] : Fin 0 → Fin S1024x64.rank)
  reducesTo_S1024x64_S_d0_1 : S1024x64.ReducesTo [0, 1] S_

variable [Facts]

def fn_part1 {F : FTy → Type} [FloatOps F] (main_arg4 : FVec F S1024x64 .f32) (main_v15 : IVec S_ 1) (main_v16 : FVec F S8192x64 .f32) (main_cst_4 : FVec F S_ .f32) : IVec S_ 1 :=
  let main_v17 : FVec F S8192x64 .f32 := broadcastInDim S8192x64 ![] bcast_S_S8192x64 main_cst_4
  let main_v18 : IVec S8192x64 1 := cmpf .olt main_v16 main_v17
  let main_c_5 : IVec S_ 1 := constantI S_ 1 1#1
  let main_v19 : IVec S_ 1 := (fun x v => Host.reduce IntOp.andi x v reducesTo_S8192x64_S_d0_1 h_S_) main_v18 main_c_5
  let main_v20 : IVec S_ 1 := andi main_v15 main_v19
  let main_v21 : FVec F S1024x64 .f32 := Host.absf main_arg4
  let main_cst_6 : FVec F S_ .f32 := constant S_ .f32 0x7F800000#32
  let main_v22 : FVec F S1024x64 .f32 := broadcastInDim S1024x64 ![] bcast_S_S1024x64 main_cst_6
  let main_v23 : IVec S1024x64 1 := cmpf .olt main_v21 main_v22
  let main_c_7 : IVec S_ 1 := constantI S_ 1 1#1
  let main_v24 : IVec S_ 1 := (fun x v => Host.reduce IntOp.andi x v reducesTo_S1024x64_S_d0_1 h_S_) main_v23 main_c_7
  let main_v25 : IVec S_ 1 := andi main_v20 main_v24
  main_v25

def fn {F : FTy → Type} [FloatOps F] (main_arg0 : FVec F S8192x3072 .f32) (main_arg1 : FVec F S8192x4096 .bf16) (main_arg2 : FVec F S1024x4096 .bf16) (main_arg3 : FVec F S8192x64 .f32) (main_arg4 : FVec F S1024x64 .f32) : IVec S_ 1 :=
  let main_v0 : FVec F S8192x3072 .f32 := Host.absf main_arg0
  let main_cst : FVec F S_ .f32 := constant S_ .f32 0x7F800000#32
  let main_v1 : FVec F S8192x3072 .f32 := broadcastInDim S8192x3072 ![] bcast_S_S8192x3072 main_cst
  let main_v2 : IVec S8192x3072 1 := cmpf .olt main_v0 main_v1
  let main_c : IVec S_ 1 := constantI S_ 1 1#1
  let main_v3 : IVec S_ 1 := (fun x v => Host.reduce IntOp.andi x v reducesTo_S8192x3072_S_d0_1 h_S_) main_v2 main_c
  let main_v4 : FVec F S8192x4096 .f32 := (extf .f32 · bitsLt_bf16_f32) main_arg1
  let main_v5 : FVec F S8192x4096 .f32 := Host.absf main_v4
  let main_cst_0 : FVec F S_ .f32 := constant S_ .f32 0x7F800000#32
  let main_v6 : FVec F S8192x4096 .f32 := broadcastInDim S8192x4096 ![] bcast_S_S8192x4096 main_cst_0
  let main_v7 : IVec S8192x4096 1 := cmpf .olt main_v5 main_v6
  let main_c_1 : IVec S_ 1 := constantI S_ 1 1#1
  let main_v8 : IVec S_ 1 := (fun x v => Host.reduce IntOp.andi x v reducesTo_S8192x4096_S_d0_1 h_S_) main_v7 main_c_1
  let main_v9 : IVec S_ 1 := andi main_v3 main_v8
  let main_v10 : FVec F S1024x4096 .f32 := (extf .f32 · bitsLt_bf16_f32) main_arg2
  let main_v11 : FVec F S1024x4096 .f32 := Host.absf main_v10
  let main_cst_2 : FVec F S_ .f32 := constant S_ .f32 0x7F800000#32
  let main_v12 : FVec F S1024x4096 .f32 := broadcastInDim S1024x4096 ![] bcast_S_S1024x4096 main_cst_2
  let main_v13 : IVec S1024x4096 1 := cmpf .olt main_v11 main_v12
  let main_c_3 : IVec S_ 1 := constantI S_ 1 1#1
  let main_v14 : IVec S_ 1 := (fun x v => Host.reduce IntOp.andi x v reducesTo_S1024x4096_S_d0_1 h_S_) main_v13 main_c_3
  let main_v15 : IVec S_ 1 := andi main_v9 main_v14
  let main_v16 : FVec F S8192x64 .f32 := Host.absf main_arg3
  let main_cst_4 : FVec F S_ .f32 := constant S_ .f32 0x7F800000#32
  fn_part1 (F := F) main_arg4 main_v15 main_v16 main_cst_4
-- ==== Kernel.lean ====
abbrev S8192x3072 : Shape := ⟨2, ![8192, 3072]⟩
abbrev S8192x4096 : Shape := ⟨2, ![8192, 4096]⟩
abbrev S1024x4096 : Shape := ⟨2, ![1024, 4096]⟩
abbrev S8192x64 : Shape := ⟨2, ![8192, 64]⟩
abbrev S1024x64 : Shape := ⟨2, ![1024, 64]⟩
abbrev S2048 : Shape := ⟨1, ![2048]⟩
abbrev S131072x192 : Shape := ⟨2, ![131072, 192]⟩
abbrev S131072x64 : Shape := ⟨2, ![131072, 64]⟩
abbrev S131072x16 : Shape := ⟨2, ![131072, 16]⟩
abbrev S131072x256 : Shape := ⟨2, ![131072, 256]⟩
abbrev S8192x16 : Shape := ⟨2, ![8192, 16]⟩
abbrev S8192x128 : Shape := ⟨2, ![8192, 128]⟩
abbrev S1024x16 : Shape := ⟨2, ![1024, 16]⟩
abbrev S1024x128 : Shape := ⟨2, ![1024, 128]⟩
abbrev S16 : Shape := ⟨1, ![16]⟩
abbrev S_ : Shape := ⟨0, ![]⟩
abbrev S2048x1 : Shape := ⟨2, ![2048, 1]⟩
abbrev S1x16 : Shape := ⟨2, ![1, 16]⟩
abbrev S2048x16 : Shape := ⟨2, ![2048, 16]⟩
abbrev S2048x64 : Shape := ⟨2, ![2048, 64]⟩
abbrev S8192x2048 : Shape := ⟨2, ![8192, 2048]⟩
abbrev S1024x256 : Shape := ⟨2, ![1024, 256]⟩
abbrev S2048x256 : Shape := ⟨2, ![2048, 256]⟩
abbrev S256x256 : Shape := ⟨2, ![256, 256]⟩
abbrev S2048x128 : Shape := ⟨2, ![2048, 128]⟩
abbrev S256x128 : Shape := ⟨2, ![256, 128]⟩
abbrev S2304x256 : Shape := ⟨2, ![2304, 256]⟩
abbrev S256x64 : Shape := ⟨2, ![256, 64]⟩
abbrev S2304x64 : Shape := ⟨2, ![2304, 64]⟩
abbrev S2304x128 : Shape := ⟨2, ![2304, 128]⟩
abbrev S1024x1 : Shape := ⟨2, ![1024, 1]⟩
abbrev S768x256 : Shape := ⟨2, ![768, 256]⟩
abbrev S1024x768 : Shape := ⟨2, ![1024, 768]⟩
abbrev S1024 : Shape := ⟨1, ![1024]⟩

abbrev nBuf : Space → Nat
  | .hbm => 62
  | .vmem => 21
  | .smem => 0
  | _ => 0

abbrev bufTy : (tb : Table) → Fin (tcTables nBuf tb) → BufTy
  | .hbm, ⟨0, _⟩ => ⟨S8192x3072, .f32⟩
  | .hbm, ⟨1, _⟩ => ⟨S8192x4096, .bf16⟩
  | .hbm, ⟨2, _⟩ => ⟨S1024x4096, .bf16⟩
  | .hbm, ⟨3, _⟩ => ⟨S8192x64, .f32⟩
  | .hbm, ⟨4, _⟩ => ⟨S1024x64, .f32⟩
  | .hbm, ⟨5, _⟩ => ⟨S2048, .f32⟩
  | .hbm, ⟨6, _⟩ => ⟨S2048, .f32⟩
  | .hbm, ⟨7, _⟩ => ⟨S131072x192, .f32⟩
  | .hbm, ⟨8, _⟩ => ⟨S131072x64, .f32⟩
  | .hbm, ⟨9, _⟩ => ⟨S131072x16, .f32⟩
  | .hbm, ⟨10, _⟩ => ⟨S131072x16, .f32⟩
  | .hbm, ⟨11, _⟩ => ⟨S131072x16, .f32⟩
  | .hbm, ⟨12, _⟩ => ⟨S131072x16, .f32⟩
  | .hbm, ⟨13, _⟩ => ⟨S131072x16, .f32⟩
  | .hbm, ⟨14, _⟩ => ⟨S131072x16, .f32⟩
  | .hbm, ⟨15, _⟩ => ⟨S131072x64, .f32⟩
  | .hbm, ⟨16, _⟩ => ⟨S131072x256, .f32⟩
  | .hbm, ⟨17, _⟩ => ⟨S8192x4096, .f32⟩
  | .hbm, ⟨18, _⟩ => ⟨S8192x16, .f32⟩
  | .hbm, ⟨19, _⟩ => ⟨S8192x16, .f32⟩
  | .hbm, ⟨20, _⟩ => ⟨S8192x16, .f32⟩
  | .hbm, ⟨21, _⟩ => ⟨S8192x16, .f32⟩
  | .hbm, ⟨22, _⟩ => ⟨S8192x16, .f32⟩
  | .hbm, ⟨23, _⟩ => ⟨S8192x16, .f32⟩
  | .hbm, ⟨24, _⟩ => ⟨S8192x64, .f32⟩
  | .hbm, ⟨25, _⟩ => ⟨S8192x128, .f32⟩
  | .hbm, ⟨26, _⟩ => ⟨S1024x16, .f32⟩
  | .hbm, ⟨27, _⟩ => ⟨S1024x16, .f32⟩
  | .hbm, ⟨28, _⟩ => ⟨S1024x16, .f32⟩
  | .hbm, ⟨29, _⟩ => ⟨S1024x16, .f32⟩
  | .hbm, ⟨30, _⟩ => ⟨S1024x16, .f32⟩
  | .hbm, ⟨31, _⟩ => ⟨S1024x16, .f32⟩
  | .hbm, ⟨32, _⟩ => ⟨S1024x64, .f32⟩
  | .hbm, ⟨33, _⟩ => ⟨S1024x128, .f32⟩
  | .hbm, ⟨34, _⟩ => ⟨S16, .f32⟩
  | .hbm, ⟨35, _⟩ => ⟨S_, .f32⟩
  | .hbm, ⟨36, _⟩ => ⟨S16, .f32⟩
  | .hbm, ⟨37, _⟩ => ⟨S16, .f32⟩
  | .hbm, ⟨38, _⟩ => ⟨S_, .f32⟩
  | .hbm, ⟨39, _⟩ => ⟨S16, .f32⟩
  | .hbm, ⟨40, _⟩ => ⟨S16, .f32⟩
  | .hbm, ⟨41, _⟩ => ⟨S16, .f32⟩
  | .hbm, ⟨42, _⟩ => ⟨S_, .f32⟩
  | .hbm, ⟨43, _⟩ => ⟨S16, .f32⟩
  | .hbm, ⟨44, _⟩ => ⟨S16, .f32⟩
  | .hbm, ⟨45, _⟩ => ⟨S_, .f32⟩
  | .hbm, ⟨46, _⟩ => ⟨S16, .f32⟩
  | .hbm, ⟨47, _⟩ => ⟨S16, .f32⟩
  | .hbm, ⟨48, _⟩ => ⟨S2048x1, .f32⟩
  | .hbm, ⟨49, _⟩ => ⟨S1x16, .f32⟩
  | .hbm, ⟨50, _⟩ => ⟨S2048x16, .f32⟩
  | .hbm, ⟨51, _⟩ => ⟨S2048x16, .f32⟩
  | .hbm, ⟨52, _⟩ => ⟨S2048x16, .f32⟩
  | .hbm, ⟨53, _⟩ => ⟨S2048x1, .f32⟩
  | .hbm, ⟨54, _⟩ => ⟨S1x16, .f32⟩
  | .hbm, ⟨55, _⟩ => ⟨S2048x16, .f32⟩
  | .hbm, ⟨56, _⟩ => ⟨S2048x16, .f32⟩
  | .hbm, ⟨57, _⟩ => ⟨S2048x16, .f32⟩
  | .hbm, ⟨58, _⟩ => ⟨S2048x64, .f32⟩
  | .hbm, ⟨59, _⟩ => ⟨S2048x64, .f32⟩
  | .hbm, ⟨60, _⟩ => ⟨S2048x64, .f32⟩
  | .hbm, ⟨61, _⟩ => ⟨S8192x2048, .bf16⟩
  | .local _ .vmem, ⟨0, _⟩ => ⟨S1024x256, .f32⟩
  | .local _ .vmem, ⟨1, _⟩ => ⟨S1024x256, .f32⟩
  | .local _ .vmem, ⟨2, _⟩ => ⟨S2048x256, .bf16⟩
  | .local _ .vmem, ⟨3, _⟩ => ⟨S2048x256, .bf16⟩
  | .local _ .vmem, ⟨4, _⟩ => ⟨S256x256, .bf16⟩
  | .local _ .vmem, ⟨5, _⟩ => ⟨S256x256, .bf16⟩
  | .local _ .vmem, ⟨6, _⟩ => ⟨S2048x128, .f32⟩
  | .local _ .vmem, ⟨7, _⟩ => ⟨S2048x128, .f32⟩
  | .local _ .vmem, ⟨8, _⟩ => ⟨S256x128, .f32⟩
  | .local _ .vmem, ⟨9, _⟩ => ⟨S256x128, .f32⟩
  | .local _ .vmem, ⟨10, _⟩ => ⟨S1024x64, .f32⟩
  | .local _ .vmem, ⟨11, _⟩ => ⟨S1024x64, .f32⟩
  | .local _ .vmem, ⟨12, _⟩ => ⟨S1024x64, .f32⟩
  | .local _ .vmem, ⟨13, _⟩ => ⟨S1024x64, .f32⟩
  | .local _ .vmem, ⟨14, _⟩ => ⟨S2048x64, .f32⟩
  | .local _ .vmem, ⟨15, _⟩ => ⟨S2048x64, .f32⟩
  | .local _ .vmem, ⟨16, _⟩ => ⟨S1024x128, .bf16⟩
  | .local _ .vmem, ⟨17, _⟩ => ⟨S1024x128, .bf16⟩
  | .local _ .vmem, ⟨18, _⟩ => ⟨S1024x256, .bf16⟩
  | .local _ .vmem, ⟨19, _⟩ => ⟨S2304x256, .bf16⟩
  | .local _ .vmem, ⟨20, _⟩ => ⟨S2304x256, .bf16⟩
  | _, _ => ⟨S8192x3072, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | _, _ => false

abbrev semScoped : Fin 0 → Bool
  | ⟨_, h⟩ => absurd h (Nat.not_lt_zero _)

abbrev dmaSemScoped : Fin 18 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | _ => false

abbrev sig : RefSig :=
  ofTc nBuf bufTy 0 18 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_cst : Ref sig .tc := ⟨.hbm, 5, rfl⟩
abbrev main_cst_0 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_v19 : Ref sig .tc := ⟨.hbm, 26, rfl⟩
abbrev main_v20 : Ref sig .tc := ⟨.hbm, 27, rfl⟩
abbrev main_v21 : Ref sig .tc := ⟨.hbm, 28, rfl⟩
abbrev main_v22 : Ref sig .tc := ⟨.hbm, 29, rfl⟩
abbrev main_v23 : Ref sig .tc := ⟨.hbm, 30, rfl⟩
abbrev main_v24 : Ref sig .tc := ⟨.hbm, 31, rfl⟩
abbrev main_v25 : Ref sig .tc := ⟨.hbm, 32, rfl⟩
abbrev main_v26 : Ref sig .tc := ⟨.hbm, 33, rfl⟩
abbrev main_v27 : Ref sig .tc := ⟨.hbm, 34, rfl⟩
abbrev main_cst_1 : Ref sig .tc := ⟨.hbm, 35, rfl⟩
abbrev main_v28 : Ref sig .tc := ⟨.hbm, 36, rfl⟩
abbrev main_v29 : Ref sig .tc := ⟨.hbm, 37, rfl⟩
abbrev main_cst_2 : Ref sig .tc := ⟨.hbm, 38, rfl⟩
abbrev main_v30 : Ref sig .tc := ⟨.hbm, 39, rfl⟩
abbrev main_v31 : Ref sig .tc := ⟨.hbm, 40, rfl⟩
abbrev main_v32 : Ref sig .tc := ⟨.hbm, 41, rfl⟩
abbrev main_cst_3 : Ref sig .tc := ⟨.hbm, 42, rfl⟩
abbrev main_v33 : Ref sig .tc := ⟨.hbm, 43, rfl⟩
abbrev main_v34 : Ref sig .tc := ⟨.hbm, 44, rfl⟩
abbrev main_cst_4 : Ref sig .tc := ⟨.hbm, 45, rfl⟩
abbrev main_v35 : Ref sig .tc := ⟨.hbm, 46, rfl⟩
abbrev main_v36 : Ref sig .tc := ⟨.hbm, 47, rfl⟩
abbrev main_v37 : Ref sig .tc := ⟨.hbm, 48, rfl⟩
abbrev main_v38 : Ref sig .tc := ⟨.hbm, 49, rfl⟩
abbrev main_v39 : Ref sig .tc := ⟨.hbm, 50, rfl⟩
abbrev main_v40 : Ref sig .tc := ⟨.hbm, 51, rfl⟩
abbrev main_v41 : Ref sig .tc := ⟨.hbm, 52, rfl⟩
abbrev main_v42 : Ref sig .tc := ⟨.hbm, 53, rfl⟩
abbrev main_v43 : Ref sig .tc := ⟨.hbm, 54, rfl⟩
abbrev main_v44 : Ref sig .tc := ⟨.hbm, 55, rfl⟩
abbrev main_v45 : Ref sig .tc := ⟨.hbm, 56, rfl⟩
abbrev main_v46 : Ref sig .tc := ⟨.hbm, 57, rfl⟩
abbrev main_v47 : Ref sig .tc := ⟨.hbm, 58, rfl⟩
abbrev main_v48 : Ref sig .tc := ⟨.hbm, 59, rfl⟩
abbrev main_v49 : Ref sig .tc := ⟨.hbm, 60, rfl⟩
abbrev main_v50 : Ref sig .tc := ⟨.hbm, 61, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg8_0 : Ref sig .tc := ⟨.vmem, 15, rfl⟩
abbrev cc0_stg9_0 : Ref sig .tc := ⟨.vmem, 16, rfl⟩
abbrev cc0_stg9_1 : Ref sig .tc := ⟨.vmem, 17, rfl⟩
abbrev cc0_scratch0 : Ref sig .tc := ⟨.vmem, 18, rfl⟩
abbrev cc0_scratch1 : Ref sig .tc := ⟨.vmem, 19, rfl⟩
abbrev cc0_scratch2 : Ref sig .tc := ⟨.vmem, 20, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem8_0 : DmaSem sig := 15
abbrev cc0_sem9_0 : DmaSem sig := 16
abbrev cc0_sem9_1 : DmaSem sig := 17

abbrev nD : Nat := 1
abbrev τ : Topo := Topo.v7x

variable {F : FTy → Type} [FloatOps F]

abbrev grid0 : Pipeline.Grid := ⟨3, ![4, 16, 2], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c0_i32 : BitVec 32 := 0#32
  ![v1.toNat, arg1.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_6 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  ![arg2.toNat, c0_i32.toNat]

def cc0_transform_7 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c2_i32 : BitVec 32 := 2#32
  let v0 : BitVec 32 := Scalar.muli arg0 c2_i32
  let v1 : BitVec 32 := Scalar.addi v0 arg2
  let c0_i32 : BitVec 32 := 0#32
  ![v1.toNat, arg1.toNat]

abbrev stage0_0 : Fin 2 → Memref sig .tc .vmem S1024x256 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true, true]

abbrev stage0_1 : Fin 2 → Memref sig .tc .vmem S2048x256 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true, false]

abbrev stage0_2 : Fin 2 → Memref sig .tc .vmem S256x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S2048x128 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false, false]

abbrev stage0_4 : Fin 2 → Memref sig .tc .vmem S256x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false, false]

abbrev stage0_5 : Fin 2 → Memref sig .tc .vmem S1024x64 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, false, true]

abbrev stage0_6 : Fin 2 → Memref sig .tc .vmem S1024x64 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![false, false, true]

abbrev stage0_7 : Fin 1 → Memref sig .tc .vmem S2048x64 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false, false]

abbrev stage0_8 : Fin 1 → Memref sig .tc .vmem S2048x64 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false, false]

abbrev stage0_9 : Fin 2 → Memref sig .tc .vmem S1024x128 .bf16 := fun | 0 => Memref.whole cc0_stg9_0 | 1 => Memref.whole cc0_stg9_1 | ⟨_ + 2, h⟩ => absurd h (Nat.not_lt.2 (Nat.le_add_left _ _))
abbrev sem0_9 : Fin 2 → DmaSem sig := fun | 0 => cc0_sem9_0 | 1 => cc0_sem9_1 | ⟨_ + 2, h⟩ => absurd h (Nat.not_lt.2 (Nat.le_add_left _ _))
abbrev reads0_9 : Fin grid0.rank → Bool := ![true, true, true]
-- ==== KernelIdeal.lean ====
variable {F : FTy → Type} [FloatOps F] [Named F]
def κ : String → Option EReal := fun
  | "qscale" => some (((Real.log 2)⁻¹ * (Real.sqrt 192)⁻¹ : ℝ) : EReal)
  | _ => none
-- ==== ReferenceIdeal.lean ====
abbrev S8192x3072 : Shape := ⟨2, ![8192, 3072]⟩
abbrev S8192x4096 : Shape := ⟨2, ![8192, 4096]⟩
abbrev S1024x4096 : Shape := ⟨2, ![1024, 4096]⟩
abbrev S8192x64 : Shape := ⟨2, ![8192, 64]⟩
abbrev S1024x64 : Shape := ⟨2, ![1024, 64]⟩
abbrev S4x2048x16x192 : Shape := ⟨4, ![4, 2048, 16, 192]⟩
abbrev S4x2048x16x256 : Shape := ⟨4, ![4, 2048, 16, 256]⟩
abbrev S4x256x16x256 : Shape := ⟨4, ![4, 256, 16, 256]⟩
abbrev S4x2048x16x128 : Shape := ⟨4, ![4, 2048, 16, 128]⟩
abbrev S4x2048x16x64 : Shape := ⟨4, ![4, 2048, 16, 64]⟩
abbrev S4x256x16x128 : Shape := ⟨4, ![4, 256, 16, 128]⟩
abbrev S4x2048x64 : Shape := ⟨3, ![4, 2048, 64]⟩
abbrev S4x256x64 : Shape := ⟨3, ![4, 256, 64]⟩
abbrev S2048 : Shape := ⟨1, ![2048]⟩
abbrev S_ : Shape := ⟨0, ![]⟩
abbrev S16 : Shape := ⟨1, ![16]⟩
abbrev S2048x1 : Shape := ⟨2, ![2048, 1]⟩
abbrev S1x16 : Shape := ⟨2, ![1, 16]⟩
abbrev S2048x16 : Shape := ⟨2, ![2048, 16]⟩
abbrev S2048x1x16 : Shape := ⟨3, ![2048, 1, 16]⟩
abbrev S4x2048x16x32 : Shape := ⟨4, ![4, 2048, 16, 32]⟩
abbrev S4x2048x16x16 : Shape := ⟨4, ![4, 2048, 16, 16]⟩
abbrev S1x2048x1x16 : Shape := ⟨4, ![1, 2048, 1, 16]⟩
abbrev S4x2048x32 : Shape := ⟨3, ![4, 2048, 32]⟩
abbrev S4x2048x16 : Shape := ⟨3, ![4, 2048, 16]⟩
abbrev S1x2048x16 : Shape := ⟨3, ![1, 2048, 16]⟩
abbrev S4x2304x16x128 : Shape := ⟨4, ![4, 2304, 16, 128]⟩
abbrev S4x2304x64 : Shape := ⟨3, ![4, 2304, 64]⟩
abbrev S4x16x2048x2304 : Shape := ⟨4, ![4, 16, 2048, 2304]⟩
abbrev S4x2304x2048x16 : Shape := ⟨4, ![4, 2304, 2048, 16]⟩
abbrev S4x16x2048 : Shape := ⟨3, ![4, 16, 2048]⟩
abbrev S4x16x2048x1 : Shape := ⟨4, ![4, 16, 2048, 1]⟩
abbrev S4x16x128x2048 : Shape := ⟨4, ![4, 16, 128, 2048]⟩
abbrev S8192x2048 : Shape := ⟨2, ![8192, 2048]⟩

abbrev nBuf : Space → Nat
  | .hbm => 198
  | .vmem => 0
  | .smem => 0
  | _ => 0

abbrev hbmTy0_0 (i : Nat) : BufTy := match i % 128 with
  | 0 => ⟨S8192x3072, .f32⟩
  | 1 => ⟨S8192x4096, .bf16⟩
  | 2 => ⟨S1024x4096, .bf16⟩
  | 3 => ⟨S8192x64, .f32⟩
  | 4 => ⟨S1024x64, .f32⟩
  | 5 => ⟨S4x2048x16x192, .f32⟩
  | 6 => ⟨S8192x4096, .f32⟩
  | 7 => ⟨S4x2048x16x256, .f32⟩
  | 8 => ⟨S1024x4096, .f32⟩
  | 9 => ⟨S4x256x16x256, .f32⟩
  | 10 => ⟨S4x2048x16x128, .f32⟩
  | 11 => ⟨S4x2048x16x64, .f32⟩
  | 12 => ⟨S4x2048x16x128, .f32⟩
  | 13 => ⟨S4x2048x16x128, .f32⟩
  | 14 => ⟨S4x256x16x128, .f32⟩
  | 15 => ⟨S4x256x16x128, .f32⟩
  | 16 => ⟨S4x2048x64, .f32⟩
  | 17 => ⟨S4x256x64, .f32⟩
  | 18 => ⟨S2048, .i32⟩
  | 19 => ⟨S_, .i32⟩
  | 20 => ⟨S_, .i32⟩
  | 21 => ⟨S2048, .i32⟩
  | 22 => ⟨S2048, .i32⟩
  | 23 => ⟨S2048, .i32⟩
  | 24 => ⟨S_, .i32⟩
  | 25 => ⟨S2048, .i32⟩
  | 26 => ⟨S2048, .i1⟩
  | 27 => ⟨S2048, .i32⟩
  | 28 => ⟨S2048, .i32⟩
  | 29 => ⟨S_, .i32⟩
  | 30 => ⟨S2048, .i32⟩
  | 31 => ⟨S2048, .i1⟩
  | 32 => ⟨S2048, .i1⟩
  | 33 => ⟨S_, .i32⟩
  | 34 => ⟨S2048, .i32⟩
  | 35 => ⟨S2048, .i32⟩
  | 36 => ⟨S2048, .i32⟩
  | 37 => ⟨S2048, .f32⟩
  | 38 => ⟨S_, .i32⟩
  | 39 => ⟨S_, .i32⟩
  | 40 => ⟨S_, .i32⟩
  | 41 => ⟨S_, .i1⟩
  | 42 => ⟨S_, .i32⟩
  | 43 => ⟨S_, .i32⟩
  | 44 => ⟨S2048, .i32⟩
  | 45 => ⟨S2048, .i32⟩
  | 46 => ⟨S_, .i32⟩
  | 47 => ⟨S2048, .i32⟩
  | 48 => ⟨S2048, .i1⟩
  | 49 => ⟨S_, .i32⟩
  | 50 => ⟨S2048, .i32⟩
  | 51 => ⟨S2048, .i1⟩
  | 52 => ⟨S_, .i32⟩
  | 53 => ⟨S_, .i1⟩
  | 54 => ⟨S2048, .i1⟩
  | 55 => ⟨S2048, .i1⟩
  | 56 => ⟨S2048, .i1⟩
  | 57 => ⟨S2048, .i32⟩
  | 58 => ⟨S2048, .i32⟩
  | 59 => ⟨S2048, .i32⟩
  | 60 => ⟨S2048, .f32⟩
  | 61 => ⟨S16, .f32⟩
  | 62 => ⟨S_, .f32⟩
  | 63 => ⟨S16, .f32⟩
  | 64 => ⟨S16, .f32⟩
  | 65 => ⟨S_, .f32⟩
  | 66 => ⟨S16, .f32⟩
  | 67 => ⟨S16, .f32⟩
  | 68 => ⟨S16, .f32⟩
  | 69 => ⟨S_, .f32⟩
  | 70 => ⟨S16, .f32⟩
  | 71 => ⟨S16, .f32⟩
  | 72 => ⟨S_, .f32⟩
  | 73 => ⟨S16, .f32⟩
  | 74 => ⟨S16, .f32⟩
  | 75 => ⟨S2048x1, .f32⟩
  | 76 => ⟨S1x16, .f32⟩
  | 77 => ⟨S2048x16, .f32⟩
  | 78 => ⟨S2048x16, .f32⟩
  | 79 => ⟨S2048x16, .f32⟩
  | 80 => ⟨S2048x1, .f32⟩
  | 81 => ⟨S1x16, .f32⟩
  | 82 => ⟨S2048x16, .f32⟩
  | 83 => ⟨S2048x16, .f32⟩
  | 84 => ⟨S2048x16, .f32⟩
  | 85 => ⟨S2048x1x16, .f32⟩
  | 86 => ⟨S2048x1x16, .f32⟩
  | 87 => ⟨S4x2048x16x32, .f32⟩
  | 88 => ⟨S4x2048x16x32, .f32⟩
  | 89 => ⟨S4x2048x16x16, .f32⟩
  | 90 => ⟨S4x2048x16x16, .f32⟩
  | 91 => ⟨S2048x1x16, .f32⟩
  | 92 => ⟨S2048x1x16, .f32⟩
  | 93 => ⟨S1x2048x1x16, .f32⟩
  | 94 => ⟨S4x2048x16x16, .f32⟩
  | 95 => ⟨S4x2048x16x16, .f32⟩
  | 96 => ⟨S1x2048x1x16, .f32⟩
  | 97 => ⟨S4x2048x16x16, .f32⟩
  | 98 => ⟨S4x2048x16x16, .f32⟩
  | 99 => ⟨S4x2048x16x16, .f32⟩
  | 100 => ⟨S1x2048x1x16, .f32⟩
  | 101 => ⟨S4x2048x16x16, .f32⟩
  | 102 => ⟨S4x2048x16x16, .f32⟩
  | 103 => ⟨S1x2048x1x16, .f32⟩
  | 104 => ⟨S4x2048x16x16, .f32⟩
  | 105 => ⟨S4x2048x16x16, .f32⟩
  | 106 => ⟨S4x2048x16x16, .f32⟩
  | 107 => ⟨S4x2048x16x32, .f32⟩
  | 108 => ⟨S4x2048x16x16, .f32⟩
  | 109 => ⟨S4x2048x16x16, .f32⟩
  | 110 => ⟨S2048x1x16, .f32⟩
  | 111 => ⟨S2048x1x16, .f32⟩
  | 112 => ⟨S1x2048x1x16, .f32⟩
  | 113 => ⟨S4x2048x16x16, .f32⟩
  | 114 => ⟨S4x2048x16x16, .f32⟩
  | 115 => ⟨S1x2048x1x16, .f32⟩
  | 116 => ⟨S4x2048x16x16, .f32⟩
  | 117 => ⟨S4x2048x16x16, .f32⟩
  | 118 => ⟨S4x2048x16x16, .f32⟩
  | 119 => ⟨S1x2048x1x16, .f32⟩
  | 120 => ⟨S4x2048x16x16, .f32⟩
  | 121 => ⟨S4x2048x16x16, .f32⟩
  | 122 => ⟨S1x2048x1x16, .f32⟩
  | 123 => ⟨S4x2048x16x16, .f32⟩
  | 124 => ⟨S4x2048x16x16, .f32⟩
  | 125 => ⟨S4x2048x16x16, .f32⟩
  | 126 => ⟨S4x2048x16x32, .f32⟩
  | 127 => ⟨S4x2048x16x64, .f32⟩
  | _ => ⟨S8192x3072, .f32⟩

abbrev hbmTy0_1 (i : Nat) : BufTy := match i % 128 with
  | 0 => ⟨S4x2048x32, .f32⟩
  | 1 => ⟨S4x2048x32, .f32⟩
  | 2 => ⟨S4x2048x16, .f32⟩
  | 3 => ⟨S4x2048x16, .f32⟩
  | 4 => ⟨S2048x16, .f32⟩
  | 5 => ⟨S2048x16, .f32⟩
  | 6 => ⟨S1x2048x16, .f32⟩
  | 7 => ⟨S4x2048x16, .f32⟩
  | 8 => ⟨S4x2048x16, .f32⟩
  | 9 => ⟨S1x2048x16, .f32⟩
  | 10 => ⟨S4x2048x16, .f32⟩
  | 11 => ⟨S4x2048x16, .f32⟩
  | 12 => ⟨S4x2048x16, .f32⟩
  | 13 => ⟨S1x2048x16, .f32⟩
  | 14 => ⟨S4x2048x16, .f32⟩
  | 15 => ⟨S4x2048x16, .f32⟩
  | 16 => ⟨S1x2048x16, .f32⟩
  | 17 => ⟨S4x2048x16, .f32⟩
  | 18 => ⟨S4x2048x16, .f32⟩
  | 19 => ⟨S4x2048x16, .f32⟩
  | 20 => ⟨S4x2048x32, .f32⟩
  | 21 => ⟨S4x2048x16, .f32⟩
  | 22 => ⟨S4x2048x16, .f32⟩
  | 23 => ⟨S2048x16, .f32⟩
  | 24 => ⟨S2048x16, .f32⟩
  | 25 => ⟨S1x2048x16, .f32⟩
  | 26 => ⟨S4x2048x16, .f32⟩
  | 27 => ⟨S4x2048x16, .f32⟩
  | 28 => ⟨S1x2048x16, .f32⟩
  | 29 => ⟨S4x2048x16, .f32⟩
  | 30 => ⟨S4x2048x16, .f32⟩
  | 31 => ⟨S4x2048x16, .f32⟩
  | 32 => ⟨S1x2048x16, .f32⟩
  | 33 => ⟨S4x2048x16, .f32⟩
  | 34 => ⟨S4x2048x16, .f32⟩
  | 35 => ⟨S1x2048x16, .f32⟩
  | 36 => ⟨S4x2048x16, .f32⟩
  | 37 => ⟨S4x2048x16, .f32⟩
  | 38 => ⟨S4x2048x16, .f32⟩
  | 39 => ⟨S4x2048x32, .f32⟩
  | 40 => ⟨S4x2048x64, .f32⟩
  | 41 => ⟨S4x2304x16x128, .f32⟩
  | 42 => ⟨S4x2304x64, .f32⟩
  | 43 => ⟨S4x2304x16x128, .f32⟩
  | 44 => ⟨S4x16x2048x2304, .f32⟩
  | 45 => ⟨S4x2304x2048x16, .f32⟩
  | 46 => ⟨S4x16x2048x2304, .f32⟩
  | 47 => ⟨S4x16x2048x2304, .f32⟩
  | 48 => ⟨S_, .f32⟩
  | 49 => ⟨S_, .f32⟩
  | 50 => ⟨S4x16x2048x2304, .f32⟩
  | 51 => ⟨S4x16x2048x2304, .f32⟩
  | 52 => ⟨S_, .f32⟩
  | 53 => ⟨S4x16x2048, .f32⟩
  | 54 => ⟨S_, .f32⟩
  | 55 => ⟨S4x16x2048, .f32⟩
  | 56 => ⟨S4x16x2048, .f32⟩
  | 57 => ⟨S4x16x2048x1, .f32⟩
  | 58 => ⟨S4x16x2048x2304, .f32⟩
  | 59 => ⟨S4x16x2048x2304, .f32⟩
  | 60 => ⟨S4x16x2048x2304, .f32⟩
  | 61 => ⟨S_, .f32⟩
  | 62 => ⟨S4x16x2048, .f32⟩
  | 63 => ⟨S4x16x2048x1, .f32⟩
  | 64 => ⟨S4x16x2048x2304, .f32⟩
  | 65 => ⟨S4x16x2048x2304, .f32⟩
  | 66 => ⟨S4x16x128x2048, .f32⟩
  | 67 => ⟨S4x2048x16x128, .f32⟩
  | 68 => ⟨S8192x2048, .f32⟩
  | 69 => ⟨S8192x2048, .bf16⟩
  | _ => ⟨S8192x3072, .f32⟩

abbrev hbmTy (i : Nat) : BufTy := match i / 128 with
  | 0 => hbmTy0_0 i
  | 1 => hbmTy0_1 i
  | _ => ⟨S8192x3072, .f32⟩

abbrev bufTy : (tb : Table) → Fin (tcTables nBuf tb) → BufTy
  | .hbm, ⟨i, _⟩ => hbmTy i
  | _, _ => ⟨S8192x3072, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_c : Ref sig .tc := ⟨.hbm, 19, rfl⟩
abbrev main_call0_v0 : Ref sig .tc := ⟨.hbm, 20, rfl⟩
abbrev main_call0_v1 : Ref sig .tc := ⟨.hbm, 21, rfl⟩
abbrev main_call0_v2 : Ref sig .tc := ⟨.hbm, 22, rfl⟩
abbrev main_call0_v3 : Ref sig .tc := ⟨.hbm, 23, rfl⟩
abbrev main_call0_v4 : Ref sig .tc := ⟨.hbm, 24, rfl⟩
abbrev main_call0_v5 : Ref sig .tc := ⟨.hbm, 25, rfl⟩
abbrev main_call0_v6 : Ref sig .tc := ⟨.hbm, 26, rfl⟩
abbrev main_call0_v7 : Ref sig .tc := ⟨.hbm, 27, rfl⟩
abbrev main_call0_v8 : Ref sig .tc := ⟨.hbm, 28, rfl⟩
abbrev main_call0_c : Ref sig .tc := ⟨.hbm, 29, rfl⟩
abbrev main_call0_v9 : Ref sig .tc := ⟨.hbm, 30, rfl⟩
abbrev main_call0_v10 : Ref sig .tc := ⟨.hbm, 31, rfl⟩
abbrev main_call0_v11 : Ref sig .tc := ⟨.hbm, 32, rfl⟩
abbrev main_call0_c_0 : Ref sig .tc := ⟨.hbm, 33, rfl⟩
abbrev main_call0_v12 : Ref sig .tc := ⟨.hbm, 34, rfl⟩
abbrev main_call0_v13 : Ref sig .tc := ⟨.hbm, 35, rfl⟩
abbrev main_v14 : Ref sig .tc := ⟨.hbm, 36, rfl⟩
abbrev main_v15 : Ref sig .tc := ⟨.hbm, 37, rfl⟩
abbrev main_c_0 : Ref sig .tc := ⟨.hbm, 38, rfl⟩
abbrev main_call1_v0 : Ref sig .tc := ⟨.hbm, 39, rfl⟩
abbrev main_call1_c : Ref sig .tc := ⟨.hbm, 40, rfl⟩
abbrev main_call1_v1 : Ref sig .tc := ⟨.hbm, 41, rfl⟩
abbrev main_call1_c_0 : Ref sig .tc := ⟨.hbm, 42, rfl⟩
abbrev main_call1_v2 : Ref sig .tc := ⟨.hbm, 43, rfl⟩
abbrev main_call1_v3 : Ref sig .tc := ⟨.hbm, 44, rfl⟩
abbrev main_call1_v4 : Ref sig .tc := ⟨.hbm, 45, rfl⟩
abbrev main_call1_c_1 : Ref sig .tc := ⟨.hbm, 46, rfl⟩
abbrev main_call1_v5 : Ref sig .tc := ⟨.hbm, 47, rfl⟩
abbrev main_call1_v6 : Ref sig .tc := ⟨.hbm, 48, rfl⟩
abbrev main_call1_c_2 : Ref sig .tc := ⟨.hbm, 49, rfl⟩
abbrev main_call1_v7 : Ref sig .tc := ⟨.hbm, 50, rfl⟩
abbrev main_call1_v8 : Ref sig .tc := ⟨.hbm, 51, rfl⟩
abbrev main_call1_c_3 : Ref sig .tc := ⟨.hbm, 52, rfl⟩
abbrev main_call1_v9 : Ref sig .tc := ⟨.hbm, 53, rfl⟩
abbrev main_call1_v10 : Ref sig .tc := ⟨.hbm, 54, rfl⟩
abbrev main_call1_v11 : Ref sig .tc := ⟨.hbm, 55, rfl⟩
abbrev main_call1_v12 : Ref sig .tc := ⟨.hbm, 56, rfl⟩
abbrev main_call1_v13 : Ref sig .tc := ⟨.hbm, 57, rfl⟩
abbrev main_call1_v14 : Ref sig .tc := ⟨.hbm, 58, rfl⟩
abbrev main_v16 : Ref sig .tc := ⟨.hbm, 59, rfl⟩
abbrev main_v17 : Ref sig .tc := ⟨.hbm, 60, rfl⟩
abbrev main_v18 : Ref sig .tc := ⟨.hbm, 61, rfl⟩
abbrev main_cst : Ref sig .tc := ⟨.hbm, 62, rfl⟩
abbrev main_v19 : Ref sig .tc := ⟨.hbm, 63, rfl⟩
abbrev main_v20 : Ref sig .tc := ⟨.hbm, 64, rfl⟩
abbrev main_cst_1 : Ref sig .tc := ⟨.hbm, 65, rfl⟩
abbrev main_v21 : Ref sig .tc := ⟨.hbm, 66, rfl⟩
abbrev main_v22 : Ref sig .tc := ⟨.hbm, 67, rfl⟩
abbrev main_v23 : Ref sig .tc := ⟨.hbm, 68, rfl⟩
abbrev main_cst_2 : Ref sig .tc := ⟨.hbm, 69, rfl⟩
abbrev main_v24 : Ref sig .tc := ⟨.hbm, 70, rfl⟩
abbrev main_v25 : Ref sig .tc := ⟨.hbm, 71, rfl⟩
abbrev main_cst_3 : Ref sig .tc := ⟨.hbm, 72, rfl⟩
abbrev main_v26 : Ref sig .tc := ⟨.hbm, 73, rfl⟩
abbrev main_v27 : Ref sig .tc := ⟨.hbm, 74, rfl⟩
abbrev main_v28 : Ref sig .tc := ⟨.hbm, 75, rfl⟩
abbrev main_v29 : Ref sig .tc := ⟨.hbm, 76, rfl⟩
abbrev main_v30 : Ref sig .tc := ⟨.hbm, 77, rfl⟩
abbrev main_v31 : Ref sig .tc := ⟨.hbm, 78, rfl⟩
abbrev main_v32 : Ref sig .tc := ⟨.hbm, 79, rfl⟩
abbrev main_v33 : Ref sig .tc := ⟨.hbm, 80, rfl⟩
abbrev main_v34 : Ref sig .tc := ⟨.hbm, 81, rfl⟩
abbrev main_v35 : Ref sig .tc := ⟨.hbm, 82, rfl⟩
abbrev main_v36 : Ref sig .tc := ⟨.hbm, 83, rfl⟩
abbrev main_v37 : Ref sig .tc := ⟨.hbm, 84, rfl⟩
abbrev main_v38 : Ref sig .tc := ⟨.hbm, 85, rfl⟩
abbrev main_v39 : Ref sig .tc := ⟨.hbm, 86, rfl⟩
abbrev main_v40 : Ref sig .tc := ⟨.hbm, 87, rfl⟩
abbrev main_v41 : Ref sig .tc := ⟨.hbm, 88, rfl⟩
abbrev main_v42 : Ref sig .tc := ⟨.hbm, 89, rfl⟩
abbrev main_v43 : Ref sig .tc := ⟨.hbm, 90, rfl⟩
abbrev main_v44 : Ref sig .tc := ⟨.hbm, 91, rfl⟩
abbrev main_v45 : Ref sig .tc := ⟨.hbm, 92, rfl⟩
abbrev main_v46 : Ref sig .tc := ⟨.hbm, 93, rfl⟩
abbrev main_v47 : Ref sig .tc := ⟨.hbm, 94, rfl⟩
abbrev main_v48 : Ref sig .tc := ⟨.hbm, 95, rfl⟩
abbrev main_v49 : Ref sig .tc := ⟨.hbm, 96, rfl⟩
abbrev main_v50 : Ref sig .tc := ⟨.hbm, 97, rfl⟩
abbrev main_v51 : Ref sig .tc := ⟨.hbm, 98, rfl⟩
abbrev main_v52 : Ref sig .tc := ⟨.hbm, 99, rfl⟩
abbrev main_v53 : Ref sig .tc := ⟨.hbm, 100, rfl⟩
abbrev main_v54 : Ref sig .tc := ⟨.hbm, 101, rfl⟩
abbrev main_v55 : Ref sig .tc := ⟨.hbm, 102, rfl⟩
abbrev main_v56 : Ref sig .tc := ⟨.hbm, 103, rfl⟩
abbrev main_v57 : Ref sig .tc := ⟨.hbm, 104, rfl⟩
abbrev main_v58 : Ref sig .tc := ⟨.hbm, 105, rfl⟩
abbrev main_v59 : Ref sig .tc := ⟨.hbm, 106, rfl⟩
abbrev main_v60 : Ref sig .tc := ⟨.hbm, 107, rfl⟩
abbrev main_v61 : Ref sig .tc := ⟨.hbm, 108, rfl⟩
abbrev main_v62 : Ref sig .tc := ⟨.hbm, 109, rfl⟩
abbrev main_v63 : Ref sig .tc := ⟨.hbm, 110, rfl⟩
abbrev main_v64 : Ref sig .tc := ⟨.hbm, 111, rfl⟩
abbrev main_v65 : Ref sig .tc := ⟨.hbm, 112, rfl⟩
abbrev main_v66 : Ref sig .tc := ⟨.hbm, 113, rfl⟩
abbrev main_v67 : Ref sig .tc := ⟨.hbm, 114, rfl⟩
abbrev main_v68 : Ref sig .tc := ⟨.hbm, 115, rfl⟩
abbrev main_v69 : Ref sig .tc := ⟨.hbm, 116, rfl⟩
abbrev main_v70 : Ref sig .tc := ⟨.hbm, 117, rfl⟩
abbrev main_v71 : Ref sig .tc := ⟨.hbm, 118, rfl⟩
abbrev main_v72 : Ref sig .tc := ⟨.hbm, 119, rfl⟩
abbrev main_v73 : Ref sig .tc := ⟨.hbm, 120, rfl⟩
abbrev main_v74 : Ref sig .tc := ⟨.hbm, 121, rfl⟩
abbrev main_v75 : Ref sig .tc := ⟨.hbm, 122, rfl⟩
abbrev main_v76 : Ref sig .tc := ⟨.hbm, 123, rfl⟩
abbrev main_v77 : Ref sig .tc := ⟨.hbm, 124, rfl⟩
abbrev main_v78 : Ref sig .tc := ⟨.hbm, 125, rfl⟩
abbrev main_v79 : Ref sig .tc := ⟨.hbm, 126, rfl⟩
abbrev main_v80 : Ref sig .tc := ⟨.hbm, 127, rfl⟩
abbrev main_v81 : Ref sig .tc := ⟨.hbm, 128, rfl⟩
abbrev main_v82 : Ref sig .tc := ⟨.hbm, 129, rfl⟩
abbrev main_v83 : Ref sig .tc := ⟨.hbm, 130, rfl⟩
abbrev main_v84 : Ref sig .tc := ⟨.hbm, 131, rfl⟩
abbrev main_v85 : Ref sig .tc := ⟨.hbm, 132, rfl⟩
abbrev main_v86 : Ref sig .tc := ⟨.hbm, 133, rfl⟩
abbrev main_v87 : Ref sig .tc := ⟨.hbm, 134, rfl⟩
abbrev main_v88 : Ref sig .tc := ⟨.hbm, 135, rfl⟩
abbrev main_v89 : Ref sig .tc := ⟨.hbm, 136, rfl⟩
abbrev main_v90 : Ref sig .tc := ⟨.hbm, 137, rfl⟩
abbrev main_v91 : Ref sig .tc := ⟨.hbm, 138, rfl⟩
abbrev main_v92 : Ref sig .tc := ⟨.hbm, 139, rfl⟩
abbrev main_v93 : Ref sig .tc := ⟨.hbm, 140, rfl⟩
abbrev main_v94 : Ref sig .tc := ⟨.hbm, 141, rfl⟩
abbrev main_v95 : Ref sig .tc := ⟨.hbm, 142, rfl⟩
abbrev main_v96 : Ref sig .tc := ⟨.hbm, 143, rfl⟩
abbrev main_v97 : Ref sig .tc := ⟨.hbm, 144, rfl⟩
abbrev main_v98 : Ref sig .tc := ⟨.hbm, 145, rfl⟩
abbrev main_v99 : Ref sig .tc := ⟨.hbm, 146, rfl⟩
abbrev main_v100 : Ref sig .tc := ⟨.hbm, 147, rfl⟩
abbrev main_v101 : Ref sig .tc := ⟨.hbm, 148, rfl⟩
abbrev main_v102 : Ref sig .tc := ⟨.hbm, 149, rfl⟩
abbrev main_v103 : Ref sig .tc := ⟨.hbm, 150, rfl⟩
abbrev main_v104 : Ref sig .tc := ⟨.hbm, 151, rfl⟩
abbrev main_v105 : Ref sig .tc := ⟨.hbm, 152, rfl⟩
abbrev main_v106 : Ref sig .tc := ⟨.hbm, 153, rfl⟩
abbrev main_v107 : Ref sig .tc := ⟨.hbm, 154, rfl⟩
abbrev main_v108 : Ref sig .tc := ⟨.hbm, 155, rfl⟩
abbrev main_v109 : Ref sig .tc := ⟨.hbm, 156, rfl⟩
abbrev main_v110 : Ref sig .tc := ⟨.hbm, 157, rfl⟩
abbrev main_v111 : Ref sig .tc := ⟨.hbm, 158, rfl⟩
abbrev main_v112 : Ref sig .tc := ⟨.hbm, 159, rfl⟩
abbrev main_v113 : Ref sig .tc := ⟨.hbm, 160, rfl⟩
abbrev main_v114 : Ref sig .tc := ⟨.hbm, 161, rfl⟩
abbrev main_v115 : Ref sig .tc := ⟨.hbm, 162, rfl⟩
abbrev main_v116 : Ref sig .tc := ⟨.hbm, 163, rfl⟩
abbrev main_v117 : Ref sig .tc := ⟨.hbm, 164, rfl⟩
abbrev main_v118 : Ref sig .tc := ⟨.hbm, 165, rfl⟩
abbrev main_v119 : Ref sig .tc := ⟨.hbm, 166, rfl⟩
abbrev main_v120 : Ref sig .tc := ⟨.hbm, 167, rfl⟩
abbrev main_v121 : Ref sig .tc := ⟨.hbm, 168, rfl⟩
abbrev main_v122 : Ref sig .tc := ⟨.hbm, 169, rfl⟩
abbrev main_v123 : Ref sig .tc := ⟨.hbm, 170, rfl⟩
abbrev main_v124 : Ref sig .tc := ⟨.hbm, 171, rfl⟩
abbrev main_v125 : Ref sig .tc := ⟨.hbm, 172, rfl⟩
abbrev main_v126 : Ref sig .tc := ⟨.hbm, 173, rfl⟩
abbrev main_v127 : Ref sig .tc := ⟨.hbm, 174, rfl⟩
abbrev main_v128 : Ref sig .tc := ⟨.hbm, 175, rfl⟩
abbrev main_cst_4 : Ref sig .tc := ⟨.hbm, 176, rfl⟩
abbrev main_v129 : Ref sig .tc := ⟨.hbm, 177, rfl⟩
abbrev main_v130 : Ref sig .tc := ⟨.hbm, 178, rfl⟩
abbrev main_v131 : Ref sig .tc := ⟨.hbm, 179, rfl⟩
abbrev main_cst_5 : Ref sig .tc := ⟨.hbm, 180, rfl⟩
abbrev main_v132 : Ref sig .tc := ⟨.hbm, 181, rfl⟩
abbrev main_cst_6 : Ref sig .tc := ⟨.hbm, 182, rfl⟩
abbrev main_v133 : Ref sig .tc := ⟨.hbm, 183, rfl⟩
abbrev main_v134 : Ref sig .tc := ⟨.hbm, 184, rfl⟩
abbrev main_v135 : Ref sig .tc := ⟨.hbm, 185, rfl⟩
abbrev main_v136 : Ref sig .tc := ⟨.hbm, 186, rfl⟩
abbrev main_v137 : Ref sig .tc := ⟨.hbm, 187, rfl⟩
abbrev main_v138 : Ref sig .tc := ⟨.hbm, 188, rfl⟩
abbrev main_cst_7 : Ref sig .tc := ⟨.hbm, 189, rfl⟩
abbrev main_v139 : Ref sig .tc := ⟨.hbm, 190, rfl⟩
abbrev main_v140 : Ref sig .tc := ⟨.hbm, 191, rfl⟩
abbrev main_v141 : Ref sig .tc := ⟨.hbm, 192, rfl⟩
abbrev main_v142 : Ref sig .tc := ⟨.hbm, 193, rfl⟩
abbrev main_v143 : Ref sig .tc := ⟨.hbm, 194, rfl⟩
abbrev main_v144 : Ref sig .tc := ⟨.hbm, 195, rfl⟩
abbrev main_v145 : Ref sig .tc := ⟨.hbm, 196, rfl⟩
abbrev main_v146 : Ref sig .tc := ⟨.hbm, 197, rfl⟩

abbrev nD : Nat := 1
abbrev τ : Topo := Topo.v7x

variable {F : FTy → Type} [FloatOps F]
-- ==== Kernel2.lean ====
abbrev S8192x4096 : Shape := ⟨2, ![8192, 4096]⟩
abbrev S4096x11008 : Shape := ⟨2, ![4096, 11008]⟩
abbrev S8192x11008 : Shape := ⟨2, ![8192, 11008]⟩
abbrev S1024x4096 : Shape := ⟨2, ![1024, 4096]⟩
abbrev S4096x256 : Shape := ⟨2, ![4096, 256]⟩
abbrev S1024x256 : Shape := ⟨2, ![1024, 256]⟩

abbrev nBuf : Space → Nat
  | .hbm => 4
  | .vmem => 8
  | .smem => 0
  | _ => 0

abbrev bufTy : (tb : Table) → Fin (tcTables nBuf tb) → BufTy
  | .hbm, ⟨0, _⟩ => ⟨S8192x4096, .bf16⟩
  | .hbm, ⟨1, _⟩ => ⟨S4096x11008, .f32⟩
  | .hbm, ⟨2, _⟩ => ⟨S4096x11008, .f32⟩
  | .hbm, ⟨3, _⟩ => ⟨S8192x11008, .bf16⟩
  | .local _ .vmem, ⟨0, _⟩ => ⟨S1024x4096, .bf16⟩
  | .local _ .vmem, ⟨1, _⟩ => ⟨S1024x4096, .bf16⟩
  | .local _ .vmem, ⟨2, _⟩ => ⟨S4096x256, .f32⟩
  | .local _ .vmem, ⟨3, _⟩ => ⟨S4096x256, .f32⟩
  | .local _ .vmem, ⟨4, _⟩ => ⟨S4096x256, .f32⟩
  | .local _ .vmem, ⟨5, _⟩ => ⟨S4096x256, .f32⟩
  | .local _ .vmem, ⟨6, _⟩ => ⟨S1024x256, .bf16⟩
  | .local _ .vmem, ⟨7, _⟩ => ⟨S1024x256, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![8, 43], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4096x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference2Ideal.lean ====
abbrev S8192x4096 : Shape := ⟨2, ![8192, 4096]⟩
abbrev S4096x11008 : Shape := ⟨2, ![4096, 11008]⟩
abbrev S8192x11008 : Shape := ⟨2, ![8192, 11008]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x11008, .f32⟩
  | .hbm, ⟨2, _⟩ => ⟨S4096x11008, .f32⟩
  | .hbm, ⟨3, _⟩ => ⟨S8192x4096, .f32⟩
  | .hbm, ⟨4, _⟩ => ⟨S8192x11008, .f32⟩
  | .hbm, ⟨5, _⟩ => ⟨S8192x11008, .f32⟩
  | .hbm, ⟨6, _⟩ => ⟨S8192x11008, .f32⟩
  | .hbm, ⟨7, _⟩ => ⟨S_, .f32⟩
  | .hbm, ⟨8, _⟩ => ⟨S8192x11008, .f32⟩
  | .hbm, ⟨9, _⟩ => ⟨S8192x11008, .f32⟩
  | .hbm, ⟨10, _⟩ => ⟨S_, .f32⟩
  | .hbm, ⟨11, _⟩ => ⟨S8192x11008, .f32⟩
  | .hbm, ⟨12, _⟩ => ⟨S8192x11008, .f32⟩
  | .hbm, ⟨13, _⟩ => ⟨S8192x11008, .f32⟩
  | .hbm, ⟨14, _⟩ => ⟨S8192x11008, .f32⟩
  | .hbm, ⟨15, _⟩ => ⟨S8192x11008, .f32⟩
  | .hbm, ⟨16, _⟩ => ⟨S8192x11008, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩

abbrev nD : Nat := 1
abbrev τ : Topo := Topo.v7x

variable {F : FTy → Type} [FloatOps F]
-- ==== Kernel3.lean ====
abbrev S8192x4096 : Shape := ⟨2, ![8192, 4096]⟩
abbrev S8192x11008 : Shape := ⟨2, ![8192, 11008]⟩
abbrev S11008x4096 : Shape := ⟨2, ![11008, 4096]⟩
abbrev S8x1x4096 : Shape := ⟨3, ![8, 1, 4096]⟩
abbrev S512x11008 : Shape := ⟨2, ![512, 11008]⟩
abbrev S11008x512 : Shape := ⟨2, ![11008, 512]⟩
abbrev S512x512 : Shape := ⟨2, ![512, 512]⟩
abbrev S1x1x512 : Shape := ⟨3, ![1, 1, 512]⟩
abbrev S1x512 : Shape := ⟨2, ![1, 512]⟩

abbrev nBuf : Space → Nat
  | .hbm => 6
  | .vmem => 10
  | .smem => 0
  | _ => 0

abbrev bufTy : (tb : Table) → Fin (tcTables nBuf tb) → BufTy
  | .hbm, ⟨0, _⟩ => ⟨S8192x4096, .f32⟩
  | .hbm, ⟨1, _⟩ => ⟨S8192x11008, .bf16⟩
  | .hbm, ⟨2, _⟩ => ⟨S11008x4096, .f32⟩
  | .hbm, ⟨3, _⟩ => ⟨S8x1x4096, .f32⟩
  | .hbm, ⟨4, _⟩ => ⟨S11008x4096, .bf16⟩
  | .hbm, ⟨5, _⟩ => ⟨S8192x4096, .f32⟩
  | .local _ .vmem, ⟨0, _⟩ => ⟨S512x11008, .bf16⟩
  | .local _ .vmem, ⟨1, _⟩ => ⟨S512x11008, .bf16⟩
  | .local _ .vmem, ⟨2, _⟩ => ⟨S11008x512, .bf16⟩
  | .local _ .vmem, ⟨3, _⟩ => ⟨S11008x512, .bf16⟩
  | .local _ .vmem, ⟨4, _⟩ => ⟨S512x512, .f32⟩
  | .local _ .vmem, ⟨5, _⟩ => ⟨S512x512, .f32⟩
  | .local _ .vmem, ⟨6, _⟩ => ⟨S1x1x512, .f32⟩
  | .local _ .vmem, ⟨7, _⟩ => ⟨S1x1x512, .f32⟩
  | .local _ .vmem, ⟨8, _⟩ => ⟨S512x512, .f32⟩
  | .local _ .vmem, ⟨9, _⟩ => ⟨S512x512, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![16, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c512_i32 : BitVec 32 := 512#32
  let v0 : BitVec 32 := Scalar.muli arg0 c512_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  ![v17.toNat, c0_i32_4.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x11008 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S11008x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true, false]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== Reference3Ideal.lean ====
abbrev S8192x4096 : Shape := ⟨2, ![8192, 4096]⟩
abbrev S8192x11008 : Shape := ⟨2, ![8192, 11008]⟩
abbrev S11008x4096 : Shape := ⟨2, ![11008, 4096]⟩
abbrev S8x1x4096 : Shape := ⟨3, ![8, 1, 4096]⟩
abbrev S4x1x4096 : Shape := ⟨3, ![4, 1, 4096]⟩
abbrev S4x4096 : Shape := ⟨2, ![4, 4096]⟩
abbrev S4x2048x4096 : Shape := ⟨3, ![4, 2048, 4096]⟩

abbrev nBuf : Space → Nat
  | .hbm => 15
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S8192x11008, .bf16⟩
  | .hbm, ⟨2, _⟩ => ⟨S11008x4096, .f32⟩
  | .hbm, ⟨3, _⟩ => ⟨S8x1x4096, .f32⟩
  | .hbm, ⟨4, _⟩ => ⟨S8192x11008, .f32⟩
  | .hbm, ⟨5, _⟩ => ⟨S8192x4096, .f32⟩
  | .hbm, ⟨6, _⟩ => ⟨S4x1x4096, .f32⟩
  | .hbm, ⟨7, _⟩ => ⟨S4x4096, .f32⟩
  | .hbm, ⟨8, _⟩ => ⟨S4x2048x4096, .f32⟩
  | .hbm, ⟨9, _⟩ => ⟨S4x1x4096, .f32⟩
  | .hbm, ⟨10, _⟩ => ⟨S4x2048x4096, .f32⟩
  | .hbm, ⟨11, _⟩ => ⟨S4x2048x4096, .f32⟩
  | .hbm, ⟨12, _⟩ => ⟨S4x2048x4096, .f32⟩
  | .hbm, ⟨13, _⟩ => ⟨S4x2048x4096, .f32⟩
  | .hbm, ⟨14, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== Kernel4.lean ====
abbrev S8192x4096 : Shape := ⟨2, ![8192, 4096]⟩
abbrev S4096x8192 : Shape := ⟨2, ![4096, 8192]⟩
abbrev S8192x8192 : Shape := ⟨2, ![8192, 8192]⟩
abbrev S1024x4096 : Shape := ⟨2, ![1024, 4096]⟩
abbrev S4096x512 : Shape := ⟨2, ![4096, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x4096, .bf16⟩
  | .hbm, ⟨1, _⟩ => ⟨S4096x8192, .f32⟩
  | .hbm, ⟨2, _⟩ => ⟨S8192x8192, .bf16⟩
  | .local _ .vmem, ⟨0, _⟩ => ⟨S1024x4096, .bf16⟩
  | .local _ .vmem, ⟨1, _⟩ => ⟨S1024x4096, .bf16⟩
  | .local _ .vmem, ⟨2, _⟩ => ⟨S4096x512, .f32⟩
  | .local _ .vmem, ⟨3, _⟩ => ⟨S4096x512, .f32⟩
  | .local _ .vmem, ⟨4, _⟩ => ⟨S1024x512, .bf16⟩
  | .local _ .vmem, ⟨5, _⟩ => ⟨S1024x512, .bf16⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference4Ideal.lean ====
abbrev S8192x4096 : Shape := ⟨2, ![8192, 4096]⟩
abbrev S4096x8192 : Shape := ⟨2, ![4096, 8192]⟩
abbrev S8192x8192 : Shape := ⟨2, ![8192, 8192]⟩

abbrev nBuf : Space → Nat
  | .hbm => 5
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x8192, .f32⟩
  | .hbm, ⟨2, _⟩ => ⟨S8192x4096, .f32⟩
  | .hbm, ⟨3, _⟩ => ⟨S8192x8192, .f32⟩
  | .hbm, ⟨4, _⟩ => ⟨S8192x8192, .bf16⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel5.lean ====
abbrev S8192x4096 : Shape := ⟨2, ![8192, 4096]⟩
abbrev S4096x7744 : Shape := ⟨2, ![4096, 7744]⟩
abbrev S8192x7680 : Shape := ⟨2, ![8192, 7680]⟩
abbrev S1024x4096 : Shape := ⟨2, ![1024, 4096]⟩
abbrev S4096x512 : Shape := ⟨2, ![4096, 512]⟩
abbrev S1024x512 : Shape := ⟨2, ![1024, 512]⟩

abbrev nBuf : Space → Nat
  | .hbm => 3
  | .vmem => 6
  | .smem => 0
  | _ => 0

abbrev bufTy : (tb : Table) → Fin (tcTables nBuf tb) → BufTy
  | .hbm, ⟨0, _⟩ => ⟨S8192x4096, .bf16⟩
  | .hbm, ⟨1, _⟩ => ⟨S4096x7744, .f32⟩
  | .hbm, ⟨2, _⟩ => ⟨S8192x7680, .f32⟩
  | .local _ .vmem, ⟨0, _⟩ => ⟨S1024x4096, .bf16⟩
  | .local _ .vmem, ⟨1, _⟩ => ⟨S1024x4096, .bf16⟩
  | .local _ .vmem, ⟨2, _⟩ => ⟨S4096x512, .f32⟩
  | .local _ .vmem, ⟨3, _⟩ => ⟨S4096x512, .f32⟩
  | .local _ .vmem, ⟨4, _⟩ => ⟨S1024x512, .f32⟩
  | .local _ .vmem, ⟨5, _⟩ => ⟨S1024x512, .f32⟩
  | _, _ => ⟨S8192x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 15], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference5Ideal.lean ====
abbrev S8192x4096 : Shape := ⟨2, ![8192, 4096]⟩
abbrev S4096x7744 : Shape := ⟨2, ![4096, 7744]⟩
abbrev S8192x7744 : Shape := ⟨2, ![8192, 7744]⟩
abbrev S8192x7680 : Shape := ⟨2, ![8192, 7680]⟩

abbrev nBuf : Space → Nat
  | .hbm => 5
  | .vmem => 0
  | .smem => 0
  | _ => 0

abbrev bufTy : (tb : Table) → Fin (tcTables nBuf tb) → BufTy
  | .hbm, ⟨0, _⟩ => ⟨S8192x4096, .bf16⟩
  | .hbm, ⟨1, _⟩ => ⟨S4096x7744, .f32⟩
  | .hbm, ⟨2, _⟩ => ⟨S8192x4096, .f32⟩
  | .hbm, ⟨3, _⟩ => ⟨S8192x7744, .f32⟩
  | .hbm, ⟨4, _⟩ => ⟨S8192x7680, .f32⟩
  | _, _ => ⟨S8192x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel6.lean ====
abbrev S4x2048x4096 : Shape := ⟨3, ![4, 2048, 4096]⟩
abbrev S8192x2048 : Shape := ⟨2, ![8192, 2048]⟩
abbrev S4096x4096 : Shape := ⟨2, ![4096, 4096]⟩
abbrev S8x1x4096 : Shape := ⟨3, ![8, 1, 4096]⟩
abbrev S8192x4096 : Shape := ⟨2, ![8192, 4096]⟩
abbrev S1024x2048 : Shape := ⟨2, ![1024, 2048]⟩
abbrev S2048x512 : Shape := ⟨2, ![2048, 512]⟩
abbrev S1x1024x512 : Shape := ⟨3, ![1, 1024, 512]⟩
abbrev S1x1x512 : Shape := ⟨3, ![1, 1, 512]⟩
abbrev S1024x512 : Shape := ⟨2, ![1024, 512]⟩
abbrev S1x512 : Shape := ⟨2, ![1, 512]⟩

abbrev nBuf : Space → Nat
  | .hbm => 6
  | .vmem => 14
  | .smem => 0
  | _ => 0

abbrev bufTy : (tb : Table) → Fin (tcTables nBuf tb) → BufTy
  | .hbm, ⟨0, _⟩ => ⟨S4x2048x4096, .f32⟩
  | .hbm, ⟨1, _⟩ => ⟨S8192x2048, .bf16⟩
  | .hbm, ⟨2, _⟩ => ⟨S8192x2048, .bf16⟩
  | .hbm, ⟨3, _⟩ => ⟨S4096x4096, .f32⟩
  | .hbm, ⟨4, _⟩ => ⟨S8x1x4096, .f32⟩
  | .hbm, ⟨5, _⟩ => ⟨S8192x4096, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S2048x512, .f32⟩
  | .local _ .vmem, ⟨5, _⟩ => ⟨S2048x512, .f32⟩
  | .local _ .vmem, ⟨6, _⟩ => ⟨S2048x512, .f32⟩
  | .local _ .vmem, ⟨7, _⟩ => ⟨S2048x512, .f32⟩
  | .local _ .vmem, ⟨8, _⟩ => ⟨S1x1024x512, .f32⟩
  | .local _ .vmem, ⟨9, _⟩ => ⟨S1x1024x512, .f32⟩
  | .local _ .vmem, ⟨10, _⟩ => ⟨S1x1x512, .f32⟩
  | .local _ .vmem, ⟨11, _⟩ => ⟨S1x1x512, .f32⟩
  | .local _ .vmem, ⟨12, _⟩ => ⟨S1024x512, .f32⟩
  | .local _ .vmem, ⟨13, _⟩ => ⟨S1024x512, .f32⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg1.toNat]

def cc0_transform_4 (i : grid0.Coords) : Fin 3 → Nat :=
  let arg0 : BitVec 32 := BitVec.ofNat 32 (i 0).val
  let arg1 : BitVec 32 := BitVec.ofNat 32 (i 1).val
  let c2_i32 : BitVec 32 := 2#32
  let v0 : BitVec 32 := Scalar.divsi arg0 c2_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c2_i32 c0_i32_1
  let v7 : BitVec 32 := Scalar.extui v6
  let c0_i32_2 : BitVec 32 := 0#32
  let v8 : BitVec 1 := Scalar.cmpi .slt c2_i32 c0_i32_2
  let v9 : BitVec 32 := Scalar.extui v8
  let v10 : BitVec 32 := Scalar.subi v7 v9
  let v11 : BitVec 1 := Scalar.cmpi .ne v5 v10
  let v12 : BitVec 32 := Scalar.remsi arg0 c2_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c2_i32_4 : BitVec 32 := 2#32
  let c0_i32_5 : BitVec 32 := 0#32
  let v17 : BitVec 1 := Scalar.cmpi .eq c2_i32_4 c0_i32_5
  let c1_i32_6 : BitVec 32 := 1#32
  let v18 : BitVec 32 := Scalar.select v17 c1_i32_6 c2_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  ![v16.toNat, v26.toNat, arg1.toNat]

def cc0_transform_5 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  ![v17.toNat, c0_i32_4.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1x1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference6Ideal.lean ====
abbrev S4x2048x4096 : Shape := ⟨3, ![4, 2048, 4096]⟩
abbrev S8192x2048 : Shape := ⟨2, ![8192, 2048]⟩
abbrev S4096x4096 : Shape := ⟨2, ![4096, 4096]⟩
abbrev S8x1x4096 : Shape := ⟨3, ![8, 1, 4096]⟩
abbrev S8192x4096 : Shape := ⟨2, ![8192, 4096]⟩
abbrev S4x1x4096 : Shape := ⟨3, ![4, 1, 4096]⟩
abbrev S4x4096 : Shape := ⟨2, ![4, 4096]⟩

abbrev nBuf : Space → Nat
  | .hbm => 17
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S8192x2048, .bf16⟩
  | .hbm, ⟨2, _⟩ => ⟨S8192x2048, .bf16⟩
  | .hbm, ⟨3, _⟩ => ⟨S4096x4096, .f32⟩
  | .hbm, ⟨4, _⟩ => ⟨S8x1x4096, .f32⟩
  | .hbm, ⟨5, _⟩ => ⟨S8192x2048, .f32⟩
  | .hbm, ⟨6, _⟩ => ⟨S8192x2048, .f32⟩
  | .hbm, ⟨7, _⟩ => ⟨S8192x4096, .f32⟩
  | .hbm, ⟨8, _⟩ => ⟨S8192x4096, .f32⟩
  | .hbm, ⟨9, _⟩ => ⟨S4x1x4096, .f32⟩
  | .hbm, ⟨10, _⟩ => ⟨S4x4096, .f32⟩
  | .hbm, ⟨11, _⟩ => ⟨S4x1x4096, .f32⟩
  | .hbm, ⟨12, _⟩ => ⟨S4x2048x4096, .f32⟩
  | .hbm, ⟨13, _⟩ => ⟨S4x2048x4096, .f32⟩
  | .hbm, ⟨14, _⟩ => ⟨S4x2048x4096, .f32⟩
  | .hbm, ⟨15, _⟩ => ⟨S4x2048x4096, .f32⟩
  | .hbm, ⟨16, _⟩ => ⟨S8192x4096, .f32⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩

abbrev nD : Nat := 1
abbrev τ : Topo := Topo.v7x

variable {F : FTy → Type} [FloatOps F]
-- ==== Kernel7.lean ====
abbrev S8192x4096 : Shape := ⟨2, ![8192, 4096]⟩
abbrev S8192x2048 : Shape := ⟨2, ![8192, 2048]⟩
abbrev S4096x4096 : Shape := ⟨2, ![4096, 4096]⟩
abbrev S8x1x4096 : Shape := ⟨3, ![8, 1, 4096]⟩
abbrev S1024x2048 : Shape := ⟨2, ![1024, 2048]⟩
abbrev S2048x512 : Shape := ⟨2, ![2048, 512]⟩
abbrev S1024x512 : Shape := ⟨2, ![1024, 512]⟩
abbrev S1x1x512 : Shape := ⟨3, ![1, 1, 512]⟩
abbrev S1x512 : Shape := ⟨2, ![1, 512]⟩

abbrev nBuf : Space → Nat
  | .hbm => 6
  | .vmem => 14
  | .smem => 0
  | _ => 0

abbrev bufTy : (tb : Table) → Fin (tcTables nBuf tb) → BufTy
  | .hbm, ⟨0, _⟩ => ⟨S8192x4096, .f32⟩
  | .hbm, ⟨1, _⟩ => ⟨S8192x2048, .bf16⟩
  | .hbm, ⟨2, _⟩ => ⟨S8192x2048, .bf16⟩
  | .hbm, ⟨3, _⟩ => ⟨S4096x4096, .f32⟩
  | .hbm, ⟨4, _⟩ => ⟨S8x1x4096, .f32⟩
  | .hbm, ⟨5, _⟩ => ⟨S8192x4096, .f32⟩
  | .local _ .vmem, ⟨0, _⟩ => ⟨S1024x2048, .bf16⟩
  | .local _ .vmem, ⟨1, _⟩ => ⟨S1024x2048, .bf16⟩
  | .local _ .vmem, ⟨2, _⟩ => ⟨S1024x2048, .bf16⟩
  | .local _ .vmem, ⟨3, _⟩ => ⟨S1024x2048, .bf16⟩
  | .local _ .vmem, ⟨4, _⟩ => ⟨S2048x512, .f32⟩
  | .local _ .vmem, ⟨5, _⟩ => ⟨S2048x512, .f32⟩
  | .local _ .vmem, ⟨6, _⟩ => ⟨S2048x512, .f32⟩
  | .local _ .vmem, ⟨7, _⟩ => ⟨S2048x512, .f32⟩
  | .local _ .vmem, ⟨8, _⟩ => ⟨S1024x512, .f32⟩
  | .local _ .vmem, ⟨9, _⟩ => ⟨S1024x512, .f32⟩
  | .local _ .vmem, ⟨10, _⟩ => ⟨S1x1x512, .f32⟩
  | .local _ .vmem, ⟨11, _⟩ => ⟨S1x1x512, .f32⟩
  | .local _ .vmem, ⟨12, _⟩ => ⟨S1024x512, .f32⟩
  | .local _ .vmem, ⟨13, _⟩ => ⟨S1024x512, .f32⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | _, _ => false

abbrev semScoped : Fin 0 → Bool
  | ⟨_, h⟩ => absurd h (Nat.not_lt_zero _)

abbrev dmaSemScoped : Fin 14 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | _ => false

abbrev sig : RefSig :=
  ofTc nBuf bufTy 0 14 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13

abbrev nD : Nat := 1
abbrev τ : Topo := Topo.v7x

variable {F : FTy → Type} [FloatOps F]

abbrev grid0 : Pipeline.Grid := ⟨2, ![8, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 3 → Nat :=
  let arg0 : BitVec 32 := BitVec.ofNat 32 (i 0).val
  let arg1 : BitVec 32 := BitVec.ofNat 32 (i 1).val
  let c1024_i32 : BitVec 32 := 1024#32
  let v0 : BitVec 32 := Scalar.muli arg0 c1024_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  ![v17.toNat, c0_i32_4.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S1024x2048 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference7Ideal.lean ====
abbrev S8192x4096 : Shape := ⟨2, ![8192, 4096]⟩
abbrev S8192x2048 : Shape := ⟨2, ![8192, 2048]⟩
abbrev S4096x4096 : Shape := ⟨2, ![4096, 4096]⟩
abbrev S8x1x4096 : Shape := ⟨3, ![8, 1, 4096]⟩
abbrev S4x1x4096 : Shape := ⟨3, ![4, 1, 4096]⟩
abbrev S4x4096 : Shape := ⟨2, ![4, 4096]⟩
abbrev S4x2048x4096 : Shape := ⟨3, ![4, 2048, 4096]⟩

abbrev nBuf : Space → Nat
  | .hbm => 18
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S8192x2048, .bf16⟩
  | .hbm, ⟨2, _⟩ => ⟨S8192x2048, .bf16⟩
  | .hbm, ⟨3, _⟩ => ⟨S4096x4096, .f32⟩
  | .hbm, ⟨4, _⟩ => ⟨S8x1x4096, .f32⟩
  | .hbm, ⟨5, _⟩ => ⟨S8192x2048, .f32⟩
  | .hbm, ⟨6, _⟩ => ⟨S8192x2048, .f32⟩
  | .hbm, ⟨7, _⟩ => ⟨S8192x4096, .f32⟩
  | .hbm, ⟨8, _⟩ => ⟨S8192x4096, .f32⟩
  | .hbm, ⟨9, _⟩ => ⟨S4x1x4096, .f32⟩
  | .hbm, ⟨10, _⟩ => ⟨S4x4096, .f32⟩
  | .hbm, ⟨11, _⟩ => ⟨S4x2048x4096, .f32⟩
  | .hbm, ⟨12, _⟩ => ⟨S4x1x4096, .f32⟩
  | .hbm, ⟨13, _⟩ => ⟨S4x2048x4096, .f32⟩
  | .hbm, ⟨14, _⟩ => ⟨S4x2048x4096, .f32⟩
  | .hbm, ⟨15, _⟩ => ⟨S4x2048x4096, .f32⟩
  | .hbm, ⟨16, _⟩ => ⟨S4x2048x4096, .f32⟩
  | .hbm, ⟨17, _⟩ => ⟨S8192x4096, .f32⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Kernel8.lean ====
abbrev S20480x4096 : Shape := ⟨2, ![20480, 4096]⟩
abbrev S40 : Shape := ⟨1, ![40]⟩
abbrev S1 : Shape := ⟨1, ![1]⟩
abbrev S8x4096x2048 : Shape := ⟨3, ![8, 4096, 2048]⟩
abbrev S20480x2048 : Shape := ⟨2, ![20480, 2048]⟩
abbrev S512x4096 : Shape := ⟨2, ![512, 4096]⟩
abbrev S1x4096x512 : Shape := ⟨3, ![1, 4096, 512]⟩
abbrev S512x512 : Shape := ⟨2, ![512, 512]⟩
abbrev S4096x512 : Shape := ⟨2, ![4096, 512]⟩

abbrev nBuf : Space → Nat
  | .hbm => 4
  | .vmem => 8
  | .smem => 2
  | _ => 0

abbrev bufTy : (tb : Table) → Fin (tcTables nBuf tb) → BufTy
  | .hbm, ⟨0, _⟩ => ⟨S20480x4096, .bf16⟩
  | .hbm, ⟨1, _⟩ => ⟨S8x4096x2048, .f32⟩
  | .hbm, ⟨2, _⟩ => ⟨S8x4096x2048, .f32⟩
  | .hbm, ⟨3, _⟩ => ⟨S20480x2048, .bf16⟩
  | .local _ .vmem, ⟨0, _⟩ => ⟨S512x4096, .bf16⟩
  | .local _ .vmem, ⟨1, _⟩ => ⟨S512x4096, .bf16⟩
  | .local _ .vmem, ⟨2, _⟩ => ⟨S1x4096x512, .f32⟩
  | .local _ .vmem, ⟨3, _⟩ => ⟨S1x4096x512, .f32⟩
  | .local _ .vmem, ⟨4, _⟩ => ⟨S1x4096x512, .f32⟩
  | .local _ .vmem, ⟨5, _⟩ => ⟨S1x4096x512, .f32⟩
  | .local _ .vmem, ⟨6, _⟩ => ⟨S512x512, .bf16⟩
  | .local _ .vmem, ⟨7, _⟩ => ⟨S512x512, .bf16⟩
  | .local _ .smem, ⟨0, _⟩ => ⟨S40, .i32⟩
  | .local _ .smem, ⟨1, _⟩ => ⟨S1, .i32⟩
  | _, _ => ⟨S20480x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg3 : Ref sig .tc := ⟨.hbm, 1, rfl⟩
abbrev main_arg4 : Ref sig .tc := ⟨.hbm, 2, rfl⟩
abbrev main_v0 : Ref sig .tc := ⟨.hbm, 3, rfl⟩
abbrev main_arg1 : Ref sig .tc := ⟨.smem, 0, rfl⟩
abbrev main_arg2 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 40], ![false, false]⟩

abbrev pre0 : Pipeline.Prefetch sig := ⟨2, ![main_arg1.idx, main_arg2.idx], fun | 0 => main_arg1.names | 1 => main_arg2.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (k0_off1_inb : ∀ i : grid0.Coords, ∀ a, (k0_off1 i) a + S1.size a ≤ S40.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S40) ![v0.toNat] S1.size (k0_off1_inb i)) numel1_S1
  let c0_i32 : BitVec 32 := 0#32
  let c0_i32_0 : BitVec 32 := 0#32
  ![v1.toNat, c0_i32.toNat, arg0.toNat]

def cc0_transform_2 (k0_off1_inb : ∀ i : grid0.Coords, ∀ a, (k0_off1 i) a + S1.size a ≤ S40.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S40) ![v0.toNat] S1.size (k0_off1_inb i)) numel1_S1
  let c0_i32 : BitVec 32 := 0#32
  let c0_i32_0 : BitVec 32 := 0#32
  ![v1.toNat, c0_i32.toNat, arg0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x4096 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x4096x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S512x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference8Ideal.lean ====
abbrev S20480x4096 : Shape := ⟨2, ![20480, 4096]⟩
abbrev S40 : Shape := ⟨1, ![40]⟩
abbrev S1 : Shape := ⟨1, ![1]⟩
abbrev S8x4096x2048 : Shape := ⟨3, ![8, 4096, 2048]⟩
abbrev S40x512x4096 : Shape := ⟨3, ![40, 512, 4096]⟩
abbrev S_ : Shape := ⟨0, ![]⟩
abbrev S40x512x2048 : Shape := ⟨3, ![40, 512, 2048]⟩
abbrev S40x1x1 : Shape := ⟨3, ![40, 1, 1]⟩
abbrev S1x4096x2048 : Shape := ⟨3, ![1, 4096, 2048]⟩
abbrev S4096x2048 : Shape := ⟨2, ![4096, 2048]⟩
abbrev S20480x2048 : Shape := ⟨2, ![20480, 2048]⟩

abbrev nBuf : Space → Nat
  | .hbm => 198
  | .vmem => 0
  | .smem => 0
  | _ => 0

abbrev hbmTy0_0 (i : Nat) : BufTy := match i % 128 with
  | 0 => ⟨S20480x4096, .bf16⟩
  | 1 => ⟨S40, .i32⟩
  | 2 => ⟨S1, .i32⟩
  | 3 => ⟨S8x4096x2048, .f32⟩
  | 4 => ⟨S8x4096x2048, .f32⟩
  | 5 => ⟨S20480x4096, .f32⟩
  | 6 => ⟨S40x512x4096, .f32⟩
  | 7 => ⟨S40, .i32⟩
  | 8 => ⟨S40, .i32⟩
  | 9 => ⟨S40, .i1⟩
  | 10 => ⟨S_, .f32⟩
  | 11 => ⟨S40x512x2048, .f32⟩
  | 12 => ⟨S_, .i32⟩
  | 13 => ⟨S40, .i32⟩
  | 14 => ⟨S40, .i1⟩
  | 15 => ⟨S40, .i1⟩
  | 16 => ⟨S40x1x1, .i1⟩
  | 17 => ⟨S1x4096x2048, .f32⟩
  | 18 => ⟨S4096x2048, .f32⟩
  | 19 => ⟨S40x512x2048, .f32⟩
  | 20 => ⟨S40x512x2048, .f32⟩
  | 21 => ⟨S40x512x2048, .f32⟩
  | 22 => ⟨S_, .f32⟩
  | 23 => ⟨S40x512x2048, .f32⟩
  | 24 => ⟨S40x512x2048, .f32⟩
  | 25 => ⟨S_, .f32⟩
  | 26 => ⟨S40x512x2048, .f32⟩
  | 27 => ⟨S40x512x2048, .f32⟩
  | 28 => ⟨S40x512x2048, .f32⟩
  | 29 => ⟨S1x4096x2048, .f32⟩
  | 30 => ⟨S4096x2048, .f32⟩
  | 31 => ⟨S40x512x2048, .f32⟩
  | 32 => ⟨S40x512x2048, .f32⟩
  | 33 => ⟨S40x512x2048, .i1⟩
  | 34 => ⟨S40x512x2048, .f32⟩
  | 35 => ⟨S_, .i32⟩
  | 36 => ⟨S40, .i32⟩
  | 37 => ⟨S40, .i1⟩
  | 38 => ⟨S40, .i1⟩
  | 39 => ⟨S40x1x1, .i1⟩
  | 40 => ⟨S1x4096x2048, .f32⟩
  | 41 => ⟨S4096x2048, .f32⟩
  | 42 => ⟨S40x512x2048, .f32⟩
  | 43 => ⟨S40x512x2048, .f32⟩
  | 44 => ⟨S40x512x2048, .f32⟩
  | 45 => ⟨S_, .f32⟩
  | 46 => ⟨S40x512x2048, .f32⟩
  | 47 => ⟨S40x512x2048, .f32⟩
  | 48 => ⟨S_, .f32⟩
  | 49 => ⟨S40x512x2048, .f32⟩
  | 50 => ⟨S40x512x2048, .f32⟩
  | 51 => ⟨S40x512x2048, .f32⟩
  | 52 => ⟨S1x4096x2048, .f32⟩
  | 53 => ⟨S4096x2048, .f32⟩
  | 54 => ⟨S40x512x2048, .f32⟩
  | 55 => ⟨S40x512x2048, .f32⟩
  | 56 => ⟨S40x512x2048, .i1⟩
  | 57 => ⟨S40x512x2048, .f32⟩
  | 58 => ⟨S_, .i32⟩
  | 59 => ⟨S40, .i32⟩
  | 60 => ⟨S40, .i1⟩
  | 61 => ⟨S40, .i1⟩
  | 62 => ⟨S40x1x1, .i1⟩
  | 63 => ⟨S1x4096x2048, .f32⟩
  | 64 => ⟨S4096x2048, .f32⟩
  | 65 => ⟨S40x512x2048, .f32⟩
  | 66 => ⟨S40x512x2048, .f32⟩
  | 67 => ⟨S40x512x2048, .f32⟩
  | 68 => ⟨S_, .f32⟩
  | 69 => ⟨S40x512x2048, .f32⟩
  | 70 => ⟨S40x512x2048, .f32⟩
  | 71 => ⟨S_, .f32⟩
  | 72 => ⟨S40x512x2048, .f32⟩
  | 73 => ⟨S40x512x2048, .f32⟩
  | 74 => ⟨S40x512x2048, .f32⟩
  | 75 => ⟨S1x4096x2048, .f32⟩
  | 76 => ⟨S4096x2048, .f32⟩
  | 77 => ⟨S40x512x2048, .f32⟩
  | 78 => ⟨S40x512x2048, .f32⟩
  | 79 => ⟨S40x512x2048, .i1⟩
  | 80 => ⟨S40x512x2048, .f32⟩
  | 81 => ⟨S_, .i32⟩
  | 82 => ⟨S40, .i32⟩
  | 83 => ⟨S40, .i1⟩
  | 84 => ⟨S40, .i1⟩
  | 85 => ⟨S40x1x1, .i1⟩
  | 86 => ⟨S1x4096x2048, .f32⟩
  | 87 => ⟨S4096x2048, .f32⟩
  | 88 => ⟨S40x512x2048, .f32⟩
  | 89 => ⟨S40x512x2048, .f32⟩
  | 90 => ⟨S40x512x2048, .f32⟩
  | 91 => ⟨S_, .f32⟩
  | 92 => ⟨S40x512x2048, .f32⟩
  | 93 => ⟨S40x512x2048, .f32⟩
  | 94 => ⟨S_, .f32⟩
  | 95 => ⟨S40x512x2048, .f32⟩
  | 96 => ⟨S40x512x2048, .f32⟩
  | 97 => ⟨S40x512x2048, .f32⟩
  | 98 => ⟨S1x4096x2048, .f32⟩
  | 99 => ⟨S4096x2048, .f32⟩
  | 100 => ⟨S40x512x2048, .f32⟩
  | 101 => ⟨S40x512x2048, .f32⟩
  | 102 => ⟨S40x512x2048, .i1⟩
  | 103 => ⟨S40x512x2048, .f32⟩
  | 104 => ⟨S_, .i32⟩
  | 105 => ⟨S40, .i32⟩
  | 106 => ⟨S40, .i1⟩
  | 107 => ⟨S40, .i1⟩
  | 108 => ⟨S40x1x1, .i1⟩
  | 109 => ⟨S1x4096x2048, .f32⟩
  | 110 => ⟨S4096x2048, .f32⟩
  | 111 => ⟨S40x512x2048, .f32⟩
  | 112 => ⟨S40x512x2048, .f32⟩
  | 113 => ⟨S40x512x2048, .f32⟩
  | 114 => ⟨S_, .f32⟩
  | 115 => ⟨S40x512x2048, .f32⟩
  | 116 => ⟨S40x512x2048, .f32⟩
  | 117 => ⟨S_, .f32⟩
  | 118 => ⟨S40x512x2048, .f32⟩
  | 119 => ⟨S40x512x2048, .f32⟩
  | 120 => ⟨S40x512x2048, .f32⟩
  | 121 => ⟨S1x4096x2048, .f32⟩
  | 122 => ⟨S4096x2048, .f32⟩
  | 123 => ⟨S40x512x2048, .f32⟩
  | 124 => ⟨S40x512x2048, .f32⟩
  | 125 => ⟨S40x512x2048, .i1⟩
  | 126 => ⟨S40x512x2048, .f32⟩
  | 127 => ⟨S_, .i32⟩
  | _ => ⟨S20480x4096, .bf16⟩

abbrev hbmTy0_1 (i : Nat) : BufTy := match i % 128 with
  | 0 => ⟨S40, .i32⟩
  | 1 => ⟨S40, .i1⟩
  | 2 => ⟨S40, .i1⟩
  | 3 => ⟨S40x1x1, .i1⟩
  | 4 => ⟨S1x4096x2048, .f32⟩
  | 5 => ⟨S4096x2048, .f32⟩
  | 6 => ⟨S40x512x2048, .f32⟩
  | 7 => ⟨S40x512x2048, .f32⟩
  | 8 => ⟨S40x512x2048, .f32⟩
  | 9 => ⟨S_, .f32⟩
  | 10 => ⟨S40x512x2048, .f32⟩
  | 11 => ⟨S40x512x2048, .f32⟩
  | 12 => ⟨S_, .f32⟩
  | 13 => ⟨S40x512x2048, .f32⟩
  | 14 => ⟨S40x512x2048, .f32⟩
  | 15 => ⟨S40x512x2048, .f32⟩
  | 16 => ⟨S1x4096x2048, .f32⟩
  | 17 => ⟨S4096x2048, .f32⟩
  | 18 => ⟨S40x512x2048, .f32⟩
  | 19 => ⟨S40x512x2048, .f32⟩
  | 20 => ⟨S40x512x2048, .i1⟩
  | 21 => ⟨S40x512x2048, .f32⟩
  | 22 => ⟨S_, .i32⟩
  | 23 => ⟨S40, .i32⟩
  | 24 => ⟨S40, .i1⟩
  | 25 => ⟨S40, .i1⟩
  | 26 => ⟨S40x1x1, .i1⟩
  | 27 => ⟨S1x4096x2048, .f32⟩
  | 28 => ⟨S4096x2048, .f32⟩
  | 29 => ⟨S40x512x2048, .f32⟩
  | 30 => ⟨S40x512x2048, .f32⟩
  | 31 => ⟨S40x512x2048, .f32⟩
  | 32 => ⟨S_, .f32⟩
  | 33 => ⟨S40x512x2048, .f32⟩
  | 34 => ⟨S40x512x2048, .f32⟩
  | 35 => ⟨S_, .f32⟩
  | 36 => ⟨S40x512x2048, .f32⟩
  | 37 => ⟨S40x512x2048, .f32⟩
  | 38 => ⟨S40x512x2048, .f32⟩
  | 39 => ⟨S1x4096x2048, .f32⟩
  | 40 => ⟨S4096x2048, .f32⟩
  | 41 => ⟨S40x512x2048, .f32⟩
  | 42 => ⟨S40x512x2048, .f32⟩
  | 43 => ⟨S40x512x2048, .i1⟩
  | 44 => ⟨S40x512x2048, .f32⟩
  | 45 => ⟨S_, .i32⟩
  | 46 => ⟨S40, .i32⟩
  | 47 => ⟨S40, .i1⟩
  | 48 => ⟨S40, .i1⟩
  | 49 => ⟨S40x1x1, .i1⟩
  | 50 => ⟨S1x4096x2048, .f32⟩
  | 51 => ⟨S4096x2048, .f32⟩
  | 52 => ⟨S40x512x2048, .f32⟩
  | 53 => ⟨S40x512x2048, .f32⟩
  | 54 => ⟨S40x512x2048, .f32⟩
  | 55 => ⟨S_, .f32⟩
  | 56 => ⟨S40x512x2048, .f32⟩
  | 57 => ⟨S40x512x2048, .f32⟩
  | 58 => ⟨S_, .f32⟩
  | 59 => ⟨S40x512x2048, .f32⟩
  | 60 => ⟨S40x512x2048, .f32⟩
  | 61 => ⟨S40x512x2048, .f32⟩
  | 62 => ⟨S1x4096x2048, .f32⟩
  | 63 => ⟨S4096x2048, .f32⟩
  | 64 => ⟨S40x512x2048, .f32⟩
  | 65 => ⟨S40x512x2048, .f32⟩
  | 66 => ⟨S40x512x2048, .i1⟩
  | 67 => ⟨S40x512x2048, .f32⟩
  | 68 => ⟨S20480x2048, .f32⟩
  | 69 => ⟨S20480x2048, .bf16⟩
  | _ => ⟨S20480x4096, .bf16⟩

abbrev hbmTy (i : Nat) : BufTy := match i / 128 with
  | 0 => hbmTy0_0 i
  | 1 => hbmTy0_1 i
  | _ => ⟨S20480x4096, .bf16⟩

abbrev bufTy : (tb : Table) → Fin (tcTables nBuf tb) → BufTy
  | .hbm, ⟨i, _⟩ => hbmTy i
  | _, _ => ⟨S20480x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_cst : Ref sig .tc := ⟨.hbm, 10, rfl⟩
abbrev main_v5 : Ref sig .tc := ⟨.hbm, 11, rfl⟩
abbrev main_c : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_call0_v0 : Ref sig .tc := ⟨.hbm, 20, rfl⟩
abbrev main_call0_v1 : Ref sig .tc := ⟨.hbm, 21, rfl⟩
abbrev main_call0_cst : Ref sig .tc := ⟨.hbm, 22, rfl⟩
abbrev main_call0_v2 : Ref sig .tc := ⟨.hbm, 23, rfl⟩
abbrev main_call0_v3 : Ref sig .tc := ⟨.hbm, 24, rfl⟩
abbrev main_call0_cst_0 : Ref sig .tc := ⟨.hbm, 25, rfl⟩
abbrev main_call0_v4 : Ref sig .tc := ⟨.hbm, 26, rfl⟩
abbrev main_call0_v5 : Ref sig .tc := ⟨.hbm, 27, rfl⟩
abbrev main_v13 : Ref sig .tc := ⟨.hbm, 28, rfl⟩
abbrev main_v14 : Ref sig .tc := ⟨.hbm, 29, rfl⟩
abbrev main_v15 : Ref sig .tc := ⟨.hbm, 30, rfl⟩
abbrev main_v16 : Ref sig .tc := ⟨.hbm, 31, rfl⟩
abbrev main_v17 : Ref sig .tc := ⟨.hbm, 32, rfl⟩
abbrev main_call1_v0 : Ref sig .tc := ⟨.hbm, 33, rfl⟩
abbrev main_v18 : Ref sig .tc := ⟨.hbm, 34, rfl⟩
abbrev main_c_0 : Ref sig .tc := ⟨.hbm, 35, rfl⟩
abbrev main_v19 : Ref sig .tc := ⟨.hbm, 36, rfl⟩
abbrev main_v20 : Ref sig .tc := ⟨.hbm, 37, rfl⟩
abbrev main_v21 : Ref sig .tc := ⟨.hbm, 38, rfl⟩
abbrev main_v22 : Ref sig .tc := ⟨.hbm, 39, rfl⟩
abbrev main_v23 : Ref sig .tc := ⟨.hbm, 40, rfl⟩
abbrev main_v24 : Ref sig .tc := ⟨.hbm, 41, rfl⟩
abbrev main_v25 : Ref sig .tc := ⟨.hbm, 42, rfl⟩
abbrev main_call2_v0 : Ref sig .tc := ⟨.hbm, 43, rfl⟩
abbrev main_call2_v1 : Ref sig .tc := ⟨.hbm, 44, rfl⟩
abbrev main_call2_cst : Ref sig .tc := ⟨.hbm, 45, rfl⟩
abbrev main_call2_v2 : Ref sig .tc := ⟨.hbm, 46, rfl⟩
abbrev main_call2_v3 : Ref sig .tc := ⟨.hbm, 47, rfl⟩
abbrev main_call2_cst_0 : Ref sig .tc := ⟨.hbm, 48, rfl⟩
abbrev main_call2_v4 : Ref sig .tc := ⟨.hbm, 49, rfl⟩
abbrev main_call2_v5 : Ref sig .tc := ⟨.hbm, 50, rfl⟩
abbrev main_v26 : Ref sig .tc := ⟨.hbm, 51, rfl⟩
abbrev main_v27 : Ref sig .tc := ⟨.hbm, 52, rfl⟩
abbrev main_v28 : Ref sig .tc := ⟨.hbm, 53, rfl⟩
abbrev main_v29 : Ref sig .tc := ⟨.hbm, 54, rfl⟩
abbrev main_v30 : Ref sig .tc := ⟨.hbm, 55, rfl⟩
abbrev main_call3_v0 : Ref sig .tc := ⟨.hbm, 56, rfl⟩
abbrev main_v31 : Ref sig .tc := ⟨.hbm, 57, rfl⟩
abbrev main_c_1 : Ref sig .tc := ⟨.hbm, 58, rfl⟩
abbrev main_v32 : Ref sig .tc := ⟨.hbm, 59, rfl⟩
abbrev main_v33 : Ref sig .tc := ⟨.hbm, 60, rfl⟩
abbrev main_v34 : Ref sig .tc := ⟨.hbm, 61, rfl⟩
abbrev main_v35 : Ref sig .tc := ⟨.hbm, 62, rfl⟩
abbrev main_v36 : Ref sig .tc := ⟨.hbm, 63, rfl⟩
abbrev main_v37 : Ref sig .tc := ⟨.hbm, 64, rfl⟩
abbrev main_v38 : Ref sig .tc := ⟨.hbm, 65, rfl⟩
abbrev main_call4_v0 : Ref sig .tc := ⟨.hbm, 66, rfl⟩
abbrev main_call4_v1 : Ref sig .tc := ⟨.hbm, 67, rfl⟩
abbrev main_call4_cst : Ref sig .tc := ⟨.hbm, 68, rfl⟩
abbrev main_call4_v2 : Ref sig .tc := ⟨.hbm, 69, rfl⟩
abbrev main_call4_v3 : Ref sig .tc := ⟨.hbm, 70, rfl⟩
abbrev main_call4_cst_0 : Ref sig .tc := ⟨.hbm, 71, rfl⟩
abbrev main_call4_v4 : Ref sig .tc := ⟨.hbm, 72, rfl⟩
abbrev main_call4_v5 : Ref sig .tc := ⟨.hbm, 73, rfl⟩
abbrev main_v39 : Ref sig .tc := ⟨.hbm, 74, rfl⟩
abbrev main_v40 : Ref sig .tc := ⟨.hbm, 75, rfl⟩
abbrev main_v41 : Ref sig .tc := ⟨.hbm, 76, rfl⟩
abbrev main_v42 : Ref sig .tc := ⟨.hbm, 77, rfl⟩
abbrev main_v43 : Ref sig .tc := ⟨.hbm, 78, rfl⟩
abbrev main_call5_v0 : Ref sig .tc := ⟨.hbm, 79, rfl⟩
abbrev main_v44 : Ref sig .tc := ⟨.hbm, 80, rfl⟩
abbrev main_c_2 : Ref sig .tc := ⟨.hbm, 81, rfl⟩
abbrev main_v45 : Ref sig .tc := ⟨.hbm, 82, rfl⟩
abbrev main_v46 : Ref sig .tc := ⟨.hbm, 83, rfl⟩
abbrev main_v47 : Ref sig .tc := ⟨.hbm, 84, rfl⟩
abbrev main_v48 : Ref sig .tc := ⟨.hbm, 85, rfl⟩
abbrev main_v49 : Ref sig .tc := ⟨.hbm, 86, rfl⟩
abbrev main_v50 : Ref sig .tc := ⟨.hbm, 87, rfl⟩
abbrev main_v51 : Ref sig .tc := ⟨.hbm, 88, rfl⟩
abbrev main_call6_v0 : Ref sig .tc := ⟨.hbm, 89, rfl⟩
abbrev main_call6_v1 : Ref sig .tc := ⟨.hbm, 90, rfl⟩
abbrev main_call6_cst : Ref sig .tc := ⟨.hbm, 91, rfl⟩
abbrev main_call6_v2 : Ref sig .tc := ⟨.hbm, 92, rfl⟩
abbrev main_call6_v3 : Ref sig .tc := ⟨.hbm, 93, rfl⟩
abbrev main_call6_cst_0 : Ref sig .tc := ⟨.hbm, 94, rfl⟩
abbrev main_call6_v4 : Ref sig .tc := ⟨.hbm, 95, rfl⟩
abbrev main_call6_v5 : Ref sig .tc := ⟨.hbm, 96, rfl⟩
abbrev main_v52 : Ref sig .tc := ⟨.hbm, 97, rfl⟩
abbrev main_v53 : Ref sig .tc := ⟨.hbm, 98, rfl⟩
abbrev main_v54 : Ref sig .tc := ⟨.hbm, 99, rfl⟩
abbrev main_v55 : Ref sig .tc := ⟨.hbm, 100, rfl⟩
abbrev main_v56 : Ref sig .tc := ⟨.hbm, 101, rfl⟩
abbrev main_call7_v0 : Ref sig .tc := ⟨.hbm, 102, rfl⟩
abbrev main_v57 : Ref sig .tc := ⟨.hbm, 103, rfl⟩
abbrev main_c_3 : Ref sig .tc := ⟨.hbm, 104, rfl⟩
abbrev main_v58 : Ref sig .tc := ⟨.hbm, 105, rfl⟩
abbrev main_v59 : Ref sig .tc := ⟨.hbm, 106, rfl⟩
abbrev main_v60 : Ref sig .tc := ⟨.hbm, 107, rfl⟩
abbrev main_v61 : Ref sig .tc := ⟨.hbm, 108, rfl⟩
abbrev main_v62 : Ref sig .tc := ⟨.hbm, 109, rfl⟩
abbrev main_v63 : Ref sig .tc := ⟨.hbm, 110, rfl⟩
abbrev main_v64 : Ref sig .tc := ⟨.hbm, 111, rfl⟩
abbrev main_call8_v0 : Ref sig .tc := ⟨.hbm, 112, rfl⟩
abbrev main_call8_v1 : Ref sig .tc := ⟨.hbm, 113, rfl⟩
abbrev main_call8_cst : Ref sig .tc := ⟨.hbm, 114, rfl⟩
abbrev main_call8_v2 : Ref sig .tc := ⟨.hbm, 115, rfl⟩
abbrev main_call8_v3 : Ref sig .tc := ⟨.hbm, 116, rfl⟩
abbrev main_call8_cst_0 : Ref sig .tc := ⟨.hbm, 117, rfl⟩
abbrev main_call8_v4 : Ref sig .tc := ⟨.hbm, 118, rfl⟩
abbrev main_call8_v5 : Ref sig .tc := ⟨.hbm, 119, rfl⟩
abbrev main_v65 : Ref sig .tc := ⟨.hbm, 120, rfl⟩
abbrev main_v66 : Ref sig .tc := ⟨.hbm, 121, rfl⟩
abbrev main_v67 : Ref sig .tc := ⟨.hbm, 122, rfl⟩
abbrev main_v68 : Ref sig .tc := ⟨.hbm, 123, rfl⟩
abbrev main_v69 : Ref sig .tc := ⟨.hbm, 124, rfl⟩
abbrev main_call9_v0 : Ref sig .tc := ⟨.hbm, 125, rfl⟩
abbrev main_v70 : Ref sig .tc := ⟨.hbm, 126, rfl⟩
abbrev main_c_4 : Ref sig .tc := ⟨.hbm, 127, rfl⟩
abbrev main_v71 : Ref sig .tc := ⟨.hbm, 128, rfl⟩
abbrev main_v72 : Ref sig .tc := ⟨.hbm, 129, rfl⟩
abbrev main_v73 : Ref sig .tc := ⟨.hbm, 130, rfl⟩
abbrev main_v74 : Ref sig .tc := ⟨.hbm, 131, rfl⟩
abbrev main_v75 : Ref sig .tc := ⟨.hbm, 132, rfl⟩
abbrev main_v76 : Ref sig .tc := ⟨.hbm, 133, rfl⟩
abbrev main_v77 : Ref sig .tc := ⟨.hbm, 134, rfl⟩
abbrev main_call10_v0 : Ref sig .tc := ⟨.hbm, 135, rfl⟩
abbrev main_call10_v1 : Ref sig .tc := ⟨.hbm, 136, rfl⟩
abbrev main_call10_cst : Ref sig .tc := ⟨.hbm, 137, rfl⟩
abbrev main_call10_v2 : Ref sig .tc := ⟨.hbm, 138, rfl⟩
abbrev main_call10_v3 : Ref sig .tc := ⟨.hbm, 139, rfl⟩
abbrev main_call10_cst_0 : Ref sig .tc := ⟨.hbm, 140, rfl⟩
abbrev main_call10_v4 : Ref sig .tc := ⟨.hbm, 141, rfl⟩
abbrev main_call10_v5 : Ref sig .tc := ⟨.hbm, 142, rfl⟩
abbrev main_v78 : Ref sig .tc := ⟨.hbm, 143, rfl⟩
abbrev main_v79 : Ref sig .tc := ⟨.hbm, 144, rfl⟩
abbrev main_v80 : Ref sig .tc := ⟨.hbm, 145, rfl⟩
abbrev main_v81 : Ref sig .tc := ⟨.hbm, 146, rfl⟩
abbrev main_v82 : Ref sig .tc := ⟨.hbm, 147, rfl⟩
abbrev main_call11_v0 : Ref sig .tc := ⟨.hbm, 148, rfl⟩
abbrev main_v83 : Ref sig .tc := ⟨.hbm, 149, rfl⟩
abbrev main_c_5 : Ref sig .tc := ⟨.hbm, 150, rfl⟩
abbrev main_v84 : Ref sig .tc := ⟨.hbm, 151, rfl⟩
abbrev main_v85 : Ref sig .tc := ⟨.hbm, 152, rfl⟩
abbrev main_v86 : Ref sig .tc := ⟨.hbm, 153, rfl⟩
abbrev main_v87 : Ref sig .tc := ⟨.hbm, 154, rfl⟩
abbrev main_v88 : Ref sig .tc := ⟨.hbm, 155, rfl⟩
abbrev main_v89 : Ref sig .tc := ⟨.hbm, 156, rfl⟩
abbrev main_v90 : Ref sig .tc := ⟨.hbm, 157, rfl⟩
abbrev main_call12_v0 : Ref sig .tc := ⟨.hbm, 158, rfl⟩
abbrev main_call12_v1 : Ref sig .tc := ⟨.hbm, 159, rfl⟩
abbrev main_call12_cst : Ref sig .tc := ⟨.hbm, 160, rfl⟩
abbrev main_call12_v2 : Ref sig .tc := ⟨.hbm, 161, rfl⟩
abbrev main_call12_v3 : Ref sig .tc := ⟨.hbm, 162, rfl⟩
abbrev main_call12_cst_0 : Ref sig .tc := ⟨.hbm, 163, rfl⟩
abbrev main_call12_v4 : Ref sig .tc := ⟨.hbm, 164, rfl⟩
abbrev main_call12_v5 : Ref sig .tc := ⟨.hbm, 165, rfl⟩
abbrev main_v91 : Ref sig .tc := ⟨.hbm, 166, rfl⟩
abbrev main_v92 : Ref sig .tc := ⟨.hbm, 167, rfl⟩
abbrev main_v93 : Ref sig .tc := ⟨.hbm, 168, rfl⟩
abbrev main_v94 : Ref sig .tc := ⟨.hbm, 169, rfl⟩
abbrev main_v95 : Ref sig .tc := ⟨.hbm, 170, rfl⟩
abbrev main_call13_v0 : Ref sig .tc := ⟨.hbm, 171, rfl⟩
abbrev main_v96 : Ref sig .tc := ⟨.hbm, 172, rfl⟩
abbrev main_c_6 : Ref sig .tc := ⟨.hbm, 173, rfl⟩
abbrev main_v97 : Ref sig .tc := ⟨.hbm, 174, rfl⟩
abbrev main_v98 : Ref sig .tc := ⟨.hbm, 175, rfl⟩
abbrev main_v99 : Ref sig .tc := ⟨.hbm, 176, rfl⟩
abbrev main_v100 : Ref sig .tc := ⟨.hbm, 177, rfl⟩
abbrev main_v101 : Ref sig .tc := ⟨.hbm, 178, rfl⟩
abbrev main_v102 : Ref sig .tc := ⟨.hbm, 179, rfl⟩
abbrev main_v103 : Ref sig .tc := ⟨.hbm, 180, rfl⟩
abbrev main_call14_v0 : Ref sig .tc := ⟨.hbm, 181, rfl⟩
abbrev main_call14_v1 : Ref sig .tc := ⟨.hbm, 182, rfl⟩
abbrev main_call14_cst : Ref sig .tc := ⟨.hbm, 183, rfl⟩
abbrev main_call14_v2 : Ref sig .tc := ⟨.hbm, 184, rfl⟩
abbrev main_call14_v3 : Ref sig .tc := ⟨.hbm, 185, rfl⟩
abbrev main_call14_cst_0 : Ref sig .tc := ⟨.hbm, 186, rfl⟩
abbrev main_call14_v4 : Ref sig .tc := ⟨.hbm, 187, rfl⟩
abbrev main_call14_v5 : Ref sig .tc := ⟨.hbm, 188, rfl⟩
abbrev main_v104 : Ref sig .tc := ⟨.hbm, 189, rfl⟩
abbrev main_v105 : Ref sig .tc := ⟨.hbm, 190, rfl⟩
abbrev main_v106 : Ref sig .tc := ⟨.hbm, 191, rfl⟩
abbrev main_v107 : Ref sig .tc := ⟨.hbm, 192, rfl⟩
abbrev main_v108 : Ref sig .tc := ⟨.hbm, 193, rfl⟩
abbrev main_call15_v0 : Ref sig .tc := ⟨.hbm, 194, rfl⟩
abbrev main_v109 : Ref sig .tc := ⟨.hbm, 195, rfl⟩
abbrev main_v110 : Ref sig .tc := ⟨.hbm, 196, rfl⟩
abbrev main_v111 : Ref sig .tc := ⟨.hbm, 197, rfl⟩

abbrev nD : Nat := 1
abbrev τ : Topo := Topo.v7x

variable {F : FTy → Type} [FloatOps F]
-- ==== Kernel9.lean ====
abbrev S1024x4096 : Shape := ⟨2, ![1024, 4096]⟩
abbrev S4096x11008 : Shape := ⟨2, ![4096, 11008]⟩
abbrev S1024x11008 : Shape := ⟨2, ![1024, 11008]⟩
abbrev S4096x256 : Shape := ⟨2, ![4096, 256]⟩
abbrev S1024x256 : Shape := ⟨2, ![1024, 256]⟩

abbrev nBuf : Space → Nat
  | .hbm => 4
  | .vmem => 7
  | .smem => 0
  | _ => 0

abbrev bufTy : (tb : Table) → Fin (tcTables nBuf tb) → BufTy
  | .hbm, ⟨0, _⟩ => ⟨S1024x4096, .bf16⟩
  | .hbm, ⟨1, _⟩ => ⟨S4096x11008, .f32⟩
  | .hbm, ⟨2, _⟩ => ⟨S4096x11008, .f32⟩
  | .hbm, ⟨3, _⟩ => ⟨S1024x11008, .bf16⟩
  | .local _ .vmem, ⟨0, _⟩ => ⟨S1024x4096, .bf16⟩
  | .local _ .vmem, ⟨1, _⟩ => ⟨S4096x256, .f32⟩
  | .local _ .vmem, ⟨2, _⟩ => ⟨S4096x256, .f32⟩
  | .local _ .vmem, ⟨3, _⟩ => ⟨S4096x256, .f32⟩
  | .local _ .vmem, ⟨4, _⟩ => ⟨S4096x256, .f32⟩
  | .local _ .vmem, ⟨5, _⟩ => ⟨S1024x256, .bf16⟩
  | .local _ .vmem, ⟨6, _⟩ => ⟨S1024x256, .bf16⟩
  | _, _ => ⟨S1024x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![1, 43], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S1024x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S4096x256 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S4096x256 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S1024x256 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference9Ideal.lean ====
abbrev S1024x4096 : Shape := ⟨2, ![1024, 4096]⟩
abbrev S4096x11008 : Shape := ⟨2, ![4096, 11008]⟩
abbrev S1024x11008 : Shape := ⟨2, ![1024, 11008]⟩
abbrev S_ : Shape := ⟨0, ![]⟩

abbrev nBuf : Space → Nat
  | .hbm => 17
  | .vmem => 0
  | .smem => 0
  | _ => 0

abbrev bufTy : (tb : Table) → Fin (tcTables nBuf tb) → BufTy
  | .hbm, ⟨0, _⟩ => ⟨S1024x4096, .bf16⟩
  | .hbm, ⟨1, _⟩ => ⟨S4096x11008, .f32⟩
  | .hbm, ⟨2, _⟩ => ⟨S4096x11008, .f32⟩
  | .hbm, ⟨3, _⟩ => ⟨S1024x4096, .f32⟩
  | .hbm, ⟨4, _⟩ => ⟨S1024x11008, .f32⟩
  | .hbm, ⟨5, _⟩ => ⟨S1024x11008, .f32⟩
  | .hbm, ⟨6, _⟩ => ⟨S1024x11008, .f32⟩
  | .hbm, ⟨7, _⟩ => ⟨S_, .f32⟩
  | .hbm, ⟨8, _⟩ => ⟨S1024x11008, .f32⟩
  | .hbm, ⟨9, _⟩ => ⟨S1024x11008, .f32⟩
  | .hbm, ⟨10, _⟩ => ⟨S_, .f32⟩
  | .hbm, ⟨11, _⟩ => ⟨S1024x11008, .f32⟩
  | .hbm, ⟨12, _⟩ => ⟨S1024x11008, .f32⟩
  | .hbm, ⟨13, _⟩ => ⟨S1024x11008, .f32⟩
  | .hbm, ⟨14, _⟩ => ⟨S1024x11008, .f32⟩
  | .hbm, ⟨15, _⟩ => ⟨S1024x11008, .f32⟩
  | .hbm, ⟨16, _⟩ => ⟨S1024x11008, .bf16⟩
  | _, _ => ⟨S1024x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_v0 : Ref sig .tc := ⟨.hbm, 5, rfl⟩
abbrev main_call0_v1 : Ref sig .tc := ⟨.hbm, 6, rfl⟩
abbrev main_call0_cst : Ref sig .tc := ⟨.hbm, 7, rfl⟩
abbrev main_call0_v2 : Ref sig .tc := ⟨.hbm, 8, rfl⟩
abbrev main_call0_v3 : Ref sig .tc := ⟨.hbm, 9, rfl⟩
abbrev main_call0_cst_0 : Ref sig .tc := ⟨.hbm, 10, rfl⟩
abbrev main_call0_v4 : Ref sig .tc := ⟨.hbm, 11, rfl⟩
abbrev main_call0_v5 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩

abbrev nD : Nat := 1
abbrev τ : Topo := Topo.v7x

variable {F : FTy → Type} [FloatOps F]
-- ==== Kernel10.lean ====
abbrev S1024x4096 : Shape := ⟨2, ![1024, 4096]⟩
abbrev S1024x11008 : Shape := ⟨2, ![1024, 11008]⟩
abbrev S11008x4096 : Shape := ⟨2, ![11008, 4096]⟩
abbrev S8x1x4096 : Shape := ⟨3, ![8, 1, 4096]⟩
abbrev S512x11008 : Shape := ⟨2, ![512, 11008]⟩
abbrev S11008x512 : Shape := ⟨2, ![11008, 512]⟩
abbrev S512x512 : Shape := ⟨2, ![512, 512]⟩
abbrev S1x1x512 : Shape := ⟨3, ![1, 1, 512]⟩
abbrev S1x512 : Shape := ⟨2, ![1, 512]⟩

abbrev nBuf : Space → Nat
  | .hbm => 6
  | .vmem => 10
  | .smem => 0
  | _ => 0

abbrev bufTy : (tb : Table) → Fin (tcTables nBuf tb) → BufTy
  | .hbm, ⟨0, _⟩ => ⟨S1024x4096, .f32⟩
  | .hbm, ⟨1, _⟩ => ⟨S1024x11008, .bf16⟩
  | .hbm, ⟨2, _⟩ => ⟨S11008x4096, .f32⟩
  | .hbm, ⟨3, _⟩ => ⟨S8x1x4096, .f32⟩
  | .hbm, ⟨4, _⟩ => ⟨S11008x4096, .bf16⟩
  | .hbm, ⟨5, _⟩ => ⟨S1024x4096, .f32⟩
  | .local _ .vmem, ⟨0, _⟩ => ⟨S512x11008, .bf16⟩
  | .local _ .vmem, ⟨1, _⟩ => ⟨S512x11008, .bf16⟩
  | .local _ .vmem, ⟨2, _⟩ => ⟨S11008x512, .bf16⟩
  | .local _ .vmem, ⟨3, _⟩ => ⟨S11008x512, .bf16⟩
  | .local _ .vmem, ⟨4, _⟩ => ⟨S512x512, .f32⟩
  | .local _ .vmem, ⟨5, _⟩ => ⟨S512x512, .f32⟩
  | .local _ .vmem, ⟨6, _⟩ => ⟨S1x1x512, .f32⟩
  | .local _ .vmem, ⟨7, _⟩ => ⟨S1x1x512, .f32⟩
  | .local _ .vmem, ⟨8, _⟩ => ⟨S512x512, .f32⟩
  | .local _ .vmem, ⟨9, _⟩ => ⟨S512x512, .f32⟩
  | _, _ => ⟨S1024x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | _, _ => false

abbrev semScoped : Fin 0 → Bool
  | ⟨_, h⟩ => absurd h (Nat.not_lt_zero _)

abbrev dmaSemScoped : Fin 10 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | _ => false

abbrev sig : RefSig :=
  ofTc nBuf bufTy 0 10 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9

abbrev nD : Nat := 1
abbrev τ : Topo := Topo.v7x

variable {F : FTy → Type} [FloatOps F]

abbrev grid0 : Pipeline.Grid := ⟨3, ![2, 8, 1], ![false, false, false]⟩

def cc0_transform_0 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg2.toNat]

def cc0_transform_1 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg2.toNat, arg1.toNat]

def cc0_transform_2 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

def cc0_transform_3 (i : grid0.Coords) : Fin 3 → Nat :=
  let arg0 : BitVec 32 := BitVec.ofNat 32 (i 0).val
  let arg1 : BitVec 32 := BitVec.ofNat 32 (i 1).val
  let arg2 : BitVec 32 := BitVec.ofNat 32 (i 2).val
  let c4_i32 : BitVec 32 := 4#32
  let c0_i32 : BitVec 32 := 0#32
  let c0_i32_0 : BitVec 32 := 0#32
  ![c4_i32.toNat, c0_i32.toNat, arg1.toNat]

def cc0_transform_4 (i : grid0.Coords) : Fin 2 → Nat :=
  let arg0 : BitVec 32 := BitVec.ofNat 32 (i 0).val
  let arg1 : BitVec 32 := BitVec.ofNat 32 (i 1).val
  let arg2 : BitVec 32 := BitVec.ofNat 32 (i 2).val
  let c0_i32 : BitVec 32 := 0#32
  ![arg0.toNat, arg1.toNat]

abbrev stage0_0 : Fin 2 → Memref sig .tc .vmem S512x11008 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false, true]

abbrev stage0_1 : Fin 2 → Memref sig .tc .vmem S11008x512 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true, true]

abbrev stage0_2 : Fin 2 → Memref sig .tc .vmem S512x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true, false]

abbrev stage0_3 : Fin 2 → Memref sig .tc .vmem S1x1x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true, false]

abbrev stage0_4 : Fin 2 → Memref sig .tc .vmem S512x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true, false]
-- ==== Reference10Ideal.lean ====
abbrev S1024x4096 : Shape := ⟨2, ![1024, 4096]⟩
abbrev S1024x11008 : Shape := ⟨2, ![1024, 11008]⟩
abbrev S11008x4096 : Shape := ⟨2, ![11008, 4096]⟩
abbrev S8x1x4096 : Shape := ⟨3, ![8, 1, 4096]⟩
abbrev S1x1x4096 : Shape := ⟨3, ![1, 1, 4096]⟩
abbrev S4096 : Shape := ⟨1, ![4096]⟩
abbrev S4x256x4096 : Shape := ⟨3, ![4, 256, 4096]⟩

abbrev nBuf : Space → Nat
  | .hbm => 15
  | .vmem => 0
  | .smem => 0
  | _ => 0

abbrev bufTy : (tb : Table) → Fin (tcTables nBuf tb) → BufTy
  | .hbm, ⟨0, _⟩ => ⟨S1024x4096, .f32⟩
  | .hbm, ⟨1, _⟩ => ⟨S1024x11008, .bf16⟩
  | .hbm, ⟨2, _⟩ => ⟨S11008x4096, .f32⟩
  | .hbm, ⟨3, _⟩ => ⟨S8x1x4096, .f32⟩
  | .hbm, ⟨4, _⟩ => ⟨S1x1x4096, .f32⟩
  | .hbm, ⟨5, _⟩ => ⟨S4096, .f32⟩
  | .hbm, ⟨6, _⟩ => ⟨S1024x11008, .f32⟩
  | .hbm, ⟨7, _⟩ => ⟨S1024x4096, .f32⟩
  | .hbm, ⟨8, _⟩ => ⟨S4x256x4096, .f32⟩
  | .hbm, ⟨9, _⟩ => ⟨S4x256x4096, .f32⟩
  | .hbm, ⟨10, _⟩ => ⟨S1x1x4096, .f32⟩
  | .hbm, ⟨11, _⟩ => ⟨S4x256x4096, .f32⟩
  | .hbm, ⟨12, _⟩ => ⟨S4x256x4096, .f32⟩
  | .hbm, ⟨13, _⟩ => ⟨S4x256x4096, .f32⟩
  | .hbm, ⟨14, _⟩ => ⟨S1024x4096, .f32⟩
  | _, _ => ⟨S1024x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩

abbrev nD : Nat := 1
abbrev τ : Topo := Topo.v7x

variable {F : FTy → Type} [FloatOps F]
-- ==== Kernel11.lean ====
abbrev S1024x4096 : Shape := ⟨2, ![1024, 4096]⟩
abbrev S4096x8192 : Shape := ⟨2, ![4096, 8192]⟩
abbrev S1024x8192 : Shape := ⟨2, ![1024, 8192]⟩
abbrev S4096x512 : Shape := ⟨2, ![4096, 512]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S1024x4096, .bf16⟩
  | .hbm, ⟨1, _⟩ => ⟨S4096x8192, .f32⟩
  | .hbm, ⟨2, _⟩ => ⟨S1024x8192, .bf16⟩
  | .local _ .vmem, ⟨0, _⟩ => ⟨S1024x4096, .bf16⟩
  | .local _ .vmem, ⟨1, _⟩ => ⟨S4096x512, .f32⟩
  | .local _ .vmem, ⟨2, _⟩ => ⟨S4096x512, .f32⟩
  | .local _ .vmem, ⟨3, _⟩ => ⟨S1024x512, .bf16⟩
  | .local _ .vmem, ⟨4, _⟩ => ⟨S1024x512, .bf16⟩
  | _, _ => ⟨S1024x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 16], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S1024x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference11Ideal.lean ====
abbrev S1024x4096 : Shape := ⟨2, ![1024, 4096]⟩
abbrev S4096x8192 : Shape := ⟨2, ![4096, 8192]⟩
abbrev S1024x8192 : Shape := ⟨2, ![1024, 8192]⟩

abbrev nBuf : Space → Nat
  | .hbm => 5
  | .vmem => 0
  | .smem => 0
  | _ => 0

abbrev bufTy : (tb : Table) → Fin (tcTables nBuf tb) → BufTy
  | .hbm, ⟨0, _⟩ => ⟨S1024x4096, .bf16⟩
  | .hbm, ⟨1, _⟩ => ⟨S4096x8192, .f32⟩
  | .hbm, ⟨2, _⟩ => ⟨S1024x4096, .f32⟩
  | .hbm, ⟨3, _⟩ => ⟨S1024x8192, .f32⟩
  | .hbm, ⟨4, _⟩ => ⟨S1024x8192, .bf16⟩
  | _, _ => ⟨S1024x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel12.lean ====
abbrev S1024x4096 : Shape := ⟨2, ![1024, 4096]⟩
abbrev S4096x7744 : Shape := ⟨2, ![4096, 7744]⟩
abbrev S1024x7680 : Shape := ⟨2, ![1024, 7680]⟩
abbrev S4096x512 : Shape := ⟨2, ![4096, 512]⟩
abbrev S1024x512 : Shape := ⟨2, ![1024, 512]⟩

abbrev nBuf : Space → Nat
  | .hbm => 3
  | .vmem => 5
  | .smem => 0
  | _ => 0

abbrev bufTy : (tb : Table) → Fin (tcTables nBuf tb) → BufTy
  | .hbm, ⟨0, _⟩ => ⟨S1024x4096, .bf16⟩
  | .hbm, ⟨1, _⟩ => ⟨S4096x7744, .f32⟩
  | .hbm, ⟨2, _⟩ => ⟨S1024x7680, .f32⟩
  | .local _ .vmem, ⟨0, _⟩ => ⟨S1024x4096, .bf16⟩
  | .local _ .vmem, ⟨1, _⟩ => ⟨S4096x512, .f32⟩
  | .local _ .vmem, ⟨2, _⟩ => ⟨S4096x512, .f32⟩
  | .local _ .vmem, ⟨3, _⟩ => ⟨S1024x512, .f32⟩
  | .local _ .vmem, ⟨4, _⟩ => ⟨S1024x512, .f32⟩
  | _, _ => ⟨S1024x4096, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 15], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S1024x4096 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference12Ideal.lean ====
abbrev S1024x4096 : Shape := ⟨2, ![1024, 4096]⟩
abbrev S4096x7744 : Shape := ⟨2, ![4096, 7744]⟩
abbrev S1024x7744 : Shape := ⟨2, ![1024, 7744]⟩
abbrev S1024x7680 : Shape := ⟨2, ![1024, 7680]⟩

abbrev nBuf : Space → Nat
  | .hbm => 5
  | .vmem => 0
  | .smem => 0
  | _ => 0

abbrev bufTy : (tb : Table) → Fin (tcTables nBuf tb) → BufTy
  | .hbm, ⟨0, _⟩ => ⟨S1024x4096, .bf16⟩
  | .hbm, ⟨1, _⟩ => ⟨S4096x7744, .f32⟩
  | .hbm, ⟨2, _⟩ => ⟨S1024x4096, .f32⟩
  | .hbm, ⟨3, _⟩ => ⟨S1024x7744, .f32⟩
  | .hbm, ⟨4, _⟩ => ⟨S1024x7680, .f32⟩
  | _, _ => ⟨S1024x4096, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel13.lean ====
abbrev S8192x512 : Shape := ⟨2, ![8192, 512]⟩
abbrev S512x4096 : Shape := ⟨2, ![512, 4096]⟩
abbrev S8192x4096 : Shape := ⟨2, ![8192, 4096]⟩
abbrev S1024x512 : Shape := ⟨2, ![1024, 512]⟩
abbrev S512x2048 : Shape := ⟨2, ![512, 2048]⟩
abbrev S1024x2048 : Shape := ⟨2, ![1024, 2048]⟩

abbrev nBuf : Space → Nat
  | .hbm => 3
  | .vmem => 6
  | .smem => 0
  | _ => 0

abbrev bufTy : (tb : Table) → Fin (tcTables nBuf tb) → BufTy
  | .hbm, ⟨0, _⟩ => ⟨S8192x512, .bf16⟩
  | .hbm, ⟨1, _⟩ => ⟨S512x4096, .f32⟩
  | .hbm, ⟨2, _⟩ => ⟨S8192x4096, .bf16⟩
  | .local _ .vmem, ⟨0, _⟩ => ⟨S1024x512, .bf16⟩
  | .local _ .vmem, ⟨1, _⟩ => ⟨S1024x512, .bf16⟩
  | .local _ .vmem, ⟨2, _⟩ => ⟨S512x2048, .f32⟩
  | .local _ .vmem, ⟨3, _⟩ => ⟨S512x2048, .f32⟩
  | .local _ .vmem, ⟨4, _⟩ => ⟨S1024x2048, .bf16⟩
  | .local _ .vmem, ⟨5, _⟩ => ⟨S1024x2048, .bf16⟩
  | _, _ => ⟨S8192x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![8, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S1024x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference13Ideal.lean ====
abbrev S8192x512 : Shape := ⟨2, ![8192, 512]⟩
abbrev S512x4096 : Shape := ⟨2, ![512, 4096]⟩
abbrev S8192x4096 : Shape := ⟨2, ![8192, 4096]⟩

abbrev nBuf : Space → Nat
  | .hbm => 5
  | .vmem => 0
  | .smem => 0
  | _ => 0

abbrev bufTy : (tb : Table) → Fin (tcTables nBuf tb) → BufTy
  | .hbm, ⟨0, _⟩ => ⟨S8192x512, .bf16⟩
  | .hbm, ⟨1, _⟩ => ⟨S512x4096, .f32⟩
  | .hbm, ⟨2, _⟩ => ⟨S8192x512, .f32⟩
  | .hbm, ⟨3, _⟩ => ⟨S8192x4096, .f32⟩
  | .hbm, ⟨4, _⟩ => ⟨S8192x4096, .bf16⟩
  | _, _ => ⟨S8192x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel14.lean ====
abbrev S20480x2048 : Shape := ⟨2, ![20480, 2048]⟩
abbrev S40 : Shape := ⟨1, ![40]⟩
abbrev S1 : Shape := ⟨1, ![1]⟩
abbrev S8x2048x4096 : Shape := ⟨3, ![8, 2048, 4096]⟩
abbrev S20480x4096 : Shape := ⟨2, ![20480, 4096]⟩
abbrev S512x2048 : Shape := ⟨2, ![512, 2048]⟩
abbrev S1x2048x1024 : Shape := ⟨3, ![1, 2048, 1024]⟩
abbrev S512x1024 : Shape := ⟨2, ![512, 1024]⟩
abbrev S2048x1024 : Shape := ⟨2, ![2048, 1024]⟩

abbrev nBuf : Space → Nat
  | .hbm => 3
  | .vmem => 6
  | .smem => 2
  | _ => 0

abbrev bufTy : (tb : Table) → Fin (tcTables nBuf tb) → BufTy
  | .hbm, ⟨0, _⟩ => ⟨S20480x2048, .bf16⟩
  | .hbm, ⟨1, _⟩ => ⟨S8x2048x4096, .f32⟩
  | .hbm, ⟨2, _⟩ => ⟨S20480x4096, .bf16⟩
  | .local _ .vmem, ⟨0, _⟩ => ⟨S512x2048, .bf16⟩
  | .local _ .vmem, ⟨1, _⟩ => ⟨S512x2048, .bf16⟩
  | .local _ .vmem, ⟨2, _⟩ => ⟨S1x2048x1024, .f32⟩
  | .local _ .vmem, ⟨3, _⟩ => ⟨S1x2048x1024, .f32⟩
  | .local _ .vmem, ⟨4, _⟩ => ⟨S512x1024, .bf16⟩
  | .local _ .vmem, ⟨5, _⟩ => ⟨S512x1024, .bf16⟩
  | .local _ .smem, ⟨0, _⟩ => ⟨S40, .i32⟩
  | .local _ .smem, ⟨1, _⟩ => ⟨S1, .i32⟩
  | _, _ => ⟨S20480x2048, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg3 : Ref sig .tc := ⟨.hbm, 1, rfl⟩
abbrev main_v0 : Ref sig .tc := ⟨.hbm, 2, rfl⟩
abbrev main_arg1 : Ref sig .tc := ⟨.smem, 0, rfl⟩
abbrev main_arg2 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨2, ![4, 40], ![false, false]⟩

abbrev pre0 : Pipeline.Prefetch sig := ⟨2, ![main_arg1.idx, main_arg2.idx], fun | 0 => main_arg1.names | 1 => main_arg2.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg1 : BitVec 32 := BitVec.ofNat 32 (i 1).val
  let v0 : Index := Scalar.indexCast arg1
  ![v0.toNat]
def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg1.toNat, c0_i32.toNat]

def cc0_transform_1 (k0_off1_inb : ∀ i : grid0.Coords, ∀ a, (k0_off1 i) a + S1.size a ≤ S40.size a) (numel1_S1 : S1.numel = 1) (pf : pre0.Contents (Elt F)) (i : grid0.Coords) : Fin 3 → Nat :=
  let arg0 : BitVec 32 := BitVec.ofNat 32 (i 0).val
  let arg1 : BitVec 32 := BitVec.ofNat 32 (i 1).val
  let v0 : Index := Scalar.indexCast arg1
  let v1 : BitVec 32 := pf.at 0 (Rect.unit (s := S40) ![v0.toNat] S1.size (k0_off1_inb i)) numel1_S1
  let c0_i32 : BitVec 32 := 0#32
  let c0_i32_0 : BitVec 32 := 0#32
  ![v1.toNat, c0_i32.toNat, arg0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg1.toNat, arg0.toNat]

abbrev stage0_0 : Fin 2 → Memref sig .tc .vmem S512x2048 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![false, true]

abbrev stage0_1 : Fin 2 → Memref sig .tc .vmem S1x2048x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S512x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference14Ideal.lean ====
abbrev S20480x2048 : Shape := ⟨2, ![20480, 2048]⟩
abbrev S40 : Shape := ⟨1, ![40]⟩
abbrev S1 : Shape := ⟨1, ![1]⟩
abbrev S8x2048x4096 : Shape := ⟨3, ![8, 2048, 4096]⟩
abbrev S40x512x2048 : Shape := ⟨3, ![40, 512, 2048]⟩
abbrev S_ : Shape := ⟨0, ![]⟩
abbrev S40x512x4096 : Shape := ⟨3, ![40, 512, 4096]⟩
abbrev S40x1x1 : Shape := ⟨3, ![40, 1, 1]⟩
abbrev S1x2048x4096 : Shape := ⟨3, ![1, 2048, 4096]⟩
abbrev S2048x4096 : Shape := ⟨2, ![2048, 4096]⟩
abbrev S20480x4096 : Shape := ⟨2, ![20480, 4096]⟩

abbrev nBuf : Space → Nat
  | .hbm => 93
  | .vmem => 0
  | .smem => 0
  | _ => 0

abbrev bufTy : (tb : Table) → Fin (tcTables nBuf tb) → BufTy
  | .hbm, ⟨0, _⟩ => ⟨S20480x2048, .bf16⟩
  | .hbm, ⟨1, _⟩ => ⟨S40, .i32⟩
  | .hbm, ⟨2, _⟩ => ⟨S1, .i32⟩
  | .hbm, ⟨3, _⟩ => ⟨S8x2048x4096, .f32⟩
  | .hbm, ⟨4, _⟩ => ⟨S20480x2048, .f32⟩
  | .hbm, ⟨5, _⟩ => ⟨S40x512x2048, .f32⟩
  | .hbm, ⟨6, _⟩ => ⟨S40, .i32⟩
  | .hbm, ⟨7, _⟩ => ⟨S40, .i32⟩
  | .hbm, ⟨8, _⟩ => ⟨S40, .i1⟩
  | .hbm, ⟨9, _⟩ => ⟨S_, .f32⟩
  | .hbm, ⟨10, _⟩ => ⟨S40x512x4096, .f32⟩
  | .hbm, ⟨11, _⟩ => ⟨S_, .i32⟩
  | .hbm, ⟨12, _⟩ => ⟨S40, .i32⟩
  | .hbm, ⟨13, _⟩ => ⟨S40, .i1⟩
  | .hbm, ⟨14, _⟩ => ⟨S40, .i1⟩
  | .hbm, ⟨15, _⟩ => ⟨S40x1x1, .i1⟩
  | .hbm, ⟨16, _⟩ => ⟨S1x2048x4096, .f32⟩
  | .hbm, ⟨17, _⟩ => ⟨S2048x4096, .f32⟩
  | .hbm, ⟨18, _⟩ => ⟨S40x512x4096, .f32⟩
  | .hbm, ⟨19, _⟩ => ⟨S40x512x4096, .i1⟩
  | .hbm, ⟨20, _⟩ => ⟨S40x512x4096, .f32⟩
  | .hbm, ⟨21, _⟩ => ⟨S_, .i32⟩
  | .hbm, ⟨22, _⟩ => ⟨S40, .i32⟩
  | .hbm, ⟨23, _⟩ => ⟨S40, .i1⟩
  | .hbm, ⟨24, _⟩ => ⟨S40, .i1⟩
  | .hbm, ⟨25, _⟩ => ⟨S40x1x1, .i1⟩
  | .hbm, ⟨26, _⟩ => ⟨S1x2048x4096, .f32⟩
  | .hbm, ⟨27, _⟩ => ⟨S2048x4096, .f32⟩
  | .hbm, ⟨28, _⟩ => ⟨S40x512x4096, .f32⟩
  | .hbm, ⟨29, _⟩ => ⟨S40x512x4096, .i1⟩
  | .hbm, ⟨30, _⟩ => ⟨S40x512x4096, .f32⟩
  | .hbm, ⟨31, _⟩ => ⟨S_, .i32⟩
  | .hbm, ⟨32, _⟩ => ⟨S40, .i32⟩
  | .hbm, ⟨33, _⟩ => ⟨S40, .i1⟩
  | .hbm, ⟨34, _⟩ => ⟨S40, .i1⟩
  | .hbm, ⟨35, _⟩ => ⟨S40x1x1, .i1⟩
  | .hbm, ⟨36, _⟩ => ⟨S1x2048x4096, .f32⟩
  | .hbm, ⟨37, _⟩ => ⟨S2048x4096, .f32⟩
  | .hbm, ⟨38, _⟩ => ⟨S40x512x4096, .f32⟩
  | .hbm, ⟨39, _⟩ => ⟨S40x512x4096, .i1⟩
  | .hbm, ⟨40, _⟩ => ⟨S40x512x4096, .f32⟩
  | .hbm, ⟨41, _⟩ => ⟨S_, .i32⟩
  | .hbm, ⟨42, _⟩ => ⟨S40, .i32⟩
  | .hbm, ⟨43, _⟩ => ⟨S40, .i1⟩
  | .hbm, ⟨44, _⟩ => ⟨S40, .i1⟩
  | .hbm, ⟨45, _⟩ => ⟨S40x1x1, .i1⟩
  | .hbm, ⟨46, _⟩ => ⟨S1x2048x4096, .f32⟩
  | .hbm, ⟨47, _⟩ => ⟨S2048x4096, .f32⟩
  | .hbm, ⟨48, _⟩ => ⟨S40x512x4096, .f32⟩
  | .hbm, ⟨49, _⟩ => ⟨S40x512x4096, .i1⟩
  | .hbm, ⟨50, _⟩ => ⟨S40x512x4096, .f32⟩
  | .hbm, ⟨51, _⟩ => ⟨S_, .i32⟩
  | .hbm, ⟨52, _⟩ => ⟨S40, .i32⟩
  | .hbm, ⟨53, _⟩ => ⟨S40, .i1⟩
  | .hbm, ⟨54, _⟩ => ⟨S40, .i1⟩
  | .hbm, ⟨55, _⟩ => ⟨S40x1x1, .i1⟩
  | .hbm, ⟨56, _⟩ => ⟨S1x2048x4096, .f32⟩
  | .hbm, ⟨57, _⟩ => ⟨S2048x4096, .f32⟩
  | .hbm, ⟨58, _⟩ => ⟨S40x512x4096, .f32⟩
  | .hbm, ⟨59, _⟩ => ⟨S40x512x4096, .i1⟩
  | .hbm, ⟨60, _⟩ => ⟨S40x512x4096, .f32⟩
  | .hbm, ⟨61, _⟩ => ⟨S_, .i32⟩
  | .hbm, ⟨62, _⟩ => ⟨S40, .i32⟩
  | .hbm, ⟨63, _⟩ => ⟨S40, .i1⟩
  | .hbm, ⟨64, _⟩ => ⟨S40, .i1⟩
  | .hbm, ⟨65, _⟩ => ⟨S40x1x1, .i1⟩
  | .hbm, ⟨66, _⟩ => ⟨S1x2048x4096, .f32⟩
  | .hbm, ⟨67, _⟩ => ⟨S2048x4096, .f32⟩
  | .hbm, ⟨68, _⟩ => ⟨S40x512x4096, .f32⟩
  | .hbm, ⟨69, _⟩ => ⟨S40x512x4096, .i1⟩
  | .hbm, ⟨70, _⟩ => ⟨S40x512x4096, .f32⟩
  | .hbm, ⟨71, _⟩ => ⟨S_, .i32⟩
  | .hbm, ⟨72, _⟩ => ⟨S40, .i32⟩
  | .hbm, ⟨73, _⟩ => ⟨S40, .i1⟩
  | .hbm, ⟨74, _⟩ => ⟨S40, .i1⟩
  | .hbm, ⟨75, _⟩ => ⟨S40x1x1, .i1⟩
  | .hbm, ⟨76, _⟩ => ⟨S1x2048x4096, .f32⟩
  | .hbm, ⟨77, _⟩ => ⟨S2048x4096, .f32⟩
  | .hbm, ⟨78, _⟩ => ⟨S40x512x4096, .f32⟩
  | .hbm, ⟨79, _⟩ => ⟨S40x512x4096, .i1⟩
  | .hbm, ⟨80, _⟩ => ⟨S40x512x4096, .f32⟩
  | .hbm, ⟨81, _⟩ => ⟨S_, .i32⟩
  | .hbm, ⟨82, _⟩ => ⟨S40, .i32⟩
  | .hbm, ⟨83, _⟩ => ⟨S40, .i1⟩
  | .hbm, ⟨84, _⟩ => ⟨S40, .i1⟩
  | .hbm, ⟨85, _⟩ => ⟨S40x1x1, .i1⟩
  | .hbm, ⟨86, _⟩ => ⟨S1x2048x4096, .f32⟩
  | .hbm, ⟨87, _⟩ => ⟨S2048x4096, .f32⟩
  | .hbm, ⟨88, _⟩ => ⟨S40x512x4096, .f32⟩
  | .hbm, ⟨89, _⟩ => ⟨S40x512x4096, .i1⟩
  | .hbm, ⟨90, _⟩ => ⟨S40x512x4096, .f32⟩
  | .hbm, ⟨91, _⟩ => ⟨S20480x4096, .f32⟩
  | .hbm, ⟨92, _⟩ => ⟨S20480x4096, .bf16⟩
  | _, _ => ⟨S20480x2048, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_cst : Ref sig .tc := ⟨.hbm, 9, rfl⟩
abbrev main_v5 : Ref sig .tc := ⟨.hbm, 10, rfl⟩
abbrev main_c : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩
abbrev main_v9 : Ref sig .tc := ⟨.hbm, 15, rfl⟩
abbrev main_v10 : Ref sig .tc := ⟨.hbm, 16, rfl⟩
abbrev main_v11 : Ref sig .tc := ⟨.hbm, 17, rfl⟩
abbrev main_v12 : Ref sig .tc := ⟨.hbm, 18, rfl⟩
abbrev main_call0_v0 : Ref sig .tc := ⟨.hbm, 19, rfl⟩
abbrev main_v13 : Ref sig .tc := ⟨.hbm, 20, rfl⟩
abbrev main_c_0 : Ref sig .tc := ⟨.hbm, 21, rfl⟩
abbrev main_v14 : Ref sig .tc := ⟨.hbm, 22, rfl⟩
abbrev main_v15 : Ref sig .tc := ⟨.hbm, 23, rfl⟩
abbrev main_v16 : Ref sig .tc := ⟨.hbm, 24, rfl⟩
abbrev main_v17 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_call1_v0 : Ref sig .tc := ⟨.hbm, 29, rfl⟩
abbrev main_v21 : Ref sig .tc := ⟨.hbm, 30, rfl⟩
abbrev main_c_1 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_call2_v0 : Ref sig .tc := ⟨.hbm, 39, rfl⟩
abbrev main_v29 : Ref sig .tc := ⟨.hbm, 40, rfl⟩
abbrev main_c_2 : Ref sig .tc := ⟨.hbm, 41, rfl⟩
abbrev main_v30 : Ref sig .tc := ⟨.hbm, 42, rfl⟩
abbrev main_v31 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_call3_v0 : Ref sig .tc := ⟨.hbm, 49, rfl⟩
abbrev main_v37 : Ref sig .tc := ⟨.hbm, 50, rfl⟩
abbrev main_c_3 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_call4_v0 : Ref sig .tc := ⟨.hbm, 59, rfl⟩
abbrev main_v45 : Ref sig .tc := ⟨.hbm, 60, rfl⟩
abbrev main_c_4 : Ref sig .tc := ⟨.hbm, 61, rfl⟩
abbrev main_v46 : Ref sig .tc := ⟨.hbm, 62, rfl⟩
abbrev main_v47 : Ref sig .tc := ⟨.hbm, 63, rfl⟩
abbrev main_v48 : Ref sig .tc := ⟨.hbm, 64, rfl⟩
abbrev main_v49 : Ref sig .tc := ⟨.hbm, 65, rfl⟩
abbrev main_v50 : Ref sig .tc := ⟨.hbm, 66, rfl⟩
abbrev main_v51 : Ref sig .tc := ⟨.hbm, 67, rfl⟩
abbrev main_v52 : Ref sig .tc := ⟨.hbm, 68, rfl⟩
abbrev main_call5_v0 : Ref sig .tc := ⟨.hbm, 69, rfl⟩
abbrev main_v53 : Ref sig .tc := ⟨.hbm, 70, rfl⟩
abbrev main_c_5 : Ref sig .tc := ⟨.hbm, 71, rfl⟩
abbrev main_v54 : Ref sig .tc := ⟨.hbm, 72, rfl⟩
abbrev main_v55 : Ref sig .tc := ⟨.hbm, 73, rfl⟩
abbrev main_v56 : Ref sig .tc := ⟨.hbm, 74, rfl⟩
abbrev main_v57 : Ref sig .tc := ⟨.hbm, 75, rfl⟩
abbrev main_v58 : Ref sig .tc := ⟨.hbm, 76, rfl⟩
abbrev main_v59 : Ref sig .tc := ⟨.hbm, 77, rfl⟩
abbrev main_v60 : Ref sig .tc := ⟨.hbm, 78, rfl⟩
abbrev main_call6_v0 : Ref sig .tc := ⟨.hbm, 79, rfl⟩
abbrev main_v61 : Ref sig .tc := ⟨.hbm, 80, rfl⟩
abbrev main_c_6 : Ref sig .tc := ⟨.hbm, 81, rfl⟩
abbrev main_v62 : Ref sig .tc := ⟨.hbm, 82, rfl⟩
abbrev main_v63 : Ref sig .tc := ⟨.hbm, 83, rfl⟩
abbrev main_v64 : Ref sig .tc := ⟨.hbm, 84, rfl⟩
abbrev main_v65 : Ref sig .tc := ⟨.hbm, 85, rfl⟩
abbrev main_v66 : Ref sig .tc := ⟨.hbm, 86, rfl⟩
abbrev main_v67 : Ref sig .tc := ⟨.hbm, 87, rfl⟩
abbrev main_v68 : Ref sig .tc := ⟨.hbm, 88, rfl⟩
abbrev main_call7_v0 : Ref sig .tc := ⟨.hbm, 89, rfl⟩
abbrev main_v69 : Ref sig .tc := ⟨.hbm, 90, rfl⟩
abbrev main_v70 : Ref sig .tc := ⟨.hbm, 91, rfl⟩
abbrev main_v71 : Ref sig .tc := ⟨.hbm, 92, rfl⟩

abbrev nD : Nat := 1
abbrev τ : Topo := Topo.v7x

variable {F : FTy → Type} [FloatOps F]
-- ==== Kernel15.lean ====
abbrev S1024x4096 : Shape := ⟨2, ![1024, 4096]⟩
abbrev S1024x2048 : Shape := ⟨2, ![1024, 2048]⟩
abbrev S4096x4096 : Shape := ⟨2, ![4096, 4096]⟩
abbrev S8x1x4096 : Shape := ⟨3, ![8, 1, 4096]⟩
abbrev S2048x512 : Shape := ⟨2, ![2048, 512]⟩
abbrev S1024x512 : Shape := ⟨2, ![1024, 512]⟩
abbrev S1x1x512 : Shape := ⟨3, ![1, 1, 512]⟩
abbrev S1x512 : Shape := ⟨2, ![1, 512]⟩

abbrev nBuf : Space → Nat
  | .hbm => 6
  | .vmem => 12
  | .smem => 0
  | _ => 0

abbrev bufTy : (tb : Table) → Fin (tcTables nBuf tb) → BufTy
  | .hbm, ⟨0, _⟩ => ⟨S1024x4096, .f32⟩
  | .hbm, ⟨1, _⟩ => ⟨S1024x2048, .bf16⟩
  | .hbm, ⟨2, _⟩ => ⟨S1024x2048, .bf16⟩
  | .hbm, ⟨3, _⟩ => ⟨S4096x4096, .f32⟩
  | .hbm, ⟨4, _⟩ => ⟨S8x1x4096, .f32⟩
  | .hbm, ⟨5, _⟩ => ⟨S1024x4096, .f32⟩
  | .local _ .vmem, ⟨0, _⟩ => ⟨S1024x2048, .bf16⟩
  | .local _ .vmem, ⟨1, _⟩ => ⟨S1024x2048, .bf16⟩
  | .local _ .vmem, ⟨2, _⟩ => ⟨S2048x512, .f32⟩
  | .local _ .vmem, ⟨3, _⟩ => ⟨S2048x512, .f32⟩
  | .local _ .vmem, ⟨4, _⟩ => ⟨S2048x512, .f32⟩
  | .local _ .vmem, ⟨5, _⟩ => ⟨S2048x512, .f32⟩
  | .local _ .vmem, ⟨6, _⟩ => ⟨S1024x512, .f32⟩
  | .local _ .vmem, ⟨7, _⟩ => ⟨S1024x512, .f32⟩
  | .local _ .vmem, ⟨8, _⟩ => ⟨S1x1x512, .f32⟩
  | .local _ .vmem, ⟨9, _⟩ => ⟨S1x1x512, .f32⟩
  | .local _ .vmem, ⟨10, _⟩ => ⟨S1024x512, .f32⟩
  | .local _ .vmem, ⟨11, _⟩ => ⟨S1024x512, .f32⟩
  | _, _ => ⟨S1024x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg3_1 : Ref sig .tc := ⟨.vmem, 5, rfl⟩
abbrev cc0_stg4_0 : Ref sig .tc := ⟨.vmem, 6, rfl⟩
abbrev cc0_stg4_1 : Ref sig .tc := ⟨.vmem, 7, rfl⟩
abbrev cc0_stg5_0 : Ref sig .tc := ⟨.vmem, 8, rfl⟩
abbrev cc0_stg5_1 : Ref sig .tc := ⟨.vmem, 9, rfl⟩
abbrev cc0_stg6_0 : Ref sig .tc := ⟨.vmem, 10, rfl⟩
abbrev cc0_stg6_1 : Ref sig .tc := ⟨.vmem, 11, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11

abbrev nD : Nat := 1
abbrev τ : Topo := Topo.v7x

variable {F : FTy → Type} [FloatOps F]

abbrev grid0 : Pipeline.Grid := ⟨2, ![1, 8], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c1_i32 : BitVec 32 := 1#32
  let c0_i32 : BitVec 32 := 0#32
  ![c1_i32.toNat, arg1.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_5 (i : grid0.Coords) : Fin 3 → Nat :=
  let arg0 : BitVec 32 := BitVec.ofNat 32 (i 0).val
  let arg1 : BitVec 32 := BitVec.ofNat 32 (i 1).val
  let c4_i32 : BitVec 32 := 4#32
  let c0_i32 : BitVec 32 := 0#32
  let c0_i32_0 : BitVec 32 := 0#32
  ![c4_i32.toNat, c0_i32.toNat, arg1.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S1024x2048 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 1 → Memref sig .tc .vmem S1024x2048 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![true, false]

abbrev stage0_2 : Fin 2 → Memref sig .tc .vmem S2048x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![false, true]

abbrev stage0_4 : Fin 2 → Memref sig .tc .vmem S1024x512 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, true]

abbrev stage0_5 : Fin 2 → Memref sig .tc .vmem S1x1x512 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![false, true]

abbrev stage0_6 : Fin 2 → Memref sig .tc .vmem S1024x512 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, true]
-- ==== Reference15Ideal.lean ====
abbrev S1024x4096 : Shape := ⟨2, ![1024, 4096]⟩
abbrev S1024x2048 : Shape := ⟨2, ![1024, 2048]⟩
abbrev S4096x4096 : Shape := ⟨2, ![4096, 4096]⟩
abbrev S8x1x4096 : Shape := ⟨3, ![8, 1, 4096]⟩
abbrev S1x1x4096 : Shape := ⟨3, ![1, 1, 4096]⟩
abbrev S4096 : Shape := ⟨1, ![4096]⟩
abbrev S4x256x4096 : Shape := ⟨3, ![4, 256, 4096]⟩

abbrev nBuf : Space → Nat
  | .hbm => 18
  | .vmem => 0
  | .smem => 0
  | _ => 0

abbrev bufTy : (tb : Table) → Fin (tcTables nBuf tb) → BufTy
  | .hbm, ⟨0, _⟩ => ⟨S1024x4096, .f32⟩
  | .hbm, ⟨1, _⟩ => ⟨S1024x2048, .bf16⟩
  | .hbm, ⟨2, _⟩ => ⟨S1024x2048, .bf16⟩
  | .hbm, ⟨3, _⟩ => ⟨S4096x4096, .f32⟩
  | .hbm, ⟨4, _⟩ => ⟨S8x1x4096, .f32⟩
  | .hbm, ⟨5, _⟩ => ⟨S1x1x4096, .f32⟩
  | .hbm, ⟨6, _⟩ => ⟨S4096, .f32⟩
  | .hbm, ⟨7, _⟩ => ⟨S1024x2048, .f32⟩
  | .hbm, ⟨8, _⟩ => ⟨S1024x2048, .f32⟩
  | .hbm, ⟨9, _⟩ => ⟨S1024x4096, .f32⟩
  | .hbm, ⟨10, _⟩ => ⟨S1024x4096, .f32⟩
  | .hbm, ⟨11, _⟩ => ⟨S4x256x4096, .f32⟩
  | .hbm, ⟨12, _⟩ => ⟨S4x256x4096, .f32⟩
  | .hbm, ⟨13, _⟩ => ⟨S1x1x4096, .f32⟩
  | .hbm, ⟨14, _⟩ => ⟨S4x256x4096, .f32⟩
  | .hbm, ⟨15, _⟩ => ⟨S4x256x4096, .f32⟩
  | .hbm, ⟨16, _⟩ => ⟨S4x256x4096, .f32⟩
  | .hbm, ⟨17, _⟩ => ⟨S1024x4096, .f32⟩
  | _, _ => ⟨S1024x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩

abbrev nD : Nat := 1
abbrev τ : Topo := Topo.v7x

variable {F : FTy → Type} [FloatOps F]
-- ==== Kernel16.lean ====
abbrev S4x4096 : Shape := ⟨2, ![4, 4096]⟩
abbrev S4096 : Shape := ⟨1, ![4096]⟩
abbrev S2x4096x24576 : Shape := ⟨3, ![2, 4096, 24576]⟩
abbrev S2x24576 : Shape := ⟨2, ![2, 24576]⟩
abbrev S1x4096 : Shape := ⟨2, ![1, 4096]⟩
abbrev S_ : Shape := ⟨0, ![]⟩
abbrev S3x4096 : Shape := ⟨2, ![3, 4096]⟩
abbrev S8x4096 : Shape := ⟨2, ![8, 4096]⟩
abbrev S2x1x24576 : Shape := ⟨3, ![2, 1, 24576]⟩
abbrev S2x8x24576 : Shape := ⟨3, ![2, 8, 24576]⟩
abbrev S1x4096x512 : Shape := ⟨3, ![1, 4096, 512]⟩
abbrev S1x1x512 : Shape := ⟨3, ![1, 1, 512]⟩
abbrev S1x8x512 : Shape := ⟨3, ![1, 8, 512]⟩
abbrev S4096x512 : Shape := ⟨2, ![4096, 512]⟩
abbrev S8x512 : Shape := ⟨2, ![8, 512]⟩
abbrev S1x512 : Shape := ⟨2, ![1, 512]⟩

abbrev nBuf : Space → Nat
  | .hbm => 10
  | .vmem => 7
  | .smem => 0
  | _ => 0

abbrev bufTy : (tb : Table) → Fin (tcTables nBuf tb) → BufTy
  | .hbm, ⟨0, _⟩ => ⟨S4x4096, .f32⟩
  | .hbm, ⟨1, _⟩ => ⟨S4096, .f32⟩
  | .hbm, ⟨2, _⟩ => ⟨S2x4096x24576, .f32⟩
  | .hbm, ⟨3, _⟩ => ⟨S2x24576, .f32⟩
  | .hbm, ⟨4, _⟩ => ⟨S1x4096, .f32⟩
  | .hbm, ⟨5, _⟩ => ⟨S_, .f32⟩
  | .hbm, ⟨6, _⟩ => ⟨S3x4096, .f32⟩
  | .hbm, ⟨7, _⟩ => ⟨S8x4096, .f32⟩
  | .hbm, ⟨8, _⟩ => ⟨S2x1x24576, .f32⟩
  | .hbm, ⟨9, _⟩ => ⟨S2x8x24576, .f32⟩
  | .local _ .vmem, ⟨0, _⟩ => ⟨S8x4096, .f32⟩
  | .local _ .vmem, ⟨1, _⟩ => ⟨S1x4096x512, .f32⟩
  | .local _ .vmem, ⟨2, _⟩ => ⟨S1x4096x512, .f32⟩
  | .local _ .vmem, ⟨3, _⟩ => ⟨S1x1x512, .f32⟩
  | .local _ .vmem, ⟨4, _⟩ => ⟨S1x1x512, .f32⟩
  | .local _ .vmem, ⟨5, _⟩ => ⟨S1x8x512, .f32⟩
  | .local _ .vmem, ⟨6, _⟩ => ⟨S1x8x512, .f32⟩
  | _, _ => ⟨S4x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem3_1 : DmaSem sig := 6

abbrev nD : Nat := 1
abbrev τ : Topo := Topo.v7x

variable {F : FTy → Type} [FloatOps F]

abbrev grid0 : Pipeline.Grid := ⟨2, ![2, 48], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

def cc0_transform_3 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat, arg1.toNat]

abbrev stage0_0 : Fin 1 → Memref sig .tc .vmem S8x4096 .f32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false, false]

abbrev stage0_1 : Fin 2 → Memref sig .tc .vmem S1x4096x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, true]

abbrev stage0_2 : Fin 2 → Memref sig .tc .vmem S1x1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]

abbrev stage0_3 : Fin 2 → Memref sig .tc .vmem S1x8x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference16Ideal.lean ====
abbrev S4x4096 : Shape := ⟨2, ![4, 4096]⟩
abbrev S4096 : Shape := ⟨1, ![4096]⟩
abbrev S2x4096x24576 : Shape := ⟨3, ![2, 4096, 24576]⟩
abbrev S2x24576 : Shape := ⟨2, ![2, 24576]⟩
abbrev S_ : Shape := ⟨0, ![]⟩
abbrev S1x4096x24576 : Shape := ⟨3, ![1, 4096, 24576]⟩
abbrev S4096x24576 : Shape := ⟨2, ![4096, 24576]⟩
abbrev S4x24576 : Shape := ⟨2, ![4, 24576]⟩
abbrev S1x24576 : Shape := ⟨2, ![1, 24576]⟩
abbrev S24576 : Shape := ⟨1, ![24576]⟩
abbrev S1x4096 : Shape := ⟨2, ![1, 4096]⟩
abbrev S3x24576 : Shape := ⟨2, ![3, 24576]⟩
abbrev S8x24576 : Shape := ⟨2, ![8, 24576]⟩
abbrev S1x8x24576 : Shape := ⟨3, ![1, 8, 24576]⟩
abbrev S2x8x24576 : Shape := ⟨3, ![2, 8, 24576]⟩

abbrev nBuf : Space → Nat
  | .hbm => 83
  | .vmem => 0
  | .smem => 0
  | _ => 0

abbrev bufTy : (tb : Table) → Fin (tcTables nBuf tb) → BufTy
  | .hbm, ⟨0, _⟩ => ⟨S4x4096, .f32⟩
  | .hbm, ⟨1, _⟩ => ⟨S4096, .f32⟩
  | .hbm, ⟨2, _⟩ => ⟨S2x4096x24576, .f32⟩
  | .hbm, ⟨3, _⟩ => ⟨S2x24576, .f32⟩
  | .hbm, ⟨4, _⟩ => ⟨S4x4096, .f32⟩
  | .hbm, ⟨5, _⟩ => ⟨S4x4096, .f32⟩
  | .hbm, ⟨6, _⟩ => ⟨S_, .f32⟩
  | .hbm, ⟨7, _⟩ => ⟨S4x4096, .f32⟩
  | .hbm, ⟨8, _⟩ => ⟨S4x4096, .f32⟩
  | .hbm, ⟨9, _⟩ => ⟨S_, .f32⟩
  | .hbm, ⟨10, _⟩ => ⟨S4x4096, .f32⟩
  | .hbm, ⟨11, _⟩ => ⟨S4x4096, .f32⟩
  | .hbm, ⟨12, _⟩ => ⟨S4x4096, .f32⟩
  | .hbm, ⟨13, _⟩ => ⟨S1x4096x24576, .f32⟩
  | .hbm, ⟨14, _⟩ => ⟨S4096x24576, .f32⟩
  | .hbm, ⟨15, _⟩ => ⟨S4x24576, .f32⟩
  | .hbm, ⟨16, _⟩ => ⟨S1x24576, .f32⟩
  | .hbm, ⟨17, _⟩ => ⟨S24576, .f32⟩
  | .hbm, ⟨18, _⟩ => ⟨S1x24576, .f32⟩
  | .hbm, ⟨19, _⟩ => ⟨S4x24576, .f32⟩
  | .hbm, ⟨20, _⟩ => ⟨S4x24576, .f32⟩
  | .hbm, ⟨21, _⟩ => ⟨S4096, .f32⟩
  | .hbm, ⟨22, _⟩ => ⟨S4096, .f32⟩
  | .hbm, ⟨23, _⟩ => ⟨S_, .f32⟩
  | .hbm, ⟨24, _⟩ => ⟨S4096, .f32⟩
  | .hbm, ⟨25, _⟩ => ⟨S4096, .f32⟩
  | .hbm, ⟨26, _⟩ => ⟨S_, .f32⟩
  | .hbm, ⟨27, _⟩ => ⟨S4096, .f32⟩
  | .hbm, ⟨28, _⟩ => ⟨S4096, .f32⟩
  | .hbm, ⟨29, _⟩ => ⟨S4096, .f32⟩
  | .hbm, ⟨30, _⟩ => ⟨S1x4096, .f32⟩
  | .hbm, ⟨31, _⟩ => ⟨S1x4096x24576, .f32⟩
  | .hbm, ⟨32, _⟩ => ⟨S4096x24576, .f32⟩
  | .hbm, ⟨33, _⟩ => ⟨S1x24576, .f32⟩
  | .hbm, ⟨34, _⟩ => ⟨S1x24576, .f32⟩
  | .hbm, ⟨35, _⟩ => ⟨S24576, .f32⟩
  | .hbm, ⟨36, _⟩ => ⟨S1x24576, .f32⟩
  | .hbm, ⟨37, _⟩ => ⟨S1x24576, .f32⟩
  | .hbm, ⟨38, _⟩ => ⟨S1x24576, .f32⟩
  | .hbm, ⟨39, _⟩ => ⟨S24576, .f32⟩
  | .hbm, ⟨40, _⟩ => ⟨S3x24576, .f32⟩
  | .hbm, ⟨41, _⟩ => ⟨S8x24576, .f32⟩
  | .hbm, ⟨42, _⟩ => ⟨S4x4096, .f32⟩
  | .hbm, ⟨43, _⟩ => ⟨S4x4096, .f32⟩
  | .hbm, ⟨44, _⟩ => ⟨S_, .f32⟩
  | .hbm, ⟨45, _⟩ => ⟨S4x4096, .f32⟩
  | .hbm, ⟨46, _⟩ => ⟨S4x4096, .f32⟩
  | .hbm, ⟨47, _⟩ => ⟨S_, .f32⟩
  | .hbm, ⟨48, _⟩ => ⟨S4x4096, .f32⟩
  | .hbm, ⟨49, _⟩ => ⟨S4x4096, .f32⟩
  | .hbm, ⟨50, _⟩ => ⟨S4x4096, .f32⟩
  | .hbm, ⟨51, _⟩ => ⟨S1x4096x24576, .f32⟩
  | .hbm, ⟨52, _⟩ => ⟨S4096x24576, .f32⟩
  | .hbm, ⟨53, _⟩ => ⟨S4x24576, .f32⟩
  | .hbm, ⟨54, _⟩ => ⟨S1x24576, .f32⟩
  | .hbm, ⟨55, _⟩ => ⟨S24576, .f32⟩
  | .hbm, ⟨56, _⟩ => ⟨S1x24576, .f32⟩
  | .hbm, ⟨57, _⟩ => ⟨S4x24576, .f32⟩
  | .hbm, ⟨58, _⟩ => ⟨S4x24576, .f32⟩
  | .hbm, ⟨59, _⟩ => ⟨S4096, .f32⟩
  | .hbm, ⟨60, _⟩ => ⟨S4096, .f32⟩
  | .hbm, ⟨61, _⟩ => ⟨S_, .f32⟩
  | .hbm, ⟨62, _⟩ => ⟨S4096, .f32⟩
  | .hbm, ⟨63, _⟩ => ⟨S4096, .f32⟩
  | .hbm, ⟨64, _⟩ => ⟨S_, .f32⟩
  | .hbm, ⟨65, _⟩ => ⟨S4096, .f32⟩
  | .hbm, ⟨66, _⟩ => ⟨S4096, .f32⟩
  | .hbm, ⟨67, _⟩ => ⟨S4096, .f32⟩
  | .hbm, ⟨68, _⟩ => ⟨S1x4096, .f32⟩
  | .hbm, ⟨69, _⟩ => ⟨S1x4096x24576, .f32⟩
  | .hbm, ⟨70, _⟩ => ⟨S4096x24576, .f32⟩
  | .hbm, ⟨71, _⟩ => ⟨S1x24576, .f32⟩
  | .hbm, ⟨72, _⟩ => ⟨S1x24576, .f32⟩
  | .hbm, ⟨73, _⟩ => ⟨S24576, .f32⟩
  | .hbm, ⟨74, _⟩ => ⟨S1x24576, .f32⟩
  | .hbm, ⟨75, _⟩ => ⟨S1x24576, .f32⟩
  | .hbm, ⟨76, _⟩ => ⟨S1x24576, .f32⟩
  | .hbm, ⟨77, _⟩ => ⟨S24576, .f32⟩
  | .hbm, ⟨78, _⟩ => ⟨S3x24576, .f32⟩
  | .hbm, ⟨79, _⟩ => ⟨S8x24576, .f32⟩
  | .hbm, ⟨80, _⟩ => ⟨S1x8x24576, .f32⟩
  | .hbm, ⟨81, _⟩ => ⟨S1x8x24576, .f32⟩
  | .hbm, ⟨82, _⟩ => ⟨S2x8x24576, .f32⟩
  | _, _ => ⟨S4x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_call0_v0 : Ref sig .tc := ⟨.hbm, 4, rfl⟩
abbrev main_call0_v1 : Ref sig .tc := ⟨.hbm, 5, rfl⟩
abbrev main_call0_cst : Ref sig .tc := ⟨.hbm, 6, rfl⟩
abbrev main_call0_v2 : Ref sig .tc := ⟨.hbm, 7, rfl⟩
abbrev main_call0_v3 : Ref sig .tc := ⟨.hbm, 8, rfl⟩
abbrev main_call0_cst_0 : Ref sig .tc := ⟨.hbm, 9, rfl⟩
abbrev main_call0_v4 : Ref sig .tc := ⟨.hbm, 10, rfl⟩
abbrev main_call0_v5 : Ref sig .tc := ⟨.hbm, 11, rfl⟩
abbrev main_v0 : Ref sig .tc := ⟨.hbm, 12, rfl⟩
abbrev main_v1 : Ref sig .tc := ⟨.hbm, 13, rfl⟩
abbrev main_v2 : Ref sig .tc := ⟨.hbm, 14, rfl⟩
abbrev main_v3 : Ref sig .tc := ⟨.hbm, 15, rfl⟩
abbrev main_v4 : Ref sig .tc := ⟨.hbm, 16, rfl⟩
abbrev main_v5 : Ref sig .tc := ⟨.hbm, 17, rfl⟩
abbrev main_v6 : Ref sig .tc := ⟨.hbm, 18, rfl⟩
abbrev main_v7 : Ref sig .tc := ⟨.hbm, 19, rfl⟩
abbrev main_v8 : Ref sig .tc := ⟨.hbm, 20, rfl⟩
abbrev main_call1_v0 : Ref sig .tc := ⟨.hbm, 21, rfl⟩
abbrev main_call1_v1 : Ref sig .tc := ⟨.hbm, 22, rfl⟩
abbrev main_call1_cst : Ref sig .tc := ⟨.hbm, 23, rfl⟩
abbrev main_call1_v2 : Ref sig .tc := ⟨.hbm, 24, rfl⟩
abbrev main_call1_v3 : Ref sig .tc := ⟨.hbm, 25, rfl⟩
abbrev main_call1_cst_0 : Ref sig .tc := ⟨.hbm, 26, rfl⟩
abbrev main_call1_v4 : Ref sig .tc := ⟨.hbm, 27, rfl⟩
abbrev main_call1_v5 : Ref sig .tc := ⟨.hbm, 28, rfl⟩
abbrev main_v9 : Ref sig .tc := ⟨.hbm, 29, rfl⟩
abbrev main_v10 : Ref sig .tc := ⟨.hbm, 30, rfl⟩
abbrev main_v11 : Ref sig .tc := ⟨.hbm, 31, rfl⟩
abbrev main_v12 : Ref sig .tc := ⟨.hbm, 32, rfl⟩
abbrev main_v13 : Ref sig .tc := ⟨.hbm, 33, rfl⟩
abbrev main_v14 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_v18 : Ref sig .tc := ⟨.hbm, 38, rfl⟩
abbrev main_v19 : Ref sig .tc := ⟨.hbm, 39, rfl⟩
abbrev main_v20 : Ref sig .tc := ⟨.hbm, 40, rfl⟩
abbrev main_v21 : Ref sig .tc := ⟨.hbm, 41, rfl⟩
abbrev main_call2_v0 : Ref sig .tc := ⟨.hbm, 42, rfl⟩
abbrev main_call2_v1 : Ref sig .tc := ⟨.hbm, 43, rfl⟩
abbrev main_call2_cst : Ref sig .tc := ⟨.hbm, 44, rfl⟩
abbrev main_call2_v2 : Ref sig .tc := ⟨.hbm, 45, rfl⟩
abbrev main_call2_v3 : Ref sig .tc := ⟨.hbm, 46, rfl⟩
abbrev main_call2_cst_0 : Ref sig .tc := ⟨.hbm, 47, rfl⟩
abbrev main_call2_v4 : Ref sig .tc := ⟨.hbm, 48, rfl⟩
abbrev main_call2_v5 : Ref sig .tc := ⟨.hbm, 49, rfl⟩
abbrev main_v22 : Ref sig .tc := ⟨.hbm, 50, rfl⟩
abbrev main_v23 : Ref sig .tc := ⟨.hbm, 51, rfl⟩
abbrev main_v24 : Ref sig .tc := ⟨.hbm, 52, rfl⟩
abbrev main_v25 : Ref sig .tc := ⟨.hbm, 53, rfl⟩
abbrev main_v26 : Ref sig .tc := ⟨.hbm, 54, rfl⟩
abbrev main_v27 : Ref sig .tc := ⟨.hbm, 55, rfl⟩
abbrev main_v28 : Ref sig .tc := ⟨.hbm, 56, rfl⟩
abbrev main_v29 : Ref sig .tc := ⟨.hbm, 57, rfl⟩
abbrev main_v30 : Ref sig .tc := ⟨.hbm, 58, rfl⟩
abbrev main_call3_v0 : Ref sig .tc := ⟨.hbm, 59, rfl⟩
abbrev main_call3_v1 : Ref sig .tc := ⟨.hbm, 60, rfl⟩
abbrev main_call3_cst : Ref sig .tc := ⟨.hbm, 61, rfl⟩
abbrev main_call3_v2 : Ref sig .tc := ⟨.hbm, 62, rfl⟩
abbrev main_call3_v3 : Ref sig .tc := ⟨.hbm, 63, rfl⟩
abbrev main_call3_cst_0 : Ref sig .tc := ⟨.hbm, 64, rfl⟩
abbrev main_call3_v4 : Ref sig .tc := ⟨.hbm, 65, rfl⟩
abbrev main_call3_v5 : Ref sig .tc := ⟨.hbm, 66, rfl⟩
abbrev main_v31 : Ref sig .tc := ⟨.hbm, 67, rfl⟩
abbrev main_v32 : Ref sig .tc := ⟨.hbm, 68, rfl⟩
abbrev main_v33 : Ref sig .tc := ⟨.hbm, 69, rfl⟩
abbrev main_v34 : Ref sig .tc := ⟨.hbm, 70, rfl⟩
abbrev main_v35 : Ref sig .tc := ⟨.hbm, 71, rfl⟩
abbrev main_v36 : Ref sig .tc := ⟨.hbm, 72, rfl⟩
abbrev main_v37 : Ref sig .tc := ⟨.hbm, 73, rfl⟩
abbrev main_v38 : Ref sig .tc := ⟨.hbm, 74, rfl⟩
abbrev main_v39 : Ref sig .tc := ⟨.hbm, 75, rfl⟩
abbrev main_v40 : Ref sig .tc := ⟨.hbm, 76, rfl⟩
abbrev main_v41 : Ref sig .tc := ⟨.hbm, 77, rfl⟩
abbrev main_v42 : Ref sig .tc := ⟨.hbm, 78, rfl⟩
abbrev main_v43 : Ref sig .tc := ⟨.hbm, 79, rfl⟩
abbrev main_v44 : Ref sig .tc := ⟨.hbm, 80, rfl⟩
abbrev main_v45 : Ref sig .tc := ⟨.hbm, 81, rfl⟩
abbrev main_v46 : Ref sig .tc := ⟨.hbm, 82, rfl⟩

abbrev nD : Nat := 1
abbrev τ : Topo := Topo.v7x

variable {F : FTy → Type} [FloatOps F]
-- ==== Kernel17.lean ====
abbrev S1024x512 : Shape := ⟨2, ![1024, 512]⟩
abbrev S512x4096 : Shape := ⟨2, ![512, 4096]⟩
abbrev S1024x4096 : Shape := ⟨2, ![1024, 4096]⟩
abbrev S512x2048 : Shape := ⟨2, ![512, 2048]⟩
abbrev S1024x2048 : Shape := ⟨2, ![1024, 2048]⟩

abbrev nBuf : Space → Nat
  | .hbm => 3
  | .vmem => 5
  | .smem => 0
  | _ => 0

abbrev bufTy : (tb : Table) → Fin (tcTables nBuf tb) → BufTy
  | .hbm, ⟨0, _⟩ => ⟨S1024x512, .bf16⟩
  | .hbm, ⟨1, _⟩ => ⟨S512x4096, .f32⟩
  | .hbm, ⟨2, _⟩ => ⟨S1024x4096, .bf16⟩
  | .local _ .vmem, ⟨0, _⟩ => ⟨S1024x512, .bf16⟩
  | .local _ .vmem, ⟨1, _⟩ => ⟨S512x2048, .f32⟩
  | .local _ .vmem, ⟨2, _⟩ => ⟨S512x2048, .f32⟩
  | .local _ .vmem, ⟨3, _⟩ => ⟨S1024x2048, .bf16⟩
  | .local _ .vmem, ⟨4, _⟩ => ⟨S1024x2048, .bf16⟩
  | _, _ => ⟨S1024x512, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg1_0 : Ref sig .tc := ⟨.vmem, 1, rfl⟩
abbrev cc0_stg1_1 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨2, ![1, 2], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 1 → Memref sig .tc .vmem S1024x512 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![true, false]

abbrev stage0_1 : Fin 2 → Memref sig .tc .vmem S512x2048 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1024x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, true]
-- ==== Reference17Ideal.lean ====
abbrev S1024x512 : Shape := ⟨2, ![1024, 512]⟩
abbrev S512x4096 : Shape := ⟨2, ![512, 4096]⟩
abbrev S1024x4096 : Shape := ⟨2, ![1024, 4096]⟩

abbrev nBuf : Space → Nat
  | .hbm => 5
  | .vmem => 0
  | .smem => 0
  | _ => 0

abbrev bufTy : (tb : Table) → Fin (tcTables nBuf tb) → BufTy
  | .hbm, ⟨0, _⟩ => ⟨S1024x512, .bf16⟩
  | .hbm, ⟨1, _⟩ => ⟨S512x4096, .f32⟩
  | .hbm, ⟨2, _⟩ => ⟨S1024x512, .f32⟩
  | .hbm, ⟨3, _⟩ => ⟨S1024x4096, .f32⟩
  | .hbm, ⟨4, _⟩ => ⟨S1024x4096, .bf16⟩
  | _, _ => ⟨S1024x512, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]
-- ==== Kernel18.lean ====
abbrev S4x2048x4096 : Shape := ⟨3, ![4, 2048, 4096]⟩
abbrev S4096 : Shape := ⟨1, ![4096]⟩
abbrev S8x1x4096 : Shape := ⟨3, ![8, 1, 4096]⟩
abbrev S1x4096 : Shape := ⟨2, ![1, 4096]⟩
abbrev S8192x4096 : Shape := ⟨2, ![8192, 4096]⟩
abbrev S1x256x4096 : Shape := ⟨3, ![1, 256, 4096]⟩
abbrev S1x1x4096 : Shape := ⟨3, ![1, 1, 4096]⟩
abbrev S256x4096 : Shape := ⟨2, ![256, 4096]⟩
abbrev S256 : Shape := ⟨1, ![256]⟩
abbrev S256x1 : Shape := ⟨2, ![256, 1]⟩

abbrev nBuf : Space → Nat
  | .hbm => 6
  | .vmem => 9
  | .smem => 0
  | _ => 0

abbrev bufTy : (tb : Table) → Fin (tcTables nBuf tb) → BufTy
  | .hbm, ⟨0, _⟩ => ⟨S4x2048x4096, .f32⟩
  | .hbm, ⟨1, _⟩ => ⟨S4096, .f32⟩
  | .hbm, ⟨2, _⟩ => ⟨S8x1x4096, .f32⟩
  | .hbm, ⟨3, _⟩ => ⟨S8x1x4096, .f32⟩
  | .hbm, ⟨4, _⟩ => ⟨S1x4096, .f32⟩
  | .hbm, ⟨5, _⟩ => ⟨S8192x4096, .bf16⟩
  | .local _ .vmem, ⟨0, _⟩ => ⟨S1x256x4096, .f32⟩
  | .local _ .vmem, ⟨1, _⟩ => ⟨S1x256x4096, .f32⟩
  | .local _ .vmem, ⟨2, _⟩ => ⟨S1x4096, .f32⟩
  | .local _ .vmem, ⟨3, _⟩ => ⟨S1x1x4096, .f32⟩
  | .local _ .vmem, ⟨4, _⟩ => ⟨S1x1x4096, .f32⟩
  | .local _ .vmem, ⟨5, _⟩ => ⟨S1x1x4096, .f32⟩
  | .local _ .vmem, ⟨6, _⟩ => ⟨S1x1x4096, .f32⟩
  | .local _ .vmem, ⟨7, _⟩ => ⟨S256x4096, .bf16⟩
  | .local _ .vmem, ⟨8, _⟩ => ⟨S256x4096, .bf16⟩
  | _, _ => ⟨S4x2048x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c8_i32_4 : BitVec 32 := 8#32
  let c0_i32_5 : BitVec 32 := 0#32
  let v17 : BitVec 1 := Scalar.cmpi .eq c8_i32_4 c0_i32_5
  let c1_i32_6 : BitVec 32 := 1#32
  let v18 : BitVec 32 := Scalar.select v17 c1_i32_6 c8_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  ![v16.toNat, v26.toNat, c0_i32_10.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c256_i32 : BitVec 32 := 256#32
  let v0 : BitVec 32 := Scalar.muli arg0 c256_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_3 (i : grid0.Coords) : Fin 3 → Nat :=
  let arg0 : BitVec 32 := BitVec.ofNat 32 (i 0).val
  let c256_i32 : BitVec 32 := 256#32
  let v0 : BitVec 32 := Scalar.muli arg0 c256_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S1x256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference18Ideal.lean ====
abbrev S4x2048x4096 : Shape := ⟨3, ![4, 2048, 4096]⟩
abbrev S4096 : Shape := ⟨1, ![4096]⟩
abbrev S8x1x4096 : Shape := ⟨3, ![8, 1, 4096]⟩
abbrev S_ : Shape := ⟨0, ![]⟩
abbrev S4x2048 : Shape := ⟨2, ![4, 2048]⟩
abbrev S4x2048x1 : Shape := ⟨3, ![4, 2048, 1]⟩
abbrev S1x1x4096 : Shape := ⟨3, ![1, 1, 4096]⟩
abbrev S4x1x4096 : Shape := ⟨3, ![4, 1, 4096]⟩
abbrev S4x4096 : Shape := ⟨2, ![4, 4096]⟩
abbrev S8192x4096 : Shape := ⟨2, ![8192, 4096]⟩

abbrev nBuf : Space → Nat
  | .hbm => 35
  | .vmem => 0
  | .smem => 0
  | _ => 0

abbrev bufTy : (tb : Table) → Fin (tcTables nBuf tb) → BufTy
  | .hbm, ⟨0, _⟩ => ⟨S4x2048x4096, .f32⟩
  | .hbm, ⟨1, _⟩ => ⟨S4096, .f32⟩
  | .hbm, ⟨2, _⟩ => ⟨S8x1x4096, .f32⟩
  | .hbm, ⟨3, _⟩ => ⟨S8x1x4096, .f32⟩
  | .hbm, ⟨4, _⟩ => ⟨S4x2048x4096, .f32⟩
  | .hbm, ⟨5, _⟩ => ⟨S_, .f32⟩
  | .hbm, ⟨6, _⟩ => ⟨S4x2048, .f32⟩
  | .hbm, ⟨7, _⟩ => ⟨S4x2048x1, .f32⟩
  | .hbm, ⟨8, _⟩ => ⟨S_, .f32⟩
  | .hbm, ⟨9, _⟩ => ⟨S4x2048x1, .f32⟩
  | .hbm, ⟨10, _⟩ => ⟨S4x2048x1, .f32⟩
  | .hbm, ⟨11, _⟩ => ⟨S_, .f32⟩
  | .hbm, ⟨12, _⟩ => ⟨S4x2048x1, .f32⟩
  | .hbm, ⟨13, _⟩ => ⟨S4x2048x1, .f32⟩
  | .hbm, ⟨14, _⟩ => ⟨S4x2048x1, .f32⟩
  | .hbm, ⟨15, _⟩ => ⟨S4x2048x4096, .f32⟩
  | .hbm, ⟨16, _⟩ => ⟨S4x2048x4096, .f32⟩
  | .hbm, ⟨17, _⟩ => ⟨S1x1x4096, .f32⟩
  | .hbm, ⟨18, _⟩ => ⟨S4x2048x4096, .f32⟩
  | .hbm, ⟨19, _⟩ => ⟨S4x2048x4096, .f32⟩
  | .hbm, ⟨20, _⟩ => ⟨S4x1x4096, .f32⟩
  | .hbm, ⟨21, _⟩ => ⟨S4x4096, .f32⟩
  | .hbm, ⟨22, _⟩ => ⟨S4x1x4096, .f32⟩
  | .hbm, ⟨23, _⟩ => ⟨S4x4096, .f32⟩
  | .hbm, ⟨24, _⟩ => ⟨S4x1x4096, .f32⟩
  | .hbm, ⟨25, _⟩ => ⟨S_, .f32⟩
  | .hbm, ⟨26, _⟩ => ⟨S4x1x4096, .f32⟩
  | .hbm, ⟨27, _⟩ => ⟨S4x1x4096, .f32⟩
  | .hbm, ⟨28, _⟩ => ⟨S4x2048x4096, .f32⟩
  | .hbm, ⟨29, _⟩ => ⟨S4x2048x4096, .f32⟩
  | .hbm, ⟨30, _⟩ => ⟨S4x1x4096, .f32⟩
  | .hbm, ⟨31, _⟩ => ⟨S4x2048x4096, .f32⟩
  | .hbm, ⟨32, _⟩ => ⟨S4x2048x4096, .f32⟩
  | .hbm, ⟨33, _⟩ => ⟨S8192x4096, .f32⟩
  | .hbm, ⟨34, _⟩ => ⟨S8192x4096, .bf16⟩
  | _, _ => ⟨S4x2048x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_cst : Ref sig .tc := ⟨.hbm, 5, rfl⟩
abbrev main_v1 : Ref sig .tc := ⟨.hbm, 6, rfl⟩
abbrev main_v2 : Ref sig .tc := ⟨.hbm, 7, rfl⟩
abbrev main_cst_0 : Ref sig .tc := ⟨.hbm, 8, rfl⟩
abbrev main_v3 : Ref sig .tc := ⟨.hbm, 9, rfl⟩
abbrev main_v4 : Ref sig .tc := ⟨.hbm, 10, rfl⟩
abbrev main_cst_1 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_cst_2 : Ref sig .tc := ⟨.hbm, 25, rfl⟩
abbrev main_v18 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩

abbrev nD : Nat := 1
abbrev τ : Topo := Topo.v7x

variable {F : FTy → Type} [FloatOps F]
-- ==== Kernel19.lean ====
abbrev S1024x4096 : Shape := ⟨2, ![1024, 4096]⟩
abbrev S4096 : Shape := ⟨1, ![4096]⟩
abbrev S8x1x4096 : Shape := ⟨3, ![8, 1, 4096]⟩
abbrev S1x4096 : Shape := ⟨2, ![1, 4096]⟩
abbrev S256x4096 : Shape := ⟨2, ![256, 4096]⟩
abbrev S1x1x4096 : Shape := ⟨3, ![1, 1, 4096]⟩
abbrev S256 : Shape := ⟨1, ![256]⟩
abbrev S256x1 : Shape := ⟨2, ![256, 1]⟩

abbrev nBuf : Space → Nat
  | .hbm => 6
  | .vmem => 7
  | .smem => 0
  | _ => 0

abbrev bufTy : (tb : Table) → Fin (tcTables nBuf tb) → BufTy
  | .hbm, ⟨0, _⟩ => ⟨S1024x4096, .f32⟩
  | .hbm, ⟨1, _⟩ => ⟨S4096, .f32⟩
  | .hbm, ⟨2, _⟩ => ⟨S8x1x4096, .f32⟩
  | .hbm, ⟨3, _⟩ => ⟨S8x1x4096, .f32⟩
  | .hbm, ⟨4, _⟩ => ⟨S1x4096, .f32⟩
  | .hbm, ⟨5, _⟩ => ⟨S1024x4096, .bf16⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S1x1x4096, .f32⟩
  | .local _ .vmem, ⟨4, _⟩ => ⟨S1x1x4096, .f32⟩
  | .local _ .vmem, ⟨5, _⟩ => ⟨S256x4096, .bf16⟩
  | .local _ .vmem, ⟨6, _⟩ => ⟨S256x4096, .bf16⟩
  | _, _ => ⟨S1024x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | _, _ => false

abbrev semScoped : Fin 0 → Bool
  | ⟨_, h⟩ => absurd h (Nat.not_lt_zero _)

abbrev dmaSemScoped : Fin 7 → Bool
  | ⟨0, _⟩ => true
  | ⟨1, _⟩ => true
  | ⟨2, _⟩ => true
  | ⟨3, _⟩ => true
  | ⟨4, _⟩ => true
  | ⟨5, _⟩ => true
  | ⟨6, _⟩ => true
  | _ => false

abbrev sig : RefSig :=
  ofTc nBuf bufTy 0 7 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg4_1 : Ref sig .tc := ⟨.vmem, 6, rfl⟩
abbrev cc0_sem0_0 : DmaSem sig := 0
abbrev cc0_sem0_1 : DmaSem sig := 1
abbrev cc0_sem1_0 : DmaSem sig := 2
abbrev cc0_sem2_0 : DmaSem sig := 3
abbrev cc0_sem3_0 : DmaSem sig := 4
abbrev cc0_sem4_0 : DmaSem sig := 5
abbrev cc0_sem4_1 : DmaSem sig := 6

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c4_i32 : BitVec 32 := 4#32
  let c0_i32 : BitVec 32 := 0#32
  let c0_i32_0 : BitVec 32 := 0#32
  let c0_i32_1 : BitVec 32 := 0#32
  ![c4_i32.toNat, c0_i32.toNat, c0_i32_0.toNat]

def cc0_transform_3 (i : grid0.Coords) : Fin 3 → Nat :=
  let arg0 : BitVec 32 := BitVec.ofNat 32 (i 0).val
  let c4_i32 : BitVec 32 := 4#32
  let c0_i32 : BitVec 32 := 0#32
  let c0_i32_0 : BitVec 32 := 0#32
  let c0_i32_1 : BitVec 32 := 0#32
  ![c4_i32.toNat, c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1x4096 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x1x4096 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S256x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference19Ideal.lean ====
abbrev S1024x4096 : Shape := ⟨2, ![1024, 4096]⟩
abbrev S4096 : Shape := ⟨1, ![4096]⟩
abbrev S8x1x4096 : Shape := ⟨3, ![8, 1, 4096]⟩
abbrev S4x256x4096 : Shape := ⟨3, ![4, 256, 4096]⟩
abbrev S_ : Shape := ⟨0, ![]⟩
abbrev S4x256 : Shape := ⟨2, ![4, 256]⟩
abbrev S4x256x1 : Shape := ⟨3, ![4, 256, 1]⟩
abbrev S1x1x4096 : Shape := ⟨3, ![1, 1, 4096]⟩
abbrev S1x4096 : Shape := ⟨2, ![1, 4096]⟩

abbrev nBuf : Space → Nat
  | .hbm => 36
  | .vmem => 0
  | .smem => 0
  | _ => 0

abbrev bufTy : (tb : Table) → Fin (tcTables nBuf tb) → BufTy
  | .hbm, ⟨0, _⟩ => ⟨S1024x4096, .f32⟩
  | .hbm, ⟨1, _⟩ => ⟨S4096, .f32⟩
  | .hbm, ⟨2, _⟩ => ⟨S8x1x4096, .f32⟩
  | .hbm, ⟨3, _⟩ => ⟨S8x1x4096, .f32⟩
  | .hbm, ⟨4, _⟩ => ⟨S4x256x4096, .f32⟩
  | .hbm, ⟨5, _⟩ => ⟨S4x256x4096, .f32⟩
  | .hbm, ⟨6, _⟩ => ⟨S_, .f32⟩
  | .hbm, ⟨7, _⟩ => ⟨S4x256, .f32⟩
  | .hbm, ⟨8, _⟩ => ⟨S4x256x1, .f32⟩
  | .hbm, ⟨9, _⟩ => ⟨S_, .f32⟩
  | .hbm, ⟨10, _⟩ => ⟨S4x256x1, .f32⟩
  | .hbm, ⟨11, _⟩ => ⟨S4x256x1, .f32⟩
  | .hbm, ⟨12, _⟩ => ⟨S_, .f32⟩
  | .hbm, ⟨13, _⟩ => ⟨S4x256x1, .f32⟩
  | .hbm, ⟨14, _⟩ => ⟨S4x256x1, .f32⟩
  | .hbm, ⟨15, _⟩ => ⟨S4x256x1, .f32⟩
  | .hbm, ⟨16, _⟩ => ⟨S4x256x4096, .f32⟩
  | .hbm, ⟨17, _⟩ => ⟨S4x256x4096, .f32⟩
  | .hbm, ⟨18, _⟩ => ⟨S1x1x4096, .f32⟩
  | .hbm, ⟨19, _⟩ => ⟨S4x256x4096, .f32⟩
  | .hbm, ⟨20, _⟩ => ⟨S4x256x4096, .f32⟩
  | .hbm, ⟨21, _⟩ => ⟨S1x1x4096, .f32⟩
  | .hbm, ⟨22, _⟩ => ⟨S1x4096, .f32⟩
  | .hbm, ⟨23, _⟩ => ⟨S1x1x4096, .f32⟩
  | .hbm, ⟨24, _⟩ => ⟨S1x4096, .f32⟩
  | .hbm, ⟨25, _⟩ => ⟨S1x1x4096, .f32⟩
  | .hbm, ⟨26, _⟩ => ⟨S_, .f32⟩
  | .hbm, ⟨27, _⟩ => ⟨S1x1x4096, .f32⟩
  | .hbm, ⟨28, _⟩ => ⟨S1x1x4096, .f32⟩
  | .hbm, ⟨29, _⟩ => ⟨S4x256x4096, .f32⟩
  | .hbm, ⟨30, _⟩ => ⟨S4x256x4096, .f32⟩
  | .hbm, ⟨31, _⟩ => ⟨S1x1x4096, .f32⟩
  | .hbm, ⟨32, _⟩ => ⟨S4x256x4096, .f32⟩
  | .hbm, ⟨33, _⟩ => ⟨S4x256x4096, .f32⟩
  | .hbm, ⟨34, _⟩ => ⟨S1024x4096, .f32⟩
  | .hbm, ⟨35, _⟩ => ⟨S1024x4096, .bf16⟩
  | _, _ => ⟨S1024x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩

abbrev nD : Nat := 1
abbrev τ : Topo := Topo.v7x

variable {F : FTy → Type} [FloatOps F]
-- ==== Kernel20.lean ====
abbrev S8192x4096 : Shape := ⟨2, ![8192, 4096]⟩
abbrev S4096 : Shape := ⟨1, ![4096]⟩
abbrev S8x1x4096 : Shape := ⟨3, ![8, 1, 4096]⟩
abbrev S1x4096 : Shape := ⟨2, ![1, 4096]⟩
abbrev S256x4096 : Shape := ⟨2, ![256, 4096]⟩
abbrev S1x1x4096 : Shape := ⟨3, ![1, 1, 4096]⟩
abbrev S256 : Shape := ⟨1, ![256]⟩
abbrev S256x1 : Shape := ⟨2, ![256, 1]⟩

abbrev nBuf : Space → Nat
  | .hbm => 6
  | .vmem => 9
  | .smem => 0
  | _ => 0

abbrev bufTy : (tb : Table) → Fin (tcTables nBuf tb) → BufTy
  | .hbm, ⟨0, _⟩ => ⟨S8192x4096, .f32⟩
  | .hbm, ⟨1, _⟩ => ⟨S4096, .f32⟩
  | .hbm, ⟨2, _⟩ => ⟨S8x1x4096, .f32⟩
  | .hbm, ⟨3, _⟩ => ⟨S8x1x4096, .f32⟩
  | .hbm, ⟨4, _⟩ => ⟨S1x4096, .f32⟩
  | .hbm, ⟨5, _⟩ => ⟨S8192x4096, .bf16⟩
  | .local _ .vmem, ⟨0, _⟩ => ⟨S256x4096, .f32⟩
  | .local _ .vmem, ⟨1, _⟩ => ⟨S256x4096, .f32⟩
  | .local _ .vmem, ⟨2, _⟩ => ⟨S1x4096, .f32⟩
  | .local _ .vmem, ⟨3, _⟩ => ⟨S1x1x4096, .f32⟩
  | .local _ .vmem, ⟨4, _⟩ => ⟨S1x1x4096, .f32⟩
  | .local _ .vmem, ⟨5, _⟩ => ⟨S1x1x4096, .f32⟩
  | .local _ .vmem, ⟨6, _⟩ => ⟨S1x1x4096, .f32⟩
  | .local _ .vmem, ⟨7, _⟩ => ⟨S256x4096, .bf16⟩
  | .local _ .vmem, ⟨8, _⟩ => ⟨S256x4096, .bf16⟩
  | _, _ => ⟨S8192x4096, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | _, _ => false

abbrev semScoped : Fin 0 → Bool
  | ⟨_, h⟩ => absurd h (Nat.not_lt_zero _)

abbrev dmaSemScoped : Fin 9 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | _ => false

abbrev sig : RefSig :=
  ofTc nBuf bufTy 0 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem3_1 : DmaSem sig := 6
abbrev cc0_sem4_0 : DmaSem sig := 7
abbrev cc0_sem4_1 : DmaSem sig := 8

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c256_i32 : BitVec 32 := 256#32
  let v0 : BitVec 32 := Scalar.muli arg0 c256_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_3 (i : grid0.Coords) : Fin 3 → Nat :=
  let arg0 : BitVec 32 := BitVec.ofNat 32 (i 0).val
  let c256_i32 : BitVec 32 := 256#32
  let v0 : BitVec 32 := Scalar.muli arg0 c256_i32
  let c2048_i32 : BitVec 32 := 2048#32
  let v1 : BitVec 32 := Scalar.divsi v0 c2048_i32
  let c0_i32 : BitVec 32 := 0#32
  let v2 : BitVec 1 := Scalar.cmpi .sgt v0 c0_i32
  let v3 : BitVec 32 := Scalar.extui v2
  let c0_i32_0 : BitVec 32 := 0#32
  let v4 : BitVec 1 := Scalar.cmpi .slt v0 c0_i32_0
  let v5 : BitVec 32 := Scalar.extui v4
  let v6 : BitVec 32 := Scalar.subi v3 v5
  let c0_i32_1 : BitVec 32 := 0#32
  let v7 : BitVec 1 := Scalar.cmpi .sgt c2048_i32 c0_i32_1
  let v8 : BitVec 32 := Scalar.extui v7
  let c0_i32_2 : BitVec 32 := 0#32
  let v9 : BitVec 1 := Scalar.cmpi .slt c2048_i32 c0_i32_2
  let v10 : BitVec 32 := Scalar.extui v9
  let v11 : BitVec 32 := Scalar.subi v8 v10
  let v12 : BitVec 1 := Scalar.cmpi .ne v6 v11
  let v13 : BitVec 32 := Scalar.remsi v0 c2048_i32
  let c0_i32_3 : BitVec 32 := 0#32
  let v14 : BitVec 1 := Scalar.cmpi .ne v13 c0_i32_3
  let v15 : BitVec 1 := Scalar.andi v12 v14
  let c1_i32 : BitVec 32 := 1#32
  let v16 : BitVec 32 := Scalar.subi v1 c1_i32
  let v17 : BitVec 32 := Scalar.select v15 v16 v1
  let c0_i32_4 : BitVec 32 := 0#32
  let c0_i32_5 : BitVec 32 := 0#32
  let c0_i32_6 : BitVec 32 := 0#32
  ![v17.toNat, c0_i32_4.toNat, c0_i32_5.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x4096 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x4096 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1x4096 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x1x4096 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x4096 .bf16 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]
-- ==== Reference20Ideal.lean ====
abbrev S8192x4096 : Shape := ⟨2, ![8192, 4096]⟩
abbrev S4096 : Shape := ⟨1, ![4096]⟩
abbrev S8x1x4096 : Shape := ⟨3, ![8, 1, 4096]⟩
abbrev S4x2048x4096 : Shape := ⟨3, ![4, 2048, 4096]⟩
abbrev S_ : Shape := ⟨0, ![]⟩
abbrev S4x2048 : Shape := ⟨2, ![4, 2048]⟩
abbrev S4x2048x1 : Shape := ⟨3, ![4, 2048, 1]⟩
abbrev S1x1x4096 : Shape := ⟨3, ![1, 1, 4096]⟩
abbrev S4x1x4096 : Shape := ⟨3, ![4, 1, 4096]⟩
abbrev S4x4096 : Shape := ⟨2, ![4, 4096]⟩

abbrev nBuf : Space → Nat
  | .hbm => 36
  | .vmem => 0
  | .smem => 0
  | _ => 0

abbrev bufTy : (tb : Table) → Fin (tcTables nBuf tb) → BufTy
  | .hbm, ⟨0, _⟩ => ⟨S8192x4096, .f32⟩
  | .hbm, ⟨1, _⟩ => ⟨S4096, .f32⟩
  | .hbm, ⟨2, _⟩ => ⟨S8x1x4096, .f32⟩
  | .hbm, ⟨3, _⟩ => ⟨S8x1x4096, .f32⟩
  | .hbm, ⟨4, _⟩ => ⟨S4x2048x4096, .f32⟩
  | .hbm, ⟨5, _⟩ => ⟨S4x2048x4096, .f32⟩
  | .hbm, ⟨6, _⟩ => ⟨S_, .f32⟩
  | .hbm, ⟨7, _⟩ => ⟨S4x2048, .f32⟩
  | .hbm, ⟨8, _⟩ => ⟨S4x2048x1, .f32⟩
  | .hbm, ⟨9, _⟩ => ⟨S_, .f32⟩
  | .hbm, ⟨10, _⟩ => ⟨S4x2048x1, .f32⟩
  | .hbm, ⟨11, _⟩ => ⟨S4x2048x1, .f32⟩
  | .hbm, ⟨12, _⟩ => ⟨S_, .f32⟩
  | .hbm, ⟨13, _⟩ => ⟨S4x2048x1, .f32⟩
  | .hbm, ⟨14, _⟩ => ⟨S4x2048x1, .f32⟩
  | .hbm, ⟨15, _⟩ => ⟨S4x2048x1, .f32⟩
  | .hbm, ⟨16, _⟩ => ⟨S4x2048x4096, .f32⟩
  | .hbm, ⟨17, _⟩ => ⟨S4x2048x4096, .f32⟩
  | .hbm, ⟨18, _⟩ => ⟨S1x1x4096, .f32⟩
  | .hbm, ⟨19, _⟩ => ⟨S4x2048x4096, .f32⟩
  | .hbm, ⟨20, _⟩ => ⟨S4x2048x4096, .f32⟩
  | .hbm, ⟨21, _⟩ => ⟨S4x1x4096, .f32⟩
  | .hbm, ⟨22, _⟩ => ⟨S4x4096, .f32⟩
  | .hbm, ⟨23, _⟩ => ⟨S4x1x4096, .f32⟩
  | .hbm, ⟨24, _⟩ => ⟨S4x4096, .f32⟩
  | .hbm, ⟨25, _⟩ => ⟨S4x1x4096, .f32⟩
  | .hbm, ⟨26, _⟩ => ⟨S_, .f32⟩
  | .hbm, ⟨27, _⟩ => ⟨S4x1x4096, .f32⟩
  | .hbm, ⟨28, _⟩ => ⟨S4x1x4096, .f32⟩
  | .hbm, ⟨29, _⟩ => ⟨S4x2048x4096, .f32⟩
  | .hbm, ⟨30, _⟩ => ⟨S4x2048x4096, .f32⟩
  | .hbm, ⟨31, _⟩ => ⟨S4x1x4096, .f32⟩
  | .hbm, ⟨32, _⟩ => ⟨S4x2048x4096, .f32⟩
  | .hbm, ⟨33, _⟩ => ⟨S4x2048x4096, .f32⟩
  | .hbm, ⟨34, _⟩ => ⟨S8192x4096, .f32⟩
  | .hbm, ⟨35, _⟩ => ⟨S8192x4096, .bf16⟩
  | _, _ => ⟨S8192x4096, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_cst : Ref sig .tc := ⟨.hbm, 6, rfl⟩
abbrev main_v2 : Ref sig .tc := ⟨.hbm, 7, rfl⟩
abbrev main_v3 : Ref sig .tc := ⟨.hbm, 8, rfl⟩
abbrev main_cst_0 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev main_cst_2 : Ref sig .tc := ⟨.hbm, 26, rfl⟩
abbrev main_v19 : Ref sig .tc := ⟨.hbm, 27, rfl⟩
abbrev main_v20 : Ref sig .tc := ⟨.hbm, 28, rfl⟩
abbrev main_v21 : Ref sig .tc := ⟨.hbm, 29, rfl⟩
abbrev main_v22 : Ref sig .tc := ⟨.hbm, 30, rfl⟩
abbrev main_v23 : Ref sig .tc := ⟨.hbm, 31, rfl⟩
abbrev main_v24 : Ref sig .tc := ⟨.hbm, 32, rfl⟩
abbrev main_v25 : Ref sig .tc := ⟨.hbm, 33, rfl⟩
abbrev main_v26 : Ref sig .tc := ⟨.hbm, 34, rfl⟩
abbrev main_v27 : Ref sig .tc := ⟨.hbm, 35, rfl⟩

abbrev nD : Nat := 1
abbrev τ : Topo := Topo.v7x

variable {F : FTy → Type} [FloatOps F]
-- ==== Kernel21.lean ====
abbrev S8192x7680 : Shape := ⟨2, ![8192, 7680]⟩
abbrev S1024 : Shape := ⟨1, ![1024]⟩
abbrev S1x1024 : Shape := ⟨2, ![1, 1024]⟩
abbrev S8192x1024 : Shape := ⟨2, ![8192, 1024]⟩
abbrev S256x1024 : Shape := ⟨2, ![256, 1024]⟩
abbrev S256 : Shape := ⟨1, ![256]⟩
abbrev S256x1 : Shape := ⟨2, ![256, 1]⟩

abbrev nBuf : Space → Nat
  | .hbm => 4
  | .vmem => 5
  | .smem => 0
  | _ => 0

abbrev bufTy : (tb : Table) → Fin (tcTables nBuf tb) → BufTy
  | .hbm, ⟨0, _⟩ => ⟨S8192x7680, .f32⟩
  | .hbm, ⟨1, _⟩ => ⟨S1024, .f32⟩
  | .hbm, ⟨2, _⟩ => ⟨S1x1024, .f32⟩
  | .hbm, ⟨3, _⟩ => ⟨S8192x1024, .bf16⟩
  | .local _ .vmem, ⟨0, _⟩ => ⟨S256x1024, .f32⟩
  | .local _ .vmem, ⟨1, _⟩ => ⟨S256x1024, .f32⟩
  | .local _ .vmem, ⟨2, _⟩ => ⟨S1x1024, .f32⟩
  | .local _ .vmem, ⟨3, _⟩ => ⟨S256x1024, .bf16⟩
  | .local _ .vmem, ⟨4, _⟩ => ⟨S256x1024, .bf16⟩
  | _, _ => ⟨S8192x7680, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c6_i32 : BitVec 32 := 6#32
  let c0_i32 : BitVec 32 := 0#32
  ![arg0.toNat, c6_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x1024 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x1024 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference21Ideal.lean ====
abbrev S8192x7680 : Shape := ⟨2, ![8192, 7680]⟩
abbrev S1024 : Shape := ⟨1, ![1024]⟩
abbrev S8192x1024 : Shape := ⟨2, ![8192, 1024]⟩
abbrev S_ : Shape := ⟨0, ![]⟩
abbrev S8192 : Shape := ⟨1, ![8192]⟩
abbrev S8192x1 : Shape := ⟨2, ![8192, 1]⟩
abbrev S1x1024 : Shape := ⟨2, ![1, 1024]⟩

abbrev nBuf : Space → Nat
  | .hbm => 20
  | .vmem => 0
  | .smem => 0
  | _ => 0

abbrev bufTy : (tb : Table) → Fin (tcTables nBuf tb) → BufTy
  | .hbm, ⟨0, _⟩ => ⟨S8192x7680, .f32⟩
  | .hbm, ⟨1, _⟩ => ⟨S1024, .f32⟩
  | .hbm, ⟨2, _⟩ => ⟨S8192x1024, .f32⟩
  | .hbm, ⟨3, _⟩ => ⟨S8192x1024, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x1024, .f32⟩
  | .hbm, ⟨15, _⟩ => ⟨S8192x1024, .f32⟩
  | .hbm, ⟨16, _⟩ => ⟨S1x1024, .f32⟩
  | .hbm, ⟨17, _⟩ => ⟨S8192x1024, .f32⟩
  | .hbm, ⟨18, _⟩ => ⟨S8192x1024, .f32⟩
  | .hbm, ⟨19, _⟩ => ⟨S8192x1024, .bf16⟩
  | _, _ => ⟨S8192x7680, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== Kernel22.lean ====
abbrev S8192x7680 : Shape := ⟨2, ![8192, 7680]⟩
abbrev S512 : Shape := ⟨1, ![512]⟩
abbrev S1x512 : Shape := ⟨2, ![1, 512]⟩
abbrev S8192x512 : Shape := ⟨2, ![8192, 512]⟩
abbrev S256x512 : Shape := ⟨2, ![256, 512]⟩
abbrev S256 : Shape := ⟨1, ![256]⟩
abbrev S256x1 : Shape := ⟨2, ![256, 1]⟩

abbrev nBuf : Space → Nat
  | .hbm => 4
  | .vmem => 5
  | .smem => 0
  | _ => 0

abbrev bufTy : (tb : Table) → Fin (tcTables nBuf tb) → BufTy
  | .hbm, ⟨0, _⟩ => ⟨S8192x7680, .f32⟩
  | .hbm, ⟨1, _⟩ => ⟨S512, .f32⟩
  | .hbm, ⟨2, _⟩ => ⟨S1x512, .f32⟩
  | .hbm, ⟨3, _⟩ => ⟨S8192x512, .bf16⟩
  | .local _ .vmem, ⟨0, _⟩ => ⟨S256x512, .f32⟩
  | .local _ .vmem, ⟨1, _⟩ => ⟨S256x512, .f32⟩
  | .local _ .vmem, ⟨2, _⟩ => ⟨S1x512, .f32⟩
  | .local _ .vmem, ⟨3, _⟩ => ⟨S256x512, .bf16⟩
  | .local _ .vmem, ⟨4, _⟩ => ⟨S256x512, .bf16⟩
  | _, _ => ⟨S8192x7680, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c14_i32 : BitVec 32 := 14#32
  let c0_i32 : BitVec 32 := 0#32
  ![arg0.toNat, c14_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference22Ideal.lean ====
abbrev S8192x7680 : Shape := ⟨2, ![8192, 7680]⟩
abbrev S512 : Shape := ⟨1, ![512]⟩
abbrev S8192x512 : Shape := ⟨2, ![8192, 512]⟩
abbrev S_ : Shape := ⟨0, ![]⟩
abbrev S8192 : Shape := ⟨1, ![8192]⟩
abbrev S8192x1 : Shape := ⟨2, ![8192, 1]⟩
abbrev S1x512 : Shape := ⟨2, ![1, 512]⟩

abbrev nBuf : Space → Nat
  | .hbm => 20
  | .vmem => 0
  | .smem => 0
  | _ => 0

abbrev bufTy : (tb : Table) → Fin (tcTables nBuf tb) → BufTy
  | .hbm, ⟨0, _⟩ => ⟨S8192x7680, .f32⟩
  | .hbm, ⟨1, _⟩ => ⟨S512, .f32⟩
  | .hbm, ⟨2, _⟩ => ⟨S8192x512, .f32⟩
  | .hbm, ⟨3, _⟩ => ⟨S8192x512, .f32⟩
  | .hbm, ⟨4, _⟩ => ⟨S_, .f32⟩
  | .hbm, ⟨5, _⟩ => ⟨S8192, .f32⟩
  | .hbm, ⟨6, _⟩ => ⟨S8192x1, .f32⟩
  | .hbm, ⟨7, _⟩ => ⟨S_, .f32⟩
  | .hbm, ⟨8, _⟩ => ⟨S8192x1, .f32⟩
  | .hbm, ⟨9, _⟩ => ⟨S8192x1, .f32⟩
  | .hbm, ⟨10, _⟩ => ⟨S_, .f32⟩
  | .hbm, ⟨11, _⟩ => ⟨S8192x1, .f32⟩
  | .hbm, ⟨12, _⟩ => ⟨S8192x1, .f32⟩
  | .hbm, ⟨13, _⟩ => ⟨S8192x1, .f32⟩
  | .hbm, ⟨14, _⟩ => ⟨S8192x512, .f32⟩
  | .hbm, ⟨15, _⟩ => ⟨S8192x512, .f32⟩
  | .hbm, ⟨16, _⟩ => ⟨S1x512, .f32⟩
  | .hbm, ⟨17, _⟩ => ⟨S8192x512, .f32⟩
  | .hbm, ⟨18, _⟩ => ⟨S8192x512, .f32⟩
  | .hbm, ⟨19, _⟩ => ⟨S8192x512, .bf16⟩
  | _, _ => ⟨S8192x7680, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== Kernel23.lean ====
abbrev S1024x7680 : Shape := ⟨2, ![1024, 7680]⟩
abbrev S512 : Shape := ⟨1, ![512]⟩
abbrev S1x512 : Shape := ⟨2, ![1, 512]⟩
abbrev S1024x512 : Shape := ⟨2, ![1024, 512]⟩
abbrev S256x512 : Shape := ⟨2, ![256, 512]⟩
abbrev S256 : Shape := ⟨1, ![256]⟩
abbrev S256x1 : Shape := ⟨2, ![256, 1]⟩

abbrev nBuf : Space → Nat
  | .hbm => 4
  | .vmem => 5
  | .smem => 0
  | _ => 0

abbrev bufTy : (tb : Table) → Fin (tcTables nBuf tb) → BufTy
  | .hbm, ⟨0, _⟩ => ⟨S1024x7680, .f32⟩
  | .hbm, ⟨1, _⟩ => ⟨S512, .f32⟩
  | .hbm, ⟨2, _⟩ => ⟨S1x512, .f32⟩
  | .hbm, ⟨3, _⟩ => ⟨S1024x512, .bf16⟩
  | .local _ .vmem, ⟨0, _⟩ => ⟨S256x512, .f32⟩
  | .local _ .vmem, ⟨1, _⟩ => ⟨S256x512, .f32⟩
  | .local _ .vmem, ⟨2, _⟩ => ⟨S1x512, .f32⟩
  | .local _ .vmem, ⟨3, _⟩ => ⟨S256x512, .bf16⟩
  | .local _ .vmem, ⟨4, _⟩ => ⟨S256x512, .bf16⟩
  | _, _ => ⟨S1024x7680, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | _, _ => false

abbrev semScoped : Fin 0 → Bool
  | ⟨_, h⟩ => absurd h (Nat.not_lt_zero _)

abbrev dmaSemScoped : Fin 5 → Bool
  | ⟨0, _⟩ => true
  | ⟨1, _⟩ => true
  | ⟨2, _⟩ => true
  | ⟨3, _⟩ => true
  | ⟨4, _⟩ => true
  | _ => false

abbrev sig : RefSig :=
  ofTc nBuf bufTy 0 5 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4

abbrev nD : Nat := 1
abbrev τ : Topo := Topo.v7x

variable {F : FTy → Type} [FloatOps F]

abbrev grid0 : Pipeline.Grid := ⟨1, ![4], ![false]⟩

def cc0_transform_0 (i : grid0.Coords) : Fin 2 → Nat :=
  let arg0 : BitVec 32 := BitVec.ofNat 32 (i 0).val
  let c14_i32 : BitVec 32 := 14#32
  let c0_i32 : BitVec 32 := 0#32
  ![arg0.toNat, c14_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x512 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S1x512 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S256x512 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]
-- ==== Reference23Ideal.lean ====
abbrev S1024x7680 : Shape := ⟨2, ![1024, 7680]⟩
abbrev S512 : Shape := ⟨1, ![512]⟩
abbrev S1024x512 : Shape := ⟨2, ![1024, 512]⟩
abbrev S_ : Shape := ⟨0, ![]⟩
abbrev S1024 : Shape := ⟨1, ![1024]⟩
abbrev S1024x1 : Shape := ⟨2, ![1024, 1]⟩
abbrev S1x512 : Shape := ⟨2, ![1, 512]⟩

abbrev nBuf : Space → Nat
  | .hbm => 20
  | .vmem => 0
  | .smem => 0
  | _ => 0

abbrev bufTy : (tb : Table) → Fin (tcTables nBuf tb) → BufTy
  | .hbm, ⟨0, _⟩ => ⟨S1024x7680, .f32⟩
  | .hbm, ⟨1, _⟩ => ⟨S512, .f32⟩
  | .hbm, ⟨2, _⟩ => ⟨S1024x512, .f32⟩
  | .hbm, ⟨3, _⟩ => ⟨S1024x512, .f32⟩
  | .hbm, ⟨4, _⟩ => ⟨S_, .f32⟩
  | .hbm, ⟨5, _⟩ => ⟨S1024, .f32⟩
  | .hbm, ⟨6, _⟩ => ⟨S1024x1, .f32⟩
  | .hbm, ⟨7, _⟩ => ⟨S_, .f32⟩
  | .hbm, ⟨8, _⟩ => ⟨S1024x1, .f32⟩
  | .hbm, ⟨9, _⟩ => ⟨S1024x1, .f32⟩
  | .hbm, ⟨10, _⟩ => ⟨S_, .f32⟩
  | .hbm, ⟨11, _⟩ => ⟨S1024x1, .f32⟩
  | .hbm, ⟨12, _⟩ => ⟨S1024x1, .f32⟩
  | .hbm, ⟨13, _⟩ => ⟨S1024x1, .f32⟩
  | .hbm, ⟨14, _⟩ => ⟨S1024x512, .f32⟩
  | .hbm, ⟨15, _⟩ => ⟨S1024x512, .f32⟩
  | .hbm, ⟨16, _⟩ => ⟨S1x512, .f32⟩
  | .hbm, ⟨17, _⟩ => ⟨S1024x512, .f32⟩
  | .hbm, ⟨18, _⟩ => ⟨S1024x512, .f32⟩
  | .hbm, ⟨19, _⟩ => ⟨S1024x512, .bf16⟩
  | _, _ => ⟨S1024x7680, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_cst : Ref sig .tc := ⟨.hbm, 4, rfl⟩
abbrev main_v2 : Ref sig .tc := ⟨.hbm, 5, rfl⟩
abbrev main_v3 : Ref sig .tc := ⟨.hbm, 6, rfl⟩
abbrev main_cst_0 : Ref sig .tc := ⟨.hbm, 7, rfl⟩
abbrev main_v4 : Ref sig .tc := ⟨.hbm, 8, rfl⟩
abbrev main_v5 : Ref sig .tc := ⟨.hbm, 9, rfl⟩
abbrev main_cst_1 : Ref sig .tc := ⟨.hbm, 10, rfl⟩
abbrev main_v6 : Ref sig .tc := ⟨.hbm, 11, rfl⟩
abbrev main_v7 : Ref sig .tc := ⟨.hbm, 12, rfl⟩
abbrev main_v8 : Ref sig .tc := ⟨.hbm, 13, rfl⟩
abbrev main_v9 : Ref sig .tc := ⟨.hbm, 14, rfl⟩
abbrev main_v10 : Ref sig .tc := ⟨.hbm, 15, rfl⟩
abbrev main_v11 : Ref sig .tc := ⟨.hbm, 16, rfl⟩
abbrev main_v12 : Ref sig .tc := ⟨.hbm, 17, rfl⟩
abbrev main_v13 : Ref sig .tc := ⟨.hbm, 18, rfl⟩
abbrev main_v14 : Ref sig .tc := ⟨.hbm, 19, rfl⟩

abbrev nD : Nat := 1
abbrev τ : Topo := Topo.v7x

variable {F : FTy → Type} [FloatOps F]
-- ==== Kernel24.lean ====
abbrev S8192x8192 : Shape := ⟨2, ![8192, 8192]⟩
abbrev S3x6144 : Shape := ⟨2, ![3, 6144]⟩
abbrev S6144 : Shape := ⟨1, ![6144]⟩
abbrev S1x6144 : Shape := ⟨2, ![1, 6144]⟩
abbrev S8192x6144 : Shape := ⟨2, ![8192, 6144]⟩
abbrev S2048x512 : Shape := ⟨2, ![2048, 512]⟩
abbrev S3x512 : Shape := ⟨2, ![3, 512]⟩
abbrev S1x512 : Shape := ⟨2, ![1, 512]⟩

abbrev nBuf : Space → Nat
  | .hbm => 5
  | .vmem => 8
  | .smem => 0
  | _ => 0

abbrev bufTy : (tb : Table) → Fin (tcTables nBuf tb) → BufTy
  | .hbm, ⟨0, _⟩ => ⟨S8192x8192, .bf16⟩
  | .hbm, ⟨1, _⟩ => ⟨S3x6144, .f32⟩
  | .hbm, ⟨2, _⟩ => ⟨S6144, .f32⟩
  | .hbm, ⟨3, _⟩ => ⟨S1x6144, .f32⟩
  | .hbm, ⟨4, _⟩ => ⟨S8192x6144, .bf16⟩
  | .local _ .vmem, ⟨0, _⟩ => ⟨S2048x512, .bf16⟩
  | .local _ .vmem, ⟨1, _⟩ => ⟨S2048x512, .bf16⟩
  | .local _ .vmem, ⟨2, _⟩ => ⟨S3x512, .f32⟩
  | .local _ .vmem, ⟨3, _⟩ => ⟨S3x512, .f32⟩
  | .local _ .vmem, ⟨4, _⟩ => ⟨S1x512, .f32⟩
  | .local _ .vmem, ⟨5, _⟩ => ⟨S1x512, .f32⟩
  | .local _ .vmem, ⟨6, _⟩ => ⟨S2048x512, .bf16⟩
  | .local _ .vmem, ⟨7, _⟩ => ⟨S2048x512, .bf16⟩
  | _, _ => ⟨S8192x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c4_i32 : BitVec 32 := 4#32
  let v1 : BitVec 32 := Scalar.addi c4_i32 arg1
  let c0_i32_0 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S2048x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S3x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S2048x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference24Ideal.lean ====
abbrev S8192x8192 : Shape := ⟨2, ![8192, 8192]⟩
abbrev S3x6144 : Shape := ⟨2, ![3, 6144]⟩
abbrev S6144 : Shape := ⟨1, ![6144]⟩
abbrev S8192x6144 : Shape := ⟨2, ![8192, 6144]⟩
abbrev S4x2048x6144 : Shape := ⟨3, ![4, 2048, 6144]⟩
abbrev S_ : Shape := ⟨0, ![]⟩
abbrev S4x1x6144 : Shape := ⟨3, ![4, 1, 6144]⟩
abbrev S4x2047x6144 : Shape := ⟨3, ![4, 2047, 6144]⟩
abbrev S1x6144 : Shape := ⟨2, ![1, 6144]⟩
abbrev S1x1x6144 : Shape := ⟨3, ![1, 1, 6144]⟩

abbrev nBuf : Space → Nat
  | .hbm => 34
  | .vmem => 0
  | .smem => 0
  | _ => 0

abbrev bufTy : (tb : Table) → Fin (tcTables nBuf tb) → BufTy
  | .hbm, ⟨0, _⟩ => ⟨S8192x8192, .bf16⟩
  | .hbm, ⟨1, _⟩ => ⟨S3x6144, .f32⟩
  | .hbm, ⟨2, _⟩ => ⟨S6144, .f32⟩
  | .hbm, ⟨3, _⟩ => ⟨S8192x8192, .f32⟩
  | .hbm, ⟨4, _⟩ => ⟨S8192x6144, .f32⟩
  | .hbm, ⟨5, _⟩ => ⟨S4x2048x6144, .f32⟩
  | .hbm, ⟨6, _⟩ => ⟨S_, .f32⟩
  | .hbm, ⟨7, _⟩ => ⟨S4x1x6144, .f32⟩
  | .hbm, ⟨8, _⟩ => ⟨S4x2047x6144, .f32⟩
  | .hbm, ⟨9, _⟩ => ⟨S4x2048x6144, .f32⟩
  | .hbm, ⟨10, _⟩ => ⟨S4x2047x6144, .f32⟩
  | .hbm, ⟨11, _⟩ => ⟨S4x2048x6144, .f32⟩
  | .hbm, ⟨12, _⟩ => ⟨S1x6144, .f32⟩
  | .hbm, ⟨13, _⟩ => ⟨S6144, .f32⟩
  | .hbm, ⟨14, _⟩ => ⟨S1x1x6144, .f32⟩
  | .hbm, ⟨15, _⟩ => ⟨S4x2048x6144, .f32⟩
  | .hbm, ⟨16, _⟩ => ⟨S4x2048x6144, .f32⟩
  | .hbm, ⟨17, _⟩ => ⟨S1x6144, .f32⟩
  | .hbm, ⟨18, _⟩ => ⟨S6144, .f32⟩
  | .hbm, ⟨19, _⟩ => ⟨S1x1x6144, .f32⟩
  | .hbm, ⟨20, _⟩ => ⟨S4x2048x6144, .f32⟩
  | .hbm, ⟨21, _⟩ => ⟨S4x2048x6144, .f32⟩
  | .hbm, ⟨22, _⟩ => ⟨S4x2048x6144, .f32⟩
  | .hbm, ⟨23, _⟩ => ⟨S1x6144, .f32⟩
  | .hbm, ⟨24, _⟩ => ⟨S6144, .f32⟩
  | .hbm, ⟨25, _⟩ => ⟨S1x1x6144, .f32⟩
  | .hbm, ⟨26, _⟩ => ⟨S4x2048x6144, .f32⟩
  | .hbm, ⟨27, _⟩ => ⟨S4x2048x6144, .f32⟩
  | .hbm, ⟨28, _⟩ => ⟨S4x2048x6144, .f32⟩
  | .hbm, ⟨29, _⟩ => ⟨S1x1x6144, .f32⟩
  | .hbm, ⟨30, _⟩ => ⟨S4x2048x6144, .f32⟩
  | .hbm, ⟨31, _⟩ => ⟨S4x2048x6144, .f32⟩
  | .hbm, ⟨32, _⟩ => ⟨S8192x6144, .f32⟩
  | .hbm, ⟨33, _⟩ => ⟨S8192x6144, .bf16⟩
  | _, _ => ⟨S8192x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩

abbrev nD : Nat := 1
abbrev τ : Topo := Topo.v7x

variable {F : FTy → Type} [FloatOps F]
-- ==== Kernel25.lean ====
abbrev S1024x8192 : Shape := ⟨2, ![1024, 8192]⟩
abbrev S3x6144 : Shape := ⟨2, ![3, 6144]⟩
abbrev S6144 : Shape := ⟨1, ![6144]⟩
abbrev S1x6144 : Shape := ⟨2, ![1, 6144]⟩
abbrev S1024x6144 : Shape := ⟨2, ![1024, 6144]⟩
abbrev S256x512 : Shape := ⟨2, ![256, 512]⟩
abbrev S3x512 : Shape := ⟨2, ![3, 512]⟩
abbrev S1x512 : Shape := ⟨2, ![1, 512]⟩

abbrev nBuf : Space → Nat
  | .hbm => 5
  | .vmem => 8
  | .smem => 0
  | _ => 0

abbrev bufTy : (tb : Table) → Fin (tcTables nBuf tb) → BufTy
  | .hbm, ⟨0, _⟩ => ⟨S1024x8192, .bf16⟩
  | .hbm, ⟨1, _⟩ => ⟨S3x6144, .f32⟩
  | .hbm, ⟨2, _⟩ => ⟨S6144, .f32⟩
  | .hbm, ⟨3, _⟩ => ⟨S1x6144, .f32⟩
  | .hbm, ⟨4, _⟩ => ⟨S1024x6144, .bf16⟩
  | .local _ .vmem, ⟨0, _⟩ => ⟨S256x512, .bf16⟩
  | .local _ .vmem, ⟨1, _⟩ => ⟨S256x512, .bf16⟩
  | .local _ .vmem, ⟨2, _⟩ => ⟨S3x512, .f32⟩
  | .local _ .vmem, ⟨3, _⟩ => ⟨S3x512, .f32⟩
  | .local _ .vmem, ⟨4, _⟩ => ⟨S1x512, .f32⟩
  | .local _ .vmem, ⟨5, _⟩ => ⟨S1x512, .f32⟩
  | .local _ .vmem, ⟨6, _⟩ => ⟨S256x512, .bf16⟩
  | .local _ .vmem, ⟨7, _⟩ => ⟨S256x512, .bf16⟩
  | _, _ => ⟨S1024x8192, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7

abbrev nD : Nat := 1
abbrev τ : Topo := Topo.v7x

variable {F : FTy → Type} [FloatOps F]

abbrev grid0 : Pipeline.Grid := ⟨2, ![4, 12], ![false, false]⟩

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 32 := Scalar.addi c0_i32 arg0
  let c4_i32 : BitVec 32 := 4#32
  let v1 : BitVec 32 := Scalar.addi c4_i32 arg1
  let c0_i32_0 : BitVec 32 := 0#32
  ![v0.toNat, v1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![c0_i32.toNat, arg1.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

abbrev stage0_0 : Fin 2 → Memref sig .tc .vmem S256x512 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S3x512 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![false, true]

abbrev stage0_2 : Fin 2 → Memref sig .tc .vmem S1x512 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 2 → Memref sig .tc .vmem S256x512 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, true]
-- ==== Reference25Ideal.lean ====
abbrev S1024x8192 : Shape := ⟨2, ![1024, 8192]⟩
abbrev S3x6144 : Shape := ⟨2, ![3, 6144]⟩
abbrev S6144 : Shape := ⟨1, ![6144]⟩
abbrev S1024x6144 : Shape := ⟨2, ![1024, 6144]⟩
abbrev S4x256x6144 : Shape := ⟨3, ![4, 256, 6144]⟩
abbrev S_ : Shape := ⟨0, ![]⟩
abbrev S4x1x6144 : Shape := ⟨3, ![4, 1, 6144]⟩
abbrev S4x255x6144 : Shape := ⟨3, ![4, 255, 6144]⟩
abbrev S1x6144 : Shape := ⟨2, ![1, 6144]⟩
abbrev S1x1x6144 : Shape := ⟨3, ![1, 1, 6144]⟩

abbrev nBuf : Space → Nat
  | .hbm => 34
  | .vmem => 0
  | .smem => 0
  | _ => 0

abbrev bufTy : (tb : Table) → Fin (tcTables nBuf tb) → BufTy
  | .hbm, ⟨0, _⟩ => ⟨S1024x8192, .bf16⟩
  | .hbm, ⟨1, _⟩ => ⟨S3x6144, .f32⟩
  | .hbm, ⟨2, _⟩ => ⟨S6144, .f32⟩
  | .hbm, ⟨3, _⟩ => ⟨S1024x8192, .f32⟩
  | .hbm, ⟨4, _⟩ => ⟨S1024x6144, .f32⟩
  | .hbm, ⟨5, _⟩ => ⟨S4x256x6144, .f32⟩
  | .hbm, ⟨6, _⟩ => ⟨S_, .f32⟩
  | .hbm, ⟨7, _⟩ => ⟨S4x1x6144, .f32⟩
  | .hbm, ⟨8, _⟩ => ⟨S4x255x6144, .f32⟩
  | .hbm, ⟨9, _⟩ => ⟨S4x256x6144, .f32⟩
  | .hbm, ⟨10, _⟩ => ⟨S4x255x6144, .f32⟩
  | .hbm, ⟨11, _⟩ => ⟨S4x256x6144, .f32⟩
  | .hbm, ⟨12, _⟩ => ⟨S1x6144, .f32⟩
  | .hbm, ⟨13, _⟩ => ⟨S6144, .f32⟩
  | .hbm, ⟨14, _⟩ => ⟨S1x1x6144, .f32⟩
  | .hbm, ⟨15, _⟩ => ⟨S4x256x6144, .f32⟩
  | .hbm, ⟨16, _⟩ => ⟨S4x256x6144, .f32⟩
  | .hbm, ⟨17, _⟩ => ⟨S1x6144, .f32⟩
  | .hbm, ⟨18, _⟩ => ⟨S6144, .f32⟩
  | .hbm, ⟨19, _⟩ => ⟨S1x1x6144, .f32⟩
  | .hbm, ⟨20, _⟩ => ⟨S4x256x6144, .f32⟩
  | .hbm, ⟨21, _⟩ => ⟨S4x256x6144, .f32⟩
  | .hbm, ⟨22, _⟩ => ⟨S4x256x6144, .f32⟩
  | .hbm, ⟨23, _⟩ => ⟨S1x6144, .f32⟩
  | .hbm, ⟨24, _⟩ => ⟨S6144, .f32⟩
  | .hbm, ⟨25, _⟩ => ⟨S1x1x6144, .f32⟩
  | .hbm, ⟨26, _⟩ => ⟨S4x256x6144, .f32⟩
  | .hbm, ⟨27, _⟩ => ⟨S4x256x6144, .f32⟩
  | .hbm, ⟨28, _⟩ => ⟨S4x256x6144, .f32⟩
  | .hbm, ⟨29, _⟩ => ⟨S1x1x6144, .f32⟩
  | .hbm, ⟨30, _⟩ => ⟨S4x256x6144, .f32⟩
  | .hbm, ⟨31, _⟩ => ⟨S4x256x6144, .f32⟩
  | .hbm, ⟨32, _⟩ => ⟨S1024x6144, .f32⟩
  | .hbm, ⟨33, _⟩ => ⟨S1024x6144, .bf16⟩
  | _, _ => ⟨S1024x8192, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_v2 : Ref sig .tc := ⟨.hbm, 5, rfl⟩
abbrev main_cst : Ref sig .tc := ⟨.hbm, 6, rfl⟩
abbrev main_v3 : Ref sig .tc := ⟨.hbm, 7, rfl⟩
abbrev main_v4 : Ref sig .tc := ⟨.hbm, 8, rfl⟩
abbrev main_v5 : Ref sig .tc := ⟨.hbm, 9, rfl⟩
abbrev main_v6 : Ref sig .tc := ⟨.hbm, 10, rfl⟩
abbrev main_v7 : Ref sig .tc := ⟨.hbm, 11, rfl⟩
abbrev main_v8 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_v12 : Ref sig .tc := ⟨.hbm, 16, rfl⟩
abbrev main_v13 : Ref sig .tc := ⟨.hbm, 17, rfl⟩
abbrev main_v14 : Ref sig .tc := ⟨.hbm, 18, rfl⟩
abbrev main_v15 : Ref sig .tc := ⟨.hbm, 19, rfl⟩
abbrev main_v16 : Ref sig .tc := ⟨.hbm, 20, rfl⟩
abbrev main_v17 : Ref sig .tc := ⟨.hbm, 21, rfl⟩
abbrev main_v18 : Ref sig .tc := ⟨.hbm, 22, rfl⟩
abbrev main_v19 : Ref sig .tc := ⟨.hbm, 23, rfl⟩
abbrev main_v20 : Ref sig .tc := ⟨.hbm, 24, rfl⟩
abbrev main_v21 : Ref sig .tc := ⟨.hbm, 25, rfl⟩
abbrev main_v22 : Ref sig .tc := ⟨.hbm, 26, rfl⟩
abbrev main_v23 : Ref sig .tc := ⟨.hbm, 27, rfl⟩
abbrev main_v24 : Ref sig .tc := ⟨.hbm, 28, rfl⟩
abbrev main_v25 : Ref sig .tc := ⟨.hbm, 29, rfl⟩
abbrev main_v26 : Ref sig .tc := ⟨.hbm, 30, rfl⟩
abbrev main_v27 : Ref sig .tc := ⟨.hbm, 31, rfl⟩
abbrev main_v28 : Ref sig .tc := ⟨.hbm, 32, rfl⟩
abbrev main_v29 : Ref sig .tc := ⟨.hbm, 33, rfl⟩

abbrev nD : Nat := 1
abbrev τ : Topo := Topo.v7x

variable {F : FTy → Type} [FloatOps F]
-- ==== Proof.Entry.lean ====
/- What the host lines hand the call: the queries with their rotation partners beside them, the position keys likewise, and the
   cosines and sines of the angles. -/
module

public import proofs.«01_k».proof.Proof.Gen.KernelIdeal.Value
public import Idealize.ShloMosaic.Lib.Pointwise
public import Idealize.ShloMosaic.Lib.Claim

@[expose] public section

set_option maxRecDepth 16384

noncomputable section

namespace Cert.KernelIdeal.Entry

open Idealize.ShloMosaic Idealize.ShloMosaic.TcCoe Idealize.SL.Sem
open Cert.KernelIdeal Cert.KernelIdeal.Gen

variable (m : (ℓ : Loc nD τ sig) → Buf (Elt Ideal) ℓ) (c : Dev nD)

/-- The rotation partner of column `l` of 64: the columns are two halves, one per direction, each of two quarters; the partner of a
    first quarter is the second with its sign turned, and the other way round. -/
def partner (f : Fin 64 → EReal) (l : Fin 64) : EReal :=
  if h : l.val < 16 then -f ⟨l.val + 16, by omega⟩
  else if h : l.val < 32 then f ⟨l.val - 16, by omega⟩
  else if h : l.val < 48 then -f ⟨l.val + 16, by omega⟩
  else f ⟨l.val - 16, by omega⟩

/-! ## The arrays as functions of the arguments -/

/-- The queries with the partners of their last 64 columns beside them. -/
def qArr (x : FVec Ideal S8192x3072 .f32) : FVec Ideal S8192x4096 .f32 :=
  let x0 := shapeCast S131072x192 x shapeCasts_S8192x3072_S131072x192
  let r := extractStridedSlice S131072x64 ![0, 128] x0 slices_S131072x192_S131072x64_0_128
  let a := extractStridedSlice S131072x16 ![0, 0] r slices_S131072x64_S131072x16_0_0
  let b := extractStridedSlice S131072x16 ![0, 16] r slices_S131072x64_S131072x16_0_16
  let d := extractStridedSlice S131072x16 ![0, 32] r slices_S131072x64_S131072x16_0_32
  let e := extractStridedSlice S131072x16 ![0, 48] r slices_S131072x64_S131072x16_0_48
  let p := concatenate S131072x64 1 [⟨S131072x16, Host.negf b⟩, ⟨S131072x16, a⟩, ⟨S131072x16, Host.negf e⟩, ⟨S131072x16, d⟩]
    concatenates_S131072x16_S131072x16_S131072x16_S131072x16_S131072x64_d1
  shapeCast S8192x4096 (concatenate S131072x256 1 [⟨S131072x192, x0⟩, ⟨S131072x64, p⟩] concatenates_S131072x192_S131072x64_S131072x256_d1)
    shapeCasts_S131072x256_S8192x4096

/-- The position keys with their partners beside them. -/
def krArr (x : FVec Ideal S8192x64 .f32) : FVec Ideal S8192x128 .f32 :=
  let a := extractStridedSlice S8192x16 ![0, 0] x slices_S8192x64_S8192x16_0_0
  let b := extractStridedSlice S8192x16 ![0, 16] x slices_S8192x64_S8192x16_0_16
  let d := extractStridedSlice S8192x16 ![0, 32] x slices_S8192x64_S8192x16_0_32
  let e := extractStridedSlice S8192x16 ![0, 48] x slices_S8192x64_S8192x16_0_48
  let p := concatenate S8192x64 1 [⟨S8192x16, Host.negf b⟩, ⟨S8192x16, a⟩, ⟨S8192x16, Host.negf e⟩, ⟨S8192x16, d⟩]
    concatenates_S8192x16_S8192x16_S8192x16_S8192x16_S8192x64_d1
  concatenate S8192x128 1 [⟨S8192x64, x⟩, ⟨S8192x64, p⟩] concatenates_S8192x64_S8192x64_S8192x128_d1

/-- The context's position keys with columns beside them that nothing reads. -/
def krcArr (x : FVec Ideal S1024x64 .f32) : FVec Ideal S1024x128 .f32 :=
  let a := extractStridedSlice S1024x16 ![0, 0] x slices_S1024x64_S1024x16_0_0
  let b := extractStridedSlice S1024x16 ![0, 16] x slices_S1024x64_S1024x16_0_16
  let d := extractStridedSlice S1024x16 ![0, 32] x slices_S1024x64_S1024x16_0_32
  let e := extractStridedSlice S1024x16 ![0, 48] x slices_S1024x64_S1024x16_0_48
  let p := concatenate S1024x64 1 [⟨S1024x16, Host.negf b⟩, ⟨S1024x16, a⟩, ⟨S1024x16, Host.negf e⟩, ⟨S1024x16, d⟩]
    concatenates_S1024x16_S1024x16_S1024x16_S1024x16_S1024x64_d1
  concatenate S1024x128 1 [⟨S1024x64, x⟩, ⟨S1024x64, p⟩] concatenates_S1024x64_S1024x64_S1024x128_d1

/-- The sixteen inverse wave lengths. -/
def invArr : FVec Ideal S16 .f32 :=
  Host.powf (broadcastInDim S16 ![] bcast_S_S16 (constant (F := Ideal) S_ .f32 0x461C4000#32))
    (Host.divf (Host.negf (addf (broadcastInDim S16 ![] bcast_S_S16 (constant (F := Ideal) S_ .f32 0x00000000#32))
        (mulf (broadcastInDim S16 ![] bcast_S_S16 (constant (F := Ideal) S_ .f32 0x40000000#32)) (sitofp .f32 (iotaInDim S16 32 0)))))
      (broadcastInDim S16 ![] bcast_S_S16 (constant (F := Ideal) S_ .f32 0x42000000#32)))

/-- The tables of the rows and of the columns of the grid's 2048 places. -/
def rows : FVec Ideal S2048 .f32 := fun i => FloatOps.ofBits .f32 (lit0 (S2048.rowMajor i))
def cols : FVec Ideal S2048 .f32 := fun i => FloatOps.ofBits .f32 (lit1 (S2048.rowMajor i))

/-- One direction's angles. -/
def turn (t : FVec Ideal S2048 .f32) (v : FVec Ideal S16 .f32) : FVec Ideal S2048x16 .f32 :=
  mulf (broadcastInDim S2048x16 ![0, 1] bcast_S2048x1_S2048x16_0_1 (broadcastInDim S2048x1 ![0] bcast_S2048_S2048x1_0 t))
    (broadcastInDim S2048x16 ![0, 1] bcast_S1x16_S2048x16_0_1 (broadcastInDim S1x16 ![1] bcast_S16_S1x16_1 v))

/-- The angles: the rows' twice, then the columns' twice. -/
def angArr (r s : FVec Ideal S2048 .f32) (v : FVec Ideal S16 .f32) : FVec Ideal S2048x64 .f32 :=
  concatenate S2048x64 1 [⟨S2048x16, turn r v⟩, ⟨S2048x16, turn r v⟩, ⟨S2048x16, turn s v⟩, ⟨S2048x16, turn s v⟩]
    concatenates_S2048x16_S2048x16_S2048x16_S2048x16_S2048x64_d1

set_option maxHeartbeats 4000000 in
theorem q_eq : V m c main_v10 = qArr (m (c, main_arg0)) := by rfl

set_option maxHeartbeats 4000000 in
theorem kr_eq : V m c main_v18 = krArr (m (c, main_arg3)) := by rfl

set_option maxHeartbeats 4000000 in
theorem krc_eq : V m c main_v26 = krcArr (m (c, main_arg4)) := by rfl

set_option maxHeartbeats 4000000 in
theorem cos_eq : V m c main_v48 = Host.cos (angArr rows cols invArr) := by rfl

set_option maxHeartbeats 4000000 in
theorem sin_eq : V m c main_v49 = Host.sin (angArr rows cols invArr) := by rfl

/-! ## Their entries -/

theorem qfour (a b d e : FVec Ideal S131072x16 .f32) (i : Fin 131072) (l : Fin 64) :
    concatenate S131072x64 1 [⟨S131072x16, a⟩, ⟨S131072x16, b⟩, ⟨S131072x16, d⟩, ⟨S131072x16, e⟩]
      concatenates_S131072x16_S131072x16_S131072x16_S131072x16_S131072x64_d1 (ix2 i l)
      = (if l.val < 16 then a else if l.val < 32 then b else if l.val < 48 then d else e) (ix2 i ⟨l.val % 16, by omega⟩) := by
  obtain ⟨l, hl⟩ := l
  pointwise
  by_cases g1 : l < 16
  · rw [if_pos g1]
    exact (dif_pos g1).trans (congrArg (fun z => a (ix2 i z)) (Fin.ext (by dsimp only; omega)))
  rw [if_neg g1]
  refine (dif_neg g1).trans ?_
  by_cases g2 : l < 32
  · rw [if_pos g2]
    exact (dif_pos (by omega)).trans (congrArg (fun z => b (ix2 i z)) (Fin.ext (by dsimp only; omega)))
  rw [if_neg g2]
  refine (dif_neg (by omega)).trans ?_
  by_cases g3 : l < 48
  · rw [if_pos g3]
    exact (dif_pos (by omega)).trans (congrArg (fun z => d (ix2 i z)) (Fin.ext (by dsimp only; omega)))
  rw [if_neg g3]
  exact (dif_neg (by omega)).trans (congrArg (fun z => e (ix2 i z)) (Fin.ext (by dsimp only; omega)))

theorem qs0 (x : FVec Ideal S131072x64 .f32) (i : Fin 131072) (l : Fin 16) :
    extractStridedSlice S131072x16 ![0, 0] x slices_S131072x64_S131072x16_0_0 (ix2 i l) = x (ix2 i ⟨0 + l, by omega⟩) := by
  pointwise

theorem qs16 (x : FVec Ideal S131072x64 .f32) (i : Fin 131072) (l : Fin 16) :
    extractStridedSlice S131072x16 ![0, 16] x slices_S131072x64_S131072x16_0_16 (ix2 i l) = x (ix2 i ⟨16 + l, by omega⟩) := by
  pointwise

theorem qs32 (x : FVec Ideal S131072x64 .f32) (i : Fin 131072) (l : Fin 16) :
    extractStridedSlice S131072x16 ![0, 32] x slices_S131072x64_S131072x16_0_32 (ix2 i l) = x (ix2 i ⟨32 + l, by omega⟩) := by
  pointwise

theorem qs48 (x : FVec Ideal S131072x64 .f32) (i : Fin 131072) (l : Fin 16) :
    extractStridedSlice S131072x16 ![0, 48] x slices_S131072x64_S131072x16_0_48 (ix2 i l) = x (ix2 i ⟨48 + l, by omega⟩) := by
  pointwise

theorem qneg (x : FVec Ideal S131072x16 .f32) (i : Fin 131072) (l : Fin 16) : Host.negf x (ix2 i l) = -x (ix2 i l) := by
  pointwise

/-- The partners' columns of an array of 64 columns. -/
def qPartners (x : FVec Ideal S131072x64 .f32) : FVec Ideal S131072x64 .f32 :=
  concatenate S131072x64 1 [⟨S131072x16, Host.negf (extractStridedSlice S131072x16 ![0, 16] x slices_S131072x64_S131072x16_0_16)⟩,
    ⟨S131072x16, extractStridedSlice S131072x16 ![0, 0] x slices_S131072x64_S131072x16_0_0⟩,
    ⟨S131072x16, Host.negf (extractStridedSlice S131072x16 ![0, 48] x slices_S131072x64_S131072x16_0_48)⟩,
    ⟨S131072x16, extractStridedSlice S131072x16 ![0, 32] x slices_S131072x64_S131072x16_0_32⟩]
    concatenates_S131072x16_S131072x16_S131072x16_S131072x16_S131072x64_d1

theorem qPartners_at (x : FVec Ideal S131072x64 .f32) (i : Fin 131072) (l : Fin 64) :
    qPartners x (ix2 i l) = partner (fun j => x (ix2 i j)) l := by
  unfold qPartners partner
  rw [qfour]
  by_cases g1 : l.val < 16
  · rw [if_pos g1, dif_pos g1, qneg, qs16]
    exact congrArg (fun z => -x (ix2 i z)) (Fin.ext (by dsimp only; omega))
  rw [if_neg g1, dif_neg g1]
  by_cases g2 : l.val < 32
  · rw [if_pos g2, dif_pos g2, qs0]
    exact congrArg (fun z => x (ix2 i z)) (Fin.ext (by dsimp only; omega))
  rw [if_neg g2, dif_neg g2]
  by_cases g3 : l.val < 48
  · rw [if_pos g3, dif_pos g3, qneg, qs48]
    exact congrArg (fun z => -x (ix2 i z)) (Fin.ext (by dsimp only; omega))
  rw [if_neg g3, dif_neg g3, qs32]
  exact congrArg (fun z => x (ix2 i z)) (Fin.ext (by dsimp only; omega))

theorem kfour (a b d e : FVec Ideal S8192x16 .f32) (i : Fin 8192) (l : Fin 64) :
    concatenate S8192x64 1 [⟨S8192x16, a⟩, ⟨S8192x16, b⟩, ⟨S8192x16, d⟩, ⟨S8192x16, e⟩]
      concatenates_S8192x16_S8192x16_S8192x16_S8192x16_S8192x64_d1 (ix2 i l)
      = (if l.val < 16 then a else if l.val < 32 then b else if l.val < 48 then d else e) (ix2 i ⟨l.val % 16, by omega⟩) := by
  obtain ⟨l, hl⟩ := l
  pointwise
  by_cases g1 : l < 16
  · rw [if_pos g1]
    exact (dif_pos g1).trans (congrArg (fun z => a (ix2 i z)) (Fin.ext (by dsimp only; omega)))
  rw [if_neg g1]
  refine (dif_neg g1).trans ?_
  by_cases g2 : l < 32
  · rw [if_pos g2]
    exact (dif_pos (by omega)).trans (congrArg (fun z => b (ix2 i z)) (Fin.ext (by dsimp only; omega)))
  rw [if_neg g2]
  refine (dif_neg (by omega)).trans ?_
  by_cases g3 : l < 48
  · rw [if_pos g3]
    exact (dif_pos (by omega)).trans (congrArg (fun z => d (ix2 i z)) (Fin.ext (by dsimp only; omega)))
  rw [if_neg g3]
  exact (dif_neg (by omega)).trans (congrArg (fun z => e (ix2 i z)) (Fin.ext (by dsimp only; omega)))

theorem ks0 (x : FVec Ideal S8192x64 .f32) (i : Fin 8192) (l : Fin 16) :
    extractStridedSlice S8192x16 ![0, 0] x slices_S8192x64_S8192x16_0_0 (ix2 i l) = x (ix2 i ⟨0 + l, by omega⟩) := by
  pointwise

theorem ks16 (x : FVec Ideal S8192x64 .f32) (i : Fin 8192) (l : Fin 16) :
    extractStridedSlice S8192x16 ![0, 16] x slices_S8192x64_S8192x16_0_16 (ix2 i l) = x (ix2 i ⟨16 + l, by omega⟩) := by
  pointwise

theorem ks32 (x : FVec Ideal S8192x64 .f32) (i : Fin 8192) (l : Fin 16) :
    extractStridedSlice S8192x16 ![0, 32] x slices_S8192x64_S8192x16_0_32 (ix2 i l) = x (ix2 i ⟨32 + l, by omega⟩) := by
  pointwise

theorem ks48 (x : FVec Ideal S8192x64 .f32) (i : Fin 8192) (l : Fin 16) :
    extractStridedSlice S8192x16 ![0, 48] x slices_S8192x64_S8192x16_0_48 (ix2 i l) = x (ix2 i ⟨48 + l, by omega⟩) := by
  pointwise

theorem kneg (x : FVec Ideal S8192x16 .f32) (i : Fin 8192) (l : Fin 16) : Host.negf x (ix2 i l) = -x (ix2 i l) := by
  pointwise

/-- The partners' columns of an array of 64 columns. -/
def kPartners (x : FVec Ideal S8192x64 .f32) : FVec Ideal S8192x64 .f32 :=
  concatenate S8192x64 1 [⟨S8192x16, Host.negf (extractStridedSlice S8192x16 ![0, 16] x slices_S8192x64_S8192x16_0_16)⟩,
    ⟨S8192x16, extractStridedSlice S8192x16 ![0, 0] x slices_S8192x64_S8192x16_0_0⟩,
    ⟨S8192x16, Host.negf (extractStridedSlice S8192x16 ![0, 48] x slices_S8192x64_S8192x16_0_48)⟩,
    ⟨S8192x16, extractStridedSlice S8192x16 ![0, 32] x slices_S8192x64_S8192x16_0_32⟩]
    concatenates_S8192x16_S8192x16_S8192x16_S8192x16_S8192x64_d1

theorem kPartners_at (x : FVec Ideal S8192x64 .f32) (i : Fin 8192) (l : Fin 64) :
    kPartners x (ix2 i l) = partner (fun j => x (ix2 i j)) l := by
  unfold kPartners partner
  rw [kfour]
  by_cases g1 : l.val < 16
  · rw [if_pos g1, dif_pos g1, kneg, ks16]
    exact congrArg (fun z => -x (ix2 i z)) (Fin.ext (by dsimp only; omega))
  rw [if_neg g1, dif_neg g1]
  by_cases g2 : l.val < 32
  · rw [if_pos g2, dif_pos g2, ks0]
    exact congrArg (fun z => x (ix2 i z)) (Fin.ext (by dsimp only; omega))
  rw [if_neg g2, dif_neg g2]
  by_cases g3 : l.val < 48
  · rw [if_pos g3, dif_pos g3, kneg, ks48]
    exact congrArg (fun z => -x (ix2 i z)) (Fin.ext (by dsimp only; omega))
  rw [if_neg g3, dif_neg g3, ks32]
  exact congrArg (fun z => x (ix2 i z)) (Fin.ext (by dsimp only; omega))

/-- The last 64 of every head's 192 columns, one row per head. -/
def qTail (x : FVec Ideal S8192x3072 .f32) : FVec Ideal S131072x64 .f32 :=
  extractStridedSlice S131072x64 ![0, 128] (shapeCast S131072x192 x shapeCasts_S8192x3072_S131072x192) slices_S131072x192_S131072x64_0_128

theorem qHead_at (x : FVec Ideal S8192x3072 .f32) (r h l : ℕ) (hr : r < 8192) (hh : h < 16) (hl : l < 192) :
    shapeCast S131072x192 x shapeCasts_S8192x3072_S131072x192 (ix2 ⟨r * 16 + h, by omega⟩ ⟨l, hl⟩)
      = x (ix2 ⟨r, hr⟩ ⟨h * 192 + l, by omega⟩) := by
  pointwise
  exact congrArg x (congrArg₂ ix2 (Fin.ext (by dsimp only; omega)) (Fin.ext (by dsimp only; omega)))

theorem qTail_at (x : FVec Ideal S8192x3072 .f32) (r h : ℕ) (hr : r < 8192) (hh : h < 16) (l : Fin 64) :
    qTail x (ix2 ⟨r * 16 + h, by omega⟩ l) = x (ix2 ⟨r, hr⟩ ⟨h * 192 + (128 + l), by omega⟩) := by
  refine Eq.trans ?_ (qHead_at x r h (128 + l) hr hh (by omega))
  unfold qTail
  generalize shapeCast S131072x192 x shapeCasts_S8192x3072_S131072x192 = y
  pointwise

theorem qPair (a : FVec Ideal S131072x192 .f32) (b : FVec Ideal S131072x64 .f32) (i : Fin 131072) (l : Fin 256) :
    concatenate S131072x256 1 [⟨S131072x192, a⟩, ⟨S131072x64, b⟩] concatenates_S131072x192_S131072x64_S131072x256_d1 (ix2 i l)
      = if h : l.val < 192 then a (ix2 i ⟨l, h⟩) else b (ix2 i ⟨l - 192, by omega⟩) := by
  pointwise

theorem qWhole (a : FVec Ideal S131072x256 .f32) (r h l : ℕ) (hr : r < 8192) (hh : h < 16) (hl : l < 256) :
    shapeCast S8192x4096 a shapeCasts_S131072x256_S8192x4096 (ix2 ⟨r, hr⟩ ⟨h * 256 + l, by omega⟩)
      = a (ix2 ⟨r * 16 + h, by omega⟩ ⟨l, hl⟩) := by
  pointwise
  exact congrArg a (congrArg₂ ix2 (Fin.ext (by dsimp only; omega)) (Fin.ext (by dsimp only; omega)))

theorem qArr_plain (x : FVec Ideal S8192x3072 .f32) (r h l : ℕ) (hr : r < 8192) (hh : h < 16) (hl : l < 192) :
    qArr x (ix2 ⟨r, hr⟩ ⟨h * 256 + l, by omega⟩) = x (ix2 ⟨r, hr⟩ ⟨h * 192 + l, by omega⟩) := by
  refine (qWhole _ r h l hr hh (by omega)).trans ((qPair _ _ _ _).trans ?_)
  exact (dif_pos hl).trans (qHead_at x r h l hr hh hl)

theorem qArr_partner (x : FVec Ideal S8192x3072 .f32) (r h : ℕ) (hr : r < 8192) (hh : h < 16) (l : Fin 64) :
    qArr x (ix2 ⟨r, hr⟩ ⟨h * 256 + (192 + l), by omega⟩)
      = partner (fun j => x (ix2 ⟨r, hr⟩ ⟨h * 192 + (128 + j), by omega⟩)) l := by
  refine (qWhole _ r h (192 + l) hr hh (by omega)).trans ((qPair _ _ _ _).trans ?_)
  refine (dif_neg (show ¬ 192 + l.val < 192 by omega)).trans ?_
  refine (congrArg (fun z => qPartners (qTail x) (ix2 _ z)) (Fin.ext (by dsimp only; omega) : _ = l)).trans ?_
  rw [qPartners_at]
  exact congrArg (fun f => partner f l) (funext fun j => qTail_at x r h hr hh j)

theorem kPair (a b : FVec Ideal S8192x64 .f32) (i : Fin 8192) (l : Fin 128) :
    concatenate S8192x128 1 [⟨S8192x64, a⟩, ⟨S8192x64, b⟩] concatenates_S8192x64_S8192x64_S8192x128_d1 (ix2 i l)
      = if h : l.val < 64 then a (ix2 i ⟨l, h⟩) else b (ix2 i ⟨l - 64, by omega⟩) := by
  pointwise

theorem krArr_plain (x : FVec Ideal S8192x64 .f32) (r : Fin 8192) (l : Fin 64) :
    krArr x (ix2 r ⟨l, by omega⟩) = x (ix2 r l) :=
  (kPair _ _ _ _).trans (dif_pos l.isLt)

theorem krArr_partner (x : FVec Ideal S8192x64 .f32) (r : Fin 8192) (l : Fin 64) :
    krArr x (ix2 r ⟨64 + l, by omega⟩) = partner (fun j => x (ix2 r j)) l := by
  refine (kPair _ _ _ _).trans ((dif_neg (show ¬ 64 + l.val < 64 by omega)).trans ?_)
  refine (congrArg (fun z => kPartners x (ix2 _ z)) (Fin.ext (by dsimp only; omega) : _ = l)).trans ?_
  exact kPartners_at x r l

theorem cPair (a b : FVec Ideal S1024x64 .f32) (i : Fin 1024) (l : Fin 128) :
    concatenate S1024x128 1 [⟨S1024x64, a⟩, ⟨S1024x64, b⟩] concatenates_S1024x64_S1024x64_S1024x128_d1 (ix2 i l)
      = if h : l.val < 64 then a (ix2 i ⟨l, h⟩) else b (ix2 i ⟨l - 64, by omega⟩) := by
  pointwise

theorem krcArr_plain (x : FVec Ideal S1024x64 .f32) (r : Fin 1024) (l : Fin 64) :
    krcArr x (ix2 r ⟨l, by omega⟩) = x (ix2 r l) :=
  (cPair _ _ _ _).trans (dif_pos l.isLt)

theorem four_at (a b d e : FVec Ideal S2048x16 .f32) (i : Fin 2048) (l : Fin 64) :
    concatenate S2048x64 1 [⟨S2048x16, a⟩, ⟨S2048x16, b⟩, ⟨S2048x16, d⟩, ⟨S2048x16, e⟩]
      concatenates_S2048x16_S2048x16_S2048x16_S2048x16_S2048x64_d1 (ix2 i l)
      = (if l.val < 16 then a else if l.val < 32 then b else if l.val < 48 then d else e) (ix2 i ⟨l.val % 16, by omega⟩) := by
  obtain ⟨l, hl⟩ := l
  pointwise
  by_cases g1 : l < 16
  · rw [if_pos g1]
    exact (dif_pos g1).trans (congrArg (fun z => a (ix2 i z)) (Fin.ext (by dsimp only; omega)))
  rw [if_neg g1]
  refine (dif_neg g1).trans ?_
  by_cases g2 : l < 32
  · rw [if_pos g2]
    exact (dif_pos (by omega)).trans (congrArg (fun z => b (ix2 i z)) (Fin.ext (by dsimp only; omega)))
  rw [if_neg g2]
  refine (dif_neg (by omega)).trans ?_
  by_cases g3 : l < 48
  · rw [if_pos g3]
    exact (dif_pos (by omega)).trans (congrArg (fun z => d (ix2 i z)) (Fin.ext (by dsimp only; omega)))
  rw [if_neg g3]
  exact (dif_neg (by omega)).trans (congrArg (fun z => e (ix2 i z)) (Fin.ext (by dsimp only; omega)))

theorem turn_at (t : FVec Ideal S2048 .f32) (v : FVec Ideal S16 .f32) (i : Fin 2048) (l : Fin 16) :
    turn t v (ix2 i l) = t (ix1 i) * v (ix1 l) := by
  unfold turn
  pointwise

theorem ang_at (s t : FVec Ideal S2048 .f32) (v : FVec Ideal S16 .f32) (i : Fin 2048) (l : Fin 64) :
    angArr s t v (ix2 i l) = (if l.val < 32 then s (ix1 i) else t (ix1 i)) * v (ix1 ⟨l.val % 16, by omega⟩) := by
  refine (four_at _ _ _ _ _ _).trans ?_
  split_ifs <;> first | omega | exact turn_at _ _ _ _

/-- The inverse wave length of place `j`. -/
def inv (j : ℕ) : EReal :=
  Ideal.pow (Ideal.ofBits FTy.f32 0x461C4000#32)
    (Ideal.div (-(Ideal.ofBits FTy.f32 0x40000000#32 * FloatOps.sitofp (F := Ideal) FTy.f32 (BitVec.ofNat 32 j))) (Ideal.ofBits FTy.f32 0x42000000#32))

theorem inv_at (j : Fin 16) : invArr (ix1 j) = inv j := by
  unfold invArr inv
  pointwise

end Cert.KernelIdeal.Entry

end
-- ==== Proof.Tables.lean ====
/- The tables of the places' rows and columns, and the angles they give, as real numbers. -/
module

public import proofs.«01_k».proof.Proof.Entry

@[expose] public section

set_option maxRecDepth 16384

noncomputable section

namespace Cert.Tables

open Idealize.ShloMosaic Idealize.ShloMosaic.TcCoe Idealize.SL.Sem
open Cert.KernelIdeal

/-- A positive word of exponent `150 - k` whose significand is `n · 2 ^ k` stands for `n`. -/
theorem word_value (b : BitVec 32) (n k : ℕ) (hs : b.extractLsb' 31 1 = 0#1) (h0 : (b.extractLsb' 23 8).toNat ≠ 0)
    (h1 : (b.extractLsb' 23 8).toNat + k = 150) (hf : 2 ^ 23 + (b.extractLsb' 0 23).toNat = n * 2 ^ k) :
    Ideal.ofBits .f32 b = ((n : ℝ) : EReal) := by
  show Ideal.ieee 8 23 b = _
  unfold Ideal.ieee
  dsimp only
  rw [if_neg (by omega), if_neg h0, hf]
  congr 1
  have e : (((b.extractLsb' 23 8).toNat : ℕ) : ℤ) - (2 ^ (8 - 1) - 1) - 23 = -(k : ℤ) := by
    have h2 : (((b.extractLsb' 23 8).toNat : ℕ) : ℤ) = 150 - (k : ℤ) := by omega
    rw [h2]; ring
  simp only [Nat.reduceAdd, hs]
  push_cast at e ⊢
  rw [e, zpow_neg, zpow_natCast]
  simp

/-- The words of 0 … 63. -/
def small (n : Fin 64) : BitVec 32 := lit1 ⟨n.val, by omega⟩

theorem small_facts : ∀ n : Fin 64, n.val ≠ 0 → (small n).extractLsb' 31 1 = 0#1 ∧ ((small n).extractLsb' 23 8).toNat ≠ 0
    ∧ ((small n).extractLsb' 23 8).toNat + (23 - Nat.log2 n.val) = 150
    ∧ 2 ^ 23 + ((small n).extractLsb' 0 23).toNat = n.val * 2 ^ (23 - Nat.log2 n.val) := by
  decide +kernel

theorem small_zero : small 0 = 0x00000000#32 := by decide +kernel

theorem small_value (n : Fin 64) : Ideal.ofBits .f32 (small n) = ((n.val : ℝ) : EReal) := by
  by_cases h : n.val = 0
  · obtain rfl : n = 0 := Fin.ext h
    rw [small_zero, Ideal.ofBits_zero_f32]
    simp
  · obtain ⟨a, b, d, e⟩ := small_facts n h
    exact word_value _ _ _ a b d e

theorem rows_small : ∀ i : Fin 2048, lit0 i = small ⟨i.val / 64, by omega⟩ := by decide +kernel
theorem cols_small : ∀ i : Fin 2048, lit1 i = small ⟨i.val % 64, by omega⟩ := by decide +kernel

theorem rowMajor_one (i : Fin 2048) : S2048.rowMajor (ix1 i) = i := Fin.ext (Shape.rowMajor_val_one _)

theorem rows_at (i : Fin 2048) : Entry.rows (ix1 i) = (((i.val / 64 : ℕ) : ℝ) : EReal) := by
  show Ideal.ofBits .f32 (lit0 (S2048.rowMajor (ix1 i))) = _
  rw [rowMajor_one, rows_small]
  exact small_value _

theorem cols_at (i : Fin 2048) : Entry.cols (ix1 i) = (((i.val % 64 : ℕ) : ℝ) : EReal) := by
  show Ideal.ofBits .f32 (lit1 (S2048.rowMajor (ix1 i))) = _
  rw [rowMajor_one, cols_small]
  exact small_value _

theorem word_10000 : Ideal.ofBits .f32 0x461C4000#32 = ((10000 : ℝ) : EReal) :=
  (word_value _ 10000 10 (by decide) (by decide) (by decide) (by decide)).trans (by norm_num)
theorem word_2 : Ideal.ofBits .f32 0x40000000#32 = ((2 : ℝ) : EReal) :=
  (word_value _ 2 22 (by decide) (by decide) (by decide) (by decide)).trans (by norm_num)
theorem word_32 : Ideal.ofBits .f32 0x42000000#32 = ((32 : ℝ) : EReal) :=
  (word_value _ 32 18 (by decide) (by decide) (by decide) (by decide)).trans (by norm_num)
theorem word_192 : Ideal.ofBits .f32 0x43400000#32 = ((192 : ℝ) : EReal) :=
  (word_value _ 192 16 (by decide) (by decide) (by decide) (by decide)).trans (by norm_num)

/-- The inverse wave length of place `j` is a real number. -/
theorem inv_real (j : ℕ) : ∃ r : ℝ, Entry.inv j = (r : EReal) := by
  unfold Entry.inv
  rw [word_10000, word_2, word_32]
  show ∃ r : ℝ, Ideal.pow _ (Ideal.div (-(((2 : ℝ) : EReal) * ((((BitVec.ofNat 32 j).toInt : ℝ)) : EReal))) _) = _
  rw [Ideal.div_coe (by norm_num : (32 : ℝ) ≠ 0), ← EReal.coe_mul, ← EReal.coe_neg, ← EReal.coe_mul]
  exact ⟨_, rfl⟩

/-- The angle of place `i` at column `l`. -/
def ang (i : Fin 2048) (l : Fin 64) : ℝ :=
  (if l.val < 32 then ((i.val / 64 : ℕ) : ℝ) else ((i.val % 64 : ℕ) : ℝ)) * (inv_real (l.val % 16)).choose

theorem inv_eq (j : ℕ) : Entry.inv j = (((inv_real j).choose : ℝ) : EReal) := (inv_real j).choose_spec

theorem ang_eq (i : Fin 2048) (l : Fin 64) :
    Entry.angArr Entry.rows Entry.cols Entry.invArr (ix2 i l) = ((ang i l : ℝ) : EReal) := by
  rw [Entry.ang_at, rows_at, cols_at, Entry.inv_at, inv_eq]
  unfold ang
  split_ifs <;> rw [EReal.coe_mul]

variable (m : (ℓ : Loc nD τ sig) → Buf (Elt Ideal) ℓ) (c : Dev nD)

theorem cos_at (i : Fin 2048) (l : Fin 64) : Gen.V m c main_v48 (ix2 i l) = ((Real.cos (ang i l) : ℝ) : EReal) := by
  rw [Entry.cos_eq]
  show Ideal.cos _ = _
  rw [ang_eq, Ideal.cos_coe]

theorem sin_at (i : Fin 2048) (l : Fin 64) : Gen.V m c main_v49 (ix2 i l) = ((Real.sin (ang i l) : ℝ) : EReal) := by
  rw [Entry.sin_eq]
  show Ideal.sin _ = _
  rw [ang_eq, Ideal.sin_coe]

end Cert.Tables

end
-- ==== Proof.Rotation.lean ====
/- The reference's angles and rotated columns. -/
module

public import proofs.«01_k».proof.Proof.Tables
public import proofs.«01_k».proof.Proof.Gen.ReferenceIdeal.Read

@[expose] public section

set_option maxRecDepth 16384

noncomputable section

namespace Cert.ReferenceIdeal.Rotation

open Idealize.ShloMosaic Idealize.ShloMosaic.TcCoe Idealize.SL.Sem
open Cert.ReferenceIdeal Cert.ReferenceIdeal.Gen Cert.ReferenceIdeal.Read
open Cert.KernelIdeal.Entry (partner)
open Cert.Tables (ang)

/-- The rotation of 64 columns at place `i`. -/
def rot (i : Fin 2048) (f : Fin 64 → EReal) (l : Fin 64) : EReal :=
  f l * ((Real.cos (ang i l) : ℝ) : EReal) + partner f l * ((Real.sin (ang i l) : ℝ) : EReal)

/-! ## The angles -/

theorem row_word : ∀ i : Fin 2048, val_main_v14 (F := Ideal) (ix1 i) = (BitVec.ofNat 32 (i.val / 64) : BitVec 32) := by
  intro i
  pointwise [val_main_v14, val_main_call0_v11, val_main_call0_v13, val_main_call0_v2, val_main_call0_v6, val_main_call0_v10, val_main_call0_v3,
    val_main_call0_v5, val_main_call0_v8, val_main_call0_v9, val_main_call0_v12, val_main_call0_v1, val_main_call0_v4, val_main_call0_v7,
    val_main_call0_v0, val_main_call0_c, val_main_call0_c_0, val_main_c, val_main_v13, id]
  revert i
  show ∀ i : Fin 2048, (_ : BitVec 32) = _
  decide +kernel

theorem col_word : ∀ i : Fin 2048, val_main_v16 (F := Ideal) (ix1 i) = (BitVec.ofNat 32 (i.val % 64) : BitVec 32) := by
  intro i
  pointwise [val_main_v16, val_main_call1_v12, val_main_call1_v14, val_main_call1_v4, val_main_call1_v11, val_main_call1_v6, val_main_call1_v8,
    val_main_call1_v10, val_main_call1_v13, val_main_call1_v5, val_main_call1_v7, val_main_call1_v9, val_main_call1_v3, val_main_call1_v2,
    val_main_call1_v1, val_main_call1_v0, val_main_call1_c, val_main_call1_c_0, val_main_call1_c_1, val_main_call1_c_2, val_main_call1_c_3,
    val_main_c_0, val_main_v13, id]
  revert i
  show ∀ i : Fin 2048, (_ : BitVec 32) = _
  decide +kernel

theorem inv_at (j : Fin 16) : val_main_v27 (F := Ideal) (ix1 j) = Cert.KernelIdeal.Entry.inv j := by
  unfold Cert.KernelIdeal.Entry.inv
  pointwise [val_main_v27, val_main_v26, val_main_v25, val_main_v24, val_main_v23, val_main_v22, val_main_v21, val_main_v20, val_main_v19,
    val_main_v18, val_main_cst, val_main_cst_1, val_main_cst_2, val_main_cst_3]

theorem turn_row (i : Fin 2048) (j : Fin 16) :
    val_main_v32 (F := Ideal) (ix2 i j) = FloatOps.sitofp (F := Ideal) .f32 (val_main_v14 (F := Ideal) (ix1 i)) * val_main_v27 (F := Ideal) (ix1 j) := by
  pointwise [val_main_v32, val_main_v31, val_main_v30, val_main_v29, val_main_v28, val_main_v15]

theorem turn_col (i : Fin 2048) (j : Fin 16) :
    val_main_v37 (F := Ideal) (ix2 i j) = FloatOps.sitofp (F := Ideal) .f32 (val_main_v16 (F := Ideal) (ix1 i)) * val_main_v27 (F := Ideal) (ix1 j) := by
  pointwise [val_main_v37, val_main_v36, val_main_v35, val_main_v34, val_main_v33, val_main_v17]

theorem toInt_small : ∀ n : Fin 64, (BitVec.ofNat 32 n.val).toInt = (n.val : ℤ) := by decide +kernel

theorem float_small (n : ℕ) (h : n < 64) : FloatOps.sitofp (F := Ideal) .f32 (BitVec.ofNat 32 n) = ((n : ℝ) : EReal) := by
  show (((BitVec.ofNat 32 n).toInt : ℝ) : EReal) = _
  rw [toInt_small ⟨n, h⟩]
  simp

/-- The angle of a column of the first half. -/
theorem row_ang (i : Fin 2048) (j : Fin 16) (l : Fin 64) (h : l.val < 32) (hj : l.val % 16 = j.val) :
    val_main_v32 (F := Ideal) (ix2 i j) = ((ang i l : ℝ) : EReal) := by
  rw [turn_row, row_word, float_small _ (by omega), inv_at, Cert.Tables.inv_eq, ← EReal.coe_mul]
  unfold ang
  rw [if_pos h]
  simp only [hj]

/-- The angle of a column of the second half. -/
theorem col_ang (i : Fin 2048) (j : Fin 16) (l : Fin 64) (h : ¬ l.val < 32) (hj : l.val % 16 = j.val) :
    val_main_v37 (F := Ideal) (ix2 i j) = ((ang i l : ℝ) : EReal) := by
  rw [turn_col, col_word, float_small _ (by omega), inv_at, Cert.Tables.inv_eq, ← EReal.coe_mul]
  unfold ang
  rw [if_neg h]
  simp only [hj]

/-- The four quarters together are the rotation. -/
theorem quarters (i : Fin 2048) (f : Fin 64 → EReal) (l : Fin 64) (y : EReal)
    (h1 : ∀ h : l.val < 16, y = f l * ((Real.cos (ang i l) : ℝ) : EReal) - f ⟨16 + l.val, by omega⟩ * ((Real.sin (ang i l) : ℝ) : EReal))
    (h2 : ∀ h : 16 ≤ l.val, l.val < 32 →
      y = f ⟨l.val - 16, by omega⟩ * ((Real.sin (ang i l) : ℝ) : EReal) + f l * ((Real.cos (ang i l) : ℝ) : EReal))
    (h3 : ∀ h : 32 ≤ l.val, ∀ h' : l.val < 48,
      y = f l * ((Real.cos (ang i l) : ℝ) : EReal) - f ⟨16 + l.val, by omega⟩ * ((Real.sin (ang i l) : ℝ) : EReal))
    (h4 : ∀ h : 48 ≤ l.val,
      y = f ⟨l.val - 16, by omega⟩ * ((Real.sin (ang i l) : ℝ) : EReal) + f l * ((Real.cos (ang i l) : ℝ) : EReal)) :
    y = rot i f l := by
  unfold rot partner
  by_cases g1 : l.val < 16
  · rw [dif_pos g1, h1 g1, sub_eq_add_neg, EReal.neg_mul]
    exact congrArg (fun z => _ + -(f z * _)) (Fin.ext (Nat.add_comm _ _))
  rw [dif_neg g1]
  by_cases g2 : l.val < 32
  · rw [dif_pos g2, h2 (by omega) g2, add_comm]
  rw [dif_neg g2]
  by_cases g3 : l.val < 48
  · rw [dif_pos g3, h3 (by omega) g3, sub_eq_add_neg, EReal.neg_mul]
    exact congrArg (fun z => _ + -(f z * _)) (Fin.ext (Nat.add_comm _ _))
  rw [dif_neg g3, h4 (by omega), add_comm]

/-! ## The rotated queries -/

theorem q_a1 (x0 : FVec Ideal S8192x3072 .f32) (b : Fin 4) (i : Fin 2048) (h : Fin 16) (j : Fin 16) :
    val_main_v52 (F := Ideal) x0 (ix4 b i h j) = val_main_v6 (F := Ideal) x0 (ix4 b i h ⟨j, by omega⟩) * Ideal.cos (val_main_v32 (F := Ideal) (ix2 i j)) - val_main_v6 (F := Ideal) x0 (ix4 b i h ⟨16 + j, by omega⟩) * Ideal.sin (val_main_v32 (F := Ideal) (ix2 i j)) := by
  pointwise [val_main_v52, val_main_v51, val_main_v50, val_main_v49, val_main_v48, val_main_v47, val_main_v46, val_main_v45, val_main_v44, val_main_v43, val_main_v42, val_main_v40, val_main_v38]

theorem q_a2 (x0 : FVec Ideal S8192x3072 .f32) (b : Fin 4) (i : Fin 2048) (h : Fin 16) (j : Fin 16) :
    val_main_v59 (F := Ideal) x0 (ix4 b i h j) = val_main_v6 (F := Ideal) x0 (ix4 b i h ⟨j, by omega⟩) * Ideal.sin (val_main_v32 (F := Ideal) (ix2 i j)) + val_main_v6 (F := Ideal) x0 (ix4 b i h ⟨16 + j, by omega⟩) * Ideal.cos (val_main_v32 (F := Ideal) (ix2 i j)) := by
  pointwise [val_main_v59, val_main_v58, val_main_v57, val_main_v56, val_main_v55, val_main_v54, val_main_v53, val_main_v45, val_main_v44, val_main_v43, val_main_v42, val_main_v40, val_main_v38]

theorem q_b1 (x0 : FVec Ideal S8192x3072 .f32) (b : Fin 4) (i : Fin 2048) (h : Fin 16) (j : Fin 16) :
    val_main_v71 (F := Ideal) x0 (ix4 b i h j) = val_main_v6 (F := Ideal) x0 (ix4 b i h ⟨32 + j, by omega⟩) * Ideal.cos (val_main_v37 (F := Ideal) (ix2 i j)) - val_main_v6 (F := Ideal) x0 (ix4 b i h ⟨32 + (16 + j), by omega⟩) * Ideal.sin (val_main_v37 (F := Ideal) (ix2 i j)) := by
  pointwise [val_main_v71, val_main_v70, val_main_v69, val_main_v68, val_main_v67, val_main_v66, val_main_v65, val_main_v64, val_main_v63, val_main_v62, val_main_v61, val_main_v41, val_main_v39]

theorem q_b2 (x0 : FVec Ideal S8192x3072 .f32) (b : Fin 4) (i : Fin 2048) (h : Fin 16) (j : Fin 16) :
    val_main_v78 (F := Ideal) x0 (ix4 b i h j) = val_main_v6 (F := Ideal) x0 (ix4 b i h ⟨32 + j, by omega⟩) * Ideal.sin (val_main_v37 (F := Ideal) (ix2 i j)) + val_main_v6 (F := Ideal) x0 (ix4 b i h ⟨32 + (16 + j), by omega⟩) * Ideal.cos (val_main_v37 (F := Ideal) (ix2 i j)) := by
  pointwise [val_main_v78, val_main_v77, val_main_v76, val_main_v75, val_main_v74, val_main_v73, val_main_v72, val_main_v64, val_main_v63, val_main_v62, val_main_v61, val_main_v41, val_main_v39]

theorem v6_at (x0 : FVec Ideal S8192x3072 .f32) (b : Fin 4) (i : Fin 2048) (h : Fin 16) (j : Fin 64) :
    val_main_v6 (F := Ideal) x0 (ix4 b i h j) = x0 (ix2 ⟨b * 2048 + i, by omega⟩ ⟨h * 192 + (128 + j), by omega⟩) := by
  pointwise [val_main_v6, val_main_v0]

theorem pair16 (u v : FVec Ideal S4x2048x16x16 .f32) (b : Fin 4) (i : Fin 2048) (h : Fin 16) (l : Fin 32) :
    concatenate S4x2048x16x32 3 [⟨S4x2048x16x16, u⟩, ⟨S4x2048x16x16, v⟩] concatenates_S4x2048x16x16_S4x2048x16x16_S4x2048x16x32_d3 (ix4 b i h l)
      = if g : l.val < 16 then u (ix4 b i h ⟨l, g⟩) else v (ix4 b i h ⟨l - 16, by omega⟩) := by
  pointwise

theorem pair32 (u v : FVec Ideal S4x2048x16x32 .f32) (b : Fin 4) (i : Fin 2048) (h : Fin 16) (l : Fin 64) :
    concatenate S4x2048x16x64 3 [⟨S4x2048x16x32, u⟩, ⟨S4x2048x16x32, v⟩] concatenates_S4x2048x16x32_S4x2048x16x32_S4x2048x16x64_d3 (ix4 b i h l)
      = if g : l.val < 32 then u (ix4 b i h ⟨l, g⟩) else v (ix4 b i h ⟨l - 32, by omega⟩) := by
  pointwise

theorem kpair16 (u v : FVec Ideal S4x2048x16 .f32) (b : Fin 4) (i : Fin 2048) (l : Fin 32) :
    concatenate S4x2048x32 2 [⟨S4x2048x16, u⟩, ⟨S4x2048x16, v⟩] concatenates_S4x2048x16_S4x2048x16_S4x2048x32_d2 (ix3 b i l)
      = if g : l.val < 16 then u (ix3 b i ⟨l, g⟩) else v (ix3 b i ⟨l - 16, by omega⟩) := by
  pointwise

theorem kpair32 (u v : FVec Ideal S4x2048x32 .f32) (b : Fin 4) (i : Fin 2048) (l : Fin 64) :
    concatenate S4x2048x64 2 [⟨S4x2048x32, u⟩, ⟨S4x2048x32, v⟩] concatenates_S4x2048x32_S4x2048x32_S4x2048x64_d2 (ix3 b i l)
      = if g : l.val < 32 then u (ix3 b i ⟨l, g⟩) else v (ix3 b i ⟨l - 32, by omega⟩) := by
  pointwise

theorem queries_rot (x0 : FVec Ideal S8192x3072 .f32) (b : Fin 4) (i : Fin 2048) (h : Fin 16) (l : Fin 64) :
    val_main_v80 (F := Ideal) x0 (ix4 b i h l) = rot i (fun j => val_main_v6 (F := Ideal) x0 (ix4 b i h j)) l := by
  apply quarters
  · intro g
    refine (pair32 _ _ b i h l).trans ((dif_pos (by omega)).trans ((pair16 _ _ b i h _).trans ((dif_pos (by dsimp only; omega)).trans ((q_a1 x0 b i h ⟨l.val, by omega⟩).trans ?_))))
    rw [row_ang i ⟨l.val, by omega⟩ l (by omega) (by dsimp only; omega), Ideal.cos_coe, Ideal.sin_coe]
  · intro g g'
    refine (pair32 _ _ b i h l).trans ((dif_pos (by omega)).trans ((pair16 _ _ b i h _).trans ((dif_neg (by dsimp only; omega)).trans ((q_a2 x0 b i h ⟨l.val - 16, by omega⟩).trans ?_))))
    rw [row_ang i ⟨l.val - 16, by omega⟩ l (by omega) (by dsimp only; omega), Ideal.cos_coe, Ideal.sin_coe]
    refine congrArg₂ (· + ·) (congrArg (· * _) (congrArg (fun z => val_main_v6 (F := Ideal) x0 (ix4 b i h z)) (Fin.ext ?_)))
      (congrArg (· * _) (congrArg (fun z => val_main_v6 (F := Ideal) x0 (ix4 b i h z)) (Fin.ext ?_))) <;> dsimp only <;> omega
  · intro g g'
    refine (pair32 _ _ b i h l).trans ((dif_neg (by omega)).trans ((pair16 _ _ b i h _).trans ((dif_pos (by dsimp only; omega)).trans ((q_b1 x0 b i h ⟨l.val - 32, by omega⟩).trans ?_))))
    rw [col_ang i ⟨l.val - 32, by omega⟩ l (by omega) (by dsimp only; omega), Ideal.cos_coe, Ideal.sin_coe]
    refine congrArg₂ (· - ·) (congrArg (· * _) (congrArg (fun z => val_main_v6 (F := Ideal) x0 (ix4 b i h z)) (Fin.ext ?_)))
      (congrArg (· * _) (congrArg (fun z => val_main_v6 (F := Ideal) x0 (ix4 b i h z)) (Fin.ext ?_))) <;> dsimp only <;> omega
  · intro g
    refine (pair32 _ _ b i h l).trans ((dif_neg (by omega)).trans ((pair16 _ _ b i h _).trans ((dif_neg (by dsimp only; omega)).trans ((q_b2 x0 b i h ⟨l.val - 32 - 16, by omega⟩).trans ?_))))
    rw [col_ang i ⟨l.val - 32 - 16, by omega⟩ l (by omega) (by dsimp only; omega), Ideal.cos_coe, Ideal.sin_coe]
    refine congrArg₂ (· + ·) (congrArg (· * _) (congrArg (fun z => val_main_v6 (F := Ideal) x0 (ix4 b i h z)) (Fin.ext ?_)))
      (congrArg (· * _) (congrArg (fun z => val_main_v6 (F := Ideal) x0 (ix4 b i h z)) (Fin.ext ?_))) <;> dsimp only <;> omega

/-! ## The rotated keys -/

theorem k_a1 (x3 : FVec Ideal S8192x64 .f32) (b : Fin 4) (i : Fin 2048) (j : Fin 16) :
    val_main_v93 (F := Ideal) x3 (ix3 b i j) = val_main_v11 (F := Ideal) x3 (ix3 b i ⟨j, by omega⟩) * Ideal.cos (val_main_v32 (F := Ideal) (ix2 i j)) - val_main_v11 (F := Ideal) x3 (ix3 b i ⟨16 + j, by omega⟩) * Ideal.sin (val_main_v32 (F := Ideal) (ix2 i j)) := by
  pointwise [val_main_v93, val_main_v92, val_main_v91, val_main_v90, val_main_v89, val_main_v88, val_main_v87, val_main_v86, val_main_v85, val_main_v84, val_main_v83, val_main_v81]

theorem k_a2 (x3 : FVec Ideal S8192x64 .f32) (b : Fin 4) (i : Fin 2048) (j : Fin 16) :
    val_main_v100 (F := Ideal) x3 (ix3 b i j) = val_main_v11 (F := Ideal) x3 (ix3 b i ⟨j, by omega⟩) * Ideal.sin (val_main_v32 (F := Ideal) (ix2 i j)) + val_main_v11 (F := Ideal) x3 (ix3 b i ⟨16 + j, by omega⟩) * Ideal.cos (val_main_v32 (F := Ideal) (ix2 i j)) := by
  pointwise [val_main_v100, val_main_v99, val_main_v98, val_main_v97, val_main_v96, val_main_v95, val_main_v94, val_main_v86, val_main_v85, val_main_v84, val_main_v83, val_main_v81]

theorem k_b1 (x3 : FVec Ideal S8192x64 .f32) (b : Fin 4) (i : Fin 2048) (j : Fin 16) :
    val_main_v112 (F := Ideal) x3 (ix3 b i j) = val_main_v11 (F := Ideal) x3 (ix3 b i ⟨32 + j, by omega⟩) * Ideal.cos (val_main_v37 (F := Ideal) (ix2 i j)) - val_main_v11 (F := Ideal) x3 (ix3 b i ⟨32 + (16 + j), by omega⟩) * Ideal.sin (val_main_v37 (F := Ideal) (ix2 i j)) := by
  pointwise [val_main_v112, val_main_v111, val_main_v110, val_main_v109, val_main_v108, val_main_v107, val_main_v106, val_main_v105, val_main_v104, val_main_v103, val_main_v102, val_main_v82]

theorem k_b2 (x3 : FVec Ideal S8192x64 .f32) (b : Fin 4) (i : Fin 2048) (j : Fin 16) :
    val_main_v119 (F := Ideal) x3 (ix3 b i j) = val_main_v11 (F := Ideal) x3 (ix3 b i ⟨32 + j, by omega⟩) * Ideal.sin (val_main_v37 (F := Ideal) (ix2 i j)) + val_main_v11 (F := Ideal) x3 (ix3 b i ⟨32 + (16 + j), by omega⟩) * Ideal.cos (val_main_v37 (F := Ideal) (ix2 i j)) := by
  pointwise [val_main_v119, val_main_v118, val_main_v117, val_main_v116, val_main_v115, val_main_v114, val_main_v113, val_main_v105, val_main_v104, val_main_v103, val_main_v102, val_main_v82]

theorem v11_at (x3 : FVec Ideal S8192x64 .f32) (b : Fin 4) (i : Fin 2048) (j : Fin 64) :
    val_main_v11 (F := Ideal) x3 (ix3 b i j) = x3 (ix2 ⟨b * 2048 + i, by omega⟩ j) := by
  pointwise [val_main_v11]

theorem keys_rot (x3 : FVec Ideal S8192x64 .f32) (b : Fin 4) (i : Fin 2048) (l : Fin 64) :
    val_main_v121 (F := Ideal) x3 (ix3 b i l) = rot i (fun j => val_main_v11 (F := Ideal) x3 (ix3 b i j)) l := by
  apply quarters
  · intro g
    refine (kpair32 _ _ b i l).trans ((dif_pos (by omega)).trans ((kpair16 _ _ b i _).trans ((dif_pos (by dsimp only; omega)).trans ((k_a1 x3 b i ⟨l.val, by omega⟩).trans ?_))))
    rw [row_ang i ⟨l.val, by omega⟩ l (by omega) (by dsimp only; omega), Ideal.cos_coe, Ideal.sin_coe]
  · intro g g'
    refine (kpair32 _ _ b i l).trans ((dif_pos (by omega)).trans ((kpair16 _ _ b i _).trans ((dif_neg (by dsimp only; omega)).trans ((k_a2 x3 b i ⟨l.val - 16, by omega⟩).trans ?_))))
    rw [row_ang i ⟨l.val - 16, by omega⟩ l (by omega) (by dsimp only; omega), Ideal.cos_coe, Ideal.sin_coe]
    refine congrArg₂ (· + ·) (congrArg (· * _) (congrArg (fun z => val_main_v11 (F := Ideal) x3 (ix3 b i z)) (Fin.ext ?_)))
      (congrArg (· * _) (congrArg (fun z => val_main_v11 (F := Ideal) x3 (ix3 b i z)) (Fin.ext ?_))) <;> dsimp only <;> omega
  · intro g g'
    refine (kpair32 _ _ b i l).trans ((dif_neg (by omega)).trans ((kpair16 _ _ b i _).trans ((dif_pos (by dsimp only; omega)).trans ((k_b1 x3 b i ⟨l.val - 32, by omega⟩).trans ?_))))
    rw [col_ang i ⟨l.val - 32, by omega⟩ l (by omega) (by dsimp only; omega), Ideal.cos_coe, Ideal.sin_coe]
    refine congrArg₂ (· - ·) (congrArg (· * _) (congrArg (fun z => val_main_v11 (F := Ideal) x3 (ix3 b i z)) (Fin.ext ?_)))
      (congrArg (· * _) (congrArg (fun z => val_main_v11 (F := Ideal) x3 (ix3 b i z)) (Fin.ext ?_))) <;> dsimp only <;> omega
  · intro g
    refine (kpair32 _ _ b i l).trans ((dif_neg (by omega)).trans ((kpair16 _ _ b i _).trans ((dif_neg (by dsimp only; omega)).trans ((k_b2 x3 b i ⟨l.val - 32 - 16, by omega⟩).trans ?_))))
    rw [col_ang i ⟨l.val - 32 - 16, by omega⟩ l (by omega) (by dsimp only; omega), Ideal.cos_coe, Ideal.sin_coe]
    refine congrArg₂ (· + ·) (congrArg (· * _) (congrArg (fun z => val_main_v11 (F := Ideal) x3 (ix3 b i z)) (Fin.ext ?_)))
      (congrArg (· * _) (congrArg (fun z => val_main_v11 (F := Ideal) x3 (ix3 b i z)) (Fin.ext ?_))) <;> dsimp only <;> omega

end Cert.ReferenceIdeal.Rotation

end
-- ==== Proof.Softmax.lean ====
/- The mathematics of one query row, free of any program: a softmax-weighted sum computed chunk by chunk, with a running
   maximum and a rescaled accumulator, is the softmax-weighted sum computed at once. All over the extended reals, at real
   scores and values. -/
module

public import Idealize.ShloMosaic.Lib.Pointwise

@[expose] public section

noncomputable section

namespace Cert.Softmax

open Idealize.ShloMosaic

/-- The maximum of finitely many reals, started at −∞ and taken over the extended reals, is −∞ or real; over a nonempty
    range it is real. -/
theorem fold_max_real {n : ℕ} (hn : 0 < n) (σ : Fin n → ℝ) :
    ∃ μ : ℝ, (Finset.univ.fold max (⊥ : EReal) fun k => (σ k : EReal)) = (μ : EReal) := by
  have h : ∀ s : Finset (Fin n), s.fold max (⊥ : EReal) (fun k => (σ k : EReal)) = ⊥ ∧ s = ∅
      ∨ ∃ μ : ℝ, s.fold max (⊥ : EReal) (fun k => (σ k : EReal)) = (μ : EReal) := by
    intro s
    induction s using Finset.induction_on with
    | empty => exact .inl ⟨rfl, rfl⟩
    | insert a s ha ih =>
      right
      rw [Finset.fold_insert ha]
      rcases ih with ⟨h0, _⟩ | ⟨μ, h1⟩
      · exact ⟨σ a, by rw [h0]; exact max_bot_right _⟩
      · exact ⟨max (σ a) μ, by rw [h1]; exact (EReal.coe_strictMono.monotone.map_max).symm⟩
  rcases h Finset.univ with ⟨_, h0⟩ | h1
  · exact absurd (Finset.mem_univ (⟨0, hn⟩ : Fin n)) (by rw [h0]; exact Finset.notMem_empty _)
  · exact h1

/-- The finite sum of reals, taken over the extended reals. -/
theorem coe_sum {ι : Type} (s : Finset ι) (f : ι → ℝ) : ((∑ k ∈ s, f k : ℝ) : EReal) = ∑ k ∈ s, (f k : EReal) := by
  classical
  induction s using Finset.induction_on with
  | empty => rfl
  | insert a s ha ih => rw [Finset.sum_insert ha, Finset.sum_insert ha, EReal.coe_add, ih]

/-- The running maximum after one more chunk of scores. -/
def stepM {n : ℕ} (m : EReal) (σ : Fin n → EReal) : EReal := max m (Finset.univ.fold max (⊥ : EReal) σ)

/-- The accumulator after one more chunk: what was there, rescaled to the new maximum, plus the chunk's weighted sum. -/
def stepA {n : ℕ} (m a : EReal) (σ v : Fin n → EReal) : EReal :=
  a * Ideal.exp2 (m - stepM m σ) + ∑ k, Ideal.exp2 (σ k - stepM m σ) * v k

/-- A power of two of a difference. -/
theorem rpow_sub' (x y : ℝ) : Real.rpow 2 (x - y) = Real.rpow 2 x * Real.rpow 2 (-y) := by
  have := Real.rpow_add (show (0 : ℝ) < 2 by norm_num) x (-y)
  rw [← sub_eq_add_neg] at this
  exact this

theorem rpow_pos' (x : ℝ) : 0 < Real.rpow 2 x := Real.rpow_pos_of_pos (by norm_num) x

/-- A chunk's weighted sum against a real maximum. -/
theorem chunk_real {n : ℕ} (σ v : Fin n → ℝ) (μ : ℝ) :
    (∑ k, Ideal.exp2 ((σ k : EReal) - (μ : EReal)) * (v k : EReal))
      = (((∑ k, Real.rpow 2 (σ k) * v k) * Real.rpow 2 (-μ) : ℝ) : EReal) := by
  rw [Finset.sum_mul, coe_sum]
  refine Finset.sum_congr rfl fun k _ => ?_
  rw [← EReal.coe_sub, Ideal.exp2_coe, ← EReal.coe_mul, rpow_sub']
  congr 1
  ring

/-- The first chunk, from the maximum −∞ and the accumulator 0. -/
theorem first_real {n : ℕ} (hn : 0 < n) (σ : Fin n → ℝ) :
    ∃ μ : ℝ, stepM ⊥ (fun k => (σ k : EReal)) = μ ∧ ∀ v : Fin n → ℝ,
      stepA ⊥ 0 (fun k => (σ k : EReal)) (fun k => (v k : EReal))
        = (((∑ k, Real.rpow 2 (σ k) * v k) * Real.rpow 2 (-μ) : ℝ) : EReal) := by
  obtain ⟨μ, hμ⟩ := fold_max_real hn σ
  have hm : stepM ⊥ (fun k => (σ k : EReal)) = μ := by
    unfold stepM; rw [hμ]; exact max_bot_left _
  refine ⟨μ, hm, fun v => ?_⟩
  unfold stepA
  rw [hm, zero_mul, zero_add, chunk_real]

/-- A further chunk, from a real maximum and a real accumulator. -/
theorem next_real {n : ℕ} (hn : 0 < n) (σ : Fin n → ℝ) (μ : ℝ) :
    ∃ μ' : ℝ, stepM (μ : EReal) (fun k => (σ k : EReal)) = μ' ∧ ∀ (A : ℝ) (v : Fin n → ℝ),
      stepA (μ : EReal) ((A * Real.rpow 2 (-μ) : ℝ) : EReal) (fun k => (σ k : EReal)) (fun k => (v k : EReal))
        = (((A + ∑ k, Real.rpow 2 (σ k) * v k) * Real.rpow 2 (-μ') : ℝ) : EReal) := by
  obtain ⟨ν, hν⟩ := fold_max_real hn σ
  have hm : stepM (μ : EReal) (fun k => (σ k : EReal)) = ((max μ ν : ℝ) : EReal) := by
    unfold stepM; rw [hν]; exact (EReal.coe_strictMono.monotone.map_max).symm
  refine ⟨max μ ν, hm, fun A v => ?_⟩
  unfold stepA
  rw [hm, chunk_real, ← EReal.coe_sub, Ideal.exp2_coe, ← EReal.coe_mul, ← EReal.coe_add, rpow_sub']
  have h1 : Real.rpow 2 (-μ) * Real.rpow 2 μ = 1 := by
    rw [mul_comm, ← rpow_sub', sub_self]; exact Real.rpow_zero 2
  congr 1
  rw [add_mul, mul_assoc A, ← mul_assoc (Real.rpow 2 (-μ)), h1, one_mul]

/-- THREE CHUNKS: the weighted sum's accumulator over the weights' accumulator is the quotient of the two whole sums. -/
theorem three_chunks {n : ℕ} (hn : 0 < n) (σ₁ σ₂ σ₃ v₁ v₂ v₃ : Fin n → ℝ) :
    let m₁ := stepM ⊥ (fun k => (σ₁ k : EReal))
    let m₂ := stepM m₁ (fun k => (σ₂ k : EReal))
    Ideal.div
      (stepA m₂ (stepA m₁ (stepA ⊥ 0 (fun k => (σ₁ k : EReal)) (fun k => (v₁ k : EReal)))
        (fun k => (σ₂ k : EReal)) (fun k => (v₂ k : EReal))) (fun k => (σ₃ k : EReal)) (fun k => (v₃ k : EReal)))
      (stepA m₂ (stepA m₁ (stepA ⊥ 0 (fun k => (σ₁ k : EReal)) (fun _ => 1))
        (fun k => (σ₂ k : EReal)) (fun _ => 1)) (fun k => (σ₃ k : EReal)) (fun _ => 1))
      = (((((∑ k, Real.rpow 2 (σ₁ k) * v₁ k) + ∑ k, Real.rpow 2 (σ₂ k) * v₂ k) + ∑ k, Real.rpow 2 (σ₃ k) * v₃ k)
          / (((∑ k, Real.rpow 2 (σ₁ k)) + ∑ k, Real.rpow 2 (σ₂ k)) + ∑ k, Real.rpow 2 (σ₃ k)) : ℝ) : EReal) := by
  obtain ⟨μ₁, h₁, a₁⟩ := first_real hn σ₁
  obtain ⟨μ₂, h₂, a₂⟩ := next_real hn σ₂ μ₁
  obtain ⟨μ₃, h₃, a₃⟩ := next_real hn σ₃ μ₂
  have one : ∀ n, (fun _ : Fin n => (1 : EReal)) = fun _ => ((1 : ℝ) : EReal) := fun _ => rfl
  intro m₁ m₂
  have e₁ : m₁ = μ₁ := h₁
  have e₂ : m₂ = μ₂ := by show stepM m₁ _ = _; rw [e₁]; exact h₂
  rw [e₂, e₁, one, a₁, a₁ (fun _ => 1), a₂, a₂, a₃, a₃]
  simp only [mul_one]
  have hp : ∀ σ : Fin n → ℝ, 0 < ∑ k, Real.rpow 2 (σ k) := fun σ =>
    Finset.sum_pos (fun k _ => rpow_pos' _) ⟨⟨0, hn⟩, Finset.mem_univ _⟩
  have hz : (((∑ k, Real.rpow 2 (σ₁ k)) + ∑ k, Real.rpow 2 (σ₂ k)) + ∑ k, Real.rpow 2 (σ₃ k)) * Real.rpow 2 (-μ₃) ≠ 0 :=
    ne_of_gt (mul_pos (add_pos (add_pos (hp _) (hp _)) (hp _)) (rpow_pos' _))
  rw [Ideal.div_coe hz, ← EReal.coe_mul]
  congr 1
  rw [mul_one_div, mul_div_mul_right _ _ (ne_of_gt (rpow_pos' _))]

/-- THE SOFTMAX AT ONCE, against its own maximum: the weighted sum of the quotients is the quotient of the two sums. -/
theorem at_once {n : ℕ} (hn : 0 < n) (x v : Fin n → ℝ) :
    (∑ k, (v k : EReal) * Ideal.div
        (Ideal.exp ((x k : EReal) - max ⊥ (Finset.univ.fold max (⊥ : EReal) fun k => (x k : EReal))))
        (∑ l, Ideal.exp ((x l : EReal) - max ⊥ (Finset.univ.fold max (⊥ : EReal) fun k => (x k : EReal)))))
      = (((∑ k, Real.exp (x k) * v k) / (∑ k, Real.exp (x k)) : ℝ) : EReal) := by
  obtain ⟨μ, hμ⟩ := fold_max_real hn x
  rw [hμ, max_bot_left]
  have hs : (∑ l, Ideal.exp ((x l : EReal) - (μ : EReal))) = (((∑ k, Real.exp (x k)) * Real.exp (-μ) : ℝ) : EReal) := by
    rw [Finset.sum_mul, coe_sum]
    refine Finset.sum_congr rfl fun k _ => ?_
    rw [← EReal.coe_sub, Ideal.exp_coe, sub_eq_add_neg, Real.exp_add]
  have hp : 0 < ∑ k, Real.exp (x k) := Finset.sum_pos (fun k _ => Real.exp_pos _) ⟨⟨0, hn⟩, Finset.mem_univ _⟩
  have hz : (∑ k, Real.exp (x k)) * Real.exp (-μ) ≠ 0 := ne_of_gt (mul_pos hp (Real.exp_pos _))
  rw [hs, Finset.sum_div, coe_sum]
  refine Finset.sum_congr rfl fun k _ => ?_
  rw [Ideal.div_coe hz, ← EReal.coe_sub, Ideal.exp_coe, ← EReal.coe_mul, ← EReal.coe_mul, sub_eq_add_neg, Real.exp_add]
  congr 1
  have := Real.exp_pos (-μ)
  field_simp

/-- A power of two of a score in units of log 2 is the exponential of the score. -/
theorem rpow_log (x : ℝ) : Real.rpow 2 ((Real.log 2)⁻¹ * x) = Real.exp x := by
  have h2 : Real.log 2 ≠ 0 := ne_of_gt (Real.log_pos (by norm_num))
  refine (Real.rpow_def_of_pos (by norm_num) _).trans ?_
  rw [← mul_assoc, mul_inv_cancel₀ h2, one_mul]

end Cert.Softmax

end
-- ==== Proof.Reference.lean ====
/- The reference's attention read at an element. -/
module

public import proofs.«01_k».proof.Proof.Rotation
public import proofs.«01_k».proof.Proof.Softmax

@[expose] public section

set_option maxRecDepth 16384

noncomputable section

namespace Cert.ReferenceIdeal.Attention

open Idealize.ShloMosaic Idealize.ShloMosaic.TcCoe Idealize.SL.Sem
open Cert.ReferenceIdeal Cert.ReferenceIdeal.Gen Cert.ReferenceIdeal.Read Cert.ReferenceIdeal.Rotation

variable (x0 : FVec Ideal S8192x3072 .f32) (x1 : FVec Ideal S8192x4096 .bf16) (x2 : FVec Ideal S1024x4096 .bf16)
  (x3 : FVec Ideal S8192x64 .f32) (x4 : FVec Ideal S1024x64 .f32)

/-- Column `j` of head `h` of the keys' and values' array at key `k` of batch `b`: the latents' rows, then the context's. -/
def kvAt (b : Fin 4) (h : Fin 16) (k : Fin 2304) (j : Fin 256) : EReal :=
  if g : k.val < 2048 then x1 (ix2 ⟨b * 2048 + k, by omega⟩ ⟨h * 256 + j, by omega⟩)
  else x2 (ix2 ⟨b * 256 + (k - 2048), by omega⟩ ⟨h * 256 + j, by omega⟩)

/-- The position columns of key `k`: the latents' rotated, the context's as they are. -/
def krAt (b : Fin 4) (k : Fin 2304) (j : Fin 64) : EReal :=
  if g : k.val < 2048 then rot ⟨k, g⟩ (fun j => x3 (ix2 ⟨b * 2048 + k, by omega⟩ j)) j
  else x4 (ix2 ⟨b * 256 + (k - 2048), by omega⟩ j)

/-- The score before the division. -/
def scoreAt (b : Fin 4) (h : Fin 16) (i : Fin 2048) (k : Fin 2304) : EReal :=
  (∑ l : Fin 128, x0 (ix2 ⟨b * 2048 + i, by omega⟩ ⟨h * 192 + l, by omega⟩) * kvAt x1 x2 b h k ⟨l, by omega⟩)
    + ∑ j : Fin 64, krAt x3 x4 b k j * rot i (fun j => x0 (ix2 ⟨b * 2048 + i, by omega⟩ ⟨h * 192 + (128 + j), by omega⟩)) j

theorem stack128 (u : FVec Ideal S4x2048x16x128 .f32) (v : FVec Ideal S4x256x16x128 .f32) (b : Fin 4) (k : Fin 2304) (h : Fin 16) (l : Fin 128) :
    concatenate S4x2304x16x128 1 [⟨S4x2048x16x128, u⟩, ⟨S4x256x16x128, v⟩] concatenates_S4x2048x16x128_S4x256x16x128_S4x2304x16x128_d1 (ix4 b k h l)
      = if g : k.val < 2048 then u (ix4 b ⟨k, g⟩ h l) else v (ix4 b ⟨k - 2048, by omega⟩ h l) := by
  pointwise

theorem stack64 (u : FVec Ideal S4x2048x64 .f32) (v : FVec Ideal S4x256x64 .f32) (b : Fin 4) (k : Fin 2304) (l : Fin 64) :
    concatenate S4x2304x64 1 [⟨S4x2048x64, u⟩, ⟨S4x256x64, v⟩] concatenates_S4x2048x64_S4x256x64_S4x2304x64_d1 (ix3 b k l)
      = if g : k.val < 2048 then u (ix3 b ⟨k, g⟩ l) else v (ix3 b ⟨k - 2048, by omega⟩ l) := by
  pointwise

theorem v5_at (b : Fin 4) (i : Fin 2048) (h : Fin 16) (l : Fin 128) :
    val_main_v5 (F := Ideal) x0 (ix4 b i h l) = x0 (ix2 ⟨b * 2048 + i, by omega⟩ ⟨h * 192 + l, by omega⟩) := by
  pointwise [val_main_v5, val_main_v0]

theorem v7_at (b : Fin 4) (i : Fin 2048) (h : Fin 16) (l : Fin 128) :
    val_main_v7 (F := Ideal) x1 (ix4 b i h l) = x1 (ix2 ⟨b * 2048 + i, by omega⟩ ⟨h * 256 + l, by omega⟩) := by
  pointwise [val_main_v7, val_main_v2, val_main_v1]

theorem v8_at (b : Fin 4) (i : Fin 2048) (h : Fin 16) (l : Fin 128) :
    val_main_v8 (F := Ideal) x1 (ix4 b i h l) = x1 (ix2 ⟨b * 2048 + i, by omega⟩ ⟨h * 256 + (128 + l), by omega⟩) := by
  pointwise [val_main_v8, val_main_v2, val_main_v1]

theorem v9_at (b : Fin 4) (i : Fin 256) (h : Fin 16) (l : Fin 128) :
    val_main_v9 (F := Ideal) x2 (ix4 b i h l) = x2 (ix2 ⟨b * 256 + i, by omega⟩ ⟨h * 256 + l, by omega⟩) := by
  pointwise [val_main_v9, val_main_v4, val_main_v3]

theorem v10_at (b : Fin 4) (i : Fin 256) (h : Fin 16) (l : Fin 128) :
    val_main_v10 (F := Ideal) x2 (ix4 b i h l) = x2 (ix2 ⟨b * 256 + i, by omega⟩ ⟨h * 256 + (128 + l), by omega⟩) := by
  pointwise [val_main_v10, val_main_v4, val_main_v3]

theorem v12_at (b : Fin 4) (i : Fin 256) (l : Fin 64) :
    val_main_v12 (F := Ideal) x4 (ix3 b i l) = x4 (ix2 ⟨b * 256 + i, by omega⟩ l) := by
  pointwise [val_main_v12]

theorem v122_at (b : Fin 4) (k : Fin 2304) (h : Fin 16) (l : Fin 128) :
    val_main_v122 (F := Ideal) x1 x2 (ix4 b k h l) = kvAt x1 x2 b h k ⟨l, by omega⟩ := by
  refine (stack128 _ _ b k h l).trans ?_
  unfold kvAt
  split_ifs
  · exact v7_at x1 _ _ _ _
  · exact v9_at x2 _ _ _ _

theorem v124_at (b : Fin 4) (k : Fin 2304) (h : Fin 16) (l : Fin 128) :
    val_main_v124 (F := Ideal) x1 x2 (ix4 b k h l) = kvAt x1 x2 b h k ⟨128 + l, by omega⟩ := by
  refine (stack128 _ _ b k h l).trans ?_
  unfold kvAt
  split_ifs
  · exact v8_at x1 _ _ _ _
  · exact v10_at x2 _ _ _ _

theorem v123_at (b : Fin 4) (k : Fin 2304) (l : Fin 64) :
    val_main_v123 (F := Ideal) x3 x4 (ix3 b k l) = krAt x3 x4 b k l := by
  refine (stack64 _ _ b k l).trans ?_
  unfold krAt
  split_ifs with g
  · refine (keys_rot x3 b ⟨k, g⟩ l).trans ?_
    simp only [v11_at]
  · exact v12_at x4 _ _ _

theorem v80_at (b : Fin 4) (i : Fin 2048) (h : Fin 16) (l : Fin 64) :
    val_main_v80 (F := Ideal) x0 (ix4 b i h l)
      = rot i (fun j => x0 (ix2 ⟨b * 2048 + i, by omega⟩ ⟨h * 192 + (128 + j), by omega⟩)) l := by
  refine (queries_rot x0 b i h l).trans ?_
  simp only [v6_at]

theorem v125_at (b : Fin 4) (h : Fin 16) (i : Fin 2048) (k : Fin 2304) :
    val_main_v125 (F := Ideal) x0 x1 x2 (ix4 b h i k)
      = ∑ l : Fin 128, val_main_v5 (F := Ideal) x0 (ix4 b i h l) * val_main_v122 (F := Ideal) x1 x2 (ix4 b k h l) := by
  pointwise [val_main_v125]

theorem v127_at (b : Fin 4) (h : Fin 16) (i : Fin 2048) (k : Fin 2304) :
    val_main_v127 (F := Ideal) x0 x3 x4 (ix4 b h i k)
      = ∑ j : Fin 64, val_main_v123 (F := Ideal) x3 x4 (ix3 b k j) * val_main_v80 (F := Ideal) x0 (ix4 b i h j) := by
  pointwise [val_main_v127, val_main_v126]

theorem v131_at (b : Fin 4) (h : Fin 16) (i : Fin 2048) (k : Fin 2304) :
    val_main_v131 (F := Ideal) x0 x1 x2 x3 x4 (ix4 b h i k)
      = Ideal.div (scoreAt x0 x1 x2 x3 x4 b h i k) (Ideal.sqrt (Ideal.ofBits .f32 0x43400000#32)) := by
  have e : val_main_v131 (F := Ideal) x0 x1 x2 x3 x4 (ix4 b h i k)
      = Ideal.div (val_main_v125 (F := Ideal) x0 x1 x2 (ix4 b h i k) + val_main_v127 (F := Ideal) x0 x3 x4 (ix4 b h i k))
          (Ideal.sqrt (Ideal.ofBits .f32 0x43400000#32)) := by
    pointwise [val_main_v131, val_main_v128, val_main_v130, val_main_v129, val_main_cst_4]
  rw [e, v125_at, v127_at]
  unfold scoreAt
  simp only [v5_at, v122_at, v123_at, v80_at]

theorem fold_at (u : FVec Ideal S4x16x2048x2304 .f32) (w : FVec Ideal S_ .f32) (b : Fin 4) (h : Fin 16) (i : Fin 2048) :
    Host.reduce FloatOps.maximumf u w reducesTo_S4x16x2048x2304_S4x16x2048_d3 h_S_ (ix3 b h i)
      = Finset.univ.fold max (w (Shape.Idx.first h_S_)) fun k : Fin 2304 => u (ix4 b h i k) := by
  pointwise

theorem v133_at (b : Fin 4) (h : Fin 16) (i : Fin 2048) :
    val_main_v133 (F := Ideal) (ix3 b h i) = Ideal.ofBits .f32 0xFF800000#32 := by
  pointwise [val_main_v133, val_main_cst_6]

theorem max_at (u v : FVec Ideal S4x16x2048 .f32) (j : S4x16x2048.Idx) : maximumf u v j = max (u j) (v j) := rfl

theorem v132_at (b : Fin 4) (h : Fin 16) (i : Fin 2048) :
    val_main_v132 (F := Ideal) x0 x1 x2 x3 x4 (ix3 b h i)
      = Finset.univ.fold max (Ideal.ofBits .f32 0xFF800000#32)
          fun k : Fin 2304 => val_main_v131 (F := Ideal) x0 x1 x2 x3 x4 (ix4 b h i k) := by
  unfold val_main_v132
  rw [fold_at, val_main_cst_5_apply, Ideal.ofBits_def]

theorem v134_at (b : Fin 4) (h : Fin 16) (i : Fin 2048) :
    val_main_v134 (F := Ideal) x0 x1 x2 x3 x4 (ix3 b h i)
      = max (Ideal.ofBits .f32 0xFF800000#32) (Finset.univ.fold max (Ideal.ofBits .f32 0xFF800000#32)
          fun k : Fin 2304 => val_main_v131 (F := Ideal) x0 x1 x2 x3 x4 (ix4 b h i k)) := by
  unfold val_main_v134
  rw [max_at, v133_at, v132_at]

theorem v138_at (b : Fin 4) (h : Fin 16) (i : Fin 2048) (k : Fin 2304) :
    val_main_v138 (F := Ideal) x0 x1 x2 x3 x4 (ix4 b h i k)
      = Ideal.exp (val_main_v131 (F := Ideal) x0 x1 x2 x3 x4 (ix4 b h i k) - val_main_v134 (F := Ideal) x0 x1 x2 x3 x4 (ix3 b h i)) := by
  pointwise [val_main_v138, val_main_v137, val_main_v136, val_main_v135]

theorem v142_at (b : Fin 4) (h : Fin 16) (i : Fin 2048) (k : Fin 2304) :
    val_main_v142 (F := Ideal) x0 x1 x2 x3 x4 (ix4 b h i k)
      = Ideal.div (val_main_v138 (F := Ideal) x0 x1 x2 x3 x4 (ix4 b h i k))
          (∑ l : Fin 2304, val_main_v138 (F := Ideal) x0 x1 x2 x3 x4 (ix4 b h i l)) := by
  pointwise [val_main_v142, val_main_v141, val_main_v140, val_main_v139, val_main_cst_7]

theorem v146_at (x : Fin 8192) (y : Fin 2048) :
    val_main_v146 (F := Ideal) x0 x1 x2 x3 x4 (ix2 x y)
      = ∑ k : Fin 2304, val_main_v124 (F := Ideal) x1 x2 (ix4 ⟨x / 2048, by omega⟩ k ⟨y / 128, by omega⟩ ⟨y % 128, by omega⟩)
          * val_main_v142 (F := Ideal) x0 x1 x2 x3 x4 (ix4 ⟨x / 2048, by omega⟩ ⟨y / 128, by omega⟩ ⟨x % 2048, by omega⟩ k) := by
  pointwise [val_main_v146, val_main_v145, val_main_v144, val_main_v143]

end Cert.ReferenceIdeal.Attention

end
-- ==== Proof.Body.lean ====
/- One grid point of the attention, as a function of the vectors that it loads: the scaled queries, three chunks of keys and
   three chunks of values. Read at one row and one column, the stored output is the quotient of two running sums. -/
module

public import proofs.«01_k».proof.Proof.Gen.KernelIdeal.Skeleton
public import proofs.«01_k».proof.Proof.Softmax
public import Idealize.ShloMosaic.Lib.Pointwise

@[expose] public section

set_option maxRecDepth 16384

noncomputable section

namespace Cert.KernelIdeal.Body

open Idealize.ShloMosaic Idealize.ShloMosaic.TcCoe Idealize.SL.Sem
open Cert.KernelIdeal Cert.KernelIdeal.Gen Cert.Softmax

/-- The word of −∞ denotes −∞. -/
theorem word_bot : Ideal.ofBits .f32 0xFF800000#32 = ⊥ := by
  simp [Ideal.ofBits, Ideal.ieee]

/-- A query row against one key of a chunk. -/
def score (q : FVec Ideal S1024x256 .bf16) (a : FVec Ideal S768x256 .bf16) (r : Fin 1024) (k : Fin 768) : EReal :=
  ∑ l : Fin 256, q (ix2 r l) * a (ix2 k l)

variable (q : FVec Ideal S1024x256 .bf16) (a₁ a₂ a₃ b₁ b₂ b₃ : FVec Ideal S768x256 .bf16)

theorem scores1 (r : Fin 1024) (k : Fin 768) : k0_pay15 (F := Ideal) q a₁ (ix2 r k) = score q a₁ r k := by
  pointwise! [k0_pay15, score]

theorem scores2 (r : Fin 1024) (k : Fin 768) : k0_pay17 (F := Ideal) q a₁ (ix2 r k) = score q a₁ r k := by
  pointwise! [k0_pay17, score]

theorem scores3 (r : Fin 1024) (k : Fin 768) : k0_pay20 (F := Ideal) q a₁ (ix2 r k) = score q a₁ r k := by
  pointwise! [k0_pay20, score]

theorem start (r : Fin 1024) : k0_pay14 (F := Ideal) (ix2 r 0) = (⊥ : EReal) := by
  pointwise [k0_pay14]
  exact word_bot

/-- A column of row maxima, read at a row. -/
theorem rowMax (v : FVec Ideal S1024x768 .f32) (r : Fin 1024) :
    multiReduction .maximumf [1] S1024 v 0xFF800000#32 reduces_S1024x768_S1024 (.inl rfl) rfl (ix1 r)
      = Finset.univ.fold max (⊥ : EReal) fun k => v (ix2 r k) := by
  pointwise
  rw [word_bot]

theorem column (v : FVec Ideal S1024 .f32) (r : Fin 1024) :
    shapeCast S1024x1 v shapeCasts_S1024_S1024x1 (ix2 r 0) = v (ix1 r) := by
  pointwise

/-- One more chunk's maximum, read at a row. -/
theorem colMax (w : FVec Ideal S1024x1 .f32) (v : FVec Ideal S1024x768 .f32) (r : Fin 1024) :
    maximumf (F := Ideal) w (shapeCast S1024x1
        (multiReduction .maximumf [1] S1024 v 0xFF800000#32 reduces_S1024x768_S1024 (.inl rfl) rfl)
        shapeCasts_S1024_S1024x1) (ix2 r 0)
      = stepM (w (ix2 r 0)) (fun k => v (ix2 r k)) := by
  have h := (column (multiReduction .maximumf [1] S1024 v 0xFF800000#32 reduces_S1024x768_S1024 (.inl rfl) rfl) r).trans
    (rowMax v r)
  exact congrArg (max (w (ix2 r 0))) h

/-- The running maximum after the first, the second and the third chunk. -/
theorem max1 (r : Fin 1024) : k0_pay16 (F := Ideal) q k0_pay14 a₁ (ix2 r 0) = stepM ⊥ (score q a₁ r) := by
  refine (colMax k0_pay14 (k0_pay15 q a₁) r).trans ?_
  simp only [start, scores1]

theorem max2 (r : Fin 1024) : k0_pay18 (F := Ideal) q k0_pay14 a₁ a₂ (ix2 r 0)
    = stepM (stepM ⊥ (score q a₁ r)) (score q a₂ r) := by
  refine (colMax (k0_pay16 q k0_pay14 a₁) (k0_pay17 q a₂) r).trans ?_
  simp only [max1, scores2]

theorem max3 (r : Fin 1024) : k0_pay21 (F := Ideal) q k0_pay14 a₁ a₂ a₃ (ix2 r 0)
    = stepM (stepM (stepM ⊥ (score q a₁ r)) (score q a₂ r)) (score q a₃ r) := by
  refine (colMax (k0_pay18 q k0_pay14 a₁ a₂) (k0_pay20 q a₃) r).trans ?_
  simp only [max2, scores3]

/-- A column spread over the value columns, and over the keys of a chunk. -/
theorem spread256 (v : FVec Ideal S1024x1 .f32) (r : Fin 1024) (d : Fin 256) :
    broadcastTo S1024x256 v broadcasts_S1024x1_S1024x256 (ix2 r d) = v (ix2 r 0) := by
  pointwise

theorem spread768 (v : FVec Ideal S1024x1 .f32) (r : Fin 1024) (k : Fin 768) :
    broadcastTo S1024x768 v broadcasts_S1024x1_S1024x768 (ix2 r k) = v (ix2 r 0) := by
  pointwise

/-- The weights against the values of one chunk. -/
theorem product (w : FVec Ideal S1024x768 .bf16) (b : FVec Ideal S768x256 .bf16) (r : Fin 1024) (d : Fin 256) :
    matmul (F := Ideal) dot_S1024x768_S768x256_S1024x256_1_0_0_1_n_n none w b (constant S1024x256 .f32 0x00000000#32) (ix2 r d)
      = ∑ k : Fin 768, w (ix2 r k) * b (ix2 k d) := by
  pointwise

/-- A chunk's weights at a row. -/
theorem weights (m : FVec Ideal S1024x1 .f32) (s : FVec Ideal S1024x768 .f32) (r : Fin 1024) (k : Fin 768) :
    exp2 (F := Ideal) (subf s (broadcastTo S1024x768 m broadcasts_S1024x1_S1024x768)) (ix2 r k)
      = Ideal.exp2 (s (ix2 r k) - m (ix2 r 0)) :=
  congrArg (fun x : EReal => Ideal.exp2 (s (ix2 r k) - x)) (spread768 m r k)

/-- One more chunk's accumulator, read at a row and a value column. -/
theorem accumulate (w m : FVec Ideal S1024x1 .f32) (p : FVec Ideal S1024x768 .f32) (a : FVec Ideal S1024x256 .f32)
    (b : FVec Ideal S768x256 .bf16) (r : Fin 1024) (d : Fin 256) :
    addf (F := Ideal) (mulf a (broadcastTo S1024x256 (exp2 (subf w m)) broadcasts_S1024x1_S1024x256))
        (matmul dot_S1024x768_S768x256_S1024x256_1_0_0_1_n_n none (truncf .bf16 p bitsLt_bf16_f32) b
          (constant S1024x256 .f32 0x00000000#32)) (ix2 r d)
      = a (ix2 r d) * Ideal.exp2 (w (ix2 r 0) - m (ix2 r 0)) + ∑ k : Fin 768, (p (ix2 r k) : EReal) * b (ix2 k d) :=
  congrArg₂ (fun x y : EReal => x + y)
    (congrArg (fun x : EReal => a (ix2 r d) * x) (spread256 (exp2 (subf w m)) r d))
    (product (truncf .bf16 p bitsLt_bf16_f32) b r d)

theorem zero256 (r : Fin 1024) (d : Fin 256) :
    (broadcast S1024x256 (Scalar.ofBits .f32 0x00000000#32) : FVec Ideal S1024x256 .f32) (ix2 r d) = (0 : EReal) := by
  pointwise

/-- The weights of the first and of the second chunk. -/
def w1 : FVec Ideal S1024x768 .f32 :=
  exp2 (subf (k0_pay15 q a₁) (broadcastTo S1024x768 (k0_pay16 q k0_pay14 a₁) broadcasts_S1024x1_S1024x768))

def w2 : FVec Ideal S1024x768 .f32 :=
  exp2 (subf (k0_pay17 q a₂) (broadcastTo S1024x768 (k0_pay18 q k0_pay14 a₁ a₂) broadcasts_S1024x1_S1024x768))

/-- The accumulator after one chunk. -/
def first : FVec Ideal S1024x256 .f32 :=
  addf (mulf (broadcast S1024x256 (Scalar.ofBits .f32 0x00000000#32))
      (broadcastTo S1024x256 (exp2 (subf k0_pay14 (k0_pay16 q k0_pay14 a₁))) broadcasts_S1024x1_S1024x256))
    (matmul dot_S1024x768_S768x256_S1024x256_1_0_0_1_n_n none (truncf .bf16 (w1 q a₁) bitsLt_bf16_f32) b₁
      (constant S1024x256 .f32 0x00000000#32))

theorem first_at (r : Fin 1024) (d : Fin 256) :
    first q a₁ b₁ (ix2 r d) = stepA ⊥ 0 (score q a₁ r) (fun k => b₁ (ix2 k d)) := by
  refine (accumulate k0_pay14 (k0_pay16 q k0_pay14 a₁) (w1 q a₁) (broadcast S1024x256 (Scalar.ofBits .f32 0x00000000#32))
    b₁ r d).trans ?_
  have hw : ∀ k, w1 q a₁ (ix2 r k) = Ideal.exp2 (score q a₁ r k - stepM ⊥ (score q a₁ r)) := fun k => by
    refine (weights (k0_pay16 q k0_pay14 a₁) (k0_pay15 q a₁) r k).trans ?_
    simp only [max1, scores1]
  simp only [hw, max1, start, zero256, stepA]

theorem acc2_eq : k0_pay19 (F := Ideal) q k0_pay14 a₁ b₁ a₂ b₂
    = addf (mulf (first q a₁ b₁) (broadcastTo S1024x256
          (exp2 (subf (k0_pay16 q k0_pay14 a₁) (k0_pay18 q k0_pay14 a₁ a₂))) broadcasts_S1024x1_S1024x256))
        (matmul dot_S1024x768_S768x256_S1024x256_1_0_0_1_n_n none (truncf .bf16 (w2 q a₁ a₂) bitsLt_bf16_f32) b₂
          (constant S1024x256 .f32 0x00000000#32)) := rfl

/-- The accumulator after two chunks. -/
theorem acc2 (r : Fin 1024) (d : Fin 256) : k0_pay19 (F := Ideal) q k0_pay14 a₁ b₁ a₂ b₂ (ix2 r d)
    = stepA (stepM ⊥ (score q a₁ r)) (stepA ⊥ 0 (score q a₁ r) (fun k => b₁ (ix2 k d))) (score q a₂ r)
        (fun k => b₂ (ix2 k d)) := by
  rw [acc2_eq]
  refine (accumulate (k0_pay16 q k0_pay14 a₁) (k0_pay18 q k0_pay14 a₁ a₂) (w2 q a₁ a₂) (first q a₁ b₁) b₂ r d).trans ?_
  have hw : ∀ k, w2 q a₁ a₂ (ix2 r k)
      = Ideal.exp2 (score q a₂ r k - stepM (stepM ⊥ (score q a₁ r)) (score q a₂ r)) := fun k => by
    refine (weights (k0_pay18 q k0_pay14 a₁ a₂) (k0_pay17 q a₂) r k).trans ?_
    simp only [max2, scores2]
  simp only [hw, first_at, max1, max2, stepA]

/-- The last chunk's weights. -/
theorem weights3 (r : Fin 1024) (k : Fin 768) : k0_pay22 (F := Ideal) q k0_pay14 a₁ a₂ a₃ (ix2 r k)
    = Ideal.exp2 (score q a₃ r k - stepM (stepM (stepM ⊥ (score q a₁ r)) (score q a₂ r)) (score q a₃ r)) := by
  refine (weights (k0_pay21 q k0_pay14 a₁ a₂ a₃) (k0_pay20 q a₃) r k).trans ?_
  simp only [max3, scores3]

/-- The accumulator of a value column after all three chunks. -/
def acc (r : Fin 1024) (d : Fin 256) : EReal :=
  stepA (stepM (stepM ⊥ (score q a₁ r)) (score q a₂ r))
    (stepA (stepM ⊥ (score q a₁ r)) (stepA ⊥ 0 (score q a₁ r) (fun k => b₁ (ix2 k d))) (score q a₂ r)
      (fun k => b₂ (ix2 k d)))
    (score q a₃ r) (fun k => b₃ (ix2 k d))

/-- The value columns over the weights' column. -/
theorem quotient (x : FVec Ideal S1024x256 .f32) (r : Fin 1024) (d : Fin 128) :
    truncf (F := Ideal) .bf16 (divf (extractStridedSlice S1024x128 ![0, 0] x slices_S1024x256_o0_0_S1024x128)
        (broadcastTo S1024x128 (extractStridedSlice S1024x1 ![0, 128] x slices_S1024x256_o0_128_S1024x1)
          broadcasts_S1024x1_S1024x128)) bitsLt_bf16_f32 (ix2 r d)
      = Ideal.div (x (ix2 r ⟨d.val, by omega⟩)) (x (ix2 r ⟨128, by omega⟩)) := by
  pointwise
  all_goals rfl

theorem acc3 (r : Fin 1024) (d : Fin 256) :
    addf (F := Ideal) (mulf (k0_pay19 q k0_pay14 a₁ b₁ a₂ b₂) (broadcastTo S1024x256
          (exp2 (subf (k0_pay18 q k0_pay14 a₁ a₂) (k0_pay21 q k0_pay14 a₁ a₂ a₃))) broadcasts_S1024x1_S1024x256))
        (matmul dot_S1024x768_S768x256_S1024x256_1_0_0_1_n_n none
          (truncf .bf16 (k0_pay22 q k0_pay14 a₁ a₂ a₃) bitsLt_bf16_f32) b₃ (constant S1024x256 .f32 0x00000000#32)) (ix2 r d)
      = acc q a₁ a₂ a₃ b₁ b₂ b₃ r d := by
  refine (accumulate _ _ _ _ _ r d).trans ?_
  simp only [weights3, max2, max3, acc2]
  rfl

/-- THE OUTPUT: a value column's accumulator over the accumulator of column 128. -/
theorem out_at (r : Fin 1024) (d : Fin 128) :
    k0_pay1 (F := Ideal) (k0_pay18 q k0_pay14 a₁ a₂) (k0_pay19 q k0_pay14 a₁ b₁ a₂ b₂) (k0_pay21 q k0_pay14 a₁ a₂ a₃)
        (k0_pay22 q k0_pay14 a₁ a₂ a₃) b₃ (ix2 r d)
      = Ideal.div (acc q a₁ a₂ a₃ b₁ b₂ b₃ r ⟨d.val, by omega⟩) (acc q a₁ a₂ a₃ b₁ b₂ b₃ r ⟨128, by omega⟩) :=
  (quotient _ r d).trans (congrArg₂ Ideal.div (acc3 q a₁ a₂ a₃ b₁ b₂ b₃ r _) (acc3 q a₁ a₂ a₃ b₁ b₂ b₃ r _))

end Cert.KernelIdeal.Body

end
-- ==== Proof.Target.lean ====
/- The attention of real arrays as one real number, and the reference's result equal to it. -/
module

public import proofs.«01_k».proof.Proof.Reference
public import proofs.«01_k».proof.Proof.Body

@[expose] public section

set_option maxRecDepth 16384

noncomputable section

namespace Cert.Target

open Idealize.ShloMosaic Idealize.ShloMosaic.TcCoe Idealize.SL.Sem
open Cert.ReferenceIdeal Cert.ReferenceIdeal.Gen Cert.ReferenceIdeal.Read Cert.ReferenceIdeal.Rotation
open Cert.KernelIdeal.Entry (partner)
open Cert.Tables (ang)

variable (r0 : Fin 8192 → Fin 3072 → ℝ) (r1 : Fin 8192 → Fin 4096 → ℝ) (r2 : Fin 1024 → Fin 4096 → ℝ)
  (r3 : Fin 8192 → Fin 64 → ℝ) (r4 : Fin 1024 → Fin 64 → ℝ)

/-- The rotation partner of a column of reals. -/
def partnerR (f : Fin 64 → ℝ) (l : Fin 64) : ℝ :=
  if h : l.val < 16 then -f ⟨l.val + 16, by omega⟩
  else if h : l.val < 32 then f ⟨l.val - 16, by omega⟩
  else if h : l.val < 48 then -f ⟨l.val + 16, by omega⟩
  else f ⟨l.val - 16, by omega⟩

/-- Rotated columns at position `i`. -/
def rotR (i : Fin 2048) (f : Fin 64 → ℝ) (l : Fin 64) : ℝ :=
  f l * Real.cos (ang i l) + partnerR f l * Real.sin (ang i l)

/-- The keys' and values' columns of a head over the latents and the context. -/
def kvR (b : Fin 4) (h : Fin 16) (k : Fin 2304) (j : Fin 256) : ℝ :=
  if g : k.val < 2048 then r1 ⟨b * 2048 + k, by omega⟩ ⟨h * 256 + j, by omega⟩
  else r2 ⟨b * 256 + (k - 2048), by omega⟩ ⟨h * 256 + j, by omega⟩

/-- The position columns of the keys. -/
def krR (b : Fin 4) (k : Fin 2304) (j : Fin 64) : ℝ :=
  if g : k.val < 2048 then rotR ⟨k, g⟩ (fun j => r3 ⟨b * 2048 + k, by omega⟩ j) j
  else r4 ⟨b * 256 + (k - 2048), by omega⟩ j

/-- The score before its scale. -/
def scoreR (b : Fin 4) (h : Fin 16) (i : Fin 2048) (k : Fin 2304) : ℝ :=
  (∑ l : Fin 128, r0 ⟨b * 2048 + i, by omega⟩ ⟨h * 192 + l, by omega⟩ * kvR r1 r2 b h k ⟨l, by omega⟩)
    + ∑ j : Fin 64, krR r3 r4 b k j * rotR i (fun j => r0 ⟨b * 2048 + i, by omega⟩ ⟨h * 192 + (128 + j), by omega⟩) j

/-- The attention's result at query `i` and value column `d` of a batch and a head. -/
def attention (b : Fin 4) (h : Fin 16) (i : Fin 2048) (d : Fin 128) : ℝ :=
  (∑ k : Fin 2304, Real.exp (scoreR r0 r1 r2 r3 r4 b h i k / Real.sqrt 192) * kvR r1 r2 b h k ⟨128 + d, by omega⟩)
    / ∑ k : Fin 2304, Real.exp (scoreR r0 r1 r2 r3 r4 b h i k / Real.sqrt 192)

theorem partner_coe (f : Fin 64 → ℝ) (l : Fin 64) : partner (fun j => (f j : EReal)) l = (partnerR f l : EReal) := by
  unfold partner partnerR
  split_ifs <;> first | rfl | exact (EReal.coe_neg _).symm

theorem rot_coe (i : Fin 2048) (f : Fin 64 → ℝ) (l : Fin 64) : rot i (fun j => (f j : EReal)) l = (rotR i f l : EReal) := by
  unfold rot rotR
  rw [partner_coe, EReal.coe_add, EReal.coe_mul, EReal.coe_mul]

variable (x0 : FVec Ideal S8192x3072 .f32) (x1 : FVec Ideal S8192x4096 .bf16) (x2 : FVec Ideal S1024x4096 .bf16)
  (x3 : FVec Ideal S8192x64 .f32) (x4 : FVec Ideal S1024x64 .f32)
  (h0 : ∀ a b, x0 (ix2 a b) = (r0 a b : EReal)) (h1 : ∀ a b, x1 (ix2 a b) = (r1 a b : EReal))
  (h2 : ∀ a b, x2 (ix2 a b) = (r2 a b : EReal)) (h3 : ∀ a b, x3 (ix2 a b) = (r3 a b : EReal))
  (h4 : ∀ a b, x4 (ix2 a b) = (r4 a b : EReal))

section
include h1 h2
theorem kv_coe (b : Fin 4) (h : Fin 16) (k : Fin 2304) (j : Fin 256) :
    Attention.kvAt x1 x2 b h k j = (kvR r1 r2 b h k j : EReal) := by
  unfold Attention.kvAt kvR
  split_ifs
  · exact h1 _ _
  · exact h2 _ _
end

section
include h3 h4
theorem kr_coe (b : Fin 4) (k : Fin 2304) (j : Fin 64) : Attention.krAt x3 x4 b k j = (krR r3 r4 b k j : EReal) := by
  unfold Attention.krAt krR
  split_ifs
  · simp only [h3]
    exact rot_coe _ _ _
  · exact h4 _ _
end

include h0 h1 h2 h3 h4

theorem score_coe (b : Fin 4) (h : Fin 16) (i : Fin 2048) (k : Fin 2304) :
    Attention.scoreAt x0 x1 x2 x3 x4 b h i k = (scoreR r0 r1 r2 r3 r4 b h i k : EReal) := by
  unfold Attention.scoreAt scoreR
  rw [EReal.coe_add, Cert.Softmax.coe_sum, Cert.Softmax.coe_sum]
  refine congrArg₂ (· + ·) (Finset.sum_congr rfl fun l _ => ?_) (Finset.sum_congr rfl fun j _ => ?_)
  · rw [h0, kv_coe r1 r2 x1 x2 h1 h2, EReal.coe_mul]
  · simp only [h0]
    rw [rot_coe, kr_coe r3 r4 x3 x4 h3 h4, EReal.coe_mul]

theorem v131_coe (b : Fin 4) (h : Fin 16) (i : Fin 2048) (k : Fin 2304) :
    val_main_v131 (F := Ideal) x0 x1 x2 x3 x4 (ix4 b h i k)
      = ((scoreR r0 r1 r2 r3 r4 b h i k / Real.sqrt 192 : ℝ) : EReal) := by
  have e : Real.sqrt 192 ≠ 0 := (Real.sqrt_pos.2 (by norm_num)).ne'
  refine (Attention.v131_at _ _ _ _ _ _ _ _ _).trans ?_
  rw [score_coe r0 r1 r2 r3 r4 x0 x1 x2 x3 x4 h0 h1 h2 h3 h4, Cert.Tables.word_192, Ideal.sqrt_coe,
    if_neg (by norm_num), Ideal.div_coe e, ← EReal.coe_mul, mul_one_div]

theorem reference (x : Fin 8192) (y : Fin 2048) :
    val_main_v146 (F := Ideal) x0 x1 x2 x3 x4 (ix2 x y)
      = (attention r0 r1 r2 r3 r4 ⟨x.val / 2048, by omega⟩ ⟨y.val / 128, by omega⟩ ⟨x.val % 2048, by omega⟩
          ⟨y.val % 128, by omega⟩ : EReal) := by
  refine (Attention.v146_at _ _ _ _ _ _ _).trans ((Finset.sum_congr rfl fun k _ => ?_).trans
    (Cert.Softmax.at_once (n := 2304) (by norm_num)
      (fun k => scoreR r0 r1 r2 r3 r4 ⟨x.val / 2048, by omega⟩ ⟨y.val / 128, by omega⟩ ⟨x.val % 2048, by omega⟩ k / Real.sqrt 192)
      (fun k => kvR r1 r2 ⟨x.val / 2048, by omega⟩ ⟨y.val / 128, by omega⟩ k ⟨128 + y.val % 128, by omega⟩)))
  rw [Attention.v124_at, Attention.v142_at, kv_coe r1 r2 x1 x2 h1 h2]
  simp only [Attention.v138_at, Attention.v134_at, v131_coe r0 r1 r2 r3 r4 x0 x1 x2 x3 x4 h0 h1 h2 h3 h4]
  rw [show Ideal.ofBits .f32 0xFF800000#32 = ⊥ from Cert.KernelIdeal.Body.word_bot]

end Cert.Target
-- ==== Proof.Point.lean ====
/- What the scratch buffers and the output block hold after a grid point, element by element, in terms of the arrays that
   the call reads. -/
module

public import proofs.«01_k».proof.Proof.Gen.KernelIdeal.Value
public import proofs.«01_k».proof.Proof.Body
public import Idealize.ShloMosaic.Lib.Pipeline.ValueKit

@[expose] public section

set_option maxRecDepth 16384

noncomputable section

namespace Cert.KernelIdeal.Point

open Idealize.ShloMosaic Idealize.ShloMosaic.TcCoe Idealize.SL.Sem
open Idealize.ShloMosaic.Pipeline (Dat)
open Cert.KernelIdeal Cert.KernelIdeal.Gen Cert.KernelIdeal.Body Cert.Softmax

/-- The assembled keys of one batch and head: the latents' content columns, their rotated position columns and zeros; then
    the context's content and position columns and zeros. -/
def keyOf (kv : Fin 2048 → Fin 256 → EReal) (kvc : Fin 256 → Fin 256 → EReal) (kr : Fin 2048 → Fin 128 → EReal)
    (krc : Fin 256 → Fin 128 → EReal) (cs sn : Fin 2048 → Fin 64 → EReal) (k : Fin 2304) (l : Fin 256) : EReal :=
  if h : k.val < 2048 then
    if l.val < 128 then kv ⟨k.val, h⟩ l
    else if h2 : l.val < 192 then
      kr ⟨k.val, h⟩ ⟨l.val - 128, by omega⟩ * cs ⟨k.val, h⟩ ⟨l.val - 128, by omega⟩
        + kr ⟨k.val, h⟩ ⟨64 + (l.val - 128), by omega⟩ * sn ⟨k.val, h⟩ ⟨l.val - 128, by omega⟩
    else 0
  else
    if l.val < 128 then kvc ⟨k.val - 2048, by omega⟩ l
    else if h2 : l.val < 192 then krc ⟨k.val - 2048, by omega⟩ ⟨l.val - 128, by omega⟩
    else 0

/-- The assembled values of one batch and head, a column of ones beside them. -/
def valOf (kv : Fin 2048 → Fin 256 → EReal) (kvc : Fin 256 → Fin 256 → EReal) (k : Fin 2304) (d : Fin 256) : EReal :=
  if h1 : d.val < 128 then
    if h : k.val < 2048 then kv ⟨k.val, h⟩ ⟨128 + d.val, by omega⟩
    else kvc ⟨k.val - 2048, by omega⟩ ⟨128 + d.val, by omega⟩
  else if d.val = 128 then 1 else 0

/-- The scale of the scores, in units of log 2. -/
def κq : EReal := (((Real.log 2)⁻¹ * (Real.sqrt 192)⁻¹ : ℝ) : EReal)

/-- The scaled query row: content columns, rotated position columns, zeros. -/
def queryOf (q : Fin 256 → EReal) (cs sn : Fin 64 → EReal) (l : Fin 256) : EReal :=
  if l.val < 128 then q l * κq
  else if h2 : l.val < 192 then
    (q l * cs ⟨l.val - 128, by omega⟩ + q ⟨64 + l.val, by omega⟩ * sn ⟨l.val - 128, by omega⟩) * κq
  else 0

variable (m : (ℓ : Loc nD τ sig) → Buf (Elt Ideal) ℓ) (c : Dev nD)

theorem keys_A (t : Fin cfg0.N) (h : t.val % 2 = 0) (k : Fin 2304) (l : Fin 256) :
    (outsAt0 m c t.val t.isLt).2.1 (ix2 k l)
      = keyOf (fun k l => iblk m c 1 t (ix2 k l)) (fun k l => iblk m c 2 t (ix2 k l)) (fun k l => iblk m c 3 t (ix2 k l))
          (fun k l => iblk m c 4 t (ix2 k l)) (fun k l => iblk m c 7 t (ix2 k l)) (fun k l => iblk m c 8 t (ix2 k l)) k l := by
  rw [outsAt0_A m c t h]
  frame_out
  generalize iblk m c 1 t = kv
  generalize iblk m c 2 t = kvc
  generalize iblk m c 3 t = kr
  generalize iblk m c 4 t = krc
  generalize iblk m c 7 t = cs
  generalize iblk m c 8 t = sn
  clear h
  canon_tiles x h using View.cover_of_tiledBy _ ![256, 64] (by sl_kernel_rfl) _
  all_goals
    idx_vars x
    have e0 : k.val = _ := h0
    have e1 : l.val = _ := h1
    clear h0 h1
    obtain ⟨k, hk⟩ := k
    obtain ⟨l, hl⟩ := l
    dsimp only [ix2_0, ix2_1] at e0 e1
    subst e0 e1
    unfold keyOf
    dsimp only
  · by_cases hx : x0.val < 2048
    · rw [dif_pos hx, if_neg (by omega), dif_neg (by omega)]
      pointwise
    · rw [dif_neg hx, if_neg (by omega), dif_neg (by omega)]
      pointwise
  · rw [dif_neg (by omega), if_neg (by omega), dif_pos (by omega)]
    simp only [Nat.add_sub_cancel_left]
    pointwise
  · rw [dif_neg (by omega), if_pos (by omega)]
    simp only [Nat.add_sub_cancel_left]
    pointwise
  · rw [dif_pos (by omega), if_neg (by omega), dif_pos (by omega)]
    simp only [Nat.add_sub_cancel_left]
    pointwise
  · rw [dif_pos (by omega), if_pos (by omega)]
    pointwise

/-- The comparison of a lane number with zero. -/
theorem ones_lane : ∀ x : Fin 128, IntOp.cmpi .eq (BitVec.ofNat 32 x.val) 0#32 = if x.val = 0 then 1#1 else 0#1 := by
  decide +kernel

theorem vals_A (t : Fin cfg0.N) (h : t.val % 2 = 0) (k : Fin 2304) (d : Fin 256) :
    (outsAt0 m c t.val t.isLt).2.2 (ix2 k d)
      = valOf (fun k l => iblk m c 1 t (ix2 k l)) (fun k l => iblk m c 2 t (ix2 k l)) k d := by
  rw [outsAt0_A m c t h]
  frame_out
  generalize iblk m c 1 t = kv
  generalize iblk m c 2 t = kvc
  clear h
  canon_tiles x h using View.cover_of_tiledBy _ ![256, 128] (by sl_kernel_rfl) _
  all_goals
    idx_vars x
    have e0 : k.val = _ := h0
    have e1 : d.val = _ := h1
    clear h0 h1
    obtain ⟨k, hk⟩ := k
    obtain ⟨d, hd⟩ := d
    dsimp only [ix2_0, ix2_1] at e0 e1
    subst e0 e1
    unfold valOf
    dsimp only
  · rw [dif_neg (by omega)]
    pointwise [k0_pay9]
    rw [ones_lane]
    by_cases hx : x1.val = 0
    · rw [if_pos hx, if_pos (by omega)]; rfl
    · rw [if_neg hx, if_neg (by omega)]; rfl
  · rw [dif_pos (by omega), dif_neg (by omega)]
    simp only [Nat.add_sub_cancel_left]
    pointwise [k0_pay8]
  · rw [dif_pos (by omega), dif_pos (by omega)]
    pointwise [k0_pay7]

/-- The blocks' places: batch `t / 32`, head `t / 2 % 16`, half `t % 2` of the batch's queries. -/
theorem idx : ∀ t : Fin cfg0.N, win0_0.index t = ![t.val / 32 * 2 + t.val % 2, t.val / 2 % 16]
    ∧ win0_1.index t = ![t.val / 32, t.val / 2 % 16] ∧ win0_2.index t = ![t.val / 32, t.val / 2 % 16]
    ∧ win0_3.index t = ![t.val / 32, 0] ∧ win0_4.index t = ![t.val / 32, 0]
    ∧ win0_5.index t = ![t.val % 2, 0] ∧ win0_6.index t = ![t.val % 2, 0]
    ∧ win0_7.index t = ![0, 0] ∧ win0_8.index t = ![0, 0]
    ∧ win0_9.index t = ![t.val / 32 * 2 + t.val % 2, t.val / 2 % 16] :=
  (by decide +kernel : ∀ t : Fin grid0.N, _)

theorem lt_N (t : Fin cfg0.N) : t.val < 128 := t.isLt

/-- The arrays, read at the block of batch and head `p = 16 b + h`. -/
def kvAt (A : FVec Ideal S8192x4096 .bf16) (p : ℕ) (hp : p < 64) (k : Fin 2048) (l : Fin 256) : EReal :=
  A (ix2 ⟨p / 16 * 2048 + k.val, by omega⟩ ⟨p % 16 * 256 + l.val, by omega⟩)
def kvcAt (A : FVec Ideal S1024x4096 .bf16) (p : ℕ) (hp : p < 64) (k : Fin 256) (l : Fin 256) : EReal :=
  A (ix2 ⟨p / 16 * 256 + k.val, by omega⟩ ⟨p % 16 * 256 + l.val, by omega⟩)
def krAt (A : FVec Ideal S8192x128 .f32) (p : ℕ) (hp : p < 64) (k : Fin 2048) (l : Fin 128) : EReal :=
  A (ix2 ⟨p / 16 * 2048 + k.val, by omega⟩ l)
def krcAt (A : FVec Ideal S1024x128 .f32) (p : ℕ) (hp : p < 64) (k : Fin 256) (l : Fin 128) : EReal :=
  A (ix2 ⟨p / 16 * 256 + k.val, by omega⟩ l)
/-- The queries of row `i` of the batch. -/
def qAt (A : FVec Ideal S8192x4096 .f32) (p : ℕ) (hp : p < 64) (i : Fin 2048) (l : Fin 256) : EReal :=
  A (ix2 ⟨p / 16 * 2048 + i.val, by omega⟩ ⟨p % 16 * 256 + l.val, by omega⟩)

theorem half (t : Fin cfg0.N) : t.val / 2 < 64 := by have := lt_N t; omega

theorem blk0 (t : Fin cfg0.N) (r : Fin 1024) (l : Fin 256) : iblk m c 0 t (ix2 r l)
    = qAt (V m c main_v10) (t.val / 2) (half t) ⟨t.val % 2 * 1024 + r.val, by omega⟩ l := by
  have ht := lt_N t
  unfold qAt
  blk_ext [iblk, idx t]
theorem blk1 (t : Fin cfg0.N) (k : Fin 2048) (l : Fin 256) :
    iblk m c 1 t (ix2 k l) = kvAt (V m c main_arg1) (t.val / 2) (half t) k l := by
  have ht := lt_N t
  unfold kvAt
  blk_ext [iblk, idx t]
theorem blk2 (t : Fin cfg0.N) (k : Fin 256) (l : Fin 256) :
    iblk m c 2 t (ix2 k l) = kvcAt (V m c main_arg2) (t.val / 2) (half t) k l := by
  have ht := lt_N t
  unfold kvcAt
  blk_ext [iblk, idx t]
theorem blk3 (t : Fin cfg0.N) (k : Fin 2048) (l : Fin 128) :
    iblk m c 3 t (ix2 k l) = krAt (V m c main_v18) (t.val / 2) (half t) k l := by
  have ht := lt_N t
  unfold krAt
  blk_ext [iblk, idx t]
theorem blk4 (t : Fin cfg0.N) (k : Fin 256) (l : Fin 128) :
    iblk m c 4 t (ix2 k l) = krcAt (V m c main_v26) (t.val / 2) (half t) k l := by
  have ht := lt_N t
  unfold krcAt
  blk_ext [iblk, idx t]
theorem blk5 (t : Fin cfg0.N) (r : Fin 1024) (l : Fin 64) : iblk m c 5 t (ix2 r l)
    = V m c main_v48 (ix2 ⟨t.val % 2 * 1024 + r.val, by omega⟩ l) := by
  blk_ext [iblk, idx t]
theorem blk6 (t : Fin cfg0.N) (r : Fin 1024) (l : Fin 64) : iblk m c 6 t (ix2 r l)
    = V m c main_v49 (ix2 ⟨t.val % 2 * 1024 + r.val, by omega⟩ l) := by
  blk_ext [iblk, idx t]
theorem blk7 (t : Fin cfg0.N) (k : Fin 2048) (l : Fin 64) : iblk m c 7 t (ix2 k l) = V m c main_v48 (ix2 k l) := by
  blk_ext [iblk, idx t]
theorem blk8 (t : Fin cfg0.N) (k : Fin 2048) (l : Fin 64) : iblk m c 8 t (ix2 k l) = V m c main_v49 (ix2 k l) := by
  blk_ext [iblk, idx t]

/-- The keys and the values of batch and head `p`, from the arrays. -/
def keys (p : ℕ) (hp : p < 64) : Fin 2304 → Fin 256 → EReal :=
  keyOf (kvAt (V m c main_arg1) p hp) (kvcAt (V m c main_arg2) p hp) (krAt (V m c main_v18) p hp)
    (krcAt (V m c main_v26) p hp) (fun k l => V m c main_v48 (ix2 k l)) (fun k l => V m c main_v49 (ix2 k l))
def vals (p : ℕ) (hp : p < 64) : Fin 2304 → Fin 256 → EReal :=
  valOf (kvAt (V m c main_arg1) p hp) (kvcAt (V m c main_arg2) p hp)
/-- The scaled query row `i` of batch and head `p`. -/
def query (p : ℕ) (hp : p < 64) (i : Fin 2048) : Fin 256 → EReal :=
  queryOf (qAt (V m c main_v10) p hp i) (fun l => V m c main_v48 (ix2 i l)) (fun l => V m c main_v49 (ix2 i l))

/-- After every point the scratch holds the keys and the values of its batch and head: the first half of the queries
    assembles them, the second half keeps them. -/
theorem scratch (t : Fin cfg0.N) :
    (∀ k l, (outsAt0 m c t.val t.isLt).2.1 (ix2 k l) = keys m c (t.val / 2) (half t) k l)
    ∧ ∀ k d, (outsAt0 m c t.val t.isLt).2.2 (ix2 k d) = vals m c (t.val / 2) (half t) k d := by
  have A : ∀ t : Fin cfg0.N, t.val % 2 = 0 →
      (∀ k l, (outsAt0 m c t.val t.isLt).2.1 (ix2 k l) = keys m c (t.val / 2) (half t) k l)
      ∧ ∀ k d, (outsAt0 m c t.val t.isLt).2.2 (ix2 k d) = vals m c (t.val / 2) (half t) k d := by
    intro t h
    constructor
    · intro k l
      rw [keys_A m c t h]
      simp only [blk1, blk2, blk3, blk4, blk7, blk8]
      rfl
    · intro k d
      rw [vals_A m c t h]
      simp only [blk1, blk2]
      rfl
  by_cases h : t.val % 2 = 0
  · exact A t h
  · have ht := lt_N t
    have e : (t.val - 1) / 2 = t.val / 2 := by omega
    have B := A ⟨t.val - 1, by have := t.isLt; omega⟩ (by show (t.val - 1) % 2 = 0; omega)
    simp only [e] at B
    constructor
    · intro k l
      rw [← B.1 k l, outsAt0_B m c t h]
      unfold sout0_B_1
      frame_out
    · intro k d
      rw [← B.2 k d, outsAt0_B m c t h]
      unfold sout0_B_2
      frame_out

end Cert.KernelIdeal.Point

end
-- ==== Proof.Output.lean ====
/- The output block of a grid point, element by element: a quotient of two running sums over the keys and the values of its
   batch and head. -/
module

public import proofs.«01_k».proof.Proof.Point

@[expose] public section

set_option maxRecDepth 16384

noncomputable section

namespace Cert.KernelIdeal.Point

open Idealize.ShloMosaic Idealize.ShloMosaic.TcCoe Idealize.SL.Sem
open Idealize.ShloMosaic.Pipeline (Dat)
open Cert.KernelIdeal Cert.KernelIdeal.Gen Cert.KernelIdeal.Body Cert.Softmax

/-- A query row against one key of chunk `o`. -/
def sc (q : Fin 256 → EReal) (K : Fin 2304 → Fin 256 → EReal) (o : Fin 3) (k : Fin 768) : EReal :=
  ∑ l : Fin 256, q l * K ⟨o.val * 768 + k.val, by omega⟩ l

/-- A value column of chunk `o`. -/
def vc (W : Fin 2304 → Fin 256 → EReal) (d : Fin 256) (o : Fin 3) (k : Fin 768) : EReal :=
  W ⟨o.val * 768 + k.val, by omega⟩ d

/-- A value column's accumulator after the three chunks of keys. -/
def accOf (q : Fin 256 → EReal) (K W : Fin 2304 → Fin 256 → EReal) (d : Fin 256) : EReal :=
  stepA (stepM (stepM ⊥ (sc q K 0)) (sc q K 1))
    (stepA (stepM ⊥ (sc q K 0)) (stepA ⊥ 0 (sc q K 0) (vc W d 0)) (sc q K 1) (vc W d 1)) (sc q K 2) (vc W d 2)

/-- One element of the attention's result. -/
def outOf (q : Fin 256 → EReal) (K W : Fin 2304 → Fin 256 → EReal) (d : Fin 128) : EReal :=
  Ideal.div (accOf q K W ⟨d.val, by omega⟩) (accOf q K W ⟨128, by omega⟩)

theorem acc_congr {Q : FVec Ideal S1024x256 .bf16} {a₁ a₂ a₃ b₁ b₂ b₃ : FVec Ideal S768x256 .bf16}
    {q : Fin 256 → EReal} {K W : Fin 2304 → Fin 256 → EReal} {r : Fin 1024}
    (hq : ∀ l, Q (ix2 r l) = q l)
    (h1 : ∀ k l, a₁ (ix2 k l) = K ⟨(0 : Fin 3).val * 768 + k.val, by omega⟩ l)
    (h2 : ∀ k l, a₂ (ix2 k l) = K ⟨(1 : Fin 3).val * 768 + k.val, by omega⟩ l)
    (h3 : ∀ k l, a₃ (ix2 k l) = K ⟨(2 : Fin 3).val * 768 + k.val, by omega⟩ l)
    (g1 : ∀ k d, b₁ (ix2 k d) = W ⟨(0 : Fin 3).val * 768 + k.val, by omega⟩ d)
    (g2 : ∀ k d, b₂ (ix2 k d) = W ⟨(1 : Fin 3).val * 768 + k.val, by omega⟩ d)
    (g3 : ∀ k d, b₃ (ix2 k d) = W ⟨(2 : Fin 3).val * 768 + k.val, by omega⟩ d) (d : Fin 128) :
    Ideal.div (acc Q a₁ a₂ a₃ b₁ b₂ b₃ r ⟨d.val, by omega⟩) (acc Q a₁ a₂ a₃ b₁ b₂ b₃ r ⟨128, by omega⟩)
      = outOf q K W d := by
  have s1 : score Q a₁ r = sc q K 0 := funext fun k => by unfold score sc; simp only [hq, h1]
  have s2 : score Q a₂ r = sc q K 1 := funext fun k => by unfold score sc; simp only [hq, h2]
  have s3 : score Q a₃ r = sc q K 2 := funext fun k => by unfold score sc; simp only [hq, h3]
  have v1 : ∀ d, (fun k => b₁ (ix2 k d)) = vc W d 0 := fun d => funext fun k => g1 k d
  have v2 : ∀ d, (fun k => b₂ (ix2 k d)) = vc W d 1 := fun d => funext fun k => g2 k d
  have v3 : ∀ d, (fun k => b₃ (ix2 k d)) = vc W d 2 := fun d => funext fun k => g3 k d
  have e : ∀ d, acc Q a₁ a₂ a₃ b₁ b₂ b₃ r d = accOf q K W d := fun d => by
    unfold acc accOf
    simp only [s1, s2, s3, v1, v2, v3]
  unfold outOf
  rw [e, e]

variable (m : (ℓ : Loc nD τ sig) → Buf (Elt Ideal) ℓ) (c : Dev nD)

/-- The three stores of the scaled queries, read at a row and a column. -/
theorem scaled (v : FVec Ideal S1024x256 .f32) (r : Fin 1024) (l : Fin 128) :
    k0_pay11 (F := Ideal) v (ix2 r l) = (v (ix2 r ⟨l.val, by omega⟩) : EReal) * κq := by
  pointwise [k0_pay11, k0_pay10, IdealRules.named_const.ideal_named_scalar Cert.KernelIdeal.κ "qscale" .f32 0x3DD53B95#32 rfl]
  rfl

theorem rotated (v : FVec Ideal S1024x256 .f32) (cs sn : FVec Ideal S1024x64 .f32) (r : Fin 1024) (l : Fin 64) :
    k0_pay12 (F := Ideal) v cs sn (ix2 r l)
      = ((v (ix2 r ⟨128 + l.val, by omega⟩) : EReal) * cs (ix2 r l) + (v (ix2 r ⟨192 + l.val, by omega⟩) : EReal) * sn (ix2 r l))
          * κq := by
  pointwise [k0_pay12, k0_pay10, IdealRules.named_const.ideal_named_scalar Cert.KernelIdeal.κ "qscale" .f32 0x3DD53B95#32 rfl]
  rfl

theorem padded (r : Fin 1024) (l : Fin 64) : k0_pay13 (F := Ideal) (ix2 r l) = (0 : EReal) := by
  pointwise [k0_pay13]

/-- Row `r` of the query block of point `t`, and its column `l`, from the arrays. -/
theorem query_at (t : Fin cfg0.N) (r : Fin 1024) (l : Fin 256) :
    query m c (t.val / 2) (half t) ⟨t.val % 2 * 1024 + r.val, by omega⟩ l
      = queryOf (fun l => iblk m c 0 t (ix2 r l)) (fun l => iblk m c 5 t (ix2 r l)) (fun l => iblk m c 6 t (ix2 r l)) l := by
  simp only [blk0, blk5, blk6]
  rfl

theorem out_A (t : Fin cfg0.N) (h : t.val % 2 = 0) (r : Fin 1024) (d : Fin 128) :
    (outsAt0 m c t.val t.isLt).1 (ix2 r d)
      = outOf (query m c (t.val / 2) (half t) ⟨t.val % 2 * 1024 + r.val, by omega⟩)
          (keys m c (t.val / 2) (half t)) (vals m c (t.val / 2) (half t)) d := by
  have S := scratch m c t
  rw [outsAt0_A m c t h]
  frame_out
  refine (out_at _ _ _ _ _ _ _ r d).trans (acc_congr ?_ ?_ ?_ ?_ ?_ ?_ ?_ d)
  · intro l
    rw [View.readCov_eq_canon', query_at]
    dsimp only
    refine (congrArg (View.canon _) (?_ : _ = ix2 r l)).trans ?_
    · idx_ext
    clear S
    generalize iblk m c 0 t = q
    generalize iblk m c 5 t = cs
    generalize iblk m c 6 t = sn
    clear h
    canon_tiles x h using View.cover_of_tiledBy _ ![1024, 64] (by sl_kernel_rfl) _
    all_goals
      idx_vars x
      have e0 : r.val = _ := h0
      have e1 : l.val = _ := h1
      clear h0 h1
      obtain ⟨r, hr⟩ := r
      obtain ⟨l, hl⟩ := l
      dsimp only [ix2_0, ix2_1] at e0 e1
      subst e0 e1
      unfold queryOf
      dsimp only
    · rw [if_neg (by omega), dif_neg (by omega)]
      exact padded x0 x1
    · rw [if_neg (by omega), dif_pos (by omega)]
      simp only [Nat.add_sub_cancel_left]
      refine (rotated q cs sn x0 x1).trans ?_
      simp only [← Nat.add_assoc]
    · rw [if_pos (by omega)]
      exact scaled q x0 x1
  all_goals
    intro k l
    first
      | refine Eq.trans ?_ (S.1 _ _)
      | refine Eq.trans ?_ (S.2 _ _)
    rw [View.readCov_eq_canon', outsAt0_A m c t h]
    symm
    frame_out
    refine congrArg (View.canon _) ?_
    idx_ext

theorem out_B (t : Fin cfg0.N) (h : ¬ t.val % 2 = 0) (r : Fin 1024) (d : Fin 128) :
    (outsAt0 m c t.val t.isLt).1 (ix2 r d)
      = outOf (query m c (t.val / 2) (half t) ⟨t.val % 2 * 1024 + r.val, by omega⟩)
          (keys m c (t.val / 2) (half t)) (vals m c (t.val / 2) (half t)) d := by
  have S := scratch m c t
  rw [outsAt0_B m c t h] at S ⊢
  unfold sout0_B_1 sout0_B_2 at S
  frame_out
  refine (out_at _ _ _ _ _ _ _ r d).trans (acc_congr ?_ ?_ ?_ ?_ ?_ ?_ ?_ d)
  · intro l
    rw [View.readCov_eq_canon', query_at]
    dsimp only
    refine (congrArg (View.canon _) (?_ : _ = ix2 r l)).trans ?_
    · idx_ext
    clear S
    generalize iblk m c 0 t = q
    generalize iblk m c 5 t = cs
    generalize iblk m c 6 t = sn
    clear h
    canon_tiles x h using View.cover_of_tiledBy _ ![1024, 64] (by sl_kernel_rfl) _
    all_goals
      idx_vars x
      have e0 : r.val = _ := h0
      have e1 : l.val = _ := h1
      clear h0 h1
      obtain ⟨r, hr⟩ := r
      obtain ⟨l, hl⟩ := l
      dsimp only [ix2_0, ix2_1] at e0 e1
      subst e0 e1
      unfold queryOf
      dsimp only
    · rw [if_neg (by omega), dif_neg (by omega)]
      exact padded x0 x1
    · rw [if_neg (by omega), dif_pos (by omega)]
      simp only [Nat.add_sub_cancel_left]
      refine (rotated q cs sn x0 x1).trans ?_
      simp only [← Nat.add_assoc]
    · rw [if_pos (by omega)]
      exact scaled q x0 x1
  all_goals
    intro k l
    first
      | refine Eq.trans ?_ (S.1 _ _)
      | refine Eq.trans ?_ (S.2 _ _)
    symm
    frame_out
    symm
    pointwise
    exact congrFun (Memref.IsWhole.read_unread _ _) _

/-- THE POINT: each element of its output block. -/
theorem out (t : Fin cfg0.N) (r : Fin 1024) (d : Fin 128) :
    (outsAt0 m c t.val t.isLt).1 (ix2 r d)
      = outOf (query m c (t.val / 2) (half t) ⟨t.val % 2 * 1024 + r.val, by omega⟩)
          (keys m c (t.val / 2) (half t)) (vals m c (t.val / 2) (half t)) d := by
  by_cases h : t.val % 2 = 0
  · exact out_A m c t h r d
  · exact out_B m c t h r d

/-- The row and the column of the result at which batch and head `p`, query `i` and column `d` are found. -/
def attended (x : Fin 8192) (y : Fin 2048) : EReal :=
  outOf (query m c (x.val / 2048 * 16 + y.val / 128) (by omega) ⟨x.val % 2048, by omega⟩)
    (keys m c (x.val / 2048 * 16 + y.val / 128) (by omega)) (vals m c (x.val / 2048 * 16 + y.val / 128) (by omega))
    ⟨y.val % 128, by omega⟩

theorem out_place (p p' : ℕ) (hp : p < 64) (hp' : p' < 64) (i i' : Fin 2048) (d d' : Fin 128) (e : p = p') (ei : i = i')
    (ed : d = d') : outOf (query m c p hp i) (keys m c p hp) (vals m c p hp) d
      = outOf (query m c p' hp' i') (keys m c p' hp') (vals m c p' hp') d' := by
  subst e ei ed; rfl

theorem attended_congr (t : Fin cfg0.N) (r : Fin 1024) (d : Fin 128) (x : Fin 8192) (y : Fin 2048)
    (hx : x.val = (t.val / 32 * 2 + t.val % 2) * 1024 + r.val) (hy : y.val = t.val / 2 % 16 * 128 + d.val) :
    outOf (query m c (t.val / 2) (half t) ⟨t.val % 2 * 1024 + r.val, by omega⟩)
          (keys m c (t.val / 2) (half t)) (vals m c (t.val / 2) (half t)) d = attended m c x y := by
  have ht := lt_N t
  unfold attended
  exact out_place m c _ _ _ _ _ _ _ _ (by omega) (Fin.ext (by show t.val % 2 * 1024 + r.val = x.val % 2048; omega))
    (Fin.ext (by show d.val = y.val % 128; omega))

/-- THE ARRAY: the result after the whole grid. -/
theorem final (F : FVec Ideal S8192x2048 .bf16) (hF : ∀ x y, F (ix2 x y) = attended m c x y) :
    (dats m 0 c).arrAt 9 (cfgs 0).N = F := by
  refine (dats m 0 c).arrAt_eq_of_covers 9 _ (by decide +kernel) fun t _ y => ?_
  idx_vars y
  blk_simp
  rw [after0_9]
  refine (out m c t y0 y1).trans ?_
  have ht := lt_N t
  refine (attended_congr m c t y0 y1 ⟨(t.val / 32 * 2 + t.val % 2) * 1024 + y0.val, by omega⟩
    ⟨t.val / 2 % 16 * 128 + y1.val, by omega⟩ rfl rfl).trans ((hF _ _).symm.trans ?_)
  blk_ext [idx t]

end Cert.KernelIdeal.Point

end
-- ==== Proof.Equation.lean ====
/- The kernel's result at an element is the attention of the arguments' real entries. -/
module

public import proofs.«01_k».proof.Proof.Target
public import proofs.«01_k».proof.Proof.Output

@[expose] public section

set_option maxRecDepth 16384

noncomputable section

namespace Cert.Equation

open Idealize.ShloMosaic Idealize.ShloMosaic.TcCoe Idealize.SL.Sem
open Cert.KernelIdeal Cert.KernelIdeal.Gen Cert.KernelIdeal.Point Cert.KernelIdeal.Entry Cert.Softmax Cert.Target
open Cert.Tables (ang)

variable (r0 : Fin 8192 → Fin 3072 → ℝ) (r1 : Fin 8192 → Fin 4096 → ℝ) (r2 : Fin 1024 → Fin 4096 → ℝ)
  (r3 : Fin 8192 → Fin 64 → ℝ) (r4 : Fin 1024 → Fin 64 → ℝ)

/-- A key's 256 columns: content, position, zeros. -/
def keyR (b : Fin 4) (h : Fin 16) (k : Fin 2304) (l : Fin 256) : ℝ :=
  if l.val < 128 then kvR r1 r2 b h k l
  else if g : l.val < 192 then krR r3 r4 b k ⟨l.val - 128, by omega⟩
  else 0

/-- A query's 256 columns: content, position, zeros, each with the scale. -/
def queryR (b : Fin 4) (h : Fin 16) (i : Fin 2048) (l : Fin 256) : ℝ :=
  if g : l.val < 128 then
    r0 ⟨b * 2048 + i, by omega⟩ ⟨h * 192 + l, by omega⟩ * ((Real.log 2)⁻¹ * (Real.sqrt 192)⁻¹)
  else if g : l.val < 192 then
    rotR i (fun j => r0 ⟨b * 2048 + i, by omega⟩ ⟨h * 192 + (128 + j), by omega⟩) ⟨l.val - 128, by omega⟩
      * ((Real.log 2)⁻¹ * (Real.sqrt 192)⁻¹)
  else 0

/-- The sum over the 256 columns is the score in units of log 2. -/
theorem dot (b : Fin 4) (h : Fin 16) (i : Fin 2048) (k : Fin 2304) :
    (∑ l : Fin 256, queryR r0 b h i l * keyR r1 r2 r3 r4 b h k l)
      = (Real.log 2)⁻¹ * (scoreR r0 r1 r2 r3 r4 b h i k / Real.sqrt 192) := by
  rw [Fin.sum_univ_two_halves 128 128 rfl]
  have e1 : (∑ l : Fin 128, queryR r0 b h i ⟨l.val, by omega⟩ * keyR r1 r2 r3 r4 b h k ⟨l.val, by omega⟩)
      = ((Real.log 2)⁻¹ * (Real.sqrt 192)⁻¹)
        * ∑ l : Fin 128, r0 ⟨b * 2048 + i, by omega⟩ ⟨h * 192 + l, by omega⟩ * kvR r1 r2 b h k ⟨l, by omega⟩ := by
    rw [Finset.mul_sum]
    refine Finset.sum_congr rfl fun l _ => ?_
    unfold queryR keyR
    rw [dif_pos l.isLt, if_pos l.isLt]
    ring
  have e2 : (∑ l : Fin 128, queryR r0 b h i ⟨128 + l.val, by omega⟩ * keyR r1 r2 r3 r4 b h k ⟨128 + l.val, by omega⟩)
      = ((Real.log 2)⁻¹ * (Real.sqrt 192)⁻¹)
        * ∑ j : Fin 64, krR r3 r4 b k j
          * rotR i (fun j => r0 ⟨b * 2048 + i, by omega⟩ ⟨h * 192 + (128 + j), by omega⟩) j := by
    rw [Fin.sum_univ_two_halves 64 64 rfl, Finset.mul_sum]
    refine (congrArg₂ (· + ·) (Finset.sum_congr rfl fun l _ => ?_) (Finset.sum_eq_zero fun l _ => ?_)).trans (add_zero _)
    · have n1 : ¬ 128 + l.val < 128 := by omega
      have n2 : 128 + l.val < 192 := by omega
      have e : (⟨128 + l.val - 128, by omega⟩ : Fin 64) = l := Fin.ext (by simp)
      unfold queryR keyR
      rw [dif_neg n1, dif_pos n2, if_neg n1, dif_pos n2]
      dsimp only
      rw [e]
      ring
    · have n1 : ¬ 128 + (64 + l.val) < 128 := by omega
      have n2 : ¬ 128 + (64 + l.val) < 192 := by omega
      unfold queryR keyR
      rw [dif_neg n1, dif_neg n2, zero_mul]
  refine (congrArg₂ (· + ·) e1 e2).trans ?_
  unfold scoreR
  ring

theorem at2 {R C : ℕ} {φ : FTy} (A : FVec Ideal ⟨2, ![R, C]⟩ φ) {a a' : Fin R} {b b' : Fin C} (e : a.val = a'.val)
    (e' : b.val = b'.val) : A (ix2 a b) = A (ix2 a' b') := by
  rw [Fin.ext e, Fin.ext e']

variable (m : (ℓ : Loc nD τ sig) → Buf (Elt Ideal) ℓ) (c : Dev nD)
  (x0 : FVec Ideal S8192x3072 .f32) (x1 : FVec Ideal S8192x4096 .bf16) (x2 : FVec Ideal S1024x4096 .bf16)
  (x3 : FVec Ideal S8192x64 .f32) (x4 : FVec Ideal S1024x64 .f32)
  (m0 : m (c, main_arg0) = x0) (m1 : m (c, main_arg1) = x1) (m2 : m (c, main_arg2) = x2)
  (m3 : m (c, main_arg3) = x3) (m4 : m (c, main_arg4) = x4)
  (h0 : ∀ a b, x0 (ix2 a b) = (r0 a b : EReal)) (h1 : ∀ a b, x1 (ix2 a b) = (r1 a b : EReal))
  (h2 : ∀ a b, x2 (ix2 a b) = (r2 a b : EReal)) (h3 : ∀ a b, x3 (ix2 a b) = (r3 a b : EReal))
  (h4 : ∀ a b, x4 (ix2 a b) = (r4 a b : EReal))

section
include m1 h1
theorem latent (b : Fin 4) (h : Fin 16) (p : ℕ) (hp : p < 64) (e : p = b.val * 16 + h.val) (k : Fin 2048) (l : Fin 256) :
    kvAt (V m c main_arg1) p hp k l = (r1 ⟨b * 2048 + k, by omega⟩ ⟨h * 256 + l, by omega⟩ : EReal) := by
  have w : V m c main_arg1 = x1 := (V_main_arg1 m c).trans m1
  unfold kvAt
  rw [w, ← h1]
  exact at2 _ (by dsimp only; omega) (by dsimp only; omega)
end

section
include m2 h2
theorem context (b : Fin 4) (h : Fin 16) (p : ℕ) (hp : p < 64) (e : p = b.val * 16 + h.val) (k : Fin 256) (l : Fin 256) :
    kvcAt (V m c main_arg2) p hp k l = (r2 ⟨b * 256 + k, by omega⟩ ⟨h * 256 + l, by omega⟩ : EReal) := by
  have w : V m c main_arg2 = x2 := (V_main_arg2 m c).trans m2
  unfold kvcAt
  rw [w, ← h2]
  exact at2 _ (by dsimp only; omega) (by dsimp only; omega)
end

section
include m3 h3
theorem position (b : Fin 4) (h : Fin 16) (p : ℕ) (hp : p < 64) (e : p = b.val * 16 + h.val) (k : Fin 2048) (l : Fin 64) :
    krAt (V m c main_v18) p hp k ⟨l, by omega⟩ = (r3 ⟨b * 2048 + k, by omega⟩ l : EReal) := by
  unfold krAt
  rw [kr_eq, m3, krArr_plain, ← h3]
  exact at2 _ (by dsimp only; omega) rfl

theorem positionPartner (b : Fin 4) (h : Fin 16) (p : ℕ) (hp : p < 64) (e : p = b.val * 16 + h.val) (k : Fin 2048) (l : Fin 64) :
    krAt (V m c main_v18) p hp k ⟨64 + l, by omega⟩
      = (partnerR (fun j => r3 ⟨b * 2048 + k, by omega⟩ j) l : EReal) := by
  unfold krAt
  rw [kr_eq, m3, krArr_partner, ← partner_coe]
  refine congrArg (fun f => partner f l) (funext fun j => ?_)
  rw [← h3]
  exact at2 _ (by dsimp only; omega) rfl
end

section
include m4 h4
theorem contextPosition (b : Fin 4) (h : Fin 16) (p : ℕ) (hp : p < 64) (e : p = b.val * 16 + h.val) (k : Fin 256) (l : Fin 64) :
    krcAt (V m c main_v26) p hp k ⟨l, by omega⟩ = (r4 ⟨b * 256 + k, by omega⟩ l : EReal) := by
  unfold krcAt
  rw [krc_eq, m4, krcArr_plain, ← h4]
  exact at2 _ (by dsimp only; omega) rfl
end

section
include m0 h0
theorem plain (b : Fin 4) (h : Fin 16) (p : ℕ) (hp : p < 64) (e : p = b.val * 16 + h.val) (i : Fin 2048) (l : ℕ) (hl : l < 192) :
    qAt (V m c main_v10) p hp i ⟨l, by omega⟩ = (r0 ⟨b * 2048 + i, by omega⟩ ⟨h * 192 + l, by omega⟩ : EReal) := by
  unfold qAt
  rw [q_eq, m0]
  refine (qArr_plain x0 (p / 16 * 2048 + i) (p % 16) l (by omega) (by omega) hl).trans ?_
  rw [← h0]
  exact at2 _ (by dsimp only; omega) (by dsimp only; omega)

theorem plainPartner (b : Fin 4) (h : Fin 16) (p : ℕ) (hp : p < 64) (e : p = b.val * 16 + h.val) (i : Fin 2048) (l : Fin 64) :
    qAt (V m c main_v10) p hp i ⟨192 + l, by omega⟩
      = (partnerR (fun j => r0 ⟨b * 2048 + i, by omega⟩ ⟨h * 192 + (128 + j), by omega⟩) l : EReal) := by
  unfold qAt
  rw [q_eq, m0]
  refine (qArr_partner x0 (p / 16 * 2048 + i) (p % 16) (by omega) (by omega) l).trans ?_
  rw [← partner_coe]
  refine congrArg (fun f => partner f l) (funext fun j => ?_)
  rw [← h0]
  exact at2 _ (by dsimp only; omega) (by dsimp only; omega)

theorem query_coe (b : Fin 4) (h : Fin 16) (p : ℕ) (hp : p < 64) (e : p = b.val * 16 + h.val) (i : Fin 2048) (l : Fin 256) :
    query m c p hp i l = (queryR r0 b h i l : EReal) := by
  unfold query queryOf queryR
  by_cases g1 : l.val < 128
  · rw [if_pos g1, dif_pos g1, EReal.coe_mul]
    exact congrArg (· * κq) (plain r0 m c x0 m0 h0 b h p hp e i l.val (by omega))
  rw [if_neg g1, dif_neg g1]
  by_cases g2 : l.val < 192
  · rw [dif_pos g2, dif_pos g2, EReal.coe_mul]
    refine congrArg (· * κq) ?_
    obtain ⟨l, hl⟩ := l
    obtain ⟨l, rfl⟩ : ∃ j, l = 128 + j := ⟨l - 128, by dsimp only at g1; omega⟩
    dsimp only at g1 g2 ⊢
    have e1 : (⟨128 + l - 128, by omega⟩ : Fin 64) = ⟨l, by omega⟩ := Fin.ext (by simp)
    have e2 : (⟨64 + (128 + l), by omega⟩ : Fin 256) = ⟨192 + l, by omega⟩ := Fin.ext (by dsimp only; omega)
    rw [e1, e2, Cert.Tables.cos_at, Cert.Tables.sin_at]
    unfold rotR
    rw [EReal.coe_add, EReal.coe_mul, EReal.coe_mul]
    exact congrArg₂ (· + ·) (congrArg (· * _) (plain r0 m c x0 m0 h0 b h p hp e i (128 + l) g2))
      (congrArg (· * _) (plainPartner r0 m c x0 m0 h0 b h p hp e i ⟨l, by omega⟩))
  · rw [dif_neg g2, dif_neg g2]; rfl
end

section
include m1 m2 m3 m4 h1 h2 h3 h4
theorem key_coe (b : Fin 4) (h : Fin 16) (p : ℕ) (hp : p < 64) (e : p = b.val * 16 + h.val) (k : Fin 2304) (l : Fin 256) :
    keys m c p hp k l = (keyR r1 r2 r3 r4 b h k l : EReal) := by
  unfold keys keyOf keyR kvR krR
  by_cases g : k.val < 2048
  · rw [dif_pos g]
    by_cases g1 : l.val < 128
    · rw [if_pos g1, if_pos g1, dif_pos g]
      exact latent r1 m c x1 m1 h1 b h p hp e ⟨k, g⟩ l
    rw [if_neg g1, if_neg g1]
    by_cases g2 : l.val < 192
    · rw [dif_pos g2, dif_pos g2, dif_pos g]
      dsimp only
      rw [Cert.Tables.cos_at, Cert.Tables.sin_at]
      unfold rotR
      rw [EReal.coe_add, EReal.coe_mul, EReal.coe_mul]
      exact congrArg₂ (· + ·) (congrArg (· * _) (position r3 m c x3 m3 h3 b h p hp e ⟨k, g⟩ ⟨l.val - 128, by omega⟩))
        (congrArg (· * _) (positionPartner r3 m c x3 m3 h3 b h p hp e ⟨k, g⟩ ⟨l.val - 128, by omega⟩))
    · rw [dif_neg g2, dif_neg g2]; rfl
  · rw [dif_neg g]
    by_cases g1 : l.val < 128
    · rw [if_pos g1, if_pos g1, dif_neg g]
      exact context r2 m c x2 m2 h2 b h p hp e ⟨k - 2048, by omega⟩ l
    rw [if_neg g1, if_neg g1]
    by_cases g2 : l.val < 192
    · rw [dif_pos g2, dif_pos g2, dif_neg g]
      exact contextPosition r4 m c x4 m4 h4 b h p hp e ⟨k - 2048, by omega⟩ ⟨l.val - 128, by omega⟩
    · rw [dif_neg g2, dif_neg g2]; rfl
end

section
include m1 m2 h1 h2
theorem val_coe (b : Fin 4) (h : Fin 16) (p : ℕ) (hp : p < 64) (e : p = b.val * 16 + h.val) (k : Fin 2304) (d : Fin 128) :
    vals m c p hp k ⟨d, by omega⟩ = (kvR r1 r2 b h k ⟨128 + d, by omega⟩ : EReal) := by
  unfold vals valOf kvR
  rw [dif_pos d.isLt]
  by_cases g : k.val < 2048
  · rw [dif_pos g, dif_pos g]
    exact latent r1 m c x1 m1 h1 b h p hp e ⟨k, g⟩ ⟨128 + d, by omega⟩
  · rw [dif_neg g, dif_neg g]
    exact context r2 m c x2 m2 h2 b h p hp e ⟨k - 2048, by omega⟩ ⟨128 + d, by omega⟩
end

theorem val_one (p : ℕ) (hp : p < 64) (k : Fin 2304) : vals m c p hp k ⟨128, by omega⟩ = 1 := by
  unfold vals valOf
  rw [dif_neg (by norm_num), if_pos rfl]

theorem chunks (f : Fin 2304 → ℝ) : (∑ k, f k)
    = ((∑ k : Fin 768, f ⟨(0 : Fin 3).val * 768 + k.val, by omega⟩) + ∑ k : Fin 768, f ⟨(1 : Fin 3).val * 768 + k.val, by omega⟩)
      + ∑ k : Fin 768, f ⟨(2 : Fin 3).val * 768 + k.val, by omega⟩ := by
  rw [Fin.sum_univ_tiles 3 768 rfl f, Fin.sum_univ_three]

/-- Chunks of real scores and values, the last column all ones: the quotient of the accumulators. -/
theorem outOf_real (q : Fin 256 → EReal) (K W : Fin 2304 → Fin 256 → EReal) (d : Fin 128) (s v : Fin 2304 → ℝ)
    (hs : ∀ k, (∑ l : Fin 256, q l * K k l) = (s k : EReal)) (hv : ∀ k, W k ⟨d, by omega⟩ = (v k : EReal))
    (h1 : ∀ k, W k ⟨128, by omega⟩ = 1) :
    outOf q K W d = (((∑ k, Real.rpow 2 (s k) * v k) / ∑ k, Real.rpow 2 (s k) : ℝ) : EReal) := by
  have es : ∀ o, sc q K o = fun k => (s ⟨o.val * 768 + k.val, by omega⟩ : EReal) := fun o => funext fun k => hs _
  have ev : ∀ o, vc W ⟨d, by omega⟩ o = fun k => (v ⟨o.val * 768 + k.val, by omega⟩ : EReal) := fun o => funext fun k => hv _
  have e1 : ∀ o, vc W ⟨128, by omega⟩ o = fun _ => 1 := fun o => funext fun k => h1 _
  unfold outOf accOf
  simp only [es, ev, e1]
  rw [chunks, chunks]
  exact three_chunks (n := 768) (by norm_num) _ _ _ _ _ _

include m0 m1 m2 m3 m4 h0 h1 h2 h3 h4

theorem kernel (x : Fin 8192) (y : Fin 2048) :
    attended m c x y
      = (attention r0 r1 r2 r3 r4 ⟨x.val / 2048, by omega⟩ ⟨y.val / 128, by omega⟩ ⟨x.val % 2048, by omega⟩
          ⟨y.val % 128, by omega⟩ : EReal) := by
  unfold attended
  refine (outOf_real _ _ _ _
    (fun k => (Real.log 2)⁻¹ * (scoreR r0 r1 r2 r3 r4 ⟨x.val / 2048, by omega⟩ ⟨y.val / 128, by omega⟩ ⟨x.val % 2048, by omega⟩ k / Real.sqrt 192))
    (fun k => kvR r1 r2 ⟨x.val / 2048, by omega⟩ ⟨y.val / 128, by omega⟩ k ⟨128 + y.val % 128, by omega⟩)
    (fun k => ?_) (fun k => ?_) (fun k => val_one m c _ _ k)).trans ?_
  · rw [← dot, coe_sum]
    refine Finset.sum_congr rfl fun l _ => ?_
    rw [query_coe r0 m c x0 m0 h0 ⟨x.val / 2048, by omega⟩ ⟨y.val / 128, by omega⟩ _ _ rfl,
      key_coe r1 r2 r3 r4 m c x1 x2 x3 x4 m1 m2 m3 m4 h1 h2 h3 h4 ⟨x.val / 2048, by omega⟩ ⟨y.val / 128, by omega⟩ _ _ rfl,
      EReal.coe_mul]
  · exact val_coe r1 r2 m c x1 x2 m1 m2 h1 h2 ⟨x.val / 2048, by omega⟩ ⟨y.val / 128, by omega⟩ _ _ rfl k ⟨y.val % 128, by omega⟩
  · unfold attention
    simp only [rpow_log]

end Cert.Equation
-- ==== Proof.Finite.lean ====
/- What the precondition says of the arguments: every element is a real number. -/
module

public import proofs.«01_k».proof.Defs
public import Idealize.ShloMosaic.Lib.ReduceAll
public import Idealize.ShloMosaic.Lib.Pointwise
public import Idealize.ShloMosaic.Lib.Claim

@[expose] public section

set_option maxRecDepth 16384

namespace Cert.Finite

open Idealize.ShloMosaic Cert.Pre_finite

/-- An extended real whose absolute value is below the infinity is a real. -/
theorem real_of_abs (x : EReal) (h : Ideal.cmp .olt (max x (-x)) (Ideal.ofBits .f32 0x7F800000#32) = 1#1) : ∃ r : ℝ, x = (r : EReal) := by
  have top : Ideal.ofBits .f32 0x7F800000#32 = ⊤ := by simp [Ideal.ofBits, Ideal.ieee]
  rw [top] at h
  induction x using EReal.rec with
  | bot => simp [Ideal.cmp] at h
  | top => simp [Ideal.cmp] at h
  | coe r => exact ⟨r, rfl⟩

variable [Cert.Pre_finite.Facts]

theorem finite (x0 : FVec Ideal S8192x3072 .f32) (x1 : FVec Ideal S8192x4096 .bf16) (x2 : FVec Ideal S1024x4096 .bf16)
    (x3 : FVec Ideal S8192x64 .f32) (x4 : FVec Ideal S1024x64 .f32)
    (h : Cert.Pre_finite.fn (F := Ideal) x0 x1 x2 x3 x4 = fun _ => 1#1) :
    (∀ i, ∃ r : ℝ, x0 i = (r : EReal)) ∧ (∀ i, ∃ r : ℝ, x1 i = (r : EReal)) ∧ (∀ i, ∃ r : ℝ, x2 i = (r : EReal))
      ∧ (∀ i, ∃ r : ℝ, x3 i = (r : EReal)) ∧ ∀ i, ∃ r : ℝ, x4 i = (r : EReal) := by
  have j : S_.Idx := fun d => d.elim0
  have : Subsingleton S_.Idx := ⟨fun a b => funext fun d => d.elim0⟩
  have e := congrFun h j
  obtain ⟨e, e4⟩ := IntOp.andi_eq_one.1 e
  obtain ⟨e, e3⟩ := IntOp.andi_eq_one.1 e
  obtain ⟨e, e2⟩ := IntOp.andi_eq_one.1 e
  obtain ⟨e0, e1⟩ := IntOp.andi_eq_one.1 e
  exact ⟨fun i => real_of_abs _ (Host.reduce_andi_all _ _ _ _ j e0 i), fun i => real_of_abs _ (Host.reduce_andi_all _ _ _ _ j e1 i),
    fun i => real_of_abs _ (Host.reduce_andi_all _ _ _ _ j e2 i), fun i => real_of_abs _ (Host.reduce_andi_all _ _ _ _ j e3 i),
    fun i => real_of_abs _ (Host.reduce_andi_all _ _ _ _ j e4 i)⟩

end Cert.Finite
-- ==== Proof.FfnUp.lean ====
/- The feed-forward layer's up call: the call's array against the reference's product of the gated and the plain projection. -/
module

public import proofs.«01_k».proof.Proof.Gen.Kernel2Ideal.Value
public import proofs.«01_k».proof.Proof.Gen.Reference2Ideal.Read
public import Idealize.ShloMosaic.Lib.Pipeline.ValueKit

@[expose] public section

set_option maxRecDepth 16384

noncomputable section

namespace Cert.FfnUp

open Idealize.ShloMosaic Idealize.ShloMosaic.TcCoe Idealize.SL.Sem
open Idealize.ShloMosaic.Pipeline (Dat)
open Cert.Kernel2Ideal Cert.Kernel2Ideal.Gen

/-- `a · (1 / (1 + exp (-a))) · b`: the gate `a` through the sigmoid-weighted unit, times `b`. -/
def gated (a b : EReal) : EReal :=
  a * Ideal.div 1 (1 + Ideal.exp (-a)) * b

/-- One element of a projection of the tokens. -/
def product (h : FVec Ideal S8192x4096 .bf16) (w : FVec Ideal S4096x11008 .f32) (x : Fin 8192) (y : Fin 11008) : EReal :=
  ∑ k : Fin 4096, (h (ix2 x k) : EReal) * w (ix2 k y)

theorem reference (h : FVec Ideal S8192x4096 .bf16) (w v : FVec Ideal S4096x11008 .f32) (x : Fin 8192) (y : Fin 11008) :
    Cert.Reference2Ideal.Read.val_main_v5 (F := Ideal) h w v (ix2 x y) = gated (product h w x y) (product h v x y) := by
  have e1 : Cert.Reference2Ideal.Read.val_main_v1 (F := Ideal) h w (ix2 x y) = product h w x y := by
    pointwise [Cert.Reference2Ideal.Read.val_main_v1, Cert.Reference2Ideal.Read.val_main_v0, product]
  have e3 : Cert.Reference2Ideal.Read.val_main_v3 (F := Ideal) h v (ix2 x y) = product h v x y := by
    pointwise [Cert.Reference2Ideal.Read.val_main_v3, Cert.Reference2Ideal.Read.val_main_v0, product]
  rw [← e1, ← e3]
  unfold Cert.Reference2Ideal.Read.val_main_v5 Cert.Reference2Ideal.Read.val_main_v4 Cert.Reference2Ideal.Read.val_main_v2
    Cert.Reference2Ideal.Read.val_main_call0_v5 Cert.Reference2Ideal.Read.val_main_call0_v3 Cert.Reference2Ideal.Read.val_main_call0_v1
    Cert.Reference2Ideal.Read.val_main_call0_v0
  generalize Cert.Reference2Ideal.Read.val_main_v1 (F := Ideal) h w = a
  generalize Cert.Reference2Ideal.Read.val_main_v3 (F := Ideal) h v = b
  pointwise [Cert.Reference2Ideal.Read.val_main_call0_v4, Cert.Reference2Ideal.Read.val_main_call0_cst_0,
    Cert.Reference2Ideal.Read.val_main_call0_v2, Cert.Reference2Ideal.Read.val_main_call0_cst, gated]

theorem block (h : FVec Ideal S1024x4096 .bf16) (w v : FVec Ideal S4096x256 .f32) (r : Fin 1024) (d : Fin 256) :
    k0_pay1 (F := Ideal) h w v (ix2 r d)
      = gated (∑ k : Fin 4096, (h (ix2 r k) : EReal) * w (ix2 k d)) (∑ k : Fin 4096, (h (ix2 r k) : EReal) * v (ix2 k d)) := by
  pointwise [k0_pay1, gated]
  rw [zero_sub]

theorem idx : ∀ t : Fin cfg0.N, win0_0.index t = ![t.val / 43, 0] ∧ win0_1.index t = ![0, t.val % 43]
    ∧ win0_2.index t = ![0, t.val % 43] ∧ win0_3.index t = ![t.val / 43, t.val % 43] :=
  (by decide +kernel : ∀ t : Fin grid0.N, _)

variable (m : (ℓ : Loc nD τ sig) → Buf (Elt Ideal) ℓ) (c : Dev nD)

theorem lt_N (t : Fin cfg0.N) : t.val < 344 := lt_of_lt_of_eq t.isLt (by decide)

theorem rows (h : FVec Ideal S8192x4096 .bf16) (e : m ((c : Thread nD τ).loc main_arg0) = h) (t : Fin cfg0.N) (r : Fin 1024) (k : Fin 4096) :
    iblk m c 0 t (ix2 r k) = h (ix2 ⟨t.val / 43 * 1024 + r.val, by have := lt_N t; omega⟩ k) := by
  subst e
  blk_point [iblk, V, idx t]

theorem gates (w : FVec Ideal S4096x11008 .f32) (e : m ((c : Thread nD τ).loc main_arg1) = w) (t : Fin cfg0.N) (k : Fin 4096) (d : Fin 256) :
    iblk m c 1 t (ix2 k d) = w (ix2 k ⟨t.val % 43 * 256 + d.val, by omega⟩) := by
  subst e
  blk_point [iblk, V, idx t]

theorem ups (w : FVec Ideal S4096x11008 .f32) (e : m ((c : Thread nD τ).loc main_arg2) = w) (t : Fin cfg0.N) (k : Fin 4096) (d : Fin 256) :
    iblk m c 2 t (ix2 k d) = w (ix2 k ⟨t.val % 43 * 256 + d.val, by omega⟩) := by
  subst e
  blk_point [iblk, V, idx t]

/-- THE ARRAY: the result after the whole grid. -/
theorem final (h : FVec Ideal S8192x4096 .bf16) (w v : FVec Ideal S4096x11008 .f32)
    (e0 : m ((c : Thread nD τ).loc main_arg0) = h) (e1 : m ((c : Thread nD τ).loc main_arg1) = w)
    (e2 : m ((c : Thread nD τ).loc main_arg2) = v) :
    (dats m 0 c).arrAt 3 (cfgs 0).N = Cert.Reference2Ideal.Read.val_main_v5 (F := Ideal) h w v := by
  refine (dats m 0 c).arrAt_eq_of_covers 3 _ (by decide +kernel) fun t _ y => ?_
  idx_vars y
  blk_simp
  rw [after0_3]
  frame_out
  have ht := lt_N t
  refine (block _ _ _ y0 y1).trans ?_
  refine Eq.trans ?_ ((reference h w v ⟨t.val / 43 * 1024 + y0.val, by omega⟩ ⟨t.val % 43 * 256 + y1.val, by omega⟩).symm.trans ?_)
  · unfold product
    refine congrArg₂ gated (Finset.sum_congr rfl fun k _ => ?_) (Finset.sum_congr rfl fun k _ => ?_)
    · rw [rows m c h e0, gates m c w e1]
    · rw [rows m c h e0, ups m c v e2]
  · blk_ext [idx t]

end Cert.FfnUp

end
-- ==== Proof.FfnDown.lean ====
/- The feed-forward layer's down call: the call's array against the reference's gated product added to the tokens. -/
module

public import proofs.«01_k».proof.Proof.Gen.Kernel3Ideal.Value
public import proofs.«01_k».proof.Proof.Gen.Reference3Ideal.Read
public import Idealize.ShloMosaic.Lib.Pipeline.ValueKit

@[expose] public section

set_option maxRecDepth 16384

noncomputable section

namespace Cert.FfnDown

open Idealize.ShloMosaic Idealize.ShloMosaic.TcCoe Idealize.SL.Sem
open Idealize.ShloMosaic.Pipeline (Dat)
open Cert.Kernel3Ideal Cert.Kernel3Ideal.Gen

/-- One element of the result: the token plus its batch's gate times the product. -/
def result (x : FVec Ideal S8192x4096 .f32) (u : FVec Ideal S8192x11008 .bf16) (w : FVec Ideal S11008x4096 .f32)
    (g : FVec Ideal S8x1x4096 .f32) (i : Fin 8192) (j : Fin 4096) : EReal :=
  (x (ix2 i j) : EReal) + (g (ix3 ⟨i.val / 2048, by omega⟩ 0 j) : EReal) * ∑ k : Fin 11008, (u (ix2 i k) : EReal) * w (ix2 k j)

theorem reference (x : FVec Ideal S8192x4096 .f32) (u : FVec Ideal S8192x11008 .bf16) (w : FVec Ideal S11008x4096 .f32)
    (g : FVec Ideal S8x1x4096 .f32) (i : Fin 8192) (j : Fin 4096) :
    Cert.Reference3Ideal.Read.val_main_v10 (F := Ideal) x u w g (ix2 i j) = result x u w g i j := by
  have e1 : Cert.Reference3Ideal.Read.val_main_v1 (F := Ideal) u w (ix2 i j) = ∑ k : Fin 11008, (u (ix2 i k) : EReal) * w (ix2 k j) := by
    pointwise [Cert.Reference3Ideal.Read.val_main_v1, Cert.Reference3Ideal.Read.val_main_v0]
  unfold result
  rw [← e1]
  unfold Cert.Reference3Ideal.Read.val_main_v10 Cert.Reference3Ideal.Read.val_main_v9 Cert.Reference3Ideal.Read.val_main_v8
    Cert.Reference3Ideal.Read.val_main_v7 Cert.Reference3Ideal.Read.val_main_v6 Cert.Reference3Ideal.Read.val_main_v5
    Cert.Reference3Ideal.Read.val_main_v4 Cert.Reference3Ideal.Read.val_main_v3 Cert.Reference3Ideal.Read.val_main_v2
  generalize Cert.Reference3Ideal.Read.val_main_v1 (F := Ideal) u w = a
  pointwise

theorem block (u : FVec Ideal S512x11008 .bf16) (w : FVec Ideal S11008x512 .bf16) (x : FVec Ideal S512x512 .f32)
    (g : FVec Ideal S1x1x512 .f32) (r d : Fin 512) :
    k0_pay1 (F := Ideal) u w x g (ix2 r d)
      = (x (ix2 r d) : EReal) + (g (ix3 0 0 d) : EReal) * ∑ k : Fin 11008, (u (ix2 r k) : EReal) * w (ix2 k d) := by
  pointwise [k0_pay1]

theorem idx : ∀ t : Fin cfg0.N, win0_0.index t = ![t.val / 8, 0] ∧ win0_1.index t = ![0, t.val % 8]
    ∧ win0_2.index t = ![t.val / 8, t.val % 8] ∧ win0_3.index t = ![t.val / 32, 0, t.val % 8]
    ∧ win0_4.index t = ![t.val / 8, t.val % 8] :=
  (by decide +kernel : ∀ t : Fin grid0.N, _)

variable (m : (ℓ : Loc nD τ sig) → Buf (Elt Ideal) ℓ) (c : Dev nD)

theorem lt_N (t : Fin cfg0.N) : t.val < 128 := lt_of_lt_of_eq t.isLt (by decide)

/-- The weights as the call finds them: the argument, cast. -/
theorem weights_eq : V m c main_v0 = (truncf .bf16 (m ((c : Thread nD τ).loc main_arg2) : FVec Ideal S11008x4096 .f32) bitsLt_bf16_f32 : FVec Ideal S11008x4096 .bf16) := by
  rfl

theorem rows (u : FVec Ideal S8192x11008 .bf16) (e : m ((c : Thread nD τ).loc main_arg1) = u) (t : Fin cfg0.N) (r : Fin 512) (k : Fin 11008) :
    iblk m c 0 t (ix2 r k) = u (ix2 ⟨t.val / 8 * 512 + r.val, by have := lt_N t; omega⟩ k) := by
  subst e
  rw [← V_main_arg1 m c]
  unfold iblk
  blk_point [idx t]

theorem tokens (x : FVec Ideal S8192x4096 .f32) (e : m ((c : Thread nD τ).loc main_arg0) = x) (t : Fin cfg0.N) (r d : Fin 512) :
    iblk m c 2 t (ix2 r d) = x (ix2 ⟨t.val / 8 * 512 + r.val, by have := lt_N t; omega⟩ ⟨t.val % 8 * 512 + d.val, by omega⟩) := by
  subst e
  rw [← V_main_arg0 m c]
  unfold iblk
  blk_point [idx t]

theorem gate (g : FVec Ideal S8x1x4096 .f32) (e : m ((c : Thread nD τ).loc main_arg3) = g) (t : Fin cfg0.N) (d : Fin 512) :
    iblk m c 3 t (ix3 0 0 d) = g (ix3 ⟨t.val / 32, by have := lt_N t; omega⟩ 0 ⟨t.val % 8 * 512 + d.val, by omega⟩) := by
  subst e
  rw [← V_main_arg3 m c]
  unfold iblk
  blk_point [idx t]

theorem weights (w : FVec Ideal S11008x4096 .f32) (e : m ((c : Thread nD τ).loc main_arg2) = w) (t : Fin cfg0.N) (k : Fin 11008) (d : Fin 512) :
    iblk m c 1 t (ix2 k d) = w (ix2 k ⟨t.val % 8 * 512 + d.val, by omega⟩) := by
  subst e
  refine Eq.trans ?_ (congrFun (weights_eq m c) _)
  unfold iblk
  blk_point [idx t]

/-- THE ARRAY: the result after the whole grid. -/
theorem final (x : FVec Ideal S8192x4096 .f32) (u : FVec Ideal S8192x11008 .bf16) (w : FVec Ideal S11008x4096 .f32)
    (g : FVec Ideal S8x1x4096 .f32)
    (e0 : m ((c : Thread nD τ).loc main_arg0) = x) (e1 : m ((c : Thread nD τ).loc main_arg1) = u)
    (e2 : m ((c : Thread nD τ).loc main_arg2) = w) (e3 : m ((c : Thread nD τ).loc main_arg3) = g) :
    (dats m 0 c).arrAt 4 (cfgs 0).N = Cert.Reference3Ideal.Read.val_main_v10 (F := Ideal) x u w g := by
  refine (dats m 0 c).arrAt_eq_of_covers 4 _ (by decide +kernel) fun t _ y => ?_
  idx_vars y
  blk_simp
  rw [after0_4]
  frame_out
  have ht := lt_N t
  refine (block _ _ _ _ y0 y1).trans ?_
  refine Eq.trans ?_ ((reference x u w g ⟨t.val / 8 * 512 + y0.val, by omega⟩ ⟨t.val % 8 * 512 + y1.val, by omega⟩).symm.trans ?_)
  · unfold result
    have eb : (⟨(t.val / 8 * 512 + y0.val) / 2048, by omega⟩ : Fin 8) = ⟨t.val / 32, by omega⟩ := Fin.ext (by show _ / 2048 = _ / 32; omega)
    rw [tokens m c x e0, gate m c g e3, eb]
    refine congrArg₂ (· + ·) rfl (congrArg₂ (· * ·) rfl (Finset.sum_congr rfl fun k _ => ?_))
    rw [rows m c u e1, weights m c w e2]
  · blk_ext [idx t]

end Cert.FfnDown

end
-- ==== Proof.EvenIn.lean ====
/- The even layer's projection: the call's array against the reference's product. -/
module

public import proofs.«01_k».proof.Proof.Gen.Kernel4Ideal.Value
public import proofs.«01_k».proof.Proof.Gen.Reference4Ideal.Read
public import Idealize.ShloMosaic.Lib.Pipeline.ValueKit

@[expose] public section

set_option maxRecDepth 16384

noncomputable section

namespace Cert.EvenIn

open Idealize.ShloMosaic Idealize.ShloMosaic.TcCoe Idealize.SL.Sem
open Idealize.ShloMosaic.Pipeline (Dat)
open Cert.Kernel4Ideal Cert.Kernel4Ideal.Gen

/-- One element of the product. -/
def product (h : FVec Ideal S8192x4096 .bf16) (w : FVec Ideal S4096x8192 .f32) (x y : Fin 8192) : EReal :=
  ∑ k : Fin 4096, (h (ix2 x k) : EReal) * w (ix2 k y)

theorem reference (h : FVec Ideal S8192x4096 .bf16) (w : FVec Ideal S4096x8192 .f32) (x y : Fin 8192) :
    Cert.Reference4Ideal.Read.val_main_v2 (F := Ideal) h w (ix2 x y) = product h w x y := by
  pointwise [Cert.Reference4Ideal.Read.val_main_v2, Cert.Reference4Ideal.Read.val_main_v1, Cert.Reference4Ideal.Read.val_main_v0, product]

theorem block (h : FVec Ideal S1024x4096 .bf16) (w : FVec Ideal S4096x512 .f32) (r : Fin 1024) (d : Fin 512) :
    k0_pay1 (F := Ideal) h w (ix2 r d) = ∑ k : Fin 4096, (h (ix2 r k) : EReal) * w (ix2 k d) := by
  pointwise [k0_pay1]

theorem idx : ∀ t : Fin cfg0.N, win0_0.index t = ![t.val / 16, 0] ∧ win0_1.index t = ![0, t.val % 16]
    ∧ win0_2.index t = ![t.val / 16, t.val % 16] :=
  (by decide +kernel : ∀ t : Fin grid0.N, _)

variable (m : (ℓ : Loc nD τ sig) → Buf (Elt Ideal) ℓ) (c : Dev nD)

theorem lt_N (t : Fin cfg0.N) : t.val < 128 := lt_of_lt_of_eq t.isLt (by decide)

theorem rows (h : FVec Ideal S8192x4096 .bf16) (e : m ((c : Thread nD τ).loc main_arg0) = h) (t : Fin cfg0.N) (r : Fin 1024) (k : Fin 4096) :
    iblk m c 0 t (ix2 r k) = h (ix2 ⟨t.val / 16 * 1024 + r.val, by have := lt_N t; omega⟩ k) := by
  subst e
  blk_point [iblk, V, idx t]

theorem columns (w : FVec Ideal S4096x8192 .f32) (e : m ((c : Thread nD τ).loc main_arg1) = w) (t : Fin cfg0.N) (k : Fin 4096) (d : Fin 512) :
    iblk m c 1 t (ix2 k d) = w (ix2 k ⟨t.val % 16 * 512 + d.val, by omega⟩) := by
  subst e
  blk_point [iblk, V, idx t]

/-- THE ARRAY: the result after the whole grid. -/
theorem final (h : FVec Ideal S8192x4096 .bf16) (w : FVec Ideal S4096x8192 .f32)
    (e0 : m ((c : Thread nD τ).loc main_arg0) = h) (e1 : m ((c : Thread nD τ).loc main_arg1) = w) :
    (dats m 0 c).arrAt 2 (cfgs 0).N = Cert.Reference4Ideal.Read.val_main_v2 (F := Ideal) h w := by
  refine (dats m 0 c).arrAt_eq_of_covers 2 _ (by decide +kernel) fun t _ y => ?_
  idx_vars y
  blk_simp
  rw [after0_2]
  frame_out
  have ht := lt_N t
  refine (block _ _ y0 y1).trans ?_
  refine Eq.trans ?_ ((reference h w ⟨t.val / 16 * 1024 + y0.val, by omega⟩ ⟨t.val % 16 * 512 + y1.val, by omega⟩).symm.trans ?_)
  · unfold product
    refine Finset.sum_congr rfl fun k _ => ?_
    rw [rows m c h e0, columns m c w e1]
  · blk_ext [idx t]

end Cert.EvenIn

end
-- ==== Proof.OddIn.lean ====
/- The odd layer's projection: the call's array against the first 7680 columns of the reference's product. -/
module

public import proofs.«01_k».proof.Proof.Gen.Kernel5Ideal.Value
public import proofs.«01_k».proof.Proof.Gen.Reference5Ideal.Read
public import Idealize.ShloMosaic.Lib.Pipeline.ValueKit

@[expose] public section

set_option maxRecDepth 16384

noncomputable section

namespace Cert.OddIn

open Idealize.ShloMosaic Idealize.ShloMosaic.TcCoe Idealize.SL.Sem
open Idealize.ShloMosaic.Pipeline (Dat)
open Cert.Kernel5Ideal Cert.Kernel5Ideal.Gen

/-- One element of the product. -/
def product (h : FVec Ideal S8192x4096 .bf16) (w : FVec Ideal S4096x7744 .f32) (x : Fin 8192) (y : Fin 7680) : EReal :=
  ∑ k : Fin 4096, (h (ix2 x k) : EReal) * w (ix2 k ⟨y.val, by omega⟩)

theorem reference (h : FVec Ideal S8192x4096 .bf16) (w : FVec Ideal S4096x7744 .f32) (x : Fin 8192) (y : Fin 7680) :
    Cert.Reference5Ideal.Read.val_main_v2 (F := Ideal) h w (ix2 x y) = product h w x y := by
  pointwise [Cert.Reference5Ideal.Read.val_main_v2, Cert.Reference5Ideal.Read.val_main_v1, Cert.Reference5Ideal.Read.val_main_v0, product]

theorem block (h : FVec Ideal S1024x4096 .bf16) (w : FVec Ideal S4096x512 .f32) (r : Fin 1024) (d : Fin 512) :
    k0_pay1 (F := Ideal) h w (ix2 r d) = ∑ k : Fin 4096, (h (ix2 r k) : EReal) * w (ix2 k d) := by
  pointwise [k0_pay1]

theorem idx : ∀ t : Fin cfg0.N, win0_0.index t = ![t.val / 15, 0] ∧ win0_1.index t = ![0, t.val % 15]
    ∧ win0_2.index t = ![t.val / 15, t.val % 15] :=
  (by decide +kernel : ∀ t : Fin grid0.N, _)

variable (m : (ℓ : Loc nD τ sig) → Buf (Elt Ideal) ℓ) (c : Dev nD)

theorem lt_N (t : Fin cfg0.N) : t.val < 120 := lt_of_lt_of_eq t.isLt (by decide)

theorem rows (h : FVec Ideal S8192x4096 .bf16) (e : m ((c : Thread nD τ).loc main_arg0) = h) (t : Fin cfg0.N) (r : Fin 1024) (k : Fin 4096) :
    iblk m c 0 t (ix2 r k) = h (ix2 ⟨t.val / 15 * 1024 + r.val, by have := lt_N t; omega⟩ k) := by
  subst e
  blk_point [iblk, V, idx t]

theorem columns (w : FVec Ideal S4096x7744 .f32) (e : m ((c : Thread nD τ).loc main_arg1) = w) (t : Fin cfg0.N) (k : Fin 4096) (d : Fin 512) :
    X0_1 m c t (ix2 k d) = w (ix2 k ⟨t.val % 15 * 512 + d.val, by omega⟩) := by
  subst e
  unfold X0_1 Pipeline.Window.fill
  refine (dif_pos (moved0_1 t (ix2 k d))).trans ?_
  unfold iblk
  blk_point [V, idx t]

/-- THE ARRAY: the result after the whole grid. -/
theorem final (h : FVec Ideal S8192x4096 .bf16) (w : FVec Ideal S4096x7744 .f32)
    (e0 : m ((c : Thread nD τ).loc main_arg0) = h) (e1 : m ((c : Thread nD τ).loc main_arg1) = w) :
    (dats m 0 c).arrAt 2 (cfgs 0).N = Cert.Reference5Ideal.Read.val_main_v2 (F := Ideal) h w := by
  refine (dats m 0 c).arrAt_eq_of_covers 2 _ (by decide +kernel) fun t _ y => ?_
  idx_vars y
  blk_simp
  rw [after0_2]
  unfold outsAt0
  frame_out
  have ht := lt_N t
  refine (block _ _ y0 y1).trans ?_
  refine Eq.trans ?_ ((reference h w ⟨t.val / 15 * 1024 + y0.val, by omega⟩ ⟨t.val % 15 * 512 + y1.val, by omega⟩).symm.trans ?_)
  · unfold product
    refine Finset.sum_congr rfl fun k _ => ?_
    rw [rows m c h e0, columns m c w e1]
  · blk_ext [idx t]

end Cert.OddIn

end
-- ==== Proof.EvenOut.lean ====
/- The even layer's output projection: the call's array against the reference's gated product added to the tokens. The call takes the
   two mixers' results one after the other, each against its half of the weights; the reference joins them first. -/
module

public import proofs.«01_k».proof.Proof.Gen.Kernel6Ideal.Value
public import proofs.«01_k».proof.Proof.Gen.Reference6Ideal.Read
public import Idealize.ShloMosaic.Lib.Pipeline.ValueKit

@[expose] public section

set_option maxRecDepth 16384

noncomputable section

namespace Cert.EvenOut

open Idealize.ShloMosaic Idealize.ShloMosaic.TcCoe Idealize.SL.Sem
open Idealize.ShloMosaic.Pipeline (Dat)
open Cert.Kernel6Ideal Cert.Kernel6Ideal.Gen

/-- One element of the joined results' product with the weights, half by half. -/
def product (a b : FVec Ideal S8192x2048 .bf16) (w : FVec Ideal S4096x4096 .f32) (i : Fin 8192) (j : Fin 4096) : EReal :=
  (∑ k : Fin 2048, (a (ix2 i k) : EReal) * w (ix2 ⟨k.val, by omega⟩ j))
    + ∑ k : Fin 2048, (b (ix2 i k) : EReal) * w (ix2 ⟨2048 + k.val, by omega⟩ j)

/-- One element of the result: the token plus its batch's gate times the product. -/
def result (x : FVec Ideal S4x2048x4096 .f32) (a b : FVec Ideal S8192x2048 .bf16) (w : FVec Ideal S4096x4096 .f32)
    (g : FVec Ideal S8x1x4096 .f32) (i : Fin 8192) (j : Fin 4096) : EReal :=
  (x (ix3 ⟨i.val / 2048, by omega⟩ ⟨i.val % 2048, by omega⟩ j) : EReal)
    + (g (ix3 ⟨i.val / 2048, by omega⟩ 0 j) : EReal) * product a b w i j

/-- The joined results, read in their first and in their second half. -/
theorem left (a b : FVec Ideal S8192x2048 .bf16) (i : Fin 8192) (k : Fin 2048) :
    Cert.Reference6Ideal.Read.val_main_v2 (F := Ideal) a b (ix2 i ⟨k.val, by omega⟩) = a (ix2 i k) := by
  pointwise [Cert.Reference6Ideal.Read.val_main_v2, Cert.Reference6Ideal.Read.val_main_v1, Cert.Reference6Ideal.Read.val_main_v0]

theorem right (a b : FVec Ideal S8192x2048 .bf16) (i : Fin 8192) (k : Fin 2048) :
    Cert.Reference6Ideal.Read.val_main_v2 (F := Ideal) a b (ix2 i ⟨2048 + k.val, by omega⟩) = b (ix2 i k) := by
  pointwise [Cert.Reference6Ideal.Read.val_main_v2, Cert.Reference6Ideal.Read.val_main_v1, Cert.Reference6Ideal.Read.val_main_v0]

theorem joined (a b : FVec Ideal S8192x2048 .bf16) (w : FVec Ideal S4096x4096 .f32) (i : Fin 8192) (j : Fin 4096) :
    Cert.Reference6Ideal.Read.val_main_v3 (F := Ideal) a b w (ix2 i j) = product a b w i j := by
  have e : Cert.Reference6Ideal.Read.val_main_v3 (F := Ideal) a b w (ix2 i j)
      = ∑ k : Fin 4096, (Cert.Reference6Ideal.Read.val_main_v2 (F := Ideal) a b (ix2 i k) : EReal) * w (ix2 k j) := by
    unfold Cert.Reference6Ideal.Read.val_main_v3
    generalize Cert.Reference6Ideal.Read.val_main_v2 (F := Ideal) a b = z
    pointwise
  rw [e, Fin.sum_univ_two_halves 2048 2048 rfl]
  unfold product
  refine congrArg₂ (· + ·) (Finset.sum_congr rfl fun k _ => ?_) (Finset.sum_congr rfl fun k _ => ?_)
  · rw [left]
  · rw [right]

theorem reference (x : FVec Ideal S4x2048x4096 .f32) (a b : FVec Ideal S8192x2048 .bf16) (w : FVec Ideal S4096x4096 .f32)
    (g : FVec Ideal S8x1x4096 .f32) (i : Fin 8192) (j : Fin 4096) :
    Cert.Reference6Ideal.Read.val_main_v11 (F := Ideal) x a b w g (ix2 i j) = result x a b w g i j := by
  unfold result
  rw [← joined]
  unfold Cert.Reference6Ideal.Read.val_main_v11 Cert.Reference6Ideal.Read.val_main_v10 Cert.Reference6Ideal.Read.val_main_v9
    Cert.Reference6Ideal.Read.val_main_v8
    Cert.Reference6Ideal.Read.val_main_v7 Cert.Reference6Ideal.Read.val_main_v6 Cert.Reference6Ideal.Read.val_main_v5
    Cert.Reference6Ideal.Read.val_main_v4
  generalize Cert.Reference6Ideal.Read.val_main_v3 (F := Ideal) a b w = y
  pointwise

theorem block (a b : FVec Ideal S1024x2048 .bf16) (w v : FVec Ideal S2048x512 .f32) (x : FVec Ideal S1x1024x512 .f32)
    (g : FVec Ideal S1x1x512 .f32) (r : Fin 1024) (d : Fin 512) :
    k0_pay1 (F := Ideal) a b w v x g (ix2 r d)
      = (x (ix3 0 r d) : EReal) + (g (ix3 0 0 d) : EReal) * ((∑ k : Fin 2048, (a (ix2 r k) : EReal) * w (ix2 k d))
          + ∑ k : Fin 2048, (b (ix2 r k) : EReal) * v (ix2 k d)) := by
  pointwise [k0_pay1]

theorem idx : ∀ t : Fin cfg0.N, win0_0.index t = ![t.val / 8, 0] ∧ win0_1.index t = ![t.val / 8, 0]
    ∧ win0_2.index t = ![0, t.val % 8] ∧ win0_3.index t = ![1, t.val % 8]
    ∧ win0_4.index t = ![t.val / 16, t.val / 8 % 2, t.val % 8] ∧ win0_5.index t = ![t.val / 16, 0, t.val % 8]
    ∧ win0_6.index t = ![t.val / 8, t.val % 8] :=
  (by decide +kernel : ∀ t : Fin grid0.N, _)

variable (m : (ℓ : Loc nD τ sig) → Buf (Elt Ideal) ℓ) (c : Dev nD)

theorem lt_N (t : Fin cfg0.N) : t.val < 64 := lt_of_lt_of_eq t.isLt (by decide)

theorem first (a : FVec Ideal S8192x2048 .bf16) (e : m ((c : Thread nD τ).loc main_arg1) = a) (t : Fin cfg0.N) (r : Fin 1024) (k : Fin 2048) :
    iblk m c 0 t (ix2 r k) = a (ix2 ⟨t.val / 8 * 1024 + r.val, by have := lt_N t; omega⟩ k) := by
  subst e
  rw [← V_main_arg1 m c]
  unfold iblk
  blk_point [idx t]

theorem second (b : FVec Ideal S8192x2048 .bf16) (e : m ((c : Thread nD τ).loc main_arg2) = b) (t : Fin cfg0.N) (r : Fin 1024) (k : Fin 2048) :
    iblk m c 1 t (ix2 r k) = b (ix2 ⟨t.val / 8 * 1024 + r.val, by have := lt_N t; omega⟩ k) := by
  subst e
  rw [← V_main_arg2 m c]
  unfold iblk
  blk_point [idx t]

theorem upper (w : FVec Ideal S4096x4096 .f32) (e : m ((c : Thread nD τ).loc main_arg3) = w) (t : Fin cfg0.N) (k : Fin 2048) (d : Fin 512) :
    iblk m c 2 t (ix2 k d) = w (ix2 ⟨k.val, by omega⟩ ⟨t.val % 8 * 512 + d.val, by omega⟩) := by
  subst e
  rw [← V_main_arg3 m c]
  unfold iblk
  blk_point [idx t]

theorem lower (w : FVec Ideal S4096x4096 .f32) (e : m ((c : Thread nD τ).loc main_arg3) = w) (t : Fin cfg0.N) (k : Fin 2048) (d : Fin 512) :
    iblk m c 3 t (ix2 k d) = w (ix2 ⟨2048 + k.val, by omega⟩ ⟨t.val % 8 * 512 + d.val, by omega⟩) := by
  subst e
  rw [← V_main_arg3 m c]
  unfold iblk
  blk_point [idx t]

theorem tokens (x : FVec Ideal S4x2048x4096 .f32) (e : m ((c : Thread nD τ).loc main_arg0) = x) (t : Fin cfg0.N) (r : Fin 1024) (d : Fin 512) :
    iblk m c 4 t (ix3 0 r d) = x (ix3 ⟨t.val / 16, by have := lt_N t; omega⟩ ⟨t.val / 8 % 2 * 1024 + r.val, by omega⟩
      ⟨t.val % 8 * 512 + d.val, by omega⟩) := by
  subst e
  rw [← V_main_arg0 m c]
  unfold iblk
  blk_point [idx t]

theorem gate (g : FVec Ideal S8x1x4096 .f32) (e : m ((c : Thread nD τ).loc main_arg4) = g) (t : Fin cfg0.N) (d : Fin 512) :
    iblk m c 5 t (ix3 0 0 d) = g (ix3 ⟨t.val / 16, by have := lt_N t; omega⟩ 0 ⟨t.val % 8 * 512 + d.val, by omega⟩) := by
  subst e
  rw [← V_main_arg4 m c]
  unfold iblk
  blk_point [idx t]

/-- THE ARRAY: the result after the whole grid. -/
theorem final (x : FVec Ideal S4x2048x4096 .f32) (a b : FVec Ideal S8192x2048 .bf16) (w : FVec Ideal S4096x4096 .f32)
    (g : FVec Ideal S8x1x4096 .f32)
    (e0 : m ((c : Thread nD τ).loc main_arg0) = x) (e1 : m ((c : Thread nD τ).loc main_arg1) = a)
    (e2 : m ((c : Thread nD τ).loc main_arg2) = b) (e3 : m ((c : Thread nD τ).loc main_arg3) = w)
    (e4 : m ((c : Thread nD τ).loc main_arg4) = g) :
    (dats m 0 c).arrAt 6 (cfgs 0).N = Cert.Reference6Ideal.Read.val_main_v11 (F := Ideal) x a b w g := by
  refine (dats m 0 c).arrAt_eq_of_covers 6 _ (by decide +kernel) fun t _ y => ?_
  idx_vars y
  blk_simp
  rw [after0_6]
  frame_out
  have ht := lt_N t
  refine (block _ _ _ _ _ _ y0 y1).trans ?_
  refine Eq.trans ?_ ((reference x a b w g ⟨t.val / 8 * 1024 + y0.val, by omega⟩ ⟨t.val % 8 * 512 + y1.val, by omega⟩).symm.trans ?_)
  · unfold result product
    have eb : (⟨(t.val / 8 * 1024 + y0.val) / 2048, by omega⟩ : Fin 4) = ⟨t.val / 16, by omega⟩ := Fin.ext (by show _ / 2048 = _ / 16; omega)
    have eg : (⟨(t.val / 8 * 1024 + y0.val) / 2048, by omega⟩ : Fin 8) = ⟨t.val / 16, by omega⟩ := Fin.ext (by show _ / 2048 = _ / 16; omega)
    have er : (⟨(t.val / 8 * 1024 + y0.val) % 2048, by omega⟩ : Fin 2048) = ⟨t.val / 8 % 2 * 1024 + y0.val, by omega⟩ :=
      Fin.ext (by show (t.val / 8 * 1024 + y0.val) % 2048 = t.val / 8 % 2 * 1024 + y0.val; omega)
    rw [tokens m c x e0, gate m c g e4, eb, eg, er]
    refine congrArg₂ (· + ·) rfl (congrArg₂ (· * ·) rfl
      (congrArg₂ (· + ·) (Finset.sum_congr rfl fun k _ => ?_) (Finset.sum_congr rfl fun k _ => ?_)))
    · rw [first m c a e1, upper m c w e3]
    · rw [second m c b e2, lower m c w e3]
  · blk_ext [idx t]

end Cert.EvenOut

end
-- ==== Proof.OddOut.lean ====
/- The odd layer's output projection: the call's array against the reference's gated product added to the tokens. The call takes the
   two mixers' results one after the other, each against its half of the weights; the reference joins them first. -/
module

public import proofs.«01_k».proof.Proof.Gen.Kernel7Ideal.Value
public import proofs.«01_k».proof.Proof.Gen.Reference7Ideal.Read
public import Idealize.ShloMosaic.Lib.Pipeline.ValueKit

@[expose] public section

set_option maxRecDepth 16384

noncomputable section

namespace Cert.OddOut

open Idealize.ShloMosaic Idealize.ShloMosaic.TcCoe Idealize.SL.Sem
open Idealize.ShloMosaic.Pipeline (Dat)
open Cert.Kernel7Ideal Cert.Kernel7Ideal.Gen

/-- One element of the joined results' product with the weights, half by half. -/
def product (a b : FVec Ideal S8192x2048 .bf16) (w : FVec Ideal S4096x4096 .f32) (i : Fin 8192) (j : Fin 4096) : EReal :=
  (∑ k : Fin 2048, (a (ix2 i k) : EReal) * w (ix2 ⟨k.val, by omega⟩ j))
    + ∑ k : Fin 2048, (b (ix2 i k) : EReal) * w (ix2 ⟨2048 + k.val, by omega⟩ j)

/-- One element of the result: the token plus its batch's gate times the product. -/
def result (x : FVec Ideal S8192x4096 .f32) (a b : FVec Ideal S8192x2048 .bf16) (w : FVec Ideal S4096x4096 .f32)
    (g : FVec Ideal S8x1x4096 .f32) (i : Fin 8192) (j : Fin 4096) : EReal :=
  (x (ix2 i j) : EReal)
    + (g (ix3 ⟨i.val / 2048, by omega⟩ 0 j) : EReal) * product a b w i j

/-- The joined results, read in their first and in their second half. -/
theorem left (a b : FVec Ideal S8192x2048 .bf16) (i : Fin 8192) (k : Fin 2048) :
    Cert.Reference7Ideal.Read.val_main_v2 (F := Ideal) a b (ix2 i ⟨k.val, by omega⟩) = a (ix2 i k) := by
  pointwise [Cert.Reference7Ideal.Read.val_main_v2, Cert.Reference7Ideal.Read.val_main_v1, Cert.Reference7Ideal.Read.val_main_v0]

theorem right (a b : FVec Ideal S8192x2048 .bf16) (i : Fin 8192) (k : Fin 2048) :
    Cert.Reference7Ideal.Read.val_main_v2 (F := Ideal) a b (ix2 i ⟨2048 + k.val, by omega⟩) = b (ix2 i k) := by
  pointwise [Cert.Reference7Ideal.Read.val_main_v2, Cert.Reference7Ideal.Read.val_main_v1, Cert.Reference7Ideal.Read.val_main_v0]

theorem joined (a b : FVec Ideal S8192x2048 .bf16) (w : FVec Ideal S4096x4096 .f32) (i : Fin 8192) (j : Fin 4096) :
    Cert.Reference7Ideal.Read.val_main_v3 (F := Ideal) a b w (ix2 i j) = product a b w i j := by
  have e : Cert.Reference7Ideal.Read.val_main_v3 (F := Ideal) a b w (ix2 i j)
      = ∑ k : Fin 4096, (Cert.Reference7Ideal.Read.val_main_v2 (F := Ideal) a b (ix2 i k) : EReal) * w (ix2 k j) := by
    unfold Cert.Reference7Ideal.Read.val_main_v3
    generalize Cert.Reference7Ideal.Read.val_main_v2 (F := Ideal) a b = z
    pointwise
  rw [e, Fin.sum_univ_two_halves 2048 2048 rfl]
  unfold product
  refine congrArg₂ (· + ·) (Finset.sum_congr rfl fun k _ => ?_) (Finset.sum_congr rfl fun k _ => ?_)
  · rw [left]
  · rw [right]

theorem reference (x : FVec Ideal S8192x4096 .f32) (a b : FVec Ideal S8192x2048 .bf16) (w : FVec Ideal S4096x4096 .f32)
    (g : FVec Ideal S8x1x4096 .f32) (i : Fin 8192) (j : Fin 4096) :
    Cert.Reference7Ideal.Read.val_main_v12 (F := Ideal) x a b w g (ix2 i j) = result x a b w g i j := by
  unfold result
  rw [← joined]
  unfold Cert.Reference7Ideal.Read.val_main_v12 Cert.Reference7Ideal.Read.val_main_v11 Cert.Reference7Ideal.Read.val_main_v10 Cert.Reference7Ideal.Read.val_main_v9
    Cert.Reference7Ideal.Read.val_main_v8
    Cert.Reference7Ideal.Read.val_main_v7 Cert.Reference7Ideal.Read.val_main_v6 Cert.Reference7Ideal.Read.val_main_v5
    Cert.Reference7Ideal.Read.val_main_v4
  generalize Cert.Reference7Ideal.Read.val_main_v3 (F := Ideal) a b w = y
  pointwise

theorem block (a b : FVec Ideal S1024x2048 .bf16) (w v : FVec Ideal S2048x512 .f32) (x : FVec Ideal S1024x512 .f32)
    (g : FVec Ideal S1x1x512 .f32) (r : Fin 1024) (d : Fin 512) :
    k0_pay1 (F := Ideal) a b w v x g (ix2 r d)
      = (x (ix2 r d) : EReal) + (g (ix3 0 0 d) : EReal) * ((∑ k : Fin 2048, (a (ix2 r k) : EReal) * w (ix2 k d))
          + ∑ k : Fin 2048, (b (ix2 r k) : EReal) * v (ix2 k d)) := by
  pointwise [k0_pay1]

theorem idx : ∀ t : Fin cfg0.N, win0_0.index t = ![t.val / 8, 0] ∧ win0_1.index t = ![t.val / 8, 0]
    ∧ win0_2.index t = ![0, t.val % 8] ∧ win0_3.index t = ![1, t.val % 8]
    ∧ win0_4.index t = ![t.val / 8, t.val % 8] ∧ win0_5.index t = ![t.val / 16, 0, t.val % 8]
    ∧ win0_6.index t = ![t.val / 8, t.val % 8] :=
  (by decide +kernel : ∀ t : Fin grid0.N, _)

variable (m : (ℓ : Loc nD τ sig) → Buf (Elt Ideal) ℓ) (c : Dev nD)

theorem lt_N (t : Fin cfg0.N) : t.val < 64 := lt_of_lt_of_eq t.isLt (by decide)

theorem first (a : FVec Ideal S8192x2048 .bf16) (e : m ((c : Thread nD τ).loc main_arg1) = a) (t : Fin cfg0.N) (r : Fin 1024) (k : Fin 2048) :
    iblk m c 0 t (ix2 r k) = a (ix2 ⟨t.val / 8 * 1024 + r.val, by have := lt_N t; omega⟩ k) := by
  subst e
  rw [← V_main_arg1 m c]
  unfold iblk
  blk_point [idx t]

theorem second (b : FVec Ideal S8192x2048 .bf16) (e : m ((c : Thread nD τ).loc main_arg2) = b) (t : Fin cfg0.N) (r : Fin 1024) (k : Fin 2048) :
    iblk m c 1 t (ix2 r k) = b (ix2 ⟨t.val / 8 * 1024 + r.val, by have := lt_N t; omega⟩ k) := by
  subst e
  rw [← V_main_arg2 m c]
  unfold iblk
  blk_point [idx t]

theorem upper (w : FVec Ideal S4096x4096 .f32) (e : m ((c : Thread nD τ).loc main_arg3) = w) (t : Fin cfg0.N) (k : Fin 2048) (d : Fin 512) :
    iblk m c 2 t (ix2 k d) = w (ix2 ⟨k.val, by omega⟩ ⟨t.val % 8 * 512 + d.val, by omega⟩) := by
  subst e
  rw [← V_main_arg3 m c]
  unfold iblk
  blk_point [idx t]

theorem lower (w : FVec Ideal S4096x4096 .f32) (e : m ((c : Thread nD τ).loc main_arg3) = w) (t : Fin cfg0.N) (k : Fin 2048) (d : Fin 512) :
    iblk m c 3 t (ix2 k d) = w (ix2 ⟨2048 + k.val, by omega⟩ ⟨t.val % 8 * 512 + d.val, by omega⟩) := by
  subst e
  rw [← V_main_arg3 m c]
  unfold iblk
  blk_point [idx t]

theorem tokens (x : FVec Ideal S8192x4096 .f32) (e : m ((c : Thread nD τ).loc main_arg0) = x) (t : Fin cfg0.N) (r : Fin 1024) (d : Fin 512) :
    iblk m c 4 t (ix2 r d) = x (ix2 ⟨t.val / 8 * 1024 + r.val, by have := lt_N t; omega⟩ ⟨t.val % 8 * 512 + d.val, by omega⟩) := by
  subst e
  rw [← V_main_arg0 m c]
  unfold iblk
  blk_point [idx t]

theorem gate (g : FVec Ideal S8x1x4096 .f32) (e : m ((c : Thread nD τ).loc main_arg4) = g) (t : Fin cfg0.N) (d : Fin 512) :
    iblk m c 5 t (ix3 0 0 d) = g (ix3 ⟨t.val / 16, by have := lt_N t; omega⟩ 0 ⟨t.val % 8 * 512 + d.val, by omega⟩) := by
  subst e
  rw [← V_main_arg4 m c]
  unfold iblk
  blk_point [idx t]

/-- THE ARRAY: the result after the whole grid. -/
theorem final (x : FVec Ideal S8192x4096 .f32) (a b : FVec Ideal S8192x2048 .bf16) (w : FVec Ideal S4096x4096 .f32)
    (g : FVec Ideal S8x1x4096 .f32)
    (e0 : m ((c : Thread nD τ).loc main_arg0) = x) (e1 : m ((c : Thread nD τ).loc main_arg1) = a)
    (e2 : m ((c : Thread nD τ).loc main_arg2) = b) (e3 : m ((c : Thread nD τ).loc main_arg3) = w)
    (e4 : m ((c : Thread nD τ).loc main_arg4) = g) :
    (dats m 0 c).arrAt 6 (cfgs 0).N = Cert.Reference7Ideal.Read.val_main_v12 (F := Ideal) x a b w g := by
  refine (dats m 0 c).arrAt_eq_of_covers 6 _ (by decide +kernel) fun t _ y => ?_
  idx_vars y
  blk_simp
  rw [after0_6]
  frame_out
  have ht := lt_N t
  refine (block _ _ _ _ _ _ y0 y1).trans ?_
  refine Eq.trans ?_ ((reference x a b w g ⟨t.val / 8 * 1024 + y0.val, by omega⟩ ⟨t.val % 8 * 512 + y1.val, by omega⟩).symm.trans ?_)
  · unfold result product
    have eg : (⟨(t.val / 8 * 1024 + y0.val) / 2048, by omega⟩ : Fin 8) = ⟨t.val / 16, by omega⟩ := Fin.ext (by show _ / 2048 = _ / 16; omega)
    rw [tokens m c x e0, gate m c g e4, eg]
    refine congrArg₂ (· + ·) rfl (congrArg₂ (· * ·) rfl
      (congrArg₂ (· + ·) (Finset.sum_congr rfl fun k _ => ?_) (Finset.sum_congr rfl fun k _ => ?_)))
    · rw [first m c a e1, upper m c w e3]
    · rw [second m c b e2, lower m c w e3]
  · blk_ext [idx t]

end Cert.OddOut

end
-- ==== Proof.MoeUpReference.lean ====
/- The experts' up call: the reference's array at one place, the eight masked steps read as the one expert that the table names. -/
module

public import proofs.«01_k».proof.Proof.Gen.Reference8Ideal.Read
public import Idealize.ShloMosaic.Lib.Pipeline.ValueKit

@[expose] public section

set_option maxRecDepth 16384

noncomputable section

namespace Cert.MoeUp

open Idealize.ShloMosaic Idealize.ShloMosaic.TcCoe Idealize.SL.Sem
open Cert.Reference8Ideal Cert.Reference8Ideal.Read

/-- `a · (1 / (1 + exp (-a))) · b`: the gate `a` through the sigmoid-weighted unit, times `b`. -/
def gated (a b : EReal) : EReal :=
  a * Ideal.div 1 (1 + Ideal.exp (-a)) * b

/-- One element of the projection of tile `i` by expert `e`. -/
def pick (h : FVec Ideal S20480x4096 .bf16) (w : FVec Ideal S8x4096x2048 .f32) (e : Fin 8) (i : Fin 40) (r : Fin 512) (d : Fin 2048) : EReal :=
  ∑ k : Fin 4096, (h (ix2 ⟨i.val * 512 + r.val, by omega⟩ k) : EReal) * w (ix3 e k d)

variable (h : FVec Ideal S20480x4096 .bf16) (te : IVec S40 32) (na : IVec S1 32) (w v : FVec Ideal S8x4096x2048 .f32)
  (i : Fin 40) (r : Fin 512) (d : Fin 2048)

theorem product0 : val_main_v17 (F := Ideal) h w v (ix3 i r d) = gated (pick h w 0 i r d) (pick h v 0 i r d) := by
  have e1 : val_main_v12 (F := Ideal) h w (ix3 i r d) = pick h w 0 i r d := by
    pointwise [val_main_v12, val_main_v1, val_main_v0, val_main_v11, val_main_v10, pick]
  have e3 : val_main_v16 (F := Ideal) h v (ix3 i r d) = pick h v 0 i r d := by
    pointwise [val_main_v16, val_main_v1, val_main_v0, val_main_v15, val_main_v14, pick]
  rw [← e1, ← e3]
  unfold val_main_v17 val_main_v13 val_main_call0_v5 val_main_call0_v3 val_main_call0_v1 val_main_call0_v0
  generalize val_main_v12 (F := Ideal) h w = a
  generalize val_main_v16 (F := Ideal) h v = b
  pointwise [val_main_call0_v4, val_main_call0_cst_0, val_main_call0_v2, val_main_call0_cst, gated]

theorem product1 : val_main_v30 (F := Ideal) h w v (ix3 i r d) = gated (pick h w 1 i r d) (pick h v 1 i r d) := by
  have e1 : val_main_v25 (F := Ideal) h w (ix3 i r d) = pick h w 1 i r d := by
    pointwise [val_main_v25, val_main_v1, val_main_v0, val_main_v24, val_main_v23, pick]
  have e3 : val_main_v29 (F := Ideal) h v (ix3 i r d) = pick h v 1 i r d := by
    pointwise [val_main_v29, val_main_v1, val_main_v0, val_main_v28, val_main_v27, pick]
  rw [← e1, ← e3]
  unfold val_main_v30 val_main_v26 val_main_call2_v5 val_main_call2_v3 val_main_call2_v1 val_main_call2_v0
  generalize val_main_v25 (F := Ideal) h w = a
  generalize val_main_v29 (F := Ideal) h v = b
  pointwise [val_main_call2_v4, val_main_call2_cst_0, val_main_call2_v2, val_main_call2_cst, gated]

theorem product2 : val_main_v43 (F := Ideal) h w v (ix3 i r d) = gated (pick h w 2 i r d) (pick h v 2 i r d) := by
  have e1 : val_main_v38 (F := Ideal) h w (ix3 i r d) = pick h w 2 i r d := by
    pointwise [val_main_v38, val_main_v1, val_main_v0, val_main_v37, val_main_v36, pick]
  have e3 : val_main_v42 (F := Ideal) h v (ix3 i r d) = pick h v 2 i r d := by
    pointwise [val_main_v42, val_main_v1, val_main_v0, val_main_v41, val_main_v40, pick]
  rw [← e1, ← e3]
  unfold val_main_v43 val_main_v39 val_main_call4_v5 val_main_call4_v3 val_main_call4_v1 val_main_call4_v0
  generalize val_main_v38 (F := Ideal) h w = a
  generalize val_main_v42 (F := Ideal) h v = b
  pointwise [val_main_call4_v4, val_main_call4_cst_0, val_main_call4_v2, val_main_call4_cst, gated]

theorem product3 : val_main_v56 (F := Ideal) h w v (ix3 i r d) = gated (pick h w 3 i r d) (pick h v 3 i r d) := by
  have e1 : val_main_v51 (F := Ideal) h w (ix3 i r d) = pick h w 3 i r d := by
    pointwise [val_main_v51, val_main_v1, val_main_v0, val_main_v50, val_main_v49, pick]
  have e3 : val_main_v55 (F := Ideal) h v (ix3 i r d) = pick h v 3 i r d := by
    pointwise [val_main_v55, val_main_v1, val_main_v0, val_main_v54, val_main_v53, pick]
  rw [← e1, ← e3]
  unfold val_main_v56 val_main_v52 val_main_call6_v5 val_main_call6_v3 val_main_call6_v1 val_main_call6_v0
  generalize val_main_v51 (F := Ideal) h w = a
  generalize val_main_v55 (F := Ideal) h v = b
  pointwise [val_main_call6_v4, val_main_call6_cst_0, val_main_call6_v2, val_main_call6_cst, gated]

theorem product4 : val_main_v69 (F := Ideal) h w v (ix3 i r d) = gated (pick h w 4 i r d) (pick h v 4 i r d) := by
  have e1 : val_main_v64 (F := Ideal) h w (ix3 i r d) = pick h w 4 i r d := by
    pointwise [val_main_v64, val_main_v1, val_main_v0, val_main_v63, val_main_v62, pick]
  have e3 : val_main_v68 (F := Ideal) h v (ix3 i r d) = pick h v 4 i r d := by
    pointwise [val_main_v68, val_main_v1, val_main_v0, val_main_v67, val_main_v66, pick]
  rw [← e1, ← e3]
  unfold val_main_v69 val_main_v65 val_main_call8_v5 val_main_call8_v3 val_main_call8_v1 val_main_call8_v0
  generalize val_main_v64 (F := Ideal) h w = a
  generalize val_main_v68 (F := Ideal) h v = b
  pointwise [val_main_call8_v4, val_main_call8_cst_0, val_main_call8_v2, val_main_call8_cst, gated]

theorem product5 : val_main_v82 (F := Ideal) h w v (ix3 i r d) = gated (pick h w 5 i r d) (pick h v 5 i r d) := by
  have e1 : val_main_v77 (F := Ideal) h w (ix3 i r d) = pick h w 5 i r d := by
    pointwise [val_main_v77, val_main_v1, val_main_v0, val_main_v76, val_main_v75, pick]
  have e3 : val_main_v81 (F := Ideal) h v (ix3 i r d) = pick h v 5 i r d := by
    pointwise [val_main_v81, val_main_v1, val_main_v0, val_main_v80, val_main_v79, pick]
  rw [← e1, ← e3]
  unfold val_main_v82 val_main_v78 val_main_call10_v5 val_main_call10_v3 val_main_call10_v1 val_main_call10_v0
  generalize val_main_v77 (F := Ideal) h w = a
  generalize val_main_v81 (F := Ideal) h v = b
  pointwise [val_main_call10_v4, val_main_call10_cst_0, val_main_call10_v2, val_main_call10_cst, gated]

theorem product6 : val_main_v95 (F := Ideal) h w v (ix3 i r d) = gated (pick h w 6 i r d) (pick h v 6 i r d) := by
  have e1 : val_main_v90 (F := Ideal) h w (ix3 i r d) = pick h w 6 i r d := by
    pointwise [val_main_v90, val_main_v1, val_main_v0, val_main_v89, val_main_v88, pick]
  have e3 : val_main_v94 (F := Ideal) h v (ix3 i r d) = pick h v 6 i r d := by
    pointwise [val_main_v94, val_main_v1, val_main_v0, val_main_v93, val_main_v92, pick]
  rw [← e1, ← e3]
  unfold val_main_v95 val_main_v91 val_main_call12_v5 val_main_call12_v3 val_main_call12_v1 val_main_call12_v0
  generalize val_main_v90 (F := Ideal) h w = a
  generalize val_main_v94 (F := Ideal) h v = b
  pointwise [val_main_call12_v4, val_main_call12_cst_0, val_main_call12_v2, val_main_call12_cst, gated]

theorem product7 : val_main_v108 (F := Ideal) h w v (ix3 i r d) = gated (pick h w 7 i r d) (pick h v 7 i r d) := by
  have e1 : val_main_v103 (F := Ideal) h w (ix3 i r d) = pick h w 7 i r d := by
    pointwise [val_main_v103, val_main_v1, val_main_v0, val_main_v102, val_main_v101, pick]
  have e3 : val_main_v107 (F := Ideal) h v (ix3 i r d) = pick h v 7 i r d := by
    pointwise [val_main_v107, val_main_v1, val_main_v0, val_main_v106, val_main_v105, pick]
  rw [← e1, ← e3]
  unfold val_main_v108 val_main_v104 val_main_call14_v5 val_main_call14_v3 val_main_call14_v1 val_main_call14_v0
  generalize val_main_v103 (F := Ideal) h w = a
  generalize val_main_v107 (F := Ideal) h v = b
  pointwise [val_main_call14_v4, val_main_call14_cst_0, val_main_call14_v2, val_main_call14_cst, gated]

/-- Whether tile `i` is used: the first `na` are. -/
def used : BitVec 1 := IntOp.cmpi .slt (BitVec.ofNat 32 i.val) (na (ix1 0))

theorem step0 : val_main_v18 (F := Ideal) h te na w v (ix3 i r d)
    = if IntOp.andi (used na i) (IntOp.cmpi .eq (te (ix1 i)) 0#32) = 1#1 then gated (pick h w 0 i r d) (pick h v 0 i r d)
      else (val_main_v5 (F := Ideal) (ix3 i r d) : EReal) := by
  rw [← product0]
  generalize e : val_main_v17 (F := Ideal) h w v = a
  pointwise [val_main_v18, e, val_main_call1_v0, val_main_v9, val_main_v8, val_main_v4, val_main_v3, val_main_v2, val_main_v7, val_main_v6, val_main_c, used]
  rfl

theorem step1 : val_main_v31 (F := Ideal) h te na w v (ix3 i r d)
    = if IntOp.andi (used na i) (IntOp.cmpi .eq (te (ix1 i)) 1#32) = 1#1 then gated (pick h w 1 i r d) (pick h v 1 i r d)
      else (val_main_v18 (F := Ideal) h te na w v (ix3 i r d) : EReal) := by
  rw [← product1]
  generalize e : val_main_v30 (F := Ideal) h w v = a
  generalize e' : val_main_v18 (F := Ideal) h te na w v = b
  pointwise [val_main_v31, e, e', val_main_call3_v0, val_main_v22, val_main_v21, val_main_v4, val_main_v3, val_main_v2, val_main_v20, val_main_v19, val_main_c_0, used]
  rfl

theorem step2 : val_main_v44 (F := Ideal) h te na w v (ix3 i r d)
    = if IntOp.andi (used na i) (IntOp.cmpi .eq (te (ix1 i)) 2#32) = 1#1 then gated (pick h w 2 i r d) (pick h v 2 i r d)
      else (val_main_v31 (F := Ideal) h te na w v (ix3 i r d) : EReal) := by
  rw [← product2]
  generalize e : val_main_v43 (F := Ideal) h w v = a
  generalize e' : val_main_v31 (F := Ideal) h te na w v = b
  pointwise [val_main_v44, e, e', val_main_call5_v0, val_main_v35, val_main_v34, val_main_v4, val_main_v3, val_main_v2, val_main_v33, val_main_v32, val_main_c_1, used]
  rfl

theorem step3 : val_main_v57 (F := Ideal) h te na w v (ix3 i r d)
    = if IntOp.andi (used na i) (IntOp.cmpi .eq (te (ix1 i)) 3#32) = 1#1 then gated (pick h w 3 i r d) (pick h v 3 i r d)
      else (val_main_v44 (F := Ideal) h te na w v (ix3 i r d) : EReal) := by
  rw [← product3]
  generalize e : val_main_v56 (F := Ideal) h w v = a
  generalize e' : val_main_v44 (F := Ideal) h te na w v = b
  pointwise [val_main_v57, e, e', val_main_call7_v0, val_main_v48, val_main_v47, val_main_v4, val_main_v3, val_main_v2, val_main_v46, val_main_v45, val_main_c_2, used]
  rfl

theorem step4 : val_main_v70 (F := Ideal) h te na w v (ix3 i r d)
    = if IntOp.andi (used na i) (IntOp.cmpi .eq (te (ix1 i)) 4#32) = 1#1 then gated (pick h w 4 i r d) (pick h v 4 i r d)
      else (val_main_v57 (F := Ideal) h te na w v (ix3 i r d) : EReal) := by
  rw [← product4]
  generalize e : val_main_v69 (F := Ideal) h w v = a
  generalize e' : val_main_v57 (F := Ideal) h te na w v = b
  pointwise [val_main_v70, e, e', val_main_call9_v0, val_main_v61, val_main_v60, val_main_v4, val_main_v3, val_main_v2, val_main_v59, val_main_v58, val_main_c_3, used]
  rfl

theorem step5 : val_main_v83 (F := Ideal) h te na w v (ix3 i r d)
    = if IntOp.andi (used na i) (IntOp.cmpi .eq (te (ix1 i)) 5#32) = 1#1 then gated (pick h w 5 i r d) (pick h v 5 i r d)
      else (val_main_v70 (F := Ideal) h te na w v (ix3 i r d) : EReal) := by
  rw [← product5]
  generalize e : val_main_v82 (F := Ideal) h w v = a
  generalize e' : val_main_v70 (F := Ideal) h te na w v = b
  pointwise [val_main_v83, e, e', val_main_call11_v0, val_main_v74, val_main_v73, val_main_v4, val_main_v3, val_main_v2, val_main_v72, val_main_v71, val_main_c_4, used]
  rfl

theorem step6 : val_main_v96 (F := Ideal) h te na w v (ix3 i r d)
    = if IntOp.andi (used na i) (IntOp.cmpi .eq (te (ix1 i)) 6#32) = 1#1 then gated (pick h w 6 i r d) (pick h v 6 i r d)
      else (val_main_v83 (F := Ideal) h te na w v (ix3 i r d) : EReal) := by
  rw [← product6]
  generalize e : val_main_v95 (F := Ideal) h w v = a
  generalize e' : val_main_v83 (F := Ideal) h te na w v = b
  pointwise [val_main_v96, e, e', val_main_call13_v0, val_main_v87, val_main_v86, val_main_v4, val_main_v3, val_main_v2, val_main_v85, val_main_v84, val_main_c_5, used]
  rfl

theorem step7 : val_main_v109 (F := Ideal) h te na w v (ix3 i r d)
    = if IntOp.andi (used na i) (IntOp.cmpi .eq (te (ix1 i)) 7#32) = 1#1 then gated (pick h w 7 i r d) (pick h v 7 i r d)
      else (val_main_v96 (F := Ideal) h te na w v (ix3 i r d) : EReal) := by
  rw [← product7]
  generalize e : val_main_v108 (F := Ideal) h w v = a
  generalize e' : val_main_v96 (F := Ideal) h te na w v = b
  pointwise [val_main_v109, e, e', val_main_call15_v0, val_main_v100, val_main_v99, val_main_v4, val_main_v3, val_main_v2, val_main_v98, val_main_v97, val_main_c_6, used]
  rfl

/-- Eight masked steps, the last first, are the one step that the table names. -/
theorem chain (u : BitVec 1) (x : BitVec 32) (small : x.toNat < 8) (G : Fin 8 → EReal) (z : EReal) :
    (if IntOp.andi u (IntOp.cmpi .eq x 7#32) = 1#1 then G 7
      else if IntOp.andi u (IntOp.cmpi .eq x 6#32) = 1#1 then G 6
      else if IntOp.andi u (IntOp.cmpi .eq x 5#32) = 1#1 then G 5
      else if IntOp.andi u (IntOp.cmpi .eq x 4#32) = 1#1 then G 4
      else if IntOp.andi u (IntOp.cmpi .eq x 3#32) = 1#1 then G 3
      else if IntOp.andi u (IntOp.cmpi .eq x 2#32) = 1#1 then G 2
      else if IntOp.andi u (IntOp.cmpi .eq x 1#32) = 1#1 then G 1
      else if IntOp.andi u (IntOp.cmpi .eq x 0#32) = 1#1 then G 0 else z)
      = if u = 1#1 then G ⟨x.toNat, small⟩ else z := by
  obtain ⟨n, rfl⟩ : ∃ n : Fin 8, x = BitVec.ofNat 32 n.val := ⟨⟨x.toNat, small⟩, BitVec.eq_of_toNat_eq (by simp)⟩
  have hu : ∀ u : BitVec 1, u = 0#1 ∨ u = 1#1 := by decide
  rcases hu u with rfl | rfl <;> fin_cases n <;> rfl

/-- THE REFERENCE at one place: the gated product of the tile's own expert in a used tile, zero in the others. -/
theorem reference (small : (te (ix1 i)).toNat < 8) :
    val_main_v111 (F := Ideal) h te na w v (ix2 ⟨i.val * 512 + r.val, by omega⟩ d)
      = if used na i = 1#1 then gated (pick h w ⟨(te (ix1 i)).toNat, small⟩ i r d) (pick h v ⟨(te (ix1 i)).toNat, small⟩ i r d) else 0 := by
  have e : val_main_v111 (F := Ideal) h te na w v (ix2 ⟨i.val * 512 + r.val, by omega⟩ d)
      = (val_main_v109 (F := Ideal) h te na w v (ix3 i r d) : EReal) := by
    unfold val_main_v111 val_main_v110
    generalize val_main_v109 (F := Ideal) h te na w v = a
    pointwise []
  have z : (val_main_v5 (F := Ideal) (ix3 i r d) : EReal) = 0 := by
    pointwise [val_main_v5, val_main_cst]
  rw [e, step7, step6, step5, step4, step3, step2, step1, step0, z]
  exact chain _ _ small (fun e => gated (pick h w e i r d) (pick h v e i r d)) 0

end Cert.MoeUp

end
-- ==== Proof.MoeUp.lean ====
/- The experts' up call: the call's array against the reference's gated products, tile by tile, with the expert that the table names. -/
module

public import proofs.«01_k».proof.Proof.Gen.Kernel8Ideal.Frame
public import proofs.«01_k».proof.Proof.MoeUpReference
public import proofs.«01_k».proof.Proof.Gen.Pre_experts_named
public import Idealize.ShloMosaic.Lib.Pipeline.ValueKit
public import Idealize.ShloMosaic.Lib.ReduceAll
public import Idealize.ShloMosaic.Lib.Pipeline.Covers

@[expose] public section

set_option maxRecDepth 16384

noncomputable section

namespace Cert.MoeUp

open Idealize.ShloMosaic Idealize.ShloMosaic.TcCoe Idealize.SL.Sem
open Idealize.ShloMosaic.Pipeline (Dat)
open Cert.Kernel8Ideal Cert.Kernel8Ideal.Gen

theorem block (h : FVec Ideal S512x4096 .bf16) (w v : FVec Ideal S1x4096x512 .f32) (r : Fin 512) (d : Fin 512) :
    k0_pay2 (F := Ideal) h w v (ix2 r d)
      = gated (∑ k : Fin 4096, (h (ix2 r k) : EReal) * w (ix3 0 k d)) (∑ k : Fin 4096, (h (ix2 r k) : EReal) * v (ix3 0 k d)) := by
  pointwise [k0_pay2, gated]
  rw [zero_sub]

theorem blank (r d : Fin 512) : k0_pay1 (F := Ideal) (ix2 r d) = (0 : EReal) := by
  pointwise [k0_pay1]

/-- The experts that the tables name are among the eight. -/
theorem small {F : FTy → Type} [FloatOps F] (x0 : FVec F Pre_experts_named.S20480x4096 .bf16) (x1 : IVec S40 32)
    (x2 : IVec S1 32) (x3 x4 : FVec F Pre_experts_named.S8x4096x2048 .f32)
    (h : Cert.Pre_experts_named.fn (F := F) x0 x1 x2 x3 x4 = fun _ => 1#1) (i : S40.Idx) : (x1 i).toNat < 8 := by
  have j : Pre_experts_named.S_.Idx := fun d => d.elim0
  have : Subsingleton Pre_experts_named.S_.Idx := ⟨fun a b => funext fun d => d.elim0⟩
  have e := Host.reduce_andi_all _ _ _ _ j (congrFun h j) i
  obtain ⟨e1, e2⟩ := IntOp.andi_eq_one.1 e
  simp only [cmpi, broadcastInDim, constantI, IntOp.cmpi] at e1 e2
  generalize x1 i = w at e1 e2 ⊢
  have a : ∀ b : Bool, BitVec.ofBool b = 1#1 → b = true := by decide
  have f1 := a _ e1
  have f2 := a _ e2
  simp only [BitVec.sle, BitVec.slt, decide_eq_true_eq] at f1 f2
  have := w.isLt
  have z : (0#32).toInt = 0 := rfl
  have z8 : (8#32).toInt = 8 := rfl
  rw [z] at f1
  rw [z8] at f2
  rw [BitVec.toInt_eq_toNat_cond] at f1 f2
  split at f1
  · rw [if_pos (by assumption)] at f2
    omega
  · omega

theorem coords : ∀ t : Fin grid0.N, cc0_transform_0 (grid0.coords t) = ![t.val % 40, 0]
    ∧ cc0_transform_3 (grid0.coords t) = ![t.val % 40, t.val / 40] ∧ (grid0.coords t 0).val = t.val / 40
    ∧ (grid0.coords t 1).val = t.val % 40 :=
  (by decide +kernel : ∀ t : Fin grid0.N, _)

theorem lt_N (t : Fin grid0.N) : t.val < 160 := lt_of_lt_of_eq t.isLt (by decide)

/-- The expert that the first table names for tile `i`. -/
abbrev expert (te : IVec S40 32) (i : Fin 40) : ℕ := (te (ix1 i)).toNat

section
variable {F : FTy → Type} [FloatOps F]

theorem off : ∀ t : Fin grid0.N, k0_off1 (grid0.coords t) = ![t.val % 40] :=
  (by decide +kernel : ∀ t : Fin grid0.N, _)

theorem word (te : IVec S40 32) (pf : pre0.Contents (Elt F)) (e : pf 0 = te) (t : Fin grid0.N) :
    (pf.at 0 (Rect.unit (s := S40) (k0_off1 (grid0.coords t)) S1.size (k0_off1_inb (grid0.coords t))) numel1_S1 : BitVec 32)
      = te (ix1 ⟨t.val % 40, Nat.mod_lt _ (by decide)⟩) := by
  subst e
  refine congrArg (pf 0) (funext fun (a : Fin 1) => Fin.ext ?_)
  have ha : a = 0 := Subsingleton.elim _ _
  subst ha
  refine (ValueKit.rect_emb_unit_val (s := S40) _ _ _ _ _).trans ?_
  have : ∀ x : Fin 1, x.val = 0 := fun x => by omega
  exact congrArg₂ (· + ·) (congrFun (off t) 0) (this _)

theorem weights (te : IVec S40 32) (pf : pre0.Contents (Elt F)) (e : pf 0 = te) (t : Fin grid0.N) :
    cc0_transform_1 k0_off1_inb numel1_S1 pf (grid0.coords t) = ![expert te ⟨t.val % 40, Nat.mod_lt _ (by decide)⟩, 0, t.val / 40] := by
  have h := word te pf e t
  have := lt_N t
  have h1 : (BitVec.ofNat 32 (grid0.coords t 0).val).toNat = t.val / 40 := by
    rw [(coords t).2.2.1, BitVec.toNat_ofNat]
    omega
  refine congrArg₂ (fun a b : ℕ => ![a, 0, b]) (congrArg BitVec.toNat h) h1

theorem weights' (te : IVec S40 32) (pf : pre0.Contents (Elt F)) (e : pf 0 = te) (t : Fin grid0.N) :
    cc0_transform_2 k0_off1_inb numel1_S1 pf (grid0.coords t) = ![expert te ⟨t.val % 40, Nat.mod_lt _ (by decide)⟩, 0, t.val / 40] :=
  weights te pf e t

/-- A table of experts below eight names blocks inside the weights. -/
theorem inside (te : IVec S40 32) (pf : pre0.Contents (Elt F)) (e : pf 0 = te) (h : ∀ i, (te i).toNat < 8) : ok0 (F := F) pf := by
  have b : ∀ i : grid0.Coords, ∃ t, grid0.coords t = i := Pipeline.Grid.coords_surjective grid0
  have a : ∀ i : grid0.Coords, ∀ a, (cc0_transform_1 k0_off1_inb numel1_S1 pf i a + 1) * S1x4096x512.size a ≤ S8x4096x2048.size a := by
    intro i a
    obtain ⟨t, rfl⟩ := b i
    rw [weights te pf e t]
    have h0 := h (ix1 ⟨t.val % 40, Nat.mod_lt _ (by decide)⟩)
    have := lt_N t
    fin_cases a
    · show (expert te _ + 1) * 1 ≤ 8
      unfold expert; omega
    · show (0 + 1) * 4096 ≤ 4096
      omega
    · show (t.val / 40 + 1) * 512 ≤ 2048
      omega
  exact ⟨fun i => ⟨a i, .inl rfl⟩, fun i => ⟨a i, .inl rfl⟩⟩

end

variable (m : (ℓ : Loc nD τ sig) → Buf (Elt Ideal) ℓ) (hO : Ok m) (c : Dev nD)

theorem table (te : IVec S40 32) (e : m ((c : Thread nD τ).loc main_arg1) = te) : tbl m 0 = te := by
  obtain rfl : c = 0 := Subsingleton.elim _ _
  exact e

theorem idx (te : IVec S40 32) (e : m ((c : Thread nD τ).loc main_arg1) = te) (t : Fin (cfgM m hO).N) :
    ((cfgM m hO).win 0).index t = ![t.val % 40, 0]
      ∧ ((cfgM m hO).win 1).index t = ![expert te ⟨t.val % 40, Nat.mod_lt _ (by decide)⟩, 0, t.val / 40]
      ∧ ((cfgM m hO).win 2).index t = ![expert te ⟨t.val % 40, Nat.mod_lt _ (by decide)⟩, 0, t.val / 40]
      ∧ ((cfgM m hO).win 3).index t = ![t.val % 40, t.val / 40] :=
  ⟨(coords t).1, weights te _ (table m c te e) t, weights' te _ (table m c te e) t, (coords t).2.1⟩

theorem rows (te : IVec S40 32) (e1 : m ((c : Thread nD τ).loc main_arg1) = te)
    (h : FVec Ideal S20480x4096 .bf16) (e : m ((c : Thread nD τ).loc main_arg0) = h) (t : Fin (cfgM m hO).N) (r : Fin 512) (k : Fin 4096) :
    iblk m hO c 0 t (ix2 r k) = h (ix2 ⟨t.val % 40 * 512 + r.val, by omega⟩ k) := by
  subst e
  blk_point [iblk, V, idx m hO c te e1 t]

theorem gates (te : IVec S40 32) (e1 : m ((c : Thread nD τ).loc main_arg1) = te) (small : ∀ i, (te i).toNat < 8)
    (w : FVec Ideal S8x4096x2048 .f32) (e : m ((c : Thread nD τ).loc main_arg3) = w) (t : Fin (cfgM m hO).N) (k : Fin 4096) (d : Fin 512) :
    iblk m hO c 1 t (ix3 0 k d)
      = w (ix3 ⟨expert te ⟨t.val % 40, Nat.mod_lt _ (by decide)⟩, small _⟩ k ⟨t.val / 40 * 512 + d.val, by have := lt_N t; omega⟩) := by
  subst e
  blk_point [iblk, V, idx m hO c te e1 t]

theorem ups (te : IVec S40 32) (e1 : m ((c : Thread nD τ).loc main_arg1) = te) (small : ∀ i, (te i).toNat < 8)
    (v : FVec Ideal S8x4096x2048 .f32) (e : m ((c : Thread nD τ).loc main_arg4) = v) (t : Fin (cfgM m hO).N) (k : Fin 4096) (d : Fin 512) :
    iblk m hO c 2 t (ix3 0 k d)
      = v (ix3 ⟨expert te ⟨t.val % 40, Nat.mod_lt _ (by decide)⟩, small _⟩ k ⟨t.val / 40 * 512 + d.val, by have := lt_N t; omega⟩) := by
  subst e
  blk_point [iblk, V, idx m hO c te e1 t]

theorem count (na : IVec S1 32) (e : m ((c : Thread nD τ).loc main_arg2) = na) (t : Fin grid0.N) :
    cond0_0 (grid0.coords t) (tbM0_1.view.readAt (Elt Ideal) (Rect.unit (s := S1) ![0] S1.size inb_S1_S1_0).toLoadRect (tbl m 1) (Shape.Idx.first (numel1_S1.symm ▸ Nat.one_pos)))
      ↔ used na ⟨t.val % 40, Nat.mod_lt _ (by decide)⟩ = 1#1 := by
  have hb : ∀ p : BitVec 1, Scalar.cmpi .ne (Scalar.extui p : BitVec 32) 0#32 = 1#1 ↔ p = 1#1 := by decide
  refine (hb _).trans (iff_of_eq (congrArg (· = 1#1) ?_))
  obtain rfl : c = 0 := Subsingleton.elim _ _
  subst e
  refine congrArg₂ (Scalar.cmpi .slt) (congrArg (BitVec.ofNat 32) (coords t).2.2.2) ?_
  refine congrArg (m ((0 : Dev nD).tc.loc main_arg2)) (funext fun (a : Fin 1) => ?_)
  obtain rfl : a = 0 := Subsingleton.elim _ _
  have : ∀ x y : Fin 1, x = y := fun x y => Subsingleton.elim x y
  exact this _ _

theorem covers : ((cfgM m hO).win 3).Covers := by
  refine Pipeline.Window.covers_of_index_surj _ rfl (fun (a : Fin 2) => ?_) fun β => ?_
  · fin_cases a <;> exact (by decide : 0 < 512)
  · have h0 : (β (0 : Fin 2)).val < 40 := lt_of_lt_of_eq (β (0 : Fin 2)).isLt (by decide : (20480 + 512 - 1) / 512 = 40)
    have h1 : (β (1 : Fin 2)).val < 4 := lt_of_lt_of_eq (β (1 : Fin 2)).isLt (by decide : (2048 + 512 - 1) / 512 = 4)
    refine ⟨⟨(β (1 : Fin 2)).val * 40 + (β (0 : Fin 2)).val, lt_of_lt_of_eq (b := 160) (by omega) (by decide : 160 = grid0.N)⟩, fun (a : Fin 2) => ?_⟩
    refine (congrFun (idx m hO 0 _ rfl _).2.2.2 a).trans ?_
    fin_cases a
    · show ((β (1 : Fin 2)).val * 40 + (β (0 : Fin 2)).val) % 40 = (β (0 : Fin 2)).val
      omega
    · show ((β (1 : Fin 2)).val * 40 + (β (0 : Fin 2)).val) / 40 = (β (1 : Fin 2)).val
      omega

/-- What a used tile's point stores. -/
theorem stored (i : grid0.Coords) (a4 : Memref sig .tc .vmem S512x4096 .bf16) (h4 : a4.IsWhole) (a5 : Memref sig .tc .vmem S1x4096x512 .f32)
    (h5 : a5.IsWhole) (a6 : Memref sig .tc .vmem S1x4096x512 .f32) (h6 : a6.IsWhole) (a7 : Memref sig .tc .vmem S512x512 .bf16) (h7 : a7.IsWhole)
    (x : FVec Ideal S512x4096 .bf16) (w v : FVec Ideal S1x4096x512 .f32) (p q) (hc) (r d : Fin 512) :
    out0_A_3 (F := Ideal) c i a4 h4 a5 h5 a6 h6 a7 h7 x w v p q hc (ix2 r d)
      = gated (∑ k : Fin 4096, (x (ix2 r k) : EReal) * w (ix3 0 k d)) (∑ k : Fin 4096, (x (ix2 r k) : EReal) * v (ix3 0 k d)) := by
  frame_out
  exact block _ _ _ r d

/-- THE ARRAY: the result after the whole grid. -/
theorem final (h : FVec Ideal S20480x4096 .bf16) (te : IVec S40 32) (na : IVec S1 32) (w v : FVec Ideal S8x4096x2048 .f32)
    (small : ∀ i, (te i).toNat < 8)
    (e0 : m ((c : Thread nD τ).loc main_arg0) = h) (e1 : m ((c : Thread nD τ).loc main_arg1) = te)
    (e2 : m ((c : Thread nD τ).loc main_arg2) = na) (e3 : m ((c : Thread nD τ).loc main_arg3) = w)
    (e4 : m ((c : Thread nD τ).loc main_arg4) = v) :
    (dats m hO 0 c).arrAt 3 (cfgM m hO).N = Cert.Reference8Ideal.Read.val_main_v111 (F := Ideal) h te na w v := by
  refine (dats m hO 0 c).arrAt_eq_of_covers 3 _ (covers m hO) fun t _ => ?_
  change ∀ y : S512x512.Idx, _
  intro y
  idx_vars y
  blk_simp
  rw [after0_3]
  have ht := lt_N t
  refine Eq.trans ?_ ((reference h te na w v ⟨t.val % 40, Nat.mod_lt _ (by decide)⟩ y0 ⟨t.val / 40 * 512 + y1.val, by omega⟩ (small _)).symm.trans ?_)
  · by_cases hu : used na ⟨t.val % 40, Nat.mod_lt _ (by decide)⟩ = 1#1
    · rw [if_pos hu, outsAt0_A m hO c t ((count m c na e2 t).2 hu)]
      refine (stored c _ _ _ _ _ _ _ _ _ _ _ _ _ _ _ y0 y1).trans ?_
      unfold pick
      refine congrArg₂ gated (Finset.sum_congr rfl fun k _ => ?_) (Finset.sum_congr rfl fun k _ => ?_)
      · rw [rows m hO c te e1 h e0, gates m hO c te e1 small w e3]
      · rw [rows m hO c te e1 h e0, ups m hO c te e1 small v e4]
    · rw [if_neg hu, outsAt0_B m hO c t (fun hc => hu ((count m c na e2 t).1 hc))]
      frame_out
      exact blank y0 y1
  · blk_ext [idx m hO c te e1 t]

end Cert.MoeUp

end
-- ==== Proof.FfnUpContext.lean ====
/- The feed-forward layer's up call for the context's rows, a single block of them: the call's array against the reference's product of
   the gated and the plain projection. -/
module

public import proofs.«01_k».proof.Proof.Gen.Kernel9Ideal.Value
public import proofs.«01_k».proof.Proof.Gen.Reference9Ideal.Read
public import Idealize.ShloMosaic.Lib.Pipeline.ValueKit

@[expose] public section

set_option maxRecDepth 16384

noncomputable section

namespace Cert.FfnUpContext

open Idealize.ShloMosaic Idealize.ShloMosaic.TcCoe Idealize.SL.Sem
open Idealize.ShloMosaic.Pipeline (Dat)
open Cert.Kernel9Ideal Cert.Kernel9Ideal.Gen

/-- `a · (1 / (1 + exp (-a))) · b`: the gate `a` through the sigmoid-weighted unit, times `b`. -/
def gated (a b : EReal) : EReal :=
  a * Ideal.div 1 (1 + Ideal.exp (-a)) * b

/-- One element of a projection of the tokens. -/
def product (h : FVec Ideal S1024x4096 .bf16) (w : FVec Ideal S4096x11008 .f32) (x : Fin 1024) (y : Fin 11008) : EReal :=
  ∑ k : Fin 4096, (h (ix2 x k) : EReal) * w (ix2 k y)

theorem reference (h : FVec Ideal S1024x4096 .bf16) (w v : FVec Ideal S4096x11008 .f32) (x : Fin 1024) (y : Fin 11008) :
    Cert.Reference9Ideal.Read.val_main_v5 (F := Ideal) h w v (ix2 x y) = gated (product h w x y) (product h v x y) := by
  have e1 : Cert.Reference9Ideal.Read.val_main_v1 (F := Ideal) h w (ix2 x y) = product h w x y := by
    pointwise [Cert.Reference9Ideal.Read.val_main_v1, Cert.Reference9Ideal.Read.val_main_v0, product]
  have e3 : Cert.Reference9Ideal.Read.val_main_v3 (F := Ideal) h v (ix2 x y) = product h v x y := by
    pointwise [Cert.Reference9Ideal.Read.val_main_v3, Cert.Reference9Ideal.Read.val_main_v0, product]
  rw [← e1, ← e3]
  unfold Cert.Reference9Ideal.Read.val_main_v5 Cert.Reference9Ideal.Read.val_main_v4 Cert.Reference9Ideal.Read.val_main_v2
    Cert.Reference9Ideal.Read.val_main_call0_v5 Cert.Reference9Ideal.Read.val_main_call0_v3 Cert.Reference9Ideal.Read.val_main_call0_v1
    Cert.Reference9Ideal.Read.val_main_call0_v0
  generalize Cert.Reference9Ideal.Read.val_main_v1 (F := Ideal) h w = a
  generalize Cert.Reference9Ideal.Read.val_main_v3 (F := Ideal) h v = b
  pointwise [Cert.Reference9Ideal.Read.val_main_call0_v4, Cert.Reference9Ideal.Read.val_main_call0_cst_0,
    Cert.Reference9Ideal.Read.val_main_call0_v2, Cert.Reference9Ideal.Read.val_main_call0_cst, gated]

theorem block (h : FVec Ideal S1024x4096 .bf16) (w v : FVec Ideal S4096x256 .f32) (r : Fin 1024) (d : Fin 256) :
    k0_pay1 (F := Ideal) h w v (ix2 r d)
      = gated (∑ k : Fin 4096, (h (ix2 r k) : EReal) * w (ix2 k d)) (∑ k : Fin 4096, (h (ix2 r k) : EReal) * v (ix2 k d)) := by
  pointwise [k0_pay1, gated]
  rw [zero_sub]

theorem idx : ∀ t : Fin cfg0.N, win0_0.index t = ![t.val / 43, 0] ∧ win0_1.index t = ![0, t.val % 43]
    ∧ win0_2.index t = ![0, t.val % 43] ∧ win0_3.index t = ![t.val / 43, t.val % 43] :=
  (by decide +kernel : ∀ t : Fin grid0.N, _)

variable (m : (ℓ : Loc nD τ sig) → Buf (Elt Ideal) ℓ) (c : Dev nD)

theorem lt_N (t : Fin cfg0.N) : t.val < 43 := lt_of_lt_of_eq t.isLt (by decide)

theorem rows (h : FVec Ideal S1024x4096 .bf16) (e : m ((c : Thread nD τ).loc main_arg0) = h) (t : Fin cfg0.N) (r : Fin 1024) (k : Fin 4096) :
    iblk m c 0 t (ix2 r k) = h (ix2 ⟨t.val / 43 * 1024 + r.val, by have := lt_N t; omega⟩ k) := by
  subst e
  blk_point [iblk, V, idx t]

theorem gates (w : FVec Ideal S4096x11008 .f32) (e : m ((c : Thread nD τ).loc main_arg1) = w) (t : Fin cfg0.N) (k : Fin 4096) (d : Fin 256) :
    iblk m c 1 t (ix2 k d) = w (ix2 k ⟨t.val % 43 * 256 + d.val, by omega⟩) := by
  subst e
  blk_point [iblk, V, idx t]

theorem ups (w : FVec Ideal S4096x11008 .f32) (e : m ((c : Thread nD τ).loc main_arg2) = w) (t : Fin cfg0.N) (k : Fin 4096) (d : Fin 256) :
    iblk m c 2 t (ix2 k d) = w (ix2 k ⟨t.val % 43 * 256 + d.val, by omega⟩) := by
  subst e
  blk_point [iblk, V, idx t]

/-- THE ARRAY: the result after the whole grid. -/
theorem final (h : FVec Ideal S1024x4096 .bf16) (w v : FVec Ideal S4096x11008 .f32)
    (e0 : m ((c : Thread nD τ).loc main_arg0) = h) (e1 : m ((c : Thread nD τ).loc main_arg1) = w)
    (e2 : m ((c : Thread nD τ).loc main_arg2) = v) :
    (dats m 0 c).arrAt 3 (cfgs 0).N = Cert.Reference9Ideal.Read.val_main_v5 (F := Ideal) h w v := by
  refine (dats m 0 c).arrAt_eq_of_covers 3 _ (by decide +kernel) fun t _ y => ?_
  idx_vars y
  blk_simp
  rw [after0_3]
  frame_out
  have ht := lt_N t
  refine (block _ _ _ y0 y1).trans ?_
  refine Eq.trans ?_ ((reference h w v ⟨t.val / 43 * 1024 + y0.val, by omega⟩ ⟨t.val % 43 * 256 + y1.val, by omega⟩).symm.trans ?_)
  · unfold product
    refine congrArg₂ gated (Finset.sum_congr rfl fun k _ => ?_) (Finset.sum_congr rfl fun k _ => ?_)
    · rw [rows m c h e0, gates m c w e1]
    · rw [rows m c h e0, ups m c v e2]
  · blk_ext [idx t]

end Cert.FfnUpContext

end
-- ==== Proof.FfnDownContext.lean ====
/- The feed-forward layer's down call for the context's rows: the call's array against the reference's gated product added to the
   tokens. All of these rows have one gate. -/
module

public import proofs.«01_k».proof.Proof.Gen.Kernel10Ideal.Value
public import proofs.«01_k».proof.Proof.Gen.Reference10Ideal.Read
public import Idealize.ShloMosaic.Lib.Pipeline.ValueKit

@[expose] public section

set_option maxRecDepth 16384

noncomputable section

namespace Cert.FfnDownContext

open Idealize.ShloMosaic Idealize.ShloMosaic.TcCoe Idealize.SL.Sem
open Idealize.ShloMosaic.Pipeline (Dat)
open Cert.Kernel10Ideal Cert.Kernel10Ideal.Gen

/-- One element of the result: the token plus the context's gate times the product. -/
def result (x : FVec Ideal S1024x4096 .f32) (u : FVec Ideal S1024x11008 .bf16) (w : FVec Ideal S11008x4096 .f32)
    (g : FVec Ideal S8x1x4096 .f32) (i : Fin 1024) (j : Fin 4096) : EReal :=
  (x (ix2 i j) : EReal) + (g (ix3 4 0 j) : EReal) * ∑ k : Fin 11008, (u (ix2 i k) : EReal) * w (ix2 k j)

theorem reference (x : FVec Ideal S1024x4096 .f32) (u : FVec Ideal S1024x11008 .bf16) (w : FVec Ideal S11008x4096 .f32)
    (g : FVec Ideal S8x1x4096 .f32) (i : Fin 1024) (j : Fin 4096) :
    Cert.Reference10Ideal.Read.val_main_v10 (F := Ideal) x u w g (ix2 i j) = result x u w g i j := by
  have e1 : Cert.Reference10Ideal.Read.val_main_v3 (F := Ideal) u w (ix2 i j) = ∑ k : Fin 11008, (u (ix2 i k) : EReal) * w (ix2 k j) := by
    pointwise [Cert.Reference10Ideal.Read.val_main_v3, Cert.Reference10Ideal.Read.val_main_v2]
  unfold result
  rw [← e1]
  unfold Cert.Reference10Ideal.Read.val_main_v10 Cert.Reference10Ideal.Read.val_main_v9 Cert.Reference10Ideal.Read.val_main_v8
    Cert.Reference10Ideal.Read.val_main_v7 Cert.Reference10Ideal.Read.val_main_v6 Cert.Reference10Ideal.Read.val_main_v5
    Cert.Reference10Ideal.Read.val_main_v4 Cert.Reference10Ideal.Read.val_main_v1 Cert.Reference10Ideal.Read.val_main_v0
  generalize Cert.Reference10Ideal.Read.val_main_v3 (F := Ideal) u w = a
  pointwise

theorem block (u : FVec Ideal S512x11008 .bf16) (w : FVec Ideal S11008x512 .bf16) (x : FVec Ideal S512x512 .f32)
    (g : FVec Ideal S1x1x512 .f32) (r d : Fin 512) :
    k0_pay1 (F := Ideal) u w x g (ix2 r d)
      = (x (ix2 r d) : EReal) + (g (ix3 0 0 d) : EReal) * ∑ k : Fin 11008, (u (ix2 r k) : EReal) * w (ix2 k d) := by
  pointwise [k0_pay1]

theorem idx : ∀ t : Fin cfg0.N, win0_0.index t = ![t.val / 8, 0] ∧ win0_1.index t = ![0, t.val % 8]
    ∧ win0_2.index t = ![t.val / 8, t.val % 8] ∧ win0_3.index t = ![4, 0, t.val % 8]
    ∧ win0_4.index t = ![t.val / 8, t.val % 8] :=
  (by decide +kernel : ∀ t : Fin grid0.N, _)

variable (m : (ℓ : Loc nD τ sig) → Buf (Elt Ideal) ℓ) (c : Dev nD)

theorem lt_N (t : Fin cfg0.N) : t.val < 16 := lt_of_lt_of_eq t.isLt (by decide)

/-- The weights as the call finds them: the argument, cast. -/
theorem weights_eq : V m c main_v0 = (truncf .bf16 (m ((c : Thread nD τ).loc main_arg2) : FVec Ideal S11008x4096 .f32) bitsLt_bf16_f32 : FVec Ideal S11008x4096 .bf16) := by
  rfl

theorem rows (u : FVec Ideal S1024x11008 .bf16) (e : m ((c : Thread nD τ).loc main_arg1) = u) (t : Fin cfg0.N) (r : Fin 512) (k : Fin 11008) :
    iblk m c 0 t (ix2 r k) = u (ix2 ⟨t.val / 8 * 512 + r.val, by have := lt_N t; omega⟩ k) := by
  subst e
  rw [← V_main_arg1 m c]
  unfold iblk
  blk_point [idx t]

theorem tokens (x : FVec Ideal S1024x4096 .f32) (e : m ((c : Thread nD τ).loc main_arg0) = x) (t : Fin cfg0.N) (r d : Fin 512) :
    iblk m c 2 t (ix2 r d) = x (ix2 ⟨t.val / 8 * 512 + r.val, by have := lt_N t; omega⟩ ⟨t.val % 8 * 512 + d.val, by omega⟩) := by
  subst e
  rw [← V_main_arg0 m c]
  unfold iblk
  blk_point [idx t]

theorem gate (g : FVec Ideal S8x1x4096 .f32) (e : m ((c : Thread nD τ).loc main_arg3) = g) (t : Fin cfg0.N) (d : Fin 512) :
    iblk m c 3 t (ix3 0 0 d) = g (ix3 4 0 ⟨t.val % 8 * 512 + d.val, by omega⟩) := by
  subst e
  rw [← V_main_arg3 m c]
  unfold iblk
  blk_point [idx t]

theorem weights (w : FVec Ideal S11008x4096 .f32) (e : m ((c : Thread nD τ).loc main_arg2) = w) (t : Fin cfg0.N) (k : Fin 11008) (d : Fin 512) :
    iblk m c 1 t (ix2 k d) = w (ix2 k ⟨t.val % 8 * 512 + d.val, by omega⟩) := by
  subst e
  refine Eq.trans ?_ (congrFun (weights_eq m c) _)
  unfold iblk
  blk_point [idx t]

/-- THE ARRAY: the result after the whole grid. -/
theorem final (x : FVec Ideal S1024x4096 .f32) (u : FVec Ideal S1024x11008 .bf16) (w : FVec Ideal S11008x4096 .f32)
    (g : FVec Ideal S8x1x4096 .f32)
    (e0 : m ((c : Thread nD τ).loc main_arg0) = x) (e1 : m ((c : Thread nD τ).loc main_arg1) = u)
    (e2 : m ((c : Thread nD τ).loc main_arg2) = w) (e3 : m ((c : Thread nD τ).loc main_arg3) = g) :
    (dats m 0 c).arrAt 4 (cfgs 0).N = Cert.Reference10Ideal.Read.val_main_v10 (F := Ideal) x u w g := by
  refine (dats m 0 c).arrAt_eq_of_covers 4 _ (by decide +kernel) fun t _ y => ?_
  idx_vars y
  blk_simp
  rw [after0_4]
  frame_out
  have ht := lt_N t
  refine (block _ _ _ _ y0 y1).trans ?_
  refine Eq.trans ?_ ((reference x u w g ⟨t.val / 8 * 512 + y0.val, by omega⟩ ⟨t.val % 8 * 512 + y1.val, by omega⟩).symm.trans ?_)
  · unfold result
    rw [tokens m c x e0, gate m c g e3]
    refine congrArg₂ (· + ·) rfl (congrArg₂ (· * ·) rfl (Finset.sum_congr rfl fun k _ => ?_))
    rw [rows m c u e1, weights m c w e2]
  · blk_ext [idx t]

end Cert.FfnDownContext

end
-- ==== Proof.EvenInContext.lean ====
/- The even layer's projection of the context's rows, a single block of them: the call's array against the reference's product. -/
module

public import proofs.«01_k».proof.Proof.Gen.Kernel11Ideal.Value
public import proofs.«01_k».proof.Proof.Gen.Reference11Ideal.Read
public import Idealize.ShloMosaic.Lib.Pipeline.ValueKit

@[expose] public section

set_option maxRecDepth 16384

noncomputable section

namespace Cert.EvenInContext

open Idealize.ShloMosaic Idealize.ShloMosaic.TcCoe Idealize.SL.Sem
open Idealize.ShloMosaic.Pipeline (Dat)
open Cert.Kernel11Ideal Cert.Kernel11Ideal.Gen

/-- One element of the product. -/
def product (h : FVec Ideal S1024x4096 .bf16) (w : FVec Ideal S4096x8192 .f32) (x : Fin 1024) (y : Fin 8192) : EReal :=
  ∑ k : Fin 4096, (h (ix2 x k) : EReal) * w (ix2 k y)

theorem reference (h : FVec Ideal S1024x4096 .bf16) (w : FVec Ideal S4096x8192 .f32) (x : Fin 1024) (y : Fin 8192) :
    Cert.Reference11Ideal.Read.val_main_v2 (F := Ideal) h w (ix2 x y) = product h w x y := by
  pointwise [Cert.Reference11Ideal.Read.val_main_v2, Cert.Reference11Ideal.Read.val_main_v1, Cert.Reference11Ideal.Read.val_main_v0, product]

theorem block (h : FVec Ideal S1024x4096 .bf16) (w : FVec Ideal S4096x512 .f32) (r : Fin 1024) (d : Fin 512) :
    k0_pay1 (F := Ideal) h w (ix2 r d) = ∑ k : Fin 4096, (h (ix2 r k) : EReal) * w (ix2 k d) := by
  pointwise [k0_pay1]

theorem idx : ∀ t : Fin cfg0.N, win0_0.index t = ![t.val / 16, 0] ∧ win0_1.index t = ![0, t.val % 16]
    ∧ win0_2.index t = ![t.val / 16, t.val % 16] :=
  (by decide +kernel : ∀ t : Fin grid0.N, _)

variable (m : (ℓ : Loc nD τ sig) → Buf (Elt Ideal) ℓ) (c : Dev nD)

theorem lt_N (t : Fin cfg0.N) : t.val < 16 := lt_of_lt_of_eq t.isLt (by decide)

theorem rows (h : FVec Ideal S1024x4096 .bf16) (e : m ((c : Thread nD τ).loc main_arg0) = h) (t : Fin cfg0.N) (r : Fin 1024) (k : Fin 4096) :
    iblk m c 0 t (ix2 r k) = h (ix2 ⟨t.val / 16 * 1024 + r.val, by have := lt_N t; omega⟩ k) := by
  subst e
  blk_point [iblk, V, idx t]

theorem columns (w : FVec Ideal S4096x8192 .f32) (e : m ((c : Thread nD τ).loc main_arg1) = w) (t : Fin cfg0.N) (k : Fin 4096) (d : Fin 512) :
    iblk m c 1 t (ix2 k d) = w (ix2 k ⟨t.val % 16 * 512 + d.val, by omega⟩) := by
  subst e
  blk_point [iblk, V, idx t]

/-- THE ARRAY: the result after the whole grid. -/
theorem final (h : FVec Ideal S1024x4096 .bf16) (w : FVec Ideal S4096x8192 .f32)
    (e0 : m ((c : Thread nD τ).loc main_arg0) = h) (e1 : m ((c : Thread nD τ).loc main_arg1) = w) :
    (dats m 0 c).arrAt 2 (cfgs 0).N = Cert.Reference11Ideal.Read.val_main_v2 (F := Ideal) h w := by
  refine (dats m 0 c).arrAt_eq_of_covers 2 _ (by decide +kernel) fun t _ y => ?_
  idx_vars y
  blk_simp
  rw [after0_2]
  frame_out
  have ht := lt_N t
  refine (block _ _ y0 y1).trans ?_
  refine Eq.trans ?_ ((reference h w ⟨t.val / 16 * 1024 + y0.val, by omega⟩ ⟨t.val % 16 * 512 + y1.val, by omega⟩).symm.trans ?_)
  · unfold product
    refine Finset.sum_congr rfl fun k _ => ?_
    rw [rows m c h e0, columns m c w e1]
  · blk_ext [idx t]

end Cert.EvenInContext

end
-- ==== Proof.OddInContext.lean ====
/- The odd layer's projection of the context's rows, a single block of them: the call's array against the reference's product. -/
module

public import proofs.«01_k».proof.Proof.Gen.Kernel12Ideal.Value
public import proofs.«01_k».proof.Proof.Gen.Reference12Ideal.Read
public import Idealize.ShloMosaic.Lib.Pipeline.ValueKit

@[expose] public section

set_option maxRecDepth 16384

noncomputable section

namespace Cert.OddInContext

open Idealize.ShloMosaic Idealize.ShloMosaic.TcCoe Idealize.SL.Sem
open Idealize.ShloMosaic.Pipeline (Dat)
open Cert.Kernel12Ideal Cert.Kernel12Ideal.Gen

/-- One element of the product. -/
def product (h : FVec Ideal S1024x4096 .bf16) (w : FVec Ideal S4096x7744 .f32) (x : Fin 1024) (y : Fin 7680) : EReal :=
  ∑ k : Fin 4096, (h (ix2 x k) : EReal) * w (ix2 k ⟨y.val, by omega⟩)

theorem reference (h : FVec Ideal S1024x4096 .bf16) (w : FVec Ideal S4096x7744 .f32) (x : Fin 1024) (y : Fin 7680) :
    Cert.Reference12Ideal.Read.val_main_v2 (F := Ideal) h w (ix2 x y) = product h w x y := by
  pointwise [Cert.Reference12Ideal.Read.val_main_v2, Cert.Reference12Ideal.Read.val_main_v1, Cert.Reference12Ideal.Read.val_main_v0, product]

theorem block (h : FVec Ideal S1024x4096 .bf16) (w : FVec Ideal S4096x512 .f32) (r : Fin 1024) (d : Fin 512) :
    k0_pay1 (F := Ideal) h w (ix2 r d) = ∑ k : Fin 4096, (h (ix2 r k) : EReal) * w (ix2 k d) := by
  pointwise [k0_pay1]

theorem idx : ∀ t : Fin cfg0.N, win0_0.index t = ![t.val / 15, 0] ∧ win0_1.index t = ![0, t.val % 15]
    ∧ win0_2.index t = ![t.val / 15, t.val % 15] :=
  (by decide +kernel : ∀ t : Fin grid0.N, _)

variable (m : (ℓ : Loc nD τ sig) → Buf (Elt Ideal) ℓ) (c : Dev nD)

theorem lt_N (t : Fin cfg0.N) : t.val < 15 := lt_of_lt_of_eq t.isLt (by decide)

theorem rows (h : FVec Ideal S1024x4096 .bf16) (e : m ((c : Thread nD τ).loc main_arg0) = h) (t : Fin cfg0.N) (r : Fin 1024) (k : Fin 4096) :
    iblk m c 0 t (ix2 r k) = h (ix2 ⟨t.val / 15 * 1024 + r.val, by have := lt_N t; omega⟩ k) := by
  subst e
  blk_point [iblk, V, idx t]

theorem columns (w : FVec Ideal S4096x7744 .f32) (e : m ((c : Thread nD τ).loc main_arg1) = w) (t : Fin cfg0.N) (k : Fin 4096) (d : Fin 512) :
    X0_1 m c t (ix2 k d) = w (ix2 k ⟨t.val % 15 * 512 + d.val, by omega⟩) := by
  subst e
  unfold X0_1 Pipeline.Window.fill
  refine (dif_pos (moved0_1 t (ix2 k d))).trans ?_
  unfold iblk
  blk_point [V, idx t]

/-- THE ARRAY: the result after the whole grid. -/
theorem final (h : FVec Ideal S1024x4096 .bf16) (w : FVec Ideal S4096x7744 .f32)
    (e0 : m ((c : Thread nD τ).loc main_arg0) = h) (e1 : m ((c : Thread nD τ).loc main_arg1) = w) :
    (dats m 0 c).arrAt 2 (cfgs 0).N = Cert.Reference12Ideal.Read.val_main_v2 (F := Ideal) h w := by
  refine (dats m 0 c).arrAt_eq_of_covers 2 _ (by decide +kernel) fun t _ y => ?_
  idx_vars y
  blk_simp
  rw [after0_2]
  unfold outsAt0
  frame_out
  have ht := lt_N t
  refine (block _ _ y0 y1).trans ?_
  refine Eq.trans ?_ ((reference h w ⟨t.val / 15 * 1024 + y0.val, by omega⟩ ⟨t.val % 15 * 512 + y1.val, by omega⟩).symm.trans ?_)
  · unfold product
    refine Finset.sum_congr rfl fun k _ => ?_
    rw [rows m c h e0, columns m c w e1]
  · blk_ext [idx t]

end Cert.OddInContext

end
-- ==== Proof.KeysValues.lean ====
/- The projection into the latent attention's keys and values: the call's array against the reference's product. -/
module

public import proofs.«01_k».proof.Proof.Gen.Kernel13Ideal.Value
public import proofs.«01_k».proof.Proof.Gen.Reference13Ideal.Read
public import Idealize.ShloMosaic.Lib.Pipeline.ValueKit

@[expose] public section

set_option maxRecDepth 16384

noncomputable section

namespace Cert.KeysValues

open Idealize.ShloMosaic Idealize.ShloMosaic.TcCoe Idealize.SL.Sem
open Idealize.ShloMosaic.Pipeline (Dat)
open Cert.Kernel13Ideal Cert.Kernel13Ideal.Gen

/-- One element of the product. -/
def product (h : FVec Ideal S8192x512 .bf16) (w : FVec Ideal S512x4096 .f32) (x : Fin 8192) (y : Fin 4096) : EReal :=
  ∑ k : Fin 512, (h (ix2 x k) : EReal) * w (ix2 k y)

theorem reference (h : FVec Ideal S8192x512 .bf16) (w : FVec Ideal S512x4096 .f32) (x : Fin 8192) (y : Fin 4096) :
    Cert.Reference13Ideal.Read.val_main_v2 (F := Ideal) h w (ix2 x y) = product h w x y := by
  pointwise [Cert.Reference13Ideal.Read.val_main_v2, Cert.Reference13Ideal.Read.val_main_v1, Cert.Reference13Ideal.Read.val_main_v0, product]

theorem block (h : FVec Ideal S1024x512 .bf16) (w : FVec Ideal S512x2048 .f32) (r : Fin 1024) (d : Fin 2048) :
    k0_pay1 (F := Ideal) h w (ix2 r d) = ∑ k : Fin 512, (h (ix2 r k) : EReal) * w (ix2 k d) := by
  pointwise [k0_pay1]

theorem idx : ∀ t : Fin cfg0.N, win0_0.index t = ![t.val / 2, 0] ∧ win0_1.index t = ![0, t.val % 2]
    ∧ win0_2.index t = ![t.val / 2, t.val % 2] :=
  (by decide +kernel : ∀ t : Fin grid0.N, _)

variable (m : (ℓ : Loc nD τ sig) → Buf (Elt Ideal) ℓ) (c : Dev nD)

theorem lt_N (t : Fin cfg0.N) : t.val < 16 := lt_of_lt_of_eq t.isLt (by decide)

theorem rows (h : FVec Ideal S8192x512 .bf16) (e : m ((c : Thread nD τ).loc main_arg0) = h) (t : Fin cfg0.N) (r : Fin 1024) (k : Fin 512) :
    iblk m c 0 t (ix2 r k) = h (ix2 ⟨t.val / 2 * 1024 + r.val, by have := lt_N t; omega⟩ k) := by
  subst e
  blk_point [iblk, V, idx t]

theorem columns (w : FVec Ideal S512x4096 .f32) (e : m ((c : Thread nD τ).loc main_arg1) = w) (t : Fin cfg0.N) (k : Fin 512) (d : Fin 2048) :
    iblk m c 1 t (ix2 k d) = w (ix2 k ⟨t.val % 2 * 2048 + d.val, by omega⟩) := by
  subst e
  blk_point [iblk, V, idx t]

/-- THE ARRAY: the result after the whole grid. -/
theorem final (h : FVec Ideal S8192x512 .bf16) (w : FVec Ideal S512x4096 .f32)
    (e0 : m ((c : Thread nD τ).loc main_arg0) = h) (e1 : m ((c : Thread nD τ).loc main_arg1) = w) :
    (dats m 0 c).arrAt 2 (cfgs 0).N = Cert.Reference13Ideal.Read.val_main_v2 (F := Ideal) h w := by
  refine (dats m 0 c).arrAt_eq_of_covers 2 _ (by decide +kernel) fun t _ y => ?_
  idx_vars y
  blk_simp
  rw [after0_2]
  frame_out
  have ht := lt_N t
  refine (block _ _ y0 y1).trans ?_
  refine Eq.trans ?_ ((reference h w ⟨t.val / 2 * 1024 + y0.val, by omega⟩ ⟨t.val % 2 * 2048 + y1.val, by omega⟩).symm.trans ?_)
  · unfold product
    refine Finset.sum_congr rfl fun k _ => ?_
    rw [rows m c h e0, columns m c w e1]
  · blk_ext [idx t]

end Cert.KeysValues

end
-- ==== Proof.MoeDownReference.lean ====
/- The experts' down call: the reference's array at one place, the eight masked steps read as the one expert that the table names. -/
module

public import proofs.«01_k».proof.Proof.Gen.Reference14Ideal.Read
public import Idealize.ShloMosaic.Lib.Pipeline.ValueKit

@[expose] public section

set_option maxRecDepth 16384

noncomputable section

namespace Cert.MoeDown

open Idealize.ShloMosaic Idealize.ShloMosaic.TcCoe Idealize.SL.Sem
open Cert.Reference14Ideal Cert.Reference14Ideal.Read

/-- One element of the projection of tile `i` by expert `e`. -/
def pick (h : FVec Ideal S20480x2048 .bf16) (w : FVec Ideal S8x2048x4096 .f32) (e : Fin 8) (i : Fin 40) (r : Fin 512) (d : Fin 4096) : EReal :=
  ∑ k : Fin 2048, (h (ix2 ⟨i.val * 512 + r.val, by omega⟩ k) : EReal) * w (ix3 e k d)

variable (h : FVec Ideal S20480x2048 .bf16) (te : IVec S40 32) (na : IVec S1 32) (w : FVec Ideal S8x2048x4096 .f32)
  (i : Fin 40) (r : Fin 512) (d : Fin 4096)

theorem product0 : val_main_v12 (F := Ideal) h w (ix3 i r d) = pick h w 0 i r d := by
  pointwise [val_main_v12, val_main_v1, val_main_v0, val_main_v11, val_main_v10, pick]

theorem product1 : val_main_v20 (F := Ideal) h w (ix3 i r d) = pick h w 1 i r d := by
  pointwise [val_main_v20, val_main_v1, val_main_v0, val_main_v19, val_main_v18, pick]

theorem product2 : val_main_v28 (F := Ideal) h w (ix3 i r d) = pick h w 2 i r d := by
  pointwise [val_main_v28, val_main_v1, val_main_v0, val_main_v27, val_main_v26, pick]

theorem product3 : val_main_v36 (F := Ideal) h w (ix3 i r d) = pick h w 3 i r d := by
  pointwise [val_main_v36, val_main_v1, val_main_v0, val_main_v35, val_main_v34, pick]

theorem product4 : val_main_v44 (F := Ideal) h w (ix3 i r d) = pick h w 4 i r d := by
  pointwise [val_main_v44, val_main_v1, val_main_v0, val_main_v43, val_main_v42, pick]

theorem product5 : val_main_v52 (F := Ideal) h w (ix3 i r d) = pick h w 5 i r d := by
  pointwise [val_main_v52, val_main_v1, val_main_v0, val_main_v51, val_main_v50, pick]

theorem product6 : val_main_v60 (F := Ideal) h w (ix3 i r d) = pick h w 6 i r d := by
  pointwise [val_main_v60, val_main_v1, val_main_v0, val_main_v59, val_main_v58, pick]

theorem product7 : val_main_v68 (F := Ideal) h w (ix3 i r d) = pick h w 7 i r d := by
  pointwise [val_main_v68, val_main_v1, val_main_v0, val_main_v67, val_main_v66, pick]

/-- Whether tile `i` is used: the first `na` are. -/
def used : BitVec 1 := IntOp.cmpi .slt (BitVec.ofNat 32 i.val) (na (ix1 0))

theorem step0 : val_main_v13 (F := Ideal) h te na w (ix3 i r d)
    = if IntOp.andi (used na i) (IntOp.cmpi .eq (te (ix1 i)) 0#32) = 1#1 then pick h w 0 i r d
      else (val_main_v5 (F := Ideal) (ix3 i r d) : EReal) := by
  rw [← product0]
  generalize e : val_main_v12 (F := Ideal) h w = a
  pointwise [val_main_v13, e, val_main_call0_v0, val_main_v9, val_main_v8, val_main_v4, val_main_v3, val_main_v2, val_main_v7, val_main_v6, val_main_c, used]
  rfl

theorem step1 : val_main_v21 (F := Ideal) h te na w (ix3 i r d)
    = if IntOp.andi (used na i) (IntOp.cmpi .eq (te (ix1 i)) 1#32) = 1#1 then pick h w 1 i r d
      else (val_main_v13 (F := Ideal) h te na w (ix3 i r d) : EReal) := by
  rw [← product1]
  generalize e : val_main_v20 (F := Ideal) h w = a
  generalize e' : val_main_v13 (F := Ideal) h te na w = b
  pointwise [val_main_v21, e, e', val_main_call1_v0, val_main_v17, val_main_v16, val_main_v4, val_main_v3, val_main_v2, val_main_v15, val_main_v14, val_main_c_0, used]
  rfl

theorem step2 : val_main_v29 (F := Ideal) h te na w (ix3 i r d)
    = if IntOp.andi (used na i) (IntOp.cmpi .eq (te (ix1 i)) 2#32) = 1#1 then pick h w 2 i r d
      else (val_main_v21 (F := Ideal) h te na w (ix3 i r d) : EReal) := by
  rw [← product2]
  generalize e : val_main_v28 (F := Ideal) h w = a
  generalize e' : val_main_v21 (F := Ideal) h te na w = b
  pointwise [val_main_v29, e, e', val_main_call2_v0, val_main_v25, val_main_v24, val_main_v4, val_main_v3, val_main_v2, val_main_v23, val_main_v22, val_main_c_1, used]
  rfl

theorem step3 : val_main_v37 (F := Ideal) h te na w (ix3 i r d)
    = if IntOp.andi (used na i) (IntOp.cmpi .eq (te (ix1 i)) 3#32) = 1#1 then pick h w 3 i r d
      else (val_main_v29 (F := Ideal) h te na w (ix3 i r d) : EReal) := by
  rw [← product3]
  generalize e : val_main_v36 (F := Ideal) h w = a
  generalize e' : val_main_v29 (F := Ideal) h te na w = b
  pointwise [val_main_v37, e, e', val_main_call3_v0, val_main_v33, val_main_v32, val_main_v4, val_main_v3, val_main_v2, val_main_v31, val_main_v30, val_main_c_2, used]
  rfl

theorem step4 : val_main_v45 (F := Ideal) h te na w (ix3 i r d)
    = if IntOp.andi (used na i) (IntOp.cmpi .eq (te (ix1 i)) 4#32) = 1#1 then pick h w 4 i r d
      else (val_main_v37 (F := Ideal) h te na w (ix3 i r d) : EReal) := by
  rw [← product4]
  generalize e : val_main_v44 (F := Ideal) h w = a
  generalize e' : val_main_v37 (F := Ideal) h te na w = b
  pointwise [val_main_v45, e, e', val_main_call4_v0, val_main_v41, val_main_v40, val_main_v4, val_main_v3, val_main_v2, val_main_v39, val_main_v38, val_main_c_3, used]
  rfl

theorem step5 : val_main_v53 (F := Ideal) h te na w (ix3 i r d)
    = if IntOp.andi (used na i) (IntOp.cmpi .eq (te (ix1 i)) 5#32) = 1#1 then pick h w 5 i r d
      else (val_main_v45 (F := Ideal) h te na w (ix3 i r d) : EReal) := by
  rw [← product5]
  generalize e : val_main_v52 (F := Ideal) h w = a
  generalize e' : val_main_v45 (F := Ideal) h te na w = b
  pointwise [val_main_v53, e, e', val_main_call5_v0, val_main_v49, val_main_v48, val_main_v4, val_main_v3, val_main_v2, val_main_v47, val_main_v46, val_main_c_4, used]
  rfl

theorem step6 : val_main_v61 (F := Ideal) h te na w (ix3 i r d)
    = if IntOp.andi (used na i) (IntOp.cmpi .eq (te (ix1 i)) 6#32) = 1#1 then pick h w 6 i r d
      else (val_main_v53 (F := Ideal) h te na w (ix3 i r d) : EReal) := by
  rw [← product6]
  generalize e : val_main_v60 (F := Ideal) h w = a
  generalize e' : val_main_v53 (F := Ideal) h te na w = b
  pointwise [val_main_v61, e, e', val_main_call6_v0, val_main_v57, val_main_v56, val_main_v4, val_main_v3, val_main_v2, val_main_v55, val_main_v54, val_main_c_5, used]
  rfl

theorem step7 : val_main_v69 (F := Ideal) h te na w (ix3 i r d)
    = if IntOp.andi (used na i) (IntOp.cmpi .eq (te (ix1 i)) 7#32) = 1#1 then pick h w 7 i r d
      else (val_main_v61 (F := Ideal) h te na w (ix3 i r d) : EReal) := by
  rw [← product7]
  generalize e : val_main_v68 (F := Ideal) h w = a
  generalize e' : val_main_v61 (F := Ideal) h te na w = b
  pointwise [val_main_v69, e, e', val_main_call7_v0, val_main_v65, val_main_v64, val_main_v4, val_main_v3, val_main_v2, val_main_v63, val_main_v62, val_main_c_6, used]
  rfl

/-- Eight masked steps, the last first, are the one step that the table names. -/
theorem chain (u : BitVec 1) (x : BitVec 32) (small : x.toNat < 8) (G : Fin 8 → EReal) (z : EReal) :
    (if IntOp.andi u (IntOp.cmpi .eq x 7#32) = 1#1 then G 7
      else if IntOp.andi u (IntOp.cmpi .eq x 6#32) = 1#1 then G 6
      else if IntOp.andi u (IntOp.cmpi .eq x 5#32) = 1#1 then G 5
      else if IntOp.andi u (IntOp.cmpi .eq x 4#32) = 1#1 then G 4
      else if IntOp.andi u (IntOp.cmpi .eq x 3#32) = 1#1 then G 3
      else if IntOp.andi u (IntOp.cmpi .eq x 2#32) = 1#1 then G 2
      else if IntOp.andi u (IntOp.cmpi .eq x 1#32) = 1#1 then G 1
      else if IntOp.andi u (IntOp.cmpi .eq x 0#32) = 1#1 then G 0 else z)
      = if u = 1#1 then G ⟨x.toNat, small⟩ else z := by
  obtain ⟨n, rfl⟩ : ∃ n : Fin 8, x = BitVec.ofNat 32 n.val := ⟨⟨x.toNat, small⟩, BitVec.eq_of_toNat_eq (by simp)⟩
  have hu : ∀ u : BitVec 1, u = 0#1 ∨ u = 1#1 := by decide
  rcases hu u with rfl | rfl <;> fin_cases n <;> rfl

/-- THE REFERENCE at one place: the product by the tile's own expert in a used tile, zero in the others. -/
theorem reference (small : (te (ix1 i)).toNat < 8) :
    val_main_v71 (F := Ideal) h te na w (ix2 ⟨i.val * 512 + r.val, by omega⟩ d)
      = if used na i = 1#1 then pick h w ⟨(te (ix1 i)).toNat, small⟩ i r d else 0 := by
  have e : val_main_v71 (F := Ideal) h te na w (ix2 ⟨i.val * 512 + r.val, by omega⟩ d)
      = (val_main_v69 (F := Ideal) h te na w (ix3 i r d) : EReal) := by
    unfold val_main_v71 val_main_v70
    generalize val_main_v69 (F := Ideal) h te na w = a
    pointwise []
  have z : (val_main_v5 (F := Ideal) (ix3 i r d) : EReal) = 0 := by
    pointwise [val_main_v5, val_main_cst]
  rw [e, step7, step6, step5, step4, step3, step2, step1, step0, z]
  exact chain _ _ small (fun e => pick h w e i r d) 0

end Cert.MoeDown

end
-- ==== Proof.MoeDown.lean ====
/- The experts' up call: the call's array against the reference's gated products, tile by tile, with the expert that the table names. -/
module

public import proofs.«01_k».proof.Proof.Gen.Kernel14Ideal.Frame
public import proofs.«01_k».proof.Proof.MoeDownReference
public import proofs.«01_k».proof.Proof.Gen.Pre_down_experts_named
public import Idealize.ShloMosaic.Lib.Pipeline.ValueKit
public import Idealize.ShloMosaic.Lib.ReduceAll
public import Idealize.ShloMosaic.Lib.Pipeline.Covers

@[expose] public section

set_option maxRecDepth 16384

noncomputable section

namespace Cert.MoeDown

open Idealize.ShloMosaic Idealize.ShloMosaic.TcCoe Idealize.SL.Sem
open Idealize.ShloMosaic.Pipeline (Dat)
open Cert.Kernel14Ideal Cert.Kernel14Ideal.Gen

theorem block (h : FVec Ideal S512x2048 .bf16) (w : FVec Ideal S1x2048x1024 .f32) (r : Fin 512) (d : Fin 1024) :
    k0_pay2 (F := Ideal) h w (ix2 r d)
      = ∑ k : Fin 2048, (h (ix2 r k) : EReal) * w (ix3 0 k d) := by
  pointwise [k0_pay2]

theorem blank (r : Fin 512) (d : Fin 1024) : k0_pay1 (F := Ideal) (ix2 r d) = (0 : EReal) := by
  pointwise [k0_pay1]

/-- The experts that the tables name are among the eight. -/
theorem small {F : FTy → Type} [FloatOps F] (x0 : FVec F Pre_down_experts_named.S20480x2048 .bf16) (x1 : IVec S40 32)
    (x2 : IVec S1 32) (x3 : FVec F Pre_down_experts_named.S8x2048x4096 .f32)
    (h : Cert.Pre_down_experts_named.fn (F := F) x0 x1 x2 x3 = fun _ => 1#1) (i : S40.Idx) : (x1 i).toNat < 8 := by
  have j : Pre_down_experts_named.S_.Idx := fun d => d.elim0
  have : Subsingleton Pre_down_experts_named.S_.Idx := ⟨fun a b => funext fun d => d.elim0⟩
  have e := Host.reduce_andi_all _ _ _ _ j (congrFun h j) i
  obtain ⟨e1, e2⟩ := IntOp.andi_eq_one.1 e
  simp only [cmpi, broadcastInDim, constantI, IntOp.cmpi] at e1 e2
  generalize x1 i = w at e1 e2 ⊢
  have a : ∀ b : Bool, BitVec.ofBool b = 1#1 → b = true := by decide
  have f1 := a _ e1
  have f2 := a _ e2
  simp only [BitVec.sle, BitVec.slt, decide_eq_true_eq] at f1 f2
  have := w.isLt
  have z : (0#32).toInt = 0 := rfl
  have z8 : (8#32).toInt = 8 := rfl
  rw [z] at f1
  rw [z8] at f2
  rw [BitVec.toInt_eq_toNat_cond] at f1 f2
  split at f1
  · rw [if_pos (by assumption)] at f2
    omega
  · omega

theorem coords : ∀ t : Fin grid0.N, cc0_transform_0 (grid0.coords t) = ![t.val % 40, 0]
    ∧ cc0_transform_2 (grid0.coords t) = ![t.val % 40, t.val / 40] ∧ (grid0.coords t 0).val = t.val / 40
    ∧ (grid0.coords t 1).val = t.val % 40 :=
  (by decide +kernel : ∀ t : Fin grid0.N, _)

theorem lt_N (t : Fin grid0.N) : t.val < 160 := lt_of_lt_of_eq t.isLt (by decide)

/-- The expert that the first table names for tile `i`. -/
abbrev expert (te : IVec S40 32) (i : Fin 40) : ℕ := (te (ix1 i)).toNat

section
variable {F : FTy → Type} [FloatOps F]

theorem off : ∀ t : Fin grid0.N, k0_off1 (grid0.coords t) = ![t.val % 40] :=
  (by decide +kernel : ∀ t : Fin grid0.N, _)

theorem word (te : IVec S40 32) (pf : pre0.Contents (Elt F)) (e : pf 0 = te) (t : Fin grid0.N) :
    (pf.at 0 (Rect.unit (s := S40) (k0_off1 (grid0.coords t)) S1.size (k0_off1_inb (grid0.coords t))) numel1_S1 : BitVec 32)
      = te (ix1 ⟨t.val % 40, Nat.mod_lt _ (by decide)⟩) := by
  subst e
  refine congrArg (pf 0) (funext fun (a : Fin 1) => Fin.ext ?_)
  have ha : a = 0 := Subsingleton.elim _ _
  subst ha
  refine (ValueKit.rect_emb_unit_val (s := S40) _ _ _ _ _).trans ?_
  have : ∀ x : Fin 1, x.val = 0 := fun x => by omega
  exact congrArg₂ (· + ·) (congrFun (off t) 0) (this _)

theorem weights (te : IVec S40 32) (pf : pre0.Contents (Elt F)) (e : pf 0 = te) (t : Fin grid0.N) :
    cc0_transform_1 k0_off1_inb numel1_S1 pf (grid0.coords t) = ![expert te ⟨t.val % 40, Nat.mod_lt _ (by decide)⟩, 0, t.val / 40] := by
  have h := word te pf e t
  have := lt_N t
  have h1 : (BitVec.ofNat 32 (grid0.coords t 0).val).toNat = t.val / 40 := by
    rw [(coords t).2.2.1, BitVec.toNat_ofNat]
    omega
  refine congrArg₂ (fun a b : ℕ => ![a, 0, b]) (congrArg BitVec.toNat h) h1

/-- A table of experts below eight names blocks inside the weights. -/
theorem inside (te : IVec S40 32) (pf : pre0.Contents (Elt F)) (e : pf 0 = te) (h : ∀ i, (te i).toNat < 8) : ok0 (F := F) pf := by
  have b : ∀ i : grid0.Coords, ∃ t, grid0.coords t = i := Pipeline.Grid.coords_surjective grid0
  have a : ∀ i : grid0.Coords, ∀ a, (cc0_transform_1 k0_off1_inb numel1_S1 pf i a + 1) * S1x2048x1024.size a ≤ S8x2048x4096.size a := by
    intro i a
    obtain ⟨t, rfl⟩ := b i
    rw [weights te pf e t]
    have h0 := h (ix1 ⟨t.val % 40, Nat.mod_lt _ (by decide)⟩)
    have := lt_N t
    fin_cases a
    · show (expert te _ + 1) * 1 ≤ 8
      unfold expert; omega
    · show (0 + 1) * 2048 ≤ 2048
      omega
    · show (t.val / 40 + 1) * 1024 ≤ 4096
      omega
  exact fun i => ⟨a i, .inl rfl⟩

end

variable (m : (ℓ : Loc nD τ sig) → Buf (Elt Ideal) ℓ) (hO : Ok m) (c : Dev nD)

theorem table (te : IVec S40 32) (e : m ((c : Thread nD τ).loc main_arg1) = te) : tbl m 0 = te := by
  obtain rfl : c = 0 := Subsingleton.elim _ _
  exact e

theorem idx (te : IVec S40 32) (e : m ((c : Thread nD τ).loc main_arg1) = te) (t : Fin (cfgM m hO).N) :
    ((cfgM m hO).win 0).index t = ![t.val % 40, 0]
      ∧ ((cfgM m hO).win 1).index t = ![expert te ⟨t.val % 40, Nat.mod_lt _ (by decide)⟩, 0, t.val / 40]
      ∧ ((cfgM m hO).win 2).index t = ![t.val % 40, t.val / 40] :=
  ⟨(coords t).1, weights te _ (table m c te e) t, (coords t).2.1⟩

theorem rows (te : IVec S40 32) (e1 : m ((c : Thread nD τ).loc main_arg1) = te)
    (h : FVec Ideal S20480x2048 .bf16) (e : m ((c : Thread nD τ).loc main_arg0) = h) (t : Fin (cfgM m hO).N) (r : Fin 512) (k : Fin 2048) :
    iblk m hO c 0 t (ix2 r k) = h (ix2 ⟨t.val % 40 * 512 + r.val, by omega⟩ k) := by
  subst e
  blk_point [iblk, V, idx m hO c te e1 t]

theorem columns (te : IVec S40 32) (e1 : m ((c : Thread nD τ).loc main_arg1) = te) (small : ∀ i, (te i).toNat < 8)
    (w : FVec Ideal S8x2048x4096 .f32) (e : m ((c : Thread nD τ).loc main_arg3) = w) (t : Fin (cfgM m hO).N) (k : Fin 2048) (d : Fin 1024) :
    iblk m hO c 1 t (ix3 0 k d)
      = w (ix3 ⟨expert te ⟨t.val % 40, Nat.mod_lt _ (by decide)⟩, small _⟩ k ⟨t.val / 40 * 1024 + d.val, by have := lt_N t; omega⟩) := by
  subst e
  blk_point [iblk, V, idx m hO c te e1 t]

theorem count (na : IVec S1 32) (e : m ((c : Thread nD τ).loc main_arg2) = na) (t : Fin grid0.N) :
    cond0_0 (grid0.coords t) (tbM0_1.view.readAt (Elt Ideal) (Rect.unit (s := S1) ![0] S1.size inb_S1_S1_0).toLoadRect (tbl m 1) (Shape.Idx.first (numel1_S1.symm ▸ Nat.one_pos)))
      ↔ used na ⟨t.val % 40, Nat.mod_lt _ (by decide)⟩ = 1#1 := by
  have hb : ∀ p : BitVec 1, Scalar.cmpi .ne (Scalar.extui p : BitVec 32) 0#32 = 1#1 ↔ p = 1#1 := by decide
  refine (hb _).trans (iff_of_eq (congrArg (· = 1#1) ?_))
  obtain rfl : c = 0 := Subsingleton.elim _ _
  subst e
  refine congrArg₂ (Scalar.cmpi .slt) (congrArg (BitVec.ofNat 32) (coords t).2.2.2) ?_
  refine congrArg (m ((0 : Dev nD).tc.loc main_arg2)) (funext fun (a : Fin 1) => ?_)
  obtain rfl : a = 0 := Subsingleton.elim _ _
  have : ∀ x y : Fin 1, x = y := fun x y => Subsingleton.elim x y
  exact this _ _

theorem covers : ((cfgM m hO).win 2).Covers := by
  refine Pipeline.Window.covers_of_index_surj _ rfl (fun (a : Fin 2) => ?_) fun β => ?_
  · fin_cases a
    · exact (by decide : 0 < 512)
    · exact (by decide : 0 < 1024)
  · have h0 : (β (0 : Fin 2)).val < 40 := lt_of_lt_of_eq (β (0 : Fin 2)).isLt (by decide : (20480 + 512 - 1) / 512 = 40)
    have h1 : (β (1 : Fin 2)).val < 4 := lt_of_lt_of_eq (β (1 : Fin 2)).isLt (by decide : (4096 + 1024 - 1) / 1024 = 4)
    refine ⟨⟨(β (1 : Fin 2)).val * 40 + (β (0 : Fin 2)).val, lt_of_lt_of_eq (b := 160) (by omega) (by decide : 160 = grid0.N)⟩, fun (a : Fin 2) => ?_⟩
    refine (congrFun (idx m hO 0 _ rfl _).2.2 a).trans ?_
    fin_cases a
    · show ((β (1 : Fin 2)).val * 40 + (β (0 : Fin 2)).val) % 40 = (β (0 : Fin 2)).val
      omega
    · show ((β (1 : Fin 2)).val * 40 + (β (0 : Fin 2)).val) / 40 = (β (1 : Fin 2)).val
      omega

/-- What a used tile's point stores. -/
theorem stored (i : grid0.Coords) (a4 : Memref sig .tc .vmem S512x2048 .bf16) (h4 : a4.IsWhole) (a5 : Memref sig .tc .vmem S1x2048x1024 .f32)
    (h5 : a5.IsWhole) (a6 : Memref sig .tc .vmem S512x1024 .bf16) (h6 : a6.IsWhole)
    (x : FVec Ideal S512x2048 .bf16) (w : FVec Ideal S1x2048x1024 .f32) (p q) (hc) (r : Fin 512) (d : Fin 1024) :
    out0_A_2 (F := Ideal) c i a4 h4 a5 h5 a6 h6 x w p q hc (ix2 r d) = ∑ k : Fin 2048, (x (ix2 r k) : EReal) * w (ix3 0 k d) := by
  frame_out
  exact block _ _ r d

/-- THE ARRAY: the result after the whole grid. -/
theorem final (h : FVec Ideal S20480x2048 .bf16) (te : IVec S40 32) (na : IVec S1 32) (w : FVec Ideal S8x2048x4096 .f32)
    (small : ∀ i, (te i).toNat < 8)
    (e0 : m ((c : Thread nD τ).loc main_arg0) = h) (e1 : m ((c : Thread nD τ).loc main_arg1) = te)
    (e2 : m ((c : Thread nD τ).loc main_arg2) = na) (e3 : m ((c : Thread nD τ).loc main_arg3) = w) :
    (dats m hO 0 c).arrAt 2 (cfgM m hO).N = Cert.Reference14Ideal.Read.val_main_v71 (F := Ideal) h te na w := by
  refine (dats m hO 0 c).arrAt_eq_of_covers 2 _ (covers m hO) fun t _ => ?_
  change ∀ y : S512x1024.Idx, _
  intro y
  idx_vars y
  blk_simp
  rw [after0_2]
  have ht := lt_N t
  refine Eq.trans ?_ ((reference h te na w ⟨t.val % 40, Nat.mod_lt _ (by decide)⟩ y0 ⟨t.val / 40 * 1024 + y1.val, by omega⟩ (small _)).symm.trans ?_)
  · by_cases hu : used na ⟨t.val % 40, Nat.mod_lt _ (by decide)⟩ = 1#1
    · rw [if_pos hu, outsAt0_A m hO c t ((count m c na e2 t).2 hu)]
      refine (stored c _ _ _ _ _ _ _ _ _ _ _ _ y0 y1).trans ?_
      unfold pick
      refine Finset.sum_congr rfl fun k _ => ?_
      rw [rows m hO c te e1 h e0, columns m hO c te e1 small w e3]
    · rw [if_neg hu, outsAt0_B m hO c t (fun hc => hu ((count m c na e2 t).1 hc))]
      frame_out
      exact blank y0 y1
  · blk_ext [idx m hO c te e1 t]

end Cert.MoeDown

end
-- ==== Proof.EvenOutContext.lean ====
/- The even layer's output projection for the context's rows: the call's array against the reference's gated product of the joined halves
   added to the tokens. All of these rows have one gate. -/
module

public import proofs.«01_k».proof.Proof.Gen.Kernel15Ideal.Value
public import proofs.«01_k».proof.Proof.Gen.Reference15Ideal.Read
public import Idealize.ShloMosaic.Lib.Pipeline.ValueKit

@[expose] public section

set_option maxRecDepth 16384

noncomputable section

namespace Cert.EvenOutContext

open Idealize.ShloMosaic Idealize.ShloMosaic.TcCoe Idealize.SL.Sem
open Idealize.ShloMosaic.Pipeline (Dat)
open Cert.Kernel15Ideal Cert.Kernel15Ideal.Gen

/-- One element of the joined results' product with the weights, half by half. -/
def product (a b : FVec Ideal S1024x2048 .bf16) (w : FVec Ideal S4096x4096 .f32) (i : Fin 1024) (j : Fin 4096) : EReal :=
  (∑ k : Fin 2048, (a (ix2 i k) : EReal) * w (ix2 ⟨k.val, by omega⟩ j))
    + ∑ k : Fin 2048, (b (ix2 i k) : EReal) * w (ix2 ⟨2048 + k.val, by omega⟩ j)

/-- One element of the result: the token plus its batch's gate times the product. -/
def result (x : FVec Ideal S1024x4096 .f32) (a b : FVec Ideal S1024x2048 .bf16) (w : FVec Ideal S4096x4096 .f32)
    (g : FVec Ideal S8x1x4096 .f32) (i : Fin 1024) (j : Fin 4096) : EReal :=
  (x (ix2 i j) : EReal)
    + (g (ix3 4 0 j) : EReal) * product a b w i j

/-- The joined results, read in their first and in their second half. -/
theorem left (a b : FVec Ideal S1024x2048 .bf16) (i : Fin 1024) (k : Fin 2048) :
    Cert.Reference15Ideal.Read.val_main_v4 (F := Ideal) a b (ix2 i ⟨k.val, by omega⟩) = a (ix2 i k) := by
  pointwise [Cert.Reference15Ideal.Read.val_main_v4, Cert.Reference15Ideal.Read.val_main_v3, Cert.Reference15Ideal.Read.val_main_v2]

theorem right (a b : FVec Ideal S1024x2048 .bf16) (i : Fin 1024) (k : Fin 2048) :
    Cert.Reference15Ideal.Read.val_main_v4 (F := Ideal) a b (ix2 i ⟨2048 + k.val, by omega⟩) = b (ix2 i k) := by
  pointwise [Cert.Reference15Ideal.Read.val_main_v4, Cert.Reference15Ideal.Read.val_main_v3, Cert.Reference15Ideal.Read.val_main_v2]

theorem joined (a b : FVec Ideal S1024x2048 .bf16) (w : FVec Ideal S4096x4096 .f32) (i : Fin 1024) (j : Fin 4096) :
    Cert.Reference15Ideal.Read.val_main_v5 (F := Ideal) a b w (ix2 i j) = product a b w i j := by
  have e : Cert.Reference15Ideal.Read.val_main_v5 (F := Ideal) a b w (ix2 i j)
      = ∑ k : Fin 4096, (Cert.Reference15Ideal.Read.val_main_v4 (F := Ideal) a b (ix2 i k) : EReal) * w (ix2 k j) := by
    unfold Cert.Reference15Ideal.Read.val_main_v5
    generalize Cert.Reference15Ideal.Read.val_main_v4 (F := Ideal) a b = z
    pointwise
  rw [e, Fin.sum_univ_two_halves 2048 2048 rfl]
  unfold product
  refine congrArg₂ (· + ·) (Finset.sum_congr rfl fun k _ => ?_) (Finset.sum_congr rfl fun k _ => ?_)
  · rw [left]
  · rw [right]

theorem reference (x : FVec Ideal S1024x4096 .f32) (a b : FVec Ideal S1024x2048 .bf16) (w : FVec Ideal S4096x4096 .f32)
    (g : FVec Ideal S8x1x4096 .f32) (i : Fin 1024) (j : Fin 4096) :
    Cert.Reference15Ideal.Read.val_main_v12 (F := Ideal) x a b w g (ix2 i j) = result x a b w g i j := by
  unfold result
  rw [← joined]
  unfold Cert.Reference15Ideal.Read.val_main_v12 Cert.Reference15Ideal.Read.val_main_v11 Cert.Reference15Ideal.Read.val_main_v10 Cert.Reference15Ideal.Read.val_main_v9
    Cert.Reference15Ideal.Read.val_main_v8
    Cert.Reference15Ideal.Read.val_main_v7 Cert.Reference15Ideal.Read.val_main_v6 Cert.Reference15Ideal.Read.val_main_v1
    Cert.Reference15Ideal.Read.val_main_v0
  generalize Cert.Reference15Ideal.Read.val_main_v5 (F := Ideal) a b w = y
  pointwise

theorem block (a b : FVec Ideal S1024x2048 .bf16) (w v : FVec Ideal S2048x512 .f32) (x : FVec Ideal S1024x512 .f32)
    (g : FVec Ideal S1x1x512 .f32) (r : Fin 1024) (d : Fin 512) :
    k0_pay1 (F := Ideal) a b w v x g (ix2 r d)
      = (x (ix2 r d) : EReal) + (g (ix3 0 0 d) : EReal) * ((∑ k : Fin 2048, (a (ix2 r k) : EReal) * w (ix2 k d))
          + ∑ k : Fin 2048, (b (ix2 r k) : EReal) * v (ix2 k d)) := by
  pointwise [k0_pay1]

theorem idx : ∀ t : Fin cfg0.N, win0_0.index t = ![t.val / 8, 0] ∧ win0_1.index t = ![t.val / 8, 0]
    ∧ win0_2.index t = ![0, t.val % 8] ∧ win0_3.index t = ![1, t.val % 8]
    ∧ win0_4.index t = ![t.val / 8, t.val % 8] ∧ win0_5.index t = ![4, 0, t.val % 8]
    ∧ win0_6.index t = ![t.val / 8, t.val % 8] :=
  (by decide +kernel : ∀ t : Fin grid0.N, _)

variable (m : (ℓ : Loc nD τ sig) → Buf (Elt Ideal) ℓ) (c : Dev nD)

theorem lt_N (t : Fin cfg0.N) : t.val < 8 := lt_of_lt_of_eq t.isLt (by decide)

theorem first (a : FVec Ideal S1024x2048 .bf16) (e : m ((c : Thread nD τ).loc main_arg1) = a) (t : Fin cfg0.N) (r : Fin 1024) (k : Fin 2048) :
    iblk m c 0 t (ix2 r k) = a (ix2 ⟨t.val / 8 * 1024 + r.val, by have := lt_N t; omega⟩ k) := by
  subst e
  rw [← V_main_arg1 m c]
  unfold iblk
  blk_point [idx t]

theorem second (b : FVec Ideal S1024x2048 .bf16) (e : m ((c : Thread nD τ).loc main_arg2) = b) (t : Fin cfg0.N) (r : Fin 1024) (k : Fin 2048) :
    iblk m c 1 t (ix2 r k) = b (ix2 ⟨t.val / 8 * 1024 + r.val, by have := lt_N t; omega⟩ k) := by
  subst e
  rw [← V_main_arg2 m c]
  unfold iblk
  blk_point [idx t]

theorem upper (w : FVec Ideal S4096x4096 .f32) (e : m ((c : Thread nD τ).loc main_arg3) = w) (t : Fin cfg0.N) (k : Fin 2048) (d : Fin 512) :
    iblk m c 2 t (ix2 k d) = w (ix2 ⟨k.val, by omega⟩ ⟨t.val % 8 * 512 + d.val, by omega⟩) := by
  subst e
  rw [← V_main_arg3 m c]
  unfold iblk
  blk_point [idx t]

theorem lower (w : FVec Ideal S4096x4096 .f32) (e : m ((c : Thread nD τ).loc main_arg3) = w) (t : Fin cfg0.N) (k : Fin 2048) (d : Fin 512) :
    iblk m c 3 t (ix2 k d) = w (ix2 ⟨2048 + k.val, by omega⟩ ⟨t.val % 8 * 512 + d.val, by omega⟩) := by
  subst e
  rw [← V_main_arg3 m c]
  unfold iblk
  blk_point [idx t]

theorem tokens (x : FVec Ideal S1024x4096 .f32) (e : m ((c : Thread nD τ).loc main_arg0) = x) (t : Fin cfg0.N) (r : Fin 1024) (d : Fin 512) :
    iblk m c 4 t (ix2 r d) = x (ix2 ⟨t.val / 8 * 1024 + r.val, by have := lt_N t; omega⟩ ⟨t.val % 8 * 512 + d.val, by omega⟩) := by
  subst e
  rw [← V_main_arg0 m c]
  unfold iblk
  blk_point [idx t]

theorem gate (g : FVec Ideal S8x1x4096 .f32) (e : m ((c : Thread nD τ).loc main_arg4) = g) (t : Fin cfg0.N) (d : Fin 512) :
    iblk m c 5 t (ix3 0 0 d) = g (ix3 4 0 ⟨t.val % 8 * 512 + d.val, by omega⟩) := by
  subst e
  rw [← V_main_arg4 m c]
  unfold iblk
  blk_point [idx t]

/-- THE ARRAY: the result after the whole grid. -/
theorem final (x : FVec Ideal S1024x4096 .f32) (a b : FVec Ideal S1024x2048 .bf16) (w : FVec Ideal S4096x4096 .f32)
    (g : FVec Ideal S8x1x4096 .f32)
    (e0 : m ((c : Thread nD τ).loc main_arg0) = x) (e1 : m ((c : Thread nD τ).loc main_arg1) = a)
    (e2 : m ((c : Thread nD τ).loc main_arg2) = b) (e3 : m ((c : Thread nD τ).loc main_arg3) = w)
    (e4 : m ((c : Thread nD τ).loc main_arg4) = g) :
    (dats m 0 c).arrAt 6 (cfgs 0).N = Cert.Reference15Ideal.Read.val_main_v12 (F := Ideal) x a b w g := by
  refine (dats m 0 c).arrAt_eq_of_covers 6 _ (by decide +kernel) fun t _ y => ?_
  idx_vars y
  blk_simp
  rw [after0_6]
  frame_out
  have ht := lt_N t
  refine (block _ _ _ _ _ _ y0 y1).trans ?_
  refine Eq.trans ?_ ((reference x a b w g ⟨t.val / 8 * 1024 + y0.val, by omega⟩ ⟨t.val % 8 * 512 + y1.val, by omega⟩).symm.trans ?_)
  · unfold result product
    rw [tokens m c x e0, gate m c g e4]
    refine congrArg₂ (· + ·) rfl (congrArg₂ (· * ·) rfl
      (congrArg₂ (· + ·) (Finset.sum_congr rfl fun k _ => ?_) (Finset.sum_congr rfl fun k _ => ?_)))
    · rw [first m c a e1, upper m c w e3]
    · rw [second m c b e2, lower m c w e3]
  · blk_ext [idx t]

end Cert.EvenOutContext

end
-- ==== Proof.Modulation.lean ====
/- The adaptive modulation of both layers: the call's array against the reference's rows, the four conditioning vectors', the context's,
   and the three that no conditioning vector has. -/
module

public import proofs.«01_k».proof.Proof.Gen.Kernel16Ideal.Value
public import proofs.«01_k».proof.Proof.Gen.Reference16Ideal.Read
public import Idealize.ShloMosaic.Lib.Pipeline.ValueKit

@[expose] public section

set_option maxRecDepth 16384

noncomputable section

namespace Cert.Modulation

open Idealize.ShloMosaic Idealize.ShloMosaic.TcCoe Idealize.SL.Sem
open Idealize.ShloMosaic.Pipeline (Dat)
open Cert.Kernel16Ideal Cert.Kernel16Ideal.Gen

/-- `a · (1 / (1 + exp (-a)))`: the sigmoid-weighted unit. -/
def unit (a : EReal) : EReal :=
  a * Ideal.div 1 (1 + Ideal.exp (-a))

theorem unit_zero : unit 0 = 0 := by
  unfold unit
  rw [zero_mul]

/-- One element of a row of layer `l`: the conditioning vector through the unit, times the layer's weights, plus its bias. -/
def row (v : Fin 4096 → EReal) (w : FVec Ideal S2x4096x24576 .f32) (b : FVec Ideal S2x24576 .f32) (l : Fin 2) (d : Fin 24576) : EReal :=
  (∑ k : Fin 4096, unit (v k) * w (ix3 l k d)) + b (ix2 l d)

theorem row_zero (w : FVec Ideal S2x4096x24576 .f32) (b : FVec Ideal S2x24576 .f32) (l : Fin 2) (d : Fin 24576) :
    row (fun _ => 0) w b l d = b (ix2 l d) := by
  unfold row
  simp only [unit_zero, zero_mul, Finset.sum_const_zero, zero_add]

section
open Cert.Reference16Ideal.Read

variable (c : FVec Ideal S4x4096 .f32) (x : FVec Ideal S4096 .f32) (w : FVec Ideal S2x4096x24576 .f32) (b : FVec Ideal S2x24576 .f32)
  (d : Fin 24576)

theorem units0 (r : Fin 4) (k : Fin 4096) : val_main_v0 (F := Ideal) c (ix2 r k) = unit (c (ix2 r k)) := by
  pointwise [val_main_v0, val_main_call0_v5, val_main_call0_v4, val_main_call0_v3, val_main_call0_v2, val_main_call0_v1, val_main_call0_v0,
    val_main_call0_cst, val_main_call0_cst_0, unit]

theorem units1 (r : Fin 4) (k : Fin 4096) : val_main_v22 (F := Ideal) c (ix2 r k) = unit (c (ix2 r k)) := by
  pointwise [val_main_v22, val_main_call2_v5, val_main_call2_v4, val_main_call2_v3, val_main_call2_v2, val_main_call2_v1, val_main_call2_v0,
    val_main_call2_cst, val_main_call2_cst_0, unit]

theorem context0 (k : Fin 4096) : val_main_v10 (F := Ideal) x (ix2 0 k) = unit (x (ix1 k)) := by
  pointwise [val_main_v10, val_main_v9, val_main_call1_v5, val_main_call1_v4, val_main_call1_v3, val_main_call1_v2, val_main_call1_v1,
    val_main_call1_v0, val_main_call1_cst, val_main_call1_cst_0, unit]

theorem context1 (k : Fin 4096) : val_main_v32 (F := Ideal) x (ix2 0 k) = unit (x (ix1 k)) := by
  pointwise [val_main_v32, val_main_v31, val_main_call3_v5, val_main_call3_v4, val_main_call3_v3, val_main_call3_v2, val_main_call3_v1,
    val_main_call3_v0, val_main_call3_cst, val_main_call3_cst_0, unit]

theorem vectors0 (r : Fin 4) : val_main_v8 (F := Ideal) c w b (ix2 r d) = row (fun k => c (ix2 r k)) w b 0 d := by
  unfold row
  simp only [← units0]
  unfold val_main_v8 val_main_v3
  generalize val_main_v0 (F := Ideal) c = z
  pointwise [val_main_v2, val_main_v1, val_main_v7, val_main_v6, val_main_v5, val_main_v4]

theorem vectors1 (r : Fin 4) : val_main_v30 (F := Ideal) c w b (ix2 r d) = row (fun k => c (ix2 r k)) w b 1 d := by
  unfold row
  simp only [← units1]
  unfold val_main_v30 val_main_v25
  generalize val_main_v22 (F := Ideal) c = z
  pointwise [val_main_v24, val_main_v23, val_main_v29, val_main_v28, val_main_v27, val_main_v26]

theorem single0 : val_main_v17 (F := Ideal) x w b (ix2 0 d) = row (fun k => x (ix1 k)) w b 0 d := by
  unfold row
  simp only [← context0]
  unfold val_main_v17 val_main_v13
  generalize val_main_v10 (F := Ideal) x = z
  pointwise [val_main_v12, val_main_v11, val_main_v16, val_main_v15, val_main_v14]

theorem single1 : val_main_v39 (F := Ideal) x w b (ix2 0 d) = row (fun k => x (ix1 k)) w b 1 d := by
  unfold row
  simp only [← context1]
  unfold val_main_v39 val_main_v35
  generalize val_main_v32 (F := Ideal) x = z
  pointwise [val_main_v34, val_main_v33, val_main_v38, val_main_v37, val_main_v36]

theorem bias0 (r : Fin 3) : val_main_v20 (F := Ideal) b (ix2 r d) = b (ix2 0 d) := by
  pointwise [val_main_v20, val_main_v19, val_main_v18]

theorem bias1 (r : Fin 3) : val_main_v42 (F := Ideal) b (ix2 r d) = b (ix2 1 d) := by
  pointwise [val_main_v42, val_main_v41, val_main_v40]

/-- The stacked layers, each read alone. -/
theorem layer0 (r : Fin 8) : val_main_v46 (F := Ideal) c x w b (ix3 0 r d) = val_main_v21 (F := Ideal) c x w b (ix2 r d) := by
  unfold val_main_v46 val_main_v45 val_main_v44
  generalize val_main_v21 (F := Ideal) c x w b = y
  generalize val_main_v43 (F := Ideal) c x w b = z
  pointwise

theorem layer1 (r : Fin 8) : val_main_v46 (F := Ideal) c x w b (ix3 1 r d) = val_main_v43 (F := Ideal) c x w b (ix2 r d) := by
  unfold val_main_v46 val_main_v45 val_main_v44
  generalize val_main_v21 (F := Ideal) c x w b = y
  generalize val_main_v43 (F := Ideal) c x w b = z
  pointwise

end

/-- The conditioning of row `r`: the four vectors, the context's, and zero in the three that are left. -/
def cond (c : FVec Ideal S4x4096 .f32) (x : FVec Ideal S4096 .f32) (r : Fin 8) (k : Fin 4096) : EReal :=
  if h : r.val < 4 then c (ix2 ⟨r.val, h⟩ k) else if r.val = 4 then x (ix1 k) else 0

section
open Cert.Reference16Ideal.Read

variable (c : FVec Ideal S4x4096 .f32) (x : FVec Ideal S4096 .f32) (w : FVec Ideal S2x4096x24576 .f32) (b : FVec Ideal S2x24576 .f32)
  (d : Fin 24576)

theorem first0 (r : Fin 4) : val_main_v21 (F := Ideal) c x w b (ix2 ⟨r.val, by omega⟩ d) = row (fun k => c (ix2 r k)) w b 0 d := by
  rw [← vectors0]
  unfold val_main_v21
  generalize val_main_v8 (F := Ideal) c w b = p
  generalize val_main_v17 (F := Ideal) x w b = q
  generalize val_main_v20 (F := Ideal) b = s
  pointwise

theorem middle0 : val_main_v21 (F := Ideal) c x w b (ix2 4 d) = row (fun k => x (ix1 k)) w b 0 d := by
  rw [← single0]
  unfold val_main_v21
  generalize val_main_v8 (F := Ideal) c w b = p
  generalize val_main_v17 (F := Ideal) x w b = q
  generalize val_main_v20 (F := Ideal) b = s
  pointwise

theorem last0 (r : Fin 3) : val_main_v21 (F := Ideal) c x w b (ix2 ⟨5 + r.val, by omega⟩ d) = row (fun _ => 0) w b 0 d := by
  rw [row_zero, ← bias0 b d r]
  unfold val_main_v21
  generalize val_main_v8 (F := Ideal) c w b = p
  generalize val_main_v17 (F := Ideal) x w b = q
  generalize val_main_v20 (F := Ideal) b = s
  pointwise
  rw [dif_neg (by omega), dif_neg (by omega)]
  exact congrArg (fun z : Fin 3 => s (ix2 z d)) (Fin.ext (by show 5 + r.val - 4 - 1 = r.val; omega))

theorem first1 (r : Fin 4) : val_main_v43 (F := Ideal) c x w b (ix2 ⟨r.val, by omega⟩ d) = row (fun k => c (ix2 r k)) w b 1 d := by
  rw [← vectors1]
  unfold val_main_v43
  generalize val_main_v30 (F := Ideal) c w b = p
  generalize val_main_v39 (F := Ideal) x w b = q
  generalize val_main_v42 (F := Ideal) b = s
  pointwise

theorem middle1 : val_main_v43 (F := Ideal) c x w b (ix2 4 d) = row (fun k => x (ix1 k)) w b 1 d := by
  rw [← single1]
  unfold val_main_v43
  generalize val_main_v30 (F := Ideal) c w b = p
  generalize val_main_v39 (F := Ideal) x w b = q
  generalize val_main_v42 (F := Ideal) b = s
  pointwise

theorem last1 (r : Fin 3) : val_main_v43 (F := Ideal) c x w b (ix2 ⟨5 + r.val, by omega⟩ d) = row (fun _ => 0) w b 1 d := by
  rw [row_zero, ← bias1 b d r]
  unfold val_main_v43
  generalize val_main_v30 (F := Ideal) c w b = p
  generalize val_main_v39 (F := Ideal) x w b = q
  generalize val_main_v42 (F := Ideal) b = s
  pointwise
  rw [dif_neg (by omega), dif_neg (by omega)]
  exact congrArg (fun z : Fin 3 => s (ix2 z d)) (Fin.ext (by show 5 + r.val - 4 - 1 = r.val; omega))

theorem cond_first (r : Fin 4) : cond c x ⟨r.val, by omega⟩ = fun k => c (ix2 r k) := by
  funext k
  unfold cond
  rw [dif_pos (show (⟨r.val, by omega⟩ : Fin 8).val < 4 from r.isLt)]

theorem cond_middle : cond c x 4 = fun k => x (ix1 k) := by
  funext k
  unfold cond
  rw [dif_neg (by decide), if_pos (by decide)]

theorem cond_last (r : Fin 3) : cond c x ⟨5 + r.val, by omega⟩ = fun _ => 0 := by
  funext k
  unfold cond
  rw [dif_neg (show ¬ 5 + r.val < 4 by omega), if_neg (show ¬ 5 + r.val = 4 by omega)]

theorem rows_split (P : Fin 8 → Prop) (h0 : ∀ r : Fin 4, P ⟨r.val, by omega⟩) (h1 : P 4) (h2 : ∀ r : Fin 3, P ⟨5 + r.val, by omega⟩) (r : Fin 8) : P r := by
  by_cases a : r.val < 4
  · exact h0 ⟨r.val, a⟩
  · by_cases e : r.val = 4
    · obtain rfl : r = 4 := Fin.ext e
      exact h1
    · have h := h2 ⟨r.val - 5, by omega⟩
      have : (⟨5 + (r.val - 5), by omega⟩ : Fin 8) = r := Fin.ext (by show 5 + (r.val - 5) = r.val; omega)
      exact this ▸ h

/-- THE REFERENCE at one place. -/
theorem reference (l : Fin 2) (r : Fin 8) : val_main_v46 (F := Ideal) c x w b (ix3 l r d) = row (cond c x r) w b l d := by
  refine rows_split (fun r => ∀ l : Fin 2, val_main_v46 (F := Ideal) c x w b (ix3 l r d) = row (cond c x r) w b l d) ?_ ?_ ?_ r l
  · intro r l
    rw [cond_first]
    match l with
    | 0 => rw [layer0, first0]
    | 1 => rw [layer1, first1]
  · intro l
    rw [cond_middle]
    match l with
    | 0 => rw [layer0, middle0]
    | 1 => rw [layer1, middle1]
  · intro r l
    rw [cond_last]
    match l with
    | 0 => rw [layer0, last0]
    | 1 => rw [layer1, last1]

end

theorem block (v : FVec Ideal S8x4096 .f32) (w : FVec Ideal S1x4096x512 .f32) (b : FVec Ideal S1x1x512 .f32) (r : Fin 8) (d : Fin 512) :
    k0_pay1 (F := Ideal) v w b (ix3 0 r d) = (∑ k : Fin 4096, unit (v (ix2 r k)) * w (ix3 0 k d)) + (b (ix3 0 0 d) : EReal) := by
  pointwise [k0_pay1, unit]
  simp only [zero_sub]

theorem idx : ∀ t : Fin cfg0.N, win0_0.index t = ![0, 0] ∧ win0_1.index t = ![t.val / 48, 0, t.val % 48]
    ∧ win0_2.index t = ![t.val / 48, 0, t.val % 48] ∧ win0_3.index t = ![t.val / 48, 0, t.val % 48] :=
  (by decide +kernel : ∀ t : Fin grid0.N, _)

/-- The rows as the call finds them: the four vectors, the context's and three rows of zeros, joined. -/
def joined (c : FVec Ideal S4x4096 .f32) (x : FVec Ideal S4096 .f32) : FVec Ideal S8x4096 .f32 :=
  concatenate S8x4096 0 [⟨S4x4096, c⟩, ⟨S1x4096, (broadcastInDim S1x4096 ![1] bcast_S4096_S1x4096_1 x : FVec Ideal S1x4096 .f32)⟩,
    ⟨S3x4096, (broadcastInDim S3x4096 ![] bcast_S_S3x4096 (constant S_ .f32 0x00000000#32) : FVec Ideal S3x4096 .f32)⟩]
    concatenates_S4x4096_S1x4096_S3x4096_S8x4096_d0

theorem joined_at (c : FVec Ideal S4x4096 .f32) (x : FVec Ideal S4096 .f32) (r : Fin 8) (k : Fin 4096) : joined c x (ix2 r k) = cond c x r k := by
  refine rows_split (fun r => joined c x (ix2 r k) = cond c x r k) ?_ ?_ ?_ r
  · intro r
    rw [cond_first]
    pointwise [joined]
  · rw [cond_middle]
    pointwise [joined]
  · intro r
    rw [cond_last]
    pointwise [joined]
    rw [dif_neg (by omega), dif_neg (by omega)]

variable (m : (ℓ : Loc nD τ sig) → Buf (Elt Ideal) ℓ) (c : Dev nD)

theorem lt_N (t : Fin cfg0.N) : t.val < 96 := lt_of_lt_of_eq t.isLt (by decide)

theorem joined_eq : V m c main_v2 = joined (m ((c : Thread nD τ).loc main_arg0)) (m ((c : Thread nD τ).loc main_arg1)) := by
  rfl

theorem bias_eq : V m c main_v3 = (shapeCast S2x1x24576 (m ((c : Thread nD τ).loc main_arg3) : FVec Ideal S2x24576 .f32) shapeCasts_S2x24576_S2x1x24576 : FVec Ideal S2x1x24576 .f32) := by
  rfl

theorem flat (b : FVec Ideal S2x24576 .f32) (l : Fin 2) (d : Fin 24576) :
    (shapeCast S2x1x24576 b shapeCasts_S2x24576_S2x1x24576 : FVec Ideal S2x1x24576 .f32) (ix3 l 0 d) = b (ix2 l d) := by
  pointwise

theorem conditioning (v : FVec Ideal S4x4096 .f32) (e0 : m ((c : Thread nD τ).loc main_arg0) = v)
    (x : FVec Ideal S4096 .f32) (e1 : m ((c : Thread nD τ).loc main_arg1) = x) (t : Fin cfg0.N) (r : Fin 8) (k : Fin 4096) :
    iblk m c 0 t (ix2 r k) = cond v x r k := by
  subst e0 e1
  rw [← joined_at]
  refine Eq.trans ?_ (congrFun (joined_eq m c) _)
  unfold iblk
  blk_point [idx t]

theorem weights (w : FVec Ideal S2x4096x24576 .f32) (e : m ((c : Thread nD τ).loc main_arg2) = w) (t : Fin cfg0.N) (k : Fin 4096) (d : Fin 512) :
    iblk m c 1 t (ix3 0 k d) = w (ix3 ⟨t.val / 48, by have := lt_N t; omega⟩ k ⟨t.val % 48 * 512 + d.val, by omega⟩) := by
  subst e
  rw [← V_main_arg2 m c]
  unfold iblk
  blk_point [idx t]

theorem bias (b : FVec Ideal S2x24576 .f32) (e : m ((c : Thread nD τ).loc main_arg3) = b) (t : Fin cfg0.N) (d : Fin 512) :
    iblk m c 2 t (ix3 0 0 d) = b (ix2 ⟨t.val / 48, by have := lt_N t; omega⟩ ⟨t.val % 48 * 512 + d.val, by omega⟩) := by
  subst e
  have ht := lt_N t
  refine Eq.trans (b := (V m c main_v3 : FVec Ideal S2x1x24576 .f32) (ix3 ⟨t.val / 48, by omega⟩ 0 ⟨t.val % 48 * 512 + d.val, by omega⟩)) ?_ ?_
  · unfold iblk
    blk_point [idx t]
  · exact (congrFun (bias_eq m c) _).trans (flat _ _ _)

/-- THE ARRAY: the result after the whole grid. -/
theorem final (v : FVec Ideal S4x4096 .f32) (x : FVec Ideal S4096 .f32) (w : FVec Ideal S2x4096x24576 .f32) (b : FVec Ideal S2x24576 .f32)
    (e0 : m ((c : Thread nD τ).loc main_arg0) = v) (e1 : m ((c : Thread nD τ).loc main_arg1) = x)
    (e2 : m ((c : Thread nD τ).loc main_arg2) = w) (e3 : m ((c : Thread nD τ).loc main_arg3) = b) :
    (dats m 0 c).arrAt 3 (cfgs 0).N = Cert.Reference16Ideal.Read.val_main_v46 (F := Ideal) v x w b := by
  refine (dats m 0 c).arrAt_eq_of_covers 3 _ (by decide +kernel) fun t _ y => ?_
  idx_vars y
  blk_simp
  rw [after0_3]
  frame_out
  have ht := lt_N t
  obtain rfl : y0 = 0 := Subsingleton.elim (α := Fin 1) _ _
  refine (block _ _ _ y1 y2).trans ?_
  refine Eq.trans ?_ ((reference v x w b ⟨t.val % 48 * 512 + y2.val, by omega⟩ ⟨t.val / 48, by omega⟩ y1).symm.trans ?_)
  · unfold row
    rw [bias m c b e3]
    refine congrArg₂ (· + ·) (Finset.sum_congr rfl fun k _ => ?_) rfl
    rw [conditioning m c v e0 x e1, weights m c w e2]
  · blk_ext [idx t]

end Cert.Modulation

end
-- ==== Proof.KeysValuesContext.lean ====
/- The projection into the latent attention's keys and values for the context's rows, a single block of them: the call's array against
   the reference's product. -/
module

public import proofs.«01_k».proof.Proof.Gen.Kernel17Ideal.Value
public import proofs.«01_k».proof.Proof.Gen.Reference17Ideal.Read
public import Idealize.ShloMosaic.Lib.Pipeline.ValueKit

@[expose] public section

set_option maxRecDepth 16384

noncomputable section

namespace Cert.KeysValuesContext

open Idealize.ShloMosaic Idealize.ShloMosaic.TcCoe Idealize.SL.Sem
open Idealize.ShloMosaic.Pipeline (Dat)
open Cert.Kernel17Ideal Cert.Kernel17Ideal.Gen

/-- One element of the product. -/
def product (h : FVec Ideal S1024x512 .bf16) (w : FVec Ideal S512x4096 .f32) (x : Fin 1024) (y : Fin 4096) : EReal :=
  ∑ k : Fin 512, (h (ix2 x k) : EReal) * w (ix2 k y)

theorem reference (h : FVec Ideal S1024x512 .bf16) (w : FVec Ideal S512x4096 .f32) (x : Fin 1024) (y : Fin 4096) :
    Cert.Reference17Ideal.Read.val_main_v2 (F := Ideal) h w (ix2 x y) = product h w x y := by
  pointwise [Cert.Reference17Ideal.Read.val_main_v2, Cert.Reference17Ideal.Read.val_main_v1, Cert.Reference17Ideal.Read.val_main_v0, product]

theorem block (h : FVec Ideal S1024x512 .bf16) (w : FVec Ideal S512x2048 .f32) (r : Fin 1024) (d : Fin 2048) :
    k0_pay1 (F := Ideal) h w (ix2 r d) = ∑ k : Fin 512, (h (ix2 r k) : EReal) * w (ix2 k d) := by
  pointwise [k0_pay1]

theorem idx : ∀ t : Fin cfg0.N, win0_0.index t = ![t.val / 2, 0] ∧ win0_1.index t = ![0, t.val % 2]
    ∧ win0_2.index t = ![t.val / 2, t.val % 2] :=
  (by decide +kernel : ∀ t : Fin grid0.N, _)

variable (m : (ℓ : Loc nD τ sig) → Buf (Elt Ideal) ℓ) (c : Dev nD)

theorem lt_N (t : Fin cfg0.N) : t.val < 2 := lt_of_lt_of_eq t.isLt (by decide)

theorem rows (h : FVec Ideal S1024x512 .bf16) (e : m ((c : Thread nD τ).loc main_arg0) = h) (t : Fin cfg0.N) (r : Fin 1024) (k : Fin 512) :
    iblk m c 0 t (ix2 r k) = h (ix2 ⟨t.val / 2 * 1024 + r.val, by have := lt_N t; omega⟩ k) := by
  subst e
  blk_point [iblk, V, idx t]

theorem columns (w : FVec Ideal S512x4096 .f32) (e : m ((c : Thread nD τ).loc main_arg1) = w) (t : Fin cfg0.N) (k : Fin 512) (d : Fin 2048) :
    iblk m c 1 t (ix2 k d) = w (ix2 k ⟨t.val % 2 * 2048 + d.val, by omega⟩) := by
  subst e
  blk_point [iblk, V, idx t]

/-- THE ARRAY: the result after the whole grid. -/
theorem final (h : FVec Ideal S1024x512 .bf16) (w : FVec Ideal S512x4096 .f32)
    (e0 : m ((c : Thread nD τ).loc main_arg0) = h) (e1 : m ((c : Thread nD τ).loc main_arg1) = w) :
    (dats m 0 c).arrAt 2 (cfgs 0).N = Cert.Reference17Ideal.Read.val_main_v2 (F := Ideal) h w := by
  refine (dats m 0 c).arrAt_eq_of_covers 2 _ (by decide +kernel) fun t _ y => ?_
  idx_vars y
  blk_simp
  rw [after0_2]
  frame_out
  have ht := lt_N t
  refine (block _ _ y0 y1).trans ?_
  refine Eq.trans ?_ ((reference h w ⟨t.val / 2 * 1024 + y0.val, by omega⟩ ⟨t.val % 2 * 2048 + y1.val, by omega⟩).symm.trans ?_)
  · unfold product
    refine Finset.sum_congr rfl fun k _ => ?_
    rw [rows m c h e0, columns m c w e1]
  · blk_ext [idx t]

end Cert.KeysValuesContext

end
-- ==== Proof.NormBatches.lean ====
/- The norm before the mixers with the modulation, of the latents in batches: the call's array against the reference's rows. -/
module

public import proofs.«01_k».proof.Proof.Gen.Kernel18Ideal.Value
public import proofs.«01_k».proof.Proof.Gen.Reference18Ideal.Read
public import Idealize.ShloMosaic.Lib.Pipeline.ValueKit

@[expose] public section

set_option maxRecDepth 16384

noncomputable section

namespace Cert.NormBatches

open Idealize.ShloMosaic Idealize.ShloMosaic.TcCoe Idealize.SL.Sem
open Idealize.ShloMosaic.Pipeline (Dat)
open Cert.Kernel18Ideal Cert.Kernel18Ideal.Gen

/-- One over the root of a row's mean square. -/
def scale (v : Fin 4096 → EReal) : EReal :=
  Ideal.rsqrt (Ideal.div (∑ k : Fin 4096, v k * v k) (Ideal.ofBits .f32 0x45800000#32) + Ideal.ofBits .f32 0x358637BD#32)

/-- One element of a row `v`, normed, times the gain, through the modulation. -/
def result (v : Fin 4096 → EReal) (g sh sc : EReal) (j : Fin 4096) : EReal :=
  v j * scale v * g * (1 + sc) + sh

theorem reference_scale (x : FVec Ideal S4x2048x4096 .f32) (i : Fin 8192) :
    Cert.Reference18Ideal.Read.val_main_v7 (F := Ideal) x (ix3 ⟨i.val / 2048, by omega⟩ ⟨i.val % 2048, by omega⟩ 0) = scale (fun k => x (ix3 ⟨i.val / 2048, by omega⟩ ⟨i.val % 2048, by omega⟩ k)) := by
  pointwise [Cert.Reference18Ideal.Read.val_main_v7, Cert.Reference18Ideal.Read.val_main_v6, Cert.Reference18Ideal.Read.val_main_v5, Cert.Reference18Ideal.Read.val_main_v4, Cert.Reference18Ideal.Read.val_main_v3, Cert.Reference18Ideal.Read.val_main_v2, Cert.Reference18Ideal.Read.val_main_v1, Cert.Reference18Ideal.Read.val_main_v0, Cert.Reference18Ideal.Read.val_main_cst, Cert.Reference18Ideal.Read.val_main_cst_0, Cert.Reference18Ideal.Read.val_main_cst_1, scale]

theorem reference (x : FVec Ideal S4x2048x4096 .f32) (g : FVec Ideal S4096 .f32) (sh sc : FVec Ideal S8x1x4096 .f32) (i : Fin 8192) (j : Fin 4096) :
    Cert.Reference18Ideal.Read.val_main_v26 (F := Ideal) x g sh sc (ix2 i j)
      = result (fun k => x (ix3 ⟨i.val / 2048, by omega⟩ ⟨i.val % 2048, by omega⟩ k)) (g (ix1 j)) (sh (ix3 ⟨i.val / 2048, by omega⟩ 0 j)) (sc (ix3 ⟨i.val / 2048, by omega⟩ 0 j)) j := by
  unfold result
  rw [← reference_scale]
  unfold Cert.Reference18Ideal.Read.val_main_v26 Cert.Reference18Ideal.Read.val_main_v25 Cert.Reference18Ideal.Read.val_main_v24 Cert.Reference18Ideal.Read.val_main_v23 Cert.Reference18Ideal.Read.val_main_v22 Cert.Reference18Ideal.Read.val_main_v21 Cert.Reference18Ideal.Read.val_main_v20 Cert.Reference18Ideal.Read.val_main_v19 Cert.Reference18Ideal.Read.val_main_v18 Cert.Reference18Ideal.Read.val_main_v17 Cert.Reference18Ideal.Read.val_main_v16 Cert.Reference18Ideal.Read.val_main_v15 Cert.Reference18Ideal.Read.val_main_v14 Cert.Reference18Ideal.Read.val_main_v13 Cert.Reference18Ideal.Read.val_main_v12 Cert.Reference18Ideal.Read.val_main_v11 Cert.Reference18Ideal.Read.val_main_v10 Cert.Reference18Ideal.Read.val_main_v9 Cert.Reference18Ideal.Read.val_main_v8 Cert.Reference18Ideal.Read.val_main_cst_2
  generalize Cert.Reference18Ideal.Read.val_main_v7 (F := Ideal) x = z
  pointwise

theorem block (x : FVec Ideal S1x256x4096 .f32) (g : FVec Ideal S1x4096 .f32) (sc sh : FVec Ideal S1x1x4096 .f32) (r : Fin 256) (d : Fin 4096) :
    k0_pay1 (F := Ideal) x g sc sh (ix2 r d)
      = result (fun k => x (ix3 0 r k)) (g (ix2 0 d)) (sh (ix3 0 0 d)) (sc (ix3 0 0 d)) d := by
  pointwise [k0_pay1, result, scale]

theorem idx : ∀ t : Fin cfg0.N, win0_0.index t = ![t.val / 8, t.val % 8, 0] ∧ win0_1.index t = ![0, 0]
    ∧ win0_2.index t = ![t.val / 8, 0, 0] ∧ win0_3.index t = ![t.val / 8, 0, 0] ∧ win0_4.index t = ![t.val, 0] :=
  (by decide +kernel : ∀ t : Fin grid0.N, _)

variable (m : (ℓ : Loc nD τ sig) → Buf (Elt Ideal) ℓ) (c : Dev nD)

theorem lt_N (t : Fin cfg0.N) : t.val < 32 := lt_of_lt_of_eq t.isLt (by decide)

theorem rows (x : FVec Ideal S4x2048x4096 .f32) (e : m ((c : Thread nD τ).loc main_arg0) = x) (t : Fin cfg0.N) (r : Fin 256) (k : Fin 4096) :
    iblk m c 0 t (ix3 0 r k) = x (ix3 ⟨t.val / 8, by have := lt_N t; omega⟩ ⟨t.val % 8 * 256 + r.val, by omega⟩ k) := by
  subst e
  rw [← V_main_arg0 m c]
  unfold iblk
  blk_point [idx t]

theorem gain_eq : V m c main_v0 = (shapeCast S1x4096 (m ((c : Thread nD τ).loc main_arg1) : FVec Ideal S4096 .f32) shapeCasts_S4096_S1x4096 : FVec Ideal S1x4096 .f32) := by
  rfl

theorem flat (g : FVec Ideal S4096 .f32) (d : Fin 4096) :
    (shapeCast S1x4096 g shapeCasts_S4096_S1x4096 : FVec Ideal S1x4096 .f32) (ix2 0 d) = g (ix1 d) := by
  pointwise

theorem gain (g : FVec Ideal S4096 .f32) (e : m ((c : Thread nD τ).loc main_arg1) = g) (t : Fin cfg0.N) (d : Fin 4096) :
    iblk m c 1 t (ix2 0 d) = g (ix1 d) := by
  subst e
  refine Eq.trans (b := (V m c main_v0 : FVec Ideal S1x4096 .f32) (ix2 0 d)) ?_ ?_
  · unfold iblk
    blk_point [idx t]
  · exact (congrFun (gain_eq m c) _).trans (flat _ _)

theorem shift (s : FVec Ideal S8x1x4096 .f32) (e : m ((c : Thread nD τ).loc main_arg2) = s) (t : Fin cfg0.N) (d : Fin 4096) :
    iblk m c 2 t (ix3 0 0 d) = s (ix3 ⟨t.val / 8, by have := lt_N t; omega⟩ 0 d) := by
  subst e
  rw [← V_main_arg2 m c]
  unfold iblk
  blk_point [idx t]

theorem slope (s : FVec Ideal S8x1x4096 .f32) (e : m ((c : Thread nD τ).loc main_arg3) = s) (t : Fin cfg0.N) (d : Fin 4096) :
    iblk m c 3 t (ix3 0 0 d) = s (ix3 ⟨t.val / 8, by have := lt_N t; omega⟩ 0 d) := by
  subst e
  rw [← V_main_arg3 m c]
  unfold iblk
  blk_point [idx t]

/-- THE ARRAY: the result after the whole grid. -/
theorem final (x : FVec Ideal S4x2048x4096 .f32) (g : FVec Ideal S4096 .f32) (sh sc : FVec Ideal S8x1x4096 .f32)
    (e0 : m ((c : Thread nD τ).loc main_arg0) = x) (e1 : m ((c : Thread nD τ).loc main_arg1) = g)
    (e2 : m ((c : Thread nD τ).loc main_arg2) = sh) (e3 : m ((c : Thread nD τ).loc main_arg3) = sc) :
    (dats m 0 c).arrAt 4 (cfgs 0).N = Cert.Reference18Ideal.Read.val_main_v26 (F := Ideal) x g sh sc := by
  refine (dats m 0 c).arrAt_eq_of_covers 4 _ (by decide +kernel) fun t _ y => ?_
  idx_vars y
  blk_simp
  rw [after0_4]
  frame_out
  have ht := lt_N t
  refine (block _ _ _ _ y0 y1).trans ?_
  refine Eq.trans ?_ ((reference x g sh sc ⟨t.val * 256 + y0.val, by omega⟩ y1).symm.trans ?_)
  · rw [gain m c g e1, shift m c sh e2, slope m c sc e3]
    have a : t.val / 8 = (t.val * 256 + y0.val) / 2048 := by omega
    have b : t.val % 8 * 256 + y0.val = (t.val * 256 + y0.val) % 2048 := by omega
    simp only [rows m c x e0, a, b]
  · blk_ext [idx t]

end Cert.NormBatches

end
-- ==== Proof.NormContext.lean ====
/- The norm before the mixers with the modulation, of the context's rows, which share one modulation: the call's array against the reference's. -/
module

public import proofs.«01_k».proof.Proof.Gen.Kernel19Ideal.Value
public import proofs.«01_k».proof.Proof.Gen.Reference19Ideal.Read
public import Idealize.ShloMosaic.Lib.Pipeline.ValueKit

@[expose] public section

set_option maxRecDepth 16384

noncomputable section

namespace Cert.NormContext

open Idealize.ShloMosaic Idealize.ShloMosaic.TcCoe Idealize.SL.Sem
open Idealize.ShloMosaic.Pipeline (Dat)
open Cert.Kernel19Ideal Cert.Kernel19Ideal.Gen

/-- One over the root of a row's mean square. -/
def scale (v : Fin 4096 → EReal) : EReal :=
  Ideal.rsqrt (Ideal.div (∑ k : Fin 4096, v k * v k) (Ideal.ofBits .f32 0x45800000#32) + Ideal.ofBits .f32 0x358637BD#32)

/-- One element of a row `v`, normed, times the gain, through the modulation. -/
def result (v : Fin 4096 → EReal) (g sh sc : EReal) (j : Fin 4096) : EReal :=
  v j * scale v * g * (1 + sc) + sh

theorem reference_scale (x : FVec Ideal S1024x4096 .f32) (i : Fin 1024) :
    Cert.Reference19Ideal.Read.val_main_v8 (F := Ideal) x (ix3 ⟨i.val / 256, by omega⟩ ⟨i.val % 256, by omega⟩ 0) = scale (fun k => x (ix2 i k)) := by
  pointwise [Cert.Reference19Ideal.Read.val_main_v8, Cert.Reference19Ideal.Read.val_main_v7, Cert.Reference19Ideal.Read.val_main_v6, Cert.Reference19Ideal.Read.val_main_v5, Cert.Reference19Ideal.Read.val_main_v4, Cert.Reference19Ideal.Read.val_main_v3, Cert.Reference19Ideal.Read.val_main_v2, Cert.Reference19Ideal.Read.val_main_v1, Cert.Reference19Ideal.Read.val_main_v0, Cert.Reference19Ideal.Read.val_main_cst, Cert.Reference19Ideal.Read.val_main_cst_0, Cert.Reference19Ideal.Read.val_main_cst_1, scale]

theorem reference (x : FVec Ideal S1024x4096 .f32) (g : FVec Ideal S4096 .f32) (sh sc : FVec Ideal S8x1x4096 .f32) (i : Fin 1024) (j : Fin 4096) :
    Cert.Reference19Ideal.Read.val_main_v27 (F := Ideal) x g sh sc (ix2 i j)
      = result (fun k => x (ix2 i k)) (g (ix1 j)) (sh (ix3 4 0 j)) (sc (ix3 4 0 j)) j := by
  unfold result
  rw [← reference_scale]
  unfold Cert.Reference19Ideal.Read.val_main_v27 Cert.Reference19Ideal.Read.val_main_v26 Cert.Reference19Ideal.Read.val_main_v25 Cert.Reference19Ideal.Read.val_main_v24 Cert.Reference19Ideal.Read.val_main_v23 Cert.Reference19Ideal.Read.val_main_v22 Cert.Reference19Ideal.Read.val_main_v21 Cert.Reference19Ideal.Read.val_main_v20 Cert.Reference19Ideal.Read.val_main_v19 Cert.Reference19Ideal.Read.val_main_v18 Cert.Reference19Ideal.Read.val_main_v17 Cert.Reference19Ideal.Read.val_main_v16 Cert.Reference19Ideal.Read.val_main_v15 Cert.Reference19Ideal.Read.val_main_v14 Cert.Reference19Ideal.Read.val_main_v13 Cert.Reference19Ideal.Read.val_main_v12 Cert.Reference19Ideal.Read.val_main_v11 Cert.Reference19Ideal.Read.val_main_v10 Cert.Reference19Ideal.Read.val_main_v9 Cert.Reference19Ideal.Read.val_main_v0 Cert.Reference19Ideal.Read.val_main_cst_2
  generalize Cert.Reference19Ideal.Read.val_main_v8 (F := Ideal) x = z
  pointwise

theorem block (x : FVec Ideal S256x4096 .f32) (g : FVec Ideal S1x4096 .f32) (sc sh : FVec Ideal S1x1x4096 .f32) (r : Fin 256) (d : Fin 4096) :
    k0_pay1 (F := Ideal) x g sc sh (ix2 r d)
      = result (fun k => x (ix2 r k)) (g (ix2 0 d)) (sh (ix3 0 0 d)) (sc (ix3 0 0 d)) d := by
  pointwise [k0_pay1, result, scale]

theorem idx : ∀ t : Fin cfg0.N, win0_0.index t = ![t.val, 0] ∧ win0_1.index t = ![0, 0]
    ∧ win0_2.index t = ![4, 0, 0] ∧ win0_3.index t = ![4, 0, 0] ∧ win0_4.index t = ![t.val, 0] :=
  (by decide +kernel : ∀ t : Fin grid0.N, _)

variable (m : (ℓ : Loc nD τ sig) → Buf (Elt Ideal) ℓ) (c : Dev nD)

theorem lt_N (t : Fin cfg0.N) : t.val < 4 := lt_of_lt_of_eq t.isLt (by decide)

theorem rows (x : FVec Ideal S1024x4096 .f32) (e : m ((c : Thread nD τ).loc main_arg0) = x) (t : Fin cfg0.N) (r : Fin 256) (k : Fin 4096) :
    iblk m c 0 t (ix2 r k) = x (ix2 ⟨t.val * 256 + r.val, by have := lt_N t; omega⟩ k) := by
  subst e
  rw [← V_main_arg0 m c]
  unfold iblk
  blk_point [idx t]

theorem gain_eq : V m c main_v0 = (shapeCast S1x4096 (m ((c : Thread nD τ).loc main_arg1) : FVec Ideal S4096 .f32) shapeCasts_S4096_S1x4096 : FVec Ideal S1x4096 .f32) := by
  rfl

theorem flat (g : FVec Ideal S4096 .f32) (d : Fin 4096) :
    (shapeCast S1x4096 g shapeCasts_S4096_S1x4096 : FVec Ideal S1x4096 .f32) (ix2 0 d) = g (ix1 d) := by
  pointwise

theorem gain (g : FVec Ideal S4096 .f32) (e : m ((c : Thread nD τ).loc main_arg1) = g) (t : Fin cfg0.N) (d : Fin 4096) :
    iblk m c 1 t (ix2 0 d) = g (ix1 d) := by
  subst e
  refine Eq.trans (b := (V m c main_v0 : FVec Ideal S1x4096 .f32) (ix2 0 d)) ?_ ?_
  · unfold iblk
    blk_point [idx t]
  · exact (congrFun (gain_eq m c) _).trans (flat _ _)

theorem shift (s : FVec Ideal S8x1x4096 .f32) (e : m ((c : Thread nD τ).loc main_arg2) = s) (t : Fin cfg0.N) (d : Fin 4096) :
    iblk m c 2 t (ix3 0 0 d) = s (ix3 4 0 d) := by
  subst e
  rw [← V_main_arg2 m c]
  unfold iblk
  blk_point [idx t]

theorem slope (s : FVec Ideal S8x1x4096 .f32) (e : m ((c : Thread nD τ).loc main_arg3) = s) (t : Fin cfg0.N) (d : Fin 4096) :
    iblk m c 3 t (ix3 0 0 d) = s (ix3 4 0 d) := by
  subst e
  rw [← V_main_arg3 m c]
  unfold iblk
  blk_point [idx t]

/-- THE ARRAY: the result after the whole grid. -/
theorem final (x : FVec Ideal S1024x4096 .f32) (g : FVec Ideal S4096 .f32) (sh sc : FVec Ideal S8x1x4096 .f32)
    (e0 : m ((c : Thread nD τ).loc main_arg0) = x) (e1 : m ((c : Thread nD τ).loc main_arg1) = g)
    (e2 : m ((c : Thread nD τ).loc main_arg2) = sh) (e3 : m ((c : Thread nD τ).loc main_arg3) = sc) :
    (dats m 0 c).arrAt 4 (cfgs 0).N = Cert.Reference19Ideal.Read.val_main_v27 (F := Ideal) x g sh sc := by
  refine (dats m 0 c).arrAt_eq_of_covers 4 _ (by decide +kernel) fun t _ y => ?_
  idx_vars y
  blk_simp
  rw [after0_4]
  frame_out
  have ht := lt_N t
  refine (block _ _ _ _ y0 y1).trans ?_
  refine Eq.trans ?_ ((reference x g sh sc ⟨t.val * 256 + y0.val, by omega⟩ y1).symm.trans ?_)
  · rw [gain m c g e1, shift m c sh e2, slope m c sc e3]
    simp only [rows m c x e0]
  · blk_ext [idx t]

end Cert.NormContext

end
-- ==== Proof.NormRows.lean ====
/- The norm before the feed-forward layer with the modulation, of the latents' rows: the call's array against the reference's. -/
module

public import proofs.«01_k».proof.Proof.Gen.Kernel20Ideal.Value
public import proofs.«01_k».proof.Proof.Gen.Reference20Ideal.Read
public import Idealize.ShloMosaic.Lib.Pipeline.ValueKit

@[expose] public section

set_option maxRecDepth 16384

noncomputable section

namespace Cert.NormRows

open Idealize.ShloMosaic Idealize.ShloMosaic.TcCoe Idealize.SL.Sem
open Idealize.ShloMosaic.Pipeline (Dat)
open Cert.Kernel20Ideal Cert.Kernel20Ideal.Gen

/-- One over the root of a row's mean square. -/
def scale (v : Fin 4096 → EReal) : EReal :=
  Ideal.rsqrt (Ideal.div (∑ k : Fin 4096, v k * v k) (Ideal.ofBits .f32 0x45800000#32) + Ideal.ofBits .f32 0x358637BD#32)

/-- One element of a row `v`, normed, times the gain, through the modulation. -/
def result (v : Fin 4096 → EReal) (g sh sc : EReal) (j : Fin 4096) : EReal :=
  v j * scale v * g * (1 + sc) + sh

theorem reference_scale (x : FVec Ideal S8192x4096 .f32) (i : Fin 8192) :
    Cert.Reference20Ideal.Read.val_main_v8 (F := Ideal) x (ix3 ⟨i.val / 2048, by omega⟩ ⟨i.val % 2048, by omega⟩ 0) = scale (fun k => x (ix2 i k)) := by
  pointwise [Cert.Reference20Ideal.Read.val_main_v8, Cert.Reference20Ideal.Read.val_main_v7, Cert.Reference20Ideal.Read.val_main_v6, Cert.Reference20Ideal.Read.val_main_v5, Cert.Reference20Ideal.Read.val_main_v4, Cert.Reference20Ideal.Read.val_main_v3, Cert.Reference20Ideal.Read.val_main_v2, Cert.Reference20Ideal.Read.val_main_v1, Cert.Reference20Ideal.Read.val_main_v0, Cert.Reference20Ideal.Read.val_main_cst, Cert.Reference20Ideal.Read.val_main_cst_0, Cert.Reference20Ideal.Read.val_main_cst_1, scale]

theorem reference (x : FVec Ideal S8192x4096 .f32) (g : FVec Ideal S4096 .f32) (sh sc : FVec Ideal S8x1x4096 .f32) (i : Fin 8192) (j : Fin 4096) :
    Cert.Reference20Ideal.Read.val_main_v27 (F := Ideal) x g sh sc (ix2 i j)
      = result (fun k => x (ix2 i k)) (g (ix1 j)) (sh (ix3 ⟨i.val / 2048, by omega⟩ 0 j)) (sc (ix3 ⟨i.val / 2048, by omega⟩ 0 j)) j := by
  unfold result
  rw [← reference_scale]
  unfold Cert.Reference20Ideal.Read.val_main_v27 Cert.Reference20Ideal.Read.val_main_v26 Cert.Reference20Ideal.Read.val_main_v25 Cert.Reference20Ideal.Read.val_main_v24 Cert.Reference20Ideal.Read.val_main_v23 Cert.Reference20Ideal.Read.val_main_v22 Cert.Reference20Ideal.Read.val_main_v21 Cert.Reference20Ideal.Read.val_main_v20 Cert.Reference20Ideal.Read.val_main_v19 Cert.Reference20Ideal.Read.val_main_v18 Cert.Reference20Ideal.Read.val_main_v17 Cert.Reference20Ideal.Read.val_main_v16 Cert.Reference20Ideal.Read.val_main_v15 Cert.Reference20Ideal.Read.val_main_v14 Cert.Reference20Ideal.Read.val_main_v13 Cert.Reference20Ideal.Read.val_main_v12 Cert.Reference20Ideal.Read.val_main_v11 Cert.Reference20Ideal.Read.val_main_v10 Cert.Reference20Ideal.Read.val_main_v9 Cert.Reference20Ideal.Read.val_main_v0 Cert.Reference20Ideal.Read.val_main_cst_2
  generalize Cert.Reference20Ideal.Read.val_main_v8 (F := Ideal) x = z
  pointwise

theorem block (x : FVec Ideal S256x4096 .f32) (g : FVec Ideal S1x4096 .f32) (sc sh : FVec Ideal S1x1x4096 .f32) (r : Fin 256) (d : Fin 4096) :
    k0_pay1 (F := Ideal) x g sc sh (ix2 r d)
      = result (fun k => x (ix2 r k)) (g (ix2 0 d)) (sh (ix3 0 0 d)) (sc (ix3 0 0 d)) d := by
  pointwise [k0_pay1, result, scale]

theorem idx : ∀ t : Fin cfg0.N, win0_0.index t = ![t.val, 0] ∧ win0_1.index t = ![0, 0]
    ∧ win0_2.index t = ![t.val / 8, 0, 0] ∧ win0_3.index t = ![t.val / 8, 0, 0] ∧ win0_4.index t = ![t.val, 0] :=
  (by decide +kernel : ∀ t : Fin grid0.N, _)

variable (m : (ℓ : Loc nD τ sig) → Buf (Elt Ideal) ℓ) (c : Dev nD)

theorem lt_N (t : Fin cfg0.N) : t.val < 32 := lt_of_lt_of_eq t.isLt (by decide)

theorem rows (x : FVec Ideal S8192x4096 .f32) (e : m ((c : Thread nD τ).loc main_arg0) = x) (t : Fin cfg0.N) (r : Fin 256) (k : Fin 4096) :
    iblk m c 0 t (ix2 r k) = x (ix2 ⟨t.val * 256 + r.val, by have := lt_N t; omega⟩ k) := by
  subst e
  rw [← V_main_arg0 m c]
  unfold iblk
  blk_point [idx t]

theorem gain_eq : V m c main_v0 = (shapeCast S1x4096 (m ((c : Thread nD τ).loc main_arg1) : FVec Ideal S4096 .f32) shapeCasts_S4096_S1x4096 : FVec Ideal S1x4096 .f32) := by
  rfl

theorem flat (g : FVec Ideal S4096 .f32) (d : Fin 4096) :
    (shapeCast S1x4096 g shapeCasts_S4096_S1x4096 : FVec Ideal S1x4096 .f32) (ix2 0 d) = g (ix1 d) := by
  pointwise

theorem gain (g : FVec Ideal S4096 .f32) (e : m ((c : Thread nD τ).loc main_arg1) = g) (t : Fin cfg0.N) (d : Fin 4096) :
    iblk m c 1 t (ix2 0 d) = g (ix1 d) := by
  subst e
  refine Eq.trans (b := (V m c main_v0 : FVec Ideal S1x4096 .f32) (ix2 0 d)) ?_ ?_
  · unfold iblk
    blk_point [idx t]
  · exact (congrFun (gain_eq m c) _).trans (flat _ _)

theorem shift (s : FVec Ideal S8x1x4096 .f32) (e : m ((c : Thread nD τ).loc main_arg2) = s) (t : Fin cfg0.N) (d : Fin 4096) :
    iblk m c 2 t (ix3 0 0 d) = s (ix3 ⟨t.val / 8, by have := lt_N t; omega⟩ 0 d) := by
  subst e
  rw [← V_main_arg2 m c]
  unfold iblk
  blk_point [idx t]

theorem slope (s : FVec Ideal S8x1x4096 .f32) (e : m ((c : Thread nD τ).loc main_arg3) = s) (t : Fin cfg0.N) (d : Fin 4096) :
    iblk m c 3 t (ix3 0 0 d) = s (ix3 ⟨t.val / 8, by have := lt_N t; omega⟩ 0 d) := by
  subst e
  rw [← V_main_arg3 m c]
  unfold iblk
  blk_point [idx t]

/-- THE ARRAY: the result after the whole grid. -/
theorem final (x : FVec Ideal S8192x4096 .f32) (g : FVec Ideal S4096 .f32) (sh sc : FVec Ideal S8x1x4096 .f32)
    (e0 : m ((c : Thread nD τ).loc main_arg0) = x) (e1 : m ((c : Thread nD τ).loc main_arg1) = g)
    (e2 : m ((c : Thread nD τ).loc main_arg2) = sh) (e3 : m ((c : Thread nD τ).loc main_arg3) = sc) :
    (dats m 0 c).arrAt 4 (cfgs 0).N = Cert.Reference20Ideal.Read.val_main_v27 (F := Ideal) x g sh sc := by
  refine (dats m 0 c).arrAt_eq_of_covers 4 _ (by decide +kernel) fun t _ y => ?_
  idx_vars y
  blk_simp
  rw [after0_4]
  frame_out
  have ht := lt_N t
  refine (block _ _ _ _ y0 y1).trans ?_
  refine Eq.trans ?_ ((reference x g sh sc ⟨t.val * 256 + y0.val, by omega⟩ y1).symm.trans ?_)
  · rw [gain m c g e1, shift m c sh e2, slope m c sc e3]
    have a : t.val / 8 = (t.val * 256 + y0.val) / 2048 := by omega
    simp only [rows m c x e0, a]
  · blk_ext [idx t]

end Cert.NormRows

end
-- ==== Proof.NormQueries.lean ====
/- The norm of the queries' compressed columns: the call's array against the reference's. -/
module

public import proofs.«01_k».proof.Proof.Gen.Kernel21Ideal.Value
public import proofs.«01_k».proof.Proof.Gen.Reference21Ideal.Read
public import Idealize.ShloMosaic.Lib.Pipeline.ValueKit

@[expose] public section

set_option maxRecDepth 16384

noncomputable section

namespace Cert.NormQueries

open Idealize.ShloMosaic Idealize.ShloMosaic.TcCoe Idealize.SL.Sem
open Idealize.ShloMosaic.Pipeline (Dat)
open Cert.Kernel21Ideal Cert.Kernel21Ideal.Gen

/-- One over the root of a row's mean square. -/
def scale (v : Fin 1024 → EReal) : EReal :=
  Ideal.rsqrt (Ideal.div (∑ k : Fin 1024, v k * v k) (Ideal.ofBits .f32 0x44800000#32) + Ideal.ofBits .f32 0x358637BD#32)

/-- One element of a row `v`, normed, times the gain. -/
def result (v : Fin 1024 → EReal) (g : EReal) (j : Fin 1024) : EReal :=
  v j * scale v * g

theorem reference_scale (x : FVec Ideal S8192x7680 .f32) (i : Fin 8192) :
    Cert.Reference21Ideal.Read.val_main_v8 (F := Ideal) x (ix2 i 0) = scale (fun k => x (ix2 i ⟨6144 + k.val, by omega⟩)) := by
  pointwise [Cert.Reference21Ideal.Read.val_main_v8, Cert.Reference21Ideal.Read.val_main_v7, Cert.Reference21Ideal.Read.val_main_v6, Cert.Reference21Ideal.Read.val_main_v5, Cert.Reference21Ideal.Read.val_main_v4, Cert.Reference21Ideal.Read.val_main_v3, Cert.Reference21Ideal.Read.val_main_v2, Cert.Reference21Ideal.Read.val_main_v1, Cert.Reference21Ideal.Read.val_main_v0, Cert.Reference21Ideal.Read.val_main_cst, Cert.Reference21Ideal.Read.val_main_cst_0, Cert.Reference21Ideal.Read.val_main_cst_1, scale]

theorem reference (x : FVec Ideal S8192x7680 .f32) (g : FVec Ideal S1024 .f32) (i : Fin 8192) (j : Fin 1024) :
    Cert.Reference21Ideal.Read.val_main_v14 (F := Ideal) x g (ix2 i j) = result (fun k => x (ix2 i ⟨6144 + k.val, by omega⟩)) (g (ix1 j)) j := by
  unfold result
  rw [← reference_scale]
  unfold Cert.Reference21Ideal.Read.val_main_v14 Cert.Reference21Ideal.Read.val_main_v13 Cert.Reference21Ideal.Read.val_main_v12 Cert.Reference21Ideal.Read.val_main_v11 Cert.Reference21Ideal.Read.val_main_v10 Cert.Reference21Ideal.Read.val_main_v9 Cert.Reference21Ideal.Read.val_main_v0
  generalize Cert.Reference21Ideal.Read.val_main_v8 (F := Ideal) x = z
  pointwise

theorem block (x : FVec Ideal S256x1024 .f32) (g : FVec Ideal S1x1024 .f32) (r : Fin 256) (d : Fin 1024) :
    k0_pay1 (F := Ideal) x g (ix2 r d) = result (fun k => x (ix2 r k)) (g (ix2 0 d)) d := by
  pointwise [k0_pay1, result, scale]

theorem idx : ∀ t : Fin cfg0.N, win0_0.index t = ![t.val, 6] ∧ win0_1.index t = ![0, 0] ∧ win0_2.index t = ![t.val, 0] :=
  (by decide +kernel : ∀ t : Fin grid0.N, _)

variable (m : (ℓ : Loc nD τ sig) → Buf (Elt Ideal) ℓ) (c : Dev nD)

theorem lt_N (t : Fin cfg0.N) : t.val < 32 := lt_of_lt_of_eq t.isLt (by decide)

theorem rows (x : FVec Ideal S8192x7680 .f32) (e : m ((c : Thread nD τ).loc main_arg0) = x) (t : Fin cfg0.N) (r : Fin 256) (k : Fin 1024) :
    X0_0 m c t (ix2 r k) = x (ix2 ⟨t.val * 256 + r.val, by have := lt_N t; omega⟩ ⟨6144 + k.val, by omega⟩) := by
  subst e
  unfold X0_0 Pipeline.Window.fill
  refine (dif_pos (moved0_0 t (ix2 r k))).trans ?_
  rw [← V_main_arg0 m c]
  unfold iblk
  blk_point [idx t]

theorem gain_eq : V m c main_v0 = (shapeCast S1x1024 (m ((c : Thread nD τ).loc main_arg1) : FVec Ideal S1024 .f32) shapeCasts_S1024_S1x1024 : FVec Ideal S1x1024 .f32) := by
  rfl

theorem flat (g : FVec Ideal S1024 .f32) (d : Fin 1024) :
    (shapeCast S1x1024 g shapeCasts_S1024_S1x1024 : FVec Ideal S1x1024 .f32) (ix2 0 d) = g (ix1 d) := by
  pointwise

theorem gain (g : FVec Ideal S1024 .f32) (e : m ((c : Thread nD τ).loc main_arg1) = g) (t : Fin cfg0.N) (d : Fin 1024) :
    iblk m c 1 t (ix2 0 d) = g (ix1 d) := by
  subst e
  refine Eq.trans (b := (V m c main_v0 : FVec Ideal S1x1024 .f32) (ix2 0 d)) ?_ ?_
  · unfold iblk
    blk_point [idx t]
  · exact (congrFun (gain_eq m c) _).trans (flat _ _)

/-- THE ARRAY: the result after the whole grid. -/
theorem final (x : FVec Ideal S8192x7680 .f32) (g : FVec Ideal S1024 .f32)
    (e0 : m ((c : Thread nD τ).loc main_arg0) = x) (e1 : m ((c : Thread nD τ).loc main_arg1) = g) :
    (dats m 0 c).arrAt 2 (cfgs 0).N = Cert.Reference21Ideal.Read.val_main_v14 (F := Ideal) x g := by
  refine (dats m 0 c).arrAt_eq_of_covers 2 _ (by decide +kernel) fun t _ y => ?_
  idx_vars y
  blk_simp
  rw [after0_2]
  unfold outsAt0
  frame_out
  have ht := lt_N t
  refine (block _ _ y0 y1).trans ?_
  refine Eq.trans ?_ ((reference x g ⟨t.val * 256 + y0.val, by omega⟩ y1).symm.trans ?_)
  · rw [gain m c g e1]
    simp only [rows m c x e0]
  · blk_ext [idx t]

end Cert.NormQueries

end
-- ==== Proof.NormKeys.lean ====
/- The norm of the keys' and values' compressed columns: the call's array against the reference's. -/
module

public import proofs.«01_k».proof.Proof.Gen.Kernel22Ideal.Value
public import proofs.«01_k».proof.Proof.Gen.Reference22Ideal.Read
public import Idealize.ShloMosaic.Lib.Pipeline.ValueKit

@[expose] public section

set_option maxRecDepth 16384

noncomputable section

namespace Cert.NormKeys

open Idealize.ShloMosaic Idealize.ShloMosaic.TcCoe Idealize.SL.Sem
open Idealize.ShloMosaic.Pipeline (Dat)
open Cert.Kernel22Ideal Cert.Kernel22Ideal.Gen

/-- One over the root of a row's mean square. -/
def scale (v : Fin 512 → EReal) : EReal :=
  Ideal.rsqrt (Ideal.div (∑ k : Fin 512, v k * v k) (Ideal.ofBits .f32 0x44000000#32) + Ideal.ofBits .f32 0x358637BD#32)

/-- One element of a row `v`, normed, times the gain. -/
def result (v : Fin 512 → EReal) (g : EReal) (j : Fin 512) : EReal :=
  v j * scale v * g

theorem reference_scale (x : FVec Ideal S8192x7680 .f32) (i : Fin 8192) :
    Cert.Reference22Ideal.Read.val_main_v8 (F := Ideal) x (ix2 i 0) = scale (fun k => x (ix2 i ⟨7168 + k.val, by omega⟩)) := by
  pointwise [Cert.Reference22Ideal.Read.val_main_v8, Cert.Reference22Ideal.Read.val_main_v7, Cert.Reference22Ideal.Read.val_main_v6, Cert.Reference22Ideal.Read.val_main_v5, Cert.Reference22Ideal.Read.val_main_v4, Cert.Reference22Ideal.Read.val_main_v3, Cert.Reference22Ideal.Read.val_main_v2, Cert.Reference22Ideal.Read.val_main_v1, Cert.Reference22Ideal.Read.val_main_v0, Cert.Reference22Ideal.Read.val_main_cst, Cert.Reference22Ideal.Read.val_main_cst_0, Cert.Reference22Ideal.Read.val_main_cst_1, scale]

theorem reference (x : FVec Ideal S8192x7680 .f32) (g : FVec Ideal S512 .f32) (i : Fin 8192) (j : Fin 512) :
    Cert.Reference22Ideal.Read.val_main_v14 (F := Ideal) x g (ix2 i j) = result (fun k => x (ix2 i ⟨7168 + k.val, by omega⟩)) (g (ix1 j)) j := by
  unfold result
  rw [← reference_scale]
  unfold Cert.Reference22Ideal.Read.val_main_v14 Cert.Reference22Ideal.Read.val_main_v13 Cert.Reference22Ideal.Read.val_main_v12 Cert.Reference22Ideal.Read.val_main_v11 Cert.Reference22Ideal.Read.val_main_v10 Cert.Reference22Ideal.Read.val_main_v9 Cert.Reference22Ideal.Read.val_main_v0
  generalize Cert.Reference22Ideal.Read.val_main_v8 (F := Ideal) x = z
  pointwise

theorem block (x : FVec Ideal S256x512 .f32) (g : FVec Ideal S1x512 .f32) (r : Fin 256) (d : Fin 512) :
    k0_pay1 (F := Ideal) x g (ix2 r d) = result (fun k => x (ix2 r k)) (g (ix2 0 d)) d := by
  pointwise [k0_pay1, result, scale]

theorem idx : ∀ t : Fin cfg0.N, win0_0.index t = ![t.val, 14] ∧ win0_1.index t = ![0, 0] ∧ win0_2.index t = ![t.val, 0] :=
  (by decide +kernel : ∀ t : Fin grid0.N, _)

variable (m : (ℓ : Loc nD τ sig) → Buf (Elt Ideal) ℓ) (c : Dev nD)

theorem lt_N (t : Fin cfg0.N) : t.val < 32 := lt_of_lt_of_eq t.isLt (by decide)

theorem rows (x : FVec Ideal S8192x7680 .f32) (e : m ((c : Thread nD τ).loc main_arg0) = x) (t : Fin cfg0.N) (r : Fin 256) (k : Fin 512) :
    iblk m c 0 t (ix2 r k) = x (ix2 ⟨t.val * 256 + r.val, by have := lt_N t; omega⟩ ⟨7168 + k.val, by omega⟩) := by
  subst e
  rw [← V_main_arg0 m c]
  unfold iblk
  blk_point [idx t]

theorem gain_eq : V m c main_v0 = (shapeCast S1x512 (m ((c : Thread nD τ).loc main_arg1) : FVec Ideal S512 .f32) shapeCasts_S512_S1x512 : FVec Ideal S1x512 .f32) := by
  rfl

theorem flat (g : FVec Ideal S512 .f32) (d : Fin 512) :
    (shapeCast S1x512 g shapeCasts_S512_S1x512 : FVec Ideal S1x512 .f32) (ix2 0 d) = g (ix1 d) := by
  pointwise

theorem gain (g : FVec Ideal S512 .f32) (e : m ((c : Thread nD τ).loc main_arg1) = g) (t : Fin cfg0.N) (d : Fin 512) :
    iblk m c 1 t (ix2 0 d) = g (ix1 d) := by
  subst e
  refine Eq.trans (b := (V m c main_v0 : FVec Ideal S1x512 .f32) (ix2 0 d)) ?_ ?_
  · unfold iblk
    blk_point [idx t]
  · exact (congrFun (gain_eq m c) _).trans (flat _ _)

/-- THE ARRAY: the result after the whole grid. -/
theorem final (x : FVec Ideal S8192x7680 .f32) (g : FVec Ideal S512 .f32)
    (e0 : m ((c : Thread nD τ).loc main_arg0) = x) (e1 : m ((c : Thread nD τ).loc main_arg1) = g) :
    (dats m 0 c).arrAt 2 (cfgs 0).N = Cert.Reference22Ideal.Read.val_main_v14 (F := Ideal) x g := by
  refine (dats m 0 c).arrAt_eq_of_covers 2 _ (by decide +kernel) fun t _ y => ?_
  idx_vars y
  blk_simp
  rw [after0_2]
  frame_out
  have ht := lt_N t
  refine (block _ _ y0 y1).trans ?_
  refine Eq.trans ?_ ((reference x g ⟨t.val * 256 + y0.val, by omega⟩ y1).symm.trans ?_)
  · rw [gain m c g e1]
    simp only [rows m c x e0]
  · blk_ext [idx t]

end Cert.NormKeys

end
-- ==== Proof.NormKeysContext.lean ====
/- The norm of the keys' and values' compressed columns, the context's rows: the call's array against the reference's. -/
module

public import proofs.«01_k».proof.Proof.Gen.Kernel23Ideal.Value
public import proofs.«01_k».proof.Proof.Gen.Reference23Ideal.Read
public import Idealize.ShloMosaic.Lib.Pipeline.ValueKit

@[expose] public section

set_option maxRecDepth 16384

noncomputable section

namespace Cert.NormKeysContext

open Idealize.ShloMosaic Idealize.ShloMosaic.TcCoe Idealize.SL.Sem
open Idealize.ShloMosaic.Pipeline (Dat)
open Cert.Kernel23Ideal Cert.Kernel23Ideal.Gen

/-- One over the root of a row's mean square. -/
def scale (v : Fin 512 → EReal) : EReal :=
  Ideal.rsqrt (Ideal.div (∑ k : Fin 512, v k * v k) (Ideal.ofBits .f32 0x44000000#32) + Ideal.ofBits .f32 0x358637BD#32)

/-- One element of a row `v`, normed, times the gain. -/
def result (v : Fin 512 → EReal) (g : EReal) (j : Fin 512) : EReal :=
  v j * scale v * g

theorem reference_scale (x : FVec Ideal S1024x7680 .f32) (i : Fin 1024) :
    Cert.Reference23Ideal.Read.val_main_v8 (F := Ideal) x (ix2 i 0) = scale (fun k => x (ix2 i ⟨7168 + k.val, by omega⟩)) := by
  pointwise [Cert.Reference23Ideal.Read.val_main_v8, Cert.Reference23Ideal.Read.val_main_v7, Cert.Reference23Ideal.Read.val_main_v6, Cert.Reference23Ideal.Read.val_main_v5, Cert.Reference23Ideal.Read.val_main_v4, Cert.Reference23Ideal.Read.val_main_v3, Cert.Reference23Ideal.Read.val_main_v2, Cert.Reference23Ideal.Read.val_main_v1, Cert.Reference23Ideal.Read.val_main_v0, Cert.Reference23Ideal.Read.val_main_cst, Cert.Reference23Ideal.Read.val_main_cst_0, Cert.Reference23Ideal.Read.val_main_cst_1, scale]

theorem reference (x : FVec Ideal S1024x7680 .f32) (g : FVec Ideal S512 .f32) (i : Fin 1024) (j : Fin 512) :
    Cert.Reference23Ideal.Read.val_main_v14 (F := Ideal) x g (ix2 i j) = result (fun k => x (ix2 i ⟨7168 + k.val, by omega⟩)) (g (ix1 j)) j := by
  unfold result
  rw [← reference_scale]
  unfold Cert.Reference23Ideal.Read.val_main_v14 Cert.Reference23Ideal.Read.val_main_v13 Cert.Reference23Ideal.Read.val_main_v12 Cert.Reference23Ideal.Read.val_main_v11 Cert.Reference23Ideal.Read.val_main_v10 Cert.Reference23Ideal.Read.val_main_v9 Cert.Reference23Ideal.Read.val_main_v0
  generalize Cert.Reference23Ideal.Read.val_main_v8 (F := Ideal) x = z
  pointwise

theorem block (x : FVec Ideal S256x512 .f32) (g : FVec Ideal S1x512 .f32) (r : Fin 256) (d : Fin 512) :
    k0_pay1 (F := Ideal) x g (ix2 r d) = result (fun k => x (ix2 r k)) (g (ix2 0 d)) d := by
  pointwise [k0_pay1, result, scale]

theorem idx : ∀ t : Fin cfg0.N, win0_0.index t = ![t.val, 14] ∧ win0_1.index t = ![0, 0] ∧ win0_2.index t = ![t.val, 0] :=
  (by decide +kernel : ∀ t : Fin grid0.N, _)

variable (m : (ℓ : Loc nD τ sig) → Buf (Elt Ideal) ℓ) (c : Dev nD)

theorem lt_N (t : Fin cfg0.N) : t.val < 4 := lt_of_lt_of_eq t.isLt (by decide)

theorem rows (x : FVec Ideal S1024x7680 .f32) (e : m ((c : Thread nD τ).loc main_arg0) = x) (t : Fin cfg0.N) (r : Fin 256) (k : Fin 512) :
    iblk m c 0 t (ix2 r k) = x (ix2 ⟨t.val * 256 + r.val, by have := lt_N t; omega⟩ ⟨7168 + k.val, by omega⟩) := by
  subst e
  rw [← V_main_arg0 m c]
  unfold iblk
  blk_point [idx t]

theorem gain_eq : V m c main_v0 = (shapeCast S1x512 (m ((c : Thread nD τ).loc main_arg1) : FVec Ideal S512 .f32) shapeCasts_S512_S1x512 : FVec Ideal S1x512 .f32) := by
  rfl

theorem flat (g : FVec Ideal S512 .f32) (d : Fin 512) :
    (shapeCast S1x512 g shapeCasts_S512_S1x512 : FVec Ideal S1x512 .f32) (ix2 0 d) = g (ix1 d) := by
  pointwise

theorem gain (g : FVec Ideal S512 .f32) (e : m ((c : Thread nD τ).loc main_arg1) = g) (t : Fin cfg0.N) (d : Fin 512) :
    iblk m c 1 t (ix2 0 d) = g (ix1 d) := by
  subst e
  refine Eq.trans (b := (V m c main_v0 : FVec Ideal S1x512 .f32) (ix2 0 d)) ?_ ?_
  · unfold iblk
    blk_point [idx t]
  · exact (congrFun (gain_eq m c) _).trans (flat _ _)

/-- THE ARRAY: the result after the whole grid. -/
theorem final (x : FVec Ideal S1024x7680 .f32) (g : FVec Ideal S512 .f32)
    (e0 : m ((c : Thread nD τ).loc main_arg0) = x) (e1 : m ((c : Thread nD τ).loc main_arg1) = g) :
    (dats m 0 c).arrAt 2 (cfgs 0).N = Cert.Reference23Ideal.Read.val_main_v14 (F := Ideal) x g := by
  refine (dats m 0 c).arrAt_eq_of_covers 2 _ (by decide +kernel) fun t _ y => ?_
  idx_vars y
  blk_simp
  rw [after0_2]
  frame_out
  have ht := lt_N t
  refine (block _ _ y0 y1).trans ?_
  refine Eq.trans ?_ ((reference x g ⟨t.val * 256 + y0.val, by omega⟩ y1).symm.trans ?_)
  · rw [gain m c g e1]
    simp only [rows m c x e0]
  · blk_ext [idx t]

end Cert.NormKeysContext

end
-- ==== Proof.ShortConv.lean ====
/- The short convolution over the latents' positions: the call's array, whose neighbours come from a rotation with the ends masked,
   against the reference's, whose neighbours come from rows of zeros joined on. -/
module

public import proofs.«01_k».proof.Proof.Gen.Kernel24Ideal.Value
public import proofs.«01_k».proof.Proof.Gen.Reference24Ideal.Read
public import Idealize.ShloMosaic.Lib.Pipeline.ValueKit

@[expose] public section

set_option maxRecDepth 16384

noncomputable section

namespace Cert.ShortConv

open Idealize.ShloMosaic Idealize.ShloMosaic.TcCoe Idealize.SL.Sem
open Idealize.ShloMosaic.Pipeline (Dat)
open Cert.Kernel24Ideal Cert.Kernel24Ideal.Gen

/-- The position before, zero at the first. -/
def before (u : Fin 2048 → EReal) (p : Fin 2048) : EReal :=
  if p.val = 0 then 0 else u ⟨p.val - 1, by omega⟩

/-- The position after, zero at the last. -/
def after (u : Fin 2048 → EReal) (p : Fin 2048) : EReal :=
  if h : p.val = 2047 then 0 else u ⟨p.val + 1, by omega⟩

/-- The three taps at one position of a channel, and the bias. -/
def taps (u : Fin 2048 → EReal) (w0 w1 w2 b : EReal) (p : Fin 2048) : EReal :=
  w0 * before u p + w1 * u p + w2 * after u p + b

/-- Batch `b`'s channel `j` at position `p`. -/
theorem channel (x : FVec Ideal S8192x8192 .bf16) (b : Fin 4) (p : Fin 2048) (j : Fin 6144) :
    Cert.Reference24Ideal.Read.val_main_v2 (F := Ideal) x (ix3 b p j) = x (ix2 ⟨b.val * 2048 + p.val, by omega⟩ ⟨2048 + j.val, by omega⟩) := by
  pointwise [Cert.Reference24Ideal.Read.val_main_v2, Cert.Reference24Ideal.Read.val_main_v1, Cert.Reference24Ideal.Read.val_main_v0]

theorem reference_before (x : FVec Ideal S8192x8192 .bf16) (b : Fin 4) (p : Fin 2048) (j : Fin 6144) :
    Cert.Reference24Ideal.Read.val_main_v5 (F := Ideal) x (ix3 b p j) = before (fun p => Cert.Reference24Ideal.Read.val_main_v2 (F := Ideal) x (ix3 b p j)) p := by
  unfold Cert.Reference24Ideal.Read.val_main_v5 Cert.Reference24Ideal.Read.val_main_v4 before
  generalize Cert.Reference24Ideal.Read.val_main_v2 (F := Ideal) x = z
  by_cases h : p.val = 0
  · rw [if_pos h]
    obtain rfl : p = 0 := Fin.ext h
    pointwise [Cert.Reference24Ideal.Read.val_main_v3, Cert.Reference24Ideal.Read.val_main_cst]
  · rw [if_neg h]
    pointwise [Cert.Reference24Ideal.Read.val_main_v3, Cert.Reference24Ideal.Read.val_main_cst]
    rw [dif_neg (by omega)]

theorem reference_after (x : FVec Ideal S8192x8192 .bf16) (b : Fin 4) (p : Fin 2048) (j : Fin 6144) :
    Cert.Reference24Ideal.Read.val_main_v7 (F := Ideal) x (ix3 b p j) = after (fun p => Cert.Reference24Ideal.Read.val_main_v2 (F := Ideal) x (ix3 b p j)) p := by
  unfold Cert.Reference24Ideal.Read.val_main_v7 Cert.Reference24Ideal.Read.val_main_v6 after
  generalize Cert.Reference24Ideal.Read.val_main_v2 (F := Ideal) x = z
  by_cases h : p.val = 2047
  · rw [dif_pos h]
    obtain rfl : p = 2047 := Fin.ext h
    pointwise [Cert.Reference24Ideal.Read.val_main_v3, Cert.Reference24Ideal.Read.val_main_cst]
  · rw [dif_neg h]
    have h' : p.val < 2047 := by omega
    pointwise [Cert.Reference24Ideal.Read.val_main_v3, Cert.Reference24Ideal.Read.val_main_cst]
    rw [dif_pos h']
    exact congrArg (fun q : Fin 2048 => z (ix3 b q j)) (Fin.ext (Nat.add_comm 1 p.val))

theorem reference (x : FVec Ideal S8192x8192 .bf16) (w : FVec Ideal S3x6144 .f32) (v : FVec Ideal S6144 .f32) (b : Fin 4) (p : Fin 2048) (j : Fin 6144) :
    Cert.Reference24Ideal.Read.val_main_v29 (F := Ideal) x w v (ix2 ⟨b.val * 2048 + p.val, by omega⟩ j)
      = taps (fun p => x (ix2 ⟨b.val * 2048 + p.val, by omega⟩ ⟨2048 + j.val, by omega⟩)) (w (ix2 0 j)) (w (ix2 1 j)) (w (ix2 2 j)) (v (ix1 j)) p := by
  simp only [← channel]
  unfold taps
  rw [← reference_before, ← reference_after]
  unfold Cert.Reference24Ideal.Read.val_main_v29 Cert.Reference24Ideal.Read.val_main_v28 Cert.Reference24Ideal.Read.val_main_v27 Cert.Reference24Ideal.Read.val_main_v26 Cert.Reference24Ideal.Read.val_main_v25 Cert.Reference24Ideal.Read.val_main_v24 Cert.Reference24Ideal.Read.val_main_v23 Cert.Reference24Ideal.Read.val_main_v22 Cert.Reference24Ideal.Read.val_main_v21 Cert.Reference24Ideal.Read.val_main_v20 Cert.Reference24Ideal.Read.val_main_v19 Cert.Reference24Ideal.Read.val_main_v18 Cert.Reference24Ideal.Read.val_main_v17 Cert.Reference24Ideal.Read.val_main_v16 Cert.Reference24Ideal.Read.val_main_v15 Cert.Reference24Ideal.Read.val_main_v14 Cert.Reference24Ideal.Read.val_main_v13 Cert.Reference24Ideal.Read.val_main_v12 Cert.Reference24Ideal.Read.val_main_v11 Cert.Reference24Ideal.Read.val_main_v10 Cert.Reference24Ideal.Read.val_main_v9 Cert.Reference24Ideal.Read.val_main_v8
  generalize Cert.Reference24Ideal.Read.val_main_v2 (F := Ideal) x = z
  generalize Cert.Reference24Ideal.Read.val_main_v5 (F := Ideal) x = z0
  generalize Cert.Reference24Ideal.Read.val_main_v7 (F := Ideal) x = z1
  pointwise

theorem pick (p n : Nat) (hp : p < 2 ^ 32) (hn : n < 2 ^ 32) (a b : EReal) :
    Scalar.select (IntOp.cmpi .eq (BitVec.ofNat 32 p) (BitVec.ofNat 32 n)) a b = if p = n then a else b := by
  unfold Scalar.select
  exact if_congr (WordCmp.cmpi_eq_ofNat_eq_one_iff hp hn) rfl rfl

theorem block (x : FVec Ideal S2048x512 .bf16) (w : FVec Ideal S3x512 .f32) (v : FVec Ideal S1x512 .f32) (p : Fin 2048) (d : Fin 512) :
    k0_pay1 (F := Ideal) x w v (ix2 p d)
      = taps (fun p => x (ix2 p d)) (w (ix2 0 d)) (w (ix2 1 d)) (w (ix2 2 d)) (v (ix2 0 d)) p := by
  pointwise [k0_pay1, taps, before, after]
  rw [pick _ _ (by omega) (by omega), pick _ _ (by omega) (by omega)]
  refine congrArg₂ (· + ·) (congrArg₂ (· + ·) (congrArg₂ (· + ·) ?_ rfl) ?_) rfl
  · by_cases h : p.val = 0
    · rw [if_pos h, if_pos h, mul_zero]
    · rw [if_neg h, if_neg h]
      exact congrArg (fun q : Fin 2048 => w (ix2 0 d) * x (ix2 q d)) (Fin.ext (by show (p.val + 2048 - 1) % 2048 = p.val - 1; omega))
  · by_cases h : p.val = 2047
    · rw [if_pos h, dif_pos h, mul_zero]
    · rw [if_neg h, dif_neg h]
      exact congrArg (fun q : Fin 2048 => w (ix2 2 d) * x (ix2 q d)) (Fin.ext (by show (p.val + 2048 - 2047) % 2048 = p.val + 1; omega))

theorem idx : ∀ t : Fin cfg0.N, win0_0.index t = ![t.val / 12, t.val % 12 + 4] ∧ win0_1.index t = ![0, t.val % 12]
    ∧ win0_2.index t = ![0, t.val % 12] ∧ win0_3.index t = ![t.val / 12, t.val % 12] :=
  (by decide +kernel : ∀ t : Fin grid0.N, _)

variable (m : (ℓ : Loc nD τ sig) → Buf (Elt Ideal) ℓ) (c : Dev nD)

theorem lt_N (t : Fin cfg0.N) : t.val < 48 := lt_of_lt_of_eq t.isLt (by decide)

theorem positions (x : FVec Ideal S8192x8192 .bf16) (e : m ((c : Thread nD τ).loc main_arg0) = x) (t : Fin cfg0.N) (p : Fin 2048) (d : Fin 512) :
    iblk m c 0 t (ix2 p d) = x (ix2 ⟨t.val / 12 * 2048 + p.val, by have := lt_N t; omega⟩ ⟨2048 + (t.val % 12 * 512 + d.val), by omega⟩) := by
  subst e
  rw [← V_main_arg0 m c]
  unfold iblk
  blk_point [idx t]

theorem weights (w : FVec Ideal S3x6144 .f32) (e : m ((c : Thread nD τ).loc main_arg1) = w) (t : Fin cfg0.N) (k : Fin 3) (d : Fin 512) :
    iblk m c 1 t (ix2 k d) = w (ix2 k ⟨t.val % 12 * 512 + d.val, by omega⟩) := by
  subst e
  rw [← V_main_arg1 m c]
  unfold iblk
  blk_point [idx t]

theorem bias_eq : V m c main_v0 = (shapeCast S1x6144 (m ((c : Thread nD τ).loc main_arg2) : FVec Ideal S6144 .f32) shapeCasts_S6144_S1x6144 : FVec Ideal S1x6144 .f32) := by
  rfl

theorem flat (v : FVec Ideal S6144 .f32) (d : Fin 6144) :
    (shapeCast S1x6144 v shapeCasts_S6144_S1x6144 : FVec Ideal S1x6144 .f32) (ix2 0 d) = v (ix1 d) := by
  pointwise

theorem bias (v : FVec Ideal S6144 .f32) (e : m ((c : Thread nD τ).loc main_arg2) = v) (t : Fin cfg0.N) (d : Fin 512) :
    iblk m c 2 t (ix2 0 d) = v (ix1 ⟨t.val % 12 * 512 + d.val, by omega⟩) := by
  subst e
  refine Eq.trans (b := (V m c main_v0 : FVec Ideal S1x6144 .f32) (ix2 0 ⟨t.val % 12 * 512 + d.val, by omega⟩)) ?_ ?_
  · unfold iblk
    blk_point [idx t]
  · exact (congrFun (bias_eq m c) _).trans (flat _ _)

/-- THE ARRAY: the result after the whole grid. -/
theorem final (x : FVec Ideal S8192x8192 .bf16) (w : FVec Ideal S3x6144 .f32) (v : FVec Ideal S6144 .f32)
    (e0 : m ((c : Thread nD τ).loc main_arg0) = x) (e1 : m ((c : Thread nD τ).loc main_arg1) = w)
    (e2 : m ((c : Thread nD τ).loc main_arg2) = v) :
    (dats m 0 c).arrAt 3 (cfgs 0).N = Cert.Reference24Ideal.Read.val_main_v29 (F := Ideal) x w v := by
  refine (dats m 0 c).arrAt_eq_of_covers 3 _ (by decide +kernel) fun t _ y => ?_
  idx_vars y
  blk_simp
  rw [after0_3]
  frame_out
  have ht := lt_N t
  refine (block _ _ _ y0 y1).trans ?_
  refine Eq.trans ?_ ((reference x w v ⟨t.val / 12, by omega⟩ y0 ⟨t.val % 12 * 512 + y1.val, by omega⟩).symm.trans ?_)
  · rw [bias m c v e2, weights m c w e1, weights m c w e1, weights m c w e1]
    simp only [positions m c x e0]
  · blk_ext [idx t]

end Cert.ShortConv

end
-- ==== Proof.ShortConvContext.lean ====
/- The short convolution over the context's positions: the call's array, whose neighbours come from a rotation with the ends masked,
   against the reference's, whose neighbours come from rows of zeros joined on. -/
module

public import proofs.«01_k».proof.Proof.Gen.Kernel25Ideal.Value
public import proofs.«01_k».proof.Proof.Gen.Reference25Ideal.Read
public import Idealize.ShloMosaic.Lib.Pipeline.ValueKit

@[expose] public section

set_option maxRecDepth 16384

noncomputable section

namespace Cert.ShortConvContext

open Idealize.ShloMosaic Idealize.ShloMosaic.TcCoe Idealize.SL.Sem
open Idealize.ShloMosaic.Pipeline (Dat)
open Cert.Kernel25Ideal Cert.Kernel25Ideal.Gen

/-- The position before, zero at the first. -/
def before (u : Fin 256 → EReal) (p : Fin 256) : EReal :=
  if p.val = 0 then 0 else u ⟨p.val - 1, by omega⟩

/-- The position after, zero at the last. -/
def after (u : Fin 256 → EReal) (p : Fin 256) : EReal :=
  if h : p.val = 255 then 0 else u ⟨p.val + 1, by omega⟩

/-- The three taps at one position of a channel, and the bias. -/
def taps (u : Fin 256 → EReal) (w0 w1 w2 b : EReal) (p : Fin 256) : EReal :=
  w0 * before u p + w1 * u p + w2 * after u p + b

/-- Batch `b`'s channel `j` at position `p`. -/
theorem channel (x : FVec Ideal S1024x8192 .bf16) (b : Fin 4) (p : Fin 256) (j : Fin 6144) :
    Cert.Reference25Ideal.Read.val_main_v2 (F := Ideal) x (ix3 b p j) = x (ix2 ⟨b.val * 256 + p.val, by omega⟩ ⟨2048 + j.val, by omega⟩) := by
  pointwise [Cert.Reference25Ideal.Read.val_main_v2, Cert.Reference25Ideal.Read.val_main_v1, Cert.Reference25Ideal.Read.val_main_v0]

theorem reference_before (x : FVec Ideal S1024x8192 .bf16) (b : Fin 4) (p : Fin 256) (j : Fin 6144) :
    Cert.Reference25Ideal.Read.val_main_v5 (F := Ideal) x (ix3 b p j) = before (fun p => Cert.Reference25Ideal.Read.val_main_v2 (F := Ideal) x (ix3 b p j)) p := by
  unfold Cert.Reference25Ideal.Read.val_main_v5 Cert.Reference25Ideal.Read.val_main_v4 before
  generalize Cert.Reference25Ideal.Read.val_main_v2 (F := Ideal) x = z
  by_cases h : p.val = 0
  · rw [if_pos h]
    obtain rfl : p = 0 := Fin.ext h
    pointwise [Cert.Reference25Ideal.Read.val_main_v3, Cert.Reference25Ideal.Read.val_main_cst]
  · rw [if_neg h]
    pointwise [Cert.Reference25Ideal.Read.val_main_v3, Cert.Reference25Ideal.Read.val_main_cst]
    rw [dif_neg (by omega)]

theorem reference_after (x : FVec Ideal S1024x8192 .bf16) (b : Fin 4) (p : Fin 256) (j : Fin 6144) :
    Cert.Reference25Ideal.Read.val_main_v7 (F := Ideal) x (ix3 b p j) = after (fun p => Cert.Reference25Ideal.Read.val_main_v2 (F := Ideal) x (ix3 b p j)) p := by
  unfold Cert.Reference25Ideal.Read.val_main_v7 Cert.Reference25Ideal.Read.val_main_v6 after
  generalize Cert.Reference25Ideal.Read.val_main_v2 (F := Ideal) x = z
  by_cases h : p.val = 255
  · rw [dif_pos h]
    obtain rfl : p = 255 := Fin.ext h
    pointwise [Cert.Reference25Ideal.Read.val_main_v3, Cert.Reference25Ideal.Read.val_main_cst]
  · rw [dif_neg h]
    have h' : p.val < 255 := by omega
    pointwise [Cert.Reference25Ideal.Read.val_main_v3, Cert.Reference25Ideal.Read.val_main_cst]
    rw [dif_pos h']
    exact congrArg (fun q : Fin 256 => z (ix3 b q j)) (Fin.ext (Nat.add_comm 1 p.val))

theorem reference (x : FVec Ideal S1024x8192 .bf16) (w : FVec Ideal S3x6144 .f32) (v : FVec Ideal S6144 .f32) (b : Fin 4) (p : Fin 256) (j : Fin 6144) :
    Cert.Reference25Ideal.Read.val_main_v29 (F := Ideal) x w v (ix2 ⟨b.val * 256 + p.val, by omega⟩ j)
      = taps (fun p => x (ix2 ⟨b.val * 256 + p.val, by omega⟩ ⟨2048 + j.val, by omega⟩)) (w (ix2 0 j)) (w (ix2 1 j)) (w (ix2 2 j)) (v (ix1 j)) p := by
  simp only [← channel]
  unfold taps
  rw [← reference_before, ← reference_after]
  unfold Cert.Reference25Ideal.Read.val_main_v29 Cert.Reference25Ideal.Read.val_main_v28 Cert.Reference25Ideal.Read.val_main_v27 Cert.Reference25Ideal.Read.val_main_v26 Cert.Reference25Ideal.Read.val_main_v25 Cert.Reference25Ideal.Read.val_main_v24 Cert.Reference25Ideal.Read.val_main_v23 Cert.Reference25Ideal.Read.val_main_v22 Cert.Reference25Ideal.Read.val_main_v21 Cert.Reference25Ideal.Read.val_main_v20 Cert.Reference25Ideal.Read.val_main_v19 Cert.Reference25Ideal.Read.val_main_v18 Cert.Reference25Ideal.Read.val_main_v17 Cert.Reference25Ideal.Read.val_main_v16 Cert.Reference25Ideal.Read.val_main_v15 Cert.Reference25Ideal.Read.val_main_v14 Cert.Reference25Ideal.Read.val_main_v13 Cert.Reference25Ideal.Read.val_main_v12 Cert.Reference25Ideal.Read.val_main_v11 Cert.Reference25Ideal.Read.val_main_v10 Cert.Reference25Ideal.Read.val_main_v9 Cert.Reference25Ideal.Read.val_main_v8
  generalize Cert.Reference25Ideal.Read.val_main_v2 (F := Ideal) x = z
  generalize Cert.Reference25Ideal.Read.val_main_v5 (F := Ideal) x = z0
  generalize Cert.Reference25Ideal.Read.val_main_v7 (F := Ideal) x = z1
  pointwise

theorem pick (p n : Nat) (hp : p < 2 ^ 32) (hn : n < 2 ^ 32) (a b : EReal) :
    Scalar.select (IntOp.cmpi .eq (BitVec.ofNat 32 p) (BitVec.ofNat 32 n)) a b = if p = n then a else b := by
  unfold Scalar.select
  exact if_congr (WordCmp.cmpi_eq_ofNat_eq_one_iff hp hn) rfl rfl

theorem block (x : FVec Ideal S256x512 .bf16) (w : FVec Ideal S3x512 .f32) (v : FVec Ideal S1x512 .f32) (p : Fin 256) (d : Fin 512) :
    k0_pay1 (F := Ideal) x w v (ix2 p d)
      = taps (fun p => x (ix2 p d)) (w (ix2 0 d)) (w (ix2 1 d)) (w (ix2 2 d)) (v (ix2 0 d)) p := by
  pointwise [k0_pay1, taps, before, after]
  rw [pick _ _ (by omega) (by omega), pick _ _ (by omega) (by omega)]
  refine congrArg₂ (· + ·) (congrArg₂ (· + ·) (congrArg₂ (· + ·) ?_ rfl) ?_) rfl
  · by_cases h : p.val = 0
    · rw [if_pos h, if_pos h, mul_zero]
    · rw [if_neg h, if_neg h]
      exact congrArg (fun q : Fin 256 => w (ix2 0 d) * x (ix2 q d)) (Fin.ext (by show (p.val + 256 - 1) % 256 = p.val - 1; omega))
  · by_cases h : p.val = 255
    · rw [if_pos h, dif_pos h, mul_zero]
    · rw [if_neg h, dif_neg h]
      exact congrArg (fun q : Fin 256 => w (ix2 2 d) * x (ix2 q d)) (Fin.ext (by show (p.val + 256 - 255) % 256 = p.val + 1; omega))

theorem idx : ∀ t : Fin cfg0.N, win0_0.index t = ![t.val / 12, t.val % 12 + 4] ∧ win0_1.index t = ![0, t.val % 12]
    ∧ win0_2.index t = ![0, t.val % 12] ∧ win0_3.index t = ![t.val / 12, t.val % 12] :=
  (by decide +kernel : ∀ t : Fin grid0.N, _)

variable (m : (ℓ : Loc nD τ sig) → Buf (Elt Ideal) ℓ) (c : Dev nD)

theorem lt_N (t : Fin cfg0.N) : t.val < 48 := lt_of_lt_of_eq t.isLt (by decide)

theorem positions (x : FVec Ideal S1024x8192 .bf16) (e : m ((c : Thread nD τ).loc main_arg0) = x) (t : Fin cfg0.N) (p : Fin 256) (d : Fin 512) :
    iblk m c 0 t (ix2 p d) = x (ix2 ⟨t.val / 12 * 256 + p.val, by have := lt_N t; omega⟩ ⟨2048 + (t.val % 12 * 512 + d.val), by omega⟩) := by
  subst e
  rw [← V_main_arg0 m c]
  unfold iblk
  blk_point [idx t]

theorem weights (w : FVec Ideal S3x6144 .f32) (e : m ((c : Thread nD τ).loc main_arg1) = w) (t : Fin cfg0.N) (k : Fin 3) (d : Fin 512) :
    iblk m c 1 t (ix2 k d) = w (ix2 k ⟨t.val % 12 * 512 + d.val, by omega⟩) := by
  subst e
  rw [← V_main_arg1 m c]
  unfold iblk
  blk_point [idx t]

theorem bias_eq : V m c main_v0 = (shapeCast S1x6144 (m ((c : Thread nD τ).loc main_arg2) : FVec Ideal S6144 .f32) shapeCasts_S6144_S1x6144 : FVec Ideal S1x6144 .f32) := by
  rfl

theorem flat (v : FVec Ideal S6144 .f32) (d : Fin 6144) :
    (shapeCast S1x6144 v shapeCasts_S6144_S1x6144 : FVec Ideal S1x6144 .f32) (ix2 0 d) = v (ix1 d) := by
  pointwise

theorem bias (v : FVec Ideal S6144 .f32) (e : m ((c : Thread nD τ).loc main_arg2) = v) (t : Fin cfg0.N) (d : Fin 512) :
    iblk m c 2 t (ix2 0 d) = v (ix1 ⟨t.val % 12 * 512 + d.val, by omega⟩) := by
  subst e
  refine Eq.trans (b := (V m c main_v0 : FVec Ideal S1x6144 .f32) (ix2 0 ⟨t.val % 12 * 512 + d.val, by omega⟩)) ?_ ?_
  · unfold iblk
    blk_point [idx t]
  · exact (congrFun (bias_eq m c) _).trans (flat _ _)

/-- THE ARRAY: the result after the whole grid. -/
theorem final (x : FVec Ideal S1024x8192 .bf16) (w : FVec Ideal S3x6144 .f32) (v : FVec Ideal S6144 .f32)
    (e0 : m ((c : Thread nD τ).loc main_arg0) = x) (e1 : m ((c : Thread nD τ).loc main_arg1) = w)
    (e2 : m ((c : Thread nD τ).loc main_arg2) = v) :
    (dats m 0 c).arrAt 3 (cfgs 0).N = Cert.Reference25Ideal.Read.val_main_v29 (F := Ideal) x w v := by
  refine (dats m 0 c).arrAt_eq_of_covers 3 _ (by decide +kernel) fun t _ y => ?_
  idx_vars y
  blk_simp
  rw [after0_3]
  frame_out
  have ht := lt_N t
  refine (block _ _ _ y0 y1).trans ?_
  refine Eq.trans ?_ ((reference x w v ⟨t.val / 12, by omega⟩ y0 ⟨t.val % 12 * 512 + y1.val, by omega⟩).symm.trans ?_)
  · rw [bias m c v e2, weights m c w e1, weights m c w e1, weights m c w e1]
    simp only [positions m c x e0]
  · blk_ext [idx t]

end Cert.ShortConvContext

end
-- ==== Proof.lean ====
module

public import proofs.«01_k».proof.Defs
public import proofs.«01_k».proof.Proof.Gen.Kernel
public import proofs.«01_k».proof.Proof.Gen.Kernel.Frame
public import proofs.«01_k».proof.Proof.Gen.KernelIdeal
public import proofs.«01_k».proof.Proof.Gen.KernelIdeal.Frame
public import proofs.«01_k».proof.Proof.Gen.KernelIdeal.Value
public import proofs.«01_k».proof.Proof.Gen.ReferenceIdeal
public import proofs.«01_k».proof.Proof.Gen.ReferenceIdeal.Run
public import proofs.«01_k».proof.Proof.Gen.ReferenceIdeal.Read
public import proofs.«01_k».proof.Proof.Gen.Pre_finite
public import proofs.«01_k».proof.Proof.Gen.Kernel2
public import proofs.«01_k».proof.Proof.Gen.Kernel2.Frame
public import proofs.«01_k».proof.Proof.Gen.Kernel2Ideal
public import proofs.«01_k».proof.Proof.Gen.Kernel2Ideal.Frame
public import proofs.«01_k».proof.Proof.Gen.Kernel2Ideal.Value
public import proofs.«01_k».proof.Proof.Gen.Reference2Ideal
public import proofs.«01_k».proof.Proof.Gen.Reference2Ideal.Run
public import proofs.«01_k».proof.Proof.Gen.Reference2Ideal.Read
public import proofs.«01_k».proof.Proof.Gen.Kernel3
public import proofs.«01_k».proof.Proof.Gen.Kernel3.Frame
public import proofs.«01_k».proof.Proof.Gen.Kernel3Ideal
public import proofs.«01_k».proof.Proof.Gen.Kernel3Ideal.Frame
public import proofs.«01_k».proof.Proof.Gen.Kernel3Ideal.Value
public import proofs.«01_k».proof.Proof.Gen.Reference3Ideal
public import proofs.«01_k».proof.Proof.Gen.Reference3Ideal.Run
public import proofs.«01_k».proof.Proof.Gen.Reference3Ideal.Read
public import proofs.«01_k».proof.Proof.Gen.Kernel4
public import proofs.«01_k».proof.Proof.Gen.Kernel4.Frame
public import proofs.«01_k».proof.Proof.Gen.Kernel4Ideal
public import proofs.«01_k».proof.Proof.Gen.Kernel4Ideal.Frame
public import proofs.«01_k».proof.Proof.Gen.Kernel4Ideal.Value
public import proofs.«01_k».proof.Proof.Gen.Reference4Ideal
public import proofs.«01_k».proof.Proof.Gen.Reference4Ideal.Run
public import proofs.«01_k».proof.Proof.Gen.Reference4Ideal.Read
public import proofs.«01_k».proof.Proof.Gen.Kernel5
public import proofs.«01_k».proof.Proof.Gen.Kernel5.Frame
public import proofs.«01_k».proof.Proof.Gen.Kernel5Ideal
public import proofs.«01_k».proof.Proof.Gen.Kernel5Ideal.Frame
public import proofs.«01_k».proof.Proof.Gen.Kernel5Ideal.Value
public import proofs.«01_k».proof.Proof.Gen.Reference5Ideal
public import proofs.«01_k».proof.Proof.Gen.Reference5Ideal.Run
public import proofs.«01_k».proof.Proof.Gen.Reference5Ideal.Read
public import proofs.«01_k».proof.Proof.Gen.Kernel6
public import proofs.«01_k».proof.Proof.Gen.Kernel6.Frame
public import proofs.«01_k».proof.Proof.Gen.Kernel6Ideal
public import proofs.«01_k».proof.Proof.Gen.Kernel6Ideal.Frame
public import proofs.«01_k».proof.Proof.Gen.Kernel6Ideal.Value
public import proofs.«01_k».proof.Proof.Gen.Reference6Ideal
public import proofs.«01_k».proof.Proof.Gen.Reference6Ideal.Run
public import proofs.«01_k».proof.Proof.Gen.Reference6Ideal.Read
public import proofs.«01_k».proof.Proof.Gen.Kernel7
public import proofs.«01_k».proof.Proof.Gen.Kernel7.Frame
public import proofs.«01_k».proof.Proof.Gen.Kernel7Ideal
public import proofs.«01_k».proof.Proof.Gen.Kernel7Ideal.Frame
public import proofs.«01_k».proof.Proof.Gen.Kernel7Ideal.Value
public import proofs.«01_k».proof.Proof.Gen.Reference7Ideal
public import proofs.«01_k».proof.Proof.Gen.Reference7Ideal.Run
public import proofs.«01_k».proof.Proof.Gen.Reference7Ideal.Read
public import proofs.«01_k».proof.Proof.Gen.Kernel8
public import proofs.«01_k».proof.Proof.Gen.Kernel8.Frame
public import proofs.«01_k».proof.Proof.Gen.Kernel8Ideal
public import proofs.«01_k».proof.Proof.Gen.Kernel8Ideal.Frame
public import proofs.«01_k».proof.Proof.Gen.Reference8Ideal
public import proofs.«01_k».proof.Proof.Gen.Reference8Ideal.Run
public import proofs.«01_k».proof.Proof.Gen.Reference8Ideal.Read
public import proofs.«01_k».proof.Proof.Gen.Kernel9
public import proofs.«01_k».proof.Proof.Gen.Kernel9.Frame
public import proofs.«01_k».proof.Proof.Gen.Kernel9Ideal
public import proofs.«01_k».proof.Proof.Gen.Kernel9Ideal.Frame
public import proofs.«01_k».proof.Proof.Gen.Kernel9Ideal.Value
public import proofs.«01_k».proof.Proof.Gen.Reference9Ideal
public import proofs.«01_k».proof.Proof.Gen.Reference9Ideal.Run
public import proofs.«01_k».proof.Proof.Gen.Reference9Ideal.Read
public import proofs.«01_k».proof.Proof.Gen.Kernel10
public import proofs.«01_k».proof.Proof.Gen.Kernel10.Frame
public import proofs.«01_k».proof.Proof.Gen.Kernel10Ideal
public import proofs.«01_k».proof.Proof.Gen.Kernel10Ideal.Frame
public import proofs.«01_k».proof.Proof.Gen.Kernel10Ideal.Value
public import proofs.«01_k».proof.Proof.Gen.Reference10Ideal
public import proofs.«01_k».proof.Proof.Gen.Reference10Ideal.Run
public import proofs.«01_k».proof.Proof.Gen.Reference10Ideal.Read
public import proofs.«01_k».proof.Proof.Gen.Kernel11
public import proofs.«01_k».proof.Proof.Gen.Kernel11.Frame
public import proofs.«01_k».proof.Proof.Gen.Kernel11Ideal
public import proofs.«01_k».proof.Proof.Gen.Kernel11Ideal.Frame
public import proofs.«01_k».proof.Proof.Gen.Kernel11Ideal.Value
public import proofs.«01_k».proof.Proof.Gen.Reference11Ideal
public import proofs.«01_k».proof.Proof.Gen.Reference11Ideal.Run
public import proofs.«01_k».proof.Proof.Gen.Reference11Ideal.Read
public import proofs.«01_k».proof.Proof.Gen.Kernel12
public import proofs.«01_k».proof.Proof.Gen.Kernel12.Frame
public import proofs.«01_k».proof.Proof.Gen.Kernel12Ideal
public import proofs.«01_k».proof.Proof.Gen.Kernel12Ideal.Frame
public import proofs.«01_k».proof.Proof.Gen.Kernel12Ideal.Value
public import proofs.«01_k».proof.Proof.Gen.Reference12Ideal
public import proofs.«01_k».proof.Proof.Gen.Reference12Ideal.Run
public import proofs.«01_k».proof.Proof.Gen.Reference12Ideal.Read
public import proofs.«01_k».proof.Proof.Gen.Kernel13
public import proofs.«01_k».proof.Proof.Gen.Kernel13.Frame
public import proofs.«01_k».proof.Proof.Gen.Kernel13Ideal
public import proofs.«01_k».proof.Proof.Gen.Kernel13Ideal.Frame
public import proofs.«01_k».proof.Proof.Gen.Kernel13Ideal.Value
public import proofs.«01_k».proof.Proof.Gen.Reference13Ideal
public import proofs.«01_k».proof.Proof.Gen.Reference13Ideal.Run
public import proofs.«01_k».proof.Proof.Gen.Reference13Ideal.Read
public import proofs.«01_k».proof.Proof.Gen.Kernel14
public import proofs.«01_k».proof.Proof.Gen.Kernel14.Frame
public import proofs.«01_k».proof.Proof.Gen.Kernel14Ideal
public import proofs.«01_k».proof.Proof.Gen.Kernel14Ideal.Frame
public import proofs.«01_k».proof.Proof.Gen.Reference14Ideal
public import proofs.«01_k».proof.Proof.Gen.Reference14Ideal.Run
public import proofs.«01_k».proof.Proof.Gen.Reference14Ideal.Read
public import proofs.«01_k».proof.Proof.Gen.Kernel15
public import proofs.«01_k».proof.Proof.Gen.Kernel15.Frame
public import proofs.«01_k».proof.Proof.Gen.Kernel15Ideal
public import proofs.«01_k».proof.Proof.Gen.Kernel15Ideal.Frame
public import proofs.«01_k».proof.Proof.Gen.Kernel15Ideal.Value
public import proofs.«01_k».proof.Proof.Gen.Reference15Ideal
public import proofs.«01_k».proof.Proof.Gen.Reference15Ideal.Run
public import proofs.«01_k».proof.Proof.Gen.Reference15Ideal.Read
public import proofs.«01_k».proof.Proof.Gen.Kernel16
public import proofs.«01_k».proof.Proof.Gen.Kernel16.Frame
public import proofs.«01_k».proof.Proof.Gen.Kernel16Ideal
public import proofs.«01_k».proof.Proof.Gen.Kernel16Ideal.Frame
public import proofs.«01_k».proof.Proof.Gen.Kernel16Ideal.Value
public import proofs.«01_k».proof.Proof.Gen.Reference16Ideal
public import proofs.«01_k».proof.Proof.Gen.Reference16Ideal.Run
public import proofs.«01_k».proof.Proof.Gen.Reference16Ideal.Read
public import proofs.«01_k».proof.Proof.Gen.Kernel17
public import proofs.«01_k».proof.Proof.Gen.Kernel17.Frame
public import proofs.«01_k».proof.Proof.Gen.Kernel17Ideal
public import proofs.«01_k».proof.Proof.Gen.Kernel17Ideal.Frame
public import proofs.«01_k».proof.Proof.Gen.Kernel17Ideal.Value
public import proofs.«01_k».proof.Proof.Gen.Reference17Ideal
public import proofs.«01_k».proof.Proof.Gen.Reference17Ideal.Run
public import proofs.«01_k».proof.Proof.Gen.Reference17Ideal.Read
public import proofs.«01_k».proof.Proof.Gen.Kernel18
public import proofs.«01_k».proof.Proof.Gen.Kernel18.Frame
public import proofs.«01_k».proof.Proof.Gen.Kernel18Ideal
public import proofs.«01_k».proof.Proof.Gen.Kernel18Ideal.Frame
public import proofs.«01_k».proof.Proof.Gen.Kernel18Ideal.Value
public import proofs.«01_k».proof.Proof.Gen.Reference18Ideal
public import proofs.«01_k».proof.Proof.Gen.Reference18Ideal.Run
public import proofs.«01_k».proof.Proof.Gen.Reference18Ideal.Read
public import proofs.«01_k».proof.Proof.Gen.Kernel19
public import proofs.«01_k».proof.Proof.Gen.Kernel19.Frame
public import proofs.«01_k».proof.Proof.Gen.Kernel19Ideal
public import proofs.«01_k».proof.Proof.Gen.Kernel19Ideal.Frame
public import proofs.«01_k».proof.Proof.Gen.Kernel19Ideal.Value
public import proofs.«01_k».proof.Proof.Gen.Reference19Ideal
public import proofs.«01_k».proof.Proof.Gen.Reference19Ideal.Run
public import proofs.«01_k».proof.Proof.Gen.Reference19Ideal.Read
public import proofs.«01_k».proof.Proof.Gen.Kernel20
public import proofs.«01_k».proof.Proof.Gen.Kernel20.Frame
public import proofs.«01_k».proof.Proof.Gen.Kernel20Ideal
public import proofs.«01_k».proof.Proof.Gen.Kernel20Ideal.Frame
public import proofs.«01_k».proof.Proof.Gen.Kernel20Ideal.Value
public import proofs.«01_k».proof.Proof.Gen.Reference20Ideal
public import proofs.«01_k».proof.Proof.Gen.Reference20Ideal.Run
public import proofs.«01_k».proof.Proof.Gen.Reference20Ideal.Read
public import proofs.«01_k».proof.Proof.Gen.Kernel21
public import proofs.«01_k».proof.Proof.Gen.Kernel21.Frame
public import proofs.«01_k».proof.Proof.Gen.Kernel21Ideal
public import proofs.«01_k».proof.Proof.Gen.Kernel21Ideal.Frame
public import proofs.«01_k».proof.Proof.Gen.Kernel21Ideal.Value
public import proofs.«01_k».proof.Proof.Gen.Reference21Ideal
public import proofs.«01_k».proof.Proof.Gen.Reference21Ideal.Run
public import proofs.«01_k».proof.Proof.Gen.Reference21Ideal.Read
public import proofs.«01_k».proof.Proof.Gen.Kernel22
public import proofs.«01_k».proof.Proof.Gen.Kernel22.Frame
public import proofs.«01_k».proof.Proof.Gen.Kernel22Ideal
public import proofs.«01_k».proof.Proof.Gen.Kernel22Ideal.Frame
public import proofs.«01_k».proof.Proof.Gen.Kernel22Ideal.Value
public import proofs.«01_k».proof.Proof.Gen.Reference22Ideal
public import proofs.«01_k».proof.Proof.Gen.Reference22Ideal.Run
public import proofs.«01_k».proof.Proof.Gen.Reference22Ideal.Read
public import proofs.«01_k».proof.Proof.Gen.Kernel23
public import proofs.«01_k».proof.Proof.Gen.Kernel23.Frame
public import proofs.«01_k».proof.Proof.Gen.Kernel23Ideal
public import proofs.«01_k».proof.Proof.Gen.Kernel23Ideal.Frame
public import proofs.«01_k».proof.Proof.Gen.Kernel23Ideal.Value
public import proofs.«01_k».proof.Proof.Gen.Reference23Ideal
public import proofs.«01_k».proof.Proof.Gen.Reference23Ideal.Run
public import proofs.«01_k».proof.Proof.Gen.Reference23Ideal.Read
public import proofs.«01_k».proof.Proof.Gen.Kernel24
public import proofs.«01_k».proof.Proof.Gen.Kernel24.Frame
public import proofs.«01_k».proof.Proof.Gen.Kernel24Ideal
public import proofs.«01_k».proof.Proof.Gen.Kernel24Ideal.Frame
public import proofs.«01_k».proof.Proof.Gen.Kernel24Ideal.Value
public import proofs.«01_k».proof.Proof.Gen.Reference24Ideal
public import proofs.«01_k».proof.Proof.Gen.Reference24Ideal.Run
public import proofs.«01_k».proof.Proof.Gen.Reference24Ideal.Read
public import proofs.«01_k».proof.Proof.Gen.Kernel25
public import proofs.«01_k».proof.Proof.Gen.Kernel25.Frame
public import proofs.«01_k».proof.Proof.Gen.Kernel25Ideal
public import proofs.«01_k».proof.Proof.Gen.Kernel25Ideal.Frame
public import proofs.«01_k».proof.Proof.Gen.Kernel25Ideal.Value
public import proofs.«01_k».proof.Proof.Gen.Reference25Ideal
public import proofs.«01_k».proof.Proof.Gen.Reference25Ideal.Run
public import proofs.«01_k».proof.Proof.Gen.Reference25Ideal.Read
public import proofs.«01_k».proof.Proof.Gen.Pre_down_experts_named
public import proofs.«01_k».proof.Proof.Gen.Pre_experts_named
public import proofs.«01_k».proof.Proof.Equation
public import proofs.«01_k».proof.Proof.Finite
public import proofs.«01_k».proof.Proof.FfnUp
public import proofs.«01_k».proof.Proof.FfnDown
public import proofs.«01_k».proof.Proof.EvenIn
public import proofs.«01_k».proof.Proof.OddIn
public import proofs.«01_k».proof.Proof.EvenOut
public import proofs.«01_k».proof.Proof.OddOut
public import proofs.«01_k».proof.Proof.MoeUp
public import proofs.«01_k».proof.Proof.FfnUpContext
public import proofs.«01_k».proof.Proof.FfnDownContext
public import proofs.«01_k».proof.Proof.EvenInContext
public import proofs.«01_k».proof.Proof.OddInContext
public import proofs.«01_k».proof.Proof.KeysValues
public import proofs.«01_k».proof.Proof.MoeDown
public import proofs.«01_k».proof.Proof.EvenOutContext
public import proofs.«01_k».proof.Proof.Modulation
public import proofs.«01_k».proof.Proof.KeysValuesContext
public import proofs.«01_k».proof.Proof.NormBatches
public import proofs.«01_k».proof.Proof.NormContext
public import proofs.«01_k».proof.Proof.NormRows
public import proofs.«01_k».proof.Proof.NormQueries
public import proofs.«01_k».proof.Proof.NormKeys
public import proofs.«01_k».proof.Proof.NormKeysContext
public import proofs.«01_k».proof.Proof.ShortConv
public import proofs.«01_k».proof.Proof.ShortConvContext
public import Idealize.ShloMosaic.Lib.Claim
public import Idealize.ShloMosaic.Adequacy
public import Idealize.ShloMosaic.Init

@[expose] public section

set_option maxRecDepth 16384

noncomputable section

namespace Cert.Proof

open Idealize.ShloMosaic Idealize.SL.Sem

/-- The reference's operations end with the arguments unchanged and every counter at zero. -/
theorem frameReference : Cert.quiescent_ReferenceIdeal := by
  intro m g _
  exact (θ_run Cert.ReferenceIdeal.defs _ _).mono (fun r h => ⟨fun c => (h c).2, sem_eq_zero_of_no_sems (by decide) r.2⟩)
    (Cert.ReferenceIdeal.Value.run (F := Ideal) m g)

/-- The kernel's array of results equals the reference's result, from arguments that agree and are finite. -/
theorem equal (m : (ℓ : Loc Cert.KernelIdeal.nD Cert.KernelIdeal.τ Cert.KernelIdeal.sig) → Buf (Elt Ideal) ℓ)
    (hpre : Cert.Pre_KernelIdeal_finite m) (c : Dev Cert.KernelIdeal.nD)
    (x0 : FVec Ideal Cert.KernelIdeal.S8192x3072 .f32) (x1 : FVec Ideal Cert.KernelIdeal.S8192x4096 .bf16)
    (x2 : FVec Ideal Cert.KernelIdeal.S1024x4096 .bf16) (x3 : FVec Ideal Cert.KernelIdeal.S8192x64 .f32)
    (x4 : FVec Ideal Cert.KernelIdeal.S1024x64 .f32)
    (m0 : m ((c.tc : Thread Cert.KernelIdeal.nD Cert.KernelIdeal.τ).loc Cert.KernelIdeal.main_arg0) = x0) (m1 : m ((c.tc : Thread Cert.KernelIdeal.nD Cert.KernelIdeal.τ).loc Cert.KernelIdeal.main_arg1) = x1)
    (m2 : m ((c.tc : Thread Cert.KernelIdeal.nD Cert.KernelIdeal.τ).loc Cert.KernelIdeal.main_arg2) = x2) (m3 : m ((c.tc : Thread Cert.KernelIdeal.nD Cert.KernelIdeal.τ).loc Cert.KernelIdeal.main_arg3) = x3)
    (m4 : m ((c.tc : Thread Cert.KernelIdeal.nD Cert.KernelIdeal.τ).loc Cert.KernelIdeal.main_arg4) = x4) :
    (Cert.KernelIdeal.Gen.dats m 0 c).arrAt 9 (Cert.KernelIdeal.cfgs 0).N
      = Cert.ReferenceIdeal.Read.val_main_v146 (F := Ideal) x0 x1 x2 x3 x4 := by
  obtain ⟨f0, f1, f2, f3, f4⟩ := Cert.Finite.finite x0 x1 x2 x3 x4 (by subst m0 m1 m2 m3 m4; exact hpre c)
  choose r0 h0 using f0
  choose r1 h1 using f1
  choose r2 h2 using f2
  choose r3 h3 using f3
  choose r4 h4 using f4
  refine Cert.KernelIdeal.Point.final m c _ fun x y => ?_
  refine (Cert.Target.reference (fun a b => r0 (ix2 a b)) (fun a b => r1 (ix2 a b)) (fun a b => r2 (ix2 a b))
    (fun a b => r3 (ix2 a b)) (fun a b => r4 (ix2 a b)) x0 x1 x2 x3 x4 (fun _ _ => h0 _) (fun _ _ => h1 _) (fun _ _ => h2 _)
    (fun _ _ => h3 _) (fun _ _ => h4 _) x y).trans ?_
  exact (Cert.Equation.kernel _ _ _ _ _ m c x0 x1 x2 x3 x4 m0 m1 m2 m3 m4 (fun _ _ => h0 _) (fun _ _ => h1 _) (fun _ _ => h2 _)
    (fun _ _ => h3 _) (fun _ _ => h4 _) x y).symm

theorem algebraic : Cert.algebraic_KernelIdeal_ReferenceIdeal_pre_finite := by
  pair_intro
  · run_from Cert.KernelIdeal.Gen.run_main m g
  · run_from Cert.ReferenceIdeal.Value.run m' g'
    exact (Cert.ReferenceIdeal.Read.val_main_v146_eq _).trans
      (equal m hpre c _ _ _ _ _ (hagree c).1.symm (hagree c).2.1.symm (hagree c).2.2.1.symm (hagree c).2.2.2.1.symm
        (hagree c).2.2.2.2.symm).symm

/-! ## The frames of the other references -/

theorem frameReference2 : Cert.quiescent_Reference2Ideal := by
  intro m g _
  exact (θ_run Cert.Reference2Ideal.defs _ _).mono (fun r h => ⟨fun c => (h c).2, sem_eq_zero_of_no_sems (by decide) r.2⟩)
    (Cert.Reference2Ideal.Value.run (F := Ideal) m g)

theorem frameReference3 : Cert.quiescent_Reference3Ideal := by
  intro m g _
  exact (θ_run Cert.Reference3Ideal.defs _ _).mono (fun r h => ⟨fun c => (h c).2, sem_eq_zero_of_no_sems (by decide) r.2⟩)
    (Cert.Reference3Ideal.Value.run (F := Ideal) m g)

theorem frameReference4 : Cert.quiescent_Reference4Ideal := by
  intro m g _
  exact (θ_run Cert.Reference4Ideal.defs _ _).mono (fun r h => ⟨fun c => (h c).2, sem_eq_zero_of_no_sems (by decide) r.2⟩)
    (Cert.Reference4Ideal.Value.run (F := Ideal) m g)

theorem frameReference5 : Cert.quiescent_Reference5Ideal := by
  intro m g _
  exact (θ_run Cert.Reference5Ideal.defs _ _).mono (fun r h => ⟨fun c => (h c).2, sem_eq_zero_of_no_sems (by decide) r.2⟩)
    (Cert.Reference5Ideal.Value.run (F := Ideal) m g)

theorem frameReference6 : Cert.quiescent_Reference6Ideal := by
  intro m g _
  exact (θ_run Cert.Reference6Ideal.defs _ _).mono (fun r h => ⟨fun c => (h c).2, sem_eq_zero_of_no_sems (by decide) r.2⟩)
    (Cert.Reference6Ideal.Value.run (F := Ideal) m g)

theorem frameReference7 : Cert.quiescent_Reference7Ideal := by
  intro m g _
  exact (θ_run Cert.Reference7Ideal.defs _ _).mono (fun r h => ⟨fun c => (h c).2, sem_eq_zero_of_no_sems (by decide) r.2⟩)
    (Cert.Reference7Ideal.Value.run (F := Ideal) m g)

/-! ## The other calls against their references -/

/-- The feed-forward up call: both programs run and end with the same array. -/
theorem algebraic2 : Cert.algebraic_Kernel2Ideal_Reference2Ideal := by
  pair_intro
  · run_from Cert.Kernel2Ideal.Gen.run_main m g
  · run_from Cert.Reference2Ideal.Value.run m' g'
    refine (Cert.Reference2Ideal.Read.val_main_v5_eq _ _ _).trans
      (Cert.FfnUp.final m c _ _ _ ?_ ?_ ?_).symm
    · first | rfl | exact (hagree c).1.symm
    · first | rfl | exact (hagree c).2.1.symm
    · first | rfl | exact (hagree c).2.2.symm

/-- The feed-forward down call: both programs run and end with the same array. -/
theorem algebraic3 : Cert.algebraic_Kernel3Ideal_Reference3Ideal := by
  pair_intro
  · run_from Cert.Kernel3Ideal.Gen.run_main m g
  · run_from Cert.Reference3Ideal.Value.run m' g'
    refine (Cert.Reference3Ideal.Read.val_main_v10_eq _ _ _ _).trans
      (Cert.FfnDown.final m c _ _ _ _ ?_ ?_ ?_ ?_).symm
    · first | rfl | exact (hagree c).1.symm
    · first | rfl | exact (hagree c).2.1.symm
    · first | rfl | exact (hagree c).2.2.1.symm
    · first | rfl | exact (hagree c).2.2.2.symm

/-- The even layer's projection: both programs run and end with the same array. -/
theorem algebraic4 : Cert.algebraic_Kernel4Ideal_Reference4Ideal := by
  pair_intro
  · run_from Cert.Kernel4Ideal.Gen.run_main m g
  · run_from Cert.Reference4Ideal.Value.run m' g'
    refine (Cert.Reference4Ideal.Read.val_main_v2_eq _ _).trans
      (Cert.EvenIn.final m c _ _ ?_ ?_).symm
    · first | rfl | exact (hagree c).1.symm
    · first | rfl | exact (hagree c).2.symm

/-- The odd layer's projection: both programs run and end with the same array. -/
theorem algebraic5 : Cert.algebraic_Kernel5Ideal_Reference5Ideal := by
  pair_intro
  · run_from Cert.Kernel5Ideal.Gen.run_main m g
  · run_from Cert.Reference5Ideal.Value.run m' g'
    refine (Cert.Reference5Ideal.Read.val_main_v2_eq _ _).trans
      (Cert.OddIn.final m c _ _ ?_ ?_).symm
    · first | rfl | exact (hagree c).1.symm
    · first | rfl | exact (hagree c).2.symm

/-- The even layer's output projection: both programs run and end with the same array. -/
theorem algebraic6 : Cert.algebraic_Kernel6Ideal_Reference6Ideal := by
  pair_intro
  · run_from Cert.Kernel6Ideal.Gen.run_main m g
  · run_from Cert.Reference6Ideal.Value.run m' g'
    refine (Cert.Reference6Ideal.Read.val_main_v11_eq _ _ _ _ _).trans
      (Cert.EvenOut.final m c _ _ _ _ _ ?_ ?_ ?_ ?_ ?_).symm
    · first | rfl | exact (hagree c).1.symm
    · first | rfl | exact (hagree c).2.1.symm
    · first | rfl | exact (hagree c).2.2.1.symm
    · first | rfl | exact (hagree c).2.2.2.1.symm
    · first | rfl | exact (hagree c).2.2.2.2.symm

/-- The odd layer's output projection: both programs run and end with the same array. -/
theorem algebraic7 : Cert.algebraic_Kernel7Ideal_Reference7Ideal := by
  pair_intro
  · run_from Cert.Kernel7Ideal.Gen.run_main m g
  · run_from Cert.Reference7Ideal.Value.run m' g'
    refine (Cert.Reference7Ideal.Read.val_main_v12_eq _ _ _ _ _).trans
      (Cert.OddOut.final m c _ _ _ _ _ ?_ ?_ ?_ ?_ ?_).symm
    · first | rfl | exact (hagree c).1.symm
    · first | rfl | exact (hagree c).2.1.symm
    · first | rfl | exact (hagree c).2.2.1.symm
    · first | rfl | exact (hagree c).2.2.2.1.symm
    · first | rfl | exact (hagree c).2.2.2.2.symm

/-! ## The experts' up call -/

/-- Tables that name experts among the eight name blocks inside the weights. -/
theorem admitted (m : (ℓ : Loc Cert.Kernel8.nD Cert.Kernel8.τ Cert.Kernel8.sig) → Buf (Elt Bits) ℓ) (h : Cert.Pre_Kernel8 m) :
    Cert.Kernel8.Gen.Ok m :=
  Cert.MoeUp.inside _ (Cert.Kernel8.Gen.tbl m) rfl (Cert.MoeUp.small _ _ _ _ _ (h 0))

theorem admittedIdeal (m : (ℓ : Loc Cert.Kernel8Ideal.nD Cert.Kernel8Ideal.τ Cert.Kernel8Ideal.sig) → Buf (Elt Ideal) ℓ)
    (h : Cert.Pre_Kernel8Ideal m) : Cert.Kernel8Ideal.Gen.Ok m :=
  Cert.MoeUp.inside _ _ (Cert.MoeUp.table m 0 _ rfl) (Cert.MoeUp.small _ _ _ _ _ (h 0))

theorem frameReference8 : Cert.quiescent_Reference8Ideal := by
  intro m g _
  exact (θ_run Cert.Reference8Ideal.defs _ _).mono (fun r h => ⟨fun c => (h c).2, sem_eq_zero_of_no_sems (by decide) r.2⟩)
    (Cert.Reference8Ideal.Value.run (F := Ideal) m g)

/-- The experts' up call: both programs run and end with the same array. -/
theorem algebraic8 : Cert.algebraic_Kernel8Ideal_Reference8Ideal := by
  pair_intro
  · run_from Cert.Kernel8Ideal.Gen.run_main m g (admittedIdeal m hpre)
    · exact Cert.MoeUp.final m (admittedIdeal m hpre) c _ _ _ _ _ (Cert.MoeUp.small _ _ _ _ _ (hpre c)) rfl rfl rfl rfl rfl
    · exact hc.2 _ (by decide : Cert.Kernel8Ideal.main_arg1 ∈ Pipeline.restRefs Cert.Kernel8Ideal.sig Cert.Kernel8Ideal.spec0)
    · exact hc.2 _ (by decide : Cert.Kernel8Ideal.main_arg2 ∈ Pipeline.restRefs Cert.Kernel8Ideal.sig Cert.Kernel8Ideal.spec0)
  · refine (θ_run Cert.Reference8Ideal.defs _ _).mono (fun r h c => ⟨?_, (h c).2⟩) (Cert.Reference8Ideal.Value.run (F := Ideal) m' g')
    obtain ⟨a0, a1, a2, a3, a4⟩ := hagree c
    rw [← a0, ← a1, ← a2, ← a3, ← a4]
    exact (h c).1.trans (Cert.Reference8Ideal.Read.val_main_v111_eq (F := Ideal) (StableHlo.launchContents m' c))

/-! ## The calls for the context's rows, and the projection into the keys and values -/

theorem frameReference9 : Cert.quiescent_Reference9Ideal := by
  intro m g _
  exact (θ_run Cert.Reference9Ideal.defs _ _).mono (fun r h => ⟨fun c => (h c).2, sem_eq_zero_of_no_sems (by decide) r.2⟩)
    (Cert.Reference9Ideal.Value.run (F := Ideal) m g)

theorem frameReference10 : Cert.quiescent_Reference10Ideal := by
  intro m g _
  exact (θ_run Cert.Reference10Ideal.defs _ _).mono (fun r h => ⟨fun c => (h c).2, sem_eq_zero_of_no_sems (by decide) r.2⟩)
    (Cert.Reference10Ideal.Value.run (F := Ideal) m g)

theorem frameReference11 : Cert.quiescent_Reference11Ideal := by
  intro m g _
  exact (θ_run Cert.Reference11Ideal.defs _ _).mono (fun r h => ⟨fun c => (h c).2, sem_eq_zero_of_no_sems (by decide) r.2⟩)
    (Cert.Reference11Ideal.Value.run (F := Ideal) m g)

theorem frameReference12 : Cert.quiescent_Reference12Ideal := by
  intro m g _
  exact (θ_run Cert.Reference12Ideal.defs _ _).mono (fun r h => ⟨fun c => (h c).2, sem_eq_zero_of_no_sems (by decide) r.2⟩)
    (Cert.Reference12Ideal.Value.run (F := Ideal) m g)

theorem frameReference13 : Cert.quiescent_Reference13Ideal := by
  intro m g _
  exact (θ_run Cert.Reference13Ideal.defs _ _).mono (fun r h => ⟨fun c => (h c).2, sem_eq_zero_of_no_sems (by decide) r.2⟩)
    (Cert.Reference13Ideal.Value.run (F := Ideal) m g)

/-- The feed-forward up call for the context's rows: both programs run and end with the same array. -/
theorem algebraic9 : Cert.algebraic_Kernel9Ideal_Reference9Ideal := by
  pair_intro
  · run_from Cert.Kernel9Ideal.Gen.run_main m g
  · run_from Cert.Reference9Ideal.Value.run m' g'
    refine (Cert.Reference9Ideal.Read.val_main_v5_eq _ _ _).trans
      (Cert.FfnUpContext.final m c _ _ _ ?_ ?_ ?_).symm
    · first | rfl | exact (hagree c).1.symm
    · first | rfl | exact (hagree c).2.1.symm
    · first | rfl | exact (hagree c).2.2.symm

/-- The feed-forward down call for the context's rows: both programs run and end with the same array. -/
theorem algebraic10 : Cert.algebraic_Kernel10Ideal_Reference10Ideal := by
  pair_intro
  · run_from Cert.Kernel10Ideal.Gen.run_main m g
  · run_from Cert.Reference10Ideal.Value.run m' g'
    refine (Cert.Reference10Ideal.Read.val_main_v10_eq _ _ _ _).trans
      (Cert.FfnDownContext.final m c _ _ _ _ ?_ ?_ ?_ ?_).symm
    · first | rfl | exact (hagree c).1.symm
    · first | rfl | exact (hagree c).2.1.symm
    · first | rfl | exact (hagree c).2.2.1.symm
    · first | rfl | exact (hagree c).2.2.2.symm

/-- The even layer's projection of the context's rows: both programs run and end with the same array. -/
theorem algebraic11 : Cert.algebraic_Kernel11Ideal_Reference11Ideal := by
  pair_intro
  · run_from Cert.Kernel11Ideal.Gen.run_main m g
  · run_from Cert.Reference11Ideal.Value.run m' g'
    refine (Cert.Reference11Ideal.Read.val_main_v2_eq _ _).trans
      (Cert.EvenInContext.final m c _ _ ?_ ?_).symm
    · first | rfl | exact (hagree c).1.symm
    · first | rfl | exact (hagree c).2.symm

/-- The odd layer's projection of the context's rows: both programs run and end with the same array. -/
theorem algebraic12 : Cert.algebraic_Kernel12Ideal_Reference12Ideal := by
  pair_intro
  · run_from Cert.Kernel12Ideal.Gen.run_main m g
  · run_from Cert.Reference12Ideal.Value.run m' g'
    refine (Cert.Reference12Ideal.Read.val_main_v2_eq _ _).trans
      (Cert.OddInContext.final m c _ _ ?_ ?_).symm
    · first | rfl | exact (hagree c).1.symm
    · first | rfl | exact (hagree c).2.symm

/-- The projection into the attention's keys and values: both programs run and end with the same array. -/
theorem algebraic13 : Cert.algebraic_Kernel13Ideal_Reference13Ideal := by
  pair_intro
  · run_from Cert.Kernel13Ideal.Gen.run_main m g
  · run_from Cert.Reference13Ideal.Value.run m' g'
    refine (Cert.Reference13Ideal.Read.val_main_v2_eq _ _).trans
      (Cert.KeysValues.final m c _ _ ?_ ?_).symm
    · first | rfl | exact (hagree c).1.symm
    · first | rfl | exact (hagree c).2.symm

/-- Tables that name experts among the eight name blocks inside the weights. -/
theorem admittedDown (m : (ℓ : Loc Cert.Kernel14.nD Cert.Kernel14.τ Cert.Kernel14.sig) → Buf (Elt Bits) ℓ) (h : Cert.Pre_Kernel14 m) :
    Cert.Kernel14.Gen.Ok m :=
  Cert.MoeDown.inside _ (Cert.Kernel14.Gen.tbl m) rfl (Cert.MoeDown.small _ _ _ _ (h 0))

theorem admittedDownIdeal (m : (ℓ : Loc Cert.Kernel14Ideal.nD Cert.Kernel14Ideal.τ Cert.Kernel14Ideal.sig) → Buf (Elt Ideal) ℓ)
    (h : Cert.Pre_Kernel14Ideal m) : Cert.Kernel14Ideal.Gen.Ok m :=
  Cert.MoeDown.inside _ _ (Cert.MoeDown.table m 0 _ rfl) (Cert.MoeDown.small _ _ _ _ (h 0))

theorem frameReference14 : Cert.quiescent_Reference14Ideal := by
  intro m g _
  exact (θ_run Cert.Reference14Ideal.defs _ _).mono (fun r h => ⟨fun c => (h c).2, sem_eq_zero_of_no_sems (by decide) r.2⟩)
    (Cert.Reference14Ideal.Value.run (F := Ideal) m g)

/-- The experts' up call: both programs run and end with the same array. -/
theorem algebraic14 : Cert.algebraic_Kernel14Ideal_Reference14Ideal := by
  pair_intro
  · run_from Cert.Kernel14Ideal.Gen.run_main m g (admittedDownIdeal m hpre)
    · exact Cert.MoeDown.final m (admittedDownIdeal m hpre) c _ _ _ _ (Cert.MoeDown.small _ _ _ _ (hpre c)) rfl rfl rfl rfl
    · exact hc.2 _ (by decide : Cert.Kernel14Ideal.main_arg1 ∈ Pipeline.restRefs Cert.Kernel14Ideal.sig Cert.Kernel14Ideal.spec0)
    · exact hc.2 _ (by decide : Cert.Kernel14Ideal.main_arg2 ∈ Pipeline.restRefs Cert.Kernel14Ideal.sig Cert.Kernel14Ideal.spec0)
  · refine (θ_run Cert.Reference14Ideal.defs _ _).mono (fun r h c => ⟨?_, (h c).2⟩) (Cert.Reference14Ideal.Value.run (F := Ideal) m' g')
    obtain ⟨a0, a1, a2, a3⟩ := hagree c
    rw [← a0, ← a1, ← a2, ← a3]
    exact (h c).1.trans (Cert.Reference14Ideal.Read.val_main_v71_eq (F := Ideal) m' c)

theorem frameReference15 : Cert.quiescent_Reference15Ideal := by
  intro m g _
  exact (θ_run Cert.Reference15Ideal.defs _ _).mono (fun r h => ⟨fun c => (h c).2, sem_eq_zero_of_no_sems (by decide) r.2⟩)
    (Cert.Reference15Ideal.Value.run (F := Ideal) m g)

theorem frameReference16 : Cert.quiescent_Reference16Ideal := by
  intro m g _
  exact (θ_run Cert.Reference16Ideal.defs _ _).mono (fun r h => ⟨fun c => (h c).2, sem_eq_zero_of_no_sems (by decide) r.2⟩)
    (Cert.Reference16Ideal.Value.run (F := Ideal) m g)

theorem frameReference17 : Cert.quiescent_Reference17Ideal := by
  intro m g _
  exact (θ_run Cert.Reference17Ideal.defs _ _).mono (fun r h => ⟨fun c => (h c).2, sem_eq_zero_of_no_sems (by decide) r.2⟩)
    (Cert.Reference17Ideal.Value.run (F := Ideal) m g)

/-- The even layer's output projection for the context's rows: both programs run and end with the same array. -/
theorem algebraic15 : Cert.algebraic_Kernel15Ideal_Reference15Ideal := by
  pair_intro
  · run_from Cert.Kernel15Ideal.Gen.run_main m g
  · run_from Cert.Reference15Ideal.Value.run m' g'
    refine (Cert.Reference15Ideal.Read.val_main_v12_eq _ _ _ _ _).trans
      (Cert.EvenOutContext.final m c _ _ _ _ _ ?_ ?_ ?_ ?_ ?_).symm
    · first | rfl | exact (hagree c).1.symm
    · first | rfl | exact (hagree c).2.1.symm
    · first | rfl | exact (hagree c).2.2.1.symm
    · first | rfl | exact (hagree c).2.2.2.1.symm
    · first | rfl | exact (hagree c).2.2.2.2.symm

/-- The adaptive modulation: both programs run and end with the same array. -/
theorem algebraic16 : Cert.algebraic_Kernel16Ideal_Reference16Ideal := by
  pair_intro
  · run_from Cert.Kernel16Ideal.Gen.run_main m g
  · run_from Cert.Reference16Ideal.Value.run m' g'
    refine (Cert.Reference16Ideal.Read.val_main_v46_eq _ _).trans
      (Cert.Modulation.final m c _ _ _ _ ?_ ?_ ?_ ?_).symm
    · first | rfl | exact (hagree c).1.symm
    · first | rfl | exact (hagree c).2.1.symm
    · first | rfl | exact (hagree c).2.2.1.symm
    · first | rfl | exact (hagree c).2.2.2.symm

/-- The projection into the attention's keys and values for the context's rows: both programs run and end with the same array. -/
theorem algebraic17 : Cert.algebraic_Kernel17Ideal_Reference17Ideal := by
  pair_intro
  · run_from Cert.Kernel17Ideal.Gen.run_main m g
  · run_from Cert.Reference17Ideal.Value.run m' g'
    refine (Cert.Reference17Ideal.Read.val_main_v2_eq _ _).trans
      (Cert.KeysValuesContext.final m c _ _ ?_ ?_).symm
    · first | rfl | exact (hagree c).1.symm
    · first | rfl | exact (hagree c).2.symm

theorem frameReference18 : Cert.quiescent_Reference18Ideal := by
  intro m g _
  exact (θ_run Cert.Reference18Ideal.defs _ _).mono (fun r h => ⟨fun c => (h c).2, sem_eq_zero_of_no_sems (by decide) r.2⟩)
    (Cert.Reference18Ideal.Value.run (F := Ideal) m g)

/-- The norm before the mixers, of the latents in batches: both programs run and end with the same array. -/
theorem algebraic18 : Cert.algebraic_Kernel18Ideal_Reference18Ideal := by
  pair_intro
  · run_from Cert.Kernel18Ideal.Gen.run_main m g
  · run_from Cert.Reference18Ideal.Value.run m' g'
    refine (Cert.Reference18Ideal.Read.val_main_v26_eq _ _ _ _).trans
      (Cert.NormBatches.final m c _ _ _ _ ?_ ?_ ?_ ?_).symm
    · first | rfl | exact (hagree c).1.symm
    · first | rfl | exact (hagree c).2.1.symm
    · first | rfl | exact (hagree c).2.2.1.symm
    · first | rfl | exact (hagree c).2.2.2.symm

theorem frameReference19 : Cert.quiescent_Reference19Ideal := by
  intro m g _
  exact (θ_run Cert.Reference19Ideal.defs _ _).mono (fun r h => ⟨fun c => (h c).2, sem_eq_zero_of_no_sems (by decide) r.2⟩)
    (Cert.Reference19Ideal.Value.run (F := Ideal) m g)

/-- The norm before the mixers, of the context's rows: both programs run and end with the same array. -/
theorem algebraic19 : Cert.algebraic_Kernel19Ideal_Reference19Ideal := by
  pair_intro
  · run_from Cert.Kernel19Ideal.Gen.run_main m g
  · run_from Cert.Reference19Ideal.Value.run m' g'
    refine (Cert.Reference19Ideal.Read.val_main_v27_eq _ _ _ _).trans
      (Cert.NormContext.final m c _ _ _ _ ?_ ?_ ?_ ?_).symm
    · first | rfl | exact (hagree c).1.symm
    · first | rfl | exact (hagree c).2.1.symm
    · first | rfl | exact (hagree c).2.2.1.symm
    · first | rfl | exact (hagree c).2.2.2.symm

theorem frameReference20 : Cert.quiescent_Reference20Ideal := by
  intro m g _
  exact (θ_run Cert.Reference20Ideal.defs _ _).mono (fun r h => ⟨fun c => (h c).2, sem_eq_zero_of_no_sems (by decide) r.2⟩)
    (Cert.Reference20Ideal.Value.run (F := Ideal) m g)

/-- The norm before the feed-forward layer, of the latents' rows: both programs run and end with the same array. -/
theorem algebraic20 : Cert.algebraic_Kernel20Ideal_Reference20Ideal := by
  pair_intro
  · run_from Cert.Kernel20Ideal.Gen.run_main m g
  · run_from Cert.Reference20Ideal.Value.run m' g'
    refine (Cert.Reference20Ideal.Read.val_main_v27_eq _ _ _ _).trans
      (Cert.NormRows.final m c _ _ _ _ ?_ ?_ ?_ ?_).symm
    · first | rfl | exact (hagree c).1.symm
    · first | rfl | exact (hagree c).2.1.symm
    · first | rfl | exact (hagree c).2.2.1.symm
    · first | rfl | exact (hagree c).2.2.2.symm

theorem frameReference21 : Cert.quiescent_Reference21Ideal := by
  intro m g _
  exact (θ_run Cert.Reference21Ideal.defs _ _).mono (fun r h => ⟨fun c => (h c).2, sem_eq_zero_of_no_sems (by decide) r.2⟩)
    (Cert.Reference21Ideal.Value.run (F := Ideal) m g)

/-- The norm of the queries' compressed columns: both programs run and end with the same array. -/
theorem algebraic21 : Cert.algebraic_Kernel21Ideal_Reference21Ideal := by
  pair_intro
  · run_from Cert.Kernel21Ideal.Gen.run_main m g
  · run_from Cert.Reference21Ideal.Value.run m' g'
    refine (Cert.Reference21Ideal.Read.val_main_v14_eq _ _).trans
      (Cert.NormQueries.final m c _ _ ?_ ?_).symm
    · first | rfl | exact (hagree c).1.symm
    · first | rfl | exact (hagree c).2.symm

theorem frameReference22 : Cert.quiescent_Reference22Ideal := by
  intro m g _
  exact (θ_run Cert.Reference22Ideal.defs _ _).mono (fun r h => ⟨fun c => (h c).2, sem_eq_zero_of_no_sems (by decide) r.2⟩)
    (Cert.Reference22Ideal.Value.run (F := Ideal) m g)

/-- The norm of the keys' and values' compressed columns: both programs run and end with the same array. -/
theorem algebraic22 : Cert.algebraic_Kernel22Ideal_Reference22Ideal := by
  pair_intro
  · run_from Cert.Kernel22Ideal.Gen.run_main m g
  · run_from Cert.Reference22Ideal.Value.run m' g'
    refine (Cert.Reference22Ideal.Read.val_main_v14_eq _ _).trans
      (Cert.NormKeys.final m c _ _ ?_ ?_).symm
    · first | rfl | exact (hagree c).1.symm
    · first | rfl | exact (hagree c).2.symm

theorem frameReference23 : Cert.quiescent_Reference23Ideal := by
  intro m g _
  exact (θ_run Cert.Reference23Ideal.defs _ _).mono (fun r h => ⟨fun c => (h c).2, sem_eq_zero_of_no_sems (by decide) r.2⟩)
    (Cert.Reference23Ideal.Value.run (F := Ideal) m g)

/-- The norm of the keys' and values' compressed columns, the context's rows: both programs run and end with the same array. -/
theorem algebraic23 : Cert.algebraic_Kernel23Ideal_Reference23Ideal := by
  pair_intro
  · run_from Cert.Kernel23Ideal.Gen.run_main m g
  · run_from Cert.Reference23Ideal.Value.run m' g'
    refine (Cert.Reference23Ideal.Read.val_main_v14_eq _ _).trans
      (Cert.NormKeysContext.final m c _ _ ?_ ?_).symm
    · first | rfl | exact (hagree c).1.symm
    · first | rfl | exact (hagree c).2.symm

theorem frameReference24 : Cert.quiescent_Reference24Ideal := by
  intro m g _
  exact (θ_run Cert.Reference24Ideal.defs _ _).mono (fun r h => ⟨fun c => (h c).2, sem_eq_zero_of_no_sems (by decide) r.2⟩)
    (Cert.Reference24Ideal.Value.run (F := Ideal) m g)

/-- The short convolution over the latents' positions: both programs run and end with the same array. -/
theorem algebraic24 : Cert.algebraic_Kernel24Ideal_Reference24Ideal := by
  pair_intro
  · run_from Cert.Kernel24Ideal.Gen.run_main m g
  · run_from Cert.Reference24Ideal.Value.run m' g'
    refine (Cert.Reference24Ideal.Read.val_main_v29_eq _ _ _).trans
      (Cert.ShortConv.final m c _ _ _ ?_ ?_ ?_).symm
    · first | rfl | exact (hagree c).1.symm
    · first | rfl | exact (hagree c).2.1.symm
    · first | rfl | exact (hagree c).2.2.symm

theorem frameReference25 : Cert.quiescent_Reference25Ideal := by
  intro m g _
  exact (θ_run Cert.Reference25Ideal.defs _ _).mono (fun r h => ⟨fun c => (h c).2, sem_eq_zero_of_no_sems (by decide) r.2⟩)
    (Cert.Reference25Ideal.Value.run (F := Ideal) m g)

/-- The short convolution over the context's positions: both programs run and end with the same array. -/
theorem algebraic25 : Cert.algebraic_Kernel25Ideal_Reference25Ideal := by
  pair_intro
  · run_from Cert.Kernel25Ideal.Gen.run_main m g
  · run_from Cert.Reference25Ideal.Value.run m' g'
    refine (Cert.Reference25Ideal.Read.val_main_v29_eq _ _ _).trans
      (Cert.ShortConvContext.final m c _ _ _ ?_ ?_ ?_).symm
    · first | rfl | exact (hagree c).1.symm
    · first | rfl | exact (hagree c).2.1.symm
    · first | rfl | exact (hagree c).2.2.symm

theorem claim : Cert.Claim :=
  ⟨Cert.Kernel.Gen.facts, Cert.KernelIdeal.Gen.facts, Cert.ReferenceIdeal.Gen.facts,
    Cert.Kernel2.Gen.facts, Cert.Kernel2Ideal.Gen.facts, Cert.Reference2Ideal.Gen.facts,
    Cert.Kernel3.Gen.facts, Cert.Kernel3Ideal.Gen.facts, Cert.Reference3Ideal.Gen.facts,
    Cert.Kernel4.Gen.facts, Cert.Kernel4Ideal.Gen.facts, Cert.Reference4Ideal.Gen.facts,
    Cert.Kernel5.Gen.facts, Cert.Kernel5Ideal.Gen.facts, Cert.Reference5Ideal.Gen.facts,
    Cert.Kernel6.Gen.facts, Cert.Kernel6Ideal.Gen.facts, Cert.Reference6Ideal.Gen.facts,
    Cert.Kernel7.Gen.facts, Cert.Kernel7Ideal.Gen.facts, Cert.Reference7Ideal.Gen.facts,
    Cert.Kernel8.Gen.facts, Cert.Kernel8Ideal.Gen.facts, Cert.Reference8Ideal.Gen.facts,
    Cert.Kernel9.Gen.facts, Cert.Kernel9Ideal.Gen.facts, Cert.Reference9Ideal.Gen.facts,
    Cert.Kernel10.Gen.facts, Cert.Kernel10Ideal.Gen.facts, Cert.Reference10Ideal.Gen.facts,
    Cert.Kernel11.Gen.facts, Cert.Kernel11Ideal.Gen.facts, Cert.Reference11Ideal.Gen.facts,
    Cert.Kernel12.Gen.facts, Cert.Kernel12Ideal.Gen.facts, Cert.Reference12Ideal.Gen.facts,
    Cert.Kernel13.Gen.facts, Cert.Kernel13Ideal.Gen.facts, Cert.Reference13Ideal.Gen.facts,
    Cert.Kernel14.Gen.facts, Cert.Kernel14Ideal.Gen.facts, Cert.Reference14Ideal.Gen.facts,
    Cert.Kernel15.Gen.facts, Cert.Kernel15Ideal.Gen.facts, Cert.Reference15Ideal.Gen.facts,
    Cert.Kernel16.Gen.facts, Cert.Kernel16Ideal.Gen.facts, Cert.Reference16Ideal.Gen.facts,
    Cert.Kernel17.Gen.facts, Cert.Kernel17Ideal.Gen.facts, Cert.Reference17Ideal.Gen.facts,
    Cert.Kernel18.Gen.facts, Cert.Kernel18Ideal.Gen.facts, Cert.Reference18Ideal.Gen.facts,
    Cert.Kernel19.Gen.facts, Cert.Kernel19Ideal.Gen.facts, Cert.Reference19Ideal.Gen.facts,
    Cert.Kernel20.Gen.facts, Cert.Kernel20Ideal.Gen.facts, Cert.Reference20Ideal.Gen.facts,
    Cert.Kernel21.Gen.facts, Cert.Kernel21Ideal.Gen.facts, Cert.Reference21Ideal.Gen.facts,
    Cert.Kernel22.Gen.facts, Cert.Kernel22Ideal.Gen.facts, Cert.Reference22Ideal.Gen.facts,
    Cert.Kernel23.Gen.facts, Cert.Kernel23Ideal.Gen.facts, Cert.Reference23Ideal.Gen.facts,
    Cert.Kernel24.Gen.facts, Cert.Kernel24Ideal.Gen.facts, Cert.Reference24Ideal.Gen.facts,
    Cert.Kernel25.Gen.facts, Cert.Kernel25Ideal.Gen.facts, Cert.Reference25Ideal.Gen.facts,
    Cert.Pre_finite.Gen.facts, Cert.Pre_experts_named.Gen.facts, Cert.Pre_down_experts_named.Gen.facts,
    fun m g _ => Cert.Kernel.Gen.frame m g,
    fun m g _ => Cert.KernelIdeal.Gen.frame m g,
    fun m g _ => Cert.KernelIdeal.Gen.frame m g,
    frameReference,
    fun m g _ => frameReference m g trivial,
    fun m g _ => Cert.Kernel2.Gen.frame m g, fun m g _ => Cert.Kernel2Ideal.Gen.frame m g, frameReference2,
    fun m g _ => Cert.Kernel3.Gen.frame m g, fun m g _ => Cert.Kernel3Ideal.Gen.frame m g, frameReference3,
    fun m g _ => Cert.Kernel4.Gen.frame m g, fun m g _ => Cert.Kernel4Ideal.Gen.frame m g, frameReference4,
    fun m g _ => Cert.Kernel5.Gen.frame m g, fun m g _ => Cert.Kernel5Ideal.Gen.frame m g, frameReference5,
    fun m g _ => Cert.Kernel6.Gen.frame m g, fun m g _ => Cert.Kernel6Ideal.Gen.frame m g, frameReference6,
    fun m g _ => Cert.Kernel7.Gen.frame m g, fun m g _ => Cert.Kernel7Ideal.Gen.frame m g, frameReference7,
    fun m g h => Cert.Kernel8.Gen.frame m g (admitted m h), fun m g h => Cert.Kernel8Ideal.Gen.frame m g (admittedIdeal m h), frameReference8,
    fun m g _ => frameReference8 m g trivial,
    fun m g _ => Cert.Kernel9.Gen.frame m g, fun m g _ => Cert.Kernel9Ideal.Gen.frame m g, frameReference9,
    fun m g _ => Cert.Kernel10.Gen.frame m g, fun m g _ => Cert.Kernel10Ideal.Gen.frame m g, frameReference10,
    fun m g _ => Cert.Kernel11.Gen.frame m g, fun m g _ => Cert.Kernel11Ideal.Gen.frame m g, frameReference11,
    fun m g _ => Cert.Kernel12.Gen.frame m g, fun m g _ => Cert.Kernel12Ideal.Gen.frame m g, frameReference12,
    fun m g _ => Cert.Kernel13.Gen.frame m g, fun m g _ => Cert.Kernel13Ideal.Gen.frame m g, frameReference13,
    fun m g h => Cert.Kernel14.Gen.frame m g (admittedDown m h), fun m g h => Cert.Kernel14Ideal.Gen.frame m g (admittedDownIdeal m h), frameReference14,
    fun m g _ => frameReference14 m g trivial,
    fun m g _ => Cert.Kernel15.Gen.frame m g, fun m g _ => Cert.Kernel15Ideal.Gen.frame m g, frameReference15,
    fun m g _ => Cert.Kernel16.Gen.frame m g, fun m g _ => Cert.Kernel16Ideal.Gen.frame m g, frameReference16,
    fun m g _ => Cert.Kernel17.Gen.frame m g, fun m g _ => Cert.Kernel17Ideal.Gen.frame m g, frameReference17,
    fun m g _ => Cert.Kernel18.Gen.frame m g, fun m g _ => Cert.Kernel18Ideal.Gen.frame m g, frameReference18,
    fun m g _ => Cert.Kernel19.Gen.frame m g, fun m g _ => Cert.Kernel19Ideal.Gen.frame m g, frameReference19,
    fun m g _ => Cert.Kernel20.Gen.frame m g, fun m g _ => Cert.Kernel20Ideal.Gen.frame m g, frameReference20,
    fun m g _ => Cert.Kernel21.Gen.frame m g, fun m g _ => Cert.Kernel21Ideal.Gen.frame m g, frameReference21,
    fun m g _ => Cert.Kernel22.Gen.frame m g, fun m g _ => Cert.Kernel22Ideal.Gen.frame m g, frameReference22,
    fun m g _ => Cert.Kernel23.Gen.frame m g, fun m g _ => Cert.Kernel23Ideal.Gen.frame m g, frameReference23,
    fun m g _ => Cert.Kernel24.Gen.frame m g, fun m g _ => Cert.Kernel24Ideal.Gen.frame m g, frameReference24,
    fun m g _ => Cert.Kernel25.Gen.frame m g, fun m g _ => Cert.Kernel25Ideal.Gen.frame m g, frameReference25,
    IdealRules.named_const.statement Cert.KernelIdeal.κ "qscale" .f32 0x3DD53B95#32 _ rfl,
    algebraic,
    trivial, algebraic2,
    trivial, algebraic3,
    trivial, algebraic4,
    trivial, algebraic5,
    trivial, algebraic6,
    trivial, algebraic7,
    trivial, algebraic8,
    trivial, algebraic9,
    trivial, algebraic10,
    trivial, algebraic11,
    trivial, algebraic12,
    trivial, algebraic13,
    trivial, algebraic14,
    trivial, algebraic15,
    trivial, algebraic16,
    trivial, algebraic17,
    trivial, algebraic18,
    trivial, algebraic19,
    trivial, algebraic20,
    trivial, algebraic21,
    trivial, algebraic22,
    trivial, algebraic23,
    trivial, algebraic24,
    trivial, algebraic25⟩

end Cert.Proof

end
